-- ==== Defs.lean ====
def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInIdeal_a_in_finite [hPre_a_in_finite : Cert.Pre_a_in_finite.Facts] (m : (ℓ : Loc Cert.AInIdeal.nD Cert.AInIdeal.τ Cert.AInIdeal.sig) → Buf (Elt Ideal) ℓ) : Prop :=
  ∀ c : Dev Cert.AInIdeal.nD,
    (Cert.Pre_a_in_finite.fn (F := Ideal) (m ((c.tc : Thread Cert.AInIdeal.nD Cert.AInIdeal.τ).loc Cert.AInIdeal.main_arg0)) (m ((c.tc : Thread Cert.AInIdeal.nD Cert.AInIdeal.τ).loc Cert.AInIdeal.main_arg1)) (m ((c.tc : Thread Cert.AInIdeal.nD Cert.AInIdeal.τ).loc Cert.AInIdeal.main_arg2)) (m ((c.tc : Thread Cert.AInIdeal.nD Cert.AInIdeal.τ).loc Cert.AInIdeal.main_arg3)) (m ((c.tc : Thread Cert.AInIdeal.nD Cert.AInIdeal.τ).loc Cert.AInIdeal.main_arg4))) = (fun _ => 1#1)

def Pre_AInRefIdeal (m : (ℓ : Loc Cert.AInRefIdeal.nD Cert.AInRefIdeal.τ Cert.AInRefIdeal.sig) → Buf (Elt Ideal) ℓ) : Prop :=
  True

def Pre_AInRefIdeal_a_in_finite [hPre_a_in_finite : Cert.Pre_a_in_finite.Facts] (m : (ℓ : Loc Cert.AInRefIdeal.nD Cert.AInRefIdeal.τ Cert.AInRefIdeal.sig) → Buf (Elt Ideal) ℓ) : Prop :=
  ∀ c : Dev Cert.AInRefIdeal.nD,
    (Cert.Pre_a_in_finite.fn (F := Ideal) (m ((c.tc : Thread Cert.AInRefIdeal.nD Cert.AInRefIdeal.τ).loc Cert.AInRefIdeal.main_arg0)) (m ((c.tc : Thread Cert.AInRefIdeal.nD Cert.AInRefIdeal.τ).loc Cert.AInRefIdeal.main_arg1)) (m ((c.tc : Thread Cert.AInRefIdeal.nD Cert.AInRefIdeal.τ).loc Cert.AInRefIdeal.main_arg2)) (m ((c.tc : Thread Cert.AInRefIdeal.nD Cert.AInRefIdeal.τ).loc Cert.AInRefIdeal.main_arg3)) (m ((c.tc : Thread Cert.AInRefIdeal.nD Cert.AInRefIdeal.τ).loc Cert.AInRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))) = (fun _ => 1#1)

def Pre_FfnHidden (m : (ℓ : Loc Cert.FfnHidden.nD Cert.FfnHidden.τ Cert.FfnHidden.sig) → Buf (Elt Bits) ℓ) : Prop :=
  True

def Pre_FfnHiddenIdeal (m : (ℓ : Loc Cert.FfnHiddenIdeal.nD Cert.FfnHiddenIdeal.τ Cert.FfnHiddenIdeal.sig) → Buf (Elt Ideal) ℓ) : Prop :=
  True

def Pre_FfnHiddenIdeal_ffn_hidden_finite [hPre_ffn_hidden_finite : Cert.Pre_ffn_hidden_finite.Facts] (m : (ℓ : Loc Cert.FfnHiddenIdeal.nD Cert.FfnHiddenIdeal.τ Cert.FfnHiddenIdeal.sig) → Buf (Elt Ideal) ℓ) : Prop :=
  ∀ c : Dev Cert.FfnHiddenIdeal.nD,
    (Cert.Pre_ffn_hidden_finite.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3)) (m ((c.tc : Thread Cert.FfnHiddenIdeal.nD Cert.FfnHiddenIdeal.τ).loc Cert.FfnHiddenIdeal.main_arg4))) = (fun _ => 1#1)

def Pre_FfnHiddenRefIdeal (m : (ℓ : Loc Cert.FfnHiddenRefIdeal.nD Cert.FfnHiddenRefIdeal.τ Cert.FfnHiddenRefIdeal.sig) → Buf (Elt Ideal) ℓ) : Prop :=
  True

def Pre_FfnHiddenRefIdeal_ffn_hidden_finite [hPre_ffn_hidden_finite : Cert.Pre_ffn_hidden_finite.Facts] (m : (ℓ : Loc Cert.FfnHiddenRefIdeal.nD Cert.FfnHiddenRefIdeal.τ Cert.FfnHiddenRefIdeal.sig) → Buf (Elt Ideal) ℓ) : Prop :=
  ∀ c : Dev Cert.FfnHiddenRefIdeal.nD,
    (Cert.Pre_ffn_hidden_finite.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4))) = (fun _ => 1#1)

def Pre_AHidden (m : (ℓ : Loc Cert.AHidden.nD Cert.AHidden.τ Cert.AHidden.sig) → Buf (Elt Bits) ℓ) : Prop :=
  True

def Pre_AHiddenIdeal (m : (ℓ : Loc Cert.AHiddenIdeal.nD Cert.AHiddenIdeal.τ Cert.AHiddenIdeal.sig) → Buf (Elt Ideal) ℓ) : Prop :=
  True

def Pre_AHiddenIdeal_a_hidden_finite [hPre_a_hidden_finite : Cert.Pre_a_hidden_finite.Facts] (m : (ℓ : Loc Cert.AHiddenIdeal.nD Cert.AHiddenIdeal.τ Cert.AHiddenIdeal.sig) → Buf (Elt Ideal) ℓ) : Prop :=
  ∀ c : Dev Cert.AHiddenIdeal.nD,
    (Cert.Pre_a_hidden_finite.fn (F := Ideal) (m ((c.tc : Thread Cert.AHiddenIdeal.nD Cert.AHiddenIdeal.τ).loc Cert.AHiddenIdeal.main_arg0)) (m ((c.tc : Thread Cert.AHiddenIdeal.nD Cert.AHiddenIdeal.τ).loc Cert.AHiddenIdeal.main_arg1)) (m ((c.tc : Thread Cert.AHiddenIdeal.nD Cert.AHiddenIdeal.τ).loc Cert.AHiddenIdeal.main_arg2)) (m ((c.tc : Thread Cert.AHiddenIdeal.nD Cert.AHiddenIdeal.τ).loc Cert.AHiddenIdeal.main_arg3)) (m ((c.tc : Thread Cert.AHiddenIdeal.nD Cert.AHiddenIdeal.τ).loc Cert.AHiddenIdeal.main_arg4)) (m ((c.tc : Thread Cert.AHiddenIdeal.nD Cert.AHiddenIdeal.τ).loc Cert.AHiddenIdeal.main_arg5)) (m ((c.tc : Thread Cert.AHiddenIdeal.nD Cert.AHiddenIdeal.τ).loc Cert.AHiddenIdeal.main_arg6)) (m ((c.tc : Thread Cert.AHiddenIdeal.nD Cert.AHiddenIdeal.τ).loc Cert.AHiddenIdeal.main_arg7))) = (fun _ => 1#1)

def Pre_AHiddenRefIdeal (m : (ℓ : Loc Cert.AHiddenRefIdeal.nD Cert.AHiddenRefIdeal.τ Cert.AHiddenRefIdeal.sig) → Buf (Elt Ideal) ℓ) : Prop :=
  True

def Pre_AHiddenRefIdeal_a_hidden_finite [hPre_a_hidden_finite : Cert.Pre_a_hidden_finite.Facts] (m : (ℓ : Loc Cert.AHiddenRefIdeal.nD Cert.AHiddenRefIdeal.τ Cert.AHiddenRefIdeal.sig) → Buf (Elt Ideal) ℓ) : Prop :=
  ∀ c : Dev Cert.AHiddenRefIdeal.nD,
    (Cert.Pre_a_hidden_finite.fn (F := Ideal) (m ((c.tc : Thread Cert.AHiddenRefIdeal.nD Cert.AHiddenRefIdeal.τ).loc Cert.AHiddenRefIdeal.main_arg0)) (m ((c.tc : Thread Cert.AHiddenRefIdeal.nD Cert.AHiddenRefIdeal.τ).loc Cert.AHiddenRefIdeal.main_arg1)) (m ((c.tc : Thread Cert.AHiddenRefIdeal.nD Cert.AHiddenRefIdeal.τ).loc Cert.AHiddenRefIdeal.main_arg2)) (m ((c.tc : Thread Cert.AHiddenRefIdeal.nD Cert.AHiddenRefIdeal.τ).loc Cert.AHiddenRefIdeal.main_arg3)) (m ((c.tc : Thread Cert.AHiddenRefIdeal.nD Cert.AHiddenRefIdeal.τ).loc Cert.AHiddenRefIdeal.main_arg4)) (m ((c.tc : Thread Cert.AHiddenRefIdeal.nD Cert.AHiddenRefIdeal.τ).loc Cert.AHiddenRefIdeal.main_arg5)) (m ((c.tc : Thread Cert.AHiddenRefIdeal.nD Cert.AHiddenRefIdeal.τ).loc Cert.AHiddenRefIdeal.main_arg6)) (m ((c.tc : Thread Cert.AHiddenRefIdeal.nD Cert.AHiddenRefIdeal.τ).loc Cert.AHiddenRefIdeal.main_arg7))) = (fun _ => 1#1)

def Pre_BBwd (m : (ℓ : Loc Cert.BBwd.nD Cert.BBwd.τ Cert.BBwd.sig) → Buf (Elt Bits) ℓ) : Prop :=
  True

def Pre_BBwdIdeal (m : (ℓ : Loc Cert.BBwdIdeal.nD Cert.BBwdIdeal.τ Cert.BBwdIdeal.sig) → Buf (Elt Ideal) ℓ) : Prop :=
  True

def Pre_BBwdIdeal_b_finite [hPre_b_finite : Cert.Pre_b_finite.Facts] (m : (ℓ : Loc Cert.BBwdIdeal.nD Cert.BBwdIdeal.τ Cert.BBwdIdeal.sig) → Buf (Elt Ideal) ℓ) : Prop :=
  ∀ c : Dev Cert.BBwdIdeal.nD,
    (Cert.Pre_b_finite.fn (F := Ideal) (m ((c.tc : Thread Cert.BBwdIdeal.nD Cert.BBwdIdeal.τ).loc Cert.BBwdIdeal.main_arg0)) (m ((c.tc : Thread Cert.BBwdIdeal.nD Cert.BBwdIdeal.τ).loc Cert.BBwdIdeal.main_arg1)) (m ((c.tc : Thread Cert.BBwdIdeal.nD Cert.BBwdIdeal.τ).loc Cert.BBwdIdeal.main_arg2)) (m ((c.tc : Thread Cert.BBwdIdeal.nD Cert.BBwdIdeal.τ).loc Cert.BBwdIdeal.main_arg3)) (m ((c.tc : Thread Cert.BBwdIdeal.nD Cert.BBwdIdeal.τ).loc Cert.BBwdIdeal.main_arg4)) (m ((c.tc : Thread Cert.BBwdIdeal.nD Cert.BBwdIdeal.τ).loc Cert.BBwdIdeal.main_arg5)) (m ((c.tc : Thread Cert.BBwdIdeal.nD Cert.BBwdIdeal.τ).loc Cert.BBwdIdeal.main_arg6)) (m ((c.tc : Thread Cert.BBwdIdeal.nD Cert.BBwdIdeal.τ).loc Cert.BBwdIdeal.main_arg7))) = (fun _ => 1#1)

def Pre_BBwdRefIdeal (m : (ℓ : Loc Cert.BBwdRefIdeal.nD Cert.BBwdRefIdeal.τ Cert.BBwdRefIdeal.sig) → Buf (Elt Ideal) ℓ) : Prop :=
  True

def Pre_BBwdRefIdeal_b_finite [hPre_b_finite : Cert.Pre_b_finite.Facts] (m : (ℓ : Loc Cert.BBwdRefIdeal.nD Cert.BBwdRefIdeal.τ Cert.BBwdRefIdeal.sig) → Buf (Elt Ideal) ℓ) : Prop :=
  ∀ c : Dev Cert.BBwdRefIdeal.nD,
    (Cert.Pre_b_finite.fn (F := Ideal) (m ((c.tc : Thread Cert.BBwdRefIdeal.nD Cert.BBwdRefIdeal.τ).loc Cert.BBwdRefIdeal.main_arg0)) (m ((c.tc : Thread Cert.BBwdRefIdeal.nD Cert.BBwdRefIdeal.τ).loc Cert.BBwdRefIdeal.main_arg1)) (m ((c.tc : Thread Cert.BBwdRefIdeal.nD Cert.BBwdRefIdeal.τ).loc Cert.BBwdRefIdeal.main_arg2)) (m ((c.tc : Thread Cert.BBwdRefIdeal.nD Cert.BBwdRefIdeal.τ).loc Cert.BBwdRefIdeal.main_arg3)) (m ((c.tc : Thread Cert.BBwdRefIdeal.nD Cert.BBwdRefIdeal.τ).loc Cert.BBwdRefIdeal.main_arg4)) (m ((c.tc : Thread Cert.BBwdRefIdeal.nD Cert.BBwdRefIdeal.τ).loc Cert.BBwdRefIdeal.main_arg5)) (m ((c.tc : Thread Cert.BBwdRefIdeal.nD Cert.BBwdRefIdeal.τ).loc Cert.BBwdRefIdeal.main_arg6)) (m ((c.tc : Thread Cert.BBwdRefIdeal.nD Cert.BBwdRefIdeal.τ).loc Cert.BBwdRefIdeal.main_arg7))) = (fun _ => 1#1)

def Pre_AFwd (m : (ℓ : Loc Cert.AFwd.nD Cert.AFwd.τ Cert.AFwd.sig) → Buf (Elt Bits) ℓ) : Prop :=
  True

def Pre_AFwdIdeal (m : (ℓ : Loc Cert.AFwdIdeal.nD Cert.AFwdIdeal.τ Cert.AFwdIdeal.sig) → Buf (Elt Ideal) ℓ) : Prop :=
  True

def Pre_AFwdIdeal_a_fwd_finite [hPre_a_fwd_finite : Cert.Pre_a_fwd_finite.Facts] (m : (ℓ : Loc Cert.AFwdIdeal.nD Cert.AFwdIdeal.τ Cert.AFwdIdeal.sig) → Buf (Elt Ideal) ℓ) : Prop :=
  ∀ c : Dev Cert.AFwdIdeal.nD,
    (Cert.Pre_a_fwd_finite.fn (F := Ideal) (m ((c.tc : Thread Cert.AFwdIdeal.nD Cert.AFwdIdeal.τ).loc Cert.AFwdIdeal.main_arg0)) (m ((c.tc : Thread Cert.AFwdIdeal.nD Cert.AFwdIdeal.τ).loc Cert.AFwdIdeal.main_arg1)) (m ((c.tc : Thread Cert.AFwdIdeal.nD Cert.AFwdIdeal.τ).loc Cert.AFwdIdeal.main_arg2)) (m ((c.tc : Thread Cert.AFwdIdeal.nD Cert.AFwdIdeal.τ).loc Cert.AFwdIdeal.main_arg3)) (m ((c.tc : Thread Cert.AFwdIdeal.nD Cert.AFwdIdeal.τ).loc Cert.AFwdIdeal.main_arg4)) (m ((c.tc : Thread Cert.AFwdIdeal.nD Cert.AFwdIdeal.τ).loc Cert.AFwdIdeal.main_arg5)) (m ((c.tc : Thread Cert.AFwdIdeal.nD Cert.AFwdIdeal.τ).loc Cert.AFwdIdeal.main_arg6)) (m ((c.tc : Thread Cert.AFwdIdeal.nD Cert.AFwdIdeal.τ).loc Cert.AFwdIdeal.main_arg7)) (m ((c.tc : Thread Cert.AFwdIdeal.nD Cert.AFwdIdeal.τ).loc Cert.AFwdIdeal.main_arg8))) = (fun _ => 1#1)

def Pre_AFwdRefIdeal (m : (ℓ : Loc Cert.AFwdRefIdeal.nD Cert.AFwdRefIdeal.τ Cert.AFwdRefIdeal.sig) → Buf (Elt Ideal) ℓ) : Prop :=
  True

def Pre_AFwdRefIdeal_a_fwd_finite [hPre_a_fwd_finite : Cert.Pre_a_fwd_finite.Facts] (m : (ℓ : Loc Cert.AFwdRefIdeal.nD Cert.AFwdRefIdeal.τ Cert.AFwdRefIdeal.sig) → Buf (Elt Ideal) ℓ) : Prop :=
  ∀ c : Dev Cert.AFwdRefIdeal.nD,
    (Cert.Pre_a_fwd_finite.fn (F := Ideal) (m ((c.tc : Thread Cert.AFwdRefIdeal.nD Cert.AFwdRefIdeal.τ).loc Cert.AFwdRefIdeal.main_arg0)) (m ((c.tc : Thread Cert.AFwdRefIdeal.nD Cert.AFwdRefIdeal.τ).loc Cert.AFwdRefIdeal.main_arg1)) (m ((c.tc : Thread Cert.AFwdRefIdeal.nD Cert.AFwdRefIdeal.τ).loc Cert.AFwdRefIdeal.main_arg2)) (m ((c.tc : Thread Cert.AFwdRefIdeal.nD Cert.AFwdRefIdeal.τ).loc Cert.AFwdRefIdeal.main_arg3)) (m ((c.tc : Thread Cert.AFwdRefIdeal.nD Cert.AFwdRefIdeal.τ).loc Cert.AFwdRefIdeal.main_arg4)) (m ((c.tc : Thread Cert.AFwdRefIdeal.nD Cert.AFwdRefIdeal.τ).loc Cert.AFwdRefIdeal.main_arg5)) (m ((c.tc : Thread Cert.AFwdRefIdeal.nD Cert.AFwdRefIdeal.τ).loc Cert.AFwdRefIdeal.main_arg6)) (m ((c.tc : Thread Cert.AFwdRefIdeal.nD Cert.AFwdRefIdeal.τ).loc Cert.AFwdRefIdeal.main_arg7)) (m ((c.tc : Thread Cert.AFwdRefIdeal.nD Cert.AFwdRefIdeal.τ).loc Cert.AFwdRefIdeal.main_arg8))) = (fun _ => 1#1)

def Pre_BFwd (m : (ℓ : Loc Cert.BFwd.nD Cert.BFwd.τ Cert.BFwd.sig) → Buf (Elt Bits) ℓ) : Prop :=
  True

def Pre_BFwdIdeal (m : (ℓ : Loc Cert.BFwdIdeal.nD Cert.BFwdIdeal.τ Cert.BFwdIdeal.sig) → Buf (Elt Ideal) ℓ) : Prop :=
  True

def Pre_BFwdIdeal_b_fwd_finite [hPre_b_fwd_finite : Cert.Pre_b_fwd_finite.Facts] (m : (ℓ : Loc Cert.BFwdIdeal.nD Cert.BFwdIdeal.τ Cert.BFwdIdeal.sig) → Buf (Elt Ideal) ℓ) : Prop :=
  ∀ c : Dev Cert.BFwdIdeal.nD,
    (Cert.Pre_b_fwd_finite.fn (F := Ideal) (m ((c.tc : Thread Cert.BFwdIdeal.nD Cert.BFwdIdeal.τ).loc Cert.BFwdIdeal.main_arg0)) (m ((c.tc : Thread Cert.BFwdIdeal.nD Cert.BFwdIdeal.τ).loc Cert.BFwdIdeal.main_arg1)) (m ((c.tc : Thread Cert.BFwdIdeal.nD Cert.BFwdIdeal.τ).loc Cert.BFwdIdeal.main_arg2)) (m ((c.tc : Thread Cert.BFwdIdeal.nD Cert.BFwdIdeal.τ).loc Cert.BFwdIdeal.main_arg3)) (m ((c.tc : Thread Cert.BFwdIdeal.nD Cert.BFwdIdeal.τ).loc Cert.BFwdIdeal.main_arg4)) (m ((c.tc : Thread Cert.BFwdIdeal.nD Cert.BFwdIdeal.τ).loc Cert.BFwdIdeal.main_arg5)) (m ((c.tc : Thread Cert.BFwdIdeal.nD Cert.BFwdIdeal.τ).loc Cert.BFwdIdeal.main_arg6))) = (fun _ => 1#1)

def Pre_BFwdRefIdeal (m : (ℓ : Loc Cert.BFwdRefIdeal.nD Cert.BFwdRefIdeal.τ Cert.BFwdRefIdeal.sig) → Buf (Elt Ideal) ℓ) : Prop :=
  True

def Pre_BFwdRefIdeal_b_fwd_finite [hPre_b_fwd_finite : Cert.Pre_b_fwd_finite.Facts] (m : (ℓ : Loc Cert.BFwdRefIdeal.nD Cert.BFwdRefIdeal.τ Cert.BFwdRefIdeal.sig) → Buf (Elt Ideal) ℓ) : Prop :=
  ∀ c : Dev Cert.BFwdRefIdeal.nD,
    (Cert.Pre_b_fwd_finite.fn (F := Ideal) (m ((c.tc : Thread Cert.BFwdRefIdeal.nD Cert.BFwdRefIdeal.τ).loc Cert.BFwdRefIdeal.main_arg0)) (m ((c.tc : Thread Cert.BFwdRefIdeal.nD Cert.BFwdRefIdeal.τ).loc Cert.BFwdRefIdeal.main_arg1)) (m ((c.tc : Thread Cert.BFwdRefIdeal.nD Cert.BFwdRefIdeal.τ).loc Cert.BFwdRefIdeal.main_arg2)) (m ((c.tc : Thread Cert.BFwdRefIdeal.nD Cert.BFwdRefIdeal.τ).loc Cert.BFwdRefIdeal.main_arg3)) (m ((c.tc : Thread Cert.BFwdRefIdeal.nD Cert.BFwdRefIdeal.τ).loc Cert.BFwdRefIdeal.main_arg4)) (m ((c.tc : Thread Cert.BFwdRefIdeal.nD Cert.BFwdRefIdeal.τ).loc Cert.BFwdRefIdeal.main_arg5)) (m ((c.tc : Thread Cert.BFwdRefIdeal.nD Cert.BFwdRefIdeal.τ).loc Cert.BFwdRefIdeal.main_arg6))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_ffn_fwd_finite [hPre_ffn_fwd_finite : Cert.Pre_ffn_fwd_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_ffn_fwd_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_ffn_fwd_finite [hPre_ffn_fwd_finite : Cert.Pre_ffn_fwd_finite.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_ffn_fwd_finite.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6))) = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_ffn_mid_finite [hPre_ffn_mid_finite : Cert.Pre_ffn_mid_finite.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_ffn_mid_finite.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)) (m ((c.tc : Thread Cert.FfnMidIdeal.nD Cert.FfnMidIdeal.τ).loc Cert.FfnMidIdeal.main_arg5))) = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_ffn_mid_finite [hPre_ffn_mid_finite : Cert.Pre_ffn_mid_finite.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_ffn_mid_finite.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5))) = (fun _ => 1#1)

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_PairSum [hPre_core_in_range : Cert.Pre_core_in_range.Facts] (m : (ℓ : Loc Cert.PairSum.nD Cert.PairSum.τ Cert.PairSum.sig) → Buf (Elt Bits) ℓ) : Prop :=
  ∀ c : Dev Cert.PairSum.nD,
    (Cert.Pre_core_in_range.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_core_in_range : Cert.Pre_core_in_range.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_core_in_range.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_core_in_range [hPre_core_in_range : Cert.Pre_core_in_range.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_core_in_range.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2)
      ∧ r.2.mem ((c.tc : Thread Cert.AIn.nD Cert.AIn.τ).loc Cert.AIn.main_arg3) = m ((c.tc : Thread Cert.AIn.nD Cert.AIn.τ).loc Cert.AIn.main_arg3)
      ∧ r.2.mem ((c.tc : Thread Cert.AIn.nD Cert.AIn.τ).loc Cert.AIn.main_arg4) = m ((c.tc : Thread Cert.AIn.nD Cert.AIn.τ).loc Cert.AIn.main_arg4))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
      ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ r.2.sem = fun _ => 0)

def quiescent_AInIdeal_pre_a_in_finite [hAInIdeal : Cert.AInIdeal.Facts] [hPre_a_in_finite : Cert.Pre_a_in_finite.Facts] : Prop :=
  ∀ (m : (ℓ : Loc Cert.AInIdeal.nD Cert.AInIdeal.τ Cert.AInIdeal.sig) → Buf (Elt Ideal) ℓ) (g : Dev Cert.AInIdeal.nD → PrngReg), Pre_AInIdeal_a_in_finite m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
      ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3)
      ∧ r.2.mem ((c.tc : Thread Cert.AInRefIdeal.nD Cert.AInRefIdeal.τ).loc Cert.AInRefIdeal.main_arg4) = m ((c.tc : Thread Cert.AInRefIdeal.nD Cert.AInRefIdeal.τ).loc Cert.AInRefIdeal.main_arg4))
      ∧ r.2.sem = fun _ => 0)

def quiescent_AInRefIdeal_pre_a_in_finite [hAInRefIdeal : Cert.AInRefIdeal.Facts] [hPre_a_in_finite : Cert.Pre_a_in_finite.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal_a_in_finite m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3)
      ∧ r.2.mem ((c.tc : Thread Cert.AInRefIdeal.nD Cert.AInRefIdeal.τ).loc Cert.AInRefIdeal.main_arg4) = m ((c.tc : Thread Cert.AInRefIdeal.nD Cert.AInRefIdeal.τ).loc Cert.AInRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnHidden [hFfnHidden : Cert.FfnHidden.Facts] : Prop :=
  ∀ (m : (ℓ : Loc Cert.FfnHidden.nD Cert.FfnHidden.τ Cert.FfnHidden.sig) → Buf (Elt Bits) ℓ) (g : Dev Cert.FfnHidden.nD → PrngReg), Pre_FfnHidden m →
    θ_run (Cert.FfnHidden.defs (F := Bits)) (onTc (τ := Cert.FfnHidden.τ) (Cert.FfnHidden.main (F := Bits))) ⟨m, fun _ => 0, g⟩ (fun r => (∀ c : Dev Cert.FfnHidden.nD,
      r.2.mem ((c.tc : Thread Cert.FfnHidden.nD Cert.FfnHidden.τ).loc Cert.FfnHidden.main_arg0) = m ((c.tc : Thread Cert.FfnHidden.nD Cert.FfnHidden.τ).loc Cert.FfnHidden.main_arg0)
      ∧ r.2.mem ((c.tc : Thread Cert.FfnHidden.nD Cert.FfnHidden.τ).loc Cert.FfnHidden.main_arg1) = m ((c.tc : Thread Cert.FfnHidden.nD Cert.FfnHidden.τ).loc Cert.FfnHidden.main_arg1)
      ∧ r.2.mem ((c.tc : Thread Cert.FfnHidden.nD Cert.FfnHidden.τ).loc Cert.FfnHidden.main_arg2) = m ((c.tc : Thread Cert.FfnHidden.nD Cert.FfnHidden.τ).loc Cert.FfnHidden.main_arg2)
      ∧ r.2.mem ((c.tc : Thread Cert.FfnHidden.nD Cert.FfnHidden.τ).loc Cert.FfnHidden.main_arg3) = m ((c.tc : Thread Cert.FfnHidden.nD Cert.FfnHidden.τ).loc Cert.FfnHidden.main_arg3)
      ∧ r.2.mem ((c.tc : Thread Cert.FfnHidden.nD Cert.FfnHidden.τ).loc Cert.FfnHidden.main_arg4) = m ((c.tc : Thread Cert.FfnHidden.nD Cert.FfnHidden.τ).loc Cert.FfnHidden.main_arg4))
      ∧ r.2.sem = fun _ => 0)

def quiescent_FfnHiddenIdeal [hFfnHiddenIdeal : Cert.FfnHiddenIdeal.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
      ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3)
      ∧ r.2.mem ((c.tc : Thread Cert.FfnHiddenIdeal.nD Cert.FfnHiddenIdeal.τ).loc Cert.FfnHiddenIdeal.main_arg4) = m ((c.tc : Thread Cert.FfnHiddenIdeal.nD Cert.FfnHiddenIdeal.τ).loc Cert.FfnHiddenIdeal.main_arg4))
      ∧ r.2.sem = fun _ => 0)

def quiescent_FfnHiddenIdeal_pre_ffn_hidden_finite [hFfnHiddenIdeal : Cert.FfnHiddenIdeal.Facts] [hPre_ffn_hidden_finite : Cert.Pre_ffn_hidden_finite.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal_ffn_hidden_finite m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
      ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3)
      ∧ r.2.mem ((c.tc : Thread Cert.FfnHiddenIdeal.nD Cert.FfnHiddenIdeal.τ).loc Cert.FfnHiddenIdeal.main_arg4) = m ((c.tc : Thread Cert.FfnHiddenIdeal.nD Cert.FfnHiddenIdeal.τ).loc Cert.FfnHiddenIdeal.main_arg4))
      ∧ r.2.sem = fun _ => 0)

def quiescent_FfnHiddenRefIdeal [hFfnHiddenRefIdeal : Cert.FfnHiddenRefIdeal.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2)
      ∧ r.2.mem ((c.tc : Thread Cert.FfnHiddenRefIdeal.nD Cert.FfnHiddenRefIdeal.τ).loc Cert.FfnHiddenRefIdeal.main_arg3) = m ((c.tc : Thread Cert.FfnHiddenRefIdeal.nD Cert.FfnHiddenRefIdeal.τ).loc Cert.FfnHiddenRefIdeal.main_arg3)
      ∧ r.2.mem ((c.tc : Thread Cert.FfnHiddenRefIdeal.nD Cert.FfnHiddenRefIdeal.τ).loc Cert.FfnHiddenRefIdeal.main_arg4) = m ((c.tc : Thread Cert.FfnHiddenRefIdeal.nD Cert.FfnHiddenRefIdeal.τ).loc Cert.FfnHiddenRefIdeal.main_arg4))
      ∧ r.2.sem = fun _ => 0)

def quiescent_FfnHiddenRefIdeal_pre_ffn_hidden_finite [hFfnHiddenRefIdeal : Cert.FfnHiddenRefIdeal.Facts] [hPre_ffn_hidden_finite : Cert.Pre_ffn_hidden_finite.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal_ffn_hidden_finite m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2)
      ∧ r.2.mem ((c.tc : Thread Cert.FfnHiddenRefIdeal.nD Cert.FfnHiddenRefIdeal.τ).loc Cert.FfnHiddenRefIdeal.main_arg3) = m ((c.tc : Thread Cert.FfnHiddenRefIdeal.nD Cert.FfnHiddenRefIdeal.τ).loc Cert.FfnHiddenRefIdeal.main_arg3)
      ∧ r.2.mem ((c.tc : Thread Cert.FfnHiddenRefIdeal.nD Cert.FfnHiddenRefIdeal.τ).loc Cert.FfnHiddenRefIdeal.main_arg4) = m ((c.tc : Thread Cert.FfnHiddenRefIdeal.nD Cert.FfnHiddenRefIdeal.τ).loc Cert.FfnHiddenRefIdeal.main_arg4))
      ∧ r.2.sem = fun _ => 0)

def quiescent_AHidden [hAHidden : Cert.AHidden.Facts] : Prop :=
  ∀ (m : (ℓ : Loc Cert.AHidden.nD Cert.AHidden.τ Cert.AHidden.sig) → Buf (Elt Bits) ℓ) (g : Dev Cert.AHidden.nD → PrngReg), Pre_AHidden m →
    θ_run (Cert.AHidden.defs (F := Bits)) (onTc (τ := Cert.AHidden.τ) (Cert.AHidden.main (F := Bits))) ⟨m, fun _ => 0, g⟩ (fun r => (∀ c : Dev Cert.AHidden.nD,
      r.2.mem ((c.tc : Thread Cert.AHidden.nD Cert.AHidden.τ).loc Cert.AHidden.main_arg0) = m ((c.tc : Thread Cert.AHidden.nD Cert.AHidden.τ).loc Cert.AHidden.main_arg0)
      ∧ r.2.mem ((c.tc : Thread Cert.AHidden.nD Cert.AHidden.τ).loc Cert.AHidden.main_arg1) = m ((c.tc : Thread Cert.AHidden.nD Cert.AHidden.τ).loc Cert.AHidden.main_arg1)
      ∧ r.2.mem ((c.tc : Thread Cert.AHidden.nD Cert.AHidden.τ).loc Cert.AHidden.main_arg2) = m ((c.tc : Thread Cert.AHidden.nD Cert.AHidden.τ).loc Cert.AHidden.main_arg2)
      ∧ r.2.mem ((c.tc : Thread Cert.AHidden.nD Cert.AHidden.τ).loc Cert.AHidden.main_arg3) = m ((c.tc : Thread Cert.AHidden.nD Cert.AHidden.τ).loc Cert.AHidden.main_arg3)
      ∧ r.2.mem ((c.tc : Thread Cert.AHidden.nD Cert.AHidden.τ).loc Cert.AHidden.main_arg4) = m ((c.tc : Thread Cert.AHidden.nD Cert.AHidden.τ).loc Cert.AHidden.main_arg4)
      ∧ r.2.mem ((c.tc : Thread Cert.AHidden.nD Cert.AHidden.τ).loc Cert.AHidden.main_arg5) = m ((c.tc : Thread Cert.AHidden.nD Cert.AHidden.τ).loc Cert.AHidden.main_arg5)
      ∧ r.2.mem ((c.tc : Thread Cert.AHidden.nD Cert.AHidden.τ).loc Cert.AHidden.main_arg6) = m ((c.tc : Thread Cert.AHidden.nD Cert.AHidden.τ).loc Cert.AHidden.main_arg6)
      ∧ r.2.mem ((c.tc : Thread Cert.AHidden.nD Cert.AHidden.τ).loc Cert.AHidden.main_arg7) = m ((c.tc : Thread Cert.AHidden.nD Cert.AHidden.τ).loc Cert.AHidden.main_arg7))
      ∧ r.2.sem = fun _ => 0)

def quiescent_AHiddenIdeal [hAHiddenIdeal : Cert.AHiddenIdeal.Facts] : Prop :=
  ∀ (m : (ℓ : Loc Cert.AHiddenIdeal.nD Cert.AHiddenIdeal.τ Cert.AHiddenIdeal.sig) → Buf (Elt Ideal) ℓ) (g : Dev Cert.AHiddenIdeal.nD → PrngReg), Pre_AHiddenIdeal m →
    θ_run (Cert.AHiddenIdeal.defs (F := Ideal)) (onTc (τ := Cert.AHiddenIdeal.τ) (Cert.AHiddenIdeal.main (F := Ideal))) ⟨m, fun _ => 0, g⟩ (fun r => (∀ c : Dev Cert.AHiddenIdeal.nD,
      r.2.mem ((c.tc : Thread Cert.AHiddenIdeal.nD Cert.AHiddenIdeal.τ).loc Cert.AHiddenIdeal.main_arg0) = m ((c.tc : Thread Cert.AHiddenIdeal.nD Cert.AHiddenIdeal.τ).loc Cert.AHiddenIdeal.main_arg0)
      ∧ r.2.mem ((c.tc : Thread Cert.AHiddenIdeal.nD Cert.AHiddenIdeal.τ).loc Cert.AHiddenIdeal.main_arg1) = m ((c.tc : Thread Cert.AHiddenIdeal.nD Cert.AHiddenIdeal.τ).loc Cert.AHiddenIdeal.main_arg1)
      ∧ r.2.mem ((c.tc : Thread Cert.AHiddenIdeal.nD Cert.AHiddenIdeal.τ).loc Cert.AHiddenIdeal.main_arg2) = m ((c.tc : Thread Cert.AHiddenIdeal.nD Cert.AHiddenIdeal.τ).loc Cert.AHiddenIdeal.main_arg2)
      ∧ r.2.mem ((c.tc : Thread Cert.AHiddenIdeal.nD Cert.AHiddenIdeal.τ).loc Cert.AHiddenIdeal.main_arg3) = m ((c.tc : Thread Cert.AHiddenIdeal.nD Cert.AHiddenIdeal.τ).loc Cert.AHiddenIdeal.main_arg3)
      ∧ r.2.mem ((c.tc : Thread Cert.AHiddenIdeal.nD Cert.AHiddenIdeal.τ).loc Cert.AHiddenIdeal.main_arg4) = m ((c.tc : Thread Cert.AHiddenIdeal.nD Cert.AHiddenIdeal.τ).loc Cert.AHiddenIdeal.main_arg4)
      ∧ r.2.mem ((c.tc : Thread Cert.AHiddenIdeal.nD Cert.AHiddenIdeal.τ).loc Cert.AHiddenIdeal.main_arg5) = m ((c.tc : Thread Cert.AHiddenIdeal.nD Cert.AHiddenIdeal.τ).loc Cert.AHiddenIdeal.main_arg5)
      ∧ r.2.mem ((c.tc : Thread Cert.AHiddenIdeal.nD Cert.AHiddenIdeal.τ).loc Cert.AHiddenIdeal.main_arg6) = m ((c.tc : Thread Cert.AHiddenIdeal.nD Cert.AHiddenIdeal.τ).loc Cert.AHiddenIdeal.main_arg6)
      ∧ r.2.mem ((c.tc : Thread Cert.AHiddenIdeal.nD Cert.AHiddenIdeal.τ).loc Cert.AHiddenIdeal.main_arg7) = m ((c.tc : Thread Cert.AHiddenIdeal.nD Cert.AHiddenIdeal.τ).loc Cert.AHiddenIdeal.main_arg7))
      ∧ r.2.sem = fun _ => 0)

def quiescent_AHiddenIdeal_pre_a_hidden_finite [hAHiddenIdeal : Cert.AHiddenIdeal.Facts] [hPre_a_hidden_finite : Cert.Pre_a_hidden_finite.Facts] : Prop :=
  ∀ (m : (ℓ : Loc Cert.AHiddenIdeal.nD Cert.AHiddenIdeal.τ Cert.AHiddenIdeal.sig) → Buf (Elt Ideal) ℓ) (g : Dev Cert.AHiddenIdeal.nD → PrngReg), Pre_AHiddenIdeal_a_hidden_finite m →
    θ_run (Cert.AHiddenIdeal.defs (F := Ideal)) (onTc (τ := Cert.AHiddenIdeal.τ) (Cert.AHiddenIdeal.main (F := Ideal))) ⟨m, fun _ => 0, g⟩ (fun r => (∀ c : Dev Cert.AHiddenIdeal.nD,
      r.2.mem ((c.tc : Thread Cert.AHiddenIdeal.nD Cert.AHiddenIdeal.τ).loc Cert.AHiddenIdeal.main_arg0) = m ((c.tc : Thread Cert.AHiddenIdeal.nD Cert.AHiddenIdeal.τ).loc Cert.AHiddenIdeal.main_arg0)
      ∧ r.2.mem ((c.tc : Thread Cert.AHiddenIdeal.nD Cert.AHiddenIdeal.τ).loc Cert.AHiddenIdeal.main_arg1) = m ((c.tc : Thread Cert.AHiddenIdeal.nD Cert.AHiddenIdeal.τ).loc Cert.AHiddenIdeal.main_arg1)
      ∧ r.2.mem ((c.tc : Thread Cert.AHiddenIdeal.nD Cert.AHiddenIdeal.τ).loc Cert.AHiddenIdeal.main_arg2) = m ((c.tc : Thread Cert.AHiddenIdeal.nD Cert.AHiddenIdeal.τ).loc Cert.AHiddenIdeal.main_arg2)
      ∧ r.2.mem ((c.tc : Thread Cert.AHiddenIdeal.nD Cert.AHiddenIdeal.τ).loc Cert.AHiddenIdeal.main_arg3) = m ((c.tc : Thread Cert.AHiddenIdeal.nD Cert.AHiddenIdeal.τ).loc Cert.AHiddenIdeal.main_arg3)
      ∧ r.2.mem ((c.tc : Thread Cert.AHiddenIdeal.nD Cert.AHiddenIdeal.τ).loc Cert.AHiddenIdeal.main_arg4) = m ((c.tc : Thread Cert.AHiddenIdeal.nD Cert.AHiddenIdeal.τ).loc Cert.AHiddenIdeal.main_arg4)
      ∧ r.2.mem ((c.tc : Thread Cert.AHiddenIdeal.nD Cert.AHiddenIdeal.τ).loc Cert.AHiddenIdeal.main_arg5) = m ((c.tc : Thread Cert.AHiddenIdeal.nD Cert.AHiddenIdeal.τ).loc Cert.AHiddenIdeal.main_arg5)
      ∧ r.2.mem ((c.tc : Thread Cert.AHiddenIdeal.nD Cert.AHiddenIdeal.τ).loc Cert.AHiddenIdeal.main_arg6) = m ((c.tc : Thread Cert.AHiddenIdeal.nD Cert.AHiddenIdeal.τ).loc Cert.AHiddenIdeal.main_arg6)
      ∧ r.2.mem ((c.tc : Thread Cert.AHiddenIdeal.nD Cert.AHiddenIdeal.τ).loc Cert.AHiddenIdeal.main_arg7) = m ((c.tc : Thread Cert.AHiddenIdeal.nD Cert.AHiddenIdeal.τ).loc Cert.AHiddenIdeal.main_arg7))
      ∧ r.2.sem = fun _ => 0)

def quiescent_AHiddenRefIdeal [hAHiddenRefIdeal : Cert.AHiddenRefIdeal.Facts] : Prop :=
  ∀ (m : (ℓ : Loc Cert.AHiddenRefIdeal.nD Cert.AHiddenRefIdeal.τ Cert.AHiddenRefIdeal.sig) → Buf (Elt Ideal) ℓ) (g : Dev Cert.AHiddenRefIdeal.nD → PrngReg), Pre_AHiddenRefIdeal m →
    θ_run (Cert.AHiddenRefIdeal.defs (F := Ideal)) (onTc (τ := Cert.AHiddenRefIdeal.τ) (Cert.AHiddenRefIdeal.main (F := Ideal))) ⟨m, fun _ => 0, g⟩ (fun r => (∀ c : Dev Cert.AHiddenRefIdeal.nD,
      r.2.mem ((c.tc : Thread Cert.AHiddenRefIdeal.nD Cert.AHiddenRefIdeal.τ).loc Cert.AHiddenRefIdeal.main_arg0) = m ((c.tc : Thread Cert.AHiddenRefIdeal.nD Cert.AHiddenRefIdeal.τ).loc Cert.AHiddenRefIdeal.main_arg0)
      ∧ r.2.mem ((c.tc : Thread Cert.AHiddenRefIdeal.nD Cert.AHiddenRefIdeal.τ).loc Cert.AHiddenRefIdeal.main_arg1) = m ((c.tc : Thread Cert.AHiddenRefIdeal.nD Cert.AHiddenRefIdeal.τ).loc Cert.AHiddenRefIdeal.main_arg1)
      ∧ r.2.mem ((c.tc : Thread Cert.AHiddenRefIdeal.nD Cert.AHiddenRefIdeal.τ).loc Cert.AHiddenRefIdeal.main_arg2) = m ((c.tc : Thread Cert.AHiddenRefIdeal.nD Cert.AHiddenRefIdeal.τ).loc Cert.AHiddenRefIdeal.main_arg2)
      ∧ r.2.mem ((c.tc : Thread Cert.AHiddenRefIdeal.nD Cert.AHiddenRefIdeal.τ).loc Cert.AHiddenRefIdeal.main_arg3) = m ((c.tc : Thread Cert.AHiddenRefIdeal.nD Cert.AHiddenRefIdeal.τ).loc Cert.AHiddenRefIdeal.main_arg3)
      ∧ r.2.mem ((c.tc : Thread Cert.AHiddenRefIdeal.nD Cert.AHiddenRefIdeal.τ).loc Cert.AHiddenRefIdeal.main_arg4) = m ((c.tc : Thread Cert.AHiddenRefIdeal.nD Cert.AHiddenRefIdeal.τ).loc Cert.AHiddenRefIdeal.main_arg4)
      ∧ r.2.mem ((c.tc : Thread Cert.AHiddenRefIdeal.nD Cert.AHiddenRefIdeal.τ).loc Cert.AHiddenRefIdeal.main_arg5) = m ((c.tc : Thread Cert.AHiddenRefIdeal.nD Cert.AHiddenRefIdeal.τ).loc Cert.AHiddenRefIdeal.main_arg5)
      ∧ r.2.mem ((c.tc : Thread Cert.AHiddenRefIdeal.nD Cert.AHiddenRefIdeal.τ).loc Cert.AHiddenRefIdeal.main_arg6) = m ((c.tc : Thread Cert.AHiddenRefIdeal.nD Cert.AHiddenRefIdeal.τ).loc Cert.AHiddenRefIdeal.main_arg6)
      ∧ r.2.mem ((c.tc : Thread Cert.AHiddenRefIdeal.nD Cert.AHiddenRefIdeal.τ).loc Cert.AHiddenRefIdeal.main_arg7) = m ((c.tc : Thread Cert.AHiddenRefIdeal.nD Cert.AHiddenRefIdeal.τ).loc Cert.AHiddenRefIdeal.main_arg7))
      ∧ r.2.sem = fun _ => 0)

def quiescent_AHiddenRefIdeal_pre_a_hidden_finite [hAHiddenRefIdeal : Cert.AHiddenRefIdeal.Facts] [hPre_a_hidden_finite : Cert.Pre_a_hidden_finite.Facts] : Prop :=
  ∀ (m : (ℓ : Loc Cert.AHiddenRefIdeal.nD Cert.AHiddenRefIdeal.τ Cert.AHiddenRefIdeal.sig) → Buf (Elt Ideal) ℓ) (g : Dev Cert.AHiddenRefIdeal.nD → PrngReg), Pre_AHiddenRefIdeal_a_hidden_finite m →
    θ_run (Cert.AHiddenRefIdeal.defs (F := Ideal)) (onTc (τ := Cert.AHiddenRefIdeal.τ) (Cert.AHiddenRefIdeal.main (F := Ideal))) ⟨m, fun _ => 0, g⟩ (fun r => (∀ c : Dev Cert.AHiddenRefIdeal.nD,
      r.2.mem ((c.tc : Thread Cert.AHiddenRefIdeal.nD Cert.AHiddenRefIdeal.τ).loc Cert.AHiddenRefIdeal.main_arg0) = m ((c.tc : Thread Cert.AHiddenRefIdeal.nD Cert.AHiddenRefIdeal.τ).loc Cert.AHiddenRefIdeal.main_arg0)
      ∧ r.2.mem ((c.tc : Thread Cert.AHiddenRefIdeal.nD Cert.AHiddenRefIdeal.τ).loc Cert.AHiddenRefIdeal.main_arg1) = m ((c.tc : Thread Cert.AHiddenRefIdeal.nD Cert.AHiddenRefIdeal.τ).loc Cert.AHiddenRefIdeal.main_arg1)
      ∧ r.2.mem ((c.tc : Thread Cert.AHiddenRefIdeal.nD Cert.AHiddenRefIdeal.τ).loc Cert.AHiddenRefIdeal.main_arg2) = m ((c.tc : Thread Cert.AHiddenRefIdeal.nD Cert.AHiddenRefIdeal.τ).loc Cert.AHiddenRefIdeal.main_arg2)
      ∧ r.2.mem ((c.tc : Thread Cert.AHiddenRefIdeal.nD Cert.AHiddenRefIdeal.τ).loc Cert.AHiddenRefIdeal.main_arg3) = m ((c.tc : Thread Cert.AHiddenRefIdeal.nD Cert.AHiddenRefIdeal.τ).loc Cert.AHiddenRefIdeal.main_arg3)
      ∧ r.2.mem ((c.tc : Thread Cert.AHiddenRefIdeal.nD Cert.AHiddenRefIdeal.τ).loc Cert.AHiddenRefIdeal.main_arg4) = m ((c.tc : Thread Cert.AHiddenRefIdeal.nD Cert.AHiddenRefIdeal.τ).loc Cert.AHiddenRefIdeal.main_arg4)
      ∧ r.2.mem ((c.tc : Thread Cert.AHiddenRefIdeal.nD Cert.AHiddenRefIdeal.τ).loc Cert.AHiddenRefIdeal.main_arg5) = m ((c.tc : Thread Cert.AHiddenRefIdeal.nD Cert.AHiddenRefIdeal.τ).loc Cert.AHiddenRefIdeal.main_arg5)
      ∧ r.2.mem ((c.tc : Thread Cert.AHiddenRefIdeal.nD Cert.AHiddenRefIdeal.τ).loc Cert.AHiddenRefIdeal.main_arg6) = m ((c.tc : Thread Cert.AHiddenRefIdeal.nD Cert.AHiddenRefIdeal.τ).loc Cert.AHiddenRefIdeal.main_arg6)
      ∧ r.2.mem ((c.tc : Thread Cert.AHiddenRefIdeal.nD Cert.AHiddenRefIdeal.τ).loc Cert.AHiddenRefIdeal.main_arg7) = m ((c.tc : Thread Cert.AHiddenRefIdeal.nD Cert.AHiddenRefIdeal.τ).loc Cert.AHiddenRefIdeal.main_arg7))
      ∧ r.2.sem = fun _ => 0)

def quiescent_BBwd [hBBwd : Cert.BBwd.Facts] : Prop :=
  ∀ (m : (ℓ : Loc Cert.BBwd.nD Cert.BBwd.τ Cert.BBwd.sig) → Buf (Elt Bits) ℓ) (g : Dev Cert.BBwd.nD → PrngReg), Pre_BBwd m →
    θ_run (Cert.BBwd.defs (F := Bits)) (onTc (τ := Cert.BBwd.τ) (Cert.BBwd.main (F := Bits))) ⟨m, fun _ => 0, g⟩ (fun r => (∀ c : Dev Cert.BBwd.nD,
      r.2.mem ((c.tc : Thread Cert.BBwd.nD Cert.BBwd.τ).loc Cert.BBwd.main_arg0) = m ((c.tc : Thread Cert.BBwd.nD Cert.BBwd.τ).loc Cert.BBwd.main_arg0)
      ∧ r.2.mem ((c.tc : Thread Cert.BBwd.nD Cert.BBwd.τ).loc Cert.BBwd.main_arg1) = m ((c.tc : Thread Cert.BBwd.nD Cert.BBwd.τ).loc Cert.BBwd.main_arg1)
      ∧ r.2.mem ((c.tc : Thread Cert.BBwd.nD Cert.BBwd.τ).loc Cert.BBwd.main_arg2) = m ((c.tc : Thread Cert.BBwd.nD Cert.BBwd.τ).loc Cert.BBwd.main_arg2)
      ∧ r.2.mem ((c.tc : Thread Cert.BBwd.nD Cert.BBwd.τ).loc Cert.BBwd.main_arg3) = m ((c.tc : Thread Cert.BBwd.nD Cert.BBwd.τ).loc Cert.BBwd.main_arg3)
      ∧ r.2.mem ((c.tc : Thread Cert.BBwd.nD Cert.BBwd.τ).loc Cert.BBwd.main_arg4) = m ((c.tc : Thread Cert.BBwd.nD Cert.BBwd.τ).loc Cert.BBwd.main_arg4)
      ∧ r.2.mem ((c.tc : Thread Cert.BBwd.nD Cert.BBwd.τ).loc Cert.BBwd.main_arg5) = m ((c.tc : Thread Cert.BBwd.nD Cert.BBwd.τ).loc Cert.BBwd.main_arg5)
      ∧ r.2.mem ((c.tc : Thread Cert.BBwd.nD Cert.BBwd.τ).loc Cert.BBwd.main_arg6) = m ((c.tc : Thread Cert.BBwd.nD Cert.BBwd.τ).loc Cert.BBwd.main_arg6)
      ∧ r.2.mem ((c.tc : Thread Cert.BBwd.nD Cert.BBwd.τ).loc Cert.BBwd.main_arg7) = m ((c.tc : Thread Cert.BBwd.nD Cert.BBwd.τ).loc Cert.BBwd.main_arg7))
      ∧ r.2.sem = fun _ => 0)

def quiescent_BBwdIdeal [hBBwdIdeal : Cert.BBwdIdeal.Facts] : Prop :=
  ∀ (m : (ℓ : Loc Cert.BBwdIdeal.nD Cert.BBwdIdeal.τ Cert.BBwdIdeal.sig) → Buf (Elt Ideal) ℓ) (g : Dev Cert.BBwdIdeal.nD → PrngReg), Pre_BBwdIdeal m →
    θ_run (Cert.BBwdIdeal.defs (F := Ideal)) (onTc (τ := Cert.BBwdIdeal.τ) (Cert.BBwdIdeal.main (F := Ideal))) ⟨m, fun _ => 0, g⟩ (fun r => (∀ c : Dev Cert.BBwdIdeal.nD,
      r.2.mem ((c.tc : Thread Cert.BBwdIdeal.nD Cert.BBwdIdeal.τ).loc Cert.BBwdIdeal.main_arg0) = m ((c.tc : Thread Cert.BBwdIdeal.nD Cert.BBwdIdeal.τ).loc Cert.BBwdIdeal.main_arg0)
      ∧ r.2.mem ((c.tc : Thread Cert.BBwdIdeal.nD Cert.BBwdIdeal.τ).loc Cert.BBwdIdeal.main_arg1) = m ((c.tc : Thread Cert.BBwdIdeal.nD Cert.BBwdIdeal.τ).loc Cert.BBwdIdeal.main_arg1)
      ∧ r.2.mem ((c.tc : Thread Cert.BBwdIdeal.nD Cert.BBwdIdeal.τ).loc Cert.BBwdIdeal.main_arg2) = m ((c.tc : Thread Cert.BBwdIdeal.nD Cert.BBwdIdeal.τ).loc Cert.BBwdIdeal.main_arg2)
      ∧ r.2.mem ((c.tc : Thread Cert.BBwdIdeal.nD Cert.BBwdIdeal.τ).loc Cert.BBwdIdeal.main_arg3) = m ((c.tc : Thread Cert.BBwdIdeal.nD Cert.BBwdIdeal.τ).loc Cert.BBwdIdeal.main_arg3)
      ∧ r.2.mem ((c.tc : Thread Cert.BBwdIdeal.nD Cert.BBwdIdeal.τ).loc Cert.BBwdIdeal.main_arg4) = m ((c.tc : Thread Cert.BBwdIdeal.nD Cert.BBwdIdeal.τ).loc Cert.BBwdIdeal.main_arg4)
      ∧ r.2.mem ((c.tc : Thread Cert.BBwdIdeal.nD Cert.BBwdIdeal.τ).loc Cert.BBwdIdeal.main_arg5) = m ((c.tc : Thread Cert.BBwdIdeal.nD Cert.BBwdIdeal.τ).loc Cert.BBwdIdeal.main_arg5)
      ∧ r.2.mem ((c.tc : Thread Cert.BBwdIdeal.nD Cert.BBwdIdeal.τ).loc Cert.BBwdIdeal.main_arg6) = m ((c.tc : Thread Cert.BBwdIdeal.nD Cert.BBwdIdeal.τ).loc Cert.BBwdIdeal.main_arg6)
      ∧ r.2.mem ((c.tc : Thread Cert.BBwdIdeal.nD Cert.BBwdIdeal.τ).loc Cert.BBwdIdeal.main_arg7) = m ((c.tc : Thread Cert.BBwdIdeal.nD Cert.BBwdIdeal.τ).loc Cert.BBwdIdeal.main_arg7))
      ∧ r.2.sem = fun _ => 0)

def quiescent_BBwdIdeal_pre_b_finite [hBBwdIdeal : Cert.BBwdIdeal.Facts] [hPre_b_finite : Cert.Pre_b_finite.Facts] : Prop :=
  ∀ (m : (ℓ : Loc Cert.BBwdIdeal.nD Cert.BBwdIdeal.τ Cert.BBwdIdeal.sig) → Buf (Elt Ideal) ℓ) (g : Dev Cert.BBwdIdeal.nD → PrngReg), Pre_BBwdIdeal_b_finite m →
    θ_run (Cert.BBwdIdeal.defs (F := Ideal)) (onTc (τ := Cert.BBwdIdeal.τ) (Cert.BBwdIdeal.main (F := Ideal))) ⟨m, fun _ => 0, g⟩ (fun r => (∀ c : Dev Cert.BBwdIdeal.nD,
      r.2.mem ((c.tc : Thread Cert.BBwdIdeal.nD Cert.BBwdIdeal.τ).loc Cert.BBwdIdeal.main_arg0) = m ((c.tc : Thread Cert.BBwdIdeal.nD Cert.BBwdIdeal.τ).loc Cert.BBwdIdeal.main_arg0)
      ∧ r.2.mem ((c.tc : Thread Cert.BBwdIdeal.nD Cert.BBwdIdeal.τ).loc Cert.BBwdIdeal.main_arg1) = m ((c.tc : Thread Cert.BBwdIdeal.nD Cert.BBwdIdeal.τ).loc Cert.BBwdIdeal.main_arg1)
      ∧ r.2.mem ((c.tc : Thread Cert.BBwdIdeal.nD Cert.BBwdIdeal.τ).loc Cert.BBwdIdeal.main_arg2) = m ((c.tc : Thread Cert.BBwdIdeal.nD Cert.BBwdIdeal.τ).loc Cert.BBwdIdeal.main_arg2)
      ∧ r.2.mem ((c.tc : Thread Cert.BBwdIdeal.nD Cert.BBwdIdeal.τ).loc Cert.BBwdIdeal.main_arg3) = m ((c.tc : Thread Cert.BBwdIdeal.nD Cert.BBwdIdeal.τ).loc Cert.BBwdIdeal.main_arg3)
      ∧ r.2.mem ((c.tc : Thread Cert.BBwdIdeal.nD Cert.BBwdIdeal.τ).loc Cert.BBwdIdeal.main_arg4) = m ((c.tc : Thread Cert.BBwdIdeal.nD Cert.BBwdIdeal.τ).loc Cert.BBwdIdeal.main_arg4)
      ∧ r.2.mem ((c.tc : Thread Cert.BBwdIdeal.nD Cert.BBwdIdeal.τ).loc Cert.BBwdIdeal.main_arg5) = m ((c.tc : Thread Cert.BBwdIdeal.nD Cert.BBwdIdeal.τ).loc Cert.BBwdIdeal.main_arg5)
      ∧ r.2.mem ((c.tc : Thread Cert.BBwdIdeal.nD Cert.BBwdIdeal.τ).loc Cert.BBwdIdeal.main_arg6) = m ((c.tc : Thread Cert.BBwdIdeal.nD Cert.BBwdIdeal.τ).loc Cert.BBwdIdeal.main_arg6)
      ∧ r.2.mem ((c.tc : Thread Cert.BBwdIdeal.nD Cert.BBwdIdeal.τ).loc Cert.BBwdIdeal.main_arg7) = m ((c.tc : Thread Cert.BBwdIdeal.nD Cert.BBwdIdeal.τ).loc Cert.BBwdIdeal.main_arg7))
      ∧ r.2.sem = fun _ => 0)

def quiescent_BBwdRefIdeal [hBBwdRefIdeal : Cert.BBwdRefIdeal.Facts] : Prop :=
  ∀ (m : (ℓ : Loc Cert.BBwdRefIdeal.nD Cert.BBwdRefIdeal.τ Cert.BBwdRefIdeal.sig) → Buf (Elt Ideal) ℓ) (g : Dev Cert.BBwdRefIdeal.nD → PrngReg), Pre_BBwdRefIdeal m →
    θ_run (Cert.BBwdRefIdeal.defs (F := Ideal)) (onTc (τ := Cert.BBwdRefIdeal.τ) (Cert.BBwdRefIdeal.main (F := Ideal))) ⟨m, fun _ => 0, g⟩ (fun r => (∀ c : Dev Cert.BBwdRefIdeal.nD,
      r.2.mem ((c.tc : Thread Cert.BBwdRefIdeal.nD Cert.BBwdRefIdeal.τ).loc Cert.BBwdRefIdeal.main_arg0) = m ((c.tc : Thread Cert.BBwdRefIdeal.nD Cert.BBwdRefIdeal.τ).loc Cert.BBwdRefIdeal.main_arg0)
      ∧ r.2.mem ((c.tc : Thread Cert.BBwdRefIdeal.nD Cert.BBwdRefIdeal.τ).loc Cert.BBwdRefIdeal.main_arg1) = m ((c.tc : Thread Cert.BBwdRefIdeal.nD Cert.BBwdRefIdeal.τ).loc Cert.BBwdRefIdeal.main_arg1)
      ∧ r.2.mem ((c.tc : Thread Cert.BBwdRefIdeal.nD Cert.BBwdRefIdeal.τ).loc Cert.BBwdRefIdeal.main_arg2) = m ((c.tc : Thread Cert.BBwdRefIdeal.nD Cert.BBwdRefIdeal.τ).loc Cert.BBwdRefIdeal.main_arg2)
      ∧ r.2.mem ((c.tc : Thread Cert.BBwdRefIdeal.nD Cert.BBwdRefIdeal.τ).loc Cert.BBwdRefIdeal.main_arg3) = m ((c.tc : Thread Cert.BBwdRefIdeal.nD Cert.BBwdRefIdeal.τ).loc Cert.BBwdRefIdeal.main_arg3)
      ∧ r.2.mem ((c.tc : Thread Cert.BBwdRefIdeal.nD Cert.BBwdRefIdeal.τ).loc Cert.BBwdRefIdeal.main_arg4) = m ((c.tc : Thread Cert.BBwdRefIdeal.nD Cert.BBwdRefIdeal.τ).loc Cert.BBwdRefIdeal.main_arg4)
      ∧ r.2.mem ((c.tc : Thread Cert.BBwdRefIdeal.nD Cert.BBwdRefIdeal.τ).loc Cert.BBwdRefIdeal.main_arg5) = m ((c.tc : Thread Cert.BBwdRefIdeal.nD Cert.BBwdRefIdeal.τ).loc Cert.BBwdRefIdeal.main_arg5)
      ∧ r.2.mem ((c.tc : Thread Cert.BBwdRefIdeal.nD Cert.BBwdRefIdeal.τ).loc Cert.BBwdRefIdeal.main_arg6) = m ((c.tc : Thread Cert.BBwdRefIdeal.nD Cert.BBwdRefIdeal.τ).loc Cert.BBwdRefIdeal.main_arg6)
      ∧ r.2.mem ((c.tc : Thread Cert.BBwdRefIdeal.nD Cert.BBwdRefIdeal.τ).loc Cert.BBwdRefIdeal.main_arg7) = m ((c.tc : Thread Cert.BBwdRefIdeal.nD Cert.BBwdRefIdeal.τ).loc Cert.BBwdRefIdeal.main_arg7))
      ∧ r.2.sem = fun _ => 0)

def quiescent_BBwdRefIdeal_pre_b_finite [hBBwdRefIdeal : Cert.BBwdRefIdeal.Facts] [hPre_b_finite : Cert.Pre_b_finite.Facts] : Prop :=
  ∀ (m : (ℓ : Loc Cert.BBwdRefIdeal.nD Cert.BBwdRefIdeal.τ Cert.BBwdRefIdeal.sig) → Buf (Elt Ideal) ℓ) (g : Dev Cert.BBwdRefIdeal.nD → PrngReg), Pre_BBwdRefIdeal_b_finite m →
    θ_run (Cert.BBwdRefIdeal.defs (F := Ideal)) (onTc (τ := Cert.BBwdRefIdeal.τ) (Cert.BBwdRefIdeal.main (F := Ideal))) ⟨m, fun _ => 0, g⟩ (fun r => (∀ c : Dev Cert.BBwdRefIdeal.nD,
      r.2.mem ((c.tc : Thread Cert.BBwdRefIdeal.nD Cert.BBwdRefIdeal.τ).loc Cert.BBwdRefIdeal.main_arg0) = m ((c.tc : Thread Cert.BBwdRefIdeal.nD Cert.BBwdRefIdeal.τ).loc Cert.BBwdRefIdeal.main_arg0)
      ∧ r.2.mem ((c.tc : Thread Cert.BBwdRefIdeal.nD Cert.BBwdRefIdeal.τ).loc Cert.BBwdRefIdeal.main_arg1) = m ((c.tc : Thread Cert.BBwdRefIdeal.nD Cert.BBwdRefIdeal.τ).loc Cert.BBwdRefIdeal.main_arg1)
      ∧ r.2.mem ((c.tc : Thread Cert.BBwdRefIdeal.nD Cert.BBwdRefIdeal.τ).loc Cert.BBwdRefIdeal.main_arg2) = m ((c.tc : Thread Cert.BBwdRefIdeal.nD Cert.BBwdRefIdeal.τ).loc Cert.BBwdRefIdeal.main_arg2)
      ∧ r.2.mem ((c.tc : Thread Cert.BBwdRefIdeal.nD Cert.BBwdRefIdeal.τ).loc Cert.BBwdRefIdeal.main_arg3) = m ((c.tc : Thread Cert.BBwdRefIdeal.nD Cert.BBwdRefIdeal.τ).loc Cert.BBwdRefIdeal.main_arg3)
      ∧ r.2.mem ((c.tc : Thread Cert.BBwdRefIdeal.nD Cert.BBwdRefIdeal.τ).loc Cert.BBwdRefIdeal.main_arg4) = m ((c.tc : Thread Cert.BBwdRefIdeal.nD Cert.BBwdRefIdeal.τ).loc Cert.BBwdRefIdeal.main_arg4)
      ∧ r.2.mem ((c.tc : Thread Cert.BBwdRefIdeal.nD Cert.BBwdRefIdeal.τ).loc Cert.BBwdRefIdeal.main_arg5) = m ((c.tc : Thread Cert.BBwdRefIdeal.nD Cert.BBwdRefIdeal.τ).loc Cert.BBwdRefIdeal.main_arg5)
      ∧ r.2.mem ((c.tc : Thread Cert.BBwdRefIdeal.nD Cert.BBwdRefIdeal.τ).loc Cert.BBwdRefIdeal.main_arg6) = m ((c.tc : Thread Cert.BBwdRefIdeal.nD Cert.BBwdRefIdeal.τ).loc Cert.BBwdRefIdeal.main_arg6)
      ∧ r.2.mem ((c.tc : Thread Cert.BBwdRefIdeal.nD Cert.BBwdRefIdeal.τ).loc Cert.BBwdRefIdeal.main_arg7) = m ((c.tc : Thread Cert.BBwdRefIdeal.nD Cert.BBwdRefIdeal.τ).loc Cert.BBwdRefIdeal.main_arg7))
      ∧ r.2.sem = fun _ => 0)

def quiescent_AFwd [hAFwd : Cert.AFwd.Facts] : Prop :=
  ∀ (m : (ℓ : Loc Cert.AFwd.nD Cert.AFwd.τ Cert.AFwd.sig) → Buf (Elt Bits) ℓ) (g : Dev Cert.AFwd.nD → PrngReg), Pre_AFwd m →
    θ_run (Cert.AFwd.defs (F := Bits)) (onTc (τ := Cert.AFwd.τ) (Cert.AFwd.main (F := Bits))) ⟨m, fun _ => 0, g⟩ (fun r => (∀ c : Dev Cert.AFwd.nD,
      r.2.mem ((c.tc : Thread Cert.AFwd.nD Cert.AFwd.τ).loc Cert.AFwd.main_arg0) = m ((c.tc : Thread Cert.AFwd.nD Cert.AFwd.τ).loc Cert.AFwd.main_arg0)
      ∧ r.2.mem ((c.tc : Thread Cert.AFwd.nD Cert.AFwd.τ).loc Cert.AFwd.main_arg1) = m ((c.tc : Thread Cert.AFwd.nD Cert.AFwd.τ).loc Cert.AFwd.main_arg1)
      ∧ r.2.mem ((c.tc : Thread Cert.AFwd.nD Cert.AFwd.τ).loc Cert.AFwd.main_arg2) = m ((c.tc : Thread Cert.AFwd.nD Cert.AFwd.τ).loc Cert.AFwd.main_arg2)
      ∧ r.2.mem ((c.tc : Thread Cert.AFwd.nD Cert.AFwd.τ).loc Cert.AFwd.main_arg3) = m ((c.tc : Thread Cert.AFwd.nD Cert.AFwd.τ).loc Cert.AFwd.main_arg3)
      ∧ r.2.mem ((c.tc : Thread Cert.AFwd.nD Cert.AFwd.τ).loc Cert.AFwd.main_arg4) = m ((c.tc : Thread Cert.AFwd.nD Cert.AFwd.τ).loc Cert.AFwd.main_arg4)
      ∧ r.2.mem ((c.tc : Thread Cert.AFwd.nD Cert.AFwd.τ).loc Cert.AFwd.main_arg5) = m ((c.tc : Thread Cert.AFwd.nD Cert.AFwd.τ).loc Cert.AFwd.main_arg5)
      ∧ r.2.mem ((c.tc : Thread Cert.AFwd.nD Cert.AFwd.τ).loc Cert.AFwd.main_arg6) = m ((c.tc : Thread Cert.AFwd.nD Cert.AFwd.τ).loc Cert.AFwd.main_arg6)
      ∧ r.2.mem ((c.tc : Thread Cert.AFwd.nD Cert.AFwd.τ).loc Cert.AFwd.main_arg7) = m ((c.tc : Thread Cert.AFwd.nD Cert.AFwd.τ).loc Cert.AFwd.main_arg7)
      ∧ r.2.mem ((c.tc : Thread Cert.AFwd.nD Cert.AFwd.τ).loc Cert.AFwd.main_arg8) = m ((c.tc : Thread Cert.AFwd.nD Cert.AFwd.τ).loc Cert.AFwd.main_arg8))
      ∧ r.2.sem = fun _ => 0)

def quiescent_AFwdIdeal [hAFwdIdeal : Cert.AFwdIdeal.Facts] : Prop :=
  ∀ (m : (ℓ : Loc Cert.AFwdIdeal.nD Cert.AFwdIdeal.τ Cert.AFwdIdeal.sig) → Buf (Elt Ideal) ℓ) (g : Dev Cert.AFwdIdeal.nD → PrngReg), Pre_AFwdIdeal m →
    θ_run (Cert.AFwdIdeal.defs (F := Ideal)) (onTc (τ := Cert.AFwdIdeal.τ) (Cert.AFwdIdeal.main (F := Ideal))) ⟨m, fun _ => 0, g⟩ (fun r => (∀ c : Dev Cert.AFwdIdeal.nD,
      r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
      ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
      ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
      ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
      ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
      ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
      ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
      ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7)
      ∧ r.2.mem ((c.tc : Thread Cert.AFwdIdeal.nD Cert.AFwdIdeal.τ).loc Cert.AFwdIdeal.main_arg8) = m ((c.tc : Thread Cert.AFwdIdeal.nD Cert.AFwdIdeal.τ).loc Cert.AFwdIdeal.main_arg8))
      ∧ r.2.sem = fun _ => 0)

def quiescent_AFwdIdeal_pre_a_fwd_finite [hAFwdIdeal : Cert.AFwdIdeal.Facts] [hPre_a_fwd_finite : Cert.Pre_a_fwd_finite.Facts] : Prop :=
  ∀ (m : (ℓ : Loc Cert.AFwdIdeal.nD Cert.AFwdIdeal.τ Cert.AFwdIdeal.sig) → Buf (Elt Ideal) ℓ) (g : Dev Cert.AFwdIdeal.nD → PrngReg), Pre_AFwdIdeal_a_fwd_finite m →
    θ_run (Cert.AFwdIdeal.defs (F := Ideal)) (onTc (τ := Cert.AFwdIdeal.τ) (Cert.AFwdIdeal.main (F := Ideal))) ⟨m, fun _ => 0, g⟩ (fun r => (∀ c : Dev Cert.AFwdIdeal.nD,
      r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
      ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
      ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
      ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
      ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
      ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
      ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
      ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7)
      ∧ r.2.mem ((c.tc : Thread Cert.AFwdIdeal.nD Cert.AFwdIdeal.τ).loc Cert.AFwdIdeal.main_arg8) = m ((c.tc : Thread Cert.AFwdIdeal.nD Cert.AFwdIdeal.τ).loc Cert.AFwdIdeal.main_arg8))
      ∧ r.2.sem = fun _ => 0)

def quiescent_AFwdRefIdeal [hAFwdRefIdeal : Cert.AFwdRefIdeal.Facts] : Prop :=
  ∀ (m : (ℓ : Loc Cert.AFwdRefIdeal.nD Cert.AFwdRefIdeal.τ Cert.AFwdRefIdeal.sig) → Buf (Elt Ideal) ℓ) (g : Dev Cert.AFwdRefIdeal.nD → PrngReg), Pre_AFwdRefIdeal m →
    θ_run (Cert.AFwdRefIdeal.defs (F := Ideal)) (onTc (τ := Cert.AFwdRefIdeal.τ) (Cert.AFwdRefIdeal.main (F := Ideal))) ⟨m, fun _ => 0, g⟩ (fun r => (∀ c : Dev Cert.AFwdRefIdeal.nD,
      r.2.mem ((c.tc : Thread Cert.AFwdRefIdeal.nD Cert.AFwdRefIdeal.τ).loc Cert.AFwdRefIdeal.main_arg0) = m ((c.tc : Thread Cert.AFwdRefIdeal.nD Cert.AFwdRefIdeal.τ).loc Cert.AFwdRefIdeal.main_arg0)
      ∧ r.2.mem ((c.tc : Thread Cert.AFwdRefIdeal.nD Cert.AFwdRefIdeal.τ).loc Cert.AFwdRefIdeal.main_arg1) = m ((c.tc : Thread Cert.AFwdRefIdeal.nD Cert.AFwdRefIdeal.τ).loc Cert.AFwdRefIdeal.main_arg1)
      ∧ r.2.mem ((c.tc : Thread Cert.AFwdRefIdeal.nD Cert.AFwdRefIdeal.τ).loc Cert.AFwdRefIdeal.main_arg2) = m ((c.tc : Thread Cert.AFwdRefIdeal.nD Cert.AFwdRefIdeal.τ).loc Cert.AFwdRefIdeal.main_arg2)
      ∧ r.2.mem ((c.tc : Thread Cert.AFwdRefIdeal.nD Cert.AFwdRefIdeal.τ).loc Cert.AFwdRefIdeal.main_arg3) = m ((c.tc : Thread Cert.AFwdRefIdeal.nD Cert.AFwdRefIdeal.τ).loc Cert.AFwdRefIdeal.main_arg3)
      ∧ r.2.mem ((c.tc : Thread Cert.AFwdRefIdeal.nD Cert.AFwdRefIdeal.τ).loc Cert.AFwdRefIdeal.main_arg4) = m ((c.tc : Thread Cert.AFwdRefIdeal.nD Cert.AFwdRefIdeal.τ).loc Cert.AFwdRefIdeal.main_arg4)
      ∧ r.2.mem ((c.tc : Thread Cert.AFwdRefIdeal.nD Cert.AFwdRefIdeal.τ).loc Cert.AFwdRefIdeal.main_arg5) = m ((c.tc : Thread Cert.AFwdRefIdeal.nD Cert.AFwdRefIdeal.τ).loc Cert.AFwdRefIdeal.main_arg5)
      ∧ r.2.mem ((c.tc : Thread Cert.AFwdRefIdeal.nD Cert.AFwdRefIdeal.τ).loc Cert.AFwdRefIdeal.main_arg6) = m ((c.tc : Thread Cert.AFwdRefIdeal.nD Cert.AFwdRefIdeal.τ).loc Cert.AFwdRefIdeal.main_arg6)
      ∧ r.2.mem ((c.tc : Thread Cert.AFwdRefIdeal.nD Cert.AFwdRefIdeal.τ).loc Cert.AFwdRefIdeal.main_arg7) = m ((c.tc : Thread Cert.AFwdRefIdeal.nD Cert.AFwdRefIdeal.τ).loc Cert.AFwdRefIdeal.main_arg7)
      ∧ r.2.mem ((c.tc : Thread Cert.AFwdRefIdeal.nD Cert.AFwdRefIdeal.τ).loc Cert.AFwdRefIdeal.main_arg8) = m ((c.tc : Thread Cert.AFwdRefIdeal.nD Cert.AFwdRefIdeal.τ).loc Cert.AFwdRefIdeal.main_arg8))
      ∧ r.2.sem = fun _ => 0)

def quiescent_AFwdRefIdeal_pre_a_fwd_finite [hAFwdRefIdeal : Cert.AFwdRefIdeal.Facts] [hPre_a_fwd_finite : Cert.Pre_a_fwd_finite.Facts] : Prop :=
  ∀ (m : (ℓ : Loc Cert.AFwdRefIdeal.nD Cert.AFwdRefIdeal.τ Cert.AFwdRefIdeal.sig) → Buf (Elt Ideal) ℓ) (g : Dev Cert.AFwdRefIdeal.nD → PrngReg), Pre_AFwdRefIdeal_a_fwd_finite m →
    θ_run (Cert.AFwdRefIdeal.defs (F := Ideal)) (onTc (τ := Cert.AFwdRefIdeal.τ) (Cert.AFwdRefIdeal.main (F := Ideal))) ⟨m, fun _ => 0, g⟩ (fun r => (∀ c : Dev Cert.AFwdRefIdeal.nD,
      r.2.mem ((c.tc : Thread Cert.AFwdRefIdeal.nD Cert.AFwdRefIdeal.τ).loc Cert.AFwdRefIdeal.main_arg0) = m ((c.tc : Thread Cert.AFwdRefIdeal.nD Cert.AFwdRefIdeal.τ).loc Cert.AFwdRefIdeal.main_arg0)
      ∧ r.2.mem ((c.tc : Thread Cert.AFwdRefIdeal.nD Cert.AFwdRefIdeal.τ).loc Cert.AFwdRefIdeal.main_arg1) = m ((c.tc : Thread Cert.AFwdRefIdeal.nD Cert.AFwdRefIdeal.τ).loc Cert.AFwdRefIdeal.main_arg1)
      ∧ r.2.mem ((c.tc : Thread Cert.AFwdRefIdeal.nD Cert.AFwdRefIdeal.τ).loc Cert.AFwdRefIdeal.main_arg2) = m ((c.tc : Thread Cert.AFwdRefIdeal.nD Cert.AFwdRefIdeal.τ).loc Cert.AFwdRefIdeal.main_arg2)
      ∧ r.2.mem ((c.tc : Thread Cert.AFwdRefIdeal.nD Cert.AFwdRefIdeal.τ).loc Cert.AFwdRefIdeal.main_arg3) = m ((c.tc : Thread Cert.AFwdRefIdeal.nD Cert.AFwdRefIdeal.τ).loc Cert.AFwdRefIdeal.main_arg3)
      ∧ r.2.mem ((c.tc : Thread Cert.AFwdRefIdeal.nD Cert.AFwdRefIdeal.τ).loc Cert.AFwdRefIdeal.main_arg4) = m ((c.tc : Thread Cert.AFwdRefIdeal.nD Cert.AFwdRefIdeal.τ).loc Cert.AFwdRefIdeal.main_arg4)
      ∧ r.2.mem ((c.tc : Thread Cert.AFwdRefIdeal.nD Cert.AFwdRefIdeal.τ).loc Cert.AFwdRefIdeal.main_arg5) = m ((c.tc : Thread Cert.AFwdRefIdeal.nD Cert.AFwdRefIdeal.τ).loc Cert.AFwdRefIdeal.main_arg5)
      ∧ r.2.mem ((c.tc : Thread Cert.AFwdRefIdeal.nD Cert.AFwdRefIdeal.τ).loc Cert.AFwdRefIdeal.main_arg6) = m ((c.tc : Thread Cert.AFwdRefIdeal.nD Cert.AFwdRefIdeal.τ).loc Cert.AFwdRefIdeal.main_arg6)
      ∧ r.2.mem ((c.tc : Thread Cert.AFwdRefIdeal.nD Cert.AFwdRefIdeal.τ).loc Cert.AFwdRefIdeal.main_arg7) = m ((c.tc : Thread Cert.AFwdRefIdeal.nD Cert.AFwdRefIdeal.τ).loc Cert.AFwdRefIdeal.main_arg7)
      ∧ r.2.mem ((c.tc : Thread Cert.AFwdRefIdeal.nD Cert.AFwdRefIdeal.τ).loc Cert.AFwdRefIdeal.main_arg8) = m ((c.tc : Thread Cert.AFwdRefIdeal.nD Cert.AFwdRefIdeal.τ).loc Cert.AFwdRefIdeal.main_arg8))
      ∧ r.2.sem = fun _ => 0)

def quiescent_BFwd [hBFwd : Cert.BFwd.Facts] : Prop :=
  ∀ (m : (ℓ : Loc Cert.BFwd.nD Cert.BFwd.τ Cert.BFwd.sig) → Buf (Elt Bits) ℓ) (g : Dev Cert.BFwd.nD → PrngReg), Pre_BFwd m →
    θ_run (Cert.BFwd.defs (F := Bits)) (onTc (τ := Cert.BFwd.τ) (Cert.BFwd.main (F := Bits))) ⟨m, fun _ => 0, g⟩ (fun r => (∀ c : Dev Cert.BFwd.nD,
      r.2.mem ((c.tc : Thread Cert.BFwd.nD Cert.BFwd.τ).loc Cert.BFwd.main_arg0) = m ((c.tc : Thread Cert.BFwd.nD Cert.BFwd.τ).loc Cert.BFwd.main_arg0)
      ∧ r.2.mem ((c.tc : Thread Cert.BFwd.nD Cert.BFwd.τ).loc Cert.BFwd.main_arg1) = m ((c.tc : Thread Cert.BFwd.nD Cert.BFwd.τ).loc Cert.BFwd.main_arg1)
      ∧ r.2.mem ((c.tc : Thread Cert.BFwd.nD Cert.BFwd.τ).loc Cert.BFwd.main_arg2) = m ((c.tc : Thread Cert.BFwd.nD Cert.BFwd.τ).loc Cert.BFwd.main_arg2)
      ∧ r.2.mem ((c.tc : Thread Cert.BFwd.nD Cert.BFwd.τ).loc Cert.BFwd.main_arg3) = m ((c.tc : Thread Cert.BFwd.nD Cert.BFwd.τ).loc Cert.BFwd.main_arg3)
      ∧ r.2.mem ((c.tc : Thread Cert.BFwd.nD Cert.BFwd.τ).loc Cert.BFwd.main_arg4) = m ((c.tc : Thread Cert.BFwd.nD Cert.BFwd.τ).loc Cert.BFwd.main_arg4)
      ∧ r.2.mem ((c.tc : Thread Cert.BFwd.nD Cert.BFwd.τ).loc Cert.BFwd.main_arg5) = m ((c.tc : Thread Cert.BFwd.nD Cert.BFwd.τ).loc Cert.BFwd.main_arg5)
      ∧ r.2.mem ((c.tc : Thread Cert.BFwd.nD Cert.BFwd.τ).loc Cert.BFwd.main_arg6) = m ((c.tc : Thread Cert.BFwd.nD Cert.BFwd.τ).loc Cert.BFwd.main_arg6))
      ∧ r.2.sem = fun _ => 0)

def quiescent_BFwdIdeal [hBFwdIdeal : Cert.BFwdIdeal.Facts] : Prop :=
  ∀ (m : (ℓ : Loc Cert.BFwdIdeal.nD Cert.BFwdIdeal.τ Cert.BFwdIdeal.sig) → Buf (Elt Ideal) ℓ) (g : Dev Cert.BFwdIdeal.nD → PrngReg), Pre_BFwdIdeal m →
    θ_run (Cert.BFwdIdeal.defs (F := Ideal)) (onTc (τ := Cert.BFwdIdeal.τ) (Cert.BFwdIdeal.main (F := Ideal))) ⟨m, fun _ => 0, g⟩ (fun r => (∀ c : Dev Cert.BFwdIdeal.nD,
      r.2.mem ((c.tc : Thread Cert.BFwdIdeal.nD Cert.BFwdIdeal.τ).loc Cert.BFwdIdeal.main_arg0) = m ((c.tc : Thread Cert.BFwdIdeal.nD Cert.BFwdIdeal.τ).loc Cert.BFwdIdeal.main_arg0)
      ∧ r.2.mem ((c.tc : Thread Cert.BFwdIdeal.nD Cert.BFwdIdeal.τ).loc Cert.BFwdIdeal.main_arg1) = m ((c.tc : Thread Cert.BFwdIdeal.nD Cert.BFwdIdeal.τ).loc Cert.BFwdIdeal.main_arg1)
      ∧ r.2.mem ((c.tc : Thread Cert.BFwdIdeal.nD Cert.BFwdIdeal.τ).loc Cert.BFwdIdeal.main_arg2) = m ((c.tc : Thread Cert.BFwdIdeal.nD Cert.BFwdIdeal.τ).loc Cert.BFwdIdeal.main_arg2)
      ∧ r.2.mem ((c.tc : Thread Cert.BFwdIdeal.nD Cert.BFwdIdeal.τ).loc Cert.BFwdIdeal.main_arg3) = m ((c.tc : Thread Cert.BFwdIdeal.nD Cert.BFwdIdeal.τ).loc Cert.BFwdIdeal.main_arg3)
      ∧ r.2.mem ((c.tc : Thread Cert.BFwdIdeal.nD Cert.BFwdIdeal.τ).loc Cert.BFwdIdeal.main_arg4) = m ((c.tc : Thread Cert.BFwdIdeal.nD Cert.BFwdIdeal.τ).loc Cert.BFwdIdeal.main_arg4)
      ∧ r.2.mem ((c.tc : Thread Cert.BFwdIdeal.nD Cert.BFwdIdeal.τ).loc Cert.BFwdIdeal.main_arg5) = m ((c.tc : Thread Cert.BFwdIdeal.nD Cert.BFwdIdeal.τ).loc Cert.BFwdIdeal.main_arg5)
      ∧ r.2.mem ((c.tc : Thread Cert.BFwdIdeal.nD Cert.BFwdIdeal.τ).loc Cert.BFwdIdeal.main_arg6) = m ((c.tc : Thread Cert.BFwdIdeal.nD Cert.BFwdIdeal.τ).loc Cert.BFwdIdeal.main_arg6))
      ∧ r.2.sem = fun _ => 0)

def quiescent_BFwdIdeal_pre_b_fwd_finite [hBFwdIdeal : Cert.BFwdIdeal.Facts] [hPre_b_fwd_finite : Cert.Pre_b_fwd_finite.Facts] : Prop :=
  ∀ (m : (ℓ : Loc Cert.BFwdIdeal.nD Cert.BFwdIdeal.τ Cert.BFwdIdeal.sig) → Buf (Elt Ideal) ℓ) (g : Dev Cert.BFwdIdeal.nD → PrngReg), Pre_BFwdIdeal_b_fwd_finite m →
    θ_run (Cert.BFwdIdeal.defs (F := Ideal)) (onTc (τ := Cert.BFwdIdeal.τ) (Cert.BFwdIdeal.main (F := Ideal))) ⟨m, fun _ => 0, g⟩ (fun r => (∀ c : Dev Cert.BFwdIdeal.nD,
      r.2.mem ((c.tc : Thread Cert.BFwdIdeal.nD Cert.BFwdIdeal.τ).loc Cert.BFwdIdeal.main_arg0) = m ((c.tc : Thread Cert.BFwdIdeal.nD Cert.BFwdIdeal.τ).loc Cert.BFwdIdeal.main_arg0)
      ∧ r.2.mem ((c.tc : Thread Cert.BFwdIdeal.nD Cert.BFwdIdeal.τ).loc Cert.BFwdIdeal.main_arg1) = m ((c.tc : Thread Cert.BFwdIdeal.nD Cert.BFwdIdeal.τ).loc Cert.BFwdIdeal.main_arg1)
      ∧ r.2.mem ((c.tc : Thread Cert.BFwdIdeal.nD Cert.BFwdIdeal.τ).loc Cert.BFwdIdeal.main_arg2) = m ((c.tc : Thread Cert.BFwdIdeal.nD Cert.BFwdIdeal.τ).loc Cert.BFwdIdeal.main_arg2)
      ∧ r.2.mem ((c.tc : Thread Cert.BFwdIdeal.nD Cert.BFwdIdeal.τ).loc Cert.BFwdIdeal.main_arg3) = m ((c.tc : Thread Cert.BFwdIdeal.nD Cert.BFwdIdeal.τ).loc Cert.BFwdIdeal.main_arg3)
      ∧ r.2.mem ((c.tc : Thread Cert.BFwdIdeal.nD Cert.BFwdIdeal.τ).loc Cert.BFwdIdeal.main_arg4) = m ((c.tc : Thread Cert.BFwdIdeal.nD Cert.BFwdIdeal.τ).loc Cert.BFwdIdeal.main_arg4)
      ∧ r.2.mem ((c.tc : Thread Cert.BFwdIdeal.nD Cert.BFwdIdeal.τ).loc Cert.BFwdIdeal.main_arg5) = m ((c.tc : Thread Cert.BFwdIdeal.nD Cert.BFwdIdeal.τ).loc Cert.BFwdIdeal.main_arg5)
      ∧ r.2.mem ((c.tc : Thread Cert.BFwdIdeal.nD Cert.BFwdIdeal.τ).loc Cert.BFwdIdeal.main_arg6) = m ((c.tc : Thread Cert.BFwdIdeal.nD Cert.BFwdIdeal.τ).loc Cert.BFwdIdeal.main_arg6))
      ∧ r.2.sem = fun _ => 0)

def quiescent_BFwdRefIdeal [hBFwdRefIdeal : Cert.BFwdRefIdeal.Facts] : Prop :=
  ∀ (m : (ℓ : Loc Cert.BFwdRefIdeal.nD Cert.BFwdRefIdeal.τ Cert.BFwdRefIdeal.sig) → Buf (Elt Ideal) ℓ) (g : Dev Cert.BFwdRefIdeal.nD → PrngReg), Pre_BFwdRefIdeal m →
    θ_run (Cert.BFwdRefIdeal.defs (F := Ideal)) (onTc (τ := Cert.BFwdRefIdeal.τ) (Cert.BFwdRefIdeal.main (F := Ideal))) ⟨m, fun _ => 0, g⟩ (fun r => (∀ c : Dev Cert.BFwdRefIdeal.nD,
      r.2.mem ((c.tc : Thread Cert.BFwdRefIdeal.nD Cert.BFwdRefIdeal.τ).loc Cert.BFwdRefIdeal.main_arg0) = m ((c.tc : Thread Cert.BFwdRefIdeal.nD Cert.BFwdRefIdeal.τ).loc Cert.BFwdRefIdeal.main_arg0)
      ∧ r.2.mem ((c.tc : Thread Cert.BFwdRefIdeal.nD Cert.BFwdRefIdeal.τ).loc Cert.BFwdRefIdeal.main_arg1) = m ((c.tc : Thread Cert.BFwdRefIdeal.nD Cert.BFwdRefIdeal.τ).loc Cert.BFwdRefIdeal.main_arg1)
      ∧ r.2.mem ((c.tc : Thread Cert.BFwdRefIdeal.nD Cert.BFwdRefIdeal.τ).loc Cert.BFwdRefIdeal.main_arg2) = m ((c.tc : Thread Cert.BFwdRefIdeal.nD Cert.BFwdRefIdeal.τ).loc Cert.BFwdRefIdeal.main_arg2)
      ∧ r.2.mem ((c.tc : Thread Cert.BFwdRefIdeal.nD Cert.BFwdRefIdeal.τ).loc Cert.BFwdRefIdeal.main_arg3) = m ((c.tc : Thread Cert.BFwdRefIdeal.nD Cert.BFwdRefIdeal.τ).loc Cert.BFwdRefIdeal.main_arg3)
      ∧ r.2.mem ((c.tc : Thread Cert.BFwdRefIdeal.nD Cert.BFwdRefIdeal.τ).loc Cert.BFwdRefIdeal.main_arg4) = m ((c.tc : Thread Cert.BFwdRefIdeal.nD Cert.BFwdRefIdeal.τ).loc Cert.BFwdRefIdeal.main_arg4)
      ∧ r.2.mem ((c.tc : Thread Cert.BFwdRefIdeal.nD Cert.BFwdRefIdeal.τ).loc Cert.BFwdRefIdeal.main_arg5) = m ((c.tc : Thread Cert.BFwdRefIdeal.nD Cert.BFwdRefIdeal.τ).loc Cert.BFwdRefIdeal.main_arg5)
      ∧ r.2.mem ((c.tc : Thread Cert.BFwdRefIdeal.nD Cert.BFwdRefIdeal.τ).loc Cert.BFwdRefIdeal.main_arg6) = m ((c.tc : Thread Cert.BFwdRefIdeal.nD Cert.BFwdRefIdeal.τ).loc Cert.BFwdRefIdeal.main_arg6))
      ∧ r.2.sem = fun _ => 0)

def quiescent_BFwdRefIdeal_pre_b_fwd_finite [hBFwdRefIdeal : Cert.BFwdRefIdeal.Facts] [hPre_b_fwd_finite : Cert.Pre_b_fwd_finite.Facts] : Prop :=
  ∀ (m : (ℓ : Loc Cert.BFwdRefIdeal.nD Cert.BFwdRefIdeal.τ Cert.BFwdRefIdeal.sig) → Buf (Elt Ideal) ℓ) (g : Dev Cert.BFwdRefIdeal.nD → PrngReg), Pre_BFwdRefIdeal_b_fwd_finite m →
    θ_run (Cert.BFwdRefIdeal.defs (F := Ideal)) (onTc (τ := Cert.BFwdRefIdeal.τ) (Cert.BFwdRefIdeal.main (F := Ideal))) ⟨m, fun _ => 0, g⟩ (fun r => (∀ c : Dev Cert.BFwdRefIdeal.nD,
      r.2.mem ((c.tc : Thread Cert.BFwdRefIdeal.nD Cert.BFwdRefIdeal.τ).loc Cert.BFwdRefIdeal.main_arg0) = m ((c.tc : Thread Cert.BFwdRefIdeal.nD Cert.BFwdRefIdeal.τ).loc Cert.BFwdRefIdeal.main_arg0)
      ∧ r.2.mem ((c.tc : Thread Cert.BFwdRefIdeal.nD Cert.BFwdRefIdeal.τ).loc Cert.BFwdRefIdeal.main_arg1) = m ((c.tc : Thread Cert.BFwdRefIdeal.nD Cert.BFwdRefIdeal.τ).loc Cert.BFwdRefIdeal.main_arg1)
      ∧ r.2.mem ((c.tc : Thread Cert.BFwdRefIdeal.nD Cert.BFwdRefIdeal.τ).loc Cert.BFwdRefIdeal.main_arg2) = m ((c.tc : Thread Cert.BFwdRefIdeal.nD Cert.BFwdRefIdeal.τ).loc Cert.BFwdRefIdeal.main_arg2)
      ∧ r.2.mem ((c.tc : Thread Cert.BFwdRefIdeal.nD Cert.BFwdRefIdeal.τ).loc Cert.BFwdRefIdeal.main_arg3) = m ((c.tc : Thread Cert.BFwdRefIdeal.nD Cert.BFwdRefIdeal.τ).loc Cert.BFwdRefIdeal.main_arg3)
      ∧ r.2.mem ((c.tc : Thread Cert.BFwdRefIdeal.nD Cert.BFwdRefIdeal.τ).loc Cert.BFwdRefIdeal.main_arg4) = m ((c.tc : Thread Cert.BFwdRefIdeal.nD Cert.BFwdRefIdeal.τ).loc Cert.BFwdRefIdeal.main_arg4)
      ∧ r.2.mem ((c.tc : Thread Cert.BFwdRefIdeal.nD Cert.BFwdRefIdeal.τ).loc Cert.BFwdRefIdeal.main_arg5) = m ((c.tc : Thread Cert.BFwdRefIdeal.nD Cert.BFwdRefIdeal.τ).loc Cert.BFwdRefIdeal.main_arg5)
      ∧ r.2.mem ((c.tc : Thread Cert.BFwdRefIdeal.nD Cert.BFwdRefIdeal.τ).loc Cert.BFwdRefIdeal.main_arg6) = m ((c.tc : Thread Cert.BFwdRefIdeal.nD Cert.BFwdRefIdeal.τ).loc Cert.BFwdRefIdeal.main_arg6))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdIdeal_pre_ffn_fwd_finite [hFfnFwdIdeal : Cert.FfnFwdIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_ffn_fwd_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnFwdRefIdeal_pre_ffn_fwd_finite [hFfnFwdRefIdeal : Cert.FfnFwdRefIdeal.Facts] [hPre_ffn_fwd_finite : Cert.Pre_ffn_fwd_finite.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_ffn_fwd_finite m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidIdeal_pre_ffn_mid_finite [hFfnMidIdeal : Cert.FfnMidIdeal.Facts] [hPre_ffn_mid_finite : Cert.Pre_ffn_mid_finite.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_ffn_mid_finite m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnMidRefIdeal_pre_ffn_mid_finite [hFfnMidRefIdeal : Cert.FfnMidRefIdeal.Facts] [hPre_ffn_mid_finite : Cert.Pre_ffn_mid_finite.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_ffn_mid_finite m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_PairSum [hPairSum : Cert.PairSum.Facts] [hPre_core_in_range : Cert.Pre_core_in_range.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_core_in_range : Cert.Pre_core_in_range.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_core_in_range [hPairSumRefIdeal : Cert.PairSumRefIdeal.Facts] [hPre_core_in_range : Cert.Pre_core_in_range.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_core_in_range m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def preserves_AIn_AInIdeal : Prop :=
  True

def algebraic_AInIdeal_AInRefIdeal_pre_a_in_finite [hAInIdeal : Cert.AInIdeal.Facts] [hAInRefIdeal : Cert.AInRefIdeal.Facts] [hPre_a_in_finite : Cert.Pre_a_in_finite.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal_a_in_finite m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)
      ∧ m' ((c.tc : Thread Cert.AInRefIdeal.nD Cert.AInRefIdeal.τ).loc Cert.AInRefIdeal.main_arg3) = m ((c.tc : Thread Cert.AInIdeal.nD Cert.AInIdeal.τ).loc Cert.AInIdeal.main_arg3)
      ∧ m' ((c.tc : Thread Cert.AInRefIdeal.nD Cert.AInRefIdeal.τ).loc Cert.AInRefIdeal.main_arg4) = m ((c.tc : Thread Cert.AInIdeal.nD Cert.AInIdeal.τ).loc Cert.AInIdeal.main_arg4)) →
    ∃ (v0 : (c : Dev Cert.AInIdeal.nD) → Buf (Elt Ideal) ((c.tc : Thread Cert.AInIdeal.nD Cert.AInIdeal.τ).loc Cert.AInIdeal.main_v7_0)) (v1 : (c : Dev Cert.AInIdeal.nD) → Buf (Elt Ideal) ((c.tc : Thread Cert.AInIdeal.nD Cert.AInIdeal.τ).loc Cert.AInIdeal.main_v7_1)) (v2 : (c : Dev Cert.AInIdeal.nD) → Buf (Elt Ideal) ((c.tc : Thread Cert.AInIdeal.nD Cert.AInIdeal.τ).loc Cert.AInIdeal.main_v7_2)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v7_0) = v0 c
          ∧ r.2.mem ((c.tc : Thread Cert.AInIdeal.nD Cert.AInIdeal.τ).loc Cert.AInIdeal.main_v7_1) = v1 c
          ∧ r.2.mem ((c.tc : Thread Cert.AInIdeal.nD Cert.AInIdeal.τ).loc Cert.AInIdeal.main_v7_2) = v2 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
          ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
          ∧ r.2.mem ((c.tc : Thread Cert.AInIdeal.nD Cert.AInIdeal.τ).loc Cert.AInIdeal.main_arg4) = m ((c.tc : Thread Cert.AInIdeal.nD Cert.AInIdeal.τ).loc Cert.AInIdeal.main_arg4))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v40) = v0 c
          ∧ r.2.mem ((c.tc : Thread Cert.AInRefIdeal.nD Cert.AInRefIdeal.τ).loc Cert.AInRefIdeal.main_v42) = v1 c
          ∧ r.2.mem ((c.tc : Thread Cert.AInRefIdeal.nD Cert.AInRefIdeal.τ).loc Cert.AInRefIdeal.main_v43) = v2 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2)
          ∧ r.2.mem ((c.tc : Thread Cert.AInRefIdeal.nD Cert.AInRefIdeal.τ).loc Cert.AInRefIdeal.main_arg3) = m' ((c.tc : Thread Cert.AInRefIdeal.nD Cert.AInRefIdeal.τ).loc Cert.AInRefIdeal.main_arg3)
          ∧ r.2.mem ((c.tc : Thread Cert.AInRefIdeal.nD Cert.AInRefIdeal.τ).loc Cert.AInRefIdeal.main_arg4) = m' ((c.tc : Thread Cert.AInRefIdeal.nD Cert.AInRefIdeal.τ).loc Cert.AInRefIdeal.main_arg4))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v11_0)) (v1 : (c : Dev Cert.FfnInIdeal.nD) → Buf (Elt Ideal) ((c.tc : Thread Cert.FfnInIdeal.nD Cert.FfnInIdeal.τ).loc Cert.FfnInIdeal.main_v11_1)) (v2 : (c : Dev Cert.FfnInIdeal.nD) → Buf (Elt Ideal) ((c.tc : Thread Cert.FfnInIdeal.nD Cert.FfnInIdeal.τ).loc Cert.FfnInIdeal.main_v11_2)) (v3 : (c : Dev Cert.FfnInIdeal.nD) → Buf (Elt Ideal) ((c.tc : Thread Cert.FfnInIdeal.nD Cert.FfnInIdeal.τ).loc Cert.FfnInIdeal.main_v11_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v11_0) = v0 c
          ∧ r.2.mem ((c.tc : Thread Cert.FfnInIdeal.nD Cert.FfnInIdeal.τ).loc Cert.FfnInIdeal.main_v11_1) = v1 c
          ∧ r.2.mem ((c.tc : Thread Cert.FfnInIdeal.nD Cert.FfnInIdeal.τ).loc Cert.FfnInIdeal.main_v11_2) = v2 c
          ∧ r.2.mem ((c.tc : Thread Cert.FfnInIdeal.nD Cert.FfnInIdeal.τ).loc Cert.FfnInIdeal.main_v11_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v45) = v0 c
          ∧ r.2.mem ((c.tc : Thread Cert.FfnInRefIdeal.nD Cert.FfnInRefIdeal.τ).loc Cert.FfnInRefIdeal.main_v47) = v1 c
          ∧ r.2.mem ((c.tc : Thread Cert.FfnInRefIdeal.nD Cert.FfnInRefIdeal.τ).loc Cert.FfnInRefIdeal.main_v49) = v2 c
          ∧ r.2.mem ((c.tc : Thread Cert.FfnInRefIdeal.nD Cert.FfnInRefIdeal.τ).loc Cert.FfnInRefIdeal.main_v50) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_FfnHidden_FfnHiddenIdeal : Prop :=
  True

def algebraic_FfnHiddenIdeal_FfnHiddenRefIdeal_pre_ffn_hidden_finite [hFfnHiddenIdeal : Cert.FfnHiddenIdeal.Facts] [hFfnHiddenRefIdeal : Cert.FfnHiddenRefIdeal.Facts] [hPre_ffn_hidden_finite : Cert.Pre_ffn_hidden_finite.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg)
    (m' : (ℓ : Loc Cert.FfnHiddenRefIdeal.nD Cert.FfnHiddenRefIdeal.τ Cert.FfnHiddenRefIdeal.sig) → Buf (Elt Ideal) ℓ) (g' : Dev Cert.FfnHiddenRefIdeal.nD → PrngReg), Pre_FfnHiddenIdeal_ffn_hidden_finite m →
    (∀ c : Dev Cert.FfnHiddenIdeal.nD,
      m' ((c.tc : Thread Cert.FfnHiddenRefIdeal.nD Cert.FfnHiddenRefIdeal.τ).loc Cert.FfnHiddenRefIdeal.main_arg0) = m ((c.tc : Thread Cert.FfnHiddenIdeal.nD Cert.FfnHiddenIdeal.τ).loc Cert.FfnHiddenIdeal.main_arg0)
      ∧ m' ((c.tc : Thread Cert.FfnHiddenRefIdeal.nD Cert.FfnHiddenRefIdeal.τ).loc Cert.FfnHiddenRefIdeal.main_arg1) = m ((c.tc : Thread Cert.FfnHiddenIdeal.nD Cert.FfnHiddenIdeal.τ).loc Cert.FfnHiddenIdeal.main_arg1)
      ∧ m' ((c.tc : Thread Cert.FfnHiddenRefIdeal.nD Cert.FfnHiddenRefIdeal.τ).loc Cert.FfnHiddenRefIdeal.main_arg2) = m ((c.tc : Thread Cert.FfnHiddenIdeal.nD Cert.FfnHiddenIdeal.τ).loc Cert.FfnHiddenIdeal.main_arg2)
      ∧ m' ((c.tc : Thread Cert.FfnHiddenRefIdeal.nD Cert.FfnHiddenRefIdeal.τ).loc Cert.FfnHiddenRefIdeal.main_arg3) = m ((c.tc : Thread Cert.FfnHiddenIdeal.nD Cert.FfnHiddenIdeal.τ).loc Cert.FfnHiddenIdeal.main_arg3)
      ∧ m' ((c.tc : Thread Cert.FfnHiddenRefIdeal.nD Cert.FfnHiddenRefIdeal.τ).loc Cert.FfnHiddenRefIdeal.main_arg4) = m ((c.tc : Thread Cert.FfnHiddenIdeal.nD Cert.FfnHiddenIdeal.τ).loc Cert.FfnHiddenIdeal.main_arg4)) →
    ∃ (v0 : (c : Dev Cert.FfnHiddenIdeal.nD) → Buf (Elt Ideal) ((c.tc : Thread Cert.FfnHiddenIdeal.nD Cert.FfnHiddenIdeal.τ).loc Cert.FfnHiddenIdeal.main_v25_0)) (v1 : (c : Dev Cert.FfnHiddenIdeal.nD) → Buf (Elt Ideal) ((c.tc : Thread Cert.FfnHiddenIdeal.nD Cert.FfnHiddenIdeal.τ).loc Cert.FfnHiddenIdeal.main_v25_1)) (v2 : (c : Dev Cert.FfnHiddenIdeal.nD) → Buf (Elt Ideal) ((c.tc : Thread Cert.FfnHiddenIdeal.nD Cert.FfnHiddenIdeal.τ).loc Cert.FfnHiddenIdeal.main_v25_2)) (v3 : (c : Dev Cert.FfnHiddenIdeal.nD) → Buf (Elt Ideal) ((c.tc : Thread Cert.FfnHiddenIdeal.nD Cert.FfnHiddenIdeal.τ).loc Cert.FfnHiddenIdeal.main_v25_3)),
      θ_run (Cert.FfnHiddenIdeal.defs (F := Ideal)) (onTc (τ := Cert.FfnHiddenIdeal.τ) (Cert.FfnHiddenIdeal.main (F := Ideal))) ⟨m, fun _ => 0, g⟩ (fun r => ∀ c : Dev Cert.FfnHiddenIdeal.nD,
          r.2.mem ((c.tc : Thread Cert.FfnHiddenIdeal.nD Cert.FfnHiddenIdeal.τ).loc Cert.FfnHiddenIdeal.main_v25_0) = v0 c
          ∧ r.2.mem ((c.tc : Thread Cert.FfnHiddenIdeal.nD Cert.FfnHiddenIdeal.τ).loc Cert.FfnHiddenIdeal.main_v25_1) = v1 c
          ∧ r.2.mem ((c.tc : Thread Cert.FfnHiddenIdeal.nD Cert.FfnHiddenIdeal.τ).loc Cert.FfnHiddenIdeal.main_v25_2) = v2 c
          ∧ r.2.mem ((c.tc : Thread Cert.FfnHiddenIdeal.nD Cert.FfnHiddenIdeal.τ).loc Cert.FfnHiddenIdeal.main_v25_3) = v3 c
          ∧ r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
          ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
          ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
          ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3)
          ∧ r.2.mem ((c.tc : Thread Cert.FfnHiddenIdeal.nD Cert.FfnHiddenIdeal.τ).loc Cert.FfnHiddenIdeal.main_arg4) = m ((c.tc : Thread Cert.FfnHiddenIdeal.nD Cert.FfnHiddenIdeal.τ).loc Cert.FfnHiddenIdeal.main_arg4))
      ∧ θ_run (Cert.FfnHiddenRefIdeal.defs (F := Ideal)) (onTc (τ := Cert.FfnHiddenRefIdeal.τ) (Cert.FfnHiddenRefIdeal.main (F := Ideal))) ⟨m', fun _ => 0, g'⟩ (fun r => ∀ c : Dev Cert.FfnHiddenRefIdeal.nD,
          r.2.mem ((c.tc : Thread Cert.FfnHiddenRefIdeal.nD Cert.FfnHiddenRefIdeal.τ).loc Cert.FfnHiddenRefIdeal.main_v46) = v0 c
          ∧ r.2.mem ((c.tc : Thread Cert.FfnHiddenRefIdeal.nD Cert.FfnHiddenRefIdeal.τ).loc Cert.FfnHiddenRefIdeal.main_v48) = v1 c
          ∧ r.2.mem ((c.tc : Thread Cert.FfnHiddenRefIdeal.nD Cert.FfnHiddenRefIdeal.τ).loc Cert.FfnHiddenRefIdeal.main_v49) = v2 c
          ∧ r.2.mem ((c.tc : Thread Cert.FfnHiddenRefIdeal.nD Cert.FfnHiddenRefIdeal.τ).loc Cert.FfnHiddenRefIdeal.main_v50) = v3 c
          ∧ r.2.mem ((c.tc : Thread Cert.FfnHiddenRefIdeal.nD Cert.FfnHiddenRefIdeal.τ).loc Cert.FfnHiddenRefIdeal.main_arg0) = m' ((c.tc : Thread Cert.FfnHiddenRefIdeal.nD Cert.FfnHiddenRefIdeal.τ).loc Cert.FfnHiddenRefIdeal.main_arg0)
          ∧ r.2.mem ((c.tc : Thread Cert.FfnHiddenRefIdeal.nD Cert.FfnHiddenRefIdeal.τ).loc Cert.FfnHiddenRefIdeal.main_arg1) = m' ((c.tc : Thread Cert.FfnHiddenRefIdeal.nD Cert.FfnHiddenRefIdeal.τ).loc Cert.FfnHiddenRefIdeal.main_arg1)
          ∧ r.2.mem ((c.tc : Thread Cert.FfnHiddenRefIdeal.nD Cert.FfnHiddenRefIdeal.τ).loc Cert.FfnHiddenRefIdeal.main_arg2) = m' ((c.tc : Thread Cert.FfnHiddenRefIdeal.nD Cert.FfnHiddenRefIdeal.τ).loc Cert.FfnHiddenRefIdeal.main_arg2)
          ∧ r.2.mem ((c.tc : Thread Cert.FfnHiddenRefIdeal.nD Cert.FfnHiddenRefIdeal.τ).loc Cert.FfnHiddenRefIdeal.main_arg3) = m' ((c.tc : Thread Cert.FfnHiddenRefIdeal.nD Cert.FfnHiddenRefIdeal.τ).loc Cert.FfnHiddenRefIdeal.main_arg3)
          ∧ r.2.mem ((c.tc : Thread Cert.FfnHiddenRefIdeal.nD Cert.FfnHiddenRefIdeal.τ).loc Cert.FfnHiddenRefIdeal.main_arg4) = m' ((c.tc : Thread Cert.FfnHiddenRefIdeal.nD Cert.FfnHiddenRefIdeal.τ).loc Cert.FfnHiddenRefIdeal.main_arg4))

def preserves_AHidden_AHiddenIdeal : Prop :=
  True

def algebraic_AHiddenIdeal_AHiddenRefIdeal_pre_a_hidden_finite [hAHiddenIdeal : Cert.AHiddenIdeal.Facts] [hAHiddenRefIdeal : Cert.AHiddenRefIdeal.Facts] [hPre_a_hidden_finite : Cert.Pre_a_hidden_finite.Facts] : Prop :=
  ∀ (m : (ℓ : Loc Cert.AHiddenIdeal.nD Cert.AHiddenIdeal.τ Cert.AHiddenIdeal.sig) → Buf (Elt Ideal) ℓ) (g : Dev Cert.AHiddenIdeal.nD → PrngReg)
    (m' : (ℓ : Loc Cert.AHiddenRefIdeal.nD Cert.AHiddenRefIdeal.τ Cert.AHiddenRefIdeal.sig) → Buf (Elt Ideal) ℓ) (g' : Dev Cert.AHiddenRefIdeal.nD → PrngReg), Pre_AHiddenIdeal_a_hidden_finite m →
    (∀ c : Dev Cert.AHiddenIdeal.nD,
      m' ((c.tc : Thread Cert.AHiddenRefIdeal.nD Cert.AHiddenRefIdeal.τ).loc Cert.AHiddenRefIdeal.main_arg0) = m ((c.tc : Thread Cert.AHiddenIdeal.nD Cert.AHiddenIdeal.τ).loc Cert.AHiddenIdeal.main_arg0)
      ∧ m' ((c.tc : Thread Cert.AHiddenRefIdeal.nD Cert.AHiddenRefIdeal.τ).loc Cert.AHiddenRefIdeal.main_arg1) = m ((c.tc : Thread Cert.AHiddenIdeal.nD Cert.AHiddenIdeal.τ).loc Cert.AHiddenIdeal.main_arg1)
      ∧ m' ((c.tc : Thread Cert.AHiddenRefIdeal.nD Cert.AHiddenRefIdeal.τ).loc Cert.AHiddenRefIdeal.main_arg2) = m ((c.tc : Thread Cert.AHiddenIdeal.nD Cert.AHiddenIdeal.τ).loc Cert.AHiddenIdeal.main_arg2)
      ∧ m' ((c.tc : Thread Cert.AHiddenRefIdeal.nD Cert.AHiddenRefIdeal.τ).loc Cert.AHiddenRefIdeal.main_arg3) = m ((c.tc : Thread Cert.AHiddenIdeal.nD Cert.AHiddenIdeal.τ).loc Cert.AHiddenIdeal.main_arg3)
      ∧ m' ((c.tc : Thread Cert.AHiddenRefIdeal.nD Cert.AHiddenRefIdeal.τ).loc Cert.AHiddenRefIdeal.main_arg4) = m ((c.tc : Thread Cert.AHiddenIdeal.nD Cert.AHiddenIdeal.τ).loc Cert.AHiddenIdeal.main_arg4)
      ∧ m' ((c.tc : Thread Cert.AHiddenRefIdeal.nD Cert.AHiddenRefIdeal.τ).loc Cert.AHiddenRefIdeal.main_arg5) = m ((c.tc : Thread Cert.AHiddenIdeal.nD Cert.AHiddenIdeal.τ).loc Cert.AHiddenIdeal.main_arg5)
      ∧ m' ((c.tc : Thread Cert.AHiddenRefIdeal.nD Cert.AHiddenRefIdeal.τ).loc Cert.AHiddenRefIdeal.main_arg6) = m ((c.tc : Thread Cert.AHiddenIdeal.nD Cert.AHiddenIdeal.τ).loc Cert.AHiddenIdeal.main_arg6)
      ∧ m' ((c.tc : Thread Cert.AHiddenRefIdeal.nD Cert.AHiddenRefIdeal.τ).loc Cert.AHiddenRefIdeal.main_arg7) = m ((c.tc : Thread Cert.AHiddenIdeal.nD Cert.AHiddenIdeal.τ).loc Cert.AHiddenIdeal.main_arg7)) →
    ∃ (v0 : (c : Dev Cert.AHiddenIdeal.nD) → Buf (Elt Ideal) ((c.tc : Thread Cert.AHiddenIdeal.nD Cert.AHiddenIdeal.τ).loc Cert.AHiddenIdeal.main_v83_0)) (v1 : (c : Dev Cert.AHiddenIdeal.nD) → Buf (Elt Ideal) ((c.tc : Thread Cert.AHiddenIdeal.nD Cert.AHiddenIdeal.τ).loc Cert.AHiddenIdeal.main_v83_1)) (v2 : (c : Dev Cert.AHiddenIdeal.nD) → Buf (Elt Ideal) ((c.tc : Thread Cert.AHiddenIdeal.nD Cert.AHiddenIdeal.τ).loc Cert.AHiddenIdeal.main_v83_2)) (v3 : (c : Dev Cert.AHiddenIdeal.nD) → Buf (Elt Ideal) ((c.tc : Thread Cert.AHiddenIdeal.nD Cert.AHiddenIdeal.τ).loc Cert.AHiddenIdeal.main_v83_3)) (v4 : (c : Dev Cert.AHiddenIdeal.nD) → Buf (Elt Ideal) ((c.tc : Thread Cert.AHiddenIdeal.nD Cert.AHiddenIdeal.τ).loc Cert.AHiddenIdeal.main_v83_4)) (v5 : (c : Dev Cert.AHiddenIdeal.nD) → Buf (Elt Ideal) ((c.tc : Thread Cert.AHiddenIdeal.nD Cert.AHiddenIdeal.τ).loc Cert.AHiddenIdeal.main_v83_5)) (v6 : (c : Dev Cert.AHiddenIdeal.nD) → Buf (Elt Ideal) ((c.tc : Thread Cert.AHiddenIdeal.nD Cert.AHiddenIdeal.τ).loc Cert.AHiddenIdeal.main_v83_6)),
      θ_run (Cert.AHiddenIdeal.defs (F := Ideal)) (onTc (τ := Cert.AHiddenIdeal.τ) (Cert.AHiddenIdeal.main (F := Ideal))) ⟨m, fun _ => 0, g⟩ (fun r => ∀ c : Dev Cert.AHiddenIdeal.nD,
          r.2.mem ((c.tc : Thread Cert.AHiddenIdeal.nD Cert.AHiddenIdeal.τ).loc Cert.AHiddenIdeal.main_v83_0) = v0 c
          ∧ r.2.mem ((c.tc : Thread Cert.AHiddenIdeal.nD Cert.AHiddenIdeal.τ).loc Cert.AHiddenIdeal.main_v83_1) = v1 c
          ∧ r.2.mem ((c.tc : Thread Cert.AHiddenIdeal.nD Cert.AHiddenIdeal.τ).loc Cert.AHiddenIdeal.main_v83_2) = v2 c
          ∧ r.2.mem ((c.tc : Thread Cert.AHiddenIdeal.nD Cert.AHiddenIdeal.τ).loc Cert.AHiddenIdeal.main_v83_3) = v3 c
          ∧ r.2.mem ((c.tc : Thread Cert.AHiddenIdeal.nD Cert.AHiddenIdeal.τ).loc Cert.AHiddenIdeal.main_v83_4) = v4 c
          ∧ r.2.mem ((c.tc : Thread Cert.AHiddenIdeal.nD Cert.AHiddenIdeal.τ).loc Cert.AHiddenIdeal.main_v83_5) = v5 c
          ∧ r.2.mem ((c.tc : Thread Cert.AHiddenIdeal.nD Cert.AHiddenIdeal.τ).loc Cert.AHiddenIdeal.main_v83_6) = v6 c
          ∧ r.2.mem ((c.tc : Thread Cert.AHiddenIdeal.nD Cert.AHiddenIdeal.τ).loc Cert.AHiddenIdeal.main_arg0) = m ((c.tc : Thread Cert.AHiddenIdeal.nD Cert.AHiddenIdeal.τ).loc Cert.AHiddenIdeal.main_arg0)
          ∧ r.2.mem ((c.tc : Thread Cert.AHiddenIdeal.nD Cert.AHiddenIdeal.τ).loc Cert.AHiddenIdeal.main_arg1) = m ((c.tc : Thread Cert.AHiddenIdeal.nD Cert.AHiddenIdeal.τ).loc Cert.AHiddenIdeal.main_arg1)
          ∧ r.2.mem ((c.tc : Thread Cert.AHiddenIdeal.nD Cert.AHiddenIdeal.τ).loc Cert.AHiddenIdeal.main_arg2) = m ((c.tc : Thread Cert.AHiddenIdeal.nD Cert.AHiddenIdeal.τ).loc Cert.AHiddenIdeal.main_arg2)
          ∧ r.2.mem ((c.tc : Thread Cert.AHiddenIdeal.nD Cert.AHiddenIdeal.τ).loc Cert.AHiddenIdeal.main_arg3) = m ((c.tc : Thread Cert.AHiddenIdeal.nD Cert.AHiddenIdeal.τ).loc Cert.AHiddenIdeal.main_arg3)
          ∧ r.2.mem ((c.tc : Thread Cert.AHiddenIdeal.nD Cert.AHiddenIdeal.τ).loc Cert.AHiddenIdeal.main_arg4) = m ((c.tc : Thread Cert.AHiddenIdeal.nD Cert.AHiddenIdeal.τ).loc Cert.AHiddenIdeal.main_arg4)
          ∧ r.2.mem ((c.tc : Thread Cert.AHiddenIdeal.nD Cert.AHiddenIdeal.τ).loc Cert.AHiddenIdeal.main_arg5) = m ((c.tc : Thread Cert.AHiddenIdeal.nD Cert.AHiddenIdeal.τ).loc Cert.AHiddenIdeal.main_arg5)
          ∧ r.2.mem ((c.tc : Thread Cert.AHiddenIdeal.nD Cert.AHiddenIdeal.τ).loc Cert.AHiddenIdeal.main_arg6) = m ((c.tc : Thread Cert.AHiddenIdeal.nD Cert.AHiddenIdeal.τ).loc Cert.AHiddenIdeal.main_arg6)
          ∧ r.2.mem ((c.tc : Thread Cert.AHiddenIdeal.nD Cert.AHiddenIdeal.τ).loc Cert.AHiddenIdeal.main_arg7) = m ((c.tc : Thread Cert.AHiddenIdeal.nD Cert.AHiddenIdeal.τ).loc Cert.AHiddenIdeal.main_arg7))
      ∧ θ_run (Cert.AHiddenRefIdeal.defs (F := Ideal)) (onTc (τ := Cert.AHiddenRefIdeal.τ) (Cert.AHiddenRefIdeal.main (F := Ideal))) ⟨m', fun _ => 0, g'⟩ (fun r => ∀ c : Dev Cert.AHiddenRefIdeal.nD,
          r.2.mem ((c.tc : Thread Cert.AHiddenRefIdeal.nD Cert.AHiddenRefIdeal.τ).loc Cert.AHiddenRefIdeal.main_v156) = v0 c
          ∧ r.2.mem ((c.tc : Thread Cert.AHiddenRefIdeal.nD Cert.AHiddenRefIdeal.τ).loc Cert.AHiddenRefIdeal.main_v157) = v1 c
          ∧ r.2.mem ((c.tc : Thread Cert.AHiddenRefIdeal.nD Cert.AHiddenRefIdeal.τ).loc Cert.AHiddenRefIdeal.main_v111) = v2 c
          ∧ r.2.mem ((c.tc : Thread Cert.AHiddenRefIdeal.nD Cert.AHiddenRefIdeal.τ).loc Cert.AHiddenRefIdeal.main_v158) = v3 c
          ∧ r.2.mem ((c.tc : Thread Cert.AHiddenRefIdeal.nD Cert.AHiddenRefIdeal.τ).loc Cert.AHiddenRefIdeal.main_v159) = v4 c
          ∧ r.2.mem ((c.tc : Thread Cert.AHiddenRefIdeal.nD Cert.AHiddenRefIdeal.τ).loc Cert.AHiddenRefIdeal.main_v160) = v5 c
          ∧ r.2.mem ((c.tc : Thread Cert.AHiddenRefIdeal.nD Cert.AHiddenRefIdeal.τ).loc Cert.AHiddenRefIdeal.main_v161) = v6 c
          ∧ r.2.mem ((c.tc : Thread Cert.AHiddenRefIdeal.nD Cert.AHiddenRefIdeal.τ).loc Cert.AHiddenRefIdeal.main_arg0) = m' ((c.tc : Thread Cert.AHiddenRefIdeal.nD Cert.AHiddenRefIdeal.τ).loc Cert.AHiddenRefIdeal.main_arg0)
          ∧ r.2.mem ((c.tc : Thread Cert.AHiddenRefIdeal.nD Cert.AHiddenRefIdeal.τ).loc Cert.AHiddenRefIdeal.main_arg1) = m' ((c.tc : Thread Cert.AHiddenRefIdeal.nD Cert.AHiddenRefIdeal.τ).loc Cert.AHiddenRefIdeal.main_arg1)
          ∧ r.2.mem ((c.tc : Thread Cert.AHiddenRefIdeal.nD Cert.AHiddenRefIdeal.τ).loc Cert.AHiddenRefIdeal.main_arg2) = m' ((c.tc : Thread Cert.AHiddenRefIdeal.nD Cert.AHiddenRefIdeal.τ).loc Cert.AHiddenRefIdeal.main_arg2)
          ∧ r.2.mem ((c.tc : Thread Cert.AHiddenRefIdeal.nD Cert.AHiddenRefIdeal.τ).loc Cert.AHiddenRefIdeal.main_arg3) = m' ((c.tc : Thread Cert.AHiddenRefIdeal.nD Cert.AHiddenRefIdeal.τ).loc Cert.AHiddenRefIdeal.main_arg3)
          ∧ r.2.mem ((c.tc : Thread Cert.AHiddenRefIdeal.nD Cert.AHiddenRefIdeal.τ).loc Cert.AHiddenRefIdeal.main_arg4) = m' ((c.tc : Thread Cert.AHiddenRefIdeal.nD Cert.AHiddenRefIdeal.τ).loc Cert.AHiddenRefIdeal.main_arg4)
          ∧ r.2.mem ((c.tc : Thread Cert.AHiddenRefIdeal.nD Cert.AHiddenRefIdeal.τ).loc Cert.AHiddenRefIdeal.main_arg5) = m' ((c.tc : Thread Cert.AHiddenRefIdeal.nD Cert.AHiddenRefIdeal.τ).loc Cert.AHiddenRefIdeal.main_arg5)
          ∧ r.2.mem ((c.tc : Thread Cert.AHiddenRefIdeal.nD Cert.AHiddenRefIdeal.τ).loc Cert.AHiddenRefIdeal.main_arg6) = m' ((c.tc : Thread Cert.AHiddenRefIdeal.nD Cert.AHiddenRefIdeal.τ).loc Cert.AHiddenRefIdeal.main_arg6)
          ∧ r.2.mem ((c.tc : Thread Cert.AHiddenRefIdeal.nD Cert.AHiddenRefIdeal.τ).loc Cert.AHiddenRefIdeal.main_arg7) = m' ((c.tc : Thread Cert.AHiddenRefIdeal.nD Cert.AHiddenRefIdeal.τ).loc Cert.AHiddenRefIdeal.main_arg7))

def preserves_BBwd_BBwdIdeal : Prop :=
  True

def algebraic_BBwdIdeal_BBwdRefIdeal_pre_b_finite [hBBwdIdeal : Cert.BBwdIdeal.Facts] [hBBwdRefIdeal : Cert.BBwdRefIdeal.Facts] [hPre_b_finite : Cert.Pre_b_finite.Facts] : Prop :=
  ∀ (m : (ℓ : Loc Cert.BBwdIdeal.nD Cert.BBwdIdeal.τ Cert.BBwdIdeal.sig) → Buf (Elt Ideal) ℓ) (g : Dev Cert.BBwdIdeal.nD → PrngReg)
    (m' : (ℓ : Loc Cert.BBwdRefIdeal.nD Cert.BBwdRefIdeal.τ Cert.BBwdRefIdeal.sig) → Buf (Elt Ideal) ℓ) (g' : Dev Cert.BBwdRefIdeal.nD → PrngReg), Pre_BBwdIdeal_b_finite m →
    (∀ c : Dev Cert.BBwdIdeal.nD,
      m' ((c.tc : Thread Cert.BBwdRefIdeal.nD Cert.BBwdRefIdeal.τ).loc Cert.BBwdRefIdeal.main_arg0) = m ((c.tc : Thread Cert.BBwdIdeal.nD Cert.BBwdIdeal.τ).loc Cert.BBwdIdeal.main_arg0)
      ∧ m' ((c.tc : Thread Cert.BBwdRefIdeal.nD Cert.BBwdRefIdeal.τ).loc Cert.BBwdRefIdeal.main_arg1) = m ((c.tc : Thread Cert.BBwdIdeal.nD Cert.BBwdIdeal.τ).loc Cert.BBwdIdeal.main_arg1)
      ∧ m' ((c.tc : Thread Cert.BBwdRefIdeal.nD Cert.BBwdRefIdeal.τ).loc Cert.BBwdRefIdeal.main_arg2) = m ((c.tc : Thread Cert.BBwdIdeal.nD Cert.BBwdIdeal.τ).loc Cert.BBwdIdeal.main_arg2)
      ∧ m' ((c.tc : Thread Cert.BBwdRefIdeal.nD Cert.BBwdRefIdeal.τ).loc Cert.BBwdRefIdeal.main_arg3) = m ((c.tc : Thread Cert.BBwdIdeal.nD Cert.BBwdIdeal.τ).loc Cert.BBwdIdeal.main_arg3)
      ∧ m' ((c.tc : Thread Cert.BBwdRefIdeal.nD Cert.BBwdRefIdeal.τ).loc Cert.BBwdRefIdeal.main_arg4) = m ((c.tc : Thread Cert.BBwdIdeal.nD Cert.BBwdIdeal.τ).loc Cert.BBwdIdeal.main_arg4)
      ∧ m' ((c.tc : Thread Cert.BBwdRefIdeal.nD Cert.BBwdRefIdeal.τ).loc Cert.BBwdRefIdeal.main_arg5) = m ((c.tc : Thread Cert.BBwdIdeal.nD Cert.BBwdIdeal.τ).loc Cert.BBwdIdeal.main_arg5)
      ∧ m' ((c.tc : Thread Cert.BBwdRefIdeal.nD Cert.BBwdRefIdeal.τ).loc Cert.BBwdRefIdeal.main_arg6) = m ((c.tc : Thread Cert.BBwdIdeal.nD Cert.BBwdIdeal.τ).loc Cert.BBwdIdeal.main_arg6)
      ∧ m' ((c.tc : Thread Cert.BBwdRefIdeal.nD Cert.BBwdRefIdeal.τ).loc Cert.BBwdRefIdeal.main_arg7) = m ((c.tc : Thread Cert.BBwdIdeal.nD Cert.BBwdIdeal.τ).loc Cert.BBwdIdeal.main_arg7)) →
    ∃ (v0 : (c : Dev Cert.BBwdIdeal.nD) → Buf (Elt Ideal) ((c.tc : Thread Cert.BBwdIdeal.nD Cert.BBwdIdeal.τ).loc Cert.BBwdIdeal.main_v100_0)) (v1 : (c : Dev Cert.BBwdIdeal.nD) → Buf (Elt Ideal) ((c.tc : Thread Cert.BBwdIdeal.nD Cert.BBwdIdeal.τ).loc Cert.BBwdIdeal.main_v100_1)) (v2 : (c : Dev Cert.BBwdIdeal.nD) → Buf (Elt Ideal) ((c.tc : Thread Cert.BBwdIdeal.nD Cert.BBwdIdeal.τ).loc Cert.BBwdIdeal.main_v100_2)) (v3 : (c : Dev Cert.BBwdIdeal.nD) → Buf (Elt Ideal) ((c.tc : Thread Cert.BBwdIdeal.nD Cert.BBwdIdeal.τ).loc Cert.BBwdIdeal.main_v100_3)) (v4 : (c : Dev Cert.BBwdIdeal.nD) → Buf (Elt Ideal) ((c.tc : Thread Cert.BBwdIdeal.nD Cert.BBwdIdeal.τ).loc Cert.BBwdIdeal.main_v100_4)) (v5 : (c : Dev Cert.BBwdIdeal.nD) → Buf (Elt Ideal) ((c.tc : Thread Cert.BBwdIdeal.nD Cert.BBwdIdeal.τ).loc Cert.BBwdIdeal.main_v100_5)) (v6 : (c : Dev Cert.BBwdIdeal.nD) → Buf (Elt Ideal) ((c.tc : Thread Cert.BBwdIdeal.nD Cert.BBwdIdeal.τ).loc Cert.BBwdIdeal.main_v100_6)),
      θ_run (Cert.BBwdIdeal.defs (F := Ideal)) (onTc (τ := Cert.BBwdIdeal.τ) (Cert.BBwdIdeal.main (F := Ideal))) ⟨m, fun _ => 0, g⟩ (fun r => ∀ c : Dev Cert.BBwdIdeal.nD,
          r.2.mem ((c.tc : Thread Cert.BBwdIdeal.nD Cert.BBwdIdeal.τ).loc Cert.BBwdIdeal.main_v100_0) = v0 c
          ∧ r.2.mem ((c.tc : Thread Cert.BBwdIdeal.nD Cert.BBwdIdeal.τ).loc Cert.BBwdIdeal.main_v100_1) = v1 c
          ∧ r.2.mem ((c.tc : Thread Cert.BBwdIdeal.nD Cert.BBwdIdeal.τ).loc Cert.BBwdIdeal.main_v100_2) = v2 c
          ∧ r.2.mem ((c.tc : Thread Cert.BBwdIdeal.nD Cert.BBwdIdeal.τ).loc Cert.BBwdIdeal.main_v100_3) = v3 c
          ∧ r.2.mem ((c.tc : Thread Cert.BBwdIdeal.nD Cert.BBwdIdeal.τ).loc Cert.BBwdIdeal.main_v100_4) = v4 c
          ∧ r.2.mem ((c.tc : Thread Cert.BBwdIdeal.nD Cert.BBwdIdeal.τ).loc Cert.BBwdIdeal.main_v100_5) = v5 c
          ∧ r.2.mem ((c.tc : Thread Cert.BBwdIdeal.nD Cert.BBwdIdeal.τ).loc Cert.BBwdIdeal.main_v100_6) = v6 c
          ∧ r.2.mem ((c.tc : Thread Cert.BBwdIdeal.nD Cert.BBwdIdeal.τ).loc Cert.BBwdIdeal.main_arg0) = m ((c.tc : Thread Cert.BBwdIdeal.nD Cert.BBwdIdeal.τ).loc Cert.BBwdIdeal.main_arg0)
          ∧ r.2.mem ((c.tc : Thread Cert.BBwdIdeal.nD Cert.BBwdIdeal.τ).loc Cert.BBwdIdeal.main_arg1) = m ((c.tc : Thread Cert.BBwdIdeal.nD Cert.BBwdIdeal.τ).loc Cert.BBwdIdeal.main_arg1)
          ∧ r.2.mem ((c.tc : Thread Cert.BBwdIdeal.nD Cert.BBwdIdeal.τ).loc Cert.BBwdIdeal.main_arg2) = m ((c.tc : Thread Cert.BBwdIdeal.nD Cert.BBwdIdeal.τ).loc Cert.BBwdIdeal.main_arg2)
          ∧ r.2.mem ((c.tc : Thread Cert.BBwdIdeal.nD Cert.BBwdIdeal.τ).loc Cert.BBwdIdeal.main_arg3) = m ((c.tc : Thread Cert.BBwdIdeal.nD Cert.BBwdIdeal.τ).loc Cert.BBwdIdeal.main_arg3)
          ∧ r.2.mem ((c.tc : Thread Cert.BBwdIdeal.nD Cert.BBwdIdeal.τ).loc Cert.BBwdIdeal.main_arg4) = m ((c.tc : Thread Cert.BBwdIdeal.nD Cert.BBwdIdeal.τ).loc Cert.BBwdIdeal.main_arg4)
          ∧ r.2.mem ((c.tc : Thread Cert.BBwdIdeal.nD Cert.BBwdIdeal.τ).loc Cert.BBwdIdeal.main_arg5) = m ((c.tc : Thread Cert.BBwdIdeal.nD Cert.BBwdIdeal.τ).loc Cert.BBwdIdeal.main_arg5)
          ∧ r.2.mem ((c.tc : Thread Cert.BBwdIdeal.nD Cert.BBwdIdeal.τ).loc Cert.BBwdIdeal.main_arg6) = m ((c.tc : Thread Cert.BBwdIdeal.nD Cert.BBwdIdeal.τ).loc Cert.BBwdIdeal.main_arg6)
          ∧ r.2.mem ((c.tc : Thread Cert.BBwdIdeal.nD Cert.BBwdIdeal.τ).loc Cert.BBwdIdeal.main_arg7) = m ((c.tc : Thread Cert.BBwdIdeal.nD Cert.BBwdIdeal.τ).loc Cert.BBwdIdeal.main_arg7))
      ∧ θ_run (Cert.BBwdRefIdeal.defs (F := Ideal)) (onTc (τ := Cert.BBwdRefIdeal.τ) (Cert.BBwdRefIdeal.main (F := Ideal))) ⟨m', fun _ => 0, g'⟩ (fun r => ∀ c : Dev Cert.BBwdRefIdeal.nD,
          r.2.mem ((c.tc : Thread Cert.BBwdRefIdeal.nD Cert.BBwdRefIdeal.τ).loc Cert.BBwdRefIdeal.main_v240) = v0 c
          ∧ r.2.mem ((c.tc : Thread Cert.BBwdRefIdeal.nD Cert.BBwdRefIdeal.τ).loc Cert.BBwdRefIdeal.main_v141) = v1 c
          ∧ r.2.mem ((c.tc : Thread Cert.BBwdRefIdeal.nD Cert.BBwdRefIdeal.τ).loc Cert.BBwdRefIdeal.main_v154) = v2 c
          ∧ r.2.mem ((c.tc : Thread Cert.BBwdRefIdeal.nD Cert.BBwdRefIdeal.τ).loc Cert.BBwdRefIdeal.main_v241) = v3 c
          ∧ r.2.mem ((c.tc : Thread Cert.BBwdRefIdeal.nD Cert.BBwdRefIdeal.τ).loc Cert.BBwdRefIdeal.main_v242) = v4 c
          ∧ r.2.mem ((c.tc : Thread Cert.BBwdRefIdeal.nD Cert.BBwdRefIdeal.τ).loc Cert.BBwdRefIdeal.main_v218) = v5 c
          ∧ r.2.mem ((c.tc : Thread Cert.BBwdRefIdeal.nD Cert.BBwdRefIdeal.τ).loc Cert.BBwdRefIdeal.main_v243) = v6 c
          ∧ r.2.mem ((c.tc : Thread Cert.BBwdRefIdeal.nD Cert.BBwdRefIdeal.τ).loc Cert.BBwdRefIdeal.main_arg0) = m' ((c.tc : Thread Cert.BBwdRefIdeal.nD Cert.BBwdRefIdeal.τ).loc Cert.BBwdRefIdeal.main_arg0)
          ∧ r.2.mem ((c.tc : Thread Cert.BBwdRefIdeal.nD Cert.BBwdRefIdeal.τ).loc Cert.BBwdRefIdeal.main_arg1) = m' ((c.tc : Thread Cert.BBwdRefIdeal.nD Cert.BBwdRefIdeal.τ).loc Cert.BBwdRefIdeal.main_arg1)
          ∧ r.2.mem ((c.tc : Thread Cert.BBwdRefIdeal.nD Cert.BBwdRefIdeal.τ).loc Cert.BBwdRefIdeal.main_arg2) = m' ((c.tc : Thread Cert.BBwdRefIdeal.nD Cert.BBwdRefIdeal.τ).loc Cert.BBwdRefIdeal.main_arg2)
          ∧ r.2.mem ((c.tc : Thread Cert.BBwdRefIdeal.nD Cert.BBwdRefIdeal.τ).loc Cert.BBwdRefIdeal.main_arg3) = m' ((c.tc : Thread Cert.BBwdRefIdeal.nD Cert.BBwdRefIdeal.τ).loc Cert.BBwdRefIdeal.main_arg3)
          ∧ r.2.mem ((c.tc : Thread Cert.BBwdRefIdeal.nD Cert.BBwdRefIdeal.τ).loc Cert.BBwdRefIdeal.main_arg4) = m' ((c.tc : Thread Cert.BBwdRefIdeal.nD Cert.BBwdRefIdeal.τ).loc Cert.BBwdRefIdeal.main_arg4)
          ∧ r.2.mem ((c.tc : Thread Cert.BBwdRefIdeal.nD Cert.BBwdRefIdeal.τ).loc Cert.BBwdRefIdeal.main_arg5) = m' ((c.tc : Thread Cert.BBwdRefIdeal.nD Cert.BBwdRefIdeal.τ).loc Cert.BBwdRefIdeal.main_arg5)
          ∧ r.2.mem ((c.tc : Thread Cert.BBwdRefIdeal.nD Cert.BBwdRefIdeal.τ).loc Cert.BBwdRefIdeal.main_arg6) = m' ((c.tc : Thread Cert.BBwdRefIdeal.nD Cert.BBwdRefIdeal.τ).loc Cert.BBwdRefIdeal.main_arg6)
          ∧ r.2.mem ((c.tc : Thread Cert.BBwdRefIdeal.nD Cert.BBwdRefIdeal.τ).loc Cert.BBwdRefIdeal.main_arg7) = m' ((c.tc : Thread Cert.BBwdRefIdeal.nD Cert.BBwdRefIdeal.τ).loc Cert.BBwdRefIdeal.main_arg7))

def preserves_AFwd_AFwdIdeal : Prop :=
  IdealRules.named_const.Statement Cert.AFwdIdeal.κ "inv_sqrt2" .f32 0x3F3504F3#32 (((Real.sqrt 2)⁻¹ : ℝ) : EReal)
  ∧ IdealRules.named_const.Statement Cert.AFwdIdeal.κ "inv_sqrt_2pi" .f32 0x3ECC422A#32 (((Real.sqrt (2 * Real.pi))⁻¹ : ℝ) : EReal)

def algebraic_AFwdIdeal_AFwdRefIdeal_pre_a_fwd_finite [hAFwdIdeal : Cert.AFwdIdeal.Facts] [hAFwdRefIdeal : Cert.AFwdRefIdeal.Facts] [hPre_a_fwd_finite : Cert.Pre_a_fwd_finite.Facts] : Prop :=
  ∀ (m : (ℓ : Loc Cert.AFwdIdeal.nD Cert.AFwdIdeal.τ Cert.AFwdIdeal.sig) → Buf (Elt Ideal) ℓ) (g : Dev Cert.AFwdIdeal.nD → PrngReg)
    (m' : (ℓ : Loc Cert.AFwdRefIdeal.nD Cert.AFwdRefIdeal.τ Cert.AFwdRefIdeal.sig) → Buf (Elt Ideal) ℓ) (g' : Dev Cert.AFwdRefIdeal.nD → PrngReg), Pre_AFwdIdeal_a_fwd_finite m →
    (∀ c : Dev Cert.AFwdIdeal.nD,
      m' ((c.tc : Thread Cert.AFwdRefIdeal.nD Cert.AFwdRefIdeal.τ).loc Cert.AFwdRefIdeal.main_arg0) = m ((c.tc : Thread Cert.AFwdIdeal.nD Cert.AFwdIdeal.τ).loc Cert.AFwdIdeal.main_arg0)
      ∧ m' ((c.tc : Thread Cert.AFwdRefIdeal.nD Cert.AFwdRefIdeal.τ).loc Cert.AFwdRefIdeal.main_arg1) = m ((c.tc : Thread Cert.AFwdIdeal.nD Cert.AFwdIdeal.τ).loc Cert.AFwdIdeal.main_arg1)
      ∧ m' ((c.tc : Thread Cert.AFwdRefIdeal.nD Cert.AFwdRefIdeal.τ).loc Cert.AFwdRefIdeal.main_arg2) = m ((c.tc : Thread Cert.AFwdIdeal.nD Cert.AFwdIdeal.τ).loc Cert.AFwdIdeal.main_arg2)
      ∧ m' ((c.tc : Thread Cert.AFwdRefIdeal.nD Cert.AFwdRefIdeal.τ).loc Cert.AFwdRefIdeal.main_arg3) = m ((c.tc : Thread Cert.AFwdIdeal.nD Cert.AFwdIdeal.τ).loc Cert.AFwdIdeal.main_arg3)
      ∧ m' ((c.tc : Thread Cert.AFwdRefIdeal.nD Cert.AFwdRefIdeal.τ).loc Cert.AFwdRefIdeal.main_arg4) = m ((c.tc : Thread Cert.AFwdIdeal.nD Cert.AFwdIdeal.τ).loc Cert.AFwdIdeal.main_arg4)
      ∧ m' ((c.tc : Thread Cert.AFwdRefIdeal.nD Cert.AFwdRefIdeal.τ).loc Cert.AFwdRefIdeal.main_arg5) = m ((c.tc : Thread Cert.AFwdIdeal.nD Cert.AFwdIdeal.τ).loc Cert.AFwdIdeal.main_arg5)
      ∧ m' ((c.tc : Thread Cert.AFwdRefIdeal.nD Cert.AFwdRefIdeal.τ).loc Cert.AFwdRefIdeal.main_arg6) = m ((c.tc : Thread Cert.AFwdIdeal.nD Cert.AFwdIdeal.τ).loc Cert.AFwdIdeal.main_arg6)
      ∧ m' ((c.tc : Thread Cert.AFwdRefIdeal.nD Cert.AFwdRefIdeal.τ).loc Cert.AFwdRefIdeal.main_arg7) = m ((c.tc : Thread Cert.AFwdIdeal.nD Cert.AFwdIdeal.τ).loc Cert.AFwdIdeal.main_arg7)
      ∧ m' ((c.tc : Thread Cert.AFwdRefIdeal.nD Cert.AFwdRefIdeal.τ).loc Cert.AFwdRefIdeal.main_arg8) = m ((c.tc : Thread Cert.AFwdIdeal.nD Cert.AFwdIdeal.τ).loc Cert.AFwdIdeal.main_arg8)) →
    ∃ (v0 : (c : Dev Cert.AFwdIdeal.nD) → Buf (Elt Ideal) ((c.tc : Thread Cert.AFwdIdeal.nD Cert.AFwdIdeal.τ).loc Cert.AFwdIdeal.main_v10_0)) (v1 : (c : Dev Cert.AFwdIdeal.nD) → Buf (Elt Ideal) ((c.tc : Thread Cert.AFwdIdeal.nD Cert.AFwdIdeal.τ).loc Cert.AFwdIdeal.main_v10_1)) (v2 : (c : Dev Cert.AFwdIdeal.nD) → Buf (Elt Ideal) ((c.tc : Thread Cert.AFwdIdeal.nD Cert.AFwdIdeal.τ).loc Cert.AFwdIdeal.main_v10_2)) (v3 : (c : Dev Cert.AFwdIdeal.nD) → Buf (Elt Ideal) ((c.tc : Thread Cert.AFwdIdeal.nD Cert.AFwdIdeal.τ).loc Cert.AFwdIdeal.main_v10_3)),
      θ_run (Cert.AFwdIdeal.defs (F := Ideal)) (onTc (τ := Cert.AFwdIdeal.τ) (Cert.AFwdIdeal.main (F := Ideal))) ⟨m, fun _ => 0, g⟩ (fun r => ∀ c : Dev Cert.AFwdIdeal.nD,
          r.2.mem ((c.tc : Thread Cert.AFwdIdeal.nD Cert.AFwdIdeal.τ).loc Cert.AFwdIdeal.main_v10_0) = v0 c
          ∧ r.2.mem ((c.tc : Thread Cert.AFwdIdeal.nD Cert.AFwdIdeal.τ).loc Cert.AFwdIdeal.main_v10_1) = v1 c
          ∧ r.2.mem ((c.tc : Thread Cert.AFwdIdeal.nD Cert.AFwdIdeal.τ).loc Cert.AFwdIdeal.main_v10_2) = v2 c
          ∧ r.2.mem ((c.tc : Thread Cert.AFwdIdeal.nD Cert.AFwdIdeal.τ).loc Cert.AFwdIdeal.main_v10_3) = v3 c
          ∧ r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
          ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
          ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
          ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
          ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
          ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
          ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
          ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7)
          ∧ r.2.mem ((c.tc : Thread Cert.AFwdIdeal.nD Cert.AFwdIdeal.τ).loc Cert.AFwdIdeal.main_arg8) = m ((c.tc : Thread Cert.AFwdIdeal.nD Cert.AFwdIdeal.τ).loc Cert.AFwdIdeal.main_arg8))
      ∧ θ_run (Cert.AFwdRefIdeal.defs (F := Ideal)) (onTc (τ := Cert.AFwdRefIdeal.τ) (Cert.AFwdRefIdeal.main (F := Ideal))) ⟨m', fun _ => 0, g'⟩ (fun r => ∀ c : Dev Cert.AFwdRefIdeal.nD,
          r.2.mem ((c.tc : Thread Cert.AFwdRefIdeal.nD Cert.AFwdRefIdeal.τ).loc Cert.AFwdRefIdeal.main_v94) = v0 c
          ∧ r.2.mem ((c.tc : Thread Cert.AFwdRefIdeal.nD Cert.AFwdRefIdeal.τ).loc Cert.AFwdRefIdeal.main_v97) = v1 c
          ∧ r.2.mem ((c.tc : Thread Cert.AFwdRefIdeal.nD Cert.AFwdRefIdeal.τ).loc Cert.AFwdRefIdeal.main_v100) = v2 c
          ∧ r.2.mem ((c.tc : Thread Cert.AFwdRefIdeal.nD Cert.AFwdRefIdeal.τ).loc Cert.AFwdRefIdeal.main_v80) = v3 c
          ∧ r.2.mem ((c.tc : Thread Cert.AFwdRefIdeal.nD Cert.AFwdRefIdeal.τ).loc Cert.AFwdRefIdeal.main_arg0) = m' ((c.tc : Thread Cert.AFwdRefIdeal.nD Cert.AFwdRefIdeal.τ).loc Cert.AFwdRefIdeal.main_arg0)
          ∧ r.2.mem ((c.tc : Thread Cert.AFwdRefIdeal.nD Cert.AFwdRefIdeal.τ).loc Cert.AFwdRefIdeal.main_arg1) = m' ((c.tc : Thread Cert.AFwdRefIdeal.nD Cert.AFwdRefIdeal.τ).loc Cert.AFwdRefIdeal.main_arg1)
          ∧ r.2.mem ((c.tc : Thread Cert.AFwdRefIdeal.nD Cert.AFwdRefIdeal.τ).loc Cert.AFwdRefIdeal.main_arg2) = m' ((c.tc : Thread Cert.AFwdRefIdeal.nD Cert.AFwdRefIdeal.τ).loc Cert.AFwdRefIdeal.main_arg2)
          ∧ r.2.mem ((c.tc : Thread Cert.AFwdRefIdeal.nD Cert.AFwdRefIdeal.τ).loc Cert.AFwdRefIdeal.main_arg3) = m' ((c.tc : Thread Cert.AFwdRefIdeal.nD Cert.AFwdRefIdeal.τ).loc Cert.AFwdRefIdeal.main_arg3)
          ∧ r.2.mem ((c.tc : Thread Cert.AFwdRefIdeal.nD Cert.AFwdRefIdeal.τ).loc Cert.AFwdRefIdeal.main_arg4) = m' ((c.tc : Thread Cert.AFwdRefIdeal.nD Cert.AFwdRefIdeal.τ).loc Cert.AFwdRefIdeal.main_arg4)
          ∧ r.2.mem ((c.tc : Thread Cert.AFwdRefIdeal.nD Cert.AFwdRefIdeal.τ).loc Cert.AFwdRefIdeal.main_arg5) = m' ((c.tc : Thread Cert.AFwdRefIdeal.nD Cert.AFwdRefIdeal.τ).loc Cert.AFwdRefIdeal.main_arg5)
          ∧ r.2.mem ((c.tc : Thread Cert.AFwdRefIdeal.nD Cert.AFwdRefIdeal.τ).loc Cert.AFwdRefIdeal.main_arg6) = m' ((c.tc : Thread Cert.AFwdRefIdeal.nD Cert.AFwdRefIdeal.τ).loc Cert.AFwdRefIdeal.main_arg6)
          ∧ r.2.mem ((c.tc : Thread Cert.AFwdRefIdeal.nD Cert.AFwdRefIdeal.τ).loc Cert.AFwdRefIdeal.main_arg7) = m' ((c.tc : Thread Cert.AFwdRefIdeal.nD Cert.AFwdRefIdeal.τ).loc Cert.AFwdRefIdeal.main_arg7)
          ∧ r.2.mem ((c.tc : Thread Cert.AFwdRefIdeal.nD Cert.AFwdRefIdeal.τ).loc Cert.AFwdRefIdeal.main_arg8) = m' ((c.tc : Thread Cert.AFwdRefIdeal.nD Cert.AFwdRefIdeal.τ).loc Cert.AFwdRefIdeal.main_arg8))

def preserves_BFwd_BFwdIdeal : Prop :=
  True

def algebraic_BFwdIdeal_BFwdRefIdeal_pre_b_fwd_finite [hBFwdIdeal : Cert.BFwdIdeal.Facts] [hBFwdRefIdeal : Cert.BFwdRefIdeal.Facts] [hPre_b_fwd_finite : Cert.Pre_b_fwd_finite.Facts] : Prop :=
  ∀ (m : (ℓ : Loc Cert.BFwdIdeal.nD Cert.BFwdIdeal.τ Cert.BFwdIdeal.sig) → Buf (Elt Ideal) ℓ) (g : Dev Cert.BFwdIdeal.nD → PrngReg)
    (m' : (ℓ : Loc Cert.BFwdRefIdeal.nD Cert.BFwdRefIdeal.τ Cert.BFwdRefIdeal.sig) → Buf (Elt Ideal) ℓ) (g' : Dev Cert.BFwdRefIdeal.nD → PrngReg), Pre_BFwdIdeal_b_fwd_finite m →
    (∀ c : Dev Cert.BFwdIdeal.nD,
      m' ((c.tc : Thread Cert.BFwdRefIdeal.nD Cert.BFwdRefIdeal.τ).loc Cert.BFwdRefIdeal.main_arg0) = m ((c.tc : Thread Cert.BFwdIdeal.nD Cert.BFwdIdeal.τ).loc Cert.BFwdIdeal.main_arg0)
      ∧ m' ((c.tc : Thread Cert.BFwdRefIdeal.nD Cert.BFwdRefIdeal.τ).loc Cert.BFwdRefIdeal.main_arg1) = m ((c.tc : Thread Cert.BFwdIdeal.nD Cert.BFwdIdeal.τ).loc Cert.BFwdIdeal.main_arg1)
      ∧ m' ((c.tc : Thread Cert.BFwdRefIdeal.nD Cert.BFwdRefIdeal.τ).loc Cert.BFwdRefIdeal.main_arg2) = m ((c.tc : Thread Cert.BFwdIdeal.nD Cert.BFwdIdeal.τ).loc Cert.BFwdIdeal.main_arg2)
      ∧ m' ((c.tc : Thread Cert.BFwdRefIdeal.nD Cert.BFwdRefIdeal.τ).loc Cert.BFwdRefIdeal.main_arg3) = m ((c.tc : Thread Cert.BFwdIdeal.nD Cert.BFwdIdeal.τ).loc Cert.BFwdIdeal.main_arg3)
      ∧ m' ((c.tc : Thread Cert.BFwdRefIdeal.nD Cert.BFwdRefIdeal.τ).loc Cert.BFwdRefIdeal.main_arg4) = m ((c.tc : Thread Cert.BFwdIdeal.nD Cert.BFwdIdeal.τ).loc Cert.BFwdIdeal.main_arg4)
      ∧ m' ((c.tc : Thread Cert.BFwdRefIdeal.nD Cert.BFwdRefIdeal.τ).loc Cert.BFwdRefIdeal.main_arg5) = m ((c.tc : Thread Cert.BFwdIdeal.nD Cert.BFwdIdeal.τ).loc Cert.BFwdIdeal.main_arg5)
      ∧ m' ((c.tc : Thread Cert.BFwdRefIdeal.nD Cert.BFwdRefIdeal.τ).loc Cert.BFwdRefIdeal.main_arg6) = m ((c.tc : Thread Cert.BFwdIdeal.nD Cert.BFwdIdeal.τ).loc Cert.BFwdIdeal.main_arg6)) →
    ∃ (v0 : (c : Dev Cert.BFwdIdeal.nD) → Buf (Elt Ideal) ((c.tc : Thread Cert.BFwdIdeal.nD Cert.BFwdIdeal.τ).loc Cert.BFwdIdeal.main_v6_0)) (v1 : (c : Dev Cert.BFwdIdeal.nD) → Buf (Elt Ideal) ((c.tc : Thread Cert.BFwdIdeal.nD Cert.BFwdIdeal.τ).loc Cert.BFwdIdeal.main_v6_1)) (v2 : (c : Dev Cert.BFwdIdeal.nD) → Buf (Elt Ideal) ((c.tc : Thread Cert.BFwdIdeal.nD Cert.BFwdIdeal.τ).loc Cert.BFwdIdeal.main_v6_2)),
      θ_run (Cert.BFwdIdeal.defs (F := Ideal)) (onTc (τ := Cert.BFwdIdeal.τ) (Cert.BFwdIdeal.main (F := Ideal))) ⟨m, fun _ => 0, g⟩ (fun r => ∀ c : Dev Cert.BFwdIdeal.nD,
          r.2.mem ((c.tc : Thread Cert.BFwdIdeal.nD Cert.BFwdIdeal.τ).loc Cert.BFwdIdeal.main_v6_0) = v0 c
          ∧ r.2.mem ((c.tc : Thread Cert.BFwdIdeal.nD Cert.BFwdIdeal.τ).loc Cert.BFwdIdeal.main_v6_1) = v1 c
          ∧ r.2.mem ((c.tc : Thread Cert.BFwdIdeal.nD Cert.BFwdIdeal.τ).loc Cert.BFwdIdeal.main_v6_2) = v2 c
          ∧ r.2.mem ((c.tc : Thread Cert.BFwdIdeal.nD Cert.BFwdIdeal.τ).loc Cert.BFwdIdeal.main_arg0) = m ((c.tc : Thread Cert.BFwdIdeal.nD Cert.BFwdIdeal.τ).loc Cert.BFwdIdeal.main_arg0)
          ∧ r.2.mem ((c.tc : Thread Cert.BFwdIdeal.nD Cert.BFwdIdeal.τ).loc Cert.BFwdIdeal.main_arg1) = m ((c.tc : Thread Cert.BFwdIdeal.nD Cert.BFwdIdeal.τ).loc Cert.BFwdIdeal.main_arg1)
          ∧ r.2.mem ((c.tc : Thread Cert.BFwdIdeal.nD Cert.BFwdIdeal.τ).loc Cert.BFwdIdeal.main_arg2) = m ((c.tc : Thread Cert.BFwdIdeal.nD Cert.BFwdIdeal.τ).loc Cert.BFwdIdeal.main_arg2)
          ∧ r.2.mem ((c.tc : Thread Cert.BFwdIdeal.nD Cert.BFwdIdeal.τ).loc Cert.BFwdIdeal.main_arg3) = m ((c.tc : Thread Cert.BFwdIdeal.nD Cert.BFwdIdeal.τ).loc Cert.BFwdIdeal.main_arg3)
          ∧ r.2.mem ((c.tc : Thread Cert.BFwdIdeal.nD Cert.BFwdIdeal.τ).loc Cert.BFwdIdeal.main_arg4) = m ((c.tc : Thread Cert.BFwdIdeal.nD Cert.BFwdIdeal.τ).loc Cert.BFwdIdeal.main_arg4)
          ∧ r.2.mem ((c.tc : Thread Cert.BFwdIdeal.nD Cert.BFwdIdeal.τ).loc Cert.BFwdIdeal.main_arg5) = m ((c.tc : Thread Cert.BFwdIdeal.nD Cert.BFwdIdeal.τ).loc Cert.BFwdIdeal.main_arg5)
          ∧ r.2.mem ((c.tc : Thread Cert.BFwdIdeal.nD Cert.BFwdIdeal.τ).loc Cert.BFwdIdeal.main_arg6) = m ((c.tc : Thread Cert.BFwdIdeal.nD Cert.BFwdIdeal.τ).loc Cert.BFwdIdeal.main_arg6))
      ∧ θ_run (Cert.BFwdRefIdeal.defs (F := Ideal)) (onTc (τ := Cert.BFwdRefIdeal.τ) (Cert.BFwdRefIdeal.main (F := Ideal))) ⟨m', fun _ => 0, g'⟩ (fun r => ∀ c : Dev Cert.BFwdRefIdeal.nD,
          r.2.mem ((c.tc : Thread Cert.BFwdRefIdeal.nD Cert.BFwdRefIdeal.τ).loc Cert.BFwdRefIdeal.main_v107) = v0 c
          ∧ r.2.mem ((c.tc : Thread Cert.BFwdRefIdeal.nD Cert.BFwdRefIdeal.τ).loc Cert.BFwdRefIdeal.main_v13) = v1 c
          ∧ r.2.mem ((c.tc : Thread Cert.BFwdRefIdeal.nD Cert.BFwdRefIdeal.τ).loc Cert.BFwdRefIdeal.main_v93) = v2 c
          ∧ r.2.mem ((c.tc : Thread Cert.BFwdRefIdeal.nD Cert.BFwdRefIdeal.τ).loc Cert.BFwdRefIdeal.main_arg0) = m' ((c.tc : Thread Cert.BFwdRefIdeal.nD Cert.BFwdRefIdeal.τ).loc Cert.BFwdRefIdeal.main_arg0)
          ∧ r.2.mem ((c.tc : Thread Cert.BFwdRefIdeal.nD Cert.BFwdRefIdeal.τ).loc Cert.BFwdRefIdeal.main_arg1) = m' ((c.tc : Thread Cert.BFwdRefIdeal.nD Cert.BFwdRefIdeal.τ).loc Cert.BFwdRefIdeal.main_arg1)
          ∧ r.2.mem ((c.tc : Thread Cert.BFwdRefIdeal.nD Cert.BFwdRefIdeal.τ).loc Cert.BFwdRefIdeal.main_arg2) = m' ((c.tc : Thread Cert.BFwdRefIdeal.nD Cert.BFwdRefIdeal.τ).loc Cert.BFwdRefIdeal.main_arg2)
          ∧ r.2.mem ((c.tc : Thread Cert.BFwdRefIdeal.nD Cert.BFwdRefIdeal.τ).loc Cert.BFwdRefIdeal.main_arg3) = m' ((c.tc : Thread Cert.BFwdRefIdeal.nD Cert.BFwdRefIdeal.τ).loc Cert.BFwdRefIdeal.main_arg3)
          ∧ r.2.mem ((c.tc : Thread Cert.BFwdRefIdeal.nD Cert.BFwdRefIdeal.τ).loc Cert.BFwdRefIdeal.main_arg4) = m' ((c.tc : Thread Cert.BFwdRefIdeal.nD Cert.BFwdRefIdeal.τ).loc Cert.BFwdRefIdeal.main_arg4)
          ∧ r.2.mem ((c.tc : Thread Cert.BFwdRefIdeal.nD Cert.BFwdRefIdeal.τ).loc Cert.BFwdRefIdeal.main_arg5) = m' ((c.tc : Thread Cert.BFwdRefIdeal.nD Cert.BFwdRefIdeal.τ).loc Cert.BFwdRefIdeal.main_arg5)
          ∧ r.2.mem ((c.tc : Thread Cert.BFwdRefIdeal.nD Cert.BFwdRefIdeal.τ).loc Cert.BFwdRefIdeal.main_arg6) = m' ((c.tc : Thread Cert.BFwdRefIdeal.nD Cert.BFwdRefIdeal.τ).loc Cert.BFwdRefIdeal.main_arg6))

def preserves_FfnFwd_FfnFwdIdeal : Prop :=
  True

def algebraic_FfnFwdIdeal_FfnFwdRefIdeal_pre_ffn_fwd_finite [hFfnFwdIdeal : Cert.FfnFwdIdeal.Facts] [hFfnFwdRefIdeal : Cert.FfnFwdRefIdeal.Facts] [hPre_ffn_fwd_finite : Cert.Pre_ffn_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_ffn_fwd_finite m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)) (v5 : (c : Dev Cert.FfnFwdIdeal.nD) → Buf (Elt Ideal) ((c.tc : Thread Cert.FfnFwdIdeal.nD Cert.FfnFwdIdeal.τ).loc Cert.FfnFwdIdeal.main_v10_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_v10_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v50) = v0 c
          ∧ r.2.mem ((c.tc : Thread Cert.FfnFwdRefIdeal.nD Cert.FfnFwdRefIdeal.τ).loc Cert.FfnFwdRefIdeal.main_v52) = v1 c
          ∧ r.2.mem ((c.tc : Thread Cert.FfnFwdRefIdeal.nD Cert.FfnFwdRefIdeal.τ).loc Cert.FfnFwdRefIdeal.main_v54) = v2 c
          ∧ r.2.mem ((c.tc : Thread Cert.FfnFwdRefIdeal.nD Cert.FfnFwdRefIdeal.τ).loc Cert.FfnFwdRefIdeal.main_v56) = v3 c
          ∧ r.2.mem ((c.tc : Thread Cert.FfnFwdRefIdeal.nD Cert.FfnFwdRefIdeal.τ).loc Cert.FfnFwdRefIdeal.main_v21) = v4 c
          ∧ r.2.mem ((c.tc : Thread Cert.FfnFwdRefIdeal.nD Cert.FfnFwdRefIdeal.τ).loc Cert.FfnFwdRefIdeal.main_v58) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_FfnMid_FfnMidIdeal : Prop :=
  True

def algebraic_FfnMidIdeal_FfnMidRefIdeal_pre_ffn_mid_finite [hFfnMidIdeal : Cert.FfnMidIdeal.Facts] [hFfnMidRefIdeal : Cert.FfnMidRefIdeal.Facts] [hPre_ffn_mid_finite : Cert.Pre_ffn_mid_finite.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_ffn_mid_finite m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v10_0)) (v1 : (c : Dev Cert.FfnMidIdeal.nD) → Buf (Elt Ideal) ((c.tc : Thread Cert.FfnMidIdeal.nD Cert.FfnMidIdeal.τ).loc Cert.FfnMidIdeal.main_v10_1)) (v2 : (c : Dev Cert.FfnMidIdeal.nD) → Buf (Elt Ideal) ((c.tc : Thread Cert.FfnMidIdeal.nD Cert.FfnMidIdeal.τ).loc Cert.FfnMidIdeal.main_v10_2)) (v3 : (c : Dev Cert.FfnMidIdeal.nD) → Buf (Elt Ideal) ((c.tc : Thread Cert.FfnMidIdeal.nD Cert.FfnMidIdeal.τ).loc Cert.FfnMidIdeal.main_v10_3)) (v4 : (c : Dev Cert.FfnMidIdeal.nD) → Buf (Elt Ideal) ((c.tc : Thread Cert.FfnMidIdeal.nD Cert.FfnMidIdeal.τ).loc Cert.FfnMidIdeal.main_v10_4)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v10_0) = v0 c
          ∧ r.2.mem ((c.tc : Thread Cert.FfnMidIdeal.nD Cert.FfnMidIdeal.τ).loc Cert.FfnMidIdeal.main_v10_1) = v1 c
          ∧ r.2.mem ((c.tc : Thread Cert.FfnMidIdeal.nD Cert.FfnMidIdeal.τ).loc Cert.FfnMidIdeal.main_v10_2) = v2 c
          ∧ r.2.mem ((c.tc : Thread Cert.FfnMidIdeal.nD Cert.FfnMidIdeal.τ).loc Cert.FfnMidIdeal.main_v10_3) = v3 c
          ∧ r.2.mem ((c.tc : Thread Cert.FfnMidIdeal.nD Cert.FfnMidIdeal.τ).loc Cert.FfnMidIdeal.main_v10_4) = v4 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v35) = v0 c
          ∧ r.2.mem ((c.tc : Thread Cert.FfnMidRefIdeal.nD Cert.FfnMidRefIdeal.τ).loc Cert.FfnMidRefIdeal.main_v37) = v1 c
          ∧ r.2.mem ((c.tc : Thread Cert.FfnMidRefIdeal.nD Cert.FfnMidRefIdeal.τ).loc Cert.FfnMidRefIdeal.main_v39) = v2 c
          ∧ r.2.mem ((c.tc : Thread Cert.FfnMidRefIdeal.nD Cert.FfnMidRefIdeal.τ).loc Cert.FfnMidRefIdeal.main_v41) = v3 c
          ∧ r.2.mem ((c.tc : Thread Cert.FfnMidRefIdeal.nD Cert.FfnMidRefIdeal.τ).loc Cert.FfnMidRefIdeal.main_v21) = v4 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg1) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_PairSum_PairSumIdeal : Prop :=
  True

def algebraic_PairSumIdeal_PairSumRefIdeal [hPairSumIdeal : Cert.PairSumIdeal.Facts] [hPairSumRefIdeal : Cert.PairSumRefIdeal.Facts] [hPre_core_in_range : Cert.Pre_core_in_range.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v7) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def Claim : Prop :=
  ∃ (hAIn : Cert.AIn.Facts) (hAInIdeal : Cert.AInIdeal.Facts) (hAInRefIdeal : Cert.AInRefIdeal.Facts) (hFfnIn : Cert.FfnIn.Facts) (hFfnInIdeal : Cert.FfnInIdeal.Facts) (hFfnInRefIdeal : Cert.FfnInRefIdeal.Facts) (hFfnHidden : Cert.FfnHidden.Facts) (hFfnHiddenIdeal : Cert.FfnHiddenIdeal.Facts) (hFfnHiddenRefIdeal : Cert.FfnHiddenRefIdeal.Facts) (hAHidden : Cert.AHidden.Facts) (hAHiddenIdeal : Cert.AHiddenIdeal.Facts) (hAHiddenRefIdeal : Cert.AHiddenRefIdeal.Facts) (hBBwd : Cert.BBwd.Facts) (hBBwdIdeal : Cert.BBwdIdeal.Facts) (hBBwdRefIdeal : Cert.BBwdRefIdeal.Facts) (hAFwd : Cert.AFwd.Facts) (hAFwdIdeal : Cert.AFwdIdeal.Facts) (hAFwdRefIdeal : Cert.AFwdRefIdeal.Facts) (hBFwd : Cert.BFwd.Facts) (hBFwdIdeal : Cert.BFwdIdeal.Facts) (hBFwdRefIdeal : Cert.BFwdRefIdeal.Facts) (hFfnFwd : Cert.FfnFwd.Facts) (hFfnFwdIdeal : Cert.FfnFwdIdeal.Facts) (hFfnFwdRefIdeal : Cert.FfnFwdRefIdeal.Facts) (hFfnMid : Cert.FfnMid.Facts) (hFfnMidIdeal : Cert.FfnMidIdeal.Facts) (hFfnMidRefIdeal : Cert.FfnMidRefIdeal.Facts) (hAdamW : Cert.AdamW.Facts) (hAdamWIdeal : Cert.AdamWIdeal.Facts) (hAdamWRefIdeal : Cert.AdamWRefIdeal.Facts) (hSumDevices : Cert.SumDevices.Facts) (hSumDevicesIdeal : Cert.SumDevicesIdeal.Facts) (hSumDevicesRefIdeal : Cert.SumDevicesRefIdeal.Facts) (hPairSum : Cert.PairSum.Facts) (hPairSumIdeal : Cert.PairSumIdeal.Facts) (hPairSumRefIdeal : Cert.PairSumRefIdeal.Facts) (hPre_a_in_finite : Cert.Pre_a_in_finite.Facts) (hPre_ffn_in_finite : Cert.Pre_ffn_in_finite.Facts) (hPre_ffn_hidden_finite : Cert.Pre_ffn_hidden_finite.Facts) (hPre_a_hidden_finite : Cert.Pre_a_hidden_finite.Facts) (hPre_b_finite : Cert.Pre_b_finite.Facts) (hPre_a_fwd_finite : Cert.Pre_a_fwd_finite.Facts) (hPre_b_fwd_finite : Cert.Pre_b_fwd_finite.Facts) (hPre_ffn_fwd_finite : Cert.Pre_ffn_fwd_finite.Facts) (hPre_ffn_mid_finite : Cert.Pre_ffn_mid_finite.Facts) (hPre_core_in_range : Cert.Pre_core_in_range.Facts),
    quiescent_AIn (hAIn := hAIn)
    ∧ quiescent_AInIdeal (hAInIdeal := hAInIdeal)
    ∧ quiescent_AInIdeal_pre_a_in_finite (hAInIdeal := hAInIdeal) (hPre_a_in_finite := hPre_a_in_finite)
    ∧ quiescent_AInRefIdeal (hAInRefIdeal := hAInRefIdeal)
    ∧ quiescent_AInRefIdeal_pre_a_in_finite (hAInRefIdeal := hAInRefIdeal) (hPre_a_in_finite := hPre_a_in_finite)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_FfnHidden (hFfnHidden := hFfnHidden)
    ∧ quiescent_FfnHiddenIdeal (hFfnHiddenIdeal := hFfnHiddenIdeal)
    ∧ quiescent_FfnHiddenIdeal_pre_ffn_hidden_finite (hFfnHiddenIdeal := hFfnHiddenIdeal) (hPre_ffn_hidden_finite := hPre_ffn_hidden_finite)
    ∧ quiescent_FfnHiddenRefIdeal (hFfnHiddenRefIdeal := hFfnHiddenRefIdeal)
    ∧ quiescent_FfnHiddenRefIdeal_pre_ffn_hidden_finite (hFfnHiddenRefIdeal := hFfnHiddenRefIdeal) (hPre_ffn_hidden_finite := hPre_ffn_hidden_finite)
    ∧ quiescent_AHidden (hAHidden := hAHidden)
    ∧ quiescent_AHiddenIdeal (hAHiddenIdeal := hAHiddenIdeal)
    ∧ quiescent_AHiddenIdeal_pre_a_hidden_finite (hAHiddenIdeal := hAHiddenIdeal) (hPre_a_hidden_finite := hPre_a_hidden_finite)
    ∧ quiescent_AHiddenRefIdeal (hAHiddenRefIdeal := hAHiddenRefIdeal)
    ∧ quiescent_AHiddenRefIdeal_pre_a_hidden_finite (hAHiddenRefIdeal := hAHiddenRefIdeal) (hPre_a_hidden_finite := hPre_a_hidden_finite)
    ∧ quiescent_BBwd (hBBwd := hBBwd)
    ∧ quiescent_BBwdIdeal (hBBwdIdeal := hBBwdIdeal)
    ∧ quiescent_BBwdIdeal_pre_b_finite (hBBwdIdeal := hBBwdIdeal) (hPre_b_finite := hPre_b_finite)
    ∧ quiescent_BBwdRefIdeal (hBBwdRefIdeal := hBBwdRefIdeal)
    ∧ quiescent_BBwdRefIdeal_pre_b_finite (hBBwdRefIdeal := hBBwdRefIdeal) (hPre_b_finite := hPre_b_finite)
    ∧ quiescent_AFwd (hAFwd := hAFwd)
    ∧ quiescent_AFwdIdeal (hAFwdIdeal := hAFwdIdeal)
    ∧ quiescent_AFwdIdeal_pre_a_fwd_finite (hAFwdIdeal := hAFwdIdeal) (hPre_a_fwd_finite := hPre_a_fwd_finite)
    ∧ quiescent_AFwdRefIdeal (hAFwdRefIdeal := hAFwdRefIdeal)
    ∧ quiescent_AFwdRefIdeal_pre_a_fwd_finite (hAFwdRefIdeal := hAFwdRefIdeal) (hPre_a_fwd_finite := hPre_a_fwd_finite)
    ∧ quiescent_BFwd (hBFwd := hBFwd)
    ∧ quiescent_BFwdIdeal (hBFwdIdeal := hBFwdIdeal)
    ∧ quiescent_BFwdIdeal_pre_b_fwd_finite (hBFwdIdeal := hBFwdIdeal) (hPre_b_fwd_finite := hPre_b_fwd_finite)
    ∧ quiescent_BFwdRefIdeal (hBFwdRefIdeal := hBFwdRefIdeal)
    ∧ quiescent_BFwdRefIdeal_pre_b_fwd_finite (hBFwdRefIdeal := hBFwdRefIdeal) (hPre_b_fwd_finite := hPre_b_fwd_finite)
    ∧ quiescent_FfnFwd (hFfnFwd := hFfnFwd)
    ∧ quiescent_FfnFwdIdeal (hFfnFwdIdeal := hFfnFwdIdeal)
    ∧ quiescent_FfnFwdIdeal_pre_ffn_fwd_finite (hFfnFwdIdeal := hFfnFwdIdeal) (hPre_ffn_fwd_finite := hPre_ffn_fwd_finite)
    ∧ quiescent_FfnFwdRefIdeal (hFfnFwdRefIdeal := hFfnFwdRefIdeal)
    ∧ quiescent_FfnFwdRefIdeal_pre_ffn_fwd_finite (hFfnFwdRefIdeal := hFfnFwdRefIdeal) (hPre_ffn_fwd_finite := hPre_ffn_fwd_finite)
    ∧ quiescent_FfnMid (hFfnMid := hFfnMid)
    ∧ quiescent_FfnMidIdeal (hFfnMidIdeal := hFfnMidIdeal)
    ∧ quiescent_FfnMidIdeal_pre_ffn_mid_finite (hFfnMidIdeal := hFfnMidIdeal) (hPre_ffn_mid_finite := hPre_ffn_mid_finite)
    ∧ quiescent_FfnMidRefIdeal (hFfnMidRefIdeal := hFfnMidRefIdeal)
    ∧ quiescent_FfnMidRefIdeal_pre_ffn_mid_finite (hFfnMidRefIdeal := hFfnMidRefIdeal) (hPre_ffn_mid_finite := hPre_ffn_mid_finite)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_PairSum (hPairSum := hPairSum) (hPre_core_in_range := hPre_core_in_range)
    ∧ quiescent_PairSumIdeal (hPairSumIdeal := hPairSumIdeal) (hPre_core_in_range := hPre_core_in_range)
    ∧ quiescent_PairSumRefIdeal (hPairSumRefIdeal := hPairSumRefIdeal)
    ∧ quiescent_PairSumRefIdeal_pre_core_in_range (hPairSumRefIdeal := hPairSumRefIdeal) (hPre_core_in_range := hPre_core_in_range)
    ∧ preserves_AIn_AInIdeal
    ∧ algebraic_AInIdeal_AInRefIdeal_pre_a_in_finite (hAInIdeal := hAInIdeal) (hAInRefIdeal := hAInRefIdeal) (hPre_a_in_finite := hPre_a_in_finite)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_FfnHidden_FfnHiddenIdeal
    ∧ algebraic_FfnHiddenIdeal_FfnHiddenRefIdeal_pre_ffn_hidden_finite (hFfnHiddenIdeal := hFfnHiddenIdeal) (hFfnHiddenRefIdeal := hFfnHiddenRefIdeal) (hPre_ffn_hidden_finite := hPre_ffn_hidden_finite)
    ∧ preserves_AHidden_AHiddenIdeal
    ∧ algebraic_AHiddenIdeal_AHiddenRefIdeal_pre_a_hidden_finite (hAHiddenIdeal := hAHiddenIdeal) (hAHiddenRefIdeal := hAHiddenRefIdeal) (hPre_a_hidden_finite := hPre_a_hidden_finite)
    ∧ preserves_BBwd_BBwdIdeal
    ∧ algebraic_BBwdIdeal_BBwdRefIdeal_pre_b_finite (hBBwdIdeal := hBBwdIdeal) (hBBwdRefIdeal := hBBwdRefIdeal) (hPre_b_finite := hPre_b_finite)
    ∧ preserves_AFwd_AFwdIdeal
    ∧ algebraic_AFwdIdeal_AFwdRefIdeal_pre_a_fwd_finite (hAFwdIdeal := hAFwdIdeal) (hAFwdRefIdeal := hAFwdRefIdeal) (hPre_a_fwd_finite := hPre_a_fwd_finite)
    ∧ preserves_BFwd_BFwdIdeal
    ∧ algebraic_BFwdIdeal_BFwdRefIdeal_pre_b_fwd_finite (hBFwdIdeal := hBFwdIdeal) (hBFwdRefIdeal := hBFwdRefIdeal) (hPre_b_fwd_finite := hPre_b_fwd_finite)
    ∧ preserves_FfnFwd_FfnFwdIdeal
    ∧ algebraic_FfnFwdIdeal_FfnFwdRefIdeal_pre_ffn_fwd_finite (hFfnFwdIdeal := hFfnFwdIdeal) (hFfnFwdRefIdeal := hFfnFwdRefIdeal) (hPre_ffn_fwd_finite := hPre_ffn_fwd_finite)
    ∧ preserves_FfnMid_FfnMidIdeal
    ∧ algebraic_FfnMidIdeal_FfnMidRefIdeal_pre_ffn_mid_finite (hFfnMidIdeal := hFfnMidIdeal) (hFfnMidRefIdeal := hFfnMidRefIdeal) (hPre_ffn_mid_finite := hPre_ffn_mid_finite)
    ∧ preserves_AdamW_AdamWIdeal
    ∧ algebraic_AdamWIdeal_AdamWRefIdeal (hAdamWIdeal := hAdamWIdeal) (hAdamWRefIdeal := hAdamWRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_PairSum_PairSumIdeal
    ∧ algebraic_PairSumIdeal_PairSumRefIdeal (hPairSumIdeal := hPairSumIdeal) (hPairSumRefIdeal := hPairSumRefIdeal) (hPre_core_in_range := hPre_core_in_range)
-- ==== Pre_a_fwd_finite.lean ====
abbrev S8192x1024 : Shape := ⟨2, ![8192, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg8 : FVec F S2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2048x1024 .f32 := Host.absf main_arg8
  let main_cst_14 : FVec F S_ .f32 := constant S_ .f32 0x7F800000#32
  let main_v33 : FVec F S2048x1024 .f32 := broadcastInDim S2048x1024 ![] bcast_S_S2048x1024 main_cst_14
  let main_v34 : IVec S2048x1024 1 := cmpf .olt main_v32 main_v33
  let main_c_15 : IVec S_ 1 := constantI S_ 1 1#1
  let main_v35 : IVec S_ 1 := (fun x v => Host.reduce IntOp.andi x v reducesTo_S2048x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2048 .f32) (main_arg5 : FVec F S2048 .f32) (main_arg6 : FVec F S8x128x128 .f32) (main_arg7 : FVec F S8x128 .f32) (main_arg8 : FVec F S2048x1024 .f32) (main_v3 : IVec S_ 1) (main_v7 : IVec S_ 1) (main_v11 : IVec S_ 1) (main_v15 : IVec S_ 1) : IVec S_ 1 :=
  let main_v16 : FVec F S2048 .f32 := Host.absf main_arg4
  let main_cst_6 : FVec F S_ .f32 := constant S_ .f32 0x7F800000#32
  let main_v17 : FVec F S2048 .f32 := broadcastInDim S2048 ![] bcast_S_S2048 main_cst_6
  let main_v18 : IVec S2048 1 := cmpf .olt main_v16 main_v17
  let main_c_7 : IVec S_ 1 := constantI S_ 1 1#1
  let main_v19 : IVec S_ 1 := (fun x v => Host.reduce IntOp.andi x v reducesTo_S2048_S_d0 h_S_) main_v18 main_c_7
  let main_v20 : FVec F S2048 .f32 := Host.absf main_arg5
  let main_cst_8 : FVec F S_ .f32 := constant S_ .f32 0x7F800000#32
  let main_v21 : FVec F S2048 .f32 := broadcastInDim S2048 ![] bcast_S_S2048 main_cst_8
  let main_v22 : IVec S2048 1 := cmpf .olt main_v20 main_v21
  let main_c_9 : IVec S_ 1 := constantI S_ 1 1#1
  let main_v23 : IVec S_ 1 := (fun x v => Host.reduce IntOp.andi x v reducesTo_S2048_S_d0 h_S_) main_v22 main_c_9
  let main_v24 : FVec F S8x128x128 .f32 := Host.absf main_arg6
  let main_cst_10 : FVec F S_ .f32 := constant S_ .f32 0x7F800000#32
  let main_v25 : FVec F S8x128x128 .f32 := broadcastInDim S8x128x128 ![] bcast_S_S8x128x128 main_cst_10
  let main_v26 : IVec S8x128x128 1 := cmpf .olt main_v24 main_v25
  let main_c_11 : IVec S_ 1 := constantI S_ 1 1#1
  let main_v27 : IVec S_ 1 := (fun x v => Host.reduce IntOp.andi x v reducesTo_S8x128x128_S_d0_1_2 h_S_) main_v26 main_c_11
  let main_v28 : FVec F S8x128 .f32 := Host.absf main_arg7
  let main_cst_12 : FVec F S_ .f32 := constant S_ .f32 0x7F800000#32
  let main_v29 : FVec F S8x128 .f32 := broadcastInDim S8x128 ![] bcast_S_S8x128 main_cst_12
  let main_v30 : IVec S8x128 1 := cmpf .olt main_v28 main_v29
  let main_c_13 : IVec S_ 1 := constantI S_ 1 1#1
  let main_v31 : IVec S_ 1 := (fun x v => Host.reduce IntOp.andi x v reducesTo_S8x128_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S1024 .f32) (main_arg2 : FVec F S1024 .f32) (main_arg3 : FVec F S1024x4096 .f32) (main_arg4 : FVec F S2048 .f32) (main_arg5 : FVec F S2048 .f32) (main_arg6 : FVec F S8x128x128 .f32) (main_arg7 : FVec F S8x128 .f32) (main_arg8 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x4096 .f32 := Host.absf main_arg3
  let main_cst_4 : FVec F S_ .f32 := constant S_ .f32 0x7F800000#32
  let main_v13 : FVec F S1024x4096 .f32 := broadcastInDim S1024x4096 ![] bcast_S_S1024x4096 main_cst_4
  let main_v14 : IVec S1024x4096 1 := cmpf .olt main_v12 main_v13
  let main_c_5 : IVec S_ 1 := constantI S_ 1 1#1
  let main_v15 : IVec S_ 1 := (fun x v => Host.reduce IntOp.andi x v reducesTo_S1024x4096_S_d0_1 h_S_) main_v14 main_c_5
  fn_part1 (F := F) main_arg4 main_arg5 main_arg6 main_arg7 main_arg8 main_v3 main_v7 main_v11 main_v15
-- ==== Pre_a_hidden_finite.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S8192x1024 : Shape := ⟨2, ![8192, 1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8x128 .f32) (main_arg5 : FVec F S2048x1024 .f32) (main_arg6 : FVec F S1024 .f32) (main_arg7 : FVec F S8192x1024 .f32) (main_v3 : IVec S_ 1) (main_v7 : IVec S_ 1) (main_v11 : IVec S_ 1) (main_v15 : IVec S_ 1) : IVec S_ 1 :=
  let main_v16 : FVec F S8x128 .f32 := Host.absf main_arg4
  let main_cst_6 : FVec F S_ .f32 := constant S_ .f32 0x7F800000#32
  let main_v17 : FVec F S8x128 .f32 := broadcastInDim S8x128 ![] bcast_S_S8x128 main_cst_6
  let main_v18 : IVec S8x128 1 := cmpf .olt main_v16 main_v17
  let main_c_7 : IVec S_ 1 := constantI S_ 1 1#1
  let main_v19 : IVec S_ 1 := (fun x v => Host.reduce IntOp.andi x v reducesTo_S8x128_S_d0_1 h_S_) main_v18 main_c_7
  let main_v20 : FVec F S2048x1024 .f32 := Host.absf main_arg5
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_c_9 : IVec S_ 1 := constantI S_ 1 1#1
  let main_v23 : IVec S_ 1 := (fun x v => Host.reduce IntOp.andi x v reducesTo_S2048x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_v3 main_v7 main_v11 main_v15 main_v19 main_v23 main_v27 main_v31

def fn {F : FTy → Type} [FloatOps F] (main_arg0 : FVec F S8192x4096 .f32) (main_arg1 : FVec F S2048 .f32) (main_arg2 : FVec F S2048 .f32) (main_arg3 : FVec F S8x128x128 .f32) (main_arg4 : FVec F S8x128 .f32) (main_arg5 : FVec F S2048x1024 .f32) (main_arg6 : FVec F S1024 .f32) (main_arg7 : FVec F S8192x1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : FVec F S8x128x128 .f32 := Host.absf main_arg3
  let main_cst_4 : FVec F S_ .f32 := constant S_ .f32 0x7F800000#32
  let main_v13 : FVec F S8x128x128 .f32 := broadcastInDim S8x128x128 ![] bcast_S_S8x128x128 main_cst_4
  let main_v14 : IVec S8x128x128 1 := cmpf .olt main_v12 main_v13
  let main_c_5 : IVec S_ 1 := constantI S_ 1 1#1
  let main_v15 : IVec S_ 1 := (fun x v => Host.reduce IntOp.andi x v reducesTo_S8x128x128_S_d0_1_2 h_S_) main_v14 main_c_5
  fn_part1 (F := F) main_arg4 main_arg5 main_arg6 main_arg7 main_v3 main_v7 main_v11 main_v15
-- ==== Pre_a_in_finite.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S1024 .f32) (main_arg2 : FVec F S1024x4096 .f32) (main_arg3 : FVec F S8192x1024 .f32) (main_arg4 : FVec F S8192x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : FVec F S8192x4096 .f32 := Host.absf main_arg4
  let main_cst_4 : FVec F S_ .f32 := constant S_ .f32 0x7F800000#32
  let main_v13 : FVec F S8192x4096 .f32 := broadcastInDim S8192x4096 ![] bcast_S_S8192x4096 main_cst_4
  let main_v14 : IVec S8192x4096 1 := cmpf .olt main_v12 main_v13
  let main_c_5 : IVec S_ 1 := constantI S_ 1 1#1
  let main_v15 : IVec S_ 1 := (fun x v => Host.reduce IntOp.andi x v reducesTo_S8192x4096_S_d0_1 h_S_) main_v14 main_c_5
  fn_part1 (F := F) main_v3 main_v7 main_v11 main_v15
-- ==== Pre_b_finite.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S4x256x256 .f32) (main_arg5 : FVec F S1024 .f32) (main_arg6 : FVec F S1024x1024 .f32) (main_arg7 : FVec F S8192x1024 .f32) (main_v3 : IVec S_ 1) (main_v7 : IVec S_ 1) (main_v11 : IVec S_ 1) (main_v15 : IVec S_ 1) : IVec S_ 1 :=
  let main_v16 : FVec F S4x256x256 .f32 := Host.absf main_arg4
  let main_cst_6 : FVec F S_ .f32 := constant S_ .f32 0x7F800000#32
  let main_v17 : FVec F S4x256x256 .f32 := broadcastInDim S4x256x256 ![] bcast_S_S4x256x256 main_cst_6
  let main_v18 : IVec S4x256x256 1 := cmpf .olt main_v16 main_v17
  let main_c_7 : IVec S_ 1 := constantI S_ 1 1#1
  let main_v19 : IVec S_ 1 := (fun x v => Host.reduce IntOp.andi x v reducesTo_S4x256x256_S_d0_1_2 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_v3 main_v7 main_v11 main_v15 main_v19 main_v23 main_v27 main_v31

def fn {F : FTy → Type} [FloatOps F] (main_arg0 : FVec F S8192x1024 .f32) (main_arg1 : FVec F S1024 .f32) (main_arg2 : FVec F S1024 .f32) (main_arg3 : FVec F S1024x1024 .f32) (main_arg4 : FVec F S4x256x256 .f32) (main_arg5 : FVec F S1024 .f32) (main_arg6 : FVec F S1024x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_arg7 main_v3 main_v7 main_v11 main_v15
-- ==== Pre_b_fwd_finite.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg4 : FVec F S4x256x256 .f32) (main_arg5 : FVec F S1024 .f32) (main_arg6 : FVec F S1024x1024 .f32) (main_v3 : IVec S_ 1) (main_v7 : IVec S_ 1) (main_v11 : IVec S_ 1) (main_v15 : IVec S_ 1) : IVec S_ 1 :=
  let main_v16 : FVec F S4x256x256 .f32 := Host.absf main_arg4
  let main_cst_6 : FVec F S_ .f32 := constant S_ .f32 0x7F800000#32
  let main_v17 : FVec F S4x256x256 .f32 := broadcastInDim S4x256x256 ![] bcast_S_S4x256x256 main_cst_6
  let main_v18 : IVec S4x256x256 1 := cmpf .olt main_v16 main_v17
  let main_c_7 : IVec S_ 1 := constantI S_ 1 1#1
  let main_v19 : IVec S_ 1 := (fun x v => Host.reduce IntOp.andi x v reducesTo_S4x256x256_S_d0_1_2 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1024 .f32) (main_arg2 : FVec F S1024 .f32) (main_arg3 : FVec F S1024x1024 .f32) (main_arg4 : FVec F S4x256x256 .f32) (main_arg5 : FVec F S1024 .f32) (main_arg6 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_arg5 main_arg6 main_v3 main_v7 main_v11 main_v15
-- ==== Pre_core_in_range.lean ====
abbrev S2 : Shape := ⟨1, ![2]⟩
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : IVec S2 32) (main_arg1 : FVec F S4x704x1024 .f32) (main_arg2 : FVec F S4x352x1024 .f32) : IVec S_ 1 :=
  let main_v0 : IVec S1 32 := (extractStridedSlice S1 ![1] · slices_S2_S1_1) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg0
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  main_v6
-- ==== Pre_ffn_fwd_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_arg6 : FVec F S8192x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Pre_ffn_hidden_finite.lean ====
abbrev S8192x2816 : Shape := ⟨2, ![8192, 2816]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2816 .f32) (main_arg1 : FVec F S8192x2816 .f32) (main_arg2 : FVec F S2816x1024 .f32) (main_arg3 : FVec F S1024 .f32) (main_arg4 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_ffn_in_finite.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg5 : FVec F S8192x2816 .f32) (main_arg6 : FVec F S8192x2816 .f32) (main_v3 : IVec S_ 1) (main_v7 : IVec S_ 1) (main_v11 : IVec S_ 1) (main_v15 : IVec S_ 1) : IVec S_ 1 :=
  let main_v16 : FVec F S8192x2816 .f32 := Host.absf main_arg5
  let main_cst_6 : FVec F S_ .f32 := constant S_ .f32 0x7F800000#32
  let main_v17 : FVec F S8192x2816 .f32 := broadcastInDim S8192x2816 ![] bcast_S_S8192x2816 main_cst_6
  let main_v18 : IVec S8192x2816 1 := cmpf .olt main_v16 main_v17
  let main_c_7 : IVec S_ 1 := constantI S_ 1 1#1
  let main_v19 : IVec S_ 1 := (fun x v => Host.reduce IntOp.andi x v reducesTo_S8192x2816_S_d0_1 h_S_) main_v18 main_c_7
  let main_v20 : FVec F S8192x2816 .f32 := Host.absf main_arg6
  let main_cst_8 : FVec F S_ .f32 := constant S_ .f32 0x7F800000#32
  let main_v21 : FVec F S8192x2816 .f32 := broadcastInDim S8192x2816 ![] bcast_S_S8192x2816 main_cst_8
  let main_v22 : IVec S8192x2816 1 := cmpf .olt main_v20 main_v21
  let main_c_9 : IVec S_ 1 := constantI S_ 1 1#1
  let main_v23 : IVec S_ 1 := (fun x v => Host.reduce IntOp.andi x v reducesTo_S8192x2816_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S8192x1024 .f32) (main_arg5 : FVec F S8192x2816 .f32) (main_arg6 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg5 main_arg6 main_v3 main_v7 main_v11 main_v15
-- ==== Pre_ffn_mid_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== AIn.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S8192x4x1024 : Shape := ⟨3, ![8192, 4, 1024]⟩
abbrev S4x8192x1024 : Shape := ⟨3, ![4, 8192, 1024]⟩
abbrev S1x1024 : Shape := ⟨2, ![1, 1024]⟩
abbrev S512x1024 : Shape := ⟨2, ![512, 1024]⟩
abbrev S4x512x1024 : Shape := ⟨3, ![4, 512, 1024]⟩
abbrev S512 : Shape := ⟨1, ![512]⟩
abbrev S512x1 : Shape := ⟨2, ![512, 1]⟩
abbrev S1x512x1024 : Shape := ⟨3, ![1, 512, 1024]⟩
abbrev S1x1024x1024 : Shape := ⟨3, ![1, 1024, 1024]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S8192x4x1024, .f32⟩
  | .hbm, ⟨9, _⟩ => ⟨S4x8192x1024, .f32⟩
  | .hbm, ⟨10, _⟩ => ⟨S4x8192x1024, .bf16⟩
  | .hbm, ⟨11, _⟩ => ⟨S1x1024, .f32⟩
  | .hbm, ⟨12, _⟩ => ⟨S8192x1024, .f32⟩
  | .hbm, ⟨13, _⟩ => ⟨S4x1024x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S4x1024x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AInRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S4096x1024, .f32⟩
  | .hbm, ⟨27, _⟩ => ⟨S1024x4096, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x4x1024, .f32⟩
  | .hbm, ⟨56, _⟩ => ⟨S4x1024x1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== FfnIn.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x2816x1024 : Shape := ⟨3, ![1, 2816, 1024]⟩
abbrev S1x8192x2816 : Shape := ⟨3, ![1, 8192, 2816]⟩
abbrev S1x1024 : Shape := ⟨2, ![1, 1024]⟩
abbrev S256x1024 : Shape := ⟨2, ![256, 1024]⟩
abbrev S1x256x2816 : Shape := ⟨3, ![1, 256, 2816]⟩
abbrev S256 : Shape := ⟨1, ![256]⟩
abbrev S256x1 : Shape := ⟨2, ![256, 1]⟩
abbrev S256x2816 : Shape := ⟨2, ![256, 2816]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S2816x1024, .bf16⟩
  | .hbm, ⟨9, _⟩ => ⟨S1x2816x1024, .bf16⟩
  | .hbm, ⟨10, _⟩ => ⟨S2816x1024, .f32⟩
  | .hbm, ⟨11, _⟩ => ⟨S2816x1024, .bf16⟩
  | .hbm, ⟨12, _⟩ => ⟨S1x2816x1024, .bf16⟩
  | .hbm, ⟨13, _⟩ => ⟨S8192x2816, .bf16⟩
  | .hbm, ⟨14, _⟩ => ⟨S1x8192x2816, .bf16⟩
  | .hbm, ⟨15, _⟩ => ⟨S8192x2816, .bf16⟩
  | .hbm, ⟨16, _⟩ => ⟨S1x8192x2816, .bf16⟩
  | .hbm, ⟨17, _⟩ => ⟨S1x1024, .f32⟩
  | .hbm, ⟨18, _⟩ => ⟨S8192x1024, .f32⟩
  | .hbm, ⟨19, _⟩ => ⟨S1x2816x1024, .f32⟩
  | .hbm, ⟨20, _⟩ => ⟨S1x2816x1024, .f32⟩
  | .hbm, ⟨21, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x256x2816, .bf16⟩
  | .local _ .vmem, ⟨6, _⟩ => ⟨S1x256x2816, .bf16⟩
  | .local _ .vmem, ⟨7, _⟩ => ⟨S1x256x2816, .bf16⟩
  | .local _ .vmem, ⟨8, _⟩ => ⟨S1x256x2816, .bf16⟩
  | .local _ .vmem, ⟨9, _⟩ => ⟨S1x2816x1024, .bf16⟩
  | .local _ .vmem, ⟨10, _⟩ => ⟨S1x2816x1024, .bf16⟩
  | .local _ .vmem, ⟨11, _⟩ => ⟨S256x1024, .f32⟩
  | .local _ .vmem, ⟨12, _⟩ => ⟨S256x1024, .f32⟩
  | .local _ .vmem, ⟨13, _⟩ => ⟨S1x2816x1024, .f32⟩
  | .local _ .vmem, ⟨14, _⟩ => ⟨S1x2816x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2816x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S1x2816x1024 : Shape := ⟨3, ![1, 2816, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S2816x1024, .f32⟩
  | .hbm, ⟨30, _⟩ => ⟨S1024x2816, .f32⟩
  | .hbm, ⟨31, _⟩ => ⟨S8192x1024, .f32⟩
  | .hbm, ⟨32, _⟩ => ⟨S2816x1024, .f32⟩
  | .hbm, ⟨33, _⟩ => ⟨S1024x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S2816x1024, .f32⟩
  | .hbm, ⟨63, _⟩ => ⟨S1x2816x1024, .f32⟩
  | .hbm, ⟨64, _⟩ => ⟨S2816x1024, .f32⟩
  | .hbm, ⟨65, _⟩ => ⟨S1x2816x1024, .f32⟩
  | .hbm, ⟨66, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== FfnHidden.lean ====
abbrev S8192x2816 : Shape := ⟨2, ![8192, 2816]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩
abbrev S1x1024 : Shape := ⟨2, ![1, 1024]⟩
abbrev S1x8192x2816 : Shape := ⟨3, ![1, 8192, 2816]⟩
abbrev S1x2816x1024 : Shape := ⟨3, ![1, 2816, 1024]⟩
abbrev S512x1024 : Shape := ⟨2, ![512, 1024]⟩
abbrev S1x512x2816 : Shape := ⟨3, ![1, 512, 2816]⟩
abbrev S512 : Shape := ⟨1, ![512]⟩
abbrev S512x1 : Shape := ⟨2, ![512, 1]⟩
abbrev S512x2816 : Shape := ⟨2, ![512, 2816]⟩

abbrev nBuf : Space → Nat
  | .hbm => 38
  | .vmem => 18
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S1x1024, .f32⟩
  | .hbm, ⟨26, _⟩ => ⟨S8192x2816, .bf16⟩
  | .hbm, ⟨27, _⟩ => ⟨S1x8192x2816, .bf16⟩
  | .hbm, ⟨28, _⟩ => ⟨S8192x2816, .bf16⟩
  | .hbm, ⟨29, _⟩ => ⟨S1x8192x2816, .bf16⟩
  | .hbm, ⟨30, _⟩ => ⟨S8192x2816, .bf16⟩
  | .hbm, ⟨31, _⟩ => ⟨S1x8192x2816, .bf16⟩
  | .hbm, ⟨32, _⟩ => ⟨S2816x1024, .bf16⟩
  | .hbm, ⟨33, _⟩ => ⟨S1x2816x1024, .bf16⟩
  | .hbm, ⟨34, _⟩ => ⟨S1x8192x2816, .bf16⟩
  | .hbm, ⟨35, _⟩ => ⟨S1x8192x2816, .bf16⟩
  | .hbm, ⟨36, _⟩ => ⟨S1x2816x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x2816, .bf16⟩
  | .local _ .vmem, ⟨6, _⟩ => ⟨S1x512x2816, .bf16⟩
  | .local _ .vmem, ⟨7, _⟩ => ⟨S1x512x2816, .bf16⟩
  | .local _ .vmem, ⟨8, _⟩ => ⟨S1x512x2816, .bf16⟩
  | .local _ .vmem, ⟨9, _⟩ => ⟨S1x512x2816, .bf16⟩
  | .local _ .vmem, ⟨10, _⟩ => ⟨S1x512x2816, .bf16⟩
  | .local _ .vmem, ⟨11, _⟩ => ⟨S1x2816x1024, .bf16⟩
  | .local _ .vmem, ⟨12, _⟩ => ⟨S1x512x2816, .bf16⟩
  | .local _ .vmem, ⟨13, _⟩ => ⟨S1x512x2816, .bf16⟩
  | .local _ .vmem, ⟨14, _⟩ => ⟨S1x512x2816, .bf16⟩
  | .local _ .vmem, ⟨15, _⟩ => ⟨S1x512x2816, .bf16⟩
  | .local _ .vmem, ⟨16, _⟩ => ⟨S1x2816x1024, .f32⟩
  | .local _ .vmem, ⟨17, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2816x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnHiddenRefIdeal.lean ====
abbrev S8192x2816 : Shape := ⟨2, ![8192, 2816]⟩
abbrev S2816x1024 : Shape := ⟨2, ![2816, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2816 : Shape := ⟨2, ![1024, 2816]⟩
abbrev S1x8192x2816 : Shape := ⟨3, ![1, 8192, 2816]⟩
abbrev S1x2816x1024 : Shape := ⟨3, ![1, 2816, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1024x2816, .f32⟩
  | .hbm, ⟨66, _⟩ => ⟨S2816x1024, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S8192x2816, .f32⟩
  | .hbm, ⟨74, _⟩ => ⟨S8192x2816, .bf16⟩
  | .hbm, ⟨75, _⟩ => ⟨S1x8192x2816, .bf16⟩
  | .hbm, ⟨76, _⟩ => ⟨S8192x2816, .bf16⟩
  | .hbm, ⟨77, _⟩ => ⟨S1x8192x2816, .bf16⟩
  | .hbm, ⟨78, _⟩ => ⟨S1x2816x1024, .f32⟩
  | .hbm, ⟨79, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v0_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v0_1 : Ref sig .tc := ⟨.hbm, 16, rfl⟩
abbrev main_v0_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== AHidden.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S8192x1024 : Shape := ⟨2, ![8192, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S1x1024 : Shape := ⟨2, ![1, 1024]⟩
abbrev S8192x4x1024 : Shape := ⟨3, ![8192, 4, 1024]⟩
abbrev S4x8192x1024 : Shape := ⟨3, ![4, 8192, 1024]⟩
abbrev S2x1024 : Shape := ⟨2, ![2, 1024]⟩
abbrev S2x1024x1024 : Shape := ⟨3, ![2, 1024, 1024]⟩
abbrev S512x1024 : Shape := ⟨2, ![512, 1024]⟩
abbrev S4x512x1024 : Shape := ⟨3, ![4, 512, 1024]⟩
abbrev S512 : Shape := ⟨1, ![512]⟩
abbrev S512x1 : Shape := ⟨2, ![512, 1]⟩
abbrev S1x512x1024 : Shape := ⟨3, ![1, 512, 1024]⟩
abbrev S128x1 : Shape := ⟨2, ![128, 1]⟩
abbrev S128x256 : Shape := ⟨2, ![128, 256]⟩
abbrev S1x1024x1024 : Shape := ⟨3, ![1, 1024, 1024]⟩
abbrev S1024x1024 : Shape := ⟨2, ![1024, 1024]⟩
abbrev S128x1024 : Shape := ⟨2, ![128, 1024]⟩
abbrev S128 : Shape := ⟨1, ![128]⟩

abbrev nBuf : Space → Nat
  | .hbm => 125
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S2048x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S64x128x8x256, .f32⟩
  | .hbm, ⟨80, _⟩ => ⟨S64x128x8x256, .f32⟩
  | .hbm, ⟨81, _⟩ => ⟨S_, .i1⟩
  | .hbm, ⟨82, _⟩ => ⟨S128x128, .i1⟩
  | .hbm, ⟨83, _⟩ => ⟨S128x128, .i32⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S_, .i1⟩
  | .hbm, ⟨90, _⟩ => ⟨S128x128, .i1⟩
  | .hbm, ⟨91, _⟩ => ⟨S128x128, .i1⟩
  | .hbm, ⟨92, _⟩ => ⟨S1x128x128, .i1⟩
  | .hbm, ⟨93, _⟩ => ⟨S_, .f32⟩
  | .hbm, ⟨94, _⟩ => ⟨S8x128x128, .f32⟩
  | .hbm, ⟨95, _⟩ => ⟨S8x128x128, .i1⟩
  | .hbm, ⟨96, _⟩ => ⟨S8x128x128, .f32⟩
  | .hbm, ⟨97, _⟩ => ⟨S8x64x256x128, .f32⟩
  | .hbm, ⟨98, _⟩ => ⟨S64x128x8x256, .f32⟩
  | .hbm, ⟨99, _⟩ => ⟨S128x8, .f32⟩
  | .hbm, ⟨100, _⟩ => ⟨S1x128x8x1, .f32⟩
  | .hbm, ⟨101, _⟩ => ⟨S64x128x8x256, .f32⟩
  | .hbm, ⟨102, _⟩ => ⟨S64x128x8x256, .f32⟩
  | .hbm, ⟨103, _⟩ => ⟨S64x128x8x256, .f32⟩
  | .hbm, ⟨104, _⟩ => ⟨S8192x2048, .f32⟩
  | .hbm, ⟨105, _⟩ => ⟨S8192x1024, .f32⟩
  | .hbm, ⟨106, _⟩ => ⟨S1x1024, .f32⟩
  | .hbm, ⟨107, _⟩ => ⟨S8192x4x1024, .f32⟩
  | .hbm, ⟨108, _⟩ => ⟨S4x8192x1024, .f32⟩
  | .hbm, ⟨109, _⟩ => ⟨S4x8192x1024, .bf16⟩
  | .hbm, ⟨110, _⟩ => ⟨S8192x4x1024, .f32⟩
  | .hbm, ⟨111, _⟩ => ⟨S4x8192x1024, .f32⟩
  | .hbm, ⟨112, _⟩ => ⟨S4x8192x1024, .bf16⟩
  | .hbm, ⟨113, _⟩ => ⟨S2x1024, .f32⟩
  | .hbm, ⟨114, _⟩ => ⟨S2x1024, .f32⟩
  | .hbm, ⟨115, _⟩ => ⟨S128x8, .f32⟩
  | .hbm, ⟨116, _⟩ => ⟨S2048x1024, .bf16⟩
  | .hbm, ⟨117, _⟩ => ⟨S2x1024x1024, .bf16⟩
  | .hbm, ⟨118, _⟩ => ⟨S4x8192x1024, .bf16⟩
  | .hbm, ⟨119, _⟩ => ⟨S2x1024x1024, .f32⟩
  | .hbm, ⟨120, _⟩ => ⟨S8x128x128, .f32⟩
  | .hbm, ⟨121, _⟩ => ⟨S128x8, .f32⟩
  | .hbm, ⟨122, _⟩ => ⟨S2x1024, .f32⟩
  | .hbm, ⟨123, _⟩ => ⟨S2x1024, .f32⟩
  | .hbm, ⟨124, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S4x512x1024, .bf16⟩
  | .local _ .vmem, ⟨8, _⟩ => ⟨S4x512x1024, .bf16⟩
  | .local _ .vmem, ⟨9, _⟩ => ⟨S2x1024, .f32⟩
  | .local _ .vmem, ⟨10, _⟩ => ⟨S2x1024, .f32⟩
  | .local _ .vmem, ⟨11, _⟩ => ⟨S8x128x128, .f32⟩
  | .local _ .vmem, ⟨12, _⟩ => ⟨S128x8, .f32⟩
  | .local _ .vmem, ⟨13, _⟩ => ⟨S2x1024x1024, .bf16⟩
  | .local _ .vmem, ⟨14, _⟩ => ⟨S4x512x1024, .bf16⟩
  | .local _ .vmem, ⟨15, _⟩ => ⟨S4x512x1024, .bf16⟩
  | .local _ .vmem, ⟨16, _⟩ => ⟨S2x1024x1024, .f32⟩
  | .local _ .vmem, ⟨17, _⟩ => ⟨S8x128x128, .f32⟩
  | .local _ .vmem, ⟨18, _⟩ => ⟨S128x8, .f32⟩
  | .local _ .vmem, ⟨19, _⟩ => ⟨S2x1024, .f32⟩
  | .local _ .vmem, ⟨20, _⟩ => ⟨S2x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_v43 : Ref sig .tc := ⟨.hbm, 66, rfl⟩
abbrev main_cst_14 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c : Ref sig .tc := ⟨.hbm, 81, rfl⟩
abbrev main_v57 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_call1_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83_0 : Ref sig .tc := ⟨.hbm, 118, rfl⟩
abbrev main_v83_1 : Ref sig .tc := ⟨.hbm, 119, rfl⟩
abbrev main_v83_2 : Ref sig .tc := ⟨.hbm, 120, rfl⟩
abbrev main_v83_3 : Ref sig .tc := ⟨.hbm, 121, rfl⟩
abbrev main_v83_4 : Ref sig .tc := ⟨.hbm, 122, rfl⟩
abbrev main_v83_5 : Ref sig .tc := ⟨.hbm, 123, rfl⟩
abbrev main_v83_6 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AHiddenRefIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024 : Shape := ⟨1, ![1024]⟩
abbrev S8192x1024 : Shape := ⟨2, ![8192, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S1x1024 : Shape := ⟨2, ![1, 1024]⟩
abbrev S1024x2048 : Shape := ⟨2, ![1024, 2048]⟩
abbrev S8192x4x1024 : Shape := ⟨3, ![8192, 4, 1024]⟩
abbrev S4x8192x1024 : Shape := ⟨3, ![4, 8192, 1024]⟩
abbrev S2x1024x1024 : Shape := ⟨3, ![2, 1024, 1024]⟩
abbrev S2x1024 : Shape := ⟨2, ![2, 1024]⟩

abbrev nBuf : Space → Nat
  | .hbm => 219
  | .vmem => 0
  | .smem => 0
  | _ => 0

abbrev hbmTy0_0 (i : Nat) : BufTy := match i % 128 with
  | 0 => ⟨S8192x4096, .f32⟩
  | 1 => ⟨S2048, .f32⟩
  | 2 => ⟨S2048, .f32⟩
  | 3 => ⟨S8x128x128, .f32⟩
  | 4 => ⟨S8x128, .f32⟩
  | 5 => ⟨S2048x1024, .f32⟩
  | 6 => ⟨S1024, .f32⟩
  | 7 => ⟨S8192x1024, .f32⟩
  | 8 => ⟨S_, .f32⟩
  | 9 => ⟨S8192x4096, .f32⟩
  | 10 => ⟨S8192x4096, .f32⟩
  | 11 => ⟨S_, .f32⟩
  | 12 => ⟨S_, .f32⟩
  | 13 => ⟨S8192x4096, .f32⟩
  | 14 => ⟨S8192x4096, .f32⟩
  | 15 => ⟨S8192x4096, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S8192x4096, .f32⟩
  | 24 => ⟨S8192x4096, .f32⟩
  | 25 => ⟨S8192x4096, .f32⟩
  | 26 => ⟨S8192x4096, .f32⟩
  | 27 => ⟨S8192x4096, .f32⟩
  | 28 => ⟨S_, .f32⟩
  | 29 => ⟨S8192x4096, .f32⟩
  | 30 => ⟨S8192x4096, .f32⟩
  | 31 => ⟨S8192x4096, .f32⟩
  | 32 => ⟨S8192x2048, .f32⟩
  | 33 => ⟨S8192x2048, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x2048, .f32⟩
  | 41 => ⟨S8192x2048, .f32⟩
  | 42 => ⟨S8192x2048, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x2048, .f32⟩
  | 58 => ⟨S8192x2048, .f32⟩
  | 59 => ⟨S1x2048, .f32⟩
  | 60 => ⟨S8192x2048, .f32⟩
  | 61 => ⟨S8192x2048, .f32⟩
  | 62 => ⟨S1x2048, .f32⟩
  | 63 => ⟨S8192x2048, .f32⟩
  | 64 => ⟨S8192x2048, .f32⟩
  | 65 => ⟨S64x128x8x256, .f32⟩
  | 66 => ⟨S64x128x8x256, .f32⟩
  | 67 => ⟨S_, .i1⟩
  | 68 => ⟨S128x128, .i1⟩
  | 69 => ⟨S128x128, .i32⟩
  | 70 => ⟨S_, .i32⟩
  | 71 => ⟨S128x128, .i32⟩
  | 72 => ⟨S128x128, .i32⟩
  | 73 => ⟨S128x128, .i32⟩
  | 74 => ⟨S128x128, .i1⟩
  | 75 => ⟨S_, .i1⟩
  | 76 => ⟨S128x128, .i1⟩
  | 77 => ⟨S128x128, .i1⟩
  | 78 => ⟨S1x128x128, .i1⟩
  | 79 => ⟨S_, .f32⟩
  | 80 => ⟨S8x128x128, .f32⟩
  | 81 => ⟨S8x128x128, .i1⟩
  | 82 => ⟨S8x128x128, .f32⟩
  | 83 => ⟨S_, .f32⟩
  | 84 => ⟨S8x128x128, .f32⟩
  | 85 => ⟨S8x64x256x128, .f32⟩
  | 86 => ⟨S64x128x8x256, .f32⟩
  | 87 => ⟨S128x8, .f32⟩
  | 88 => ⟨S1x128x8x1, .f32⟩
  | 89 => ⟨S64x128x8x256, .f32⟩
  | 90 => ⟨S64x128x8x256, .f32⟩
  | 91 => ⟨S64x128x8x256, .f32⟩
  | 92 => ⟨S8192x2048, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S1x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x4096, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S1024x2048, .f32⟩
  | 12 => ⟨S2048x1024, .f32⟩
  | 13 => ⟨S8192x2048, .f32⟩
  | 14 => ⟨S64x128x8x256, .f32⟩
  | 15 => ⟨S64x128x8x256, .f32⟩
  | 16 => ⟨S64x128x8x256, .f32⟩
  | 17 => ⟨S_, .f32⟩
  | 18 => ⟨S128x8, .f32⟩
  | 19 => ⟨S1x128x8x1, .f32⟩
  | 20 => ⟨S_, .f32⟩
  | 21 => ⟨S128x8, .f32⟩
  | 22 => ⟨S8x128, .f32⟩
  | 23 => ⟨S8x64x256x128, .f32⟩
  | 24 => ⟨S8x128x128, .f32⟩
  | 25 => ⟨S8x64x256x128, .f32⟩
  | 26 => ⟨S64x128x8x256, .f32⟩
  | 27 => ⟨S_, .f32⟩
  | 28 => ⟨S8x128x128, .f32⟩
  | 29 => ⟨S8x128x128, .f32⟩
  | 30 => ⟨S8192x2048, .f32⟩
  | 31 => ⟨S8192x2048, .f32⟩
  | 32 => ⟨S_, .f32⟩
  | 33 => ⟨S2048, .f32⟩
  | 34 => ⟨S1x2048, .f32⟩
  | 35 => ⟨S_, .f32⟩
  | 36 => ⟨S2048, .f32⟩
  | 37 => ⟨S8192x2048, .f32⟩
  | 38 => ⟨S_, .f32⟩
  | 39 => ⟨S2048, .f32⟩
  | 40 => ⟨S1x2048, .f32⟩
  | 41 => ⟨S8192x2048, .f32⟩
  | 42 => ⟨S8192x2048, .f32⟩
  | 43 => ⟨S_, .f32⟩
  | 44 => ⟨S2048, .f32⟩
  | 45 => ⟨S8192x2048, .f32⟩
  | 46 => ⟨S_, .f32⟩
  | 47 => ⟨S8192, .f32⟩
  | 48 => ⟨S8192x1, .f32⟩
  | 49 => ⟨S8192x2048, .f32⟩
  | 50 => ⟨S8192x2048, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192, .f32⟩
  | 57 => ⟨S8192x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x2048, .f32⟩
  | 72 => ⟨S8192x2048, .f32⟩
  | 73 => ⟨S8192x4096, .f32⟩
  | 74 => ⟨S8192x4096, .f32⟩
  | 75 => ⟨S8192x4096, .f32⟩
  | 76 => ⟨S8192x4096, .f32⟩
  | 77 => ⟨S8192x4096, .f32⟩
  | 78 => ⟨S8192x4096, .f32⟩
  | 79 => ⟨S_, .f32⟩
  | 80 => ⟨S8192x4096, .f32⟩
  | 81 => ⟨S8192x4096, .f32⟩
  | 82 => ⟨S8192x4096, .f32⟩
  | 83 => ⟨S8192x4x1024, .f32⟩
  | 84 => ⟨S4x8192x1024, .f32⟩
  | 85 => ⟨S4x8192x1024, .bf16⟩
  | 86 => ⟨S2x1024x1024, .f32⟩
  | 87 => ⟨S128x8, .f32⟩
  | 88 => ⟨S2x1024, .f32⟩
  | 89 => ⟨S2x1024, .f32⟩
  | 90 => ⟨S1x1024, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c : Ref sig .tc := ⟨.hbm, 67, rfl⟩
abbrev main_v47 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_0 : Ref sig .tc := ⟨.hbm, 75, rfl⟩
abbrev main_call0_v5 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51_1 : Ref sig .tc := ⟨.hbm, 81, rfl⟩
abbrev main_v51_0 : Ref sig .tc := ⟨.hbm, 82, rfl⟩
abbrev main_call1_cst : Ref sig .tc := ⟨.hbm, 83, rfl⟩
abbrev main_v51_2 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_17 : Ref sig .tc := ⟨.hbm, 120, rfl⟩
abbrev main_v82 : Ref sig .tc := ⟨.hbm, 121, rfl⟩
abbrev main_v83 : Ref sig .tc := ⟨.hbm, 122, rfl⟩
abbrev main_cst_18 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_19 : Ref sig .tc := ⟨.hbm, 129, rfl⟩
abbrev main_v89 : Ref sig .tc := ⟨.hbm, 130, rfl⟩
abbrev main_v90 : Ref sig .tc := ⟨.hbm, 131, rfl⟩
abbrev main_cst_20 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_21 : Ref sig .tc := ⟨.hbm, 145, rfl⟩
abbrev main_v103 : Ref sig .tc := ⟨.hbm, 146, rfl⟩
abbrev main_v104 : Ref sig .tc := ⟨.hbm, 147, rfl⟩
abbrev main_cst_22 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_call2_cst : Ref sig .tc := ⟨.hbm, 155, rfl⟩
abbrev main_call2_v0 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_23 : Ref sig .tc := ⟨.hbm, 160, rfl⟩
abbrev main_v114 : Ref sig .tc := ⟨.hbm, 161, rfl⟩
abbrev main_v115 : Ref sig .tc := ⟨.hbm, 162, rfl⟩
abbrev main_cst_24 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_26 : Ref sig .tc := ⟨.hbm, 171, rfl⟩
abbrev main_v122 : Ref sig .tc := ⟨.hbm, 172, rfl⟩
abbrev main_v123 : Ref sig .tc := ⟨.hbm, 173, rfl⟩
abbrev main_cst_27 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_28 : Ref sig .tc := ⟨.hbm, 180, rfl⟩
abbrev main_v129 : Ref sig .tc := ⟨.hbm, 181, rfl⟩
abbrev main_v130 : Ref sig .tc := ⟨.hbm, 182, rfl⟩
abbrev main_cst_29 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_30 : Ref sig .tc := ⟨.hbm, 191, rfl⟩
abbrev main_v138 : Ref sig .tc := ⟨.hbm, 192, rfl⟩
abbrev main_v139 : Ref sig .tc := ⟨.hbm, 193, rfl⟩
abbrev main_cst_31 : Ref sig .tc := ⟨.hbm, 194, rfl⟩
abbrev main_v140 : Ref sig .tc := ⟨.hbm, 195, rfl⟩
abbrev main_v141 : Ref sig .tc := ⟨.hbm, 196, rfl⟩
abbrev main_cst_32 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_cst_33 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩

abbrev nD : Nat := 1
abbrev τ : Topo := Topo.v7x

variable {F : FTy → Type} [FloatOps F]
-- ==== BBwd.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8193x1024 : Shape := ⟨2, ![8193, 1024]⟩
abbrev S8193x256 : Shape := ⟨2, ![8193, 256]⟩
abbrev S1x256 : Shape := ⟨2, ![1, 256]⟩
abbrev S8194x256 : Shape := ⟨2, ![8194, 256]⟩
abbrev S8192x256 : Shape := ⟨2, ![8192, 256]⟩
abbrev S3x256 : Shape := ⟨2, ![3, 256]⟩
abbrev S8196x256 : Shape := ⟨2, ![8196, 256]⟩
abbrev S7x256 : Shape := ⟨2, ![7, 256]⟩
abbrev S8200x256 : Shape := ⟨2, ![8200, 256]⟩
abbrev S15x256 : Shape := ⟨2, ![15, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S512x1024 : Shape := ⟨2, ![512, 1024]⟩
abbrev S16x1024 : Shape := ⟨2, ![16, 1024]⟩
abbrev S528x1024 : Shape := ⟨2, ![528, 1024]⟩
abbrev S528x256 : Shape := ⟨2, ![528, 256]⟩
abbrev S512x256 : Shape := ⟨2, ![512, 256]⟩
abbrev S512x1 : Shape := ⟨2, ![512, 1]⟩
abbrev S512 : Shape := ⟨1, ![512]⟩
abbrev S1x256x256 : Shape := ⟨3, ![1, 256, 256]⟩
abbrev S256x256 : Shape := ⟨2, ![256, 256]⟩
abbrev S16 : Shape := ⟨1, ![16]⟩
abbrev S16x1 : Shape := ⟨2, ![16, 1]⟩
abbrev S16x256 : Shape := ⟨2, ![16, 256]⟩

abbrev nBuf : Space → Nat
  | .hbm => 133
  | .vmem => 30
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x1024, .f32⟩
  | 4 => ⟨S4x256x256, .f32⟩
  | 5 => ⟨S1024, .f32⟩
  | 6 => ⟨S1024x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x1024, .f32⟩
  | 25 => ⟨S_, .f32⟩
  | 26 => ⟨S_, .f32⟩
  | 27 => ⟨S8192x1024, .f32⟩
  | 28 => ⟨S_, .f32⟩
  | 29 => ⟨S1x1024, .f32⟩
  | 30 => ⟨S8193x1024, .f32⟩
  | 31 => ⟨S8192, .i32⟩
  | 32 => ⟨S8193x256, .f32⟩
  | 33 => ⟨S_, .f32⟩
  | 34 => ⟨S1x256, .f32⟩
  | 35 => ⟨S8194x256, .f32⟩
  | 36 => ⟨S8192x256, .f32⟩
  | 37 => ⟨S8192x256, .f32⟩
  | 38 => ⟨S8192x256, .f32⟩
  | 39 => ⟨S_, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192, .f32⟩
  | 46 => ⟨S8192x1, .f32⟩
  | 47 => ⟨S8192x256, .f32⟩
  | 48 => ⟨S8192x256, .f32⟩
  | 49 => ⟨S8192x256, .f32⟩
  | 50 => ⟨S8192x256, .f32⟩
  | 51 => ⟨S8193x256, .f32⟩
  | 52 => ⟨S_, .f32⟩
  | 53 => ⟨S3x256, .f32⟩
  | 54 => ⟨S8196x256, .f32⟩
  | 55 => ⟨S8192x256, .f32⟩
  | 56 => ⟨S8192x256, .f32⟩
  | 57 => ⟨S8192x256, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S8192x1, .f32⟩
  | 66 => ⟨S8192x256, .f32⟩
  | 67 => ⟨S8192x256, .f32⟩
  | 68 => ⟨S8192x256, .f32⟩
  | 69 => ⟨S8192x256, .f32⟩
  | 70 => ⟨S8193x256, .f32⟩
  | 71 => ⟨S_, .f32⟩
  | 72 => ⟨S7x256, .f32⟩
  | 73 => ⟨S8200x256, .f32⟩
  | 74 => ⟨S8192x256, .f32⟩
  | 75 => ⟨S8192x256, .f32⟩
  | 76 => ⟨S8192x256, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S8192x1, .f32⟩
  | 85 => ⟨S8192x256, .f32⟩
  | 86 => ⟨S8192x256, .f32⟩
  | 87 => ⟨S8192x256, .f32⟩
  | 88 => ⟨S8192x256, .f32⟩
  | 89 => ⟨S8193x256, .f32⟩
  | 90 => ⟨S_, .f32⟩
  | 91 => ⟨S15x256, .f32⟩
  | 92 => ⟨S8208x256, .f32⟩
  | 93 => ⟨S8192x256, .f32⟩
  | 94 => ⟨S8192x256, .f32⟩
  | 95 => ⟨S8192x256, .f32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .f32⟩
  | 103 => ⟨S8192x1, .f32⟩
  | 104 => ⟨S8192x256, .f32⟩
  | 105 => ⟨S8192x256, .f32⟩
  | 106 => ⟨S8192x256, .f32⟩
  | 107 => ⟨S8192x256, .f32⟩
  | 108 => ⟨S8192x1x256, .f32⟩
  | 109 => ⟨S8192x1x256, .f32⟩
  | 110 => ⟨S8192x1x256, .f32⟩
  | 111 => ⟨S8192x1x256, .f32⟩
  | 112 => ⟨S8192x4x256, .f32⟩
  | 113 => ⟨S4x256x8192, .f32⟩
  | 114 => ⟨S8192x4x256, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S1x1024, .f32⟩
  | 121 => ⟨S1x1024, .f32⟩
  | 122 => ⟨S1024x1024, .bf16⟩
  | 123 => ⟨S4x256x256, .bf16⟩
  | 124 => ⟨S1x1024, .f32⟩
  | 125 => ⟨S1024x1024, .bf16⟩
  | 126 => ⟨S8192x1024, .f32⟩
  | 127 => ⟨S1024x1024, .f32⟩
  | _ => ⟨S8192x1024, .f32⟩

abbrev hbmTy0_1 (i : Nat) : BufTy := match i % 128 with
  | 0 => ⟨S4x256x256, .f32⟩
  | 1 => ⟨S1x1024, .f32⟩
  | 2 => ⟨S1x1024, .f32⟩
  | 3 => ⟨S1024x1024, .f32⟩
  | 4 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S4x256x256, .bf16⟩
  | .local _ .vmem, ⟨20, _⟩ => ⟨S1x1024, .f32⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | .local _ .vmem, ⟨25, _⟩ => ⟨S4x256x256, .f32⟩
  | .local _ .vmem, ⟨26, _⟩ => ⟨S1x1024, .f32⟩
  | .local _ .vmem, ⟨27, _⟩ => ⟨S1x1024, .f32⟩
  | .local _ .vmem, ⟨28, _⟩ => ⟨S1024x1024, .f32⟩
  | .local _ .vmem, ⟨29, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_call0_cst : Ref sig .tc := ⟨.hbm, 25, rfl⟩
abbrev main_call0_call0_v0 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100_0 : Ref sig .tc := ⟨.hbm, 126, rfl⟩
abbrev main_v100_1 : Ref sig .tc := ⟨.hbm, 127, rfl⟩
abbrev main_v100_2 : Ref sig .tc := ⟨.hbm, 128, rfl⟩
abbrev main_v100_3 : Ref sig .tc := ⟨.hbm, 129, rfl⟩
abbrev main_v100_4 : Ref sig .tc := ⟨.hbm, 130, rfl⟩
abbrev main_v100_5 : Ref sig .tc := ⟨.hbm, 131, rfl⟩
abbrev main_v100_6 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== BBwdRefIdeal.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8193x1024 : Shape := ⟨2, ![8193, 1024]⟩
abbrev S8193x256 : Shape := ⟨2, ![8193, 256]⟩
abbrev S1x256 : Shape := ⟨2, ![1, 256]⟩
abbrev S8194x256 : Shape := ⟨2, ![8194, 256]⟩
abbrev S8192x256 : Shape := ⟨2, ![8192, 256]⟩
abbrev S3x256 : Shape := ⟨2, ![3, 256]⟩
abbrev S8196x256 : Shape := ⟨2, ![8196, 256]⟩
abbrev S7x256 : Shape := ⟨2, ![7, 256]⟩
abbrev S8200x256 : Shape := ⟨2, ![8200, 256]⟩
abbrev S15x256 : Shape := ⟨2, ![15, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x8192 : Shape := ⟨3, ![4, 256, 8192]⟩
abbrev S4x8192x256 : Shape := ⟨3, ![4, 8192, 256]⟩

abbrev nBuf : Space → Nat
  | .hbm => 310
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x1024, .f32⟩
  | 4 => ⟨S4x256x256, .f32⟩
  | 5 => ⟨S1024, .f32⟩
  | 6 => ⟨S1024x1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1024, .f32⟩
  | 29 => ⟨S_, .f32⟩
  | 30 => ⟨S_, .f32⟩
  | 31 => ⟨S8192x1024, .f32⟩
  | 32 => ⟨S_, .f32⟩
  | 33 => ⟨S1x1024, .f32⟩
  | 34 => ⟨S8193x1024, .f32⟩
  | 35 => ⟨S_, .f32⟩
  | 36 => ⟨S1x1024, .f32⟩
  | 37 => ⟨S8192, .i32⟩
  | 38 => ⟨S8193x256, .f32⟩
  | 39 => ⟨S_, .f32⟩
  | 40 => ⟨S1x256, .f32⟩
  | 41 => ⟨S8194x256, .f32⟩
  | 42 => ⟨S_, .f32⟩
  | 43 => ⟨S1x256, .f32⟩
  | 44 => ⟨S8192x256, .f32⟩
  | 45 => ⟨S8192x256, .f32⟩
  | 46 => ⟨S8192x256, .f32⟩
  | 47 => ⟨S_, .i32⟩
  | 48 => ⟨S8192, .i32⟩
  | 49 => ⟨S8192, .i32⟩
  | 50 => ⟨S_, .i32⟩
  | 51 => ⟨S8192, .i32⟩
  | 52 => ⟨S8192, .i32⟩
  | 53 => ⟨S8192, .f32⟩
  | 54 => ⟨S8192x1, .f32⟩
  | 55 => ⟨S8192x256, .f32⟩
  | 56 => ⟨S8192x256, .f32⟩
  | 57 => ⟨S8192x256, .f32⟩
  | 58 => ⟨S8192x256, .f32⟩
  | 59 => ⟨S8193x256, .f32⟩
  | 60 => ⟨S_, .f32⟩
  | 61 => ⟨S3x256, .f32⟩
  | 62 => ⟨S8196x256, .f32⟩
  | 63 => ⟨S_, .f32⟩
  | 64 => ⟨S3x256, .f32⟩
  | 65 => ⟨S8192x256, .f32⟩
  | 66 => ⟨S8192x256, .f32⟩
  | 67 => ⟨S8192x256, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S8192x1, .f32⟩
  | 76 => ⟨S8192x256, .f32⟩
  | 77 => ⟨S8192x256, .f32⟩
  | 78 => ⟨S8192x256, .f32⟩
  | 79 => ⟨S8192x256, .f32⟩
  | 80 => ⟨S8193x256, .f32⟩
  | 81 => ⟨S_, .f32⟩
  | 82 => ⟨S7x256, .f32⟩
  | 83 => ⟨S8200x256, .f32⟩
  | 84 => ⟨S_, .f32⟩
  | 85 => ⟨S7x256, .f32⟩
  | 86 => ⟨S8192x256, .f32⟩
  | 87 => ⟨S8192x256, .f32⟩
  | 88 => ⟨S8192x256, .f32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S8192x1, .f32⟩
  | 97 => ⟨S8192x256, .f32⟩
  | 98 => ⟨S8192x256, .f32⟩
  | 99 => ⟨S8192x256, .f32⟩
  | 100 => ⟨S8192x256, .f32⟩
  | 101 => ⟨S8193x256, .f32⟩
  | 102 => ⟨S_, .f32⟩
  | 103 => ⟨S15x256, .f32⟩
  | 104 => ⟨S8208x256, .f32⟩
  | 105 => ⟨S_, .f32⟩
  | 106 => ⟨S15x256, .f32⟩
  | 107 => ⟨S8192x256, .f32⟩
  | 108 => ⟨S8192x256, .f32⟩
  | 109 => ⟨S8192x256, .f32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .f32⟩
  | 117 => ⟨S8192x1, .f32⟩
  | 118 => ⟨S8192x256, .f32⟩
  | 119 => ⟨S8192x256, .f32⟩
  | 120 => ⟨S8192x256, .f32⟩
  | 121 => ⟨S8192x256, .f32⟩
  | 122 => ⟨S8192x1x256, .f32⟩
  | 123 => ⟨S8192x1x256, .f32⟩
  | 124 => ⟨S8192x1x256, .f32⟩
  | 125 => ⟨S8192x1x256, .f32⟩
  | 126 => ⟨S8192x4x256, .f32⟩
  | 127 => ⟨S4x256x8192, .f32⟩
  | _ => ⟨S8192x1024, .f32⟩

abbrev hbmTy0_1 (i : Nat) : BufTy := match i % 128 with
  | 0 => ⟨S8192x4x256, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S8192x1024, .f32⟩
  | 34 => ⟨S_, .f32⟩
  | 35 => ⟨S1024, .f32⟩
  | 36 => ⟨S8192x1024, .f32⟩
  | 37 => ⟨S_, .f32⟩
  | 38 => ⟨S8192, .f32⟩
  | 39 => ⟨S8192x1, .f32⟩
  | 40 => ⟨S8192x1024, .f32⟩
  | 41 => ⟨S8192x1024, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S1024x1024, .f32⟩
  | 54 => ⟨S1024x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S8192x1024, .f32⟩
  | 61 => ⟨S8192x1024, .f32⟩
  | 62 => ⟨S_, .f32⟩
  | 63 => ⟨S1024, .f32⟩
  | 64 => ⟨S8192x4x256, .f32⟩
  | 65 => ⟨S4x256x8192, .f32⟩
  | 66 => ⟨S4x8192x256, .f32⟩
  | 67 => ⟨S8192x4x256, .f32⟩
  | 68 => ⟨S4x256x256, .f32⟩
  | 69 => ⟨S4x256x256, .f32⟩
  | 70 => ⟨S8192x1x256, .f32⟩
  | 71 => ⟨S8192x256, .f32⟩
  | 72 => ⟨S8192x1x256, .f32⟩
  | 73 => ⟨S8192x256, .f32⟩
  | 74 => ⟨S8192x1x256, .f32⟩
  | 75 => ⟨S8192x256, .f32⟩
  | 76 => ⟨S8192x1x256, .f32⟩
  | 77 => ⟨S8192x256, .f32⟩
  | 78 => ⟨S8192x256, .f32⟩
  | 79 => ⟨S_, .f32⟩
  | 80 => ⟨S8192x1024, .f32⟩
  | 81 => ⟨S8192x256, .f32⟩
  | 82 => ⟨S8192x256, .f32⟩
  | 83 => ⟨S8192x256, .f32⟩
  | 84 => ⟨S_, .f32⟩
  | 85 => ⟨S8208x256, .f32⟩
  | 86 => ⟨S_, .f32⟩
  | 87 => ⟨S8193x256, .f32⟩
  | 88 => ⟨S15x256, .f32⟩
  | 89 => ⟨S8193x256, .f32⟩
  | 90 => ⟨S8193x256, .f32⟩
  | 91 => ⟨S_, .f32⟩
  | 92 => ⟨S8193x1024, .f32⟩
  | 93 => ⟨S8192x256, .f32⟩
  | 94 => ⟨S_, .f32⟩
  | 95 => ⟨S8192x1024, .f32⟩
  | 96 => ⟨S8192x1024, .f32⟩
  | 97 => ⟨S8192x256, .f32⟩
  | 98 => ⟨S8192x256, .f32⟩
  | 99 => ⟨S8192x256, .f32⟩
  | 100 => ⟨S_, .f32⟩
  | 101 => ⟨S8200x256, .f32⟩
  | 102 => ⟨S_, .f32⟩
  | 103 => ⟨S8193x256, .f32⟩
  | 104 => ⟨S7x256, .f32⟩
  | 105 => ⟨S8193x256, .f32⟩
  | 106 => ⟨S8193x256, .f32⟩
  | 107 => ⟨S_, .f32⟩
  | 108 => ⟨S8193x1024, .f32⟩
  | 109 => ⟨S8193x1024, .f32⟩
  | 110 => ⟨S8192x256, .f32⟩
  | 111 => ⟨S_, .f32⟩
  | 112 => ⟨S8192x1024, .f32⟩
  | 113 => ⟨S8192x1024, .f32⟩
  | 114 => ⟨S8192x256, .f32⟩
  | 115 => ⟨S8192x256, .f32⟩
  | 116 => ⟨S8192x256, .f32⟩
  | 117 => ⟨S_, .f32⟩
  | 118 => ⟨S8196x256, .f32⟩
  | 119 => ⟨S_, .f32⟩
  | 120 => ⟨S8193x256, .f32⟩
  | 121 => ⟨S3x256, .f32⟩
  | 122 => ⟨S8193x256, .f32⟩
  | 123 => ⟨S8193x256, .f32⟩
  | 124 => ⟨S_, .f32⟩
  | 125 => ⟨S8193x1024, .f32⟩
  | 126 => ⟨S8193x1024, .f32⟩
  | 127 => ⟨S8192x256, .f32⟩
  | _ => ⟨S8192x1024, .f32⟩

abbrev hbmTy0_2 (i : Nat) : BufTy := match i % 128 with
  | 0 => ⟨S_, .f32⟩
  | 1 => ⟨S8192x1024, .f32⟩
  | 2 => ⟨S8192x1024, .f32⟩
  | 3 => ⟨S8192x256, .f32⟩
  | 4 => ⟨S8192x256, .f32⟩
  | 5 => ⟨S8192x256, .f32⟩
  | 6 => ⟨S_, .f32⟩
  | 7 => ⟨S8194x256, .f32⟩
  | 8 => ⟨S_, .f32⟩
  | 9 => ⟨S8193x256, .f32⟩
  | 10 => ⟨S1x256, .f32⟩
  | 11 => ⟨S8193x256, .f32⟩
  | 12 => ⟨S8193x256, .f32⟩
  | 13 => ⟨S_, .f32⟩
  | 14 => ⟨S8193x1024, .f32⟩
  | 15 => ⟨S8193x1024, .f32⟩
  | 16 => ⟨S1x1024, .f32⟩
  | 17 => ⟨S8192x1024, .f32⟩
  | 18 => ⟨S_, .f32⟩
  | 19 => ⟨S_, .f32⟩
  | 20 => ⟨S8192x1024, .f32⟩
  | 21 => ⟨S8192x1024, .f32⟩
  | 22 => ⟨S1024x1024, .f32⟩
  | 23 => ⟨S1024x1024, .f32⟩
  | 24 => ⟨S8192x1024, .f32⟩
  | 25 => ⟨S8192x1024, .f32⟩
  | 26 => ⟨S_, .f32⟩
  | 27 => ⟨S1024, .f32⟩
  | 28 => ⟨S1x1024, .f32⟩
  | 29 => ⟨S8192x1024, .f32⟩
  | 30 => ⟨S8192x1024, .f32⟩
  | 31 => ⟨S_, .f32⟩
  | 32 => ⟨S1024, .f32⟩
  | 33 => ⟨S8192x1024, .f32⟩
  | 34 => ⟨S_, .f32⟩
  | 35 => ⟨S8192, .f32⟩
  | 36 => ⟨S8192x1, .f32⟩
  | 37 => ⟨S8192x1024, .f32⟩
  | 38 => ⟨S8192x1024, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S1x1024, .f32⟩
  | 52 => ⟨S1x1024, .f32⟩
  | 53 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_call0_cst : Ref sig .tc := ⟨.hbm, 29, rfl⟩
abbrev main_call0_call0_v0 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_c_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_20 : Ref sig .tc := ⟨.hbm, 135, rfl⟩
abbrev main_v103 : Ref sig .tc := ⟨.hbm, 136, rfl⟩
abbrev main_v104 : Ref sig .tc := ⟨.hbm, 137, rfl⟩
abbrev main_cst_21 : Ref sig .tc := ⟨.hbm, 138, rfl⟩
abbrev main_v105 : Ref sig .tc := ⟨.hbm, 139, rfl⟩
abbrev main_v106 : Ref sig .tc := ⟨.hbm, 140, rfl⟩
abbrev main_cst_22 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_24 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_25 : Ref sig .tc := ⟨.hbm, 162, rfl⟩
abbrev main_v125 : Ref sig .tc := ⟨.hbm, 163, rfl⟩
abbrev main_v126 : Ref sig .tc := ⟨.hbm, 164, rfl⟩
abbrev main_cst_26 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_27 : Ref sig .tc := ⟨.hbm, 171, rfl⟩
abbrev main_v132 : Ref sig .tc := ⟨.hbm, 172, rfl⟩
abbrev main_v133 : Ref sig .tc := ⟨.hbm, 173, rfl⟩
abbrev main_cst_28 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_29 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_30 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_31 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_cst_32 : Ref sig .tc := ⟨.hbm, 212, rfl⟩
abbrev main_v168 : Ref sig .tc := ⟨.hbm, 213, rfl⟩
abbrev main_cst_33 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_34 : Ref sig .tc := ⟨.hbm, 219, rfl⟩
abbrev main_v173 : Ref sig .tc := ⟨.hbm, 220, rfl⟩
abbrev main_v174 : Ref sig .tc := ⟨.hbm, 221, rfl⟩
abbrev main_cst_35 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_36 : Ref sig .tc := ⟨.hbm, 228, rfl⟩
abbrev main_v180 : Ref sig .tc := ⟨.hbm, 229, rfl⟩
abbrev main_cst_37 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_38 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_39 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_40 : Ref sig .tc := ⟨.hbm, 245, rfl⟩
abbrev main_v193 : Ref sig .tc := ⟨.hbm, 246, rfl⟩
abbrev main_cst_41 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_42 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_43 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_44 : Ref sig .tc := ⟨.hbm, 262, rfl⟩
abbrev main_v206 : Ref sig .tc := ⟨.hbm, 263, rfl⟩
abbrev main_cst_45 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_cst_46 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_call1_call0_cst : Ref sig .tc := ⟨.hbm, 274, rfl⟩
abbrev main_call1_call0_v0 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_cst_47 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_cst_48 : Ref sig .tc := ⟨.hbm, 287, rfl⟩
abbrev main_v225 : Ref sig .tc := ⟨.hbm, 288, rfl⟩
abbrev main_v226 : Ref sig .tc := ⟨.hbm, 289, rfl⟩
abbrev main_cst_49 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_cst_50 : Ref sig .tc := ⟨.hbm, 297, rfl⟩
abbrev main_v233 : Ref sig .tc := ⟨.hbm, 298, rfl⟩
abbrev main_v234 : Ref sig .tc := ⟨.hbm, 299, rfl⟩
abbrev main_cst_51 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩

abbrev nD : Nat := 1
abbrev τ : Topo := Topo.v7x

variable {F : FTy → Type} [FloatOps F]
-- ==== AFwd.lean ====
abbrev S8192x1024 : Shape := ⟨2, ![8192, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S2x1024 : Shape := ⟨2, ![2, 1024]⟩
abbrev S128x8 : Shape := ⟨2, ![128, 8]⟩
abbrev S2x1024x1024 : Shape := ⟨3, ![2, 1024, 1024]⟩
abbrev S4x8192x1024 : Shape := ⟨3, ![4, 8192, 1024]⟩
abbrev S512x1024 : Shape := ⟨2, ![512, 1024]⟩
abbrev S4x512x1024 : Shape := ⟨3, ![4, 512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 23
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S2048x1024, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | .hbm, ⟨12, _⟩ => ⟨S1x1024, .f32⟩
  | .hbm, ⟨13, _⟩ => ⟨S1x1024, .f32⟩
  | .hbm, ⟨14, _⟩ => ⟨S2x1024, .f32⟩
  | .hbm, ⟨15, _⟩ => ⟨S2x1024, .f32⟩
  | .hbm, ⟨16, _⟩ => ⟨S128x8, .f32⟩
  | .hbm, ⟨17, _⟩ => ⟨S2048x1024, .bf16⟩
  | .hbm, ⟨18, _⟩ => ⟨S2x1024x1024, .bf16⟩
  | .hbm, ⟨19, _⟩ => ⟨S8192x1024, .f32⟩
  | .hbm, ⟨20, _⟩ => ⟨S4x8192x1024, .bf16⟩
  | .hbm, ⟨21, _⟩ => ⟨S4x8192x1024, .bf16⟩
  | .hbm, ⟨22, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1024, .bf16⟩
  | .local _ .vmem, ⟨5, _⟩ => ⟨S2x1024, .f32⟩
  | .local _ .vmem, ⟨6, _⟩ => ⟨S2x1024, .f32⟩
  | .local _ .vmem, ⟨7, _⟩ => ⟨S8x128x128, .f32⟩
  | .local _ .vmem, ⟨8, _⟩ => ⟨S128x8, .f32⟩
  | .local _ .vmem, ⟨9, _⟩ => ⟨S2x1024x1024, .bf16⟩
  | .local _ .vmem, ⟨10, _⟩ => ⟨S512x1024, .f32⟩
  | .local _ .vmem, ⟨11, _⟩ => ⟨S512x1024, .f32⟩
  | .local _ .vmem, ⟨12, _⟩ => ⟨S4x512x1024, .bf16⟩
  | .local _ .vmem, ⟨13, _⟩ => ⟨S4x512x1024, .bf16⟩
  | .local _ .vmem, ⟨14, _⟩ => ⟨S4x512x1024, .bf16⟩
  | .local _ .vmem, ⟨15, _⟩ => ⟨S4x512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AFwdIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== AFwdRefIdeal.lean ====
abbrev S8192x1024 : Shape := ⟨2, ![8192, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x2048 : Shape := ⟨2, ![8192, 2048]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S8192x4x1024 : Shape := ⟨3, ![8192, 4, 1024]⟩
abbrev S4x8192x1024 : Shape := ⟨3, ![4, 8192, 1024]⟩

abbrev nBuf : Space → Nat
  | .hbm => 140
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x4096, .f32⟩
  | 4 => ⟨S2048, .f32⟩
  | 5 => ⟨S2048, .f32⟩
  | 6 => ⟨S8x128x128, .f32⟩
  | 7 => ⟨S8x128, .f32⟩
  | 8 => ⟨S2048x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x4096, .f32⟩
  | 26 => ⟨S_, .f32⟩
  | 27 => ⟨S8192x4096, .f32⟩
  | 28 => ⟨S_, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S_, .f32⟩
  | 36 => ⟨S8192x4096, .f32⟩
  | 37 => ⟨S8192x4096, .f32⟩
  | 38 => ⟨S8192x4096, .f32⟩
  | 39 => ⟨S8192x4096, .f32⟩
  | 40 => ⟨S8192x4096, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S8192x4096, .f32⟩
  | 49 => ⟨S8192x4096, .f32⟩
  | 50 => ⟨S8192x4096, .f32⟩
  | 51 => ⟨S8192x4096, .f32⟩
  | 52 => ⟨S8192x4096, .f32⟩
  | 53 => ⟨S8192x4096, .f32⟩
  | 54 => ⟨S_, .f32⟩
  | 55 => ⟨S8192x4096, .f32⟩
  | 56 => ⟨S8192x4096, .f32⟩
  | 57 => ⟨S8192x4096, .f32⟩
  | 58 => ⟨S8192x4096, .f32⟩
  | 59 => ⟨S8192x4096, .f32⟩
  | 60 => ⟨S8192x4096, .f32⟩
  | 61 => ⟨S8192x2048, .f32⟩
  | 62 => ⟨S8192x2048, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x2048, .f32⟩
  | 70 => ⟨S8192x2048, .f32⟩
  | 71 => ⟨S8192x2048, .f32⟩
  | 72 => ⟨S_, .f32⟩
  | 73 => ⟨S8192, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192x1, .f32⟩
  | 80 => ⟨S8192x1, .f32⟩
  | 81 => ⟨S8192x1, .f32⟩
  | 82 => ⟨S8192x2048, .f32⟩
  | 83 => ⟨S8192x2048, .f32⟩
  | 84 => ⟨S1x2048, .f32⟩
  | 85 => ⟨S8192x2048, .f32⟩
  | 86 => ⟨S8192x2048, .f32⟩
  | 87 => ⟨S1x2048, .f32⟩
  | 88 => ⟨S8192x2048, .f32⟩
  | 89 => ⟨S8192x2048, .f32⟩
  | 90 => ⟨S64x128x8x256, .f32⟩
  | 91 => ⟨S64x128x8x256, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S1x128x128, .i1⟩
  | 104 => ⟨S_, .f32⟩
  | 105 => ⟨S8x128x128, .f32⟩
  | 106 => ⟨S8x128x128, .i1⟩
  | 107 => ⟨S8x128x128, .f32⟩
  | 108 => ⟨S8x64x256x128, .f32⟩
  | 109 => ⟨S64x128x8x256, .f32⟩
  | 110 => ⟨S128x8, .f32⟩
  | 111 => ⟨S1x128x8x1, .f32⟩
  | 112 => ⟨S64x128x8x256, .f32⟩
  | 113 => ⟨S64x128x8x256, .f32⟩
  | 114 => ⟨S64x128x8x256, .f32⟩
  | 115 => ⟨S8192x2048, .f32⟩
  | 116 => ⟨S8192x1024, .f32⟩
  | 117 => ⟨S8192x1024, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192x1, .f32⟩
  | 126 => ⟨S8192x1, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S8192x4x1024, .f32⟩
  | 7 => ⟨S4x8192x1024, .f32⟩
  | 8 => ⟨S4x8192x1024, .bf16⟩
  | 9 => ⟨S8192x4x1024, .f32⟩
  | 10 => ⟨S4x8192x1024, .f32⟩
  | 11 => ⟨S4x8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c : Ref sig .tc := ⟨.hbm, 92, rfl⟩
abbrev main_v67 : Ref sig .tc := ⟨.hbm, 93, rfl⟩
abbrev main_call0_v0 : Ref sig .tc := ⟨.hbm, 94, rfl⟩
abbrev main_call0_c : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_c_0 : Ref sig .tc := ⟨.hbm, 100, rfl⟩
abbrev main_call0_v5 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_call1_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_16 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]
-- ==== BFwd.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S1x1024 : Shape := ⟨2, ![1, 1024]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S4x256x256, .f32⟩
  | .hbm, ⟨5, _⟩ => ⟨S1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S4x256x256, .bf16⟩
  | .hbm, ⟨11, _⟩ => ⟨S1x1024, .f32⟩
  | .hbm, ⟨12, _⟩ => ⟨S1024x1024, .bf16⟩
  | .hbm, ⟨13, _⟩ => ⟨S8192x1024, .f32⟩
  | .hbm, ⟨14, _⟩ => ⟨S8192x1024, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S4x256x256, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== BFwdRefIdeal.lean ====
abbrev S8192x1024 : Shape := ⟨2, ![8192, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8193x1024 : Shape := ⟨2, ![8193, 1024]⟩
abbrev S8193x256 : Shape := ⟨2, ![8193, 256]⟩
abbrev S1x256 : Shape := ⟨2, ![1, 256]⟩
abbrev S8194x256 : Shape := ⟨2, ![8194, 256]⟩
abbrev S8192x256 : Shape := ⟨2, ![8192, 256]⟩
abbrev S3x256 : Shape := ⟨2, ![3, 256]⟩
abbrev S8196x256 : Shape := ⟨2, ![8196, 256]⟩
abbrev S7x256 : Shape := ⟨2, ![7, 256]⟩
abbrev S8200x256 : Shape := ⟨2, ![8200, 256]⟩
abbrev S15x256 : Shape := ⟨2, ![15, 256]⟩
abbrev S8208x256 : Shape := ⟨2, ![8208, 256]⟩
abbrev S8192x1x256 : Shape := ⟨3, ![8192, 1, 256]⟩
abbrev S8192x4x256 : Shape := ⟨3, ![8192, 4, 256]⟩
abbrev S4x256x8192 : Shape := ⟨3, ![4, 256, 8192]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024x1024, .f32⟩
  | 4 => ⟨S4x256x256, .f32⟩
  | 5 => ⟨S1024, .f32⟩
  | 6 => ⟨S1024x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1024, .f32⟩
  | 19 => ⟨S8192x1024, .f32⟩
  | 20 => ⟨S1x1024, .f32⟩
  | 21 => ⟨S8192x1024, .f32⟩
  | 22 => ⟨S8192x1024, .f32⟩
  | 23 => ⟨S8192x1024, .f32⟩
  | 24 => ⟨S_, .f32⟩
  | 25 => ⟨S_, .f32⟩
  | 26 => ⟨S8192x1024, .f32⟩
  | 27 => ⟨S_, .f32⟩
  | 28 => ⟨S1x1024, .f32⟩
  | 29 => ⟨S8193x1024, .f32⟩
  | 30 => ⟨S8192, .i32⟩
  | 31 => ⟨S8193x256, .f32⟩
  | 32 => ⟨S_, .f32⟩
  | 33 => ⟨S1x256, .f32⟩
  | 34 => ⟨S8194x256, .f32⟩
  | 35 => ⟨S8192x256, .f32⟩
  | 36 => ⟨S8192x256, .f32⟩
  | 37 => ⟨S8192x256, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S8192x1, .f32⟩
  | 46 => ⟨S8192x256, .f32⟩
  | 47 => ⟨S8192x256, .f32⟩
  | 48 => ⟨S8192x256, .f32⟩
  | 49 => ⟨S8192x256, .f32⟩
  | 50 => ⟨S8193x256, .f32⟩
  | 51 => ⟨S_, .f32⟩
  | 52 => ⟨S3x256, .f32⟩
  | 53 => ⟨S8196x256, .f32⟩
  | 54 => ⟨S8192x256, .f32⟩
  | 55 => ⟨S8192x256, .f32⟩
  | 56 => ⟨S8192x256, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S8192x1, .f32⟩
  | 65 => ⟨S8192x256, .f32⟩
  | 66 => ⟨S8192x256, .f32⟩
  | 67 => ⟨S8192x256, .f32⟩
  | 68 => ⟨S8192x256, .f32⟩
  | 69 => ⟨S8193x256, .f32⟩
  | 70 => ⟨S_, .f32⟩
  | 71 => ⟨S7x256, .f32⟩
  | 72 => ⟨S8200x256, .f32⟩
  | 73 => ⟨S8192x256, .f32⟩
  | 74 => ⟨S8192x256, .f32⟩
  | 75 => ⟨S8192x256, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .f32⟩
  | 83 => ⟨S8192x1, .f32⟩
  | 84 => ⟨S8192x256, .f32⟩
  | 85 => ⟨S8192x256, .f32⟩
  | 86 => ⟨S8192x256, .f32⟩
  | 87 => ⟨S8192x256, .f32⟩
  | 88 => ⟨S8193x256, .f32⟩
  | 89 => ⟨S_, .f32⟩
  | 90 => ⟨S15x256, .f32⟩
  | 91 => ⟨S8208x256, .f32⟩
  | 92 => ⟨S8192x256, .f32⟩
  | 93 => ⟨S8192x256, .f32⟩
  | 94 => ⟨S8192x256, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S8192x1, .f32⟩
  | 103 => ⟨S8192x256, .f32⟩
  | 104 => ⟨S8192x256, .f32⟩
  | 105 => ⟨S8192x256, .f32⟩
  | 106 => ⟨S8192x256, .f32⟩
  | 107 => ⟨S8192x1x256, .f32⟩
  | 108 => ⟨S8192x1x256, .f32⟩
  | 109 => ⟨S8192x1x256, .f32⟩
  | 110 => ⟨S8192x1x256, .f32⟩
  | 111 => ⟨S8192x4x256, .f32⟩
  | 112 => ⟨S4x256x8192, .f32⟩
  | 113 => ⟨S8192x4x256, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S8192x1, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_call0_cst : Ref sig .tc := ⟨.hbm, 24, rfl⟩
abbrev main_call0_call0_v0 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_c_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_14 : Ref sig .tc := ⟨.hbm, 120, rfl⟩
abbrev main_v95 : Ref sig .tc := ⟨.hbm, 121, rfl⟩
abbrev main_v96 : Ref sig .tc := ⟨.hbm, 122, rfl⟩
abbrev main_cst_15 : Ref sig .tc := ⟨.hbm, 123, rfl⟩
abbrev main_v97 : Ref sig .tc := ⟨.hbm, 124, rfl⟩
abbrev main_v98 : Ref sig .tc := ⟨.hbm, 125, rfl⟩
abbrev main_cst_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S1x1024 : Shape := ⟨2, ![1, 1024]⟩
abbrev S1x8192x2816 : Shape := ⟨3, ![1, 8192, 2816]⟩
abbrev S8x128 : Shape := ⟨2, ![8, 128]⟩
abbrev S512x1024 : Shape := ⟨2, ![512, 1024]⟩
abbrev S1x512x2816 : Shape := ⟨3, ![1, 512, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1x256x2816 : Shape := ⟨3, ![1, 256, 2816]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 23
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S2816x1024, .f32⟩
  | .hbm, ⟨8, _⟩ => ⟨S2816x1024, .bf16⟩
  | .hbm, ⟨9, _⟩ => ⟨S1x2816x1024, .bf16⟩
  | .hbm, ⟨10, _⟩ => ⟨S2816x1024, .f32⟩
  | .hbm, ⟨11, _⟩ => ⟨S2816x1024, .bf16⟩
  | .hbm, ⟨12, _⟩ => ⟨S1x2816x1024, .bf16⟩
  | .hbm, ⟨13, _⟩ => ⟨S1x1024, .f32⟩
  | .hbm, ⟨14, _⟩ => ⟨S1x1024, .f32⟩
  | .hbm, ⟨15, _⟩ => ⟨S2816x1024, .bf16⟩
  | .hbm, ⟨16, _⟩ => ⟨S1x2816x1024, .bf16⟩
  | .hbm, ⟨17, _⟩ => ⟨S8192x1024, .f32⟩
  | .hbm, ⟨18, _⟩ => ⟨S1x8192x2816, .bf16⟩
  | .hbm, ⟨19, _⟩ => ⟨S1x8192x2816, .bf16⟩
  | .hbm, ⟨20, _⟩ => ⟨S1x8192x2816, .bf16⟩
  | .hbm, ⟨21, _⟩ => ⟨S8192x1024, .f32⟩
  | .hbm, ⟨22, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x2816x1024, .bf16⟩
  | .local _ .vmem, ⟨5, _⟩ => ⟨S1x2816x1024, .bf16⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x512x2816, .bf16⟩
  | .local _ .vmem, ⟨12, _⟩ => ⟨S1x512x2816, .bf16⟩
  | .local _ .vmem, ⟨13, _⟩ => ⟨S1x512x2816, .bf16⟩
  | .local _ .vmem, ⟨14, _⟩ => ⟨S1x512x2816, .bf16⟩
  | .local _ .vmem, ⟨15, _⟩ => ⟨S1x512x2816, .bf16⟩
  | .local _ .vmem, ⟨16, _⟩ => ⟨S1x512x2816, .bf16⟩
  | .local _ .vmem, ⟨17, _⟩ => ⟨S512x1024, .f32⟩
  | .local _ .vmem, ⟨18, _⟩ => ⟨S512x1024, .f32⟩
  | .local _ .vmem, ⟨19, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x8192x2816 : Shape := ⟨3, ![1, 8192, 2816]⟩
abbrev S8x128 : Shape := ⟨2, ![8, 128]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S8192, .f32⟩
  | .hbm, ⟨83, _⟩ => ⟨S_, .f32⟩
  | .hbm, ⟨84, _⟩ => ⟨S8192, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x2816, .bf16⟩
  | .hbm, ⟨89, _⟩ => ⟨S1x8192x2816, .bf16⟩
  | .hbm, ⟨90, _⟩ => ⟨S8192x2816, .bf16⟩
  | .hbm, ⟨91, _⟩ => ⟨S1x8192x2816, .bf16⟩
  | .hbm, ⟨92, _⟩ => ⟨S8192x2816, .bf16⟩
  | .hbm, ⟨93, _⟩ => ⟨S1x8192x2816, .bf16⟩
  | .hbm, ⟨94, _⟩ => ⟨S_, .f32⟩
  | .hbm, ⟨95, _⟩ => ⟨S_, .f32⟩
  | .hbm, ⟨96, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v15_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v15_1 : Ref sig .tc := ⟨.hbm, 36, rfl⟩
abbrev main_v15_0 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_cst_11 : Ref sig .tc := ⟨.hbm, 79, rfl⟩
abbrev main_cst_12 : Ref sig .tc := ⟨.hbm, 80, rfl⟩
abbrev main_v45 : Ref sig .tc := ⟨.hbm, 81, rfl⟩
abbrev main_v46 : Ref sig .tc := ⟨.hbm, 82, rfl⟩
abbrev main_cst_13 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩

abbrev nD : Nat := 1
abbrev τ : Topo := Topo.v7x

variable {F : FTy → Type} [FloatOps F]
-- ==== FfnMid.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S1x1024 : Shape := ⟨2, ![1, 1024]⟩
abbrev S1x8192x2816 : Shape := ⟨3, ![1, 8192, 2816]⟩
abbrev S512x1024 : Shape := ⟨2, ![512, 1024]⟩
abbrev S1x512x2816 : Shape := ⟨3, ![1, 512, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S1x256x2816 : Shape := ⟨3, ![1, 256, 2816]⟩

abbrev nBuf : Space → Nat
  | .hbm => 21
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S1x2816x1024, .bf16⟩
  | .hbm, ⟨9, _⟩ => ⟨S2816x1024, .f32⟩
  | .hbm, ⟨10, _⟩ => ⟨S2816x1024, .bf16⟩
  | .hbm, ⟨11, _⟩ => ⟨S1x2816x1024, .bf16⟩
  | .hbm, ⟨12, _⟩ => ⟨S1x1024, .f32⟩
  | .hbm, ⟨13, _⟩ => ⟨S1x1024, .f32⟩
  | .hbm, ⟨14, _⟩ => ⟨S2816x1024, .bf16⟩
  | .hbm, ⟨15, _⟩ => ⟨S1x2816x1024, .bf16⟩
  | .hbm, ⟨16, _⟩ => ⟨S8192x1024, .f32⟩
  | .hbm, ⟨17, _⟩ => ⟨S1x8192x2816, .bf16⟩
  | .hbm, ⟨18, _⟩ => ⟨S1x8192x2816, .bf16⟩
  | .hbm, ⟨19, _⟩ => ⟨S1x8192x2816, .bf16⟩
  | .hbm, ⟨20, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x2816x1024, .bf16⟩
  | .local _ .vmem, ⟨5, _⟩ => ⟨S1x2816x1024, .bf16⟩
  | .local _ .vmem, ⟨6, _⟩ => ⟨S1x2816x1024, .bf16⟩
  | .local _ .vmem, ⟨7, _⟩ => ⟨S512x1024, .f32⟩
  | .local _ .vmem, ⟨8, _⟩ => ⟨S512x1024, .f32⟩
  | .local _ .vmem, ⟨9, _⟩ => ⟨S1x512x2816, .bf16⟩
  | .local _ .vmem, ⟨10, _⟩ => ⟨S1x512x2816, .bf16⟩
  | .local _ .vmem, ⟨11, _⟩ => ⟨S1x512x2816, .bf16⟩
  | .local _ .vmem, ⟨12, _⟩ => ⟨S1x512x2816, .bf16⟩
  | .local _ .vmem, ⟨13, _⟩ => ⟨S1x512x2816, .bf16⟩
  | .local _ .vmem, ⟨14, _⟩ => ⟨S1x512x2816, .bf16⟩
  | .local _ .vmem, ⟨15, _⟩ => ⟨S512x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnMidRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x8192x2816 : Shape := ⟨3, ![1, 8192, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x2816, .bf16⟩
  | .hbm, ⟨65, _⟩ => ⟨S1x8192x2816, .bf16⟩
  | .hbm, ⟨66, _⟩ => ⟨S8192x2816, .bf16⟩
  | .hbm, ⟨67, _⟩ => ⟨S1x8192x2816, .bf16⟩
  | .hbm, ⟨68, _⟩ => ⟨S8192x2816, .bf16⟩
  | .hbm, ⟨69, _⟩ => ⟨S1x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== AdamW.lean ====
abbrev S4x704x1024 : Shape := ⟨3, ![4, 704, 1024]⟩
abbrev S1x704x1024 : Shape := ⟨3, ![1, 704, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S1x704x1024, .f32⟩
  | .local _ .vmem, ⟨1, _⟩ => ⟨S1x704x1024, .f32⟩
  | .local _ .vmem, ⟨2, _⟩ => ⟨S1x704x1024, .f32⟩
  | .local _ .vmem, ⟨3, _⟩ => ⟨S1x704x1024, .f32⟩
  | .local _ .vmem, ⟨4, _⟩ => ⟨S1x704x1024, .f32⟩
  | .local _ .vmem, ⟨5, _⟩ => ⟨S1x704x1024, .f32⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .vmem, ⟨9, _⟩ => ⟨S1x704x1024, .f32⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x704x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamWRefIdeal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumDevices.lean ====
abbrev S8x2272x128 : Shape := ⟨3, ![8, 2272, 128]⟩
abbrev S2272x128 : Shape := ⟨2, ![2272, 128]⟩
abbrev S1x2272x128 : Shape := ⟨3, ![1, 2272, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2272x128, .f32⟩
  | .hbm, ⟨1, _⟩ => ⟨S2272x128, .f32⟩
  | .local _ .vmem, ⟨0, _⟩ => ⟨S8x2272x128, .f32⟩
  | .local _ .vmem, ⟨1, _⟩ => ⟨S2272x128, .f32⟩
  | _, _ => ⟨S8x2272x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevicesRefIdeal.lean ====
abbrev S8x2272x128 : Shape := ⟨3, ![8, 2272, 128]⟩
abbrev S_ : Shape := ⟨0, ![]⟩
abbrev S2272x128 : Shape := ⟨2, ![2272, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2272x128, .f32⟩
  | .hbm, ⟨1, _⟩ => ⟨S_, .f32⟩
  | .hbm, ⟨2, _⟩ => ⟨S2272x128, .f32⟩
  | _, _ => ⟨S8x2272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSum.lean ====
abbrev S2 : Shape := ⟨1, ![2]⟩
abbrev S4x704x1024 : Shape := ⟨3, ![4, 704, 1024]⟩
abbrev S4x352x1024 : Shape := ⟨3, ![4, 352, 1024]⟩
abbrev S1x352x1024 : Shape := ⟨3, ![1, 352, 1024]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S4x704x1024, .f32⟩
  | .hbm, ⟨1, _⟩ => ⟨S4x352x1024, .f32⟩
  | .hbm, ⟨2, _⟩ => ⟨S4x352x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .bf16⟩
  | .local _ .vmem, ⟨5, _⟩ => ⟨S1x352x1024, .bf16⟩
  | .local _ .smem, ⟨0, _⟩ => ⟨S2, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S2 : Shape := ⟨1, ![2]⟩
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x704x1024, .f32⟩
  | .hbm, ⟨2, _⟩ => ⟨S4x352x1024, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Lift.lean ====
/-
  Arrays of real numbers among arrays of extended reals: what a finite argument is, and how the operations of
  the two programs act on coercions of real numbers, so that an equation between two long expressions over the
  extended reals becomes one over the real numbers.
-/
module

public import Idealize.ShloMosaic.Lib.Pointwise
public import Idealize.ShloMosaic.Lib.ReduceAll
public import Idealize.ShloMosaic.Lib.StableHlo

@[expose] public section

set_option maxRecDepth 16384

noncomputable section

namespace Cert.Lift

open Idealize.ShloMosaic

/-- Every entry of the array is a real number. -/
def AllReal {s : Shape} (x : s.Idx → EReal) : Prop := ∀ i, ((x i).toReal : EReal) = x i

/-- The real numbers of an array. -/
abbrev re {s : Shape} (x : s.Idx → EReal) : s.Idx → ℝ := fun i => (x i).toReal

theorem lt_top_coe {a : EReal} (h : max a (-a) < ⊤) : ((a.toReal : ℝ) : EReal) = a := by
  refine EReal.coe_toReal ?_ ?_
  · rintro rfl; simp at h
  · rintro rfl; simp at h

instance : Subsingleton (Shape.Idx ⟨0, ![]⟩) := ⟨fun a b => funext fun i => i.elim0⟩

theorem ofBits_inf : Ideal.ofBits .f32 0x7F800000#32 = ⊤ := by simp [Ideal.ofBits, Ideal.ieee]

/-- The conjunction of `|x| < ∞` over an array, at one: the array is one of real numbers. -/
theorem fin_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : Shape.Idx ⟨0, ![]⟩) (init : IVec ⟨0, ![]⟩ 1)
    (h : Host.reduce IntOp.andi (cmpf .olt (Host.absf x) (broadcastInDim s ![] hb (constant ⟨0, ![]⟩ .f32 0x7F800000#32)))
      init hr hu j = 1#1) : AllReal x := fun i => by
  have e := Host.reduce_andi_all _ _ hr hu j h i
  have e' : Ideal.cmp .olt (max (x i) (-x i)) (Ideal.ofBits .f32 0x7F800000#32) = 1#1 := e
  rw [ofBits_inf] at e'
  apply lt_top_coe
  by_contra hn
  simp [Ideal.cmp, hn] at e'

theorem and_one {a b : BitVec 1} (h : IntOp.andi a b = 1#1) : a = 1#1 ∧ b = 1#1 := by
  revert a b; decide

/-- A sum of coerced real numbers. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a t ha ih => rw [Finset.sum_insert ha, Finset.sum_insert ha, ih, EReal.coe_add]

theorem div_real {a b : ℝ} (h : b ≠ 0) : Ideal.div (a : EReal) (b : EReal) = ((a / b : ℝ) : EReal) := by
  rw [Ideal.div_coe h, ← EReal.coe_mul, mul_one_div]

theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The small number under the square roots. -/
def eps : ℝ := (Ideal.ofBits .f32 0x358637BD#32).toReal

theorem ofBits_eps_val : Ideal.ofBits .f32 0x358637BD#32 = (((8796093 : ℝ) * (2 : ℝ) ^ (-43 : ℤ) : ℝ) : EReal) := by
  simp [Ideal.ofBits, Ideal.ieee]

theorem ofBits_eps : Ideal.ofBits .f32 0x358637BD#32 = (eps : EReal) := by
  rw [eps, ofBits_eps_val, EReal.toReal_coe]

theorem eps_pos : 0 < eps := by
  rw [eps, ofBits_eps_val, EReal.toReal_coe]; positivity

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The reciprocal root mean square of a row. -/
def rr (x : Fin 1024 → ℝ) : ℝ := (Real.sqrt ((∑ k, x k * x k) / 1024 + eps))⁻¹

theorem ms_pos (x : Fin 1024 → ℝ) : 0 < (∑ k, x k * x k) / 1024 + eps :=
  add_pos_of_nonneg_of_pos (div_nonneg (Finset.sum_nonneg fun k _ => mul_self_nonneg _) (by norm_num)) eps_pos

/-- The gradient of `x ↦ x * rr x` against `d`, in the kernel's arrangement. -/
def dnorm (x d : Fin 1024 → ℝ) (k : Fin 1024) : ℝ :=
  rr x * (d k - x k * rr x * ((∑ l, d l * (x l * rr x)) / 1024))

theorem rr_div (x : Fin 1024 → ℝ) : rr x / ((∑ k, x k * x k) / 1024 + eps) = rr x * rr x * rr x := by
  have h := ms_pos x
  have hs : rr x * rr x = ((∑ k, x k * x k) / 1024 + eps)⁻¹ := by
    rw [rr, ← mul_inv, Real.mul_self_sqrt h.le]
  rw [mul_assoc, hs, div_eq_mul_inv]

/-- … and as differentiating the mean square and its root one after the other gives it. -/
theorem dnorm_eq (x d : Fin 1024 → ℝ) (k : Fin 1024) :
    d k * rr x + (x k * ((∑ l, x l * d l) * (-(1 / 2) * (rr x / ((∑ k, x k * x k) / 1024 + eps))) / 1024)
      + (∑ l, x l * d l) * (-(1 / 2) * (rr x / ((∑ k, x k * x k) / 1024 + eps))) / 1024 * x k) = dnorm x d k := by
  have e : ∑ l, d l * (x l * rr x) = (∑ l, x l * d l) * rr x := by
    rw [Finset.sum_mul]; exact Finset.sum_congr rfl fun l _ => by ring
  rw [rr_div, dnorm, e]; ring

/-- Column `j` of block `b`, among all columns. -/
abbrev col (b : Fin 4) (j : Fin 1024) : Fin 4096 := ⟨b.val * 1024 + j.val, by omega⟩

/-- The gradient of the norm's result: the upstream gradient against the weight. -/
def dh {n : ℕ} (w : Fin 1024 → Fin n → ℝ) (z : Fin 8192 → Fin n → ℝ) (i : Fin 8192) (k : Fin 1024) : ℝ := ∑ j, z i j * w k j

/-- The logistic function. -/
def lgs (x : ℝ) : ℝ := 1 / (1 + Real.exp (-x))

theorem lgs_real (x : ℝ) : Ideal.div 1 (1 + Ideal.exp (-(x : EReal))) = ((lgs x : ℝ) : EReal) := by
  rw [← EReal.coe_neg, Ideal.exp_coe, ← EReal.coe_one, ← EReal.coe_add, div_real (by positivity)]; rfl

/-- A SwiGLU feed-forward layer's hidden part: the two projections, the down projection, the gain of the norm after
    it, and the gradient of what comes out. -/
structure Swiglu where
  gate : Fin 8192 → Fin 2816 → ℝ
  up : Fin 8192 → Fin 2816 → ℝ
  w : Fin 2816 → Fin 1024 → ℝ
  g : Fin 1024 → ℝ
  dy : Fin 8192 → Fin 1024 → ℝ

namespace Swiglu

variable (p : Swiglu)

/-- What the down projection reads. -/
def act (i : Fin 8192) (j : Fin 2816) : ℝ := p.gate i j * lgs (p.gate i j) * p.up i j
/-- What the norm reads. -/
def f (i : Fin 8192) (k : Fin 1024) : ℝ := ∑ j, p.act i j * p.w j k
/-- The gradient of `act` against the gate. -/
def slope (i : Fin 8192) (j : Fin 2816) : ℝ := p.up i j * (lgs (p.gate i j) * (1 + p.gate i j * (1 - lgs (p.gate i j))))
/-- The gradient of `f`. -/
def df (i : Fin 8192) (k : Fin 1024) : ℝ := dnorm (p.f i) (fun l => p.dy i l * p.g l) k
/-- The gradient of `act`. -/
def da (i : Fin 8192) (j : Fin 2816) : ℝ := ∑ k, p.df i k * p.w j k

end Swiglu

end Cert.Lift

end
-- ==== Proof.AInValue.lean ====
/-
  `mix_a_bwd_in`: what the kernel and the reference return, over the reals.
-/
module

public import proofs.«01_k».proof.Proof.Lift
public import proofs.«01_k».proof.Proof.Gen.AInIdeal.Value
public import Idealize.ShloMosaic.Lib.Pipeline.ValueKit
public import Idealize.ShloMosaic.Lib.Pipeline.ReadBack

@[expose] public section

set_option maxRecDepth 16384

noncomputable section

namespace Cert.AInIdeal.Val

open Idealize.ShloMosaic Idealize.ShloMosaic.TcCoe Idealize.SL.Sem
open Idealize.ShloMosaic.Pipeline (Dat)
open Cert.AInIdeal Cert.AInIdeal.Gen Cert.Lift

variable (m : (ℓ : Loc nD τ sig) → Buf (Elt Ideal) ℓ)

section payloads

variable {x : Fin 512 → Fin 1024 → ℝ} {g : Fin 1024 → ℝ} {d : Fin 512 → Fin 1024 → ℝ}
  {v3 : FVec Ideal S512x1024 .f32} {v4 : FVec Ideal S1x1024 .f32} {v51 : FVec Ideal S512x1024 .f32}
  {v59 : FVec Ideal S1x512x1024 .bf16} {v61 : FVec Ideal S1x1024x1024 .bf16}

theorem rr_pay (hx : ∀ r k, v3 (ix2 r k) = ((x r k : ℝ) : EReal)) (r : Fin 512) :
    k0_pay17 (F := Ideal) v3 (ix2 r 0) = ((rr (x r) : ℝ) : EReal) := by
  pointwise [k0_pay17, hx]
  simp only [← EReal.coe_mul, coe_sum, ofBits_1024, ofBits_eps]
  rw [div_real (by norm_num), ← EReal.coe_add, rsqrt_real (ms_pos _)]; rfl

theorem n_pay (hx : ∀ r k, v3 (ix2 r k) = ((x r k : ℝ) : EReal)) (r : Fin 512) (k : Fin 1024) :
    k0_pay18 (F := Ideal) v3 (ix2 r k) = ((x r k * rr (x r) : ℝ) : EReal) := by
  have := rr_pay hx r
  pointwise [k0_pay18, hx, this]
  rw [EReal.coe_mul]

theorem h_pay (hx : ∀ r k, v3 (ix2 r k) = ((x r k : ℝ) : EReal)) (hg : ∀ k, v4 (ix2 0 k) = ((g k : ℝ) : EReal)) (r : Fin 512) (k : Fin 1024) :
    k0_pay5 (F := Ideal) v3 v4 (ix2 r k) = ((x r k * rr (x r) * g k : ℝ) : EReal) := by
  pointwise [k0_pay5, k0_pay4, hx, hg]
  simp only [← EReal.coe_mul, coe_sum, ofBits_1024, ofBits_eps]
  rw [div_real (by norm_num), ← EReal.coe_add, rsqrt_real (ms_pos _)]; simp only [← EReal.coe_mul]; rfl

theorem dg_pay (hx : ∀ r k, v3 (ix2 r k) = ((x r k : ℝ) : EReal)) (hd : ∀ r k, k0_pay15 (F := Ideal) v51 v59 v61 (ix2 r k) = ((d r k : ℝ) : EReal))
    (k : Fin 1024) : k0_pay19 (F := Ideal) v3 v51 v59 v61 (ix2 0 k) = ((∑ r, d r k * (x r k * rr (x r)) : ℝ) : EReal) := by
  have := n_pay hx
  pointwise [k0_pay19, hd, this]
  simp only [← EReal.coe_mul, coe_sum]

theorem dx_pay (hx : ∀ r k, v3 (ix2 r k) = ((x r k : ℝ) : EReal)) (hg : ∀ k, v4 (ix2 0 k) = ((g k : ℝ) : EReal))
    (hd : ∀ r k, k0_pay15 (F := Ideal) v51 v59 v61 (ix2 r k) = ((d r k : ℝ) : EReal)) (v97 : FVec Ideal S512x1024 .f32) (r : Fin 512) (k : Fin 1024) :
    k0_pay20 (F := Ideal) v3 (k0_pay4 v4) v51 v59 v61 v97 (ix2 r k) = v97 (ix2 r k) + ((dnorm (x r) (fun l => d r l * g l) k : ℝ) : EReal) := by
  have h1 := n_pay hx
  have h2 := rr_pay hx
  pointwise [k0_pay20, k0_pay4, hd, h1, h2, hg]
  simp only [← EReal.coe_mul, coe_sum, ofBits_1024]
  rw [div_real (by norm_num)]
  simp only [← EReal.coe_mul, ← EReal.coe_sub]
  rfl

/-- The four products of the upstream gradient with the weight's blocks. -/
theorem dh_pay {z : Fin 4 → Fin 512 → Fin 1024 → ℝ} {w : Fin 4 → Fin 1024 → Fin 1024 → ℝ}
    {z0 z1 z2 z3 : FVec Ideal S1x512x1024 .bf16} {w0 w1 w2 w3 : FVec Ideal S1x1024x1024 .bf16}
    (h0 : ∀ r j, z0 (ix3 0 r j) = ((z 0 r j : ℝ) : EReal)) (h1 : ∀ r j, z1 (ix3 0 r j) = ((z 1 r j : ℝ) : EReal))
    (h2 : ∀ r j, z2 (ix3 0 r j) = ((z 2 r j : ℝ) : EReal)) (h3 : ∀ r j, z3 (ix3 0 r j) = ((z 3 r j : ℝ) : EReal))
    (k0 : ∀ k j, w0 (ix3 0 k j) = ((w 0 k j : ℝ) : EReal)) (k1 : ∀ k j, w1 (ix3 0 k j) = ((w 1 k j : ℝ) : EReal))
    (k2 : ∀ k j, w2 (ix3 0 k j) = ((w 2 k j : ℝ) : EReal)) (k3 : ∀ k j, w3 (ix3 0 k j) = ((w 3 k j : ℝ) : EReal)) (r : Fin 512) (k : Fin 1024) :
    k0_pay15 (F := Ideal) (k0_pay12 (k0_pay7 z0 w0) z1 w1 z2 w2) z3 w3 (ix2 r k) = ((∑ b, ∑ j, z b r j * w b k j : ℝ) : EReal) := by
  pointwise [k0_pay15, k0_pay12, k0_pay7, k0_pay6, k0_pay9, k0_pay11, k0_pay14, h0, h1, h2, h3, k0, k1, k2, k3]
  simp only [← EReal.coe_mul, coe_sum, ← EReal.coe_add, Fin.sum_univ_four]

end payloads

theorem idx : ∀ t : Fin cfg0.N, win0_0.index t = ![t.val, 0] ∧ win0_1.index t = ![t.val, 0] ∧ win0_2.index t = ![0, 0]
    ∧ win0_3.index t = ![0, t.val, 0] ∧ win0_4.index t = ![0, 0, 0] ∧ win0_5.index t = ![t.val, 0] :=
  (by decide +kernel : ∀ t : Fin grid0.N, _)

/-- Row `r` of point `t`, among all rows. -/
abbrev row (t : Fin cfg0.N) (r : Fin 512) : Fin 8192 := ⟨t.val * 512 + r.val, by have := t.isLt; have : cfg0.N = 16 := N_0; omega⟩

/-- The gradient that comes down the residual branch. -/
abbrev res (c : Dev nD) : FVec Ideal S8192x1024 .f32 := m ((c.tc : Thread nD τ).loc main_arg3)

theorem blk_res (c : Dev nD) (t : Fin cfg0.N) (r : Fin 512) (k : Fin 1024) :
    iblk m c 0 t (ix2 r k) = res m c (ix2 (row t r) k) := by
  blk_point [iblk, V, idx t]
theorem blk_x (c : Dev nD) (t : Fin cfg0.N) (r : Fin 512) (k : Fin 1024) :
    iblk m c 1 t (ix2 r k) = m ((c.tc : Thread nD τ).loc main_arg0) (ix2 (row t r) k) := by
  blk_point [iblk, V, idx t]
theorem blk_g (c : Dev nD) (t : Fin cfg0.N) (k : Fin 1024) :
    iblk m c 2 t (ix2 0 k) = m ((c.tc : Thread nD τ).loc main_arg1) (ix1 k) := by
  blk_point [iblk, V, idx t]
theorem blk_z (c : Dev nD) (t : Fin cfg0.N) (b : Fin 4) (r : Fin 512) (j : Fin 1024) :
    iblk m c 3 t (ix3 b r j) = m ((c.tc : Thread nD τ).loc main_arg4) (ix2 (row t r) (col b j)) := by
  blk_point [iblk, V, idx t]
theorem blk_w (c : Dev nD) (t : Fin cfg0.N) (b : Fin 4) (k j : Fin 1024) :
    iblk m c 4 t (ix3 b k j) = m ((c.tc : Thread nD τ).loc main_arg2) (ix2 k (col b j)) := by
  blk_point [iblk, V, idx t]

/-- One point's part of the weight gradient, onto what was there. -/
def stepW (h : FVec Ideal S512x1024 .bf16) (z : FVec Ideal S4x512x1024 .bf16) (acc : FVec Ideal S4x1024x1024 .f32) :
    FVec Ideal S4x1024x1024 .f32 :=
  fun y => acc y + ∑ r : Fin 512, h (ix2 r (y 1)) * z (ix3 (y 0) r (y 2))

/-- Slice `b` of the weight gradient's blocks. -/
abbrev wR (b : ℕ) (h : ∀ a, (![b, 0, 0] : Fin 3 → ℕ) a + (![1, 1024, 1024] : Fin 3 → ℕ) a ≤ S4x1024x1024.size a) : Rect S4x1024x1024 :=
  Rect.unit ![b, 0, 0] ![1, 1024, 1024] h
abbrev zR (b : ℕ) (h : ∀ a, (![b, 0, 0] : Fin 3 → ℕ) a + (![1, 512, 1024] : Fin 3 → ℕ) a ≤ S4x512x1024.size a) : Rect S4x512x1024 :=
  Rect.unit ![b, 0, 0] ![1, 512, 1024] h

theorem wPiece (b : Fin 4) (h h') (H : FVec Ideal S512x1024 .bf16) (Z : FVec Ideal S4x512x1024 .bf16) (a : FVec Ideal S4x1024x1024 .f32)
    (P : FVec Ideal S1x512x1024 .bf16 → FVec Ideal S1x1024x1024 .f32 → FVec Ideal S1x1024x1024 .f32)
    (hP : ∀ z w k j, P z w (ix3 0 k j) = w (ix3 0 k j) + ∑ r : Fin 512, H (ix2 r k) * z (ix3 0 r j)) (x : S1x1024x1024.Idx) :
    P (View.ld (Val := Elt Ideal) (e' := EltTy.bf16) Z (zR b h)) (View.ld (Val := Elt Ideal) (e' := EltTy.f32) a (wR b h')) x = stepW H Z a ((wR b h').emb x) := by
  have e : (wR b h').emb x = ix3 b (x 1) (x 2) := by blk_ext
  obtain ⟨x0, k, j, rfl⟩ : ∃ x0 k j, x = ix3 x0 k j := ⟨x 0, x 1, x 2, by blk_ext⟩
  obtain rfl : x0 = 0 := Subsingleton.elim _ _
  rw [e, hP]
  pointwise [stepW]

theorem pay16_apply (H : FVec Ideal S512x1024 .bf16) (z : FVec Ideal S1x512x1024 .bf16) (w : FVec Ideal S1x1024x1024 .f32) (k j : Fin 1024) :
    k0_pay16 (F := Ideal) H z w (ix3 0 k j) = w (ix3 0 k j) + ∑ r : Fin 512, H (ix2 r k) * z (ix3 0 r j) := by
  pointwise [k0_pay16, k0_pay14]

theorem pay13_apply (H : FVec Ideal S512x1024 .bf16) (z : FVec Ideal S1x512x1024 .bf16) (w : FVec Ideal S1x1024x1024 .f32) (k j : Fin 1024) :
    k0_pay13 (F := Ideal) H z w (ix3 0 k j) = w (ix3 0 k j) + ∑ r : Fin 512, H (ix2 r k) * z (ix3 0 r j) := by
  pointwise [k0_pay13, k0_pay11]

theorem pay10_apply (H : FVec Ideal S512x1024 .bf16) (z : FVec Ideal S1x512x1024 .bf16) (w : FVec Ideal S1x1024x1024 .f32) (k j : Fin 1024) :
    k0_pay10 (F := Ideal) H z w (ix3 0 k j) = w (ix3 0 k j) + ∑ r : Fin 512, H (ix2 r k) * z (ix3 0 r j) := by
  pointwise [k0_pay10, k0_pay9]

theorem pay8_apply (x : FVec Ideal S512x1024 .f32) (g : FVec Ideal S1x1024 .f32) (z : FVec Ideal S1x512x1024 .bf16) (w : FVec Ideal S1x1024x1024 .f32) (k j : Fin 1024) :
    k0_pay8 (F := Ideal) x g z w (ix3 0 k j) = w (ix3 0 k j) + ∑ r : Fin 512, k0_pay5 (F := Ideal) x g (ix2 r k) * z (ix3 0 r j) := by
  pointwise [k0_pay8, k0_pay6]

theorem dwA (c : Dev nD) (t : Fin cfg0.N) (h0 : t.val % 16 = 0) (y : S4x1024x1024.Idx) :
    (outsAt0 m c t.val t.isLt).2.1 y = stepW (k0_pay5 (iblk m c 1 t) (iblk m c 2 t)) (iblk m c 3 t) k0_pay2 y := by
  rw [outsAt0_A m c t h0]; frame_open
  simp (disch := decide) only [↓ View.readCov_skip, ↓ View.readCov_cons_toLoadRect, ↓ View.readCov_fill]
  frame_out
  refine View.canon_append_of_piecesOf  (Val := Elt Ideal) (e := EltTy.f32) (stepW (k0_pay5 (iblk m c 1 t) (iblk m c 2 t)) (iblk m c 3 t) k0_pay2) [_] [_, _, _, _]
    ⟨wPiece 3 _ _ _ _ _ _ (pay16_apply _), wPiece 2 _ _ _ _ _ _ (pay13_apply _), wPiece 1 _ _ _ _ _ _ (pay10_apply _), wPiece 0 _ _ _ _ _ _ (pay8_apply _ _), trivial⟩ y (View.cover_of_tiledL _ ![1, 1024, 1024] (by sl_kernel_rfl) y)

theorem dwB (c : Dev nD) (t : Fin cfg0.N) (h0 : ¬ t.val % 16 = 0) (y : S4x1024x1024.Idx) :
    (outsAt0 m c t.val t.isLt).2.1 y = stepW (k0_pay5 (iblk m c 1 t) (iblk m c 2 t)) (iblk m c 3 t) (outsAt0 m c (t.val - 1) (by omega)).2.1 y := by
  rw [outsAt0_B m c t h0]
  frame_out
  refine View.canon_append_of_piecesOf  (Val := Elt Ideal) (e := EltTy.f32) (stepW (k0_pay5 (iblk m c 1 t) (iblk m c 2 t)) (iblk m c 3 t) (outsAt0 m c (t.val - 1) (by omega)).2.1) [] [_, _, _, _]
    ⟨wPiece 3 _ _ _ _ _ _ (pay16_apply _), wPiece 2 _ _ _ _ _ _ (pay13_apply _), wPiece 1 _ _ _ _ _ _ (pay10_apply _), wPiece 0 _ _ _ _ _ _ (pay8_apply _ _), trivial⟩ y (View.cover_of_tiledL _ ![1, 1024, 1024] (by sl_kernel_rfl) y)

/-! ### The three results -/

variable {m} {c : Dev nD} {x : Fin 8192 → Fin 1024 → ℝ} {g : Fin 1024 → ℝ} {w : Fin 1024 → Fin 4096 → ℝ} {z : Fin 8192 → Fin 4096 → ℝ}

theorem dh_block (hw : ∀ k j, m ((c.tc : Thread nD τ).loc main_arg2) (ix2 k j) = ((w k j : ℝ) : EReal))
    (hz : ∀ i j, m ((c.tc : Thread nD τ).loc main_arg4) (ix2 i j) = ((z i j : ℝ) : EReal)) (t : Fin cfg0.N) (r : Fin 512) (k : Fin 1024) :
    k0_pay15 (F := Ideal) (k0_pay12 (k0_pay7 (View.ld (iblk m c 3 t) (zR 0 inb_S4x512x1024_S1x512x1024_0_0_0)) (View.ld (iblk m c 4 t) (wR 0 inb_S4x1024x1024_S1x1024x1024_0_0_0)))
        (View.ld (iblk m c 3 t) (zR 1 inb_S4x512x1024_S1x512x1024_1_0_0)) (View.ld (iblk m c 4 t) (wR 1 inb_S4x1024x1024_S1x1024x1024_1_0_0))
        (View.ld (iblk m c 3 t) (zR 2 inb_S4x512x1024_S1x512x1024_2_0_0)) (View.ld (iblk m c 4 t) (wR 2 inb_S4x1024x1024_S1x1024x1024_2_0_0)))
        (View.ld (iblk m c 3 t) (zR 3 inb_S4x512x1024_S1x512x1024_3_0_0)) (View.ld (iblk m c 4 t) (wR 3 inb_S4x1024x1024_S1x1024x1024_3_0_0)) (ix2 r k)
      = ((dh w z (row t r) k : ℝ) : EReal) := by
  rw [dh_pay (z := fun b r j => z (row t r) (col b j)) (w := fun b k j => w k (col b j))]
  · rw [dh, Fin.sum_univ_tiles 4 1024 rfl]
  all_goals intro a b; pointwise [blk_z, blk_w, hz, hw]

theorem dx_eq (hx : ∀ i k, m ((c.tc : Thread nD τ).loc main_arg0) (ix2 i k) = ((x i k : ℝ) : EReal))
    (hg : ∀ k, m ((c.tc : Thread nD τ).loc main_arg1) (ix1 k) = ((g k : ℝ) : EReal))
    (hw : ∀ k j, m ((c.tc : Thread nD τ).loc main_arg2) (ix2 k j) = ((w k j : ℝ) : EReal))
    (hz : ∀ i j, m ((c.tc : Thread nD τ).loc main_arg4) (ix2 i j) = ((z i j : ℝ) : EReal)) :
    (dats m 0 c).arrAt 5 cfg0.N = fun y => res m c y
      + ((dnorm (x (y 0)) (fun l => dh w z (y 0) l * g l) (y 1) : ℝ) : EReal) := by
  refine (dats m 0 c).arrAt_eq_of_covers 5 _ (by decide +kernel) fun t hf y => ?_
  obtain ⟨r, k, rfl⟩ : ∃ r k, y = ix2 r k := ⟨y 0, y 1, by blk_ext⟩
  blk_simp
  rw [after0_5]
  have e : (outsAt0 m c t.val t.isLt).1 (ix2 r k) = res m c (ix2 (row t r) k)
      + ((dnorm (x (row t r)) (fun l => dh w z (row t r) l * g l) k : ℝ) : EReal) := by
    by_cases h0 : t.val % 16 = 0
    · rw [outsAt0_A m c t h0]; frame_out
      rw [← blk_res m c t r k]
      exact dx_pay (x := fun r k => x (row t r) k) (d := fun r k => dh w z (row t r) k) (fun r k => (blk_x m c t r k).trans (hx _ _))
        (fun k => (blk_g m c t k).trans (hg _)) (dh_block hw hz t) _ r k
    · rw [outsAt0_B m c t h0]; frame_out
      rw [← blk_res m c t r k]
      exact dx_pay (x := fun r k => x (row t r) k) (d := fun r k => dh w z (row t r) k) (fun r k => (blk_x m c t r k).trans (hx _ _))
        (fun k => (blk_g m c t k).trans (hg _)) (dh_block hw hz t) _ r k
  rw [e]
  have e' : ((cfg0.win 5).blk t).view.emb (ix2 r k) = ix2 (row t r) k := by blk_ext [idx t]
  rw [e']; rfl

/-- One point's part of the weight gradient, a real number where the arguments are. -/
theorem stepW_real (hx : ∀ i k, m ((c.tc : Thread nD τ).loc main_arg0) (ix2 i k) = ((x i k : ℝ) : EReal))
    (hg : ∀ k, m ((c.tc : Thread nD τ).loc main_arg1) (ix1 k) = ((g k : ℝ) : EReal))
    (hz : ∀ i j, m ((c.tc : Thread nD τ).loc main_arg4) (ix2 i j) = ((z i j : ℝ) : EReal)) (t : Fin cfg0.N)
    (acc : FVec Ideal S4x1024x1024 .f32) (y : S4x1024x1024.Idx) :
    stepW (k0_pay5 (iblk m c 1 t) (iblk m c 2 t)) (iblk m c 3 t) acc y
      = acc y + ((∑ r : Fin 512, x (row t r) (y 1) * rr (x (row t r)) * g (y 1) * z (row t r) (col (y 0) (y 2)) : ℝ) : EReal) := by
  rw [stepW, ← coe_sum]
  refine congrArg (acc y + ·) (Finset.sum_congr rfl fun r _ => ?_)
  rw [h_pay (x := fun r k => x (row t r) k) (g := g) (fun r k => (blk_x m c t r k).trans (hx _ _)) (fun k => (blk_g m c t k).trans (hg _)) r (y 1), EReal.coe_mul]
  exact congrArg (_ * ·) ((blk_z m c t (y 0) r (y 2)).trans (hz _ _))

/-- One point's part of the gain's gradient. -/
theorem dg_block (hx : ∀ i k, m ((c.tc : Thread nD τ).loc main_arg0) (ix2 i k) = ((x i k : ℝ) : EReal))
    (hw : ∀ k j, m ((c.tc : Thread nD τ).loc main_arg2) (ix2 k j) = ((w k j : ℝ) : EReal))
    (hz : ∀ i j, m ((c.tc : Thread nD τ).loc main_arg4) (ix2 i j) = ((z i j : ℝ) : EReal)) (t : Fin cfg0.N) (acc : FVec Ideal S1x1024 .f32) (j : S1x1024.Idx) :
    k0_pay1 (F := Ideal) (k0_pay19 (iblk m c 1 t) (k0_pay12 (k0_pay7 (View.ld (iblk m c 3 t) (zR 0 inb_S4x512x1024_S1x512x1024_0_0_0)) (View.ld (iblk m c 4 t) (wR 0 inb_S4x1024x1024_S1x1024x1024_0_0_0)))
        (View.ld (iblk m c 3 t) (zR 1 inb_S4x512x1024_S1x512x1024_1_0_0)) (View.ld (iblk m c 4 t) (wR 1 inb_S4x1024x1024_S1x1024x1024_1_0_0))
        (View.ld (iblk m c 3 t) (zR 2 inb_S4x512x1024_S1x512x1024_2_0_0)) (View.ld (iblk m c 4 t) (wR 2 inb_S4x1024x1024_S1x1024x1024_2_0_0)))
        (View.ld (iblk m c 3 t) (zR 3 inb_S4x512x1024_S1x512x1024_3_0_0)) (View.ld (iblk m c 4 t) (wR 3 inb_S4x1024x1024_S1x1024x1024_3_0_0))) acc j
      = acc j + ((∑ r : Fin 512, dh w z (row t r) (j 1) * (x (row t r) (j 1) * rr (x (row t r))) : ℝ) : EReal) := by
    obtain ⟨j0, k, rfl⟩ : ∃ a k, j = ix2 a k := ⟨j 0, j 1, by blk_ext⟩
    obtain rfl : j0 = 0 := Subsingleton.elim _ _
    have := dg_pay (x := fun r k => x (row t r) k) (d := fun r k => dh w z (row t r) k) (fun r k => (blk_x m c t r k).trans (hx _ _)) (dh_block hw hz t) k
    pointwise [k0_pay1, this]

theorem dw_eq (hx : ∀ i k, m ((c.tc : Thread nD τ).loc main_arg0) (ix2 i k) = ((x i k : ℝ) : EReal))
    (hg : ∀ k, m ((c.tc : Thread nD τ).loc main_arg1) (ix1 k) = ((g k : ℝ) : EReal))
    (hz : ∀ i j, m ((c.tc : Thread nD τ).loc main_arg4) (ix2 i j) = ((z i j : ℝ) : EReal)) :
    (dats m 0 c).arrAt 6 cfg0.N = fun y => ((∑ i, x i (y 1) * rr (x i) * g (y 1) * z i (col (y 0) (y 2)) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun t y => ((∑ r : Fin 512, x (row t r) (y 1) * rr (x (row t r)) * g (y 1) * z (row t r) (col (y 0) (y 2)) : ℝ) : EReal))
    (fun t h j => by
      rw [dwA m c t h, stepW_real hx hg hz]; pointwise [k0_pay2])
    (fun t h j => by
      rw [dwB m c t h, stepW_real hx hg hz]) (le_of_eq N_0) t0_15 rfl j, zero_add, coe_sum]
  exact congrArg _ (Fin.sum_mul_add_congr (fun _ _ _ => rfl) (by show 8192 = grid0.N * 512; rw [N_0]))

theorem dg_eq (hx : ∀ i k, m ((c.tc : Thread nD τ).loc main_arg0) (ix2 i k) = ((x i k : ℝ) : EReal))
    (hw : ∀ k j, m ((c.tc : Thread nD τ).loc main_arg2) (ix2 k j) = ((w k j : ℝ) : EReal))
    (hz : ∀ i j, m ((c.tc : Thread nD τ).loc main_arg4) (ix2 i j) = ((z i j : ℝ) : EReal)) :
    (dats m 0 c).arrAt 7 cfg0.N = fun y => ((∑ i, dh w z i (y 1) * (x i (y 1) * rr (x i)) : ℝ) : EReal) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun t y => ((∑ r : Fin 512, dh w z (row t r) (y 1) * (x (row t r) (y 1) * rr (x (row t r))) : ℝ) : EReal))
    (fun t h j => by
      rw [outsAt0_A m c t h]; frame_out
      refine (dg_block hx hw hz t _ j).trans (congrArg (· + _) ?_)
      pointwise [k0_pay3])
    (fun t h j => by
      rw [outsAt0_B m c t h]; frame_out
      exact dg_block hx hw hz t _ j) (le_of_eq N_0) t0_15 rfl j, zero_add, coe_sum]
  exact congrArg _ (Fin.sum_mul_add_congr (fun _ _ _ => rfl) (by show 8192 = grid0.N * 512; rw [N_0]))

end Cert.AInIdeal.Val
end
-- ==== Proof.AInRefValue.lean ====
/-
  The results of the reference of `mix_a_bwd_in`, entry by entry, on real arguments.
-/
module

public import proofs.«01_k».proof.Proof.Lift
public import proofs.«01_k».proof.Proof.Gen.AInRefIdeal.Read
public import Idealize.ShloMosaic.Lib.Pointwise

@[expose] public section

set_option maxRecDepth 16384

noncomputable section

namespace Cert.AInRefIdeal.Val

open Idealize.ShloMosaic Idealize.ShloMosaic.TcCoe Idealize.SL.Sem
open Cert.AInRefIdeal Cert.AInRefIdeal.Gen Cert.AInRefIdeal.Read Cert.Lift

variable {x0 : FVec Ideal S8192x1024 .f32} {x1 : FVec Ideal S1024 .f32} {x2 : FVec Ideal S1024x4096 .f32}
  {x3 : FVec Ideal S8192x1024 .f32} {x4 : FVec Ideal S8192x4096 .f32}
  {x : Fin 8192 → Fin 1024 → ℝ} {g : Fin 1024 → ℝ} {w : Fin 1024 → Fin 4096 → ℝ} {z : Fin 8192 → Fin 4096 → ℝ}

theorem v6 (hx : ∀ i k, x0 (ix2 i k) = ((x i k : ℝ) : EReal)) (i : Fin 8192) :
    val_main_v6 (F := Ideal) x0 (ix2 i 0) = (((∑ k, x i k * x i k) / 1024 + eps : ℝ) : EReal) := by
  pointwise [val_main_v6, val_main_v5, val_main_v4, val_main_v3, val_main_v2, val_main_v1, val_main_v0, val_main_cst, val_main_cst_0, val_main_cst_1, hx]
  simp only [← EReal.coe_mul, coe_sum, ofBits_1024, ofBits_eps]
  rw [div_real (by norm_num), ← EReal.coe_add]

theorem v7 (hx : ∀ i k, x0 (ix2 i k) = ((x i k : ℝ) : EReal)) (i : Fin 8192) :
    val_main_v7 (F := Ideal) x0 (ix2 i 0) = ((rr (x i) : ℝ) : EReal) := by
  have := v6 hx i
  pointwise [val_main_v7, this]
  rw [rsqrt_real (ms_pos _)]; rfl

theorem v12 (hx : ∀ i k, x0 (ix2 i k) = ((x i k : ℝ) : EReal)) (i : Fin 8192) (k : Fin 1024) :
    val_main_v12 (F := Ideal) x0 (ix2 i k) = ((x i k * rr (x i) : ℝ) : EReal) := by
  have := v7 hx i
  pointwise [val_main_v12, val_main_v11, this, hx]
  rw [EReal.coe_mul]

theorem v19 (hw : ∀ k j, x2 (ix2 k j) = ((w k j : ℝ) : EReal)) (hz : ∀ i j, x4 (ix2 i j) = ((z i j : ℝ) : EReal)) (i : Fin 8192) (k : Fin 1024) :
    val_main_v19 (F := Ideal) x2 x4 (ix2 i k) = ((dh w z i k : ℝ) : EReal) := by
  pointwise [val_main_v19, hw, hz]
  simp only [← EReal.coe_mul, coe_sum]; rfl

theorem v24 (hg : ∀ k, x1 (ix1 k) = ((g k : ℝ) : EReal)) (hw : ∀ k j, x2 (ix2 k j) = ((w k j : ℝ) : EReal))
    (hz : ∀ i j, x4 (ix2 i j) = ((z i j : ℝ) : EReal)) (i : Fin 8192) (k : Fin 1024) :
    val_main_v24 (F := Ideal) x1 x2 x4 (ix2 i k) = ((dh w z i k * g k : ℝ) : EReal) := by
  have := v19 hw hz i k
  pointwise [val_main_v24, val_main_v23, val_main_v13, this, hg]
  rw [EReal.coe_mul]

theorem v34 (hx : ∀ i k, x0 (ix2 i k) = ((x i k : ℝ) : EReal)) (hg : ∀ k, x1 (ix1 k) = ((g k : ℝ) : EReal)) (hw : ∀ k j, x2 (ix2 k j) = ((w k j : ℝ) : EReal))
    (hz : ∀ i j, x4 (ix2 i j) = ((z i j : ℝ) : EReal)) (i : Fin 8192) :
    val_main_v34 (F := Ideal) x0 x1 x2 x4 (ix2 i 0) = (((∑ l, x i l * (dh w z i l * g l)) * (-(1 / 2) * (rr (x i) / ((∑ k, x i k * x i k) / 1024 + eps))) / 1024 : ℝ) : EReal) := by
  have h6 := v6 hx i
  have h7 := v7 hx i
  have h24 := v24 hg hw hz i
  pointwise [val_main_v34, val_main_v33, val_main_v32, val_main_v28, val_main_v27, val_main_v26, val_main_v10, val_main_v9, val_main_v8, val_main_cst_5, val_main_cst_6, val_main_cst_2, h6, h7, h24, hx]
  simp only [← EReal.coe_mul, coe_sum, ofBits_1024, ofBits_neg_half]
  rw [div_real (ms_pos _).ne', ← EReal.coe_mul, ← EReal.coe_mul, div_real (by norm_num)]

theorem v40 (hx : ∀ i k, x0 (ix2 i k) = ((x i k : ℝ) : EReal)) (hg : ∀ k, x1 (ix1 k) = ((g k : ℝ) : EReal)) (hw : ∀ k j, x2 (ix2 k j) = ((w k j : ℝ) : EReal))
    (hz : ∀ i j, x4 (ix2 i j) = ((z i j : ℝ) : EReal)) (i : Fin 8192) (k : Fin 1024) :
    val_main_v40 (F := Ideal) x0 x1 x2 x3 x4 (ix2 i k) = x3 (ix2 i k) + ((dnorm (x i) (fun l => dh w z i l * g l) k : ℝ) : EReal) := by
  have h7 := v7 hx i
  have h24 := v24 hg hw hz i
  have h34 := v34 hx hg hw hz i
  pointwise [val_main_v40, val_main_v39, val_main_v38, val_main_v37, val_main_v36, val_main_v35, val_main_v31, val_main_v30, val_main_v29, val_main_cst_7, h7, h24, h34, hx]
  rw [Fin.sum_univ_one, h34, ← dnorm_eq, EReal.coe_add, EReal.coe_add, ← add_assoc, ← add_assoc]
  simp only [EReal.coe_mul]

theorem v42 (hx : ∀ i k, x0 (ix2 i k) = ((x i k : ℝ) : EReal)) (hg : ∀ k, x1 (ix1 k) = ((g k : ℝ) : EReal))
    (hz : ∀ i j, x4 (ix2 i j) = ((z i j : ℝ) : EReal)) (b : Fin 4) (k j : Fin 1024) :
    val_main_v42 (F := Ideal) x0 x1 x4 (ix3 b k j) = ((∑ i, x i k * rr (x i) * g k * z i (col b j) : ℝ) : EReal) := by
  have h12 := fun i => v12 hx i
  pointwise [val_main_v42, val_main_v41, val_main_v18, val_main_v17, val_main_v15, val_main_v14, val_main_v13, h12, hz, hg]
  simp only [← EReal.coe_mul, coe_sum]
  exact congrArg _ (Finset.sum_congr rfl fun i _ => mul_comm _ _)

theorem v43 (hx : ∀ i k, x0 (ix2 i k) = ((x i k : ℝ) : EReal)) (hw : ∀ k j, x2 (ix2 k j) = ((w k j : ℝ) : EReal))
    (hz : ∀ i j, x4 (ix2 i j) = ((z i j : ℝ) : EReal)) (k : Fin 1024) :
    val_main_v43 (F := Ideal) x0 x2 x4 (ix2 0 k) = ((∑ i, dh w z i k * (x i k * rr (x i)) : ℝ) : EReal) := by
  have h12 := fun i => v12 hx i
  have h19 := fun i => v19 hw hz i
  pointwise [val_main_v43, val_main_v25, val_main_v22, val_main_v21, val_main_v20, val_main_cst_3, val_main_cst_4, h12, h19]
  simp only [← EReal.coe_mul, coe_sum, Fin.sum_univ_one]
  exact congrArg _ (Finset.sum_congr rfl fun i _ => mul_comm _ _)

end Cert.AInRefIdeal.Val

end
-- ==== Proof.AInClaim.lean ====
/-
  `mix_a_bwd_in`: the kernel and the reference end with equal results on finite arguments.
-/
module

public import proofs.«01_k».proof.Defs
public import proofs.«01_k».proof.Proof.AInValue
public import proofs.«01_k».proof.Proof.AInRefValue
public import proofs.«01_k».proof.Proof.Gen.Pre_a_in_finite
public import Idealize.ShloMosaic.Adequacy
public import Idealize.ShloMosaic.Init

@[expose] public section

set_option maxRecDepth 16384

noncomputable section

namespace Cert.AInIdeal.Val

open Idealize.ShloMosaic Idealize.ShloMosaic.TcCoe Idealize.SL.Sem
open Cert.AInIdeal Cert.Lift

/-- What the precondition says: the arguments it names are arrays of real numbers. -/
theorem finite_args {m : (ℓ : Loc nD τ sig) → Buf (Elt Ideal) ℓ} (h : Cert.Pre_AInIdeal_a_in_finite m) (c : Dev nD) :
    AllReal (s := S8192x1024) (m ((c.tc : Thread nD τ).loc main_arg0)) ∧ AllReal (s := S1024) (m ((c.tc : Thread nD τ).loc main_arg1))
      ∧ AllReal (s := S1024x4096) (m ((c.tc : Thread nD τ).loc main_arg2)) ∧ AllReal (s := S8192x4096) (m ((c.tc : Thread nD τ).loc main_arg4)) := by
  have e := congrFun (h c) (fun i => i.elim0)
  obtain ⟨e, h4⟩ := and_one e
  obtain ⟨e, h2⟩ := and_one e
  obtain ⟨h0, h1⟩ := and_one e
  exact ⟨fin_of_all _ _ _ _ _ _ h0, fin_of_all _ _ _ _ _ _ h1, fin_of_all _ _ _ _ _ _ h2, fin_of_all _ _ _ _ _ _ h4⟩

theorem algebraic : Cert.algebraic_AInIdeal_AInRefIdeal_pre_a_in_finite := by
  pair_intro
  · run_from Cert.AInIdeal.Value.run_blocks m g
  · run_from Cert.AInRefIdeal.Value.run m' g'
    all_goals
      obtain ⟨h0, h1, h2, h4⟩ := finite_args hpre c
      have hx := fun (i : Fin 8192) (k : Fin 1024) => (h0 (ix2 i k)).symm
      have hg := fun (k : Fin 1024) => (h1 (ix1 k)).symm
      have hw := fun (k : Fin 1024) (j : Fin 4096) => (h2 (ix2 k j)).symm
      have hz := fun (i : Fin 8192) (j : Fin 4096) => (h4 (ix2 i j)).symm
    · obtain ⟨a0, a1, a2, a3, a4⟩ := hagree c
      rw [dx_eq hx hg hw hz, Cert.AInRefIdeal.Read.val_main_v40_eq, a0, a1, a2, a3, a4]
      funext y
      obtain ⟨i, k, rfl⟩ : ∃ i k, y = ix2 i k := ⟨y 0, y 1, by blk_ext⟩
      exact Cert.AInRefIdeal.Val.v40 hx hg hw hz i k
    · rw [dw_eq hx hg hz]
      funext y
      obtain ⟨b, k, j, rfl⟩ : ∃ b k j, y = ix3 b k j := ⟨y 0, y 1, y 2, by blk_ext⟩
      exact Cert.AInRefIdeal.Val.v42 hx hg hz b k j
    · rw [dg_eq hx hw hz]
      funext y
      obtain ⟨a, k, rfl⟩ : ∃ a k, y = ix2 a k := ⟨y 0, y 1, by blk_ext⟩
      obtain rfl : a = 0 := Subsingleton.elim _ _
      exact Cert.AInRefIdeal.Val.v43 hx hw hz k

/-- The reference runs, its arguments end unchanged, and it has no semaphore. -/
theorem ref_frame : Cert.quiescent_AInRefIdeal := fun m g _ =>
  (θ_run Cert.AInRefIdeal.defs _ _).mono (fun r h => ⟨fun c => (h c).2.2.2,
      sem_eq_zero_of_no_sems (by decide) r.2⟩)
    (Cert.AInRefIdeal.Value.run (F := Ideal) m g)

end Cert.AInIdeal.Val

end
-- ==== Proof.FfnInValue.lean ====
/-
  `ffn_bwd_in`: what the kernel leaves in its four results, entry by entry, on real arguments.
-/
module

public import proofs.«01_k».proof.Proof.Lift
public import proofs.«01_k».proof.Proof.Gen.FfnInIdeal.Value
public import Idealize.ShloMosaic.Lib.Pipeline.ValueKit
public import Idealize.ShloMosaic.Lib.Pipeline.ReadBack

@[expose] public section

set_option maxRecDepth 16384

noncomputable section

namespace Cert.FfnInIdeal.Val

open Idealize.ShloMosaic Idealize.ShloMosaic.TcCoe Idealize.SL.Sem
open Idealize.ShloMosaic.Pipeline (Dat)
open Cert.FfnInIdeal Cert.FfnInIdeal.Gen Cert.Lift

variable (m : (ℓ : Loc nD τ sig) → Buf (Elt Ideal) ℓ)

section payloads

variable {x : Fin 256 → Fin 1024 → ℝ} {g : Fin 1024 → ℝ} {d : Fin 256 → Fin 1024 → ℝ}
  {v3 : FVec Ideal S256x1024 .f32} {v4 : FVec Ideal S1x1024 .f32} {v25 : FVec Ideal S256x1024 .f32}
  {v33 : FVec Ideal S1x256x2816 .bf16} {v35 : FVec Ideal S1x2816x1024 .bf16}

theorem rr_pay (hx : ∀ r k, v3 (ix2 r k) = ((x r k : ℝ) : EReal)) (r : Fin 256) :
    k0_pay14 (F := Ideal) v3 (ix2 r 0) = ((rr (x r) : ℝ) : EReal) := by
  pointwise [k0_pay14, hx]
  simp only [← EReal.coe_mul, coe_sum, ofBits_1024, ofBits_eps]
  rw [div_real (by norm_num), ← EReal.coe_add, rsqrt_real (ms_pos _)]; rfl

theorem n_pay (hx : ∀ r k, v3 (ix2 r k) = ((x r k : ℝ) : EReal)) (r : Fin 256) (k : Fin 1024) :
    k0_pay15 (F := Ideal) v3 (ix2 r k) = ((x r k * rr (x r) : ℝ) : EReal) := by
  have := rr_pay hx r
  pointwise [k0_pay15, hx, this]
  rw [EReal.coe_mul]

theorem h_pay (hx : ∀ r k, v3 (ix2 r k) = ((x r k : ℝ) : EReal)) (hg : ∀ k, v4 (ix2 0 k) = ((g k : ℝ) : EReal)) (r : Fin 256) (k : Fin 1024) :
    k0_pay7 (F := Ideal) v3 v4 (ix2 r k) = ((x r k * rr (x r) * g k : ℝ) : EReal) := by
  pointwise [k0_pay7, k0_pay6, hx, hg]
  simp only [← EReal.coe_mul, coe_sum, ofBits_1024, ofBits_eps]
  rw [div_real (by norm_num), ← EReal.coe_add, rsqrt_real (ms_pos _)]; simp only [← EReal.coe_mul]; rfl

theorem dg_pay (hx : ∀ r k, v3 (ix2 r k) = ((x r k : ℝ) : EReal)) (hd : ∀ r k, k0_pay12 (F := Ideal) v25 v33 v35 (ix2 r k) = ((d r k : ℝ) : EReal))
    (k : Fin 1024) : k0_pay17 (F := Ideal) v3 v25 v33 v35 (ix2 0 k) = ((∑ r, d r k * (x r k * rr (x r)) : ℝ) : EReal) := by
  have := n_pay hx
  pointwise [k0_pay17, hd, this]
  simp only [← EReal.coe_mul, coe_sum]

theorem dx_pay (hx : ∀ r k, v3 (ix2 r k) = ((x r k : ℝ) : EReal)) (hg : ∀ k, v4 (ix2 0 k) = ((g k : ℝ) : EReal))
    (hd : ∀ r k, k0_pay12 (F := Ideal) v25 v33 v35 (ix2 r k) = ((d r k : ℝ) : EReal)) (v71 : FVec Ideal S256x1024 .f32) (r : Fin 256) (k : Fin 1024) :
    k0_pay1 (F := Ideal) (k0_pay16 v3 (k0_pay6 v4) v25 v33 v35) v71 (ix2 r k) = v71 (ix2 r k) + ((dnorm (x r) (fun l => d r l * g l) k : ℝ) : EReal) := by
  have h1 := n_pay hx
  have h2 := rr_pay hx
  pointwise [k0_pay1, k0_pay16, k0_pay6, hd, h1, h2, hg]
  simp only [← EReal.coe_mul, coe_sum, ofBits_1024]
  rw [div_real (by norm_num)]
  simp only [← EReal.coe_mul, ← EReal.coe_sub]
  rfl

/-- The two products of the upstream gradients with the transposed weights. -/
theorem dh_pay {z0 z1 : Fin 256 → Fin 2816 → ℝ} {w0 w1 : Fin 2816 → Fin 1024 → ℝ}
    {y0 y1 : FVec Ideal S1x256x2816 .bf16} {u0 u1 : FVec Ideal S1x2816x1024 .bf16}
    (h0 : ∀ r j, y0 (ix3 0 r j) = ((z0 r j : ℝ) : EReal)) (h1 : ∀ r j, y1 (ix3 0 r j) = ((z1 r j : ℝ) : EReal))
    (k0 : ∀ j k, u0 (ix3 0 j k) = ((w0 j k : ℝ) : EReal)) (k1 : ∀ j k, u1 (ix3 0 j k) = ((w1 j k : ℝ) : EReal)) (r : Fin 256) (k : Fin 1024) :
    k0_pay12 (F := Ideal) (k0_pay9 y0 u0) y1 u1 (ix2 r k) = (((∑ j, z0 r j * w0 j k) + ∑ j, z1 r j * w1 j k : ℝ) : EReal) := by
  pointwise [k0_pay12, k0_pay9, k0_pay8, k0_pay11, h0, h1, k0, k1]
  simp only [← EReal.coe_mul, coe_sum, ← EReal.coe_add]

theorem dw_pay10 (x : FVec Ideal S256x1024 .f32) (g : FVec Ideal S1x1024 .f32) (z : FVec Ideal S1x256x2816 .bf16) (w : FVec Ideal S1x2816x1024 .f32) (j : Fin 2816) (k : Fin 1024) :
    k0_pay10 (F := Ideal) x g z w (ix3 0 j k) = w (ix3 0 j k) + ∑ r : Fin 256, z (ix3 0 r j) * k0_pay7 (F := Ideal) x g (ix2 r k) := by
  pointwise [k0_pay10, k0_pay8]

theorem dw_pay13 (h : FVec Ideal S256x1024 .bf16) (z : FVec Ideal S1x256x2816 .bf16) (w : FVec Ideal S1x2816x1024 .f32) (j : Fin 2816) (k : Fin 1024) :
    k0_pay13 (F := Ideal) h z w (ix3 0 j k) = w (ix3 0 j k) + ∑ r : Fin 256, z (ix3 0 r j) * h (ix2 r k) := by
  pointwise [k0_pay13, k0_pay11]

end payloads

theorem idx : ∀ t : Fin cfg0.N, win0_0.index t = ![t.val, 0] ∧ win0_1.index t = ![t.val, 0] ∧ win0_2.index t = ![0, 0]
    ∧ win0_3.index t = ![0, t.val, 0] ∧ win0_4.index t = ![0, t.val, 0] ∧ win0_5.index t = ![0, 0, 0] ∧ win0_6.index t = ![0, 0, 0]
    ∧ win0_7.index t = ![t.val, 0] :=
  (by decide +kernel : ∀ t : Fin grid0.N, _)

/-- Row `r` of point `t`, among all rows. -/
abbrev row (t : Fin cfg0.N) (r : Fin 256) : Fin 8192 := ⟨t.val * 256 + r.val, by have := t.isLt; have : cfg0.N = 32 := N_0; omega⟩

/-- The gradient that comes down the residual branch. -/
abbrev res (c : Dev nD) : FVec Ideal S8192x1024 .f32 := m ((c.tc : Thread nD τ).loc main_arg4)

theorem blk_res (c : Dev nD) (t : Fin cfg0.N) (r : Fin 256) (k : Fin 1024) :
    iblk m c 0 t (ix2 r k) = res m c (ix2 (row t r) k) := by
  blk_point [iblk, V, idx t]
theorem blk_x (c : Dev nD) (t : Fin cfg0.N) (r : Fin 256) (k : Fin 1024) :
    iblk m c 1 t (ix2 r k) = m ((c.tc : Thread nD τ).loc main_arg0) (ix2 (row t r) k) := by
  blk_point [iblk, V, idx t]
theorem blk_g (c : Dev nD) (t : Fin cfg0.N) (k : Fin 1024) :
    iblk m c 2 t (ix2 0 k) = m ((c.tc : Thread nD τ).loc main_arg1) (ix1 k) := by
  blk_point [iblk, V, idx t]
theorem blk_z0 (c : Dev nD) (t : Fin cfg0.N) (r : Fin 256) (j : Fin 2816) :
    iblk m c 3 t (ix3 0 r j) = m ((c.tc : Thread nD τ).loc main_arg5) (ix2 (row t r) j) := by
  blk_point [iblk, V, idx t]
theorem blk_z1 (c : Dev nD) (t : Fin cfg0.N) (r : Fin 256) (j : Fin 2816) :
    iblk m c 4 t (ix3 0 r j) = m ((c.tc : Thread nD τ).loc main_arg6) (ix2 (row t r) j) := by
  blk_point [iblk, V, idx t]
theorem blk_w0 (c : Dev nD) (t : Fin cfg0.N) (j : Fin 2816) (k : Fin 1024) :
    iblk m c 5 t (ix3 0 j k) = m ((c.tc : Thread nD τ).loc main_arg2) (ix2 k j) := by
  blk_point [iblk, V, idx t]
theorem blk_w1 (c : Dev nD) (t : Fin cfg0.N) (j : Fin 2816) (k : Fin 1024) :
    iblk m c 6 t (ix3 0 j k) = m ((c.tc : Thread nD τ).loc main_arg3) (ix2 k j) := by
  blk_point [iblk, V, idx t]

/-! ### The four results -/

/-- The arguments the gradients read are real numbers. -/
structure Args (c : Dev nD) (x : Fin 8192 → Fin 1024 → ℝ) (g : Fin 1024 → ℝ) (w0 w1 : Fin 1024 → Fin 2816 → ℝ) (z0 z1 : Fin 8192 → Fin 2816 → ℝ) : Prop where
  x : ∀ i k, m ((c.tc : Thread nD τ).loc main_arg0) (ix2 i k) = ((x i k : ℝ) : EReal)
  g : ∀ k, m ((c.tc : Thread nD τ).loc main_arg1) (ix1 k) = ((g k : ℝ) : EReal)
  w0 : ∀ k j, m ((c.tc : Thread nD τ).loc main_arg2) (ix2 k j) = ((w0 k j : ℝ) : EReal)
  w1 : ∀ k j, m ((c.tc : Thread nD τ).loc main_arg3) (ix2 k j) = ((w1 k j : ℝ) : EReal)
  z0 : ∀ i j, m ((c.tc : Thread nD τ).loc main_arg5) (ix2 i j) = ((z0 i j : ℝ) : EReal)
  z1 : ∀ i j, m ((c.tc : Thread nD τ).loc main_arg6) (ix2 i j) = ((z1 i j : ℝ) : EReal)

variable {m} {c : Dev nD} {x : Fin 8192 → Fin 1024 → ℝ} {g : Fin 1024 → ℝ} {w0 w1 : Fin 1024 → Fin 2816 → ℝ} {z0 z1 : Fin 8192 → Fin 2816 → ℝ}

theorem dh_block (a : Args m c x g w0 w1 z0 z1) (t : Fin cfg0.N) (r : Fin 256) (k : Fin 1024) :
    k0_pay12 (F := Ideal) (k0_pay9 (iblk m c 3 t) (iblk m c 5 t)) (iblk m c 4 t) (iblk m c 6 t) (ix2 r k)
      = ((dh w0 z0 (row t r) k + dh w1 z1 (row t r) k : ℝ) : EReal) :=
  dh_pay (z0 := fun r j => z0 (row t r) j) (z1 := fun r j => z1 (row t r) j) (w0 := fun j k => w0 k j) (w1 := fun j k => w1 k j)
    (fun r j => (blk_z0 m c t r j).trans (a.z0 _ _)) (fun r j => (blk_z1 m c t r j).trans (a.z1 _ _))
    (fun j k => (blk_w0 m c t j k).trans (a.w0 _ _)) (fun j k => (blk_w1 m c t j k).trans (a.w1 _ _)) r k

theorem h_block (a : Args m c x g w0 w1 z0 z1) (t : Fin cfg0.N) (r : Fin 256) (k : Fin 1024) :
    k0_pay7 (F := Ideal) (iblk m c 1 t) (iblk m c 2 t) (ix2 r k) = ((x (row t r) k * rr (x (row t r)) * g k : ℝ) : EReal) :=
  h_pay (x := fun r k => x (row t r) k) (fun r k => (blk_x m c t r k).trans (a.x _ _)) (fun k => (blk_g m c t k).trans (a.g _)) r k

theorem dx_eq (a : Args m c x g w0 w1 z0 z1) :
    (dats m 0 c).arrAt 7 cfg0.N = fun y => res m c y
      + ((dnorm (x (y 0)) (fun l => (dh w0 z0 (y 0) l + dh w1 z1 (y 0) l) * g l) (y 1) : ℝ) : EReal) := by
  refine (dats m 0 c).arrAt_eq_of_covers 7 _ (by decide +kernel) fun t hf y => ?_
  obtain ⟨r, k, rfl⟩ : ∃ r k, y = ix2 r k := ⟨y 0, y 1, by blk_ext⟩
  blk_simp
  rw [after0_7]
  have e : (outsAt0 m c t.val t.isLt).1 (ix2 r k) = res m c (ix2 (row t r) k)
      + ((dnorm (x (row t r)) (fun l => (dh w0 z0 (row t r) l + dh w1 z1 (row t r) l) * g l) k : ℝ) : EReal) := by
    have e := dx_pay (x := fun r k => x (row t r) k) (d := fun r k => dh w0 z0 (row t r) k + dh w1 z1 (row t r) k)
      (fun r k => (blk_x m c t r k).trans (a.x _ _)) (fun k => (blk_g m c t k).trans (a.g _)) (dh_block a t) (iblk m c 0 t) r k
    rw [← blk_res m c t r k]
    by_cases h0 : t.val % 32 = 0
    · rw [outsAt0_A m c t h0]; frame_out; exact e
    · rw [outsAt0_B m c t h0]; frame_out; exact e
  rw [e]
  have e' : ((cfg0.win 7).blk t).view.emb (ix2 r k) = ix2 (row t r) k := by blk_ext [idx t]
  rw [e']; rfl

/-- One point's part of the first weight's gradient. -/
theorem dw0_block (a : Args m c x g w0 w1 z0 z1) (t : Fin cfg0.N) (acc : FVec Ideal S1x2816x1024 .f32) (y : S1x2816x1024.Idx) :
    k0_pay10 (F := Ideal) (iblk m c 1 t) (iblk m c 2 t) (iblk m c 3 t) acc y
      = acc y + ((∑ r : Fin 256, z0 (row t r) (y 1) * (x (row t r) (y 2) * rr (x (row t r)) * g (y 2)) : ℝ) : EReal) := by
  obtain ⟨y0, j, k, rfl⟩ : ∃ a j k, y = ix3 a j k := ⟨y 0, y 1, y 2, by blk_ext⟩
  obtain rfl : y0 = 0 := Subsingleton.elim _ _
  refine (dw_pay10 _ _ _ _ j k).trans (congrArg (acc _ + ·) ?_)
  rw [← coe_sum]
  exact Finset.sum_congr rfl fun r _ => by rw [h_block a t r k, EReal.coe_mul]; exact congrArg (fun e : EReal => e * _) ((blk_z0 m c t r j).trans (a.z0 _ _))

/-- One point's part of the second weight's gradient. -/
theorem dw1_block (a : Args m c x g w0 w1 z0 z1) (t : Fin cfg0.N) (acc : FVec Ideal S1x2816x1024 .f32) (y : S1x2816x1024.Idx) :
    k0_pay13 (F := Ideal) (k0_pay7 (iblk m c 1 t) (iblk m c 2 t)) (iblk m c 4 t) acc y
      = acc y + ((∑ r : Fin 256, z1 (row t r) (y 1) * (x (row t r) (y 2) * rr (x (row t r)) * g (y 2)) : ℝ) : EReal) := by
  obtain ⟨y0, j, k, rfl⟩ : ∃ a j k, y = ix3 a j k := ⟨y 0, y 1, y 2, by blk_ext⟩
  obtain rfl : y0 = 0 := Subsingleton.elim _ _
  refine (dw_pay13 _ _ _ j k).trans (congrArg (acc _ + ·) ?_)
  rw [← coe_sum]
  exact Finset.sum_congr rfl fun r _ => by rw [h_block a t r k, EReal.coe_mul]; exact congrArg (fun e : EReal => e * _) ((blk_z1 m c t r j).trans (a.z1 _ _))

/-- One point's part of the gain's gradient. -/
theorem dg_block (a : Args m c x g w0 w1 z0 z1) (t : Fin cfg0.N) (acc : FVec Ideal S1x1024 .f32) (j : S1x1024.Idx) :
    k0_pay2 (F := Ideal) (k0_pay17 (iblk m c 1 t) (k0_pay9 (iblk m c 3 t) (iblk m c 5 t)) (iblk m c 4 t) (iblk m c 6 t)) acc j
      = acc j + ((∑ r : Fin 256, (dh w0 z0 (row t r) (j 1) + dh w1 z1 (row t r) (j 1)) * (x (row t r) (j 1) * rr (x (row t r))) : ℝ) : EReal) := by
  obtain ⟨j0, k, rfl⟩ : ∃ a k, j = ix2 a k := ⟨j 0, j 1, by blk_ext⟩
  obtain rfl : j0 = 0 := Subsingleton.elim _ _
  have := dg_pay (x := fun r k => x (row t r) k) (d := fun r k => dh w0 z0 (row t r) k + dh w1 z1 (row t r) k)
    (fun r k => (blk_x m c t r k).trans (a.x _ _)) (dh_block a t) k
  pointwise [k0_pay2, this]

/-- The last point. -/
abbrev tl : Fin cfg0.N := ⟨31, by decide +kernel⟩

theorem dw0_eq (a : Args m c x g w0 w1 z0 z1) :
    (dats m 0 c).arrAt 8 cfg0.N = fun y => ((∑ i, z0 i (y 1) * (x i (y 2) * rr (x i) * g (y 2)) : ℝ) : EReal) := by
  refine (dats m 0 c).arrAt_eq_of_after_last 8 tl (by decide +kernel) _ fun j => ?_
  blk_simp
  rw [after0_8, Pipeline.eq_sum_fin_of_reset_step_apply_last (fun n h => (outsAt0 m c n h).2.1) 32 (fun _ => 0)
    (fun t y => ((∑ r : Fin 256, z0 (row t r) (y 1) * (x (row t r) (y 2) * rr (x (row t r)) * g (y 2)) : ℝ) : EReal))
    (fun t h j => by
      rw [outsAt0_A m c t h]; frame_out
      refine (dw0_block a t _ j).trans (congrArg (· + _) ?_)
      pointwise [k0_pay3])
    (fun t h j => by
      rw [outsAt0_B m c t h]; frame_out
      exact dw0_block a t _ j) (le_of_eq N_0) tl rfl j, zero_add, coe_sum]
  exact congrArg _ (Fin.sum_mul_add_congr (fun _ _ _ => rfl) (by show 8192 = grid0.N * 256; rw [N_0]))

theorem dw1_eq (a : Args m c x g w0 w1 z0 z1) :
    (dats m 0 c).arrAt 9 cfg0.N = fun y => ((∑ i, z1 i (y 1) * (x i (y 2) * rr (x i) * g (y 2)) : ℝ) : EReal) := by
  refine (dats m 0 c).arrAt_eq_of_after_last 9 tl (by decide +kernel) _ fun j => ?_
  blk_simp
  rw [after0_9, Pipeline.eq_sum_fin_of_reset_step_apply_last (fun n h => (outsAt0 m c n h).2.2.1) 32 (fun _ => 0)
    (fun t y => ((∑ r : Fin 256, z1 (row t r) (y 1) * (x (row t r) (y 2) * rr (x (row t r)) * g (y 2)) : ℝ) : EReal))
    (fun t h j => by
      rw [outsAt0_A m c t h]; frame_out
      refine (dw1_block a t _ j).trans (congrArg (· + _) ?_)
      pointwise [k0_pay4])
    (fun t h j => by
      rw [outsAt0_B m c t h]; frame_out
      exact dw1_block a t _ j) (le_of_eq N_0) tl rfl j, zero_add, coe_sum]
  exact congrArg _ (Fin.sum_mul_add_congr (fun _ _ _ => rfl) (by show 8192 = grid0.N * 256; rw [N_0]))

theorem dg_eq (a : Args m c x g w0 w1 z0 z1) :
    (dats m 0 c).arrAt 10 cfg0.N = fun y => ((∑ i, (dh w0 z0 i (y 1) + dh w1 z1 i (y 1)) * (x i (y 1) * rr (x i)) : ℝ) : EReal) := by
  refine (dats m 0 c).arrAt_eq_of_after_last 10 tl (by decide +kernel) _ fun j => ?_
  blk_simp
  rw [after0_10, Pipeline.eq_sum_fin_of_reset_step_apply_last (fun n h => (outsAt0 m c n h).2.2.2) 32 (fun _ => 0)
    (fun t y => ((∑ r : Fin 256, (dh w0 z0 (row t r) (y 1) + dh w1 z1 (row t r) (y 1)) * (x (row t r) (y 1) * rr (x (row t r))) : ℝ) : EReal))
    (fun t h j => by
      rw [outsAt0_A m c t h]; frame_out
      refine (dg_block a t _ j).trans (congrArg (· + _) ?_)
      pointwise [k0_pay5])
    (fun t h j => by
      rw [outsAt0_B m c t h]; frame_out
      exact dg_block a t _ j) (le_of_eq N_0) tl rfl j, zero_add, coe_sum]
  exact congrArg _ (Fin.sum_mul_add_congr (fun _ _ _ => rfl) (by show 8192 = grid0.N * 256; rw [N_0]))

end Cert.FfnInIdeal.Val

end
-- ==== Proof.FfnInRefValue.lean ====
/-
  The results of the reference of `ffn_bwd_in`, entry by entry, on real arguments.
-/
module

public import proofs.«01_k».proof.Proof.Lift
public import proofs.«01_k».proof.Proof.Gen.FfnInRefIdeal.Read
public import Idealize.ShloMosaic.Lib.Pointwise

@[expose] public section

set_option maxRecDepth 16384

noncomputable section

namespace Cert.FfnInRefIdeal.Val

open Idealize.ShloMosaic Idealize.ShloMosaic.TcCoe Idealize.SL.Sem
open Cert.FfnInRefIdeal Cert.FfnInRefIdeal.Gen Cert.FfnInRefIdeal.Read Cert.Lift

variable {x0 : FVec Ideal S8192x1024 .f32} {x1 : FVec Ideal S1024 .f32} {x2 x3 : FVec Ideal S1024x2816 .f32}
  {x4 : FVec Ideal S8192x1024 .f32} {x5 x6 : FVec Ideal S8192x2816 .f32}
  {x : Fin 8192 → Fin 1024 → ℝ} {g : Fin 1024 → ℝ} {w0 w1 : Fin 1024 → Fin 2816 → ℝ} {z0 z1 : Fin 8192 → Fin 2816 → ℝ}

theorem v6 (hx : ∀ i k, x0 (ix2 i k) = ((x i k : ℝ) : EReal)) (i : Fin 8192) :
    val_main_v6 (F := Ideal) x0 (ix2 i 0) = (((∑ k, x i k * x i k) / 1024 + eps : ℝ) : EReal) := by
  pointwise [val_main_v6, val_main_v5, val_main_v4, val_main_v3, val_main_v2, val_main_v1, val_main_v0, val_main_cst, val_main_cst_0, val_main_cst_1, hx]
  simp only [← EReal.coe_mul, coe_sum, ofBits_1024, ofBits_eps]
  rw [div_real (by norm_num), ← EReal.coe_add]

theorem v7 (hx : ∀ i k, x0 (ix2 i k) = ((x i k : ℝ) : EReal)) (i : Fin 8192) :
    val_main_v7 (F := Ideal) x0 (ix2 i 0) = ((rr (x i) : ℝ) : EReal) := by
  have := v6 hx i
  pointwise [val_main_v7, this]
  rw [rsqrt_real (ms_pos _)]; rfl

theorem v12 (hx : ∀ i k, x0 (ix2 i k) = ((x i k : ℝ) : EReal)) (i : Fin 8192) (k : Fin 1024) :
    val_main_v12 (F := Ideal) x0 (ix2 i k) = ((x i k * rr (x i) : ℝ) : EReal) := by
  have := v7 hx i
  pointwise [val_main_v12, val_main_v11, this, hx]
  rw [EReal.coe_mul]

theorem v24 (h2 : ∀ k j, x2 (ix2 k j) = ((w0 k j : ℝ) : EReal)) (h3 : ∀ k j, x3 (ix2 k j) = ((w1 k j : ℝ) : EReal))
    (h5 : ∀ i j, x5 (ix2 i j) = ((z0 i j : ℝ) : EReal)) (h6 : ∀ i j, x6 (ix2 i j) = ((z1 i j : ℝ) : EReal)) (i : Fin 8192) (k : Fin 1024) :
    val_main_v24 (F := Ideal) x2 x3 x5 x6 (ix2 i k) = ((dh w0 z0 i k + dh w1 z1 i k : ℝ) : EReal) := by
  pointwise [val_main_v24, val_main_v23, val_main_v20, h2, h3, h5, h6]
  simp only [← EReal.coe_mul, coe_sum, ← EReal.coe_add]
  rw [add_comm]; rfl

theorem v29 (hg : ∀ k, x1 (ix1 k) = ((g k : ℝ) : EReal)) (h2 : ∀ k j, x2 (ix2 k j) = ((w0 k j : ℝ) : EReal)) (h3 : ∀ k j, x3 (ix2 k j) = ((w1 k j : ℝ) : EReal))
    (h5 : ∀ i j, x5 (ix2 i j) = ((z0 i j : ℝ) : EReal)) (h6 : ∀ i j, x6 (ix2 i j) = ((z1 i j : ℝ) : EReal)) (i : Fin 8192) (k : Fin 1024) :
    val_main_v29 (F := Ideal) x1 x2 x3 x5 x6 (ix2 i k) = (((dh w0 z0 i k + dh w1 z1 i k) * g k : ℝ) : EReal) := by
  have := v24 h2 h3 h5 h6 i k
  pointwise [val_main_v29, val_main_v28, val_main_v13, this, hg]
  rw [EReal.coe_mul]

theorem v39 (hx : ∀ i k, x0 (ix2 i k) = ((x i k : ℝ) : EReal)) (hg : ∀ k, x1 (ix1 k) = ((g k : ℝ) : EReal)) (h2 : ∀ k j, x2 (ix2 k j) = ((w0 k j : ℝ) : EReal)) (h3 : ∀ k j, x3 (ix2 k j) = ((w1 k j : ℝ) : EReal))
    (h5 : ∀ i j, x5 (ix2 i j) = ((z0 i j : ℝ) : EReal)) (h6 : ∀ i j, x6 (ix2 i j) = ((z1 i j : ℝ) : EReal)) (i : Fin 8192) :
    val_main_v39 (F := Ideal) x0 x1 x2 x3 x5 x6 (ix2 i 0) = (((∑ l, x i l * ((dh w0 z0 i l + dh w1 z1 i l) * g l)) * (-(1 / 2) * (rr (x i) / ((∑ k, x i k * x i k) / 1024 + eps))) / 1024 : ℝ) : EReal) := by
  have h6' := v6 hx i
  have h7 := v7 hx i
  have h29 := v29 hg h2 h3 h5 h6 i
  pointwise [val_main_v39, val_main_v38, val_main_v37, val_main_v33, val_main_v32, val_main_v31, val_main_v10, val_main_v9, val_main_v8, val_main_cst_5, val_main_cst_6, val_main_cst_2, h6', h7, h29, hx]
  simp only [← EReal.coe_mul, coe_sum, ofBits_1024, ofBits_neg_half]
  rw [div_real (ms_pos _).ne', ← EReal.coe_mul, ← EReal.coe_mul, div_real (by norm_num)]

theorem v45 (hx : ∀ i k, x0 (ix2 i k) = ((x i k : ℝ) : EReal)) (hg : ∀ k, x1 (ix1 k) = ((g k : ℝ) : EReal)) (h2 : ∀ k j, x2 (ix2 k j) = ((w0 k j : ℝ) : EReal)) (h3 : ∀ k j, x3 (ix2 k j) = ((w1 k j : ℝ) : EReal))
    (h5 : ∀ i j, x5 (ix2 i j) = ((z0 i j : ℝ) : EReal)) (h6 : ∀ i j, x6 (ix2 i j) = ((z1 i j : ℝ) : EReal)) (i : Fin 8192) (k : Fin 1024) :
    val_main_v45 (F := Ideal) x0 x1 x2 x3 x4 x5 x6 (ix2 i k) = x4 (ix2 i k) + ((dnorm (x i) (fun l => (dh w0 z0 i l + dh w1 z1 i l) * g l) k : ℝ) : EReal) := by
  have h7 := v7 hx i
  have h29 := v29 hg h2 h3 h5 h6 i
  have h39 := v39 hx hg h2 h3 h5 h6 i
  pointwise [val_main_v45, val_main_v44, val_main_v43, val_main_v42, val_main_v41, val_main_v40, val_main_v36, val_main_v35, val_main_v34, val_main_cst_7, h7, h29, h39, hx]
  rw [Fin.sum_univ_one, h39, ← dnorm_eq, EReal.coe_add, EReal.coe_add, ← add_assoc, ← add_assoc]
  simp only [EReal.coe_mul]

/-- The gradient of the weight whose upstream gradient is `x5` … -/
theorem v47 (hx : ∀ i k, x0 (ix2 i k) = ((x i k : ℝ) : EReal)) (hg : ∀ k, x1 (ix1 k) = ((g k : ℝ) : EReal))
    (h5 : ∀ i j, x5 (ix2 i j) = ((z0 i j : ℝ) : EReal)) (j : Fin 2816) (k : Fin 1024) :
    val_main_v47 (F := Ideal) x0 x1 x5 (ix3 0 j k) = ((∑ i, z0 i j * (x i k * rr (x i) * g k) : ℝ) : EReal) := by
  have h12 := fun i => v12 hx i
  pointwise [val_main_v47, val_main_v46, val_main_v22, val_main_v21, val_main_v15, val_main_v14, val_main_v13, h12, h5, hg]
  simp only [← EReal.coe_mul, coe_sum]

/-- … and of the other one. -/
theorem v49 (hx : ∀ i k, x0 (ix2 i k) = ((x i k : ℝ) : EReal)) (hg : ∀ k, x1 (ix1 k) = ((g k : ℝ) : EReal))
    (h6 : ∀ i j, x6 (ix2 i j) = ((z1 i j : ℝ) : EReal)) (j : Fin 2816) (k : Fin 1024) :
    val_main_v49 (F := Ideal) x0 x1 x6 (ix3 0 j k) = ((∑ i, z1 i j * (x i k * rr (x i) * g k) : ℝ) : EReal) := by
  have h12 := fun i => v12 hx i
  pointwise [val_main_v49, val_main_v48, val_main_v19, val_main_v18, val_main_v15, val_main_v14, val_main_v13, h12, h6, hg]
  simp only [← EReal.coe_mul, coe_sum]

theorem v50 (hx : ∀ i k, x0 (ix2 i k) = ((x i k : ℝ) : EReal)) (h2 : ∀ k j, x2 (ix2 k j) = ((w0 k j : ℝ) : EReal)) (h3 : ∀ k j, x3 (ix2 k j) = ((w1 k j : ℝ) : EReal))
    (h5 : ∀ i j, x5 (ix2 i j) = ((z0 i j : ℝ) : EReal)) (h6 : ∀ i j, x6 (ix2 i j) = ((z1 i j : ℝ) : EReal)) (k : Fin 1024) :
    val_main_v50 (F := Ideal) x0 x2 x3 x5 x6 (ix2 0 k) = ((∑ i, (dh w0 z0 i k + dh w1 z1 i k) * (x i k * rr (x i)) : ℝ) : EReal) := by
  have h12 := fun i => v12 hx i
  have h24 := fun i => v24 h2 h3 h5 h6 i
  pointwise [val_main_v50, val_main_v30, val_main_v27, val_main_v26, val_main_v25, val_main_cst_3, val_main_cst_4, h12, h24]
  simp only [← EReal.coe_mul, coe_sum, Fin.sum_univ_one]
  exact congrArg _ (Finset.sum_congr rfl fun i _ => mul_comm _ _)

end Cert.FfnInRefIdeal.Val

end
-- ==== Proof.FfnInClaim.lean ====
/-
  `ffn_bwd_in`: the kernel and the reference end with equal results on finite arguments.
-/
module

public import proofs.«01_k».proof.Defs
public import proofs.«01_k».proof.Proof.FfnInValue
public import proofs.«01_k».proof.Proof.FfnInRefValue
public import proofs.«01_k».proof.Proof.Gen.Pre_ffn_in_finite
public import Idealize.ShloMosaic.Adequacy
public import Idealize.ShloMosaic.Init

@[expose] public section

set_option maxRecDepth 16384

noncomputable section

namespace Cert.FfnInIdeal.Val

open Idealize.ShloMosaic Idealize.ShloMosaic.TcCoe Idealize.SL.Sem
open Cert.FfnInIdeal Cert.Lift

/-- What the precondition says: the arguments it names are arrays of real numbers. -/
theorem finite_args {m : (ℓ : Loc nD τ sig) → Buf (Elt Ideal) ℓ} (h : Cert.Pre_FfnInIdeal_ffn_in_finite m) (c : Dev nD) :
    Args m c (fun i k => re (s := S8192x1024) (m ((c.tc : Thread nD τ).loc main_arg0)) (ix2 i k)) (fun k => re (s := S1024) (m ((c.tc : Thread nD τ).loc main_arg1)) (ix1 k))
      (fun k j => re (s := S1024x2816) (m ((c.tc : Thread nD τ).loc main_arg2)) (ix2 k j)) (fun k j => re (s := S1024x2816) (m ((c.tc : Thread nD τ).loc main_arg3)) (ix2 k j))
      (fun i j => re (s := S8192x2816) (m ((c.tc : Thread nD τ).loc main_arg5)) (ix2 i j)) (fun i j => re (s := S8192x2816) (m ((c.tc : Thread nD τ).loc main_arg6)) (ix2 i j)) := by
  have e := congrFun (h c) (fun i => i.elim0)
  obtain ⟨e, h6⟩ := and_one e
  obtain ⟨e, h5⟩ := and_one e
  obtain ⟨e, h3⟩ := and_one e
  obtain ⟨e, h2⟩ := and_one e
  obtain ⟨h0, h1⟩ := and_one e
  exact ⟨fun _ _ => (fin_of_all _ _ _ _ _ _ h0 _).symm, fun _ => (fin_of_all _ _ _ _ _ _ h1 _).symm, fun _ _ => (fin_of_all _ _ _ _ _ _ h2 _).symm,
    fun _ _ => (fin_of_all _ _ _ _ _ _ h3 _).symm, fun _ _ => (fin_of_all _ _ _ _ _ _ h5 _).symm, fun _ _ => (fin_of_all _ _ _ _ _ _ h6 _).symm⟩

theorem algebraic : Cert.algebraic_FfnInIdeal_FfnInRefIdeal_pre_ffn_in_finite := by
  pair_intro
  · run_from Cert.FfnInIdeal.Value.run_blocks m g
  · run_from Cert.FfnInRefIdeal.Value.run m' g'
    all_goals have a := finite_args hpre c
    · obtain ⟨a0, a1, a2, a3, a4, a5, a6⟩ := hagree c
      rw [dx_eq a, Cert.FfnInRefIdeal.Read.val_main_v45_eq, a0, a1, a2, a3, a4, a5, a6]
      funext y
      obtain ⟨i, k, rfl⟩ : ∃ i k, y = ix2 i k := ⟨y 0, y 1, by blk_ext⟩
      exact Cert.FfnInRefIdeal.Val.v45 a.x a.g a.w0 a.w1 a.z0 a.z1 i k
    · rw [dw0_eq a]
      funext y
      obtain ⟨b, j, k, rfl⟩ : ∃ b k j, y = ix3 b k j := ⟨y 0, y 1, y 2, by blk_ext⟩
      obtain rfl : b = 0 := Subsingleton.elim _ _
      exact Cert.FfnInRefIdeal.Val.v47 a.x a.g a.z0 j k
    · rw [dw1_eq a]
      funext y
      obtain ⟨b, j, k, rfl⟩ : ∃ b k j, y = ix3 b k j := ⟨y 0, y 1, y 2, by blk_ext⟩
      obtain rfl : b = 0 := Subsingleton.elim _ _
      exact Cert.FfnInRefIdeal.Val.v49 a.x a.g a.z1 j k
    · rw [dg_eq a]
      funext y
      obtain ⟨b, k, rfl⟩ : ∃ a k, y = ix2 a k := ⟨y 0, y 1, by blk_ext⟩
      obtain rfl : b = 0 := Subsingleton.elim _ _
      exact Cert.FfnInRefIdeal.Val.v50 a.x a.w0 a.w1 a.z0 a.z1 k

/-- The reference runs, its arguments end unchanged, and it has no semaphore. -/
theorem ref_frame : Cert.quiescent_FfnInRefIdeal := fun m g _ =>
  (θ_run Cert.FfnInRefIdeal.defs _ _).mono (fun r h => ⟨fun c => (h c).2.2.2.2,
      sem_eq_zero_of_no_sems (by decide) r.2⟩)
    (Cert.FfnInRefIdeal.Value.run (F := Ideal) m g)

end Cert.FfnInIdeal.Val

end
-- ==== Proof.FfnHiddenValue.lean ====
/-
  `ffn_bwd_hidden`: what the kernel leaves in its four results, entry by entry, on real arguments.
-/
module

public import proofs.«01_k».proof.Proof.Lift
public import proofs.«01_k».proof.Proof.Gen.FfnHiddenIdeal.Value
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.FfnHiddenIdeal.Val

open Idealize.ShloMosaic Idealize.ShloMosaic.TcCoe Idealize.SL.Sem
open Idealize.ShloMosaic.Pipeline (Dat)
open Cert.FfnHiddenIdeal Cert.FfnHiddenIdeal.Gen Cert.Lift

variable (m : (ℓ : Loc nD τ sig) → Buf (Elt Ideal) ℓ)

section payloads

variable {x : Fin 512 → Fin 1024 → ℝ} {g : Fin 1024 → ℝ} {d : Fin 512 → Fin 1024 → ℝ}
  {v3 v4 : FVec Ideal S512x1024 .f32} {v6 : FVec Ideal S1x1024 .f32}

theorem rr_pay (hx : ∀ r k, v4 (ix2 r k) = ((x r k : ℝ) : EReal)) (r : Fin 512) :
    k0_pay8 (F := Ideal) v4 (ix2 r 0) = ((rr (x r) : ℝ) : EReal) := by
  pointwise [k0_pay8, k0_pay7, hx]
  simp only [← EReal.coe_mul, coe_sum, ofBits_1024, ofBits_eps]
  rw [div_real (by norm_num), ← EReal.coe_add, rsqrt_real (ms_pos _)]; rfl

theorem n_pay (hx : ∀ r k, v4 (ix2 r k) = ((x r k : ℝ) : EReal)) (r : Fin 512) (k : Fin 1024) :
    k0_pay9 (F := Ideal) v4 (ix2 r k) = ((x r k * rr (x r) : ℝ) : EReal) := by
  have := rr_pay hx r
  pointwise [k0_pay9, k0_pay7, hx, this]
  rw [EReal.coe_mul]

theorem dg_pay (hx : ∀ r k, v4 (ix2 r k) = ((x r k : ℝ) : EReal)) (hd : ∀ r k, v3 (ix2 r k) = ((d r k : ℝ) : EReal))
    (acc : FVec Ideal S1x1024 .f32) (k : Fin 1024) :
    k0_pay10 (F := Ideal) v3 v4 acc (ix2 0 k) = acc (ix2 0 k) + ((∑ r, d r k * (x r k * rr (x r)) : ℝ) : EReal) := by
  have := n_pay hx
  pointwise [k0_pay10, hd, this]
  simp only [← EReal.coe_mul, coe_sum]

theorem df_pay (hx : ∀ r k, v4 (ix2 r k) = ((x r k : ℝ) : EReal)) (hg : ∀ k, v6 (ix2 0 k) = ((g k : ℝ) : EReal))
    (hd : ∀ r k, v3 (ix2 r k) = ((d r k : ℝ) : EReal)) (r : Fin 512) (k : Fin 1024) :
    k0_pay11 (F := Ideal) v3 v4 v6 (ix2 r k) = ((dnorm (x r) (fun l => d r l * g l) k : ℝ) : EReal) := by
  have h1 := n_pay hx
  have h2 := rr_pay hx
  pointwise [k0_pay11, hd, h1, h2, hg]
  simp only [← EReal.coe_mul, coe_sum, ofBits_1024]
  rw [div_real (by norm_num)]
  simp only [← EReal.coe_mul, ← EReal.coe_sub]
  rfl

variable {f : FVec Ideal S512x1024 .bf16} {w : FVec Ideal S1x2816x1024 .bf16} {df : Fin 512 → Fin 1024 → ℝ} {wd : Fin 2816 → Fin 1024 → ℝ}

theorem du_pay (hf : ∀ r k, f (ix2 r k) = ((df r k : ℝ) : EReal)) (hw : ∀ j k, w (ix3 0 j k) = ((wd j k : ℝ) : EReal))
    (u : FVec Ideal S1x512x2816 .bf16) (r : Fin 512) (j : Fin 2816) :
    k0_pay3 (F := Ideal) f w u (ix3 0 r j) = ((∑ k, df r k * wd j k : ℝ) : EReal) * u (ix3 0 r j) := by
  pointwise [k0_pay3, k0_pay1, hf, hw]
  simp only [← EReal.coe_mul, coe_sum]

theorem dgate_pay (hf : ∀ r k, f (ix2 r k) = ((df r k : ℝ) : EReal)) (hw : ∀ j k, w (ix3 0 j k) = ((wd j k : ℝ) : EReal))
    (u : FVec Ideal S1x512x2816 .bf16) (r : Fin 512) (j : Fin 2816) :
    k0_pay4 (F := Ideal) f w u (ix3 0 r j) = ((∑ k, df r k * wd j k : ℝ) : EReal) * u (ix3 0 r j) := by
  pointwise [k0_pay4, k0_pay1, hf, hw]
  simp only [← EReal.coe_mul, coe_sum]

theorem dw_pay (hf : ∀ r k, f (ix2 r k) = ((df r k : ℝ) : EReal)) {a : Fin 512 → Fin 2816 → ℝ} {u : FVec Ideal S1x512x2816 .bf16}
    (hu : ∀ r j, u (ix3 0 r j) = ((a r j : ℝ) : EReal)) (acc : FVec Ideal S1x2816x1024 .f32) (j : Fin 2816) (k : Fin 1024) :
    k0_pay2 (F := Ideal) f acc u (ix3 0 j k) = acc (ix3 0 j k) + ((∑ r, a r j * df r k : ℝ) : EReal) := by
  pointwise [k0_pay2, hf, hu]
  simp only [← EReal.coe_mul, coe_sum]

end payloads

theorem idx : ∀ t : Fin cfg0.N, win0_0.index t = ![t.val, 0] ∧ win0_1.index t = ![t.val, 0] ∧ win0_2.index t = ![0, 0]
    ∧ win0_3.index t = ![0, t.val, 0] ∧ win0_4.index t = ![0, t.val, 0] ∧ win0_5.index t = ![0, t.val, 0] ∧ win0_6.index t = ![0, 0, 0]
    ∧ win0_7.index t = ![0, t.val, 0] ∧ win0_8.index t = ![0, t.val, 0] :=
  (by decide +kernel : ∀ t : Fin grid0.N, _)

/-- Row `r` of point `t`, among all rows. -/
abbrev row (t : Fin cfg0.N) (r : Fin 512) : Fin 8192 := ⟨t.val * 512 + r.val, by have := t.isLt; have : cfg0.N = 16 := N_0; omega⟩

/-- The gate and the gated branch, before the down projection. -/
abbrev gate (c : Dev nD) : FVec Ideal S8192x2816 .f32 := m ((c.tc : Thread nD τ).loc main_arg0)
abbrev up (c : Dev nD) : FVec Ideal S8192x2816 .f32 := m ((c.tc : Thread nD τ).loc main_arg1)
abbrev down (c : Dev nD) : FVec Ideal S2816x1024 .f32 := m ((c.tc : Thread nD τ).loc main_arg2)

theorem V_f (c : Dev nD) (i : Fin 8192) (k : Fin 1024) :
    (V m c main_v15 : FVec Ideal S8192x1024 .f32) (ix2 i k)
      = ∑ j : Fin 2816, gate m c (ix2 i j) * Ideal.div 1 (1 + Ideal.exp (-gate m c (ix2 i j))) * up m c (ix2 i j) * down m c (ix2 j k) := by
  unfold V gate up down; after_reads_at
theorem V_a (c : Dev nD) (i : Fin 8192) (j : Fin 2816) :
    (V m c main_v18 : FVec Ideal S1x8192x2816 .bf16) (ix3 0 i j)
      = gate m c (ix2 i j) * Ideal.div 1 (1 + Ideal.exp (-gate m c (ix2 i j))) * up m c (ix2 i j) := by
  unfold V gate up; after_reads_at
theorem V_sg (c : Dev nD) (i : Fin 8192) (j : Fin 2816) :
    (V m c main_v20 : FVec Ideal S1x8192x2816 .bf16) (ix3 0 i j) = gate m c (ix2 i j) * Ideal.div 1 (1 + Ideal.exp (-gate m c (ix2 i j))) := by
  unfold V gate; after_reads_at
theorem V_dgate (c : Dev nD) (i : Fin 8192) (j : Fin 2816) :
    (V m c main_v22 : FVec Ideal S1x8192x2816 .bf16) (ix3 0 i j) = up m c (ix2 i j) * (Ideal.div 1 (1 + Ideal.exp (-gate m c (ix2 i j)))
      * (1 + gate m c (ix2 i j) * (1 - Ideal.div 1 (1 + Ideal.exp (-gate m c (ix2 i j)))))) := by
  unfold V gate up; after_reads_at

theorem blk_dy (c : Dev nD) (t : Fin cfg0.N) (r : Fin 512) (k : Fin 1024) :
    iblk m c 0 t (ix2 r k) = m ((c.tc : Thread nD τ).loc main_arg4) (ix2 (row t r) k) := by
  blk_point [iblk, V, idx t]
theorem blk_f (c : Dev nD) (t : Fin cfg0.N) (r : Fin 512) (k : Fin 1024) :
    iblk m c 1 t (ix2 r k) = (V m c main_v15 : FVec Ideal S8192x1024 .f32) (ix2 (row t r) k) := by
  blk_point [iblk, idx t]
theorem blk_g (c : Dev nD) (t : Fin cfg0.N) (k : Fin 1024) :
    iblk m c 2 t (ix2 0 k) = m ((c.tc : Thread nD τ).loc main_arg3) (ix1 k) := by
  blk_point [iblk, V, idx t]
theorem blk_a (c : Dev nD) (t : Fin cfg0.N) (r : Fin 512) (j : Fin 2816) :
    iblk m c 3 t (ix3 0 r j) = (V m c main_v18 : FVec Ideal S1x8192x2816 .bf16) (ix3 0 (row t r) j) := by
  blk_point [iblk, idx t]
theorem blk_sg (c : Dev nD) (t : Fin cfg0.N) (r : Fin 512) (j : Fin 2816) :
    iblk m c 4 t (ix3 0 r j) = (V m c main_v20 : FVec Ideal S1x8192x2816 .bf16) (ix3 0 (row t r) j) := by
  blk_point [iblk, idx t]
theorem blk_dgate (c : Dev nD) (t : Fin cfg0.N) (r : Fin 512) (j : Fin 2816) :
    iblk m c 5 t (ix3 0 r j) = (V m c main_v22 : FVec Ideal S1x8192x2816 .bf16) (ix3 0 (row t r) j) := by
  blk_point [iblk, idx t]
theorem blk_w (c : Dev nD) (t : Fin cfg0.N) (j : Fin 2816) (k : Fin 1024) :
    iblk m c 6 t (ix3 0 j k) = down m c (ix2 j k) := by
  blk_point [iblk, V, idx t]

/-! ### The four results -/

/-- The arguments are real numbers. -/
structure Args (c : Dev nD) (p : Swiglu) : Prop where
  gate : ∀ i j, m ((c.tc : Thread nD τ).loc main_arg0) (ix2 i j) = ((p.gate i j : ℝ) : EReal)
  up : ∀ i j, m ((c.tc : Thread nD τ).loc main_arg1) (ix2 i j) = ((p.up i j : ℝ) : EReal)
  w : ∀ j k, m ((c.tc : Thread nD τ).loc main_arg2) (ix2 j k) = ((p.w j k : ℝ) : EReal)
  g : ∀ k, m ((c.tc : Thread nD τ).loc main_arg3) (ix1 k) = ((p.g k : ℝ) : EReal)
  dy : ∀ i k, m ((c.tc : Thread nD τ).loc main_arg4) (ix2 i k) = ((p.dy i k : ℝ) : EReal)

variable {m} {c : Dev nD} {p : Swiglu}

theorem a_real (a : Args m c p) (t : Fin cfg0.N) (r : Fin 512) (j : Fin 2816) : iblk m c 3 t (ix3 0 r j) = ((p.act (row t r) j : ℝ) : EReal) := by
  refine (blk_a m c t r j).trans ((V_a m c _ _).trans ?_)
  rw [gate, up, a.gate, a.up, lgs_real, ← EReal.coe_mul, ← EReal.coe_mul]; rfl

theorem sg_real (a : Args m c p) (t : Fin cfg0.N) (r : Fin 512) (j : Fin 2816) :
    iblk m c 4 t (ix3 0 r j) = ((p.gate (row t r) j * lgs (p.gate (row t r) j) : ℝ) : EReal) := by
  refine (blk_sg m c t r j).trans ((V_sg m c _ _).trans ?_)
  rw [gate, a.gate, lgs_real, ← EReal.coe_mul]

theorem dgate_real (a : Args m c p) (t : Fin cfg0.N) (r : Fin 512) (j : Fin 2816) :
    iblk m c 5 t (ix3 0 r j) = ((p.slope (row t r) j : ℝ) : EReal) := by
  refine (blk_dgate m c t r j).trans ((V_dgate m c _ _).trans ?_)
  rw [gate, up, a.gate, a.up, lgs_real, ← EReal.coe_one, ← EReal.coe_sub, ← EReal.coe_mul, ← EReal.coe_add, ← EReal.coe_mul, ← EReal.coe_mul]; rfl

theorem f_real (a : Args m c p) (t : Fin cfg0.N) (r : Fin 512) (k : Fin 1024) : iblk m c 1 t (ix2 r k) = ((p.f (row t r) k : ℝ) : EReal) := by
  have e : (∑ j : Fin 2816, gate m c (ix2 (row t r) j) * Ideal.div 1 (1 + Ideal.exp (-gate m c (ix2 (row t r) j))) * up m c (ix2 (row t r) j)
      * down m c (ix2 j k) : EReal) = ((p.f (row t r) k : ℝ) : EReal) := by
    rw [Swiglu.f, ← coe_sum]
    refine Finset.sum_congr rfl fun j _ => ?_
    rw [gate, up, down, a.gate, a.up, a.w, lgs_real]; simp only [← EReal.coe_mul]; rfl
  exact (blk_f m c t r k).trans ((V_f m c _ _).trans e)

theorem df_block (a : Args m c p) (t : Fin cfg0.N) (r : Fin 512) (k : Fin 1024) :
    k0_pay11 (F := Ideal) (iblk m c 0 t) (iblk m c 1 t) (iblk m c 2 t) (ix2 r k) = ((p.df (row t r) k : ℝ) : EReal) :=
  df_pay (x := fun r k => p.f (row t r) k) (d := fun r k => p.dy (row t r) k) (f_real a t) (fun k => (blk_g m c t k).trans (a.g _))
    (fun r k => (blk_dy m c t r k).trans (a.dy _ _)) r k

theorem dgate_eq (a : Args m c p) :
    (dats m 0 c).arrAt 7 cfg0.N = fun y => ((p.da (y 1) (y 2) * p.slope (y 1) (y 2) : ℝ) : EReal) := by
  refine (dats m 0 c).arrAt_eq_of_covers 7 _ (by decide +kernel) fun t hf y => ?_
  obtain ⟨y0, r, j, rfl⟩ : ∃ b r j, y = ix3 b r j := ⟨y 0, y 1, y 2, by blk_ext⟩
  obtain rfl : y0 = 0 := Subsingleton.elim _ _
  blk_simp
  rw [after0_7]
  have e : (outsAt0 m c t.val t.isLt).1 (ix3 0 r j) = ((p.da (row t r) j * p.slope (row t r) j : ℝ) : EReal) := by
    have e := (dgate_pay (df_block a t) (fun j k => (blk_w m c t j k).trans (a.w _ _)) (iblk m c 5 t) r j).trans
      (congrArg (fun e : EReal => _ * e) (dgate_real a t r j))
    rw [← EReal.coe_mul] at e
    by_cases h0 : t.val % 16 = 0
    · rw [outsAt0_A m c t h0]; frame_out; exact e
    · rw [outsAt0_B m c t h0]; frame_out; exact e
  rw [e]
  have e' : ((cfg0.win 7).blk t).view.emb (ix3 0 r j) = ix3 0 (row t r) j := by blk_ext [idx t]
  rw [e']; rfl

theorem du_eq (a : Args m c p) :
    (dats m 0 c).arrAt 8 cfg0.N = fun y => ((p.da (y 1) (y 2) * (p.gate (y 1) (y 2) * lgs (p.gate (y 1) (y 2))) : ℝ) : EReal) := by
  refine (dats m 0 c).arrAt_eq_of_covers 8 _ (by decide +kernel) fun t hf y => ?_
  obtain ⟨y0, r, j, rfl⟩ : ∃ b r j, y = ix3 b r j := ⟨y 0, y 1, y 2, by blk_ext⟩
  obtain rfl : y0 = 0 := Subsingleton.elim _ _
  blk_simp
  rw [after0_8]
  have e : (outsAt0 m c t.val t.isLt).2.1 (ix3 0 r j) = ((p.da (row t r) j * (p.gate (row t r) j * lgs (p.gate (row t r) j)) : ℝ) : EReal) := by
    have e := (du_pay (df_block a t) (fun j k => (blk_w m c t j k).trans (a.w _ _)) (iblk m c 4 t) r j).trans
      (congrArg (fun e : EReal => _ * e) (sg_real a t r j))
    rw [← EReal.coe_mul] at e
    by_cases h0 : t.val % 16 = 0
    · rw [outsAt0_A m c t h0]; frame_out; exact e
    · rw [outsAt0_B m c t h0]; frame_out; exact e
  rw [e]
  have e' : ((cfg0.win 8).blk t).view.emb (ix3 0 r j) = ix3 0 (row t r) j := by blk_ext [idx t]
  rw [e']; rfl

/-- One point's part of the weight's gradient. -/
theorem dw_block (a : Args m c p) (t : Fin cfg0.N) (acc : FVec Ideal S1x2816x1024 .f32) (y : S1x2816x1024.Idx) :
    k0_pay2 (F := Ideal) (k0_pay11 (iblk m c 0 t) (iblk m c 1 t) (iblk m c 2 t)) acc (iblk m c 3 t) y
      = acc y + ((∑ r : Fin 512, p.act (row t r) (y 1) * p.df (row t r) (y 2) : ℝ) : EReal) := by
  obtain ⟨y0, j, k, rfl⟩ : ∃ a j k, y = ix3 a j k := ⟨y 0, y 1, y 2, by blk_ext⟩
  obtain rfl : y0 = 0 := Subsingleton.elim _ _
  exact dw_pay (df_block a t) (a := fun r j => p.act (row t r) j) (a_real a t) acc j k

/-- One point's part of the gain's gradient. -/
theorem dg_block (a : Args m c p) (t : Fin cfg0.N) (acc : FVec Ideal S1x1024 .f32) (j : S1x1024.Idx) :
    k0_pay10 (F := Ideal) (iblk m c 0 t) (iblk m c 1 t) acc j
      = acc j + ((∑ r : Fin 512, p.dy (row t r) (j 1) * (p.f (row t r) (j 1) * rr (p.f (row t r))) : ℝ) : EReal) := by
  obtain ⟨j0, k, rfl⟩ : ∃ a k, j = ix2 a k := ⟨j 0, j 1, by blk_ext⟩
  obtain rfl : j0 = 0 := Subsingleton.elim _ _
  exact dg_pay (x := fun r k => p.f (row t r) k) (d := fun r k => p.dy (row t r) k) (f_real a t)
    (fun r k => (blk_dy m c t r k).trans (a.dy _ _)) acc k

theorem dw_eq (a : Args m c p) :
    (dats m 0 c).arrAt 9 cfg0.N = fun y => ((∑ i, p.act i (y 1) * p.df i (y 2) : ℝ) : EReal) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun t y => ((∑ r : Fin 512, p.act (row t r) (y 1) * p.df (row t r) (y 2) : ℝ) : EReal))
    (fun t h j => by
      rw [outsAt0_A m c t h]; frame_out
      refine (dw_block a t _ j).trans (congrArg (· + _) ?_)
      pointwise [k0_pay5])
    (fun t h j => by
      rw [outsAt0_B m c t h]; frame_out
      exact dw_block a t _ j) (le_of_eq N_0) t0_15 rfl j, zero_add, coe_sum]
  exact congrArg _ (Fin.sum_mul_add_congr (fun _ _ _ => rfl) (by show 8192 = grid0.N * 512; rw [N_0]))

theorem dg_eq (a : Args m c p) :
    (dats m 0 c).arrAt 10 cfg0.N = fun y => ((∑ i, p.dy i (y 1) * (p.f i (y 1) * rr (p.f i)) : ℝ) : EReal) := by
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => 0)
    (fun t y => ((∑ r : Fin 512, p.dy (row t r) (y 1) * (p.f (row t r) (y 1) * rr (p.f (row t r))) : ℝ) : EReal))
    (fun t h j => by
      rw [outsAt0_A m c t h]; frame_out
      refine (dg_block a t _ j).trans (congrArg (· + _) ?_)
      pointwise [k0_pay6])
    (fun t h j => by
      rw [outsAt0_B m c t h]; frame_out
      exact dg_block a t _ j) (le_of_eq N_0) t0_15 rfl j, zero_add, coe_sum]
  exact congrArg _ (Fin.sum_mul_add_congr (fun _ _ _ => rfl) (by show 8192 = grid0.N * 512; rw [N_0]))

end Cert.FfnHiddenIdeal.Val

end
-- ==== Proof.FfnHiddenRefValue.lean ====
/-
  The results of the reference of `ffn_bwd_hidden`, entry by entry, on real arguments.
-/
module

public import proofs.«01_k».proof.Proof.Lift
public import proofs.«01_k».proof.Proof.Gen.FfnHiddenRefIdeal.Read
public import Idealize.ShloMosaic.Lib.Pointwise

@[expose] public section

set_option maxRecDepth 16384

noncomputable section

namespace Cert.FfnHiddenRefIdeal.Val

open Idealize.ShloMosaic Idealize.ShloMosaic.TcCoe Idealize.SL.Sem
open Cert.FfnHiddenRefIdeal Cert.FfnHiddenRefIdeal.Gen Cert.FfnHiddenRefIdeal.Read Cert.Lift

/-- The arguments are real numbers. -/
structure Args (x0 x1 : FVec Ideal S8192x2816 .f32) (x2 : FVec Ideal S2816x1024 .f32) (x3 : FVec Ideal S1024 .f32) (x4 : FVec Ideal S8192x1024 .f32)
    (p : Swiglu) : Prop where
  gate : ∀ i j, x0 (ix2 i j) = ((p.gate i j : ℝ) : EReal)
  up : ∀ i j, x1 (ix2 i j) = ((p.up i j : ℝ) : EReal)
  w : ∀ j k, x2 (ix2 j k) = ((p.w j k : ℝ) : EReal)
  g : ∀ k, x3 (ix1 k) = ((p.g k : ℝ) : EReal)
  dy : ∀ i k, x4 (ix2 i k) = ((p.dy i k : ℝ) : EReal)

variable {x0 x1 : FVec Ideal S8192x2816 .f32} {x2 : FVec Ideal S2816x1024 .f32} {x3 : FVec Ideal S1024 .f32} {x4 : FVec Ideal S8192x1024 .f32} {p : Swiglu}

theorem s_real (a : Args x0 x1 x2 x3 x4 p) (i : Fin 8192) (j : Fin 2816) :
    val_main_v0_2 (F := Ideal) x0 (ix2 i j) = ((lgs (p.gate i j) : ℝ) : EReal) := by
  have h := a.gate
  pointwise [val_main_v0_2, val_main_call0_v4, val_main_call0_v3, val_main_call0_v2, val_main_call0_v1, val_main_call0_v0, val_main_call0_cst, val_main_call0_cst_0, h]
  rw [lgs_real]

theorem sg_real (a : Args x0 x1 x2 x3 x4 p) (i : Fin 8192) (j : Fin 2816) :
    val_main_v0_0 (F := Ideal) x0 (ix2 i j) = ((p.gate i j * lgs (p.gate i j) : ℝ) : EReal) := by
  have h := a.gate
  have s := s_real a
  pointwise [val_main_v0_0, h, s]
  rw [EReal.coe_mul]

theorem act_real (a : Args x0 x1 x2 x3 x4 p) (i : Fin 8192) (j : Fin 2816) :
    val_main_v1 (F := Ideal) x0 x1 (ix2 i j) = ((p.act i j : ℝ) : EReal) := by
  have h := a.up
  have s := sg_real a
  pointwise [val_main_v1, h, s]
  rw [← EReal.coe_mul]; rfl

theorem f_real (a : Args x0 x1 x2 x3 x4 p) (i : Fin 8192) (k : Fin 1024) :
    val_main_v2 (F := Ideal) x0 x1 x2 (ix2 i k) = ((p.f i k : ℝ) : EReal) := by
  have h := a.w
  have s := act_real a
  pointwise [val_main_v2, h, s]
  simp only [← EReal.coe_mul, coe_sum]; rfl

theorem v9 (a : Args x0 x1 x2 x3 x4 p) (i : Fin 8192) :
    val_main_v9 (F := Ideal) x0 x1 x2 (ix2 i 0) = (((∑ k, p.f i k * p.f i k) / 1024 + eps : ℝ) : EReal) := by
  have hx := f_real a
  pointwise [val_main_v9, val_main_v8, val_main_v7, val_main_v6, val_main_v5, val_main_v4, val_main_v3, val_main_cst, val_main_cst_0, val_main_cst_1, hx]
  simp only [← EReal.coe_mul, coe_sum, ofBits_1024, ofBits_eps]
  rw [div_real (by norm_num), ← EReal.coe_add]

theorem v10 (a : Args x0 x1 x2 x3 x4 p) (i : Fin 8192) :
    val_main_v10 (F := Ideal) x0 x1 x2 (ix2 i 0) = ((rr (p.f i) : ℝ) : EReal) := by
  have := v9 a i
  pointwise [val_main_v10, this]
  rw [rsqrt_real (ms_pos _)]; rfl

theorem v15 (a : Args x0 x1 x2 x3 x4 p) (i : Fin 8192) (k : Fin 1024) :
    val_main_v15 (F := Ideal) x0 x1 x2 (ix2 i k) = ((p.f i k * rr (p.f i) : ℝ) : EReal) := by
  have := v10 a i
  have hx := f_real a
  pointwise [val_main_v15, val_main_v14, this, hx]
  rw [EReal.coe_mul]

theorem v23 (a : Args x0 x1 x2 x3 x4 p) (i : Fin 8192) (k : Fin 1024) :
    val_main_v23 (F := Ideal) x3 x4 (ix2 i k) = ((p.dy i k * p.g k : ℝ) : EReal) := by
  have hg := a.g
  have hd := a.dy
  pointwise [val_main_v23, val_main_v22, val_main_v16, hd, hg]
  rw [EReal.coe_mul]

theorem v32 (a : Args x0 x1 x2 x3 x4 p) (i : Fin 8192) :
    val_main_v32 (F := Ideal) x0 x1 x2 x3 x4 (ix2 i 0)
      = (((∑ l, p.f i l * (p.dy i l * p.g l)) * (-(1 / 2) * (rr (p.f i) / ((∑ k, p.f i k * p.f i k) / 1024 + eps))) / 1024 : ℝ) : EReal) := by
  have h9 := v9 a i
  have h10 := v10 a i
  have h23 := v23 a i
  have hx := f_real a
  pointwise [val_main_v32, val_main_v31, val_main_v30, val_main_v27, val_main_v26, val_main_v25, val_main_v13, val_main_v12, val_main_v11, val_main_cst_5, val_main_cst_6, val_main_cst_2, h9, h10, h23, hx]
  simp only [← EReal.coe_mul, coe_sum, ofBits_1024, ofBits_neg_half]
  rw [div_real (ms_pos _).ne', ← EReal.coe_mul, ← EReal.coe_mul, div_real (by norm_num)]

theorem df_real (a : Args x0 x1 x2 x3 x4 p) (i : Fin 8192) (k : Fin 1024) :
    val_main_v38 (F := Ideal) x0 x1 x2 x3 x4 (ix2 i k) = ((p.df i k : ℝ) : EReal) := by
  have h10 := v10 a i
  have h23 := v23 a i
  have h32 := v32 a i
  have hx := f_real a
  pointwise [val_main_v38, val_main_v37, val_main_v36, val_main_v35, val_main_v34, val_main_v33, val_main_v29, val_main_v28, val_main_cst_7, h10, h23, h32, hx]
  rw [Fin.sum_univ_one, h32, Swiglu.df, ← dnorm_eq, EReal.coe_add, EReal.coe_add, ← add_assoc]
  simp only [EReal.coe_mul]

theorem da_real (a : Args x0 x1 x2 x3 x4 p) (i : Fin 8192) (j : Fin 2816) :
    val_main_v41 (F := Ideal) x0 x1 x2 x3 x4 (ix2 i j) = ((p.da i j : ℝ) : EReal) := by
  have h := df_real a
  have hw := a.w
  pointwise [val_main_v41, h, hw]
  simp only [← EReal.coe_mul, coe_sum]; rfl

theorem v46 (a : Args x0 x1 x2 x3 x4 p) (i : Fin 8192) (j : Fin 2816) :
    val_main_v46 (F := Ideal) x0 x1 x2 x3 x4 (ix3 0 i j) = ((p.da i j * p.slope i j : ℝ) : EReal) := by
  have h := da_real a
  have hg := a.gate
  have hu := a.up
  have s := s_real a
  pointwise [val_main_v46, val_main_v45, val_main_v44, val_main_call1_v2, val_main_call1_v1, val_main_call1_v0, val_main_v43, val_main_v0_1, val_main_call0_v7, val_main_call0_v6, val_main_call0_cst_1, h, hg, hu, s]
  simp only [← EReal.coe_mul, ← EReal.coe_one, ← EReal.coe_sub, ← EReal.coe_add]
  rw [Swiglu.slope]; congr 1; ring

theorem v48 (a : Args x0 x1 x2 x3 x4 p) (i : Fin 8192) (j : Fin 2816) :
    val_main_v48 (F := Ideal) x0 x1 x2 x3 x4 (ix3 0 i j) = ((p.da i j * (p.gate i j * lgs (p.gate i j)) : ℝ) : EReal) := by
  have h := da_real a
  have s := sg_real a
  pointwise [val_main_v48, val_main_v47, val_main_v42, h, s]
  rw [← EReal.coe_mul, mul_comm]

theorem v49 (a : Args x0 x1 x2 x3 x4 p) (j : Fin 2816) (k : Fin 1024) :
    val_main_v49 (F := Ideal) x0 x1 x2 x3 x4 (ix3 0 j k) = ((∑ i, p.act i j * p.df i k : ℝ) : EReal) := by
  have h := df_real a
  have s := act_real a
  pointwise [val_main_v49, val_main_v40, val_main_v39, h, s]
  simp only [← EReal.coe_mul, coe_sum]
  exact congrArg _ (Finset.sum_congr rfl fun i _ => mul_comm _ _)

theorem v50 (a : Args x0 x1 x2 x3 x4 p) (k : Fin 1024) :
    val_main_v50 (F := Ideal) x0 x1 x2 x4 (ix2 0 k) = ((∑ i, p.dy i k * (p.f i k * rr (p.f i)) : ℝ) : EReal) := by
  have h := v15 a
  have hd := a.dy
  pointwise [val_main_v50, val_main_v24, val_main_v21, val_main_v20, val_main_v19, val_main_cst_3, val_main_cst_4, h, hd]
  simp only [← EReal.coe_mul, coe_sum, Fin.sum_univ_one]
  exact congrArg _ (Finset.sum_congr rfl fun i _ => mul_comm _ _)

end Cert.FfnHiddenRefIdeal.Val

end
-- ==== Proof.FfnHiddenClaim.lean ====
/-
  `ffn_bwd_hidden`: the kernel and the reference end with equal results on finite arguments.
-/
module

public import proofs.«01_k».proof.Defs
public import proofs.«01_k».proof.Proof.FfnHiddenValue
public import proofs.«01_k».proof.Proof.FfnHiddenRefValue
public import proofs.«01_k».proof.Proof.Gen.Pre_ffn_hidden_finite
public import Idealize.ShloMosaic.Adequacy
public import Idealize.ShloMosaic.Init

@[expose] public section

set_option maxRecDepth 16384

noncomputable section

namespace Cert.FfnHiddenIdeal.Val

open Idealize.ShloMosaic Idealize.ShloMosaic.TcCoe Idealize.SL.Sem
open Cert.FfnHiddenIdeal Cert.Lift

/-- The real numbers of the arguments. -/
def reals (m : (ℓ : Loc nD τ sig) → Buf (Elt Ideal) ℓ) (c : Dev nD) : Swiglu where
  gate i j := re (s := S8192x2816) (m ((c.tc : Thread nD τ).loc main_arg0)) (ix2 i j)
  up i j := re (s := S8192x2816) (m ((c.tc : Thread nD τ).loc main_arg1)) (ix2 i j)
  w j k := re (s := S2816x1024) (m ((c.tc : Thread nD τ).loc main_arg2)) (ix2 j k)
  g k := re (s := S1024) (m ((c.tc : Thread nD τ).loc main_arg3)) (ix1 k)
  dy i k := re (s := S8192x1024) (m ((c.tc : Thread nD τ).loc main_arg4)) (ix2 i k)

/-- What the precondition says: the arguments are arrays of real numbers. -/
theorem finite_args {m : (ℓ : Loc nD τ sig) → Buf (Elt Ideal) ℓ} (h : Cert.Pre_FfnHiddenIdeal_ffn_hidden_finite m) (c : Dev nD) :
    Args m c (reals m c) := by
  have e := congrFun (h c) (fun i => i.elim0)
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm, fun _ _ => (fin_of_all _ _ _ _ _ _ h1 _).symm, fun _ _ => (fin_of_all _ _ _ _ _ _ h2 _).symm,
    fun _ => (fin_of_all _ _ _ _ _ _ h3 _).symm, fun _ _ => (fin_of_all _ _ _ _ _ _ h4 _).symm⟩

set_option maxHeartbeats 1000000 in
theorem algebraic : Cert.algebraic_FfnHiddenIdeal_FfnHiddenRefIdeal_pre_ffn_hidden_finite := by
  pair_intro
  · run_from Cert.FfnHiddenIdeal.Value.run_blocks m g
  · run_from Cert.FfnHiddenRefIdeal.Value.run m' g'
    all_goals have a := finite_args hpre c
    all_goals have b : Cert.FfnHiddenRefIdeal.Val.Args _ _ _ _ _ (reals m c) := ⟨a.gate, a.up, a.w, a.g, a.dy⟩
    all_goals obtain ⟨a0, a1, a2, a3, a4⟩ := hagree c
    · rw [dgate_eq a, Cert.FfnHiddenRefIdeal.Read.val_main_v46_eq, a0, a1, a2, a3, a4]
      funext y
      obtain ⟨y0, i, j, rfl⟩ : ∃ b k j, y = ix3 b k j := ⟨y 0, y 1, y 2, by blk_ext⟩
      obtain rfl : y0 = 0 := Subsingleton.elim _ _
      exact Cert.FfnHiddenRefIdeal.Val.v46 b i j
    · rw [du_eq a, Cert.FfnHiddenRefIdeal.Read.val_main_v48_eq, a0, a1, a2, a3, a4]
      funext y
      obtain ⟨y0, i, j, rfl⟩ : ∃ b k j, y = ix3 b k j := ⟨y 0, y 1, y 2, by blk_ext⟩
      obtain rfl : y0 = 0 := Subsingleton.elim _ _
      exact Cert.FfnHiddenRefIdeal.Val.v48 b i j
    · rw [dw_eq a, Cert.FfnHiddenRefIdeal.Read.val_main_v49_eq, a0, a1, a2, a3, a4]
      funext y
      obtain ⟨y0, j, k, rfl⟩ : ∃ b k j, y = ix3 b k j := ⟨y 0, y 1, y 2, by blk_ext⟩
      obtain rfl : y0 = 0 := Subsingleton.elim _ _
      exact Cert.FfnHiddenRefIdeal.Val.v49 b j k
    · rw [dg_eq a]
      funext y
      obtain ⟨y0, k, rfl⟩ : ∃ a k, y = ix2 a k := ⟨y 0, y 1, by blk_ext⟩
      obtain rfl : y0 = 0 := Subsingleton.elim _ _
      exact Cert.FfnHiddenRefIdeal.Val.v50 b k

/-- The reference runs, its arguments end unchanged, and it has no semaphore. -/
theorem ref_frame : Cert.quiescent_FfnHiddenRefIdeal := fun m g _ =>
  (θ_run Cert.FfnHiddenRefIdeal.defs _ _).mono (fun r h => ⟨fun c => (h c).2.2.2.2,
      sem_eq_zero_of_no_sems (by decide) r.2⟩)
    (Cert.FfnHiddenRefIdeal.Value.run (F := Ideal) m g)

end Cert.FfnHiddenIdeal.Val

end
-- ==== Proof.Gmlp.lean ====
/-
  The gated mixer over chunks of 128 rows, on real numbers: its forward values and the gradients of everything it
  reads, in the arrangement the kernel computes them in. The normalisation's gradient, as differentiating mean,
  variance and root one after the other gives it, is the kernel's (`dln_eq`), and so is the activation's.
-/
module

public import proofs.«01_k».proof.Proof.Lift
public import Idealize.ShloMosaic.Lib.WordCmp

@[expose] public section

noncomputable section

namespace Cert.Lift

open Idealize.ShloMosaic

theorem ofBits_2048 : Ideal.ofBits .f32 0x45000000#32 = ((2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

theorem sqrt_real {a : ℝ} (h : 0 ≤ a) : Ideal.sqrt (a : EReal) = ((Real.sqrt a : ℝ) : EReal) := by
  rw [Ideal.sqrt_coe, if_neg (not_lt.mpr h)]
theorem atan_real (a : ℝ) : Ideal.atan (a : EReal) = ((Real.arctan a : ℝ) : EReal) := rfl

/-- The comparison of two small index words. -/
theorem sge_ix (t s : Fin 128) : IntOp.cmpi .sge (BitVec.ofNat 32 t.val) (BitVec.ofNat 32 s.val) = BitVec.ofBool (decide (s.val ≤ t.val)) := by
  have ht : (BitVec.ofNat 32 t.val).toNat = t.val := by rw [BitVec.toNat_ofNat]; omega
  have hs : (BitVec.ofNat 32 s.val).toNat = s.val := by rw [BitVec.toNat_ofNat]; omega
  rw [WordCmp.cmpi_sge_of_lt (by rw [ht]; omega) (by rw [hs]; omega), ht, hs]
theorem select_ofBool {α : Type} (b : Bool) (x y : α) : Scalar.select (BitVec.ofBool b) x y = if b then x else y := by
  cases b <;> rfl

/-- A sum over the first and the last of four axes. -/
theorem hostReduceAdd_first_last {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k0 : Fin n0, ∑ k1 : Fin n3, v (ix4 k0 a b k1) := by
  have hf : ∀ i : (⟨4, ![n0, n1, n2, n3]⟩ : Shape).Idx, h.drop i = ix2 a b ↔ ∃ k : Fin n0 × Fin n3, ix4 k.1 a b k.2 = i := by
    intro i
    constructor
    · intro e
      refine ⟨(i 0, i 3), ?_⟩
      funext c; apply Fin.ext
      match c with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext c
      apply Fin.ext
      match c with
      | ⟨0, _⟩ => rfl
      | ⟨1, _⟩ => rfl
  refine congrArg (init + ·) ((Finset.sum_filter_eq_sum_of_fiber _ (fun k : Fin n0 × Fin n3 => ix4 k.1 a b k.2)
    (fun _ _ e => Prod.ext (congrFun e 0) (congrFun e 3)) hf v).trans ?_)
  simp only [Fintype.sum_prod_type]

/-! ### The activation -/

/-- The error function. -/
def erfR (x : ℝ) : ℝ := (Ideal.erf (x : EReal)).toReal

theorem erf_real (x : ℝ) : Ideal.erf (x : EReal) = ((erfR x : ℝ) : EReal) := by
  rw [erfR, Ideal.erf_coe, EReal.toReal_coe]

/-- The Gaussian error linear unit and its derivative. -/
def gelu (x : ℝ) : ℝ := x * (1 / 2 * (1 + erfR (x * (1 / Real.sqrt 2))))
def gelu' (x : ℝ) : ℝ :=
  1 / 2 * (1 + erfR (x * (1 / Real.sqrt 2))) + x * (Real.exp (-(1 / 2) * x * x) * (1 / Real.sqrt (8 * Real.arctan 1)))

theorem gelu_eq (x : ℝ) : 1 / 2 * x * (1 + erfR (x / Real.sqrt 2)) = gelu x := by
  rw [gelu, mul_one_div]; ring

theorem gelu'_eq (x d : ℝ) : 1 / 2 * x * d * (2 / Real.sqrt (4 * Real.arctan 1) * Real.exp (-(x / Real.sqrt 2 * (x / Real.sqrt 2)))) / Real.sqrt 2
    + 1 / 2 * (d * (1 + erfR (x / Real.sqrt 2))) = d * gelu' x := by
  have h2 : Real.sqrt 2 * Real.sqrt 2 = 2 := Real.mul_self_sqrt (by norm_num)
  have h0 : Real.sqrt 2 ≠ 0 := by positivity
  have ha : 0 < Real.arctan 1 := by rw [Real.arctan_one]; positivity
  have hs : Real.sqrt (Real.arctan 1) ≠ 0 := (Real.sqrt_pos.mpr ha).ne'
  have e4 : Real.sqrt (4 * Real.arctan 1) = 2 * Real.sqrt (Real.arctan 1) := by
    rw [Real.sqrt_mul (by norm_num), show (4 : ℝ) = 2 * 2 by norm_num, Real.sqrt_mul_self (by norm_num)]
  have e8 : Real.sqrt (8 * Real.arctan 1) = 2 * Real.sqrt 2 * Real.sqrt (Real.arctan 1) := by
    rw [Real.sqrt_mul (by norm_num), show (8 : ℝ) = 2 * 2 * 2 by norm_num, Real.sqrt_mul (by norm_num), Real.sqrt_mul_self (by norm_num)]
  have ex : -(x / Real.sqrt 2 * (x / Real.sqrt 2)) = -(1 / 2) * x * x := by
    rw [div_mul_div_comm, h2]; ring
  rw [gelu', e4, e8, ex, mul_one_div]
  field_simp; ring

/-! ### The normalisation of a row of 2048 -/

/-- The row less its mean. -/
def cen (f : Fin 2048 → ℝ) (j : Fin 2048) : ℝ := f j - (∑ l, f l) / 2048
def vr (f : Fin 2048 → ℝ) : ℝ := (∑ l, cen f l * cen f l) / 2048
/-- The reciprocal standard deviation. -/
def rs (f : Fin 2048 → ℝ) : ℝ := (Real.sqrt (vr f + eps))⁻¹
/-- The normalised row. -/
def nrm (f : Fin 2048 → ℝ) (j : Fin 2048) : ℝ := cen f j * rs f

theorem vr_pos (f : Fin 2048 → ℝ) : 0 < vr f + eps :=
  add_pos_of_nonneg_of_pos (div_nonneg (Finset.sum_nonneg fun k _ => mul_self_nonneg _) (by norm_num)) eps_pos

theorem sum_cen (f : Fin 2048 → ℝ) : ∑ l, cen f l = 0 := by
  simp only [cen, Finset.sum_sub_distrib, Finset.sum_const, Finset.card_univ, Fintype.card_fin, nsmul_eq_mul]
  push_cast; ring

/-- The gradient of `nrm` against `d`. -/
def dln (f d : Fin 2048 → ℝ) (j : Fin 2048) : ℝ :=
  rs f * (d j - (∑ l, d l) / 2048 - nrm f j * ((∑ l, d l * nrm f l) / 2048))

theorem rs_div (f : Fin 2048 → ℝ) : rs f / (vr f + eps) = rs f * rs f * rs f := by
  have h := vr_pos f
  have hs : rs f * rs f = (vr f + eps)⁻¹ := by rw [rs, ← mul_inv, Real.mul_self_sqrt h.le]
  rw [mul_assoc, hs, div_eq_mul_inv]

/-- The gradient through the root, the variance and the centred row, before the mean's part. -/
def dcen (f d : Fin 2048 → ℝ) (j : Fin 2048) : ℝ :=
  d j * rs f + (cen f j * ((∑ l, cen f l * d l) * (-(1 / 2) * (rs f / (vr f + eps))) / 2048)
    + (∑ l, cen f l * d l) * (-(1 / 2) * (rs f / (vr f + eps))) / 2048 * cen f j)

theorem dln_eq (f d : Fin 2048 → ℝ) (j : Fin 2048) : dcen f d j + (∑ l, -dcen f d l) / 2048 = dln f d j := by
  have e : ∀ j, dcen f d j = rs f * d j - cen f j * ((∑ l, cen f l * d l) * (rs f * rs f * rs f) / 2048) := fun j => by
    rw [dcen, rs_div]; ring
  have e1 : ∑ l, -dcen f d l = -(rs f * ∑ l, d l) := by
    simp only [e, Finset.sum_neg_distrib, Finset.sum_sub_distrib, ← Finset.sum_mul, ← Finset.mul_sum, sum_cen]; ring
  have e2 : ∑ l, d l * nrm f l = (∑ l, cen f l * d l) * rs f := by
    rw [Finset.sum_mul]; exact Finset.sum_congr rfl fun l _ => by rw [nrm]; ring
  rw [e1, e, dln, e2, nrm]; ring

/-! ### The mixer -/

/-- Row `s` of the chunk of row `i`, and row `s` of chunk `n`. -/
abbrev ch (i : Fin 8192) (s : Fin 128) : Fin 8192 := ⟨i.val / 128 * 128 + s.val, by omega⟩
abbrev rw' (n : Fin 64) (s : Fin 128) : Fin 8192 := ⟨n.val * 128 + s.val, by omega⟩
/-- The place of a row within its chunk, and the group of a column. -/
abbrev pos (i : Fin 8192) : Fin 128 := ⟨i.val % 128, by omega⟩
abbrev gp (j : Fin 2048) : Fin 8 := ⟨j.val / 256, by omega⟩
/-- Column `d` of group `g`. -/
abbrev cg (g : Fin 8) (d : Fin 256) : Fin 2048 := ⟨g.val * 256 + d.val, by omega⟩
/-- The columns of the two halves of the activation. -/
abbrev lo (j : Fin 2048) : Fin 4096 := ⟨j.val, by omega⟩
abbrev hi (j : Fin 2048) : Fin 4096 := ⟨2048 + j.val, by omega⟩

theorem gp_cg (g : Fin 8) (d : Fin 256) : gp (cg g d) = g := by apply Fin.ext; show (g.val * 256 + d.val) / 256 = g.val; omega
theorem pos_rw (n : Fin 64) (s : Fin 128) : pos (rw' n s) = s := by apply Fin.ext; show (n.val * 128 + s.val) % 128 = s.val; omega
theorem ch_rw (n : Fin 64) (s s' : Fin 128) : ch (rw' n s) s' = rw' n s' := by
  apply Fin.ext; show (n.val * 128 + s.val) / 128 * 128 + s'.val = n.val * 128 + s'.val; omega

theorem rw_split (i : Fin 8192) (h h') : rw' ⟨i.val / 128, h⟩ ⟨i.val % 128, h'⟩ = i := by
  apply Fin.ext; show i.val / 128 * 128 + i.val % 128 = i.val; omega
theorem cg_split (j : Fin 2048) (h h') : cg ⟨j.val / 256, h⟩ ⟨j.val % 256, h'⟩ = j := by
  apply Fin.ext; show j.val / 256 * 256 + j.val % 256 = j.val; omega

/-- What the mixer reads, the gain of the norm after it, and the gradient of what comes out. -/
structure Gmlp where
  z : Fin 8192 → Fin 4096 → ℝ
  lg : Fin 2048 → ℝ
  lb : Fin 2048 → ℝ
  ws : Fin 8 → Fin 128 → Fin 128 → ℝ
  bs : Fin 8 → Fin 128 → ℝ
  wo : Fin 2048 → Fin 1024 → ℝ
  pg : Fin 1024 → ℝ
  dy : Fin 8192 → Fin 1024 → ℝ

namespace Gmlp

variable (p : Gmlp)

def u (i : Fin 8192) (j : Fin 2048) : ℝ := gelu (p.z i (lo j))
def v (i : Fin 8192) (j : Fin 2048) : ℝ := gelu (p.z i (hi j))
def vh (i : Fin 8192) (j : Fin 2048) : ℝ := nrm (p.v i) j
def vl (i : Fin 8192) (j : Fin 2048) : ℝ := p.vh i j * p.lg j + p.lb j
/-- The weights within a chunk: a row reads the rows up to itself. -/
def w (g : Fin 8) (t s : Fin 128) : ℝ := if s.val ≤ t.val then p.ws g t s else 0
def sv (i : Fin 8192) (j : Fin 2048) : ℝ := ∑ s, p.w (gp j) (pos i) s * p.vl (ch i s) j + p.bs (gp j) (pos i)
def gated (i : Fin 8192) (j : Fin 2048) : ℝ := p.u i j * p.sv i j
def m (i : Fin 8192) (k : Fin 1024) : ℝ := ∑ j, p.gated i j * p.wo j k
def dm (i : Fin 8192) (k : Fin 1024) : ℝ := dnorm (p.m i) (fun l => p.dy i l * p.pg l) k
def dgated (i : Fin 8192) (j : Fin 2048) : ℝ := ∑ k, p.dm i k * p.wo j k
def dsv (i : Fin 8192) (j : Fin 2048) : ℝ := p.dgated i j * p.u i j
def dvl (i : Fin 8192) (j : Fin 2048) : ℝ := ∑ t, p.w (gp j) t (pos i) * p.dsv (ch i t) j
def dv (i : Fin 8192) (j : Fin 2048) : ℝ := dln (p.v i) (fun l => p.dvl i l * p.lg l) j

/-! The results. -/

def dzu (i : Fin 8192) (j : Fin 2048) : ℝ := p.dgated i j * p.sv i j * gelu' (p.z i (lo j))
def dzv (i : Fin 8192) (j : Fin 2048) : ℝ := p.dv i j * gelu' (p.z i (hi j))
/-- The gradient of the activation, both halves side by side. -/
def dz (i : Fin 8192) (j : Fin 4096) : ℝ := if h : j.val < 2048 then p.dzu i ⟨j.val, h⟩ else p.dzv i ⟨j.val - 2048, by omega⟩
def dwo (j : Fin 2048) (k : Fin 1024) : ℝ := ∑ i, p.gated i j * p.dm i k
def dws (g : Fin 8) (t s : Fin 128) : ℝ :=
  if s.val ≤ t.val then ∑ n, ∑ d, p.dsv (rw' n t) (cg g d) * p.vl (rw' n s) (cg g d) else 0
def dbs (t : Fin 128) (g : Fin 8) : ℝ := ∑ n, ∑ d, p.dsv (rw' n t) (cg g d)
def dlg (j : Fin 2048) : ℝ := ∑ i, p.dvl i j * p.vh i j
def dlb (j : Fin 2048) : ℝ := ∑ i, p.dvl i j
def dpg (k : Fin 1024) : ℝ := ∑ i, p.dy i k * (p.m i k * rr (p.m i))

end Gmlp

end Cert.Lift

end
-- ==== Proof.AHiddenReads.lean ====
/-
  What the two scratch buffers of `mix_a_bwd_hidden` hold when a point reads them back: sixteen stores, one for
  each chunk of rows and group of columns, are the spatial part of the gate, and the gradient of its normalised rows.
-/
module

public import proofs.«01_k».proof.Proof.Gmlp
public import proofs.«01_k».proof.Proof.Gen.AHiddenIdeal.Value
public import Idealize.ShloMosaic.Lib.Pipeline.ValueKit
public import Idealize.ShloMosaic.Lib.Pipeline.ReadBack

@[expose] public section

set_option maxRecDepth 16384

noncomputable section

namespace Cert.AHiddenIdeal.Val

open Idealize.ShloMosaic Idealize.ShloMosaic.TcCoe Idealize.SL.Sem
open Cert.AHiddenIdeal Cert.AHiddenIdeal.Gen Cert.Lift

/-- Row `r` of point `t`, among all rows. -/
abbrev row (t : Fin cfg0.N) (r : Fin 512) : Fin 8192 := ⟨t.val * 512 + r.val, by have := t.isLt; have : cfg0.N = 16 := N_0; omega⟩
/-- Column `k` of half `b`, among all columns, and group `g` of half `b`. -/
abbrev hc (b : Fin 2) (k : Fin 1024) : Fin 2048 := ⟨b.val * 1024 + k.val, by omega⟩
abbrev gb (b : Fin 2) (g : Fin 4) : Fin 8 := ⟨b.val * 4 + g.val, by omega⟩
/-- Row `s` of chunk `n` of a block, and column `d` of group `g` of a half. -/
abbrev lr (n : Fin 4) (s : Fin 128) : Fin 512 := ⟨n.val * 128 + s.val, by omega⟩
abbrev lc (g : Fin 4) (d : Fin 256) : Fin 1024 := ⟨g.val * 256 + d.val, by omega⟩

theorem gp_eq (b : Fin 2) (g : Fin 4) (d : Fin 256) : gp (hc b (lc g d)) = gb b g := by
  apply Fin.ext; show (b.val * 1024 + (g.val * 256 + d.val)) / 256 = b.val * 4 + g.val; omega
theorem pos_eq (t : Fin cfg0.N) (n : Fin 4) (s : Fin 128) : pos (row t (lr n s)) = s := by
  apply Fin.ext; show (t.val * 512 + (n.val * 128 + s.val)) % 128 = s.val; omega
theorem ch_eq (t : Fin cfg0.N) (n : Fin 4) (s s' : Fin 128) : ch (row t (lr n s)) s' = row t (lr n s') := by
  apply Fin.ext; show (t.val * 512 + (n.val * 128 + s.val)) / 128 * 128 + s'.val = t.val * 512 + (n.val * 128 + s'.val); omega

variable {p : Gmlp} {t : Fin cfg0.N}

/-- One store of the spatial part. -/
theorem svPiece (b : Fin 2) (n g : Fin 4) (h) {vl : FVec Ideal S512x1024 .bf16} {w : FVec Ideal S128x128 .bf16} {bs : FVec Ideal S128x1 .f32}
    {P : FVec Ideal S128x256 .f32} (hP : ∀ r d, P (ix2 r d) = ∑ s : Fin 128, w (ix2 r s) * vl (ix2 (lr n s) (lc g d)) + bs (ix2 r 0))
    (hv : ∀ r k, vl (ix2 r k) = ((p.vl (row t r) (hc b k) : ℝ) : EReal)) (hw : ∀ r s, w (ix2 r s) = ((p.w (gb b g) r s : ℝ) : EReal))
    (hb : ∀ r, bs (ix2 r 0) = ((p.bs (gb b g) r : ℝ) : EReal)) (x : S128x256.Idx) :
    P x = (fun y : S512x1024.Idx => ((p.sv (row t (y 0)) (hc b (y 1)) : ℝ) : EReal)) ((Rect.unit (s := S512x1024) ![n.val * 128, g.val * 256] ![128, 256] h).emb x) := by
  have e : (Rect.unit (s := S512x1024) ![n.val * 128, g.val * 256] ![128, 256] h).emb x = ix2 (lr n (x 0)) (lc g (x 1)) := by blk_ext
  obtain ⟨r, d, rfl⟩ : ∃ r d, x = ix2 r d := ⟨x 0, x 1, by blk_ext⟩
  rw [e, hP]
  simp only [hv, hw, hb, ← EReal.coe_mul, coe_sum, ← EReal.coe_add]
  show _ = ((p.sv (row t (lr n r)) (hc b (lc g d)) : ℝ) : EReal)
  rw [Gmlp.sv, gp_eq, pos_eq]
  simp only [ch_eq]

/-- One store of the gradient of the normalised rows. -/
theorem dvlPiece (b : Fin 2) (n g : Fin 4) (h) {D : FVec Ideal S512x1024 .f32} {w : FVec Ideal S128x128 .bf16}
    {P : FVec Ideal S128x256 .f32} (hP : ∀ r d, P (ix2 r d) = ∑ t : Fin 128, w (ix2 t r) * D (ix2 (lr n t) (lc g d)))
    (hd : ∀ r k, D (ix2 r k) = ((p.dsv (row t r) (hc b k) : ℝ) : EReal)) (hw : ∀ r s, w (ix2 r s) = ((p.w (gb b g) r s : ℝ) : EReal)) (x : S128x256.Idx) :
    P x = (fun y : S512x1024.Idx => ((p.dvl (row t (y 0)) (hc b (y 1)) : ℝ) : EReal)) ((Rect.unit (s := S512x1024) ![n.val * 128, g.val * 256] ![128, 256] h).emb x) := by
  have e : (Rect.unit (s := S512x1024) ![n.val * 128, g.val * 256] ![128, 256] h).emb x = ix2 (lr n (x 0)) (lc g (x 1)) := by blk_ext
  obtain ⟨r, d, rfl⟩ : ∃ r d, x = ix2 r d := ⟨x 0, x 1, by blk_ext⟩
  rw [e, hP]
  simp only [hd, hw, ← EReal.coe_mul, coe_sum]
  show _ = ((p.dvl (row t (lr n r)) (hc b (lc g d)) : ℝ) : EReal)
  rw [Gmlp.dvl, gp_eq, pos_eq]
  simp only [ch_eq]

/-- The whole of a buffer, as a load. -/
abbrev allR : LoadRect S512x1024 := (Rect.unit ![0, 0] ![512, 1024] inb_S512x1024_S512x1024_0_0).toLoadRect
theorem allR_idx (y : S512x1024.Idx) : allR.idx y = y := by
  funext a
  apply Fin.ext
  show (![0, 0] : Fin 2 → ℕ) a + 1 * (y a).val = (y a).val
  fin_cases a <;> simp

variable {vl : FVec Ideal S512x1024 .bf16} {D : FVec Ideal S512x1024 .f32} {w0 w1 w2 w3 : FVec Ideal S128x128 .bf16} {b0 b1 b2 b3 : FVec Ideal S128x1 .f32}

theorem sv0_read (hv : ∀ r k, vl (ix2 r k) = ((p.vl (row t r) (hc 0 k) : ℝ) : EReal))
    (hw0 : ∀ r s, w0 (ix2 r s) = ((p.w (gb 0 0) r s : ℝ) : EReal)) (hw1 : ∀ r s, w1 (ix2 r s) = ((p.w (gb 0 1) r s : ℝ) : EReal))
    (hw2 : ∀ r s, w2 (ix2 r s) = ((p.w (gb 0 2) r s : ℝ) : EReal)) (hw3 : ∀ r s, w3 (ix2 r s) = ((p.w (gb 0 3) r s : ℝ) : EReal))
    (hb0 : ∀ r, b0 (ix2 r 0) = ((p.bs (gb 0 0) r : ℝ) : EReal)) (hb1 : ∀ r, b1 (ix2 r 0) = ((p.bs (gb 0 1) r : ℝ) : EReal))
    (hb2 : ∀ r, b2 (ix2 r 0) = ((p.bs (gb 0 2) r : ℝ) : EReal)) (hb3 : ∀ r, b3 (ix2 r 0) = ((p.bs (gb 0 3) r : ℝ) : EReal))
    (L : List (View.Piece (Elt Ideal) S512x1024 .f32)) : @Eq (FVec Ideal S512x1024 .f32)
    ((View.whole cc0_scratch0).readCov (Val := Elt Ideal) (e := EltTy.f32) (
      ⟨Rect.unit ![384, 768] ![128, 256] inb_S512x1024_S128x256_384_768, k0_pay67 vl w3 b3⟩ ::
      ⟨Rect.unit ![256, 768] ![128, 256] inb_S512x1024_S128x256_256_768, k0_pay66 vl w3 b3⟩ ::
      ⟨Rect.unit ![128, 768] ![128, 256] inb_S512x1024_S128x256_128_768, k0_pay65 vl w3 b3⟩ ::
      ⟨Rect.unit ![0, 768] ![128, 256] inb_S512x1024_S128x256_0_768, k0_pay64 vl w3 b3⟩ ::
      ⟨Rect.unit ![384, 512] ![128, 256] inb_S512x1024_S128x256_384_512, k0_pay62 (k0_pay61 vl w2 b2)⟩ ::
      ⟨Rect.unit ![256, 512] ![128, 256] inb_S512x1024_S128x256_256_512, k0_pay60 vl w2 b2⟩ ::
      ⟨Rect.unit ![128, 512] ![128, 256] inb_S512x1024_S128x256_128_512, k0_pay59 vl w2 b2⟩ ::
      ⟨Rect.unit ![0, 512] ![128, 256] inb_S512x1024_S128x256_0_512, k0_pay58 vl w2 b2⟩ ::
      ⟨Rect.unit ![384, 256] ![128, 256] inb_S512x1024_S128x256_384_256, k0_pay56 vl w1 (k0_pay51 b1)⟩ ::
      ⟨Rect.unit ![256, 256] ![128, 256] inb_S512x1024_S128x256_256_256, k0_pay55 (k0_pay54 vl w1 b1)⟩ ::
      ⟨Rect.unit ![128, 256] ![128, 256] inb_S512x1024_S128x256_128_256, k0_pay53 vl w1 b1⟩ ::
      ⟨Rect.unit ![0, 256] ![128, 256] inb_S512x1024_S128x256_0_256, k0_pay52 vl w1 b1⟩ ::
      ⟨Rect.unit ![384, 0] ![128, 256] inb_S512x1024_S128x256_384_0, k0_pay50 vl w0 (k0_pay45 b0)⟩ ::
      ⟨Rect.unit ![256, 0] ![128, 256] inb_S512x1024_S128x256_256_0, k0_pay49 vl w0 (k0_pay45 b0)⟩ ::
      ⟨Rect.unit ![128, 0] ![128, 256] inb_S512x1024_S128x256_128_0, k0_pay48 (k0_pay47 vl w0 b0)⟩ ::
      ⟨Rect.unit ![0, 0] ![128, 256] inb_S512x1024_S128x256_0_0, k0_pay46 vl w0 b0⟩ :: L)
      allR) (fun y => ((p.sv (row t (y 0)) (hc 0 (y 1)) : ℝ) : EReal)) := by
  rw [View.readCov_eq_canon']
  funext y
  have e := allR_idx y
  show View.canon _ (allR.idx y) = _
  rw [e]
  refine View.canon_append_of_piecesOf (Val := Elt Ideal) (e := EltTy.f32)
    (fun y : S512x1024.Idx => ((p.sv (row t (y 0)) (hc 0 (y 1)) : ℝ) : EReal)) L [_, _, _, _, _, _, _, _, _, _, _, _, _, _, _, _]
    ⟨svPiece 0 3 3 inb_S512x1024_S128x256_384_768 ?_ hv hw3 hb3, svPiece 0 2 3 inb_S512x1024_S128x256_256_768 ?_ hv hw3 hb3, svPiece 0 1 3 inb_S512x1024_S128x256_128_768 ?_ hv hw3 hb3, svPiece 0 0 3 inb_S512x1024_S128x256_0_768 ?_ hv hw3 hb3,
      svPiece 0 3 2 inb_S512x1024_S128x256_384_512 ?_ hv hw2 hb2, svPiece 0 2 2 inb_S512x1024_S128x256_256_512 ?_ hv hw2 hb2, svPiece 0 1 2 inb_S512x1024_S128x256_128_512 ?_ hv hw2 hb2, svPiece 0 0 2 inb_S512x1024_S128x256_0_512 ?_ hv hw2 hb2,
      svPiece 0 3 1 inb_S512x1024_S128x256_384_256 ?_ hv hw1 hb1, svPiece 0 2 1 inb_S512x1024_S128x256_256_256 ?_ hv hw1 hb1, svPiece 0 1 1 inb_S512x1024_S128x256_128_256 ?_ hv hw1 hb1, svPiece 0 0 1 inb_S512x1024_S128x256_0_256 ?_ hv hw1 hb1,
      svPiece 0 3 0 inb_S512x1024_S128x256_384_0 ?_ hv hw0 hb0, svPiece 0 2 0 inb_S512x1024_S128x256_256_0 ?_ hv hw0 hb0, svPiece 0 1 0 inb_S512x1024_S128x256_128_0 ?_ hv hw0 hb0, svPiece 0 0 0 inb_S512x1024_S128x256_0_0 ?_ hv hw0 hb0, trivial⟩ _
    (View.cover_of_tiledL _ ![128, 256] (by sl_kernel_rfl) _)
  all_goals intro r d; pointwise [k0_pay45, k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67]
  all_goals exact congrArg (· + _) (Finset.sum_congr rfl fun x _ => congrArg (_ * ·) (congrArg vl (by blk_ext)))

theorem sv1_read (hv : ∀ r k, vl (ix2 r k) = ((p.vl (row t r) (hc 1 k) : ℝ) : EReal))
    (hw0 : ∀ r s, w0 (ix2 r s) = ((p.w (gb 1 0) r s : ℝ) : EReal)) (hw1 : ∀ r s, w1 (ix2 r s) = ((p.w (gb 1 1) r s : ℝ) : EReal))
    (hw2 : ∀ r s, w2 (ix2 r s) = ((p.w (gb 1 2) r s : ℝ) : EReal)) (hw3 : ∀ r s, w3 (ix2 r s) = ((p.w (gb 1 3) r s : ℝ) : EReal))
    (hb0 : ∀ r, b0 (ix2 r 0) = ((p.bs (gb 1 0) r : ℝ) : EReal)) (hb1 : ∀ r, b1 (ix2 r 0) = ((p.bs (gb 1 1) r : ℝ) : EReal))
    (hb2 : ∀ r, b2 (ix2 r 0) = ((p.bs (gb 1 2) r : ℝ) : EReal)) (hb3 : ∀ r, b3 (ix2 r 0) = ((p.bs (gb 1 3) r : ℝ) : EReal))
    (L : List (View.Piece (Elt Ideal) S512x1024 .f32)) : @Eq (FVec Ideal S512x1024 .f32)
    ((View.whole cc0_scratch0).readCov (Val := Elt Ideal) (e := EltTy.f32) (
      ⟨Rect.unit ![384, 768] ![128, 256] inb_S512x1024_S128x256_384_768, k0_pay161 (k0_pay159 vl w3) (k0_pay160 b3)⟩ ::
      ⟨Rect.unit ![256, 768] ![128, 256] inb_S512x1024_S128x256_256_768, k0_pay158 vl w3 b3⟩ ::
      ⟨Rect.unit ![128, 768] ![128, 256] inb_S512x1024_S128x256_128_768, k0_pay157 vl w3 b3⟩ ::
      ⟨Rect.unit ![0, 768] ![128, 256] inb_S512x1024_S128x256_0_768, k0_pay156 vl w3 b3⟩ ::
      ⟨Rect.unit ![384, 512] ![128, 256] inb_S512x1024_S128x256_384_512, k0_pay154 vl w2 (k0_pay149 b2)⟩ ::
      ⟨Rect.unit ![256, 512] ![128, 256] inb_S512x1024_S128x256_256_512, k0_pay153 (k0_pay149 b2) (k0_pay152 vl w2)⟩ ::
      ⟨Rect.unit ![128, 512] ![128, 256] inb_S512x1024_S128x256_128_512, k0_pay151 vl w2 b2⟩ ::
      ⟨Rect.unit ![0, 512] ![128, 256] inb_S512x1024_S128x256_0_512, k0_pay150 vl w2 b2⟩ ::
      ⟨Rect.unit ![384, 256] ![128, 256] inb_S512x1024_S128x256_384_256, k0_pay148 vl w1 (k0_pay143 b1)⟩ ::
      ⟨Rect.unit ![256, 256] ![128, 256] inb_S512x1024_S128x256_256_256, k0_pay147 vl w1 (k0_pay143 b1)⟩ ::
      ⟨Rect.unit ![128, 256] ![128, 256] inb_S512x1024_S128x256_128_256, k0_pay146 w1 (k0_pay143 b1) (k0_pay145 vl) (constant S128x256 .f32 0#32)⟩ ::
      ⟨Rect.unit ![0, 256] ![128, 256] inb_S512x1024_S128x256_0_256, k0_pay144 vl w1 b1⟩ ::
      ⟨Rect.unit ![384, 0] ![128, 256] inb_S512x1024_S128x256_384_0, k0_pay142 vl w0 (k0_pay137 b0)⟩ ::
      ⟨Rect.unit ![256, 0] ![128, 256] inb_S512x1024_S128x256_256_0, k0_pay141 vl w0 (k0_pay137 b0)⟩ ::
      ⟨Rect.unit ![128, 0] ![128, 256] inb_S512x1024_S128x256_128_0, k0_pay140 vl w0 (k0_pay137 b0)⟩ ::
      ⟨Rect.unit ![0, 0] ![128, 256] inb_S512x1024_S128x256_0_0, k0_pay139 w0 (k0_pay137 b0) (k0_pay138 vl)⟩ :: L)
      allR) (fun y => ((p.sv (row t (y 0)) (hc 1 (y 1)) : ℝ) : EReal)) := by
  rw [View.readCov_eq_canon']
  funext y
  have e := allR_idx y
  show View.canon _ (allR.idx y) = _
  rw [e]
  refine View.canon_append_of_piecesOf (Val := Elt Ideal) (e := EltTy.f32)
    (fun y : S512x1024.Idx => ((p.sv (row t (y 0)) (hc 1 (y 1)) : ℝ) : EReal)) L [_, _, _, _, _, _, _, _, _, _, _, _, _, _, _, _]
    ⟨svPiece 1 3 3 inb_S512x1024_S128x256_384_768 ?_ hv hw3 hb3, svPiece 1 2 3 inb_S512x1024_S128x256_256_768 ?_ hv hw3 hb3, svPiece 1 1 3 inb_S512x1024_S128x256_128_768 ?_ hv hw3 hb3, svPiece 1 0 3 inb_S512x1024_S128x256_0_768 ?_ hv hw3 hb3,
      svPiece 1 3 2 inb_S512x1024_S128x256_384_512 ?_ hv hw2 hb2, svPiece 1 2 2 inb_S512x1024_S128x256_256_512 ?_ hv hw2 hb2, svPiece 1 1 2 inb_S512x1024_S128x256_128_512 ?_ hv hw2 hb2, svPiece 1 0 2 inb_S512x1024_S128x256_0_512 ?_ hv hw2 hb2,
      svPiece 1 3 1 inb_S512x1024_S128x256_384_256 ?_ hv hw1 hb1, svPiece 1 2 1 inb_S512x1024_S128x256_256_256 ?_ hv hw1 hb1, svPiece 1 1 1 inb_S512x1024_S128x256_128_256 ?_ hv hw1 hb1, svPiece 1 0 1 inb_S512x1024_S128x256_0_256 ?_ hv hw1 hb1,
      svPiece 1 3 0 inb_S512x1024_S128x256_384_0 ?_ hv hw0 hb0, svPiece 1 2 0 inb_S512x1024_S128x256_256_0 ?_ hv hw0 hb0, svPiece 1 1 0 inb_S512x1024_S128x256_128_0 ?_ hv hw0 hb0, svPiece 1 0 0 inb_S512x1024_S128x256_0_0 ?_ hv hw0 hb0, trivial⟩ _
    (View.cover_of_tiledL _ ![128, 256] (by sl_kernel_rfl) _)
  all_goals intro r d; pointwise [k0_pay137, k0_pay138, k0_pay139, k0_pay140, k0_pay141, k0_pay142, k0_pay143, k0_pay144, k0_pay145, k0_pay146, k0_pay147, k0_pay148,
    k0_pay149, k0_pay150, k0_pay151, k0_pay152, k0_pay153, k0_pay154, k0_pay155, k0_pay156, k0_pay157, k0_pay158, k0_pay159, k0_pay160,
    k0_pay161]
  all_goals exact congrArg (· + _) (Finset.sum_congr rfl fun x _ => congrArg (_ * ·) (congrArg vl (by blk_ext)))

theorem dvl0_read (hd : ∀ r k, D (ix2 r k) = ((p.dsv (row t r) (hc 0 k) : ℝ) : EReal))
    (hw0 : ∀ r s, w0 (ix2 r s) = ((p.w (gb 0 0) r s : ℝ) : EReal)) (hw1 : ∀ r s, w1 (ix2 r s) = ((p.w (gb 0 1) r s : ℝ) : EReal))
    (hw2 : ∀ r s, w2 (ix2 r s) = ((p.w (gb 0 2) r s : ℝ) : EReal)) (hw3 : ∀ r s, w3 (ix2 r s) = ((p.w (gb 0 3) r s : ℝ) : EReal))
    (L : List (View.Piece (Elt Ideal) S512x1024 .f32)) : @Eq (FVec Ideal S512x1024 .f32)
    ((View.whole cc0_scratch1).readCov (Val := Elt Ideal) (e := EltTy.f32) (
      ⟨Rect.unit ![384, 768] ![128, 256] inb_S512x1024_S128x256_384_768, k0_pay131 w3 (k0_pay80 D)⟩ ::
      ⟨Rect.unit ![256, 768] ![128, 256] inb_S512x1024_S128x256_256_768, k0_pay128 w3 (k0_pay80 D)⟩ ::
      ⟨Rect.unit ![128, 768] ![128, 256] inb_S512x1024_S128x256_128_768, k0_pay125 w3 (k0_pay80 D)⟩ ::
      ⟨Rect.unit ![0, 768] ![128, 256] inb_S512x1024_S128x256_0_768, k0_pay122 w3 (k0_pay80 D)⟩ ::
      ⟨Rect.unit ![384, 512] ![128, 256] inb_S512x1024_S128x256_384_512, k0_pay119 w2 (k0_pay80 D)⟩ ::
      ⟨Rect.unit ![256, 512] ![128, 256] inb_S512x1024_S128x256_256_512, k0_pay114 w2 (k0_pay80 D)⟩ ::
      ⟨Rect.unit ![128, 512] ![128, 256] inb_S512x1024_S128x256_128_512, k0_pay111 w2 (k0_pay80 D)⟩ ::
      ⟨Rect.unit ![0, 512] ![128, 256] inb_S512x1024_S128x256_0_512, k0_pay108 (k0_pay107 w2 (k0_pay80 D))⟩ ::
      ⟨Rect.unit ![384, 256] ![128, 256] inb_S512x1024_S128x256_384_256, k0_pay104 w1 (k0_pay80 D)⟩ ::
      ⟨Rect.unit ![256, 256] ![128, 256] inb_S512x1024_S128x256_256_256, k0_pay101 w1 (k0_pay80 D)⟩ ::
      ⟨Rect.unit ![128, 256] ![128, 256] inb_S512x1024_S128x256_128_256, k0_pay97 w1 (k0_pay80 D)⟩ ::
      ⟨Rect.unit ![0, 256] ![128, 256] inb_S512x1024_S128x256_0_256, k0_pay94 w1 (k0_pay80 D)⟩ ::
      ⟨Rect.unit ![384, 0] ![128, 256] inb_S512x1024_S128x256_384_0, k0_pay91 w0 (k0_pay80 D)⟩ ::
      ⟨Rect.unit ![256, 0] ![128, 256] inb_S512x1024_S128x256_256_0, k0_pay88 w0 (k0_pay80 D)⟩ ::
      ⟨Rect.unit ![128, 0] ![128, 256] inb_S512x1024_S128x256_128_0, k0_pay85 w0 (k0_pay80 D)⟩ ::
      ⟨Rect.unit ![0, 0] ![128, 256] inb_S512x1024_S128x256_0_0, k0_pay82 w0 D⟩ :: L)
      allR) (fun y => ((p.dvl (row t (y 0)) (hc 0 (y 1)) : ℝ) : EReal)) := by
  rw [View.readCov_eq_canon']
  funext y
  have e := allR_idx y
  show View.canon _ (allR.idx y) = _
  rw [e]
  refine View.canon_append_of_piecesOf (Val := Elt Ideal) (e := EltTy.f32)
    (fun y : S512x1024.Idx => ((p.dvl (row t (y 0)) (hc 0 (y 1)) : ℝ) : EReal)) L [_, _, _, _, _, _, _, _, _, _, _, _, _, _, _, _]
    ⟨dvlPiece 0 3 3 inb_S512x1024_S128x256_384_768 ?_ hd hw3, dvlPiece 0 2 3 inb_S512x1024_S128x256_256_768 ?_ hd hw3, dvlPiece 0 1 3 inb_S512x1024_S128x256_128_768 ?_ hd hw3, dvlPiece 0 0 3 inb_S512x1024_S128x256_0_768 ?_ hd hw3,
      dvlPiece 0 3 2 inb_S512x1024_S128x256_384_512 ?_ hd hw2, dvlPiece 0 2 2 inb_S512x1024_S128x256_256_512 ?_ hd hw2, dvlPiece 0 1 2 inb_S512x1024_S128x256_128_512 ?_ hd hw2, dvlPiece 0 0 2 inb_S512x1024_S128x256_0_512 ?_ hd hw2,
      dvlPiece 0 3 1 inb_S512x1024_S128x256_384_256 ?_ hd hw1, dvlPiece 0 2 1 inb_S512x1024_S128x256_256_256 ?_ hd hw1, dvlPiece 0 1 1 inb_S512x1024_S128x256_128_256 ?_ hd hw1, dvlPiece 0 0 1 inb_S512x1024_S128x256_0_256 ?_ hd hw1,
      dvlPiece 0 3 0 inb_S512x1024_S128x256_384_0 ?_ hd hw0, dvlPiece 0 2 0 inb_S512x1024_S128x256_256_0 ?_ hd hw0, dvlPiece 0 1 0 inb_S512x1024_S128x256_128_0 ?_ hd hw0, dvlPiece 0 0 0 inb_S512x1024_S128x256_0_0 ?_ hd hw0, trivial⟩ _
    (View.cover_of_tiledL _ ![128, 256] (by sl_kernel_rfl) _)
  all_goals intro r d; pointwise [k0_pay80, k0_pay81, k0_pay82, k0_pay84, k0_pay85, k0_pay87, k0_pay88, k0_pay90, k0_pay91, k0_pay93, k0_pay94, k0_pay96,
    k0_pay97, k0_pay100, k0_pay101, k0_pay103, k0_pay104, k0_pay106, k0_pay107, k0_pay108, k0_pay110, k0_pay111, k0_pay113, k0_pay114,
    k0_pay118, k0_pay119, k0_pay121, k0_pay122, k0_pay124, k0_pay125, k0_pay127, k0_pay128, k0_pay130, k0_pay131]
  all_goals exact Finset.sum_congr rfl fun x _ => congrArg (_ * ·) (congrArg D (by blk_ext))

theorem dvl1_read (hd : ∀ r k, D (ix2 r k) = ((p.dsv (row t r) (hc 1 k) : ℝ) : EReal))
    (hw0 : ∀ r s, w0 (ix2 r s) = ((p.w (gb 1 0) r s : ℝ) : EReal)) (hw1 : ∀ r s, w1 (ix2 r s) = ((p.w (gb 1 1) r s : ℝ) : EReal))
    (hw2 : ∀ r s, w2 (ix2 r s) = ((p.w (gb 1 2) r s : ℝ) : EReal)) (hw3 : ∀ r s, w3 (ix2 r s) = ((p.w (gb 1 3) r s : ℝ) : EReal))
    (L : List (View.Piece (Elt Ideal) S512x1024 .f32)) : @Eq (FVec Ideal S512x1024 .f32)
    ((View.whole cc0_scratch1).readCov (Val := Elt Ideal) (e := EltTy.f32) (
      ⟨Rect.unit ![384, 768] ![128, 256] inb_S512x1024_S128x256_384_768, k0_pay222 w3 (k0_pay171 D)⟩ ::
      ⟨Rect.unit ![256, 768] ![128, 256] inb_S512x1024_S128x256_256_768, k0_pay218 w3 (k0_pay171 D)⟩ ::
      ⟨Rect.unit ![128, 768] ![128, 256] inb_S512x1024_S128x256_128_768, k0_pay215 w3 (k0_pay171 D)⟩ ::
      ⟨Rect.unit ![0, 768] ![128, 256] inb_S512x1024_S128x256_0_768, k0_pay212 w3 (k0_pay171 D)⟩ ::
      ⟨Rect.unit ![384, 512] ![128, 256] inb_S512x1024_S128x256_384_512, k0_pay209 w2 (k0_pay171 D)⟩ ::
      ⟨Rect.unit ![256, 512] ![128, 256] inb_S512x1024_S128x256_256_512, k0_pay206 w2 (k0_pay171 D)⟩ ::
      ⟨Rect.unit ![128, 512] ![128, 256] inb_S512x1024_S128x256_128_512, k0_pay203 w2 (k0_pay171 D)⟩ ::
      ⟨Rect.unit ![0, 512] ![128, 256] inb_S512x1024_S128x256_0_512, k0_pay200 w2 (k0_pay171 D)⟩ ::
      ⟨Rect.unit ![384, 256] ![128, 256] inb_S512x1024_S128x256_384_256, k0_pay196 w1 (k0_pay171 D)⟩ ::
      ⟨Rect.unit ![256, 256] ![128, 256] inb_S512x1024_S128x256_256_256, k0_pay193 w1 (k0_pay171 D)⟩ ::
      ⟨Rect.unit ![128, 256] ![128, 256] inb_S512x1024_S128x256_128_256, k0_pay190 (k0_pay189 w1 (k0_pay171 D))⟩ ::
      ⟨Rect.unit ![0, 256] ![128, 256] inb_S512x1024_S128x256_0_256, k0_pay186 w1 (k0_pay171 D)⟩ ::
      ⟨Rect.unit ![384, 0] ![128, 256] inb_S512x1024_S128x256_384_0, k0_pay183 w0 (k0_pay171 D)⟩ ::
      ⟨Rect.unit ![256, 0] ![128, 256] inb_S512x1024_S128x256_256_0, k0_pay179 w0 (k0_pay171 D)⟩ ::
      ⟨Rect.unit ![128, 0] ![128, 256] inb_S512x1024_S128x256_128_0, k0_pay176 w0 (k0_pay171 D)⟩ ::
      ⟨Rect.unit ![0, 0] ![128, 256] inb_S512x1024_S128x256_0_0, k0_pay173 w0 D⟩ :: L)
      allR) (fun y => ((p.dvl (row t (y 0)) (hc 1 (y 1)) : ℝ) : EReal)) := by
  rw [View.readCov_eq_canon']
  funext y
  have e := allR_idx y
  show View.canon _ (allR.idx y) = _
  rw [e]
  refine View.canon_append_of_piecesOf (Val := Elt Ideal) (e := EltTy.f32)
    (fun y : S512x1024.Idx => ((p.dvl (row t (y 0)) (hc 1 (y 1)) : ℝ) : EReal)) L [_, _, _, _, _, _, _, _, _, _, _, _, _, _, _, _]
    ⟨dvlPiece 1 3 3 inb_S512x1024_S128x256_384_768 ?_ hd hw3, dvlPiece 1 2 3 inb_S512x1024_S128x256_256_768 ?_ hd hw3, dvlPiece 1 1 3 inb_S512x1024_S128x256_128_768 ?_ hd hw3, dvlPiece 1 0 3 inb_S512x1024_S128x256_0_768 ?_ hd hw3,
      dvlPiece 1 3 2 inb_S512x1024_S128x256_384_512 ?_ hd hw2, dvlPiece 1 2 2 inb_S512x1024_S128x256_256_512 ?_ hd hw2, dvlPiece 1 1 2 inb_S512x1024_S128x256_128_512 ?_ hd hw2, dvlPiece 1 0 2 inb_S512x1024_S128x256_0_512 ?_ hd hw2,
      dvlPiece 1 3 1 inb_S512x1024_S128x256_384_256 ?_ hd hw1, dvlPiece 1 2 1 inb_S512x1024_S128x256_256_256 ?_ hd hw1, dvlPiece 1 1 1 inb_S512x1024_S128x256_128_256 ?_ hd hw1, dvlPiece 1 0 1 inb_S512x1024_S128x256_0_256 ?_ hd hw1,
      dvlPiece 1 3 0 inb_S512x1024_S128x256_384_0 ?_ hd hw0, dvlPiece 1 2 0 inb_S512x1024_S128x256_256_0 ?_ hd hw0, dvlPiece 1 1 0 inb_S512x1024_S128x256_128_0 ?_ hd hw0, dvlPiece 1 0 0 inb_S512x1024_S128x256_0_0 ?_ hd hw0, trivial⟩ _
    (View.cover_of_tiledL _ ![128, 256] (by sl_kernel_rfl) _)
  all_goals intro r d; pointwise [k0_pay171, k0_pay172, k0_pay173, k0_pay175, k0_pay176, k0_pay178, k0_pay179, k0_pay182, k0_pay183, k0_pay185, k0_pay186, k0_pay188,
    k0_pay189, k0_pay190, k0_pay192, k0_pay193, k0_pay195, k0_pay196, k0_pay199, k0_pay200, k0_pay202, k0_pay203, k0_pay205, k0_pay206,
    k0_pay208, k0_pay209, k0_pay211, k0_pay212, k0_pay214, k0_pay215, k0_pay217, k0_pay218, k0_pay221, k0_pay222]
  all_goals exact Finset.sum_congr rfl fun x _ => congrArg (_ * ·) (congrArg D (by blk_ext))

end Cert.AHiddenIdeal.Val

end
-- ==== Proof.AHiddenPay.lean ====
/-
  One point of `mix_a_bwd_hidden`, block by block on real numbers: the terms the kernel forms of what it reads.
-/
module

public import proofs.«01_k».proof.Proof.AHiddenReads

@[expose] public section

set_option maxRecDepth 16384

noncomputable section

namespace Cert.AHiddenIdeal.Val

open Idealize.ShloMosaic Idealize.ShloMosaic.TcCoe Idealize.SL.Sem
open Cert.AHiddenIdeal Cert.AHiddenIdeal.Gen Cert.Lift

/-- A sum over all columns is one over each half. -/
theorem sum_halves (f : Fin 2048 → ℝ) : ∑ l, f l = ∑ k, f (hc 0 k) + ∑ k, f (hc 1 k) := by
  rw [Fin.sum_univ_tiles 2 1024 rfl, Fin.sum_univ_two]

variable {p : Gmlp} {t : Fin cfg0.N}

section norm
variable {dy y : FVec Ideal S512x1024 .f32} {pg : FVec Ideal S1x1024 .f32}

theorem n_pay (hy : ∀ r k, y (ix2 r k) = ((p.m (row t r) k : ℝ) : EReal)) (r : Fin 512) (k : Fin 1024) :
    k0_pay21 (F := Ideal) y (ix2 r k) = ((p.m (row t r) k * rr (p.m (row t r)) : ℝ) : EReal) := by
  have h : k0_pay20 (F := Ideal) y (ix2 r 0) = ((rr (p.m (row t r)) : ℝ) : EReal) := by
    pointwise [k0_pay20, k0_pay19, hy]
    simp only [← EReal.coe_mul, coe_sum, ofBits_1024, ofBits_eps]
    rw [div_real (by norm_num), ← EReal.coe_add, rsqrt_real (ms_pos _)]; rfl
  pointwise [k0_pay21, k0_pay19, hy, h]
  rw [EReal.coe_mul]

theorem dpg_pay (hy : ∀ r k, y (ix2 r k) = ((p.m (row t r) k : ℝ) : EReal)) (hd : ∀ r k, dy (ix2 r k) = ((p.dy (row t r) k : ℝ) : EReal))
    (acc : FVec Ideal S1x1024 .f32) (k : Fin 1024) : k0_pay22 (F := Ideal) dy y acc (ix2 0 k)
      = acc (ix2 0 k) + ((∑ r : Fin 512, p.dy (row t r) k * (p.m (row t r) k * rr (p.m (row t r))) : ℝ) : EReal) := by
  have := n_pay hy
  pointwise [k0_pay22, hd, this]
  simp only [← EReal.coe_mul, coe_sum]

theorem dm_pay (hy : ∀ r k, y (ix2 r k) = ((p.m (row t r) k : ℝ) : EReal)) (hd : ∀ r k, dy (ix2 r k) = ((p.dy (row t r) k : ℝ) : EReal))
    (hg : ∀ k, pg (ix2 0 k) = ((p.pg k : ℝ) : EReal)) (r : Fin 512) (k : Fin 1024) :
    k0_pay23 (F := Ideal) dy y pg (ix2 r k) = ((p.dm (row t r) k : ℝ) : EReal) := by
  have h1 := n_pay hy
  have h : k0_pay20 (F := Ideal) y (ix2 r 0) = ((rr (p.m (row t r)) : ℝ) : EReal) := by
    pointwise [k0_pay20, k0_pay19, hy]
    simp only [← EReal.coe_mul, coe_sum, ofBits_1024, ofBits_eps]
    rw [div_real (by norm_num), ← EReal.coe_add, rsqrt_real (ms_pos _)]; rfl
  pointwise [k0_pay23, hd, h1, h, hg]
  simp only [← EReal.coe_mul, coe_sum, ofBits_1024]
  rw [div_real (by norm_num)]
  simp only [← EReal.coe_mul, ← EReal.coe_sub]
  rfl
end norm

section rows
variable {a b : FVec Ideal S1x512x1024 .bf16}

theorem mean_pay (ha : ∀ r k, a (ix3 0 r k) = ((p.v (row t r) (hc 0 k) : ℝ) : EReal)) (hb : ∀ r k, b (ix3 0 r k) = ((p.v (row t r) (hc 1 k) : ℝ) : EReal))
    (r : Fin 512) : k0_pay26 (F := Ideal) a b (ix2 r 0) = (((∑ l, p.v (row t r) l) / 2048 : ℝ) : EReal) := by
  pointwise [k0_pay26, k0_pay24, k0_pay25, ha, hb]
  simp only [coe_sum, ← EReal.coe_add, ofBits_2048]
  rw [div_real (by norm_num), sum_halves]

theorem cen0_pay (ha : ∀ r k, a (ix3 0 r k) = ((p.v (row t r) (hc 0 k) : ℝ) : EReal)) (hb : ∀ r k, b (ix3 0 r k) = ((p.v (row t r) (hc 1 k) : ℝ) : EReal))
    (r : Fin 512) (k : Fin 1024) : k0_pay27 (F := Ideal) a b (ix2 r k) = ((cen (p.v (row t r)) (hc 0 k) : ℝ) : EReal) := by
  have h := mean_pay ha hb
  pointwise [k0_pay27, k0_pay24, ha, h]
  rw [← EReal.coe_sub]; rfl

theorem cen1_pay (ha : ∀ r k, a (ix3 0 r k) = ((p.v (row t r) (hc 0 k) : ℝ) : EReal)) (hb : ∀ r k, b (ix3 0 r k) = ((p.v (row t r) (hc 1 k) : ℝ) : EReal))
    (r : Fin 512) (k : Fin 1024) : k0_pay28 (F := Ideal) a b (ix2 r k) = ((cen (p.v (row t r)) (hc 1 k) : ℝ) : EReal) := by
  have h := mean_pay ha hb
  pointwise [k0_pay28, k0_pay25, hb, h]
  rw [← EReal.coe_sub]; rfl

theorem rs_pay (ha : ∀ r k, a (ix3 0 r k) = ((p.v (row t r) (hc 0 k) : ℝ) : EReal)) (hb : ∀ r k, b (ix3 0 r k) = ((p.v (row t r) (hc 1 k) : ℝ) : EReal))
    (r : Fin 512) : k0_pay29 (F := Ideal) a b (ix2 r 0) = ((rs (p.v (row t r)) : ℝ) : EReal) := by
  have h0 := cen0_pay ha hb
  have h1 := cen1_pay ha hb
  pointwise [k0_pay29, h0, h1]
  simp only [← EReal.coe_mul, coe_sum, ← EReal.coe_add, ofBits_2048, ofBits_eps]
  rw [div_real (by norm_num), ← EReal.coe_add, ← sum_halves (fun l => cen (p.v (row t r)) l * cen (p.v (row t r)) l)]
  exact rsqrt_real (vr_pos _)

theorem vh0_pay (ha : ∀ r k, a (ix3 0 r k) = ((p.v (row t r) (hc 0 k) : ℝ) : EReal)) (hb : ∀ r k, b (ix3 0 r k) = ((p.v (row t r) (hc 1 k) : ℝ) : EReal))
    (r : Fin 512) (k : Fin 1024) : k0_pay30 (F := Ideal) a b (ix2 r k) = ((p.vh (row t r) (hc 0 k) : ℝ) : EReal) := by
  have h := cen0_pay ha hb
  have h' := rs_pay ha hb
  pointwise [k0_pay30, h, h']
  rw [← EReal.coe_mul]; rfl

theorem vh1_pay (ha : ∀ r k, a (ix3 0 r k) = ((p.v (row t r) (hc 0 k) : ℝ) : EReal)) (hb : ∀ r k, b (ix3 0 r k) = ((p.v (row t r) (hc 1 k) : ℝ) : EReal))
    (r : Fin 512) (k : Fin 1024) : k0_pay31 (F := Ideal) a b (ix2 r k) = ((p.vh (row t r) (hc 1 k) : ℝ) : EReal) := by
  have h := cen1_pay ha hb
  have h' := rs_pay ha hb
  pointwise [k0_pay31, h, h']
  rw [← EReal.coe_mul]; rfl

variable {g c : FVec Ideal S1x1024 .f32}

theorem vl0_pay (ha : ∀ r k, a (ix3 0 r k) = ((p.v (row t r) (hc 0 k) : ℝ) : EReal)) (hb : ∀ r k, b (ix3 0 r k) = ((p.v (row t r) (hc 1 k) : ℝ) : EReal))
    (hg : ∀ k, g (ix2 0 k) = ((p.lg (hc 0 k) : ℝ) : EReal)) (hc' : ∀ k, c (ix2 0 k) = ((p.lb (hc 0 k) : ℝ) : EReal))
    (r : Fin 512) (k : Fin 1024) : k0_pay32 (F := Ideal) a b g c (ix2 r k) = ((p.vl (row t r) (hc 0 k) : ℝ) : EReal) := by
  have h := vh0_pay ha hb
  pointwise [k0_pay32, h, hg, hc']
  rw [← EReal.coe_mul, ← EReal.coe_add]; rfl

theorem vl1_pay {x : FVec Ideal S512x1024 .f32} (hx : ∀ r k, x (ix2 r k) = ((p.vh (row t r) (hc 1 k) : ℝ) : EReal))
    (hg : ∀ k, g (ix2 0 k) = ((p.lg (hc 1 k) : ℝ) : EReal)) (hc' : ∀ k, c (ix2 0 k) = ((p.lb (hc 1 k) : ℝ) : EReal))
    (r : Fin 512) (k : Fin 1024) : k0_pay33 (F := Ideal) x g c (ix2 r k) = ((p.vl (row t r) (hc 1 k) : ℝ) : EReal) := by
  pointwise [k0_pay33, hx, hg, hc']
  rw [← EReal.coe_mul, ← EReal.coe_add]; rfl

theorem u0_pay {b' : Fin 2} (ha : ∀ r k, a (ix3 0 r k) = ((p.u (row t r) (hc b' k) : ℝ) : EReal)) (r : Fin 512) (k : Fin 1024) :
    k0_pay44 (F := Ideal) a (ix2 r k) = ((p.u (row t r) (hc b' k) : ℝ) : EReal) := by
  pointwise [k0_pay44, ha]
theorem u1_pay {b' : Fin 2} (ha : ∀ r k, a (ix3 0 r k) = ((p.u (row t r) (hc b' k) : ℝ) : EReal)) (r : Fin 512) (k : Fin 1024) :
    k0_pay136 (F := Ideal) a (ix2 r k) = ((p.u (row t r) (hc b' k) : ℝ) : EReal) := by
  pointwise [k0_pay136, ha]
end rows

section weights
variable {x : FVec Ideal S1x128x128 .f32} {g : Fin 8}

theorem w34_pay (hx : ∀ t s, x (ix3 0 t s) = ((p.ws g t s : ℝ) : EReal)) (t s : Fin 128) :
    k0_pay34 (F := Ideal) x (ix2 t s) = ((p.w g t s : ℝ) : EReal) := by
  pointwise [k0_pay34, hx]
  rw [sge_ix, select_ofBool, Gmlp.w]
  by_cases e : s.val ≤ t.val <;> simp [e]

theorem w35_pay (hx : ∀ t s, x (ix3 0 t s) = ((p.ws g t s : ℝ) : EReal)) (t s : Fin 128) :
    k0_pay35 (F := Ideal) x (ix2 t s) = ((p.w g t s : ℝ) : EReal) := by
  pointwise [k0_pay35, hx]
  rw [sge_ix, select_ofBool, Gmlp.w]
  by_cases e : s.val ≤ t.val <;> simp [e]

theorem w36_pay (hx : ∀ t s, x (ix3 0 t s) = ((p.ws g t s : ℝ) : EReal)) (t s : Fin 128) :
    k0_pay36 (F := Ideal) x (ix2 t s) = ((p.w g t s : ℝ) : EReal) := by
  pointwise [k0_pay36, hx]
  rw [sge_ix, select_ofBool, Gmlp.w]
  by_cases e : s.val ≤ t.val <;> simp [e]

theorem w37_pay (hx : ∀ t s, x (ix3 0 t s) = ((p.ws g t s : ℝ) : EReal)) (t s : Fin 128) :
    k0_pay37 (F := Ideal) x (ix2 t s) = ((p.w g t s : ℝ) : EReal) := by
  pointwise [k0_pay37, hx]
  rw [sge_ix, select_ofBool, Gmlp.w]
  by_cases e : s.val ≤ t.val <;> simp [e]

theorem w40_pay (hx : ∀ t s, x (ix3 0 t s) = ((p.ws g t s : ℝ) : EReal)) (t s : Fin 128) :
    k0_pay40 (F := Ideal) k0_pay38 (k0_pay39 x) (FloatOps.ofBits .f32 0#32) (ix2 t s) = ((p.w g t s : ℝ) : EReal) := by
  pointwise [k0_pay40, k0_pay38, k0_pay39, hx]
  rw [sge_ix, select_ofBool, Gmlp.w]
  by_cases e : s.val ≤ t.val <;> simp [e]

theorem w41_pay (hx : ∀ t s, x (ix3 0 t s) = ((p.ws g t s : ℝ) : EReal)) (t s : Fin 128) :
    k0_pay41 (F := Ideal) (iota .tc S128x128 32 [0] iota_S128x128_d0_w32) (iota .tc S128x128 32 [1] iota_S128x128_d1_w32) x (ix2 t s) = ((p.w g t s : ℝ) : EReal) := by
  pointwise [k0_pay41, hx]
  rw [sge_ix, select_ofBool, Gmlp.w]
  by_cases e : s.val ≤ t.val <;> simp [e]

theorem w42_pay (hx : ∀ t s, x (ix3 0 t s) = ((p.ws g t s : ℝ) : EReal)) (t s : Fin 128) :
    k0_pay42 (F := Ideal) (iota .tc S128x128 32 [0] iota_S128x128_d0_w32) (iota .tc S128x128 32 [1] iota_S128x128_d1_w32) x (ix2 t s) = ((p.w g t s : ℝ) : EReal) := by
  pointwise [k0_pay42, hx]
  rw [sge_ix, select_ofBool, Gmlp.w]
  by_cases e : s.val ≤ t.val <;> simp [e]

theorem w43_pay (hx : ∀ t s, x (ix3 0 t s) = ((p.ws g t s : ℝ) : EReal)) (t s : Fin 128) :
    k0_pay43 (F := Ideal) (iota .tc S128x128 32 [0] iota_S128x128_d0_w32) (iota .tc S128x128 32 [1] iota_S128x128_d1_w32) x (ix2 t s) = ((p.w g t s : ℝ) : EReal) := by
  pointwise [k0_pay43, hx]
  rw [sge_ix, select_ofBool, Gmlp.w]
  by_cases e : s.val ≤ t.val <;> simp [e]
end weights

section half
variable {b : Fin 2} {dm : FVec Ideal S512x1024 .bf16} {u sv vh dvl : FVec Ideal S512x1024 .f32} {wo : FVec Ideal S1x1024x1024 .bf16}

theorem dgated69_pay (hm : ∀ r k, dm (ix2 r k) = ((p.dm (row t r) k : ℝ) : EReal)) (hw : ∀ j k, wo (ix3 0 j k) = ((p.wo (hc b j) k : ℝ) : EReal)) (r : Fin 512) (j : Fin 1024) :
    k0_pay69 (F := Ideal) dm wo (ix2 r j) = ((p.dgated (row t r) (hc b j) : ℝ) : EReal) := by
  pointwise [k0_pay69, hm, hw]
  simp only [← EReal.coe_mul, coe_sum]; rfl

theorem dgated162_pay (hm : ∀ r k, dm (ix2 r k) = ((p.dm (row t r) k : ℝ) : EReal)) (hw : ∀ j k, wo (ix3 0 j k) = ((p.wo (hc b j) k : ℝ) : EReal)) (r : Fin 512) (j : Fin 1024) :
    k0_pay162 (F := Ideal) dm wo (ix2 r j) = ((p.dgated (row t r) (hc b j) : ℝ) : EReal) := by
  pointwise [k0_pay162, hm, hw]
  simp only [← EReal.coe_mul, coe_sum]; rfl

theorem dsv72_pay (hm : ∀ r k, dm (ix2 r k) = ((p.dm (row t r) k : ℝ) : EReal)) (hw : ∀ j k, wo (ix3 0 j k) = ((p.wo (hc b j) k : ℝ) : EReal)) (hu : ∀ r k, u (ix2 r k) = ((p.u (row t r) (hc b k) : ℝ) : EReal)) (r : Fin 512) (j : Fin 1024) :
    k0_pay72 (F := Ideal) dm u wo (ix2 r j) = ((p.dsv (row t r) (hc b j) : ℝ) : EReal) := by
  have h := dgated69_pay hm hw
  pointwise [k0_pay72, h, hu]
  rw [← EReal.coe_mul]; rfl

theorem dsv165_pay (hm : ∀ r k, dm (ix2 r k) = ((p.dm (row t r) k : ℝ) : EReal)) (hw : ∀ j k, wo (ix3 0 j k) = ((p.wo (hc b j) k : ℝ) : EReal)) (hu : ∀ r k, u (ix2 r k) = ((p.u (row t r) (hc b k) : ℝ) : EReal)) (r : Fin 512) (j : Fin 1024) :
    k0_pay165 (F := Ideal) dm u wo (ix2 r j) = ((p.dsv (row t r) (hc b j) : ℝ) : EReal) := by
  have h := dgated162_pay hm hw
  pointwise [k0_pay165, h, hu]
  rw [← EReal.coe_mul]; rfl

theorem dzu71_pay (hm : ∀ r k, dm (ix2 r k) = ((p.dm (row t r) k : ℝ) : EReal)) (hw : ∀ j k, wo (ix3 0 j k) = ((p.wo (hc b j) k : ℝ) : EReal)) (hsv : ∀ r k, sv (ix2 r k) = ((p.sv (row t r) (hc b k) : ℝ) : EReal)) {s : FVec Ideal S1x512x1024 .bf16}
    (hs : ∀ r k, s (ix3 0 r k) = ((gelu' (p.z (row t r) (lo (hc b k))) : ℝ) : EReal)) (r : Fin 512) (j : Fin 1024) :
    k0_pay71 (F := Ideal) dm sv wo s (ix3 0 r j) = ((p.dzu (row t r) (hc b j) : ℝ) : EReal) := by
  have h := dgated69_pay hm hw
  pointwise [k0_pay71, h, hsv, hs]
  rw [← EReal.coe_mul, ← EReal.coe_mul]; rfl

theorem dzu164_pay (hm : ∀ r k, dm (ix2 r k) = ((p.dm (row t r) k : ℝ) : EReal)) (hw : ∀ j k, wo (ix3 0 j k) = ((p.wo (hc b j) k : ℝ) : EReal)) (hsv : ∀ r k, sv (ix2 r k) = ((p.sv (row t r) (hc b k) : ℝ) : EReal)) {s : FVec Ideal S1x512x1024 .bf16}
    (hs : ∀ r k, s (ix3 0 r k) = ((gelu' (p.z (row t r) (lo (hc b k))) : ℝ) : EReal)) (r : Fin 512) (j : Fin 1024) :
    k0_pay164 (F := Ideal) dm sv wo s (ix3 0 r j) = ((p.dzu (row t r) (hc b j) : ℝ) : EReal) := by
  have h := dgated162_pay hm hw
  pointwise [k0_pay164, h, hsv, hs]
  rw [← EReal.coe_mul, ← EReal.coe_mul]; rfl

theorem dwo70_pay (hm : ∀ r k, dm (ix2 r k) = ((p.dm (row t r) k : ℝ) : EReal)) (hu : ∀ r k, u (ix2 r k) = ((p.u (row t r) (hc b k) : ℝ) : EReal)) (hsv : ∀ r k, sv (ix2 r k) = ((p.sv (row t r) (hc b k) : ℝ) : EReal)) (acc : FVec Ideal S1x1024x1024 .f32) (j k : Fin 1024) :
    k0_pay70 (F := Ideal) dm (k0_pay68 u sv) acc (ix3 0 j k) = acc (ix3 0 j k) + ((∑ r : Fin 512, p.gated (row t r) (hc b j) * p.dm (row t r) k : ℝ) : EReal) := by
  pointwise [k0_pay70, k0_pay68, hm, hu, hsv]
  simp only [← EReal.coe_mul, coe_sum]; rfl

theorem dwo163_pay (hm : ∀ r k, dm (ix2 r k) = ((p.dm (row t r) k : ℝ) : EReal)) (hu : ∀ r k, u (ix2 r k) = ((p.u (row t r) (hc b k) : ℝ) : EReal)) (hsv : ∀ r k, sv (ix2 r k) = ((p.sv (row t r) (hc b k) : ℝ) : EReal)) (acc : FVec Ideal S1x1024x1024 .f32) (j k : Fin 1024) :
    k0_pay163 (F := Ideal) dm u sv acc (ix3 0 j k) = acc (ix3 0 j k) + ((∑ r : Fin 512, p.gated (row t r) (hc b j) * p.dm (row t r) k : ℝ) : EReal) := by
  pointwise [k0_pay163, hm, hu, hsv]
  simp only [← EReal.coe_mul, coe_sum]; rfl

theorem dlg133_pay (hvh : ∀ r k, vh (ix2 r k) = ((p.vh (row t r) (hc b k) : ℝ) : EReal)) (hdvl : ∀ r k, dvl (ix2 r k) = ((p.dvl (row t r) (hc b k) : ℝ) : EReal)) (acc : FVec Ideal S1x1024 .f32) (k : Fin 1024) :
    k0_pay133 (F := Ideal) vh dvl acc (ix2 0 k) = acc (ix2 0 k) + ((∑ r : Fin 512, p.dvl (row t r) (hc b k) * p.vh (row t r) (hc b k) : ℝ) : EReal) := by
  pointwise [k0_pay133, hvh, hdvl]
  simp only [← EReal.coe_mul, coe_sum]

theorem dlg224_pay (hvh : ∀ r k, vh (ix2 r k) = ((p.vh (row t r) (hc b k) : ℝ) : EReal)) (hdvl : ∀ r k, dvl (ix2 r k) = ((p.dvl (row t r) (hc b k) : ℝ) : EReal)) (acc : FVec Ideal S1x1024 .f32) (k : Fin 1024) :
    k0_pay224 (F := Ideal) vh dvl acc (ix2 0 k) = acc (ix2 0 k) + ((∑ r : Fin 512, p.dvl (row t r) (hc b k) * p.vh (row t r) (hc b k) : ℝ) : EReal) := by
  pointwise [k0_pay224, hvh, hdvl]
  simp only [← EReal.coe_mul, coe_sum]

theorem dlb134_pay (hdvl : ∀ r k, dvl (ix2 r k) = ((p.dvl (row t r) (hc b k) : ℝ) : EReal)) (acc : FVec Ideal S1x1024 .f32) (k : Fin 1024) :
    k0_pay134 (F := Ideal) dvl acc (ix2 0 k) = acc (ix2 0 k) + ((∑ r : Fin 512, p.dvl (row t r) (hc b k) : ℝ) : EReal) := by
  pointwise [k0_pay134, hdvl]
  simp only [coe_sum]

theorem dlb225_pay (hdvl : ∀ r k, dvl (ix2 r k) = ((p.dvl (row t r) (hc b k) : ℝ) : EReal)) (acc : FVec Ideal S1x1024 .f32) (k : Fin 1024) :
    k0_pay225 (F := Ideal) dvl acc (ix2 0 k) = acc (ix2 0 k) + ((∑ r : Fin 512, p.dvl (row t r) (hc b k) : ℝ) : EReal) := by
  pointwise [k0_pay225, hdvl]
  simp only [coe_sum]
end half

section norm_gradient
variable {rsd : FVec Ideal S512x1 .f32} {vh0 vh1 dvl0 dvl1 : FVec Ideal S512x1024 .f32} {g0 g1 : FVec Ideal S1x1024 .f32} {s : FVec Ideal S1x512x1024 .bf16}
  (hr : ∀ r, rsd (ix2 r 0) = ((rs (p.v (row t r)) : ℝ) : EReal))
  (hh0 : ∀ r k, vh0 (ix2 r k) = ((p.vh (row t r) (hc 0 k) : ℝ) : EReal)) (hh1 : ∀ r k, vh1 (ix2 r k) = ((p.vh (row t r) (hc 1 k) : ℝ) : EReal))
  (hd0 : ∀ r k, dvl0 (ix2 r k) = ((p.dvl (row t r) (hc 0 k) : ℝ) : EReal)) (hd1 : ∀ r k, dvl1 (ix2 r k) = ((p.dvl (row t r) (hc 1 k) : ℝ) : EReal))
  (hg0 : ∀ k, g0 (ix2 0 k) = ((p.lg (hc 0 k) : ℝ) : EReal)) (hg1 : ∀ k, g1 (ix2 0 k) = ((p.lg (hc 1 k) : ℝ) : EReal))
include hr hh0 hh1 hd0 hd1 hg0 hg1

theorem mean_d_pay (r : Fin 512) : k0_pay227 (F := Ideal) (k0_pay135 dvl0 g0) dvl1 g1 (ix2 r 0)
    = (((∑ l, p.dvl (row t r) l * p.lg l) / 2048 : ℝ) : EReal) := by
  pointwise [k0_pay227, k0_pay226, k0_pay135, hd0, hd1, hg0, hg1]
  simp only [← EReal.coe_mul, coe_sum, ← EReal.coe_add, ofBits_2048]
  rw [div_real (by norm_num), sum_halves]

theorem mean_dn_pay (r : Fin 512) : k0_pay228 (F := Ideal) vh0 vh1 (k0_pay135 dvl0 g0) dvl1 g1 (ix2 r 0)
    = (((∑ l, p.dvl (row t r) l * p.lg l * nrm (p.v (row t r)) l) / 2048 : ℝ) : EReal) := by
  pointwise [k0_pay228, k0_pay226, k0_pay135, hd0, hd1, hg0, hg1, hh0, hh1]
  simp only [← EReal.coe_mul, coe_sum, ← EReal.coe_add, ofBits_2048]
  rw [div_real (by norm_num), sum_halves]; rfl

theorem dzv0_pay (hs : ∀ r k, s (ix3 0 r k) = ((gelu' (p.z (row t r) (hi (hc 0 k))) : ℝ) : EReal)) (r : Fin 512) (k : Fin 1024) :
    k0_pay229 (F := Ideal) rsd vh0 vh1 (k0_pay135 dvl0 g0) dvl1 g1 s (ix3 0 r k) = ((p.dzv (row t r) (hc 0 k) : ℝ) : EReal) := by
  have h1 := mean_d_pay hr hh0 hh1 hd0 hd1 hg0 hg1
  have h2 := mean_dn_pay hr hh0 hh1 hd0 hd1 hg0 hg1
  have h3 : ∀ r k, k0_pay135 (F := Ideal) dvl0 g0 (ix2 r k) = ((p.dvl (row t r) (hc 0 k) * p.lg (hc 0 k) : ℝ) : EReal) := fun r k => by
    pointwise [k0_pay135, hd0, hg0]; rw [EReal.coe_mul]
  pointwise [k0_pay229, h1, h2, h3, hr, hh0, hs]
  simp only [← EReal.coe_mul, ← EReal.coe_sub]; rfl

theorem dzv1_pay (hs : ∀ r k, s (ix3 0 r k) = ((gelu' (p.z (row t r) (hi (hc 1 k))) : ℝ) : EReal)) (r : Fin 512) (k : Fin 1024) :
    k0_pay1 (F := Ideal) (k0_pay230 rsd vh0 vh1 (k0_pay135 dvl0 g0) dvl1 g1) s (ix3 0 r k) = ((p.dzv (row t r) (hc 1 k) : ℝ) : EReal) := by
  have h1 := mean_d_pay hr hh0 hh1 hd0 hd1 hg0 hg1
  have h2 := mean_dn_pay hr hh0 hh1 hd0 hd1 hg0 hg1
  pointwise [k0_pay1, k0_pay230, k0_pay226, h1, h2, hr, hh1, hd1, hg1, hs]
  simp only [← EReal.coe_mul, ← EReal.coe_sub]; rfl
end norm_gradient

end Cert.AHiddenIdeal.Val

end
-- ==== Proof.AHiddenRefValue.lean ====
/-
  The results of the reference of `mix_a_bwd_hidden`, entry by entry, on real arguments.
-/
module

public import proofs.«01_k».proof.Proof.Gmlp
public import proofs.«01_k».proof.Proof.Gen.AHiddenRefIdeal.Read
public import Idealize.ShloMosaic.Lib.Pointwise

@[expose] public section

set_option maxRecDepth 16384

noncomputable section

namespace Cert.AHiddenRefIdeal.Val

open Idealize.ShloMosaic Idealize.ShloMosaic.TcCoe Idealize.SL.Sem
open Cert.AHiddenRefIdeal Cert.AHiddenRefIdeal.Gen Cert.AHiddenRefIdeal.Read Cert.Lift

/-- The arguments are real numbers. -/
structure Args (x0 : FVec Ideal S8192x4096 .f32) (x1 x2 : FVec Ideal S2048 .f32) (x3 : FVec Ideal S8x128x128 .f32) (x4 : FVec Ideal S8x128 .f32)
    (x5 : FVec Ideal S2048x1024 .f32) (x6 : FVec Ideal S1024 .f32) (x7 : FVec Ideal S8192x1024 .f32) (p : Gmlp) : Prop where
  z : ∀ i j, x0 (ix2 i j) = ((p.z i j : ℝ) : EReal)
  lg : ∀ j, x1 (ix1 j) = ((p.lg j : ℝ) : EReal)
  lb : ∀ j, x2 (ix1 j) = ((p.lb j : ℝ) : EReal)
  ws : ∀ g t s, x3 (ix3 g t s) = ((p.ws g t s : ℝ) : EReal)
  bs : ∀ g t, x4 (ix2 g t) = ((p.bs g t : ℝ) : EReal)
  wo : ∀ j k, x5 (ix2 j k) = ((p.wo j k : ℝ) : EReal)
  pg : ∀ k, x6 (ix1 k) = ((p.pg k : ℝ) : EReal)
  dy : ∀ i k, x7 (ix2 i k) = ((p.dy i k : ℝ) : EReal)

variable {x0 : FVec Ideal S8192x4096 .f32} {x1 x2 : FVec Ideal S2048 .f32} {x3 : FVec Ideal S8x128x128 .f32} {x4 : FVec Ideal S8x128 .f32}
  {x5 : FVec Ideal S2048x1024 .f32} {x6 : FVec Ideal S1024 .f32} {x7 : FVec Ideal S8192x1024 .f32} {p : Gmlp}

theorem v4 (a : Args x0 x1 x2 x3 x4 x5 x6 x7 p) (i : Fin 8192) (j : Fin 4096) :
    val_main_v4 (F := Ideal) x0 (ix2 i j) = ((p.z i j / Real.sqrt 2 : ℝ) : EReal) := by
  have h := a.z
  pointwise [val_main_v4, val_main_v3, val_main_v2, val_main_cst_0, h]
  rw [ofBits_two, sqrt_real (by norm_num), div_real (by positivity)]

theorem v16 (a : Args x0 x1 x2 x3 x4 x5 x6 x7 p) (i : Fin 8192) (j : Fin 4096) :
    val_main_v16 (F := Ideal) x0 (ix2 i j) = ((1 + erfR (p.z i j / Real.sqrt 2) : ℝ) : EReal) := by
  have h := v4 a
  pointwise [val_main_v16, val_main_v15, val_main_v5, val_main_cst_4, h]
  rw [erf_real, ← EReal.coe_one, ← EReal.coe_add]

theorem v1 (a : Args x0 x1 x2 x3 x4 x5 x6 x7 p) (i : Fin 8192) (j : Fin 4096) :
    val_main_v1 (F := Ideal) x0 (ix2 i j) = ((1 / 2 * p.z i j : ℝ) : EReal) := by
  have h := a.z
  pointwise [val_main_v1, val_main_v0, val_main_cst, h]
  rw [ofBits_half, ← EReal.coe_mul]

theorem v17 (a : Args x0 x1 x2 x3 x4 x5 x6 x7 p) (i : Fin 8192) (j : Fin 4096) :
    val_main_v17 (F := Ideal) x0 (ix2 i j) = ((gelu (p.z i j) : ℝ) : EReal) := by
  have h1 := v1 a
  have h16 := v16 a
  pointwise [val_main_v17, h1, h16]
  rw [← EReal.coe_mul, gelu_eq]

theorem v14 (a : Args x0 x1 x2 x3 x4 x5 x6 x7 p) (i : Fin 8192) (j : Fin 4096) :
    val_main_v14 (F := Ideal) x0 (ix2 i j)
      = ((2 / Real.sqrt (4 * Real.arctan 1) * Real.exp (-(p.z i j / Real.sqrt 2 * (p.z i j / Real.sqrt 2))) : ℝ) : EReal) := by
  have h := v4 a
  have ha : 0 < Real.arctan 1 := by rw [Real.arctan_one]; positivity
  pointwise [val_main_v14, val_main_v13, val_main_v12, val_main_v11, val_main_v10, val_main_v9, val_main_v8, val_main_v7, val_main_v6, val_main_cst_1, val_main_cst_2, val_main_cst_3, h]
  rw [ofBits_two, ofBits_four, ← EReal.coe_one, atan_real, ← EReal.coe_mul, sqrt_real (by positivity), div_real (by positivity), ← EReal.coe_mul, ← EReal.coe_neg, Ideal.exp_coe, ← EReal.coe_mul]

theorem u_real (a : Args x0 x1 x2 x3 x4 x5 x6 x7 p) (i : Fin 8192) (j : Fin 2048) :
    val_main_v18 (F := Ideal) x0 (ix2 i j) = ((p.u i j : ℝ) : EReal) := by
  have h := v17 a
  pointwise [val_main_v18, h]
  try rfl

theorem v_real (a : Args x0 x1 x2 x3 x4 x5 x6 x7 p) (i : Fin 8192) (j : Fin 2048) :
    val_main_v19 (F := Ideal) x0 (ix2 i j) = ((p.v i j : ℝ) : EReal) := by
  have h := v17 a
  pointwise [val_main_v19, h]
  try rfl

theorem v25 (a : Args x0 x1 x2 x3 x4 x5 x6 x7 p) (i : Fin 8192) (j : Fin 2048) :
    val_main_v25 (F := Ideal) x0 (ix2 i j) = ((cen (p.v i) j : ℝ) : EReal) := by
  have h := v_real a
  pointwise [val_main_v25, val_main_v24, val_main_v23, val_main_v22, val_main_v21, val_main_v20, val_main_cst_5, val_main_cst_6, h]
  rw [coe_sum, ofBits_2048, div_real (by norm_num), ← EReal.coe_sub]; rfl

theorem v32 (a : Args x0 x1 x2 x3 x4 x5 x6 x7 p) (i : Fin 8192) :
    val_main_v32 (F := Ideal) x0 (ix2 i 0) = ((vr (p.v i) + eps : ℝ) : EReal) := by
  have h := v25 a
  pointwise [val_main_v32, val_main_v31, val_main_v30, val_main_v29, val_main_v28, val_main_v27, val_main_v26, val_main_cst_7, val_main_cst_8, val_main_cst_9, h]
  simp only [← EReal.coe_mul, coe_sum, ofBits_2048, ofBits_eps]
  rw [div_real (by norm_num), ← EReal.coe_add]; rfl

theorem v33 (a : Args x0 x1 x2 x3 x4 x5 x6 x7 p) (i : Fin 8192) :
    val_main_v33 (F := Ideal) x0 (ix2 i 0) = ((rs (p.v i) : ℝ) : EReal) := by
  have h := v32 a i
  pointwise [val_main_v33, h]
  rw [rsqrt_real (vr_pos _)]; rfl

theorem v36 (a : Args x0 x1 x2 x3 x4 x5 x6 x7 p) (i : Fin 8192) :
    val_main_v36 (F := Ideal) x0 (ix2 i 0) = ((-(1 / 2) * (rs (p.v i) / (vr (p.v i) + eps)) : ℝ) : EReal) := by
  have h := v32 a i
  have h' := v33 a i
  pointwise [val_main_v36, val_main_v35, val_main_v34, val_main_cst_10, h, h']
  rw [div_real (vr_pos _).ne', ofBits_neg_half, ← EReal.coe_mul]

theorem vh_real (a : Args x0 x1 x2 x3 x4 x5 x6 x7 p) (i : Fin 8192) (j : Fin 2048) :
    val_main_v38 (F := Ideal) x0 (ix2 i j) = ((p.vh i j : ℝ) : EReal) := by
  have h := v25 a
  have h' := v33 a
  pointwise [val_main_v38, val_main_v37, h, h']
  rw [← EReal.coe_mul]; rfl

theorem vl_real (a : Args x0 x1 x2 x3 x4 x5 x6 x7 p) (i : Fin 8192) (j : Fin 2048) :
    val_main_v44 (F := Ideal) x0 x1 x2 (ix2 i j) = ((p.vl i j : ℝ) : EReal) := by
  have h := vh_real a
  have h1 := a.lg
  have h2 := a.lb
  pointwise [val_main_v44, val_main_v43, val_main_v42, val_main_v41, val_main_v40, val_main_v39, h, h1, h2]
  rw [← EReal.coe_mul, ← EReal.coe_add]; rfl

theorem v45 (a : Args x0 x1 x2 x3 x4 x5 x6 x7 p) (n : Fin 64) (s : Fin 128) (g : Fin 8) (d : Fin 256) :
    val_main_v45 (F := Ideal) x0 x1 x2 (ix4 n s g d) = ((p.vl (rw' n s) (cg g d) : ℝ) : EReal) := by
  have h := vl_real a
  pointwise [val_main_v45, h]

theorem v46 (a : Args x0 x1 x2 x3 x4 x5 x6 x7 p) (n : Fin 64) (s : Fin 128) (g : Fin 8) (d : Fin 256) :
    val_main_v46 (F := Ideal) x0 (ix4 n s g d) = ((p.u (rw' n s) (cg g d) : ℝ) : EReal) := by
  have h := u_real a
  pointwise [val_main_v46, h]

theorem v51 (a : Args x0 x1 x2 x3 x4 x5 x6 x7 p) (g : Fin 8) (t s : Fin 128) :
    val_main_v51_0 (F := Ideal) x3 (ix3 g t s) = ((p.w g t s : ℝ) : EReal) := by
  have h := a.ws
  pointwise [val_main_v51_0, val_main_v51_1, val_main_v50, val_main_v49, val_main_v48, val_main_v47, val_main_c, val_main_call0_v0, val_main_call0_v1, val_main_call0_v2, val_main_call0_v3, val_main_call0_v4, val_main_call0_v5, val_main_call0_c, val_main_call0_c_0, val_main_cst_11, h]
  rw [IntOp.addi, BitVec.add_zero, sge_ix, select_ofBool, Gmlp.w]
  by_cases e : s.val ≤ t.val <;> simp [e, Scalar.select]

theorem sv_real (a : Args x0 x1 x2 x3 x4 x5 x6 x7 p) (n : Fin 64) (s : Fin 128) (g : Fin 8) (d : Fin 256) :
    val_main_v57 (F := Ideal) x0 x1 x2 x3 x4 (ix4 n s g d) = ((p.sv (rw' n s) (cg g d) : ℝ) : EReal) := by
  have h := v45 a
  have hw := v51 a
  have hb := a.bs
  pointwise [val_main_v57, val_main_v56, val_main_v55, val_main_v54, val_main_v53, val_main_v52, h, hw, hb]
  simp only [← EReal.coe_mul, coe_sum, ← EReal.coe_add]
  rw [Gmlp.sv, gp_cg, pos_rw]
  simp only [ch_rw, mul_comm]

theorem v59 (a : Args x0 x1 x2 x3 x4 x5 x6 x7 p) (i : Fin 8192) (j : Fin 2048) :
    val_main_v59 (F := Ideal) x0 x1 x2 x3 x4 (ix2 i j) = ((p.gated i j : ℝ) : EReal) := by
  have h := sv_real a
  have hu := v46 a
  pointwise [val_main_v59, val_main_v58, h, hu]
  rw [← EReal.coe_mul, rw_split, cg_split]; rfl

theorem m_real (a : Args x0 x1 x2 x3 x4 x5 x6 x7 p) (i : Fin 8192) (k : Fin 1024) :
    val_main_v60 (F := Ideal) x0 x1 x2 x3 x4 x5 (ix2 i k) = ((p.m i k : ℝ) : EReal) := by
  have h0 := v59 a
  have h1 := a.wo
  pointwise [val_main_v60, h0, h1]
  simp only [← EReal.coe_mul, coe_sum]; rfl

theorem v67 (a : Args x0 x1 x2 x3 x4 x5 x6 x7 p) (i : Fin 8192) :
    val_main_v67 (F := Ideal) x0 x1 x2 x3 x4 x5 (ix2 i 0) = (((∑ k, p.m i k * p.m i k) / 1024 + eps : ℝ) : EReal) := by
  have h0 := m_real a
  pointwise [val_main_v67, val_main_v66, val_main_v65, val_main_v64, val_main_v63, val_main_v62, val_main_v61, val_main_cst_12, val_main_cst_13, val_main_cst_14, h0]
  simp only [← EReal.coe_mul, coe_sum, ofBits_1024, ofBits_eps]
  rw [div_real (by norm_num), ← EReal.coe_add]

theorem v68 (a : Args x0 x1 x2 x3 x4 x5 x6 x7 p) (i : Fin 8192) :
    val_main_v68 (F := Ideal) x0 x1 x2 x3 x4 x5 (ix2 i 0) = ((rr (p.m i) : ℝ) : EReal) := by
  have h0 := v67 a i
  pointwise [val_main_v68, h0]
  rw [rsqrt_real (ms_pos _)]; rfl

theorem v73 (a : Args x0 x1 x2 x3 x4 x5 x6 x7 p) (i : Fin 8192) (k : Fin 1024) :
    val_main_v73 (F := Ideal) x0 x1 x2 x3 x4 x5 (ix2 i k) = ((p.m i k * rr (p.m i) : ℝ) : EReal) := by
  have h0 := v68 a
  have h1 := m_real a
  pointwise [val_main_v73, val_main_v72, h0, h1]
  rw [EReal.coe_mul]

theorem v81 (a : Args x0 x1 x2 x3 x4 x5 x6 x7 p) (i : Fin 8192) (k : Fin 1024) :
    val_main_v81 (F := Ideal) x6 x7 (ix2 i k) = ((p.dy i k * p.pg k : ℝ) : EReal) := by
  have h0 := a.dy
  have h1 := a.pg
  pointwise [val_main_v81, val_main_v80, val_main_v74, h0, h1]
  rw [EReal.coe_mul]

theorem v90 (a : Args x0 x1 x2 x3 x4 x5 x6 x7 p) (i : Fin 8192) :
    val_main_v90 (F := Ideal) x0 x1 x2 x3 x4 x5 x6 x7 (ix2 i 0) = (((∑ l, p.m i l * (p.dy i l * p.pg l)) * (-(1 / 2) * (rr (p.m i) / ((∑ k, p.m i k * p.m i k) / 1024 + eps))) / 1024 : ℝ) : EReal) := by
  have h0 := v67 a i
  have h1 := v68 a i
  have h2 := v81 a
  have h3 := m_real a
  pointwise [val_main_v90, val_main_v89, val_main_v88, val_main_v85, val_main_v84, val_main_v83, val_main_v71, val_main_v70, val_main_v69, val_main_cst_18, val_main_cst_19, val_main_cst_15, h0, h1, h2, h3]
  simp only [← EReal.coe_mul, coe_sum, ofBits_1024, ofBits_neg_half]
  rw [div_real (ms_pos _).ne', ← EReal.coe_mul, ← EReal.coe_mul, div_real (by norm_num)]

theorem dm_real (a : Args x0 x1 x2 x3 x4 x5 x6 x7 p) (i : Fin 8192) (k : Fin 1024) :
    val_main_v96 (F := Ideal) x0 x1 x2 x3 x4 x5 x6 x7 (ix2 i k) = ((p.dm i k : ℝ) : EReal) := by
  have h0 := v68 a
  have h1 := v81 a
  have h2 := v90 a
  have h3 := m_real a
  pointwise [val_main_v96, val_main_v95, val_main_v94, val_main_v93, val_main_v92, val_main_v91, val_main_v87, val_main_v86, val_main_cst_20, h0, h1, h2, h3]
  rw [Fin.sum_univ_one, h2, Gmlp.dm, ← dnorm_eq, EReal.coe_add, EReal.coe_add, ← add_assoc]
  simp only [EReal.coe_mul]

theorem dwo_real (a : Args x0 x1 x2 x3 x4 x5 x6 x7 p) (j : Fin 2048) (k : Fin 1024) :
    val_main_v98 (F := Ideal) x0 x1 x2 x3 x4 x5 x6 x7 (ix2 j k) = ((p.dwo j k : ℝ) : EReal) := by
  have h0 := dm_real a
  have h1 := v59 a
  pointwise [val_main_v98, val_main_v97, h0, h1]
  simp only [← EReal.coe_mul, coe_sum]
  exact congrArg _ (Finset.sum_congr rfl fun i _ => mul_comm _ _)

theorem dgated_real (a : Args x0 x1 x2 x3 x4 x5 x6 x7 p) (i : Fin 8192) (j : Fin 2048) :
    val_main_v99 (F := Ideal) x0 x1 x2 x3 x4 x5 x6 x7 (ix2 i j) = ((p.dgated i j : ℝ) : EReal) := by
  have h0 := dm_real a
  have h1 := a.wo
  pointwise [val_main_v99, h0, h1]
  simp only [← EReal.coe_mul, coe_sum]; rfl

theorem v101 (a : Args x0 x1 x2 x3 x4 x5 x6 x7 p) (n : Fin 64) (s : Fin 128) (g : Fin 8) (d : Fin 256) :
    val_main_v101 (F := Ideal) x0 x1 x2 x3 x4 x5 x6 x7 (ix4 n s g d) = ((p.dsv (rw' n s) (cg g d) : ℝ) : EReal) := by
  have h0 := dgated_real a
  have h1 := v46 a
  pointwise [val_main_v101, val_main_v100, h0, h1]
  rw [← EReal.coe_mul, mul_comm]; rfl

theorem v102 (a : Args x0 x1 x2 x3 x4 x5 x6 x7 p) (n : Fin 64) (s : Fin 128) (g : Fin 8) (d : Fin 256) :
    val_main_v102 (F := Ideal) x0 x1 x2 x3 x4 x5 x6 x7 (ix4 n s g d) = ((p.dgated (rw' n s) (cg g d) * p.sv (rw' n s) (cg g d) : ℝ) : EReal) := by
  have h0 := dgated_real a
  have h1 := sv_real a
  pointwise [val_main_v102, val_main_v100, h0, h1]
  rw [← EReal.coe_mul]

theorem v112 (a : Args x0 x1 x2 x3 x4 x5 x6 x7 p) (i : Fin 8192) (j : Fin 2048) :
    val_main_v112 (F := Ideal) x0 x1 x2 x3 x4 x5 x6 x7 (ix2 i j) = ((p.dgated i j * p.sv i j : ℝ) : EReal) := by
  have h0 := v102 a
  pointwise [val_main_v112, h0]
  rw [rw_split, cg_split]

theorem dbs_real (a : Args x0 x1 x2 x3 x4 x5 x6 x7 p) (g : Fin 8) (t : Fin 128) :
    val_main_v106 (F := Ideal) x0 x1 x2 x3 x4 x5 x6 x7 (ix2 g t) = ((p.dbs t g : ℝ) : EReal) := by
  have h0 := v101 a
  pointwise [val_main_v106, val_main_v105, val_main_v104, val_main_v103, val_main_cst_21, val_main_cst_22, h0]
  refine (hostReduceAdd_first_last _ _ _ _ _).trans ?_
  pointwise [Fin.sum_univ_one]
  refine (hostReduceAdd_first_last _ _ _ _ _).trans ?_
  pointwise [h0]
  simp only [coe_sum]; rfl

theorem v113 (a : Args x0 x1 x2 x3 x4 x5 x6 x7 p) (i : Fin 8192) (j : Fin 2048) :
    val_main_v113 (F := Ideal) x0 x1 x2 x3 x4 x5 x6 x7 (ix2 i j) = ((p.dvl i j : ℝ) : EReal) := by
  have h0 := v101 a
  have h1 := v51 a
  pointwise [val_main_v113, val_main_v110, val_main_v109, val_main_v107, h0, h1]
  simp only [← EReal.coe_mul, coe_sum]
  refine congrArg _ (Finset.sum_congr rfl fun x _ => ?_)
  rw [cg_split]; exact mul_comm _ _

theorem v111 (a : Args x0 x1 x2 x3 x4 x5 x6 x7 p) (g : Fin 8) (t s : Fin 128) :
    val_main_v111 (F := Ideal) x0 x1 x2 x3 x4 x5 x6 x7 (ix3 g t s) = ((p.dws g t s : ℝ) : EReal) := by
  have h0 := v101 a
  have h1 := v45 a
  pointwise [val_main_v111, val_main_v108, val_main_v107, val_main_v51_1, val_main_v49, val_main_v48, val_main_v47, val_main_c, val_main_call0_v0, val_main_call0_v1, val_main_call0_v2, val_main_call0_v3, val_main_call0_v4, val_main_call0_v5, val_main_call0_c, val_main_call0_c_0, val_main_call2_v0, val_main_call2_cst, h0, h1]
  rw [IntOp.addi, BitVec.add_zero, sge_ix, select_ofBool, Gmlp.dws]
  simp only [← EReal.coe_mul, coe_sum]
  by_cases e : s.val ≤ t.val <;> simp [e, Scalar.select]

theorem v116 (a : Args x0 x1 x2 x3 x4 x5 x6 x7 p) (j : Fin 2048) :
    val_main_v116 (F := Ideal) x0 x1 x2 x3 x4 x5 x6 x7 (ix1 j) = ((p.dlb j : ℝ) : EReal) := by
  have h0 := v113 a
  pointwise [val_main_v116, val_main_v115, val_main_v114, val_main_cst_23, val_main_cst_24, h0]
  simp only [← EReal.coe_mul, coe_sum, Fin.sum_univ_one]; rfl

theorem v122 (a : Args x0 x1 x2 x3 x4 x5 x6 x7 p) (j : Fin 2048) :
    val_main_v122 (F := Ideal) x0 x1 x2 x3 x4 x5 x6 x7 (ix1 j) = ((p.dlg j : ℝ) : EReal) := by
  have h0 := v113 a
  have h1 := vh_real a
  pointwise [val_main_v122, val_main_v119, val_main_v118, val_main_v117, val_main_cst_25, val_main_cst_26, h0, h1]
  simp only [← EReal.coe_mul, coe_sum, Fin.sum_univ_one]
  exact congrArg _ (Finset.sum_congr rfl fun i _ => mul_comm _ _)

theorem v121 (a : Args x0 x1 x2 x3 x4 x5 x6 x7 p) (i : Fin 8192) (j : Fin 2048) :
    val_main_v121 (F := Ideal) x0 x1 x2 x3 x4 x5 x6 x7 (ix2 i j) = ((p.dvl i j * p.lg j : ℝ) : EReal) := by
  have h0 := v113 a
  have h1 := a.lg
  pointwise [val_main_v121, val_main_v120, val_main_v39, h0, h1]
  rw [← EReal.coe_mul]

theorem v130 (a : Args x0 x1 x2 x3 x4 x5 x6 x7 p) (i : Fin 8192) :
    val_main_v130 (F := Ideal) x0 x1 x2 x3 x4 x5 x6 x7 (ix2 i 0) = (((∑ l, cen (p.v i) l * (p.dvl i l * p.lg l)) * (-(1 / 2) * (rs (p.v i) / (vr (p.v i) + eps))) / 2048 : ℝ) : EReal) := by
  have h0 := v25 a
  have h1 := v121 a
  have h2 := v36 a
  pointwise [val_main_v130, val_main_v129, val_main_v128, val_main_v125, val_main_v124, val_main_v123, val_main_cst_27, val_main_cst_28, h0, h1, h2]
  simp only [← EReal.coe_mul, coe_sum, ofBits_2048]
  rw [div_real (by norm_num)]

theorem v136 (a : Args x0 x1 x2 x3 x4 x5 x6 x7 p) (i : Fin 8192) (j : Fin 2048) :
    val_main_v136 (F := Ideal) x0 x1 x2 x3 x4 x5 x6 x7 (ix2 i j) = ((dcen (p.v i) (fun l => p.dvl i l * p.lg l) j : ℝ) : EReal) := by
  have h0 := v25 a
  have h1 := v121 a
  have h2 := v33 a
  have h3 := v130 a
  pointwise [val_main_v136, val_main_v135, val_main_v134, val_main_v133, val_main_v132, val_main_v131, val_main_v127, val_main_v126, val_main_cst_29, h0, h1, h2, h3]
  rw [Fin.sum_univ_one, h3, dcen, EReal.coe_add, EReal.coe_add, ← add_assoc]
  simp only [EReal.coe_mul]

theorem v144 (a : Args x0 x1 x2 x3 x4 x5 x6 x7 p) (i : Fin 8192) (j : Fin 2048) :
    val_main_v144 (F := Ideal) x0 x1 x2 x3 x4 x5 x6 x7 (ix2 i j) = ((p.dv i j : ℝ) : EReal) := by
  have h0 := v136 a
  pointwise [val_main_v144, val_main_v143, val_main_v142, val_main_v141, val_main_v140, val_main_v139, val_main_v138, val_main_v137, val_main_cst_30, val_main_cst_31, val_main_cst_32, h0]
  simp only [← EReal.coe_neg, coe_sum, ofBits_2048, Fin.sum_univ_one]
  rw [div_real (by norm_num), ← EReal.coe_add, dln_eq]; rfl

theorem v145 (a : Args x0 x1 x2 x3 x4 x5 x6 x7 p) (i : Fin 8192) (j : Fin 4096) :
    val_main_v145 (F := Ideal) x0 x1 x2 x3 x4 x5 x6 x7 (ix2 i j) = ((if h : j.val < 2048 then p.dgated i ⟨j.val, h⟩ * p.sv i ⟨j.val, h⟩ else p.dv i ⟨j.val - 2048, by omega⟩ : ℝ) : EReal) := by
  have h0 := v112 a
  have h1 := v144 a
  pointwise [val_main_v145, h0, h1]
  by_cases e : j.val < 2048 <;> simp only [e, dif_pos, dif_neg, not_false_eq_true]

theorem v153 (a : Args x0 x1 x2 x3 x4 x5 x6 x7 p) (i : Fin 8192) (j : Fin 4096) :
    val_main_v153 (F := Ideal) x0 x1 x2 x3 x4 x5 x6 x7 (ix2 i j) = ((p.dz i j : ℝ) : EReal) := by
  have h0 := v145 a
  have h1 := v1 a
  have h2 := v16 a
  have h3 := v14 a
  pointwise [val_main_v153, val_main_v152, val_main_v151, val_main_v150, val_main_v149, val_main_v148, val_main_v147, val_main_v146, val_main_v2, val_main_cst_0, val_main_cst_33, h0, h1, h2, h3]
  rw [ofBits_two, sqrt_real (by norm_num), ofBits_half, ← EReal.coe_mul, ← EReal.coe_mul, ← EReal.coe_mul, ← EReal.coe_mul, div_real (by positivity), ← EReal.coe_add, gelu'_eq, Gmlp.dz]
  by_cases h : j.val < 2048
  · rw [dif_pos h, dif_pos h]; rfl
  · rw [dif_neg h, dif_neg h, Gmlp.dzv, show hi ⟨j.val - 2048, by omega⟩ = j from Fin.ext (by show 2048 + (j.val - 2048) = j.val; omega)]

theorem v156 (a : Args x0 x1 x2 x3 x4 x5 x6 x7 p) (b : Fin 4) (i : Fin 8192) (k : Fin 1024) :
    val_main_v156 (F := Ideal) x0 x1 x2 x3 x4 x5 x6 x7 (ix3 b i k) = ((p.dz i (col b k) : ℝ) : EReal) := by
  have h0 := v153 a
  pointwise [val_main_v156, val_main_v155, val_main_v154, h0]

theorem v157 (a : Args x0 x1 x2 x3 x4 x5 x6 x7 p) (b : Fin 2) (j k : Fin 1024) :
    val_main_v157 (F := Ideal) x0 x1 x2 x3 x4 x5 x6 x7 (ix3 b j k) = ((p.dwo ⟨b.val * 1024 + j.val, by omega⟩ k : ℝ) : EReal) := by
  have h0 := dwo_real a
  pointwise [val_main_v157, h0]

theorem v158 (a : Args x0 x1 x2 x3 x4 x5 x6 x7 p) (t : Fin 128) (g : Fin 8) :
    val_main_v158 (F := Ideal) x0 x1 x2 x3 x4 x5 x6 x7 (ix2 t g) = ((p.dbs t g : ℝ) : EReal) := by
  have h0 := dbs_real a
  pointwise [val_main_v158, h0]

theorem v159 (a : Args x0 x1 x2 x3 x4 x5 x6 x7 p) (b : Fin 2) (j : Fin 1024) :
    val_main_v159 (F := Ideal) x0 x1 x2 x3 x4 x5 x6 x7 (ix2 b j) = ((p.dlg ⟨b.val * 1024 + j.val, by omega⟩ : ℝ) : EReal) := by
  have h0 := v122 a
  pointwise [val_main_v159, h0]

theorem v160 (a : Args x0 x1 x2 x3 x4 x5 x6 x7 p) (b : Fin 2) (j : Fin 1024) :
    val_main_v160 (F := Ideal) x0 x1 x2 x3 x4 x5 x6 x7 (ix2 b j) = ((p.dlb ⟨b.val * 1024 + j.val, by omega⟩ : ℝ) : EReal) := by
  have h0 := v116 a
  pointwise [val_main_v160, h0]

theorem v161 (a : Args x0 x1 x2 x3 x4 x5 x6 x7 p) (k : Fin 1024) :
    val_main_v161 (F := Ideal) x0 x1 x2 x3 x4 x5 x7 (ix2 0 k) = ((p.dpg k : ℝ) : EReal) := by
  have h0 := v73 a
  have h1 := a.dy
  pointwise [val_main_v161, val_main_v82, val_main_v79, val_main_v78, val_main_v77, val_main_cst_16, val_main_cst_17, h0, h1]
  simp only [← EReal.coe_mul, coe_sum, Fin.sum_univ_one]
  exact congrArg _ (Finset.sum_congr rfl fun i _ => mul_comm _ _)

end Cert.AHiddenRefIdeal.Val

end
-- ==== Proof.AHiddenHost.lean ====
/-
  What the kernel of `mix_a_bwd_hidden` reads: its blocks, from the arguments and from the saved forward values.
-/
module

public import proofs.«01_k».proof.Proof.AHiddenReads
public import proofs.«01_k».proof.Proof.AHiddenRefValue
public import Idealize.ShloMosaic.Lib.StableHlo.ReadAt

@[expose] public section

set_option maxRecDepth 16384

noncomputable section

namespace Cert.AHiddenIdeal.Val

open Idealize.ShloMosaic Idealize.ShloMosaic.TcCoe Idealize.SL.Sem
open Cert.AHiddenIdeal Cert.AHiddenIdeal.Gen Cert.Lift

variable (m : (ℓ : Loc nD τ sig) → Buf (Elt Ideal) ℓ)

abbrev a0 (c : Dev nD) : FVec Ideal S8192x4096 .f32 := m ((c.tc : Thread nD τ).loc main_arg0)
abbrev a1 (c : Dev nD) : FVec Ideal S2048 .f32 := m ((c.tc : Thread nD τ).loc main_arg1)
abbrev a2 (c : Dev nD) : FVec Ideal S2048 .f32 := m ((c.tc : Thread nD τ).loc main_arg2)
abbrev a3 (c : Dev nD) : FVec Ideal S8x128x128 .f32 := m ((c.tc : Thread nD τ).loc main_arg3)
abbrev a4 (c : Dev nD) : FVec Ideal S8x128 .f32 := m ((c.tc : Thread nD τ).loc main_arg4)
abbrev a5 (c : Dev nD) : FVec Ideal S2048x1024 .f32 := m ((c.tc : Thread nD τ).loc main_arg5)

/-- The saved forward product is the reference's. -/
theorem V_m (c : Dev nD) : (V m c main_v70 : FVec Ideal S8192x1024 .f32)
    = Cert.AHiddenRefIdeal.Read.val_main_v60 (F := Ideal) (a0 m c) (a1 m c) (a2 m c) (a3 m c) (a4 m c) (a5 m c) := by
  unfold V a0 a1 a2 a3 a4 a5
  after_reads_simp
  rfl

/-- The activation and its slope, saved half by half. -/
theorem V_act (c : Dev nD) (b : Fin 4) (i : Fin 8192) (k : Fin 1024) :
    (V m c main_v74 : FVec Ideal S4x8192x1024 .bf16) (ix3 b i k) = a0 m c (ix2 i (col b k)) * (Ideal.ofBits .f32 0x3F000000#32
      * (1 + Ideal.erf (a0 m c (ix2 i (col b k)) * Ideal.div 1 (Ideal.sqrt (Ideal.ofBits .f32 0x40000000#32))))) := by
  unfold V a0; after_reads_at
theorem V_slope (c : Dev nD) (b : Fin 4) (i : Fin 8192) (k : Fin 1024) :
    (V m c main_v77 : FVec Ideal S4x8192x1024 .bf16) (ix3 b i k) = Ideal.ofBits .f32 0x3F000000#32
      * (1 + Ideal.erf (a0 m c (ix2 i (col b k)) * Ideal.div 1 (Ideal.sqrt (Ideal.ofBits .f32 0x40000000#32))))
      + a0 m c (ix2 i (col b k)) * (Ideal.exp (Ideal.ofBits .f32 0xBF000000#32 * a0 m c (ix2 i (col b k)) * a0 m c (ix2 i (col b k)))
        * Ideal.div 1 (Ideal.sqrt (Ideal.ofBits .f32 0x41000000#32 * Ideal.atan 1))) := by
  unfold V a0; after_reads_at

theorem idx : ∀ t : Fin cfg0.N, win0_0.index t = ![t.val, 0] ∧ win0_1.index t = ![t.val, 0] ∧ win0_2.index t = ![0, 0]
    ∧ win0_3.index t = ![0, t.val, 0] ∧ win0_4.index t = ![0, t.val, 0] ∧ win0_5.index t = ![0, 0] ∧ win0_6.index t = ![0, 0]
    ∧ win0_7.index t = ![0, 0, 0] ∧ win0_8.index t = ![0, 0] ∧ win0_9.index t = ![0, 0, 0] ∧ win0_10.index t = ![0, t.val, 0]
    ∧ win0_11.index t = ![0, 0, 0] ∧ win0_12.index t = ![0, 0, 0] ∧ win0_13.index t = ![0, 0] ∧ win0_14.index t = ![0, 0]
    ∧ win0_15.index t = ![0, 0] ∧ win0_16.index t = ![0, 0] :=
  (by decide +kernel : ∀ t : Fin grid0.N, _)

theorem blk_dy (c : Dev nD) (t : Fin cfg0.N) (r : Fin 512) (k : Fin 1024) :
    iblk m c 0 t (ix2 r k) = m ((c.tc : Thread nD τ).loc main_arg7) (ix2 (row t r) k) := by
  have h : iblk m c 0 t (ix2 r k) = (V m c main_arg7 : FVec Ideal S8192x1024 .f32) (ix2 (row t r) k) := by blk_point [iblk, idx t]
  rw [h, V_main_arg7]
theorem blk_m (c : Dev nD) (t : Fin cfg0.N) (r : Fin 512) (k : Fin 1024) :
    iblk m c 1 t (ix2 r k) = (V m c main_v70 : FVec Ideal S8192x1024 .f32) (ix2 (row t r) k) := by
  blk_point [iblk, idx t]
theorem V_pg (c : Dev nD) (k : Fin 1024) :
    (V m c main_v71 : FVec Ideal S1x1024 .f32) (ix2 0 k) = m ((c.tc : Thread nD τ).loc main_arg6) (ix1 k) := by
  unfold V; after_reads_at
theorem blk_pg (c : Dev nD) (t : Fin cfg0.N) (k : Fin 1024) :
    iblk m c 2 t (ix2 0 k) = m ((c.tc : Thread nD τ).loc main_arg6) (ix1 k) := by
  have h : iblk m c 2 t (ix2 0 k) = (V m c main_v71 : FVec Ideal S1x1024 .f32) (ix2 0 k) := by blk_point [iblk, idx t]
  exact h.trans (V_pg m c k)
theorem blk_act (c : Dev nD) (t : Fin cfg0.N) (b : Fin 4) (r : Fin 512) (k : Fin 1024) :
    iblk m c 3 t (ix3 b r k) = (V m c main_v74 : FVec Ideal S4x8192x1024 .bf16) (ix3 b (row t r) k) := by
  blk_point [iblk, idx t]
theorem blk_slope (c : Dev nD) (t : Fin cfg0.N) (b : Fin 4) (r : Fin 512) (k : Fin 1024) :
    iblk m c 4 t (ix3 b r k) = (V m c main_v77 : FVec Ideal S4x8192x1024 .bf16) (ix3 b (row t r) k) := by
  blk_point [iblk, idx t]
theorem V_lg (c : Dev nD) (b : Fin 2) (k : Fin 1024) :
    (V m c main_v78 : FVec Ideal S2x1024 .f32) (ix2 b k) = m ((c.tc : Thread nD τ).loc main_arg1) (ix1 (hc b k)) := by
  unfold V; after_reads_at
theorem blk_lg (c : Dev nD) (t : Fin cfg0.N) (b : Fin 2) (k : Fin 1024) :
    iblk m c 5 t (ix2 b k) = m ((c.tc : Thread nD τ).loc main_arg1) (ix1 (hc b k)) := by
  have h : iblk m c 5 t (ix2 b k) = (V m c main_v78 : FVec Ideal S2x1024 .f32) (ix2 b k) := by blk_point [iblk, idx t]
  exact h.trans (V_lg m c b k)
theorem V_lb (c : Dev nD) (b : Fin 2) (k : Fin 1024) :
    (V m c main_v79 : FVec Ideal S2x1024 .f32) (ix2 b k) = m ((c.tc : Thread nD τ).loc main_arg2) (ix1 (hc b k)) := by
  unfold V; after_reads_at
theorem blk_lb (c : Dev nD) (t : Fin cfg0.N) (b : Fin 2) (k : Fin 1024) :
    iblk m c 6 t (ix2 b k) = m ((c.tc : Thread nD τ).loc main_arg2) (ix1 (hc b k)) := by
  have h : iblk m c 6 t (ix2 b k) = (V m c main_v79 : FVec Ideal S2x1024 .f32) (ix2 b k) := by blk_point [iblk, idx t]
  exact h.trans (V_lb m c b k)
theorem blk_ws (c : Dev nD) (t : Fin cfg0.N) (g : Fin 8) (r s : Fin 128) :
    iblk m c 7 t (ix3 g r s) = m ((c.tc : Thread nD τ).loc main_arg3) (ix3 g r s) := by
  have h : iblk m c 7 t (ix3 g r s) = (V m c main_arg3 : FVec Ideal S8x128x128 .f32) (ix3 g r s) := by blk_point [iblk, idx t]
  rw [h, V_main_arg3]
theorem V_bs (c : Dev nD) (g : Fin 8) (r : Fin 128) :
    (V m c main_v80 : FVec Ideal S128x8 .f32) (ix2 r g) = m ((c.tc : Thread nD τ).loc main_arg4) (ix2 g r) := by
  unfold V; after_reads_at
theorem blk_bs (c : Dev nD) (t : Fin cfg0.N) (g : Fin 8) (r : Fin 128) :
    iblk m c 8 t (ix2 r g) = m ((c.tc : Thread nD τ).loc main_arg4) (ix2 g r) := by
  have h : iblk m c 8 t (ix2 r g) = (V m c main_v80 : FVec Ideal S128x8 .f32) (ix2 r g) := by blk_point [iblk, idx t]
  exact h.trans (V_bs m c g r)
theorem V_wo (c : Dev nD) (b : Fin 2) (j k : Fin 1024) :
    (V m c main_v82 : FVec Ideal S2x1024x1024 .bf16) (ix3 b j k) = m ((c.tc : Thread nD τ).loc main_arg5) (ix2 (hc b j) k) := by
  unfold V; after_reads_at
theorem blk_wo (c : Dev nD) (t : Fin cfg0.N) (b : Fin 2) (j k : Fin 1024) :
    iblk m c 9 t (ix3 b j k) = m ((c.tc : Thread nD τ).loc main_arg5) (ix2 (hc b j) k) := by
  have h : iblk m c 9 t (ix3 b j k) = (V m c main_v82 : FVec Ideal S2x1024x1024 .bf16) (ix3 b j k) := by blk_point [iblk, idx t]
  exact h.trans (V_wo m c b j k)

/-- The arguments are real numbers. -/
abbrev Args (c : Dev nD) (p : Gmlp) : Prop :=
  Cert.AHiddenRefIdeal.Val.Args (a0 m c) (a1 m c) (a2 m c) (a3 m c) (a4 m c) (a5 m c)
    (m ((c.tc : Thread nD τ).loc main_arg6)) (m ((c.tc : Thread nD τ).loc main_arg7)) p

variable {m} {c : Dev nD} {p : Gmlp}

theorem one_sqrt {x : ℝ} (h : 0 < x) : Ideal.div 1 (Ideal.sqrt (x : EReal)) = ((1 / Real.sqrt x : ℝ) : EReal) := by
  rw [sqrt_real h.le, ← EReal.coe_one, div_real (Real.sqrt_ne_zero'.mpr h)]

theorem act_real (a : Args m c p) (b : Fin 4) (i : Fin 8192) (k : Fin 1024) :
    (V m c main_v74 : FVec Ideal S4x8192x1024 .bf16) (ix3 b i k) = ((gelu (p.z i (col b k)) : ℝ) : EReal) := by
  refine (V_act m c b i k).trans ?_
  rw [a.z, ofBits_two, ofBits_half, one_sqrt (by norm_num), ← EReal.coe_mul, erf_real, ← EReal.coe_one]
  simp only [← EReal.coe_mul, ← EReal.coe_add]; rfl

theorem slope_real (a : Args m c p) (b : Fin 4) (i : Fin 8192) (k : Fin 1024) :
    (V m c main_v77 : FVec Ideal S4x8192x1024 .bf16) (ix3 b i k) = ((gelu' (p.z i (col b k)) : ℝ) : EReal) := by
  refine (V_slope m c b i k).trans ?_
  rw [a.z, ofBits_two, ofBits_half, ofBits_neg_half, ofBits_eight, one_sqrt (by norm_num), ← EReal.coe_one, atan_real, EReal.coe_one, ← EReal.coe_mul 8,
    one_sqrt (by have := Real.arctan_pos.mpr one_pos; positivity), ← EReal.coe_mul, erf_real, ← EReal.coe_one]
  simp only [← EReal.coe_mul, ← EReal.coe_add, Ideal.exp_coe]; rfl

end Cert.AHiddenIdeal.Val
-- ==== Proof.AHiddenOperands.lean ====
/-
  `mix_a_bwd_hidden`: the operands of the kernel's stores, entry by entry, on real arguments.
-/
module

public import proofs.«01_k».proof.Proof.AHiddenPay
public import proofs.«01_k».proof.Proof.AHiddenHost

@[expose] public section

set_option maxRecDepth 16384

noncomputable section

namespace Cert.AHiddenIdeal.Val

open Idealize.ShloMosaic Idealize.ShloMosaic.TcCoe Idealize.SL.Sem
open Cert.AHiddenIdeal Cert.AHiddenIdeal.Gen Cert.Lift

variable {m : (ℓ : Loc nD τ sig) → Buf (Elt Ideal) ℓ} {c : Dev nD} {p : Gmlp}

/-! ### Slices of the blocks -/

theorem ld_act (a : Args m c p) (t : Fin cfg0.N) (b : Fin 4)
    (h : ∀ i, (![b.val, 0, 0] : Fin 3 → ℕ) i + (![1, 512, 1024] : Fin 3 → ℕ) i ≤ S4x512x1024.size i) (r : Fin 512) (k : Fin 1024) :
    View.ld (Val := Elt Ideal) (e' := EltTy.bf16) (iblk m c 3 t) (Rect.unit ![b.val, 0, 0] ![1, 512, 1024] h) (ix3 0 r k)
      = ((gelu (p.z (row t r) (col b k)) : ℝ) : EReal) :=
  (congrArg (iblk m c 3 t) (show (Rect.unit ![b.val, 0, 0] ![1, 512, 1024] h).emb (ix3 0 r k) = ix3 b r k by blk_ext)).trans ((blk_act m c t b r k).trans (act_real a b _ k))
theorem ld_slope (a : Args m c p) (t : Fin cfg0.N) (b : Fin 4)
    (h : ∀ i, (![b.val, 0, 0] : Fin 3 → ℕ) i + (![1, 512, 1024] : Fin 3 → ℕ) i ≤ S4x512x1024.size i) (r : Fin 512) (k : Fin 1024) :
    View.ld (Val := Elt Ideal) (e' := EltTy.bf16) (iblk m c 4 t) (Rect.unit ![b.val, 0, 0] ![1, 512, 1024] h) (ix3 0 r k)
      = ((gelu' (p.z (row t r) (col b k)) : ℝ) : EReal) :=
  (congrArg (iblk m c 4 t) (show (Rect.unit ![b.val, 0, 0] ![1, 512, 1024] h).emb (ix3 0 r k) = ix3 b r k by blk_ext)).trans ((blk_slope m c t b r k).trans (slope_real a b _ k))
theorem ld_lg (a : Args m c p) (t : Fin cfg0.N) (b : Fin 2)
    (h : ∀ i, (![b.val, 0] : Fin 2 → ℕ) i + (![1, 1024] : Fin 2 → ℕ) i ≤ S2x1024.size i) (k : Fin 1024) :
    View.ld (Val := Elt Ideal) (e' := EltTy.f32) (iblk m c 5 t) (Rect.unit ![b.val, 0] ![1, 1024] h) (ix2 0 k) = ((p.lg (hc b k) : ℝ) : EReal) :=
  (congrArg (iblk m c 5 t) (show (Rect.unit ![b.val, 0] ![1, 1024] h).emb (ix2 0 k) = ix2 b k by blk_ext)).trans ((blk_lg m c t b k).trans (a.lg _))
theorem ld_lb (a : Args m c p) (t : Fin cfg0.N) (b : Fin 2)
    (h : ∀ i, (![b.val, 0] : Fin 2 → ℕ) i + (![1, 1024] : Fin 2 → ℕ) i ≤ S2x1024.size i) (k : Fin 1024) :
    View.ld (Val := Elt Ideal) (e' := EltTy.f32) (iblk m c 6 t) (Rect.unit ![b.val, 0] ![1, 1024] h) (ix2 0 k) = ((p.lb (hc b k) : ℝ) : EReal) :=
  (congrArg (iblk m c 6 t) (show (Rect.unit ![b.val, 0] ![1, 1024] h).emb (ix2 0 k) = ix2 b k by blk_ext)).trans ((blk_lb m c t b k).trans (a.lb _))
theorem ld_ws (a : Args m c p) (t : Fin cfg0.N) (g : Fin 8)
    (h : ∀ i, (![g.val, 0, 0] : Fin 3 → ℕ) i + (![1, 128, 128] : Fin 3 → ℕ) i ≤ S8x128x128.size i) (r s : Fin 128) :
    View.ld (Val := Elt Ideal) (e' := EltTy.f32) (iblk m c 7 t) (Rect.unit ![g.val, 0, 0] ![1, 128, 128] h) (ix3 0 r s)
      = ((p.ws g r s : ℝ) : EReal) :=
  (congrArg (iblk m c 7 t) (show (Rect.unit ![g.val, 0, 0] ![1, 128, 128] h).emb (ix3 0 r s) = ix3 g r s by blk_ext)).trans ((blk_ws m c t g r s).trans (a.ws _ _ _))
theorem ld_bs (a : Args m c p) (t : Fin cfg0.N) (g : Fin 8)
    (h : ∀ i, (![0, g.val] : Fin 2 → ℕ) i + (![128, 1] : Fin 2 → ℕ) i ≤ S128x8.size i) (r : Fin 128) :
    View.ld (Val := Elt Ideal) (e' := EltTy.f32) (iblk m c 8 t) (Rect.unit ![0, g.val] ![128, 1] h) (ix2 r 0) = ((p.bs g r : ℝ) : EReal) :=
  (congrArg (iblk m c 8 t) (show (Rect.unit ![0, g.val] ![128, 1] h).emb (ix2 r 0) = ix2 r g by blk_ext)).trans ((blk_bs m c t g r).trans (a.bs _ _))
theorem ld_wo (a : Args m c p) (t : Fin cfg0.N) (b : Fin 2)
    (h : ∀ i, (![b.val, 0, 0] : Fin 3 → ℕ) i + (![1, 1024, 1024] : Fin 3 → ℕ) i ≤ S2x1024x1024.size i) (j k : Fin 1024) :
    View.ld (Val := Elt Ideal) (e' := EltTy.bf16) (iblk m c 9 t) (Rect.unit ![b.val, 0, 0] ![1, 1024, 1024] h) (ix3 0 j k)
      = ((p.wo (hc b j) k : ℝ) : EReal) :=
  (congrArg (iblk m c 9 t) (show (Rect.unit ![b.val, 0, 0] ![1, 1024, 1024] h).emb (ix3 0 j k) = ix3 b j k by blk_ext)).trans ((blk_wo m c t b j k).trans (a.wo _ _))

theorem dy_real (a : Args m c p) (t : Fin cfg0.N) (r : Fin 512) (k : Fin 1024) : iblk m c 0 t (ix2 r k) = ((p.dy (row t r) k : ℝ) : EReal) :=
  (blk_dy m c t r k).trans (a.dy _ _)
theorem m_real (a : Args m c p) (t : Fin cfg0.N) (r : Fin 512) (k : Fin 1024) : iblk m c 1 t (ix2 r k) = ((p.m (row t r) k : ℝ) : EReal) :=
  (blk_m m c t r k).trans ((congrFun (V_m m c) _).trans (Cert.AHiddenRefIdeal.Val.m_real a _ k))
theorem pg_real (a : Args m c p) (t : Fin cfg0.N) (k : Fin 1024) : iblk m c 2 t (ix2 0 k) = ((p.pg k : ℝ) : EReal) :=
  (blk_pg m c t k).trans (a.pg _)

theorem ld_u0 (a : Args m c p) (t : Fin cfg0.N) (r : Fin 512) (k : Fin 1024) :
    View.ld (Val := Elt Ideal) (e' := EltTy.bf16) (iblk m c 3 t) (Rect.unit ![0, 0, 0] ![1, 512, 1024] inb_S4x512x1024_S1x512x1024_0_0_0) (ix3 0 r k)
      = ((p.u (row t r) (hc 0 k) : ℝ) : EReal) := ld_act a t 0 _ r k
theorem ld_u1 (a : Args m c p) (t : Fin cfg0.N) (r : Fin 512) (k : Fin 1024) :
    View.ld (Val := Elt Ideal) (e' := EltTy.bf16) (iblk m c 3 t) (Rect.unit ![1, 0, 0] ![1, 512, 1024] inb_S4x512x1024_S1x512x1024_1_0_0) (ix3 0 r k)
      = ((p.u (row t r) (hc 1 k) : ℝ) : EReal) := ld_act a t 1 _ r k
theorem hi_col0 (k : Fin 1024) : col 2 k = hi (hc 0 k) := by
  apply Fin.ext; show 2 * 1024 + k.val = 2048 + (0 * 1024 + k.val); omega
theorem ld_v0 (a : Args m c p) (t : Fin cfg0.N) (r : Fin 512) (k : Fin 1024) :
    View.ld (Val := Elt Ideal) (e' := EltTy.bf16) (iblk m c 3 t) (Rect.unit ![2, 0, 0] ![1, 512, 1024] inb_S4x512x1024_S1x512x1024_2_0_0) (ix3 0 r k)
      = ((p.v (row t r) (hc 0 k) : ℝ) : EReal) := by
  refine (ld_act a t 2 _ r k).trans ?_; rw [hi_col0]; rfl
theorem ld_sv0 (a : Args m c p) (t : Fin cfg0.N) (r : Fin 512) (k : Fin 1024) :
    View.ld (Val := Elt Ideal) (e' := EltTy.bf16) (iblk m c 4 t) (Rect.unit ![2, 0, 0] ![1, 512, 1024] inb_S4x512x1024_S1x512x1024_2_0_0) (ix3 0 r k)
      = ((gelu' (p.z (row t r) (hi (hc 0 k))) : ℝ) : EReal) := by
  refine (ld_slope a t 2 _ r k).trans ?_; rw [hi_col0]
theorem hi_col1 (k : Fin 1024) : col 3 k = hi (hc 1 k) := by
  apply Fin.ext; show 3 * 1024 + k.val = 2048 + (1 * 1024 + k.val); omega
theorem ld_v1 (a : Args m c p) (t : Fin cfg0.N) (r : Fin 512) (k : Fin 1024) :
    View.ld (Val := Elt Ideal) (e' := EltTy.bf16) (iblk m c 3 t) (Rect.unit ![3, 0, 0] ![1, 512, 1024] inb_S4x512x1024_S1x512x1024_3_0_0) (ix3 0 r k)
      = ((p.v (row t r) (hc 1 k) : ℝ) : EReal) := by
  refine (ld_act a t 3 _ r k).trans ?_; rw [hi_col1]; rfl
theorem ld_sv1 (a : Args m c p) (t : Fin cfg0.N) (r : Fin 512) (k : Fin 1024) :
    View.ld (Val := Elt Ideal) (e' := EltTy.bf16) (iblk m c 4 t) (Rect.unit ![3, 0, 0] ![1, 512, 1024] inb_S4x512x1024_S1x512x1024_3_0_0) (ix3 0 r k)
      = ((gelu' (p.z (row t r) (hi (hc 1 k))) : ℝ) : EReal) := by
  refine (ld_slope a t 3 _ r k).trans ?_; rw [hi_col1]

/-! ### What is computed from them -/

theorem DM (a : Args m c p) (t : Fin cfg0.N) (r : Fin 512) (k : Fin 1024) :
    k0_pay23 (F := Ideal) (iblk m c 0 t) (iblk m c 1 t) (iblk m c 2 t) (ix2 r k) = ((p.dm (row t r) k : ℝ) : EReal) :=
  dm_pay (m_real a t) (dy_real a t) (pg_real a t) r k
theorem RS (a : Args m c p) (t : Fin cfg0.N) (r : Fin 512) :
    k0_pay29 (F := Ideal) (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0)) (ix2 r 0) = ((rs (p.v (row t r)) : ℝ) : EReal) :=
  rs_pay (ld_v0 a t) (ld_v1 a t) r
theorem VH0 (a : Args m c p) (t : Fin cfg0.N) (r : Fin 512) (k : Fin 1024) :
    k0_pay30 (F := Ideal) (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0)) (ix2 r k) = ((p.vh (row t r) (hc 0 k) : ℝ) : EReal) :=
  vh0_pay (ld_v0 a t) (ld_v1 a t) r k
theorem VH1 (a : Args m c p) (t : Fin cfg0.N) (r : Fin 512) (k : Fin 1024) :
    k0_pay31 (F := Ideal) (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0)) (ix2 r k) = ((p.vh (row t r) (hc 1 k) : ℝ) : EReal) :=
  vh1_pay (ld_v0 a t) (ld_v1 a t) r k
theorem VL0 (a : Args m c p) (t : Fin cfg0.N) (r : Fin 512) (k : Fin 1024) :
    k0_pay32 (F := Ideal) (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0)) (View.ld (iblk m c 5 t) (Rect.unit ![0, 0] ![1, 1024] inb_S2x1024_S1x1024_0_0)) (View.ld (iblk m c 6 t) (Rect.unit ![0, 0] ![1, 1024] inb_S2x1024_S1x1024_0_0)) (ix2 r k) = ((p.vl (row t r) (hc 0 k) : ℝ) : EReal) :=
  vl0_pay (ld_v0 a t) (ld_v1 a t) (ld_lg a t 0 _) (ld_lb a t 0 _) r k
theorem VL1 (a : Args m c p) (t : Fin cfg0.N) (r : Fin 512) (k : Fin 1024) :
    k0_pay33 (F := Ideal) (k0_pay31 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (View.ld (iblk m c 5 t) (Rect.unit ![1, 0] ![1, 1024] inb_S2x1024_S1x1024_1_0)) (View.ld (iblk m c 6 t) (Rect.unit ![1, 0] ![1, 1024] inb_S2x1024_S1x1024_1_0)) (ix2 r k) = ((p.vl (row t r) (hc 1 k) : ℝ) : EReal) :=
  vl1_pay (VH1 a t) (ld_lg a t 1 _) (ld_lb a t 1 _) r k
theorem U0 (a : Args m c p) (t : Fin cfg0.N) (r : Fin 512) (k : Fin 1024) :
    k0_pay44 (F := Ideal) (View.ld (iblk m c 3 t) (Rect.unit ![0, 0, 0] ![1, 512, 1024] inb_S4x512x1024_S1x512x1024_0_0_0)) (ix2 r k) = ((p.u (row t r) (hc 0 k) : ℝ) : EReal) :=
  u0_pay (ld_u0 a t) r k
theorem U1 (a : Args m c p) (t : Fin cfg0.N) (r : Fin 512) (k : Fin 1024) :
    k0_pay136 (F := Ideal) (View.ld (iblk m c 3 t) (Rect.unit ![1, 0, 0] ![1, 512, 1024] inb_S4x512x1024_S1x512x1024_1_0_0)) (ix2 r k) = ((p.u (row t r) (hc 1 k) : ℝ) : EReal) :=
  u1_pay (ld_u1 a t) r k
theorem D0 (a : Args m c p) (t : Fin cfg0.N) (r : Fin 512) (k : Fin 1024) :
    k0_pay72 (F := Ideal) (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0)) (ix2 r k) = ((p.dsv (row t r) (hc 0 k) : ℝ) : EReal) :=
  dsv72_pay (DM a t) (ld_wo a t 0 _) (U0 a t) r k
theorem D1 (a : Args m c p) (t : Fin cfg0.N) (r : Fin 512) (k : Fin 1024) :
    k0_pay165 (F := Ideal) (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0)) (ix2 r k) = ((p.dsv (row t r) (hc 1 k) : ℝ) : EReal) :=
  dsv165_pay (DM a t) (ld_wo a t 1 _) (U1 a t) r k
theorem W0 (a : Args m c p) (t : Fin cfg0.N) (r s : Fin 128) :
    k0_pay34 (F := Ideal) (View.ld (iblk m c 7 t) (Rect.unit ![0, 0, 0] ![1, 128, 128] inb_S8x128x128_S1x128x128_0_0_0)) (ix2 r s) = ((p.w (gb 0 0) r s : ℝ) : EReal) :=
  w34_pay (ld_ws a t 0 _) r s
theorem B0 (a : Args m c p) (t : Fin cfg0.N) (r : Fin 128) :
    View.ld (Val := Elt Ideal) (e' := EltTy.f32) (iblk m c 8 t) (Rect.unit ![0, 0] ![128, 1] inb_S128x8_S128x1_0_0) (ix2 r 0)
      = ((p.bs (gb 0 0) r : ℝ) : EReal) := ld_bs a t 0 _ r
theorem W1 (a : Args m c p) (t : Fin cfg0.N) (r s : Fin 128) :
    k0_pay35 (F := Ideal) (View.ld (iblk m c 7 t) (Rect.unit ![1, 0, 0] ![1, 128, 128] inb_S8x128x128_S1x128x128_1_0_0)) (ix2 r s) = ((p.w (gb 0 1) r s : ℝ) : EReal) :=
  w35_pay (ld_ws a t 1 _) r s
theorem B1 (a : Args m c p) (t : Fin cfg0.N) (r : Fin 128) :
    View.ld (Val := Elt Ideal) (e' := EltTy.f32) (iblk m c 8 t) (Rect.unit ![0, 1] ![128, 1] inb_S128x8_S128x1_0_1) (ix2 r 0)
      = ((p.bs (gb 0 1) r : ℝ) : EReal) := ld_bs a t 1 _ r
theorem W2 (a : Args m c p) (t : Fin cfg0.N) (r s : Fin 128) :
    k0_pay36 (F := Ideal) (View.ld (iblk m c 7 t) (Rect.unit ![2, 0, 0] ![1, 128, 128] inb_S8x128x128_S1x128x128_2_0_0)) (ix2 r s) = ((p.w (gb 0 2) r s : ℝ) : EReal) :=
  w36_pay (ld_ws a t 2 _) r s
theorem B2 (a : Args m c p) (t : Fin cfg0.N) (r : Fin 128) :
    View.ld (Val := Elt Ideal) (e' := EltTy.f32) (iblk m c 8 t) (Rect.unit ![0, 2] ![128, 1] inb_S128x8_S128x1_0_2) (ix2 r 0)
      = ((p.bs (gb 0 2) r : ℝ) : EReal) := ld_bs a t 2 _ r
theorem W3 (a : Args m c p) (t : Fin cfg0.N) (r s : Fin 128) :
    k0_pay37 (F := Ideal) (View.ld (iblk m c 7 t) (Rect.unit ![3, 0, 0] ![1, 128, 128] inb_S8x128x128_S1x128x128_3_0_0)) (ix2 r s) = ((p.w (gb 0 3) r s : ℝ) : EReal) :=
  w37_pay (ld_ws a t 3 _) r s
theorem B3 (a : Args m c p) (t : Fin cfg0.N) (r : Fin 128) :
    View.ld (Val := Elt Ideal) (e' := EltTy.f32) (iblk m c 8 t) (Rect.unit ![0, 3] ![128, 1] inb_S128x8_S128x1_0_3) (ix2 r 0)
      = ((p.bs (gb 0 3) r : ℝ) : EReal) := ld_bs a t 3 _ r
theorem W4 (a : Args m c p) (t : Fin cfg0.N) (r s : Fin 128) :
    k0_pay40 (F := Ideal) k0_pay38 (k0_pay39 (View.ld (iblk m c 7 t) (Rect.unit ![4, 0, 0] ![1, 128, 128] inb_S8x128x128_S1x128x128_4_0_0))) (FloatOps.ofBits .f32 0#32) (ix2 r s) = ((p.w (gb 1 0) r s : ℝ) : EReal) :=
  w40_pay (ld_ws a t 4 _) r s
theorem B4 (a : Args m c p) (t : Fin cfg0.N) (r : Fin 128) :
    View.ld (Val := Elt Ideal) (e' := EltTy.f32) (iblk m c 8 t) (Rect.unit ![0, 4] ![128, 1] inb_S128x8_S128x1_0_4) (ix2 r 0)
      = ((p.bs (gb 1 0) r : ℝ) : EReal) := ld_bs a t 4 _ r
theorem W5 (a : Args m c p) (t : Fin cfg0.N) (r s : Fin 128) :
    k0_pay41 (F := Ideal) (iota .tc S128x128 32 [0] iota_S128x128_d0_w32) (iota .tc S128x128 32 [1] iota_S128x128_d1_w32) (View.ld (iblk m c 7 t) (Rect.unit ![5, 0, 0] ![1, 128, 128] inb_S8x128x128_S1x128x128_5_0_0)) (ix2 r s) = ((p.w (gb 1 1) r s : ℝ) : EReal) :=
  w41_pay (ld_ws a t 5 _) r s
theorem B5 (a : Args m c p) (t : Fin cfg0.N) (r : Fin 128) :
    View.ld (Val := Elt Ideal) (e' := EltTy.f32) (iblk m c 8 t) (Rect.unit ![0, 5] ![128, 1] inb_S128x8_S128x1_0_5) (ix2 r 0)
      = ((p.bs (gb 1 1) r : ℝ) : EReal) := ld_bs a t 5 _ r
theorem W6 (a : Args m c p) (t : Fin cfg0.N) (r s : Fin 128) :
    k0_pay42 (F := Ideal) (iota .tc S128x128 32 [0] iota_S128x128_d0_w32) (iota .tc S128x128 32 [1] iota_S128x128_d1_w32) (View.ld (iblk m c 7 t) (Rect.unit ![6, 0, 0] ![1, 128, 128] inb_S8x128x128_S1x128x128_6_0_0)) (ix2 r s) = ((p.w (gb 1 2) r s : ℝ) : EReal) :=
  w42_pay (ld_ws a t 6 _) r s
theorem B6 (a : Args m c p) (t : Fin cfg0.N) (r : Fin 128) :
    View.ld (Val := Elt Ideal) (e' := EltTy.f32) (iblk m c 8 t) (Rect.unit ![0, 6] ![128, 1] inb_S128x8_S128x1_0_6) (ix2 r 0)
      = ((p.bs (gb 1 2) r : ℝ) : EReal) := ld_bs a t 6 _ r
theorem W7 (a : Args m c p) (t : Fin cfg0.N) (r s : Fin 128) :
    k0_pay43 (F := Ideal) (iota .tc S128x128 32 [0] iota_S128x128_d0_w32) (iota .tc S128x128 32 [1] iota_S128x128_d1_w32) (View.ld (iblk m c 7 t) (Rect.unit ![7, 0, 0] ![1, 128, 128] inb_S8x128x128_S1x128x128_7_0_0)) (ix2 r s) = ((p.w (gb 1 3) r s : ℝ) : EReal) :=
  w43_pay (ld_ws a t 7 _) r s
theorem B7 (a : Args m c p) (t : Fin cfg0.N) (r : Fin 128) :
    View.ld (Val := Elt Ideal) (e' := EltTy.f32) (iblk m c 8 t) (Rect.unit ![0, 7] ![128, 1] inb_S128x8_S128x1_0_7) (ix2 r 0)
      = ((p.bs (gb 1 3) r : ℝ) : EReal) := ld_bs a t 7 _ r

end Cert.AHiddenIdeal.Val
-- ==== Proof.AHiddenValue.lean ====
/-
  `mix_a_bwd_hidden`: what the kernel leaves in its results, entry by entry, on real arguments. Here the results
  that are stored half by half; the spatial weights' and biases' gradients are in AHiddenSpatial.
-/
module

public import proofs.«01_k».proof.Proof.AHiddenOperands

@[expose] public section

set_option maxRecDepth 16384

noncomputable section

namespace Cert.AHiddenIdeal.Val

open Idealize.ShloMosaic Idealize.ShloMosaic.TcCoe Idealize.SL.Sem
open Cert.AHiddenIdeal Cert.AHiddenIdeal.Gen Cert.Lift

variable {m : (ℓ : Loc nD τ sig) → Buf (Elt Ideal) ℓ} {c : Dev nD} {p : Gmlp}

/-! ### The gradient of the hidden layer -/

theorem dz_lo (i : Fin 8192) (b : Fin 2) (k : Fin 1024) : p.dzu i (hc b k) = p.dz i (col ⟨b.val, by omega⟩ k) := by
  rw [Gmlp.dz, dif_pos (show b.val * 1024 + k.val < 2048 by omega)]
theorem dz_hi (i : Fin 8192) (b : Fin 2) (k : Fin 1024) : p.dzv i (hc b k) = p.dz i (col ⟨b.val + 2, by omega⟩ k) := by
  rw [Gmlp.dz, dif_neg (show ¬ (b.val + 2) * 1024 + k.val < 2048 by omega)]
  exact congrArg _ (Fin.ext (show b.val * 1024 + k.val = (b.val + 2) * 1024 + k.val - 2048 by omega))

theorem dzPiece (t : Fin cfg0.N) (b : Fin 4) (h) (P : FVec Ideal S1x512x1024 .bf16)
    (hP : ∀ r k, P (ix3 0 r k) = ((p.dz (row t r) (col b k) : ℝ) : EReal)) (x : S1x512x1024.Idx) :
    P x = (fun y : S4x512x1024.Idx => ((p.dz (row t (y 1)) (col (y 0) (y 2)) : ℝ) : EReal))
      ((Rect.unit (s := S4x512x1024) ![b.val, 0, 0] ![1, 512, 1024] h).emb x) := by
  have e : (Rect.unit (s := S4x512x1024) ![b.val, 0, 0] ![1, 512, 1024] h).emb x = ix3 b (x 1) (x 2) := by blk_ext
  obtain ⟨x0, r, k, rfl⟩ : ∃ x0 r k, x = ix3 x0 r k := ⟨x 0, x 1, x 2, by blk_ext⟩
  obtain rfl : x0 = 0 := Subsingleton.elim _ _
  rw [e, hP]; rfl

theorem dz_pieces (a : Args m c p) (t : Fin cfg0.N) {s0 s1 d0 d1 : FVec Ideal S512x1024 .f32}
    (hs0 : ∀ r k, s0 (ix2 r k) = ((p.sv (row t r) (hc 0 k) : ℝ) : EReal)) (hs1 : ∀ r k, s1 (ix2 r k) = ((p.sv (row t r) (hc 1 k) : ℝ) : EReal))
    (hd0 : ∀ r k, d0 (ix2 r k) = ((p.dvl (row t r) (hc 0 k) : ℝ) : EReal)) (hd1 : ∀ r k, d1 (ix2 r k) = ((p.dvl (row t r) (hc 1 k) : ℝ) : EReal))
    (y : S4x512x1024.Idx) : View.canon (Val := Elt Ideal) (e := EltTy.bf16) [
      ⟨(Rect.unit ![3, 0, 0] ![1, 512, 1024] inb_S4x512x1024_S1x512x1024_3_0_0), k0_pay1 (k0_pay230 (k0_pay29 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (k0_pay30 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (k0_pay31 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (k0_pay135 d0 (View.ld (iblk m c 5 t) (Rect.unit ![0, 0] ![1, 1024] inb_S2x1024_S1x1024_0_0))) d1 (View.ld (iblk m c 5 t) (Rect.unit ![1, 0] ![1, 1024] inb_S2x1024_S1x1024_1_0))) (View.ld (iblk m c 4 t) (Rect.unit ![3, 0, 0] ![1, 512, 1024] inb_S4x512x1024_S1x512x1024_3_0_0))⟩,
      ⟨(Rect.unit ![2, 0, 0] ![1, 512, 1024] inb_S4x512x1024_S1x512x1024_2_0_0), k0_pay229 (k0_pay29 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (k0_pay30 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (k0_pay31 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (k0_pay135 d0 (View.ld (iblk m c 5 t) (Rect.unit ![0, 0] ![1, 1024] inb_S2x1024_S1x1024_0_0))) d1 (View.ld (iblk m c 5 t) (Rect.unit ![1, 0] ![1, 1024] inb_S2x1024_S1x1024_1_0)) (View.ld (iblk m c 4 t) (Rect.unit ![2, 0, 0] ![1, 512, 1024] inb_S4x512x1024_S1x512x1024_2_0_0))⟩,
      ⟨(Rect.unit ![1, 0, 0] ![1, 512, 1024] inb_S4x512x1024_S1x512x1024_1_0_0), k0_pay164 (k0_pay23 (iblk m c 0 t) (iblk m c 1 t) (iblk m c 2 t)) s1 (View.ld (iblk m c 9 t) (Rect.unit ![1, 0, 0] ![1, 1024, 1024] inb_S2x1024x1024_S1x1024x1024_1_0_0)) (View.ld (iblk m c 4 t) (Rect.unit ![1, 0, 0] ![1, 512, 1024] inb_S4x512x1024_S1x512x1024_1_0_0))⟩,
      ⟨(Rect.unit ![0, 0, 0] ![1, 512, 1024] inb_S4x512x1024_S1x512x1024_0_0_0), k0_pay71 (k0_pay23 (iblk m c 0 t) (iblk m c 1 t) (iblk m c 2 t)) s0 (View.ld (iblk m c 9 t) (Rect.unit ![0, 0, 0] ![1, 1024, 1024] inb_S2x1024x1024_S1x1024x1024_0_0_0)) (View.ld (iblk m c 4 t) (Rect.unit ![0, 0, 0] ![1, 512, 1024] inb_S4x512x1024_S1x512x1024_0_0_0))⟩] y
      = ((p.dz (row t (y 1)) (col (y 0) (y 2)) : ℝ) : EReal) := by
  refine View.canon_append_of_piecesOf (Val := Elt Ideal) (e := EltTy.bf16)
    (fun y : S4x512x1024.Idx => ((p.dz (row t (y 1)) (col (y 0) (y 2)) : ℝ) : EReal)) [] [_, _, _, _]
    ⟨dzPiece t 3 inb_S4x512x1024_S1x512x1024_3_0_0 _ fun r k => ?_, dzPiece t 2 inb_S4x512x1024_S1x512x1024_2_0_0 _ fun r k => ?_, dzPiece t 1 inb_S4x512x1024_S1x512x1024_1_0_0 _ fun r k => ?_, dzPiece t 0 inb_S4x512x1024_S1x512x1024_0_0_0 _ fun r k => ?_, trivial⟩ y
    (View.cover_of_tiledL _ ![1, 512, 1024] (by sl_kernel_rfl) y)
  · exact (dzv1_pay (RS a t) (VH0 a t) (VH1 a t) hd0 hd1 (ld_lg a t 0 inb_S2x1024_S1x1024_0_0) (ld_lg a t 1 inb_S2x1024_S1x1024_1_0) (ld_sv1 a t) r k).trans (congrArg (fun e : ℝ => (e : EReal)) (dz_hi _ 1 k))
  · exact (dzv0_pay (RS a t) (VH0 a t) (VH1 a t) hd0 hd1 (ld_lg a t 0 inb_S2x1024_S1x1024_0_0) (ld_lg a t 1 inb_S2x1024_S1x1024_1_0) (ld_sv0 a t) r k).trans (congrArg (fun e : ℝ => (e : EReal)) (dz_hi _ 0 k))
  · exact (dzu164_pay (DM a t) (ld_wo a t 1 inb_S2x1024x1024_S1x1024x1024_1_0_0) hs1 (ld_slope a t 1 inb_S4x512x1024_S1x512x1024_1_0_0) r k).trans (congrArg (fun e : ℝ => (e : EReal)) (dz_lo _ 1 k))
  · exact (dzu71_pay (DM a t) (ld_wo a t 0 inb_S2x1024x1024_S1x1024x1024_0_0_0) hs0 (ld_slope a t 0 inb_S4x512x1024_S1x512x1024_0_0_0) r k).trans (congrArg (fun e : ℝ => (e : EReal)) (dz_lo _ 0 k))

theorem dz_outA (a : Args m c p) (t : Fin cfg0.N) (h0 : t.val % 16 = 0) (y : S4x512x1024.Idx) :
    (outsAt0 m c t.val t.isLt).1 y = ((p.dz (row t (y 1)) (col (y 0) (y 2)) : ℝ) : EReal) := by
  have s0 := fun (L : List (View.Piece (Elt Ideal) S512x1024 .f32)) (r : Fin 512) (k : Fin 1024) => congrFun (sv0_read (VL0 a t) (W0 a t) (W1 a t) (W2 a t) (W3 a t) (B0 a t) (B1 a t) (B2 a t) (B3 a t) L) (ix2 r k)
  have s1 := fun (L : List (View.Piece (Elt Ideal) S512x1024 .f32)) (r : Fin 512) (k : Fin 1024) => congrFun (sv1_read (VL1 a t) (W4 a t) (W5 a t) (W6 a t) (W7 a t) (B4 a t) (B5 a t) (B6 a t) (B7 a t) L) (ix2 r k)
  have d0 := fun (L : List (View.Piece (Elt Ideal) S512x1024 .f32)) (r : Fin 512) (k : Fin 1024) => congrFun (dvl0_read (D0 a t) (W0 a t) (W1 a t) (W2 a t) (W3 a t) L) (ix2 r k)
  have d1 := fun (L : List (View.Piece (Elt Ideal) S512x1024 .f32)) (r : Fin 512) (k : Fin 1024) => congrFun (dvl1_read (D1 a t) (W4 a t) (W5 a t) (W6 a t) (W7 a t) L) (ix2 r k)
  rw [outsAt0_A m c t h0 (by omega)]; frame_open; frame_out
  refine dz_pieces a t ?_ ?_ ?_ ?_ y
  exacts [s0 _, s1 _, d0 _, d1 _]

theorem dz_outB (a : Args m c p) (t : Fin cfg0.N) (h0 : ¬ t.val % 16 = 0) (h1 : ¬ t.val % 16 = 15) (y : S4x512x1024.Idx) :
    (outsAt0 m c t.val t.isLt).1 y = ((p.dz (row t (y 1)) (col (y 0) (y 2)) : ℝ) : EReal) := by
  have s0 := fun (L : List (View.Piece (Elt Ideal) S512x1024 .f32)) (r : Fin 512) (k : Fin 1024) => congrFun (sv0_read (VL0 a t) (W0 a t) (W1 a t) (W2 a t) (W3 a t) (B0 a t) (B1 a t) (B2 a t) (B3 a t) L) (ix2 r k)
  have s1 := fun (L : List (View.Piece (Elt Ideal) S512x1024 .f32)) (r : Fin 512) (k : Fin 1024) => congrFun (sv1_read (VL1 a t) (W4 a t) (W5 a t) (W6 a t) (W7 a t) (B4 a t) (B5 a t) (B6 a t) (B7 a t) L) (ix2 r k)
  have d0 := fun (L : List (View.Piece (Elt Ideal) S512x1024 .f32)) (r : Fin 512) (k : Fin 1024) => congrFun (dvl0_read (D0 a t) (W0 a t) (W1 a t) (W2 a t) (W3 a t) L) (ix2 r k)
  have d1 := fun (L : List (View.Piece (Elt Ideal) S512x1024 .f32)) (r : Fin 512) (k : Fin 1024) => congrFun (dvl1_read (D1 a t) (W4 a t) (W5 a t) (W6 a t) (W7 a t) L) (ix2 r k)
  rw [outsAt0_B m c t h0 h1]; frame_open; frame_out
  refine dz_pieces a t ?_ ?_ ?_ ?_ y
  exacts [s0 _, s1 _, d0 _, d1 _]

theorem dz_outC (a : Args m c p) (t : Fin cfg0.N) (h0 : ¬ t.val % 16 = 0) (h1 : t.val % 16 = 15) (y : S4x512x1024.Idx) :
    (outsAt0 m c t.val t.isLt).1 y = ((p.dz (row t (y 1)) (col (y 0) (y 2)) : ℝ) : EReal) := by
  have s0 := fun (L : List (View.Piece (Elt Ideal) S512x1024 .f32)) (r : Fin 512) (k : Fin 1024) => congrFun (sv0_read (VL0 a t) (W0 a t) (W1 a t) (W2 a t) (W3 a t) (B0 a t) (B1 a t) (B2 a t) (B3 a t) L) (ix2 r k)
  have s1 := fun (L : List (View.Piece (Elt Ideal) S512x1024 .f32)) (r : Fin 512) (k : Fin 1024) => congrFun (sv1_read (VL1 a t) (W4 a t) (W5 a t) (W6 a t) (W7 a t) (B4 a t) (B5 a t) (B6 a t) (B7 a t) L) (ix2 r k)
  have d0 := fun (L : List (View.Piece (Elt Ideal) S512x1024 .f32)) (r : Fin 512) (k : Fin 1024) => congrFun (dvl0_read (D0 a t) (W0 a t) (W1 a t) (W2 a t) (W3 a t) L) (ix2 r k)
  have d1 := fun (L : List (View.Piece (Elt Ideal) S512x1024 .f32)) (r : Fin 512) (k : Fin 1024) => congrFun (dvl1_read (D1 a t) (W4 a t) (W5 a t) (W6 a t) (W7 a t) L) (ix2 r k)
  rw [outsAt0_C m c t h0 h1]; frame_open; frame_out
  refine dz_pieces a t ?_ ?_ ?_ ?_ y
  exacts [s0 _, s1 _, d0 _, d1 _]

theorem dz_outs (a : Args m c p) (t : Fin cfg0.N) (y : S4x512x1024.Idx) :
    (outsAt0 m c t.val t.isLt).1 y = ((p.dz (row t (y 1)) (col (y 0) (y 2)) : ℝ) : EReal) := by
  by_cases h0 : t.val % 16 = 0
  · exact dz_outA a t h0 y
  · by_cases h1 : t.val % 16 = 15
    · exact dz_outC a t h0 h1 y
    · exact dz_outB a t h0 h1 y

theorem emb10 (t : Fin cfg0.N) (b : Fin 4) (r : Fin 512) (k : Fin 1024) :
    ((cfg0.win 10).blk t).view.emb (ix3 b r k) = ix3 b (row t r) k := by blk_ext [idx t]

theorem dz_eq (a : Args m c p) :
    (dats m 0 c).arrAt 10 cfg0.N = fun y => ((p.dz (y 1) (col (y 0) (y 2)) : ℝ) : EReal) := by
  refine (dats m 0 c).arrAt_eq_of_covers 10 _ (by decide +kernel) fun t hf y => ?_
  obtain ⟨b, r, k, rfl⟩ : ∃ b r k, y = ix3 b r k := ⟨y 0, y 1, y 2, by blk_ext⟩
  blk_simp
  rw [after0_10]
  rw [emb10]
  exact dz_outs a t (ix3 b r k)

/-! ### The gradient of the output weights -/

theorem dwoPiece (b : Fin 2) (h h') (acc : FVec Ideal S2x1024x1024 .f32) (S : Fin 2048 → Fin 1024 → ℝ) (P : FVec Ideal S1x1024x1024 .f32 → FVec Ideal S1x1024x1024 .f32)
    (hP : ∀ w j k, P w (ix3 0 j k) = w (ix3 0 j k) + ((S (hc b j) k : ℝ) : EReal)) (x : S1x1024x1024.Idx) :
    P (View.ld (Val := Elt Ideal) (e' := EltTy.f32) acc (Rect.unit (s := S2x1024x1024) ![b.val, 0, 0] ![1, 1024, 1024] h')) x
      = (fun y : S2x1024x1024.Idx => acc y + ((S (hc (y 0) (y 1)) (y 2) : ℝ) : EReal))
        ((Rect.unit (s := S2x1024x1024) ![b.val, 0, 0] ![1, 1024, 1024] h).emb x) := by
  have e : (Rect.unit (s := S2x1024x1024) ![b.val, 0, 0] ![1, 1024, 1024] h).emb x = ix3 b (x 1) (x 2) := by blk_ext
  obtain ⟨x0, j, k, rfl⟩ : ∃ x0 j k, x = ix3 x0 j k := ⟨x 0, x 1, x 2, by blk_ext⟩
  obtain rfl : x0 = 0 := Subsingleton.elim _ _
  rw [e, hP]
  pointwise

/-- One point's part of it. -/
abbrev woPart (p : Gmlp) (t : Fin cfg0.N) (j : Fin 2048) (k : Fin 1024) : ℝ := ∑ r : Fin 512, p.gated (row t r) j * p.dm (row t r) k

theorem dwo_pieces (a : Args m c p) (t : Fin cfg0.N) {s0 s1 : FVec Ideal S512x1024 .f32}
    (hs0 : ∀ r k, s0 (ix2 r k) = ((p.sv (row t r) (hc 0 k) : ℝ) : EReal)) (hs1 : ∀ r k, s1 (ix2 r k) = ((p.sv (row t r) (hc 1 k) : ℝ) : EReal))
    (acc : FVec Ideal S2x1024x1024 .f32) (L : List (View.Piece (Elt Ideal) S2x1024x1024 .f32)) (y : S2x1024x1024.Idx) :
    View.canon (Val := Elt Ideal) (e := EltTy.f32) (
      ⟨(Rect.unit ![1, 0, 0] ![1, 1024, 1024] inb_S2x1024x1024_S1x1024x1024_1_0_0), k0_pay163 (k0_pay23 (iblk m c 0 t) (iblk m c 1 t) (iblk m c 2 t)) (k0_pay136 (View.ld (iblk m c 3 t) (Rect.unit ![1, 0, 0] ![1, 512, 1024] inb_S4x512x1024_S1x512x1024_1_0_0))) s1 (View.ld (Val := Elt Ideal) (e' := EltTy.f32) acc (Rect.unit ![1, 0, 0] ![1, 1024, 1024] inb_S2x1024x1024_S1x1024x1024_1_0_0))⟩ ::
      ⟨(Rect.unit ![0, 0, 0] ![1, 1024, 1024] inb_S2x1024x1024_S1x1024x1024_0_0_0), k0_pay70 (k0_pay23 (iblk m c 0 t) (iblk m c 1 t) (iblk m c 2 t)) (k0_pay68 (k0_pay44 (View.ld (iblk m c 3 t) (Rect.unit ![0, 0, 0] ![1, 512, 1024] inb_S4x512x1024_S1x512x1024_0_0_0))) s0) (View.ld (Val := Elt Ideal) (e' := EltTy.f32) acc (Rect.unit ![0, 0, 0] ![1, 1024, 1024] inb_S2x1024x1024_S1x1024x1024_0_0_0))⟩ :: L) y
      = acc y + ((woPart p t (hc (y 0) (y 1)) (y 2) : ℝ) : EReal) := by
  refine View.canon_append_of_piecesOf (Val := Elt Ideal) (e := EltTy.f32)
    (fun y : S2x1024x1024.Idx => acc y + ((woPart p t (hc (y 0) (y 1)) (y 2) : ℝ) : EReal)) L [_, _]
    ⟨dwoPiece 1 inb_S2x1024x1024_S1x1024x1024_1_0_0 inb_S2x1024x1024_S1x1024x1024_1_0_0 acc (woPart p t) (fun w => k0_pay163 (F := Ideal) (k0_pay23 (iblk m c 0 t) (iblk m c 1 t) (iblk m c 2 t)) (k0_pay136 (View.ld (iblk m c 3 t) (Rect.unit ![1, 0, 0] ![1, 512, 1024] inb_S4x512x1024_S1x512x1024_1_0_0))) s1 w)
        fun w j k => dwo163_pay (DM a t) (U1 a t) hs1 w j k,
      dwoPiece 0 inb_S2x1024x1024_S1x1024x1024_0_0_0 inb_S2x1024x1024_S1x1024x1024_0_0_0 acc (woPart p t) (fun w => k0_pay70 (F := Ideal) (k0_pay23 (iblk m c 0 t) (iblk m c 1 t) (iblk m c 2 t)) (k0_pay68 (k0_pay44 (View.ld (iblk m c 3 t) (Rect.unit ![0, 0, 0] ![1, 512, 1024] inb_S4x512x1024_S1x512x1024_0_0_0))) s0) w)
        fun w j k => dwo70_pay (DM a t) (U0 a t) hs0 w j k, trivial⟩ y
    (View.cover_of_tiledL _ ![1, 1024, 1024] (by sl_kernel_rfl) y)

theorem dwo_outs (a : Args m c p) (t : Fin cfg0.N) (y : S2x1024x1024.Idx) :
    (t.val % 16 = 0 → (outsAt0 m c t.val t.isLt).2.1 y = 0 + ((woPart p t (hc (y 0) (y 1)) (y 2) : ℝ) : EReal))
    ∧ (¬ t.val % 16 = 0 → (outsAt0 m c t.val t.isLt).2.1 y
        = (outsAt0 m c (t.val - 1) (by omega)).2.1 y + ((woPart p t (hc (y 0) (y 1)) (y 2) : ℝ) : EReal)) := by
  have s0 := fun (L : List (View.Piece (Elt Ideal) S512x1024 .f32)) (r : Fin 512) (k : Fin 1024) => congrFun (sv0_read (VL0 a t) (W0 a t) (W1 a t) (W2 a t) (W3 a t) (B0 a t) (B1 a t) (B2 a t) (B3 a t) L) (ix2 r k)
  have s1 := fun (L : List (View.Piece (Elt Ideal) S512x1024 .f32)) (r : Fin 512) (k : Fin 1024) => congrFun (sv1_read (VL1 a t) (W4 a t) (W5 a t) (W6 a t) (W7 a t) (B4 a t) (B5 a t) (B6 a t) (B7 a t) L) (ix2 r k)
  refine ⟨fun h0 => ?_, fun h0 => ?_⟩
  · rw [outsAt0_A m c t h0 (by omega)]; frame_open
    simp (disch := decide) only [↓ View.readCov_skip, ↓ View.readCov_cons_toLoadRect, ↓ View.readCov_fill]
    frame_out
    refine (dwo_pieces a t ?_ ?_ k0_pay13 _ y).trans (congrArg (· + _) ?_)
    exacts [s0 _, s1 _, by pointwise [k0_pay13]]
  · by_cases h1 : t.val % 16 = 15
    · rw [outsAt0_C m c t h0 h1]; frame_open; frame_out
      refine dwo_pieces a t ?_ ?_ _ [] y
      exacts [s0 _, s1 _]
    · rw [outsAt0_B m c t h0 h1]; frame_open; frame_out
      refine dwo_pieces a t ?_ ?_ _ [] y
      exacts [s0 _, s1 _]

theorem dwo_eq (a : Args m c p) :
    (dats m 0 c).arrAt 11 cfg0.N = fun y => ((p.dwo (hc (y 0) (y 1)) (y 2) : ℝ) : EReal) := by
  refine (dats m 0 c).arrAt_eq_of_after_last 11 t0_15 (by decide +kernel) _ fun j => ?_
  blk_simp
  rw [after0_11, Pipeline.eq_sum_fin_of_reset_step_apply_last (fun n h => (outsAt0 m c n h).2.1) 16 (fun _ => 0)
    (fun t y => ((woPart p t (hc (y 0) (y 1)) (y 2) : ℝ) : EReal))
    (fun t h j => (dwo_outs a t j).1 h) (fun t h j => (dwo_outs a t j).2 h) (le_of_eq N_0) t0_15 rfl j, zero_add, coe_sum]
  exact congrArg _ (Fin.sum_mul_add_congr (fun _ _ _ => rfl) (by show 8192 = grid0.N * 512; rw [N_0]))

/-! ### The gradients of the normalisation's gain and bias -/

theorem lnPiece (b : Fin 2) (h h') (acc : FVec Ideal S2x1024 .f32) (S : Fin 2048 → ℝ) (P : FVec Ideal S1x1024 .f32 → FVec Ideal S1x1024 .f32)
    (hP : ∀ w k, P w (ix2 0 k) = w (ix2 0 k) + ((S (hc b k) : ℝ) : EReal)) (x : S1x1024.Idx) :
    P (View.ld (Val := Elt Ideal) (e' := EltTy.f32) acc (Rect.unit (s := S2x1024) ![b.val, 0] ![1, 1024] h')) x
      = (fun y : S2x1024.Idx => acc y + ((S (hc (y 0) (y 1)) : ℝ) : EReal)) ((Rect.unit (s := S2x1024) ![b.val, 0] ![1, 1024] h).emb x) := by
  have e : (Rect.unit (s := S2x1024) ![b.val, 0] ![1, 1024] h).emb x = ix2 b (x 1) := by blk_ext
  obtain ⟨x0, k, rfl⟩ : ∃ x0 k, x = ix2 x0 k := ⟨x 0, x 1, by blk_ext⟩
  obtain rfl : x0 = 0 := Subsingleton.elim _ _
  rw [e, hP]
  pointwise

/-- One point's part of each. -/
abbrev lgPart (p : Gmlp) (t : Fin cfg0.N) (k : Fin 2048) : ℝ := ∑ r : Fin 512, p.dvl (row t r) k * p.vh (row t r) k
abbrev lbPart (p : Gmlp) (t : Fin cfg0.N) (k : Fin 2048) : ℝ := ∑ r : Fin 512, p.dvl (row t r) k

theorem dlg_pieces (a : Args m c p) (t : Fin cfg0.N) {d0 d1 : FVec Ideal S512x1024 .f32}
    (hd0 : ∀ r k, d0 (ix2 r k) = ((p.dvl (row t r) (hc 0 k) : ℝ) : EReal)) (hd1 : ∀ r k, d1 (ix2 r k) = ((p.dvl (row t r) (hc 1 k) : ℝ) : EReal))
    (acc : FVec Ideal S2x1024 .f32) (L : List (View.Piece (Elt Ideal) S2x1024 .f32)) (y : S2x1024.Idx) :
    View.canon (Val := Elt Ideal) (e := EltTy.f32) (
      ⟨(Rect.unit ![1, 0] ![1, 1024] inb_S2x1024_S1x1024_1_0), k0_pay224 (F := Ideal) (k0_pay31 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) d1 (View.ld (Val := Elt Ideal) (e' := EltTy.f32) acc (Rect.unit ![1, 0] ![1, 1024] inb_S2x1024_S1x1024_1_0))⟩ ::
      ⟨(Rect.unit ![0, 0] ![1, 1024] inb_S2x1024_S1x1024_0_0), k0_pay133 (F := Ideal) (k0_pay30 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) d0 (View.ld (Val := Elt Ideal) (e' := EltTy.f32) acc (Rect.unit ![0, 0] ![1, 1024] inb_S2x1024_S1x1024_0_0))⟩ :: L) y
      = acc y + ((lgPart p t (hc (y 0) (y 1)) : ℝ) : EReal) := by
  refine View.canon_append_of_piecesOf (Val := Elt Ideal) (e := EltTy.f32)
    (fun y : S2x1024.Idx => acc y + ((lgPart p t (hc (y 0) (y 1)) : ℝ) : EReal)) L [_, _]
    ⟨lnPiece 1 inb_S2x1024_S1x1024_1_0 inb_S2x1024_S1x1024_1_0 acc (lgPart p t) (fun w => k0_pay224 (F := Ideal) (k0_pay31 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) d1 w) fun w k => dlg224_pay (VH1 a t) hd1 w k,
      lnPiece 0 inb_S2x1024_S1x1024_0_0 inb_S2x1024_S1x1024_0_0 acc (lgPart p t) (fun w => k0_pay133 (F := Ideal) (k0_pay30 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) d0 w) fun w k => dlg133_pay (VH0 a t) hd0 w k, trivial⟩ y
    (View.cover_of_tiledL _ ![1, 1024] (by sl_kernel_rfl) y)

theorem dlg_outs (a : Args m c p) (t : Fin cfg0.N) (y : S2x1024.Idx) :
    (t.val % 16 = 0 → (outsAt0 m c t.val t.isLt).2.2.2.2.1 y = 0 + ((lgPart p t (hc (y 0) (y 1)) : ℝ) : EReal))
    ∧ (¬ t.val % 16 = 0 → (outsAt0 m c t.val t.isLt).2.2.2.2.1 y
        = (outsAt0 m c (t.val - 1) (by omega)).2.2.2.2.1 y + ((lgPart p t (hc (y 0) (y 1)) : ℝ) : EReal)) := by
  have d0 := fun (L : List (View.Piece (Elt Ideal) S512x1024 .f32)) (r : Fin 512) (k : Fin 1024) => congrFun (dvl0_read (D0 a t) (W0 a t) (W1 a t) (W2 a t) (W3 a t) L) (ix2 r k)
  have d1 := fun (L : List (View.Piece (Elt Ideal) S512x1024 .f32)) (r : Fin 512) (k : Fin 1024) => congrFun (dvl1_read (D1 a t) (W4 a t) (W5 a t) (W6 a t) (W7 a t) L) (ix2 r k)
  refine ⟨fun h0 => ?_, fun h0 => ?_⟩
  · rw [outsAt0_A m c t h0 (by omega)]; frame_open
    simp (disch := decide) only [↓ View.readCov_skip, ↓ View.readCov_cons_toLoadRect, ↓ View.readCov_fill]
    frame_out
    refine (dlg_pieces a t ?_ ?_ k0_pay16 _ y).trans (congrArg (· + _) ?_)
    exacts [d0 _, d1 _, by pointwise [k0_pay16]]
  · by_cases h1 : t.val % 16 = 15
    · rw [outsAt0_C m c t h0 h1]; frame_open; frame_out
      refine dlg_pieces a t ?_ ?_ _ [] y
      exacts [d0 _, d1 _]
    · rw [outsAt0_B m c t h0 h1]; frame_open; frame_out
      refine dlg_pieces a t ?_ ?_ _ [] y
      exacts [d0 _, d1 _]

theorem dlg_eq (a : Args m c p) :
    (dats m 0 c).arrAt 14 cfg0.N = fun y => ((p.dlg (hc (y 0) (y 1)) : ℝ) : EReal) := by
  refine (dats m 0 c).arrAt_eq_of_after_last 14 t0_15 (by decide +kernel) _ fun j => ?_
  blk_simp
  rw [after0_14, Pipeline.eq_sum_fin_of_reset_step_apply_last (fun n h => (outsAt0 m c n h).2.2.2.2.1) 16 (fun _ => 0)
    (fun t y => ((lgPart p t (hc (y 0) (y 1)) : ℝ) : EReal))
    (fun t h j => (dlg_outs a t j).1 h) (fun t h j => (dlg_outs a t j).2 h) (le_of_eq N_0) t0_15 rfl j, zero_add, coe_sum]
  exact congrArg _ (Fin.sum_mul_add_congr (fun _ _ _ => rfl) (by show 8192 = grid0.N * 512; rw [N_0]))

theorem dlb_pieces (a : Args m c p) (t : Fin cfg0.N) {d0 d1 : FVec Ideal S512x1024 .f32}
    (hd0 : ∀ r k, d0 (ix2 r k) = ((p.dvl (row t r) (hc 0 k) : ℝ) : EReal)) (hd1 : ∀ r k, d1 (ix2 r k) = ((p.dvl (row t r) (hc 1 k) : ℝ) : EReal))
    (acc : FVec Ideal S2x1024 .f32) (L : List (View.Piece (Elt Ideal) S2x1024 .f32)) (y : S2x1024.Idx) :
    View.canon (Val := Elt Ideal) (e := EltTy.f32) (
      ⟨(Rect.unit ![1, 0] ![1, 1024] inb_S2x1024_S1x1024_1_0), k0_pay225 (F := Ideal) d1 (View.ld (Val := Elt Ideal) (e' := EltTy.f32) acc (Rect.unit ![1, 0] ![1, 1024] inb_S2x1024_S1x1024_1_0))⟩ ::
      ⟨(Rect.unit ![0, 0] ![1, 1024] inb_S2x1024_S1x1024_0_0), k0_pay134 (F := Ideal) d0 (View.ld (Val := Elt Ideal) (e' := EltTy.f32) acc (Rect.unit ![0, 0] ![1, 1024] inb_S2x1024_S1x1024_0_0))⟩ :: L) y
      = acc y + ((lbPart p t (hc (y 0) (y 1)) : ℝ) : EReal) := by
  refine View.canon_append_of_piecesOf (Val := Elt Ideal) (e := EltTy.f32)
    (fun y : S2x1024.Idx => acc y + ((lbPart p t (hc (y 0) (y 1)) : ℝ) : EReal)) L [_, _]
    ⟨lnPiece 1 inb_S2x1024_S1x1024_1_0 inb_S2x1024_S1x1024_1_0 acc (lbPart p t) (fun w => k0_pay225 (F := Ideal) d1 w) fun w k => dlb225_pay hd1 w k,
      lnPiece 0 inb_S2x1024_S1x1024_0_0 inb_S2x1024_S1x1024_0_0 acc (lbPart p t) (fun w => k0_pay134 (F := Ideal) d0 w) fun w k => dlb134_pay hd0 w k, trivial⟩ y
    (View.cover_of_tiledL _ ![1, 1024] (by sl_kernel_rfl) y)

theorem dlb_outs (a : Args m c p) (t : Fin cfg0.N) (y : S2x1024.Idx) :
    (t.val % 16 = 0 → (outsAt0 m c t.val t.isLt).2.2.2.2.2.1 y = 0 + ((lbPart p t (hc (y 0) (y 1)) : ℝ) : EReal))
    ∧ (¬ t.val % 16 = 0 → (outsAt0 m c t.val t.isLt).2.2.2.2.2.1 y
        = (outsAt0 m c (t.val - 1) (by omega)).2.2.2.2.2.1 y + ((lbPart p t (hc (y 0) (y 1)) : ℝ) : EReal)) := by
  have d0 := fun (L : List (View.Piece (Elt Ideal) S512x1024 .f32)) (r : Fin 512) (k : Fin 1024) => congrFun (dvl0_read (D0 a t) (W0 a t) (W1 a t) (W2 a t) (W3 a t) L) (ix2 r k)
  have d1 := fun (L : List (View.Piece (Elt Ideal) S512x1024 .f32)) (r : Fin 512) (k : Fin 1024) => congrFun (dvl1_read (D1 a t) (W4 a t) (W5 a t) (W6 a t) (W7 a t) L) (ix2 r k)
  refine ⟨fun h0 => ?_, fun h0 => ?_⟩
  · rw [outsAt0_A m c t h0 (by omega)]; frame_open
    simp (disch := decide) only [↓ View.readCov_skip, ↓ View.readCov_cons_toLoadRect, ↓ View.readCov_fill]
    frame_out
    refine (dlb_pieces a t ?_ ?_ k0_pay17 _ y).trans (congrArg (· + _) ?_)
    exacts [d0 _, d1 _, by pointwise [k0_pay17]]
  · by_cases h1 : t.val % 16 = 15
    · rw [outsAt0_C m c t h0 h1]; frame_open; frame_out
      refine dlb_pieces a t ?_ ?_ _ [] y
      exacts [d0 _, d1 _]
    · rw [outsAt0_B m c t h0 h1]; frame_open; frame_out
      refine dlb_pieces a t ?_ ?_ _ [] y
      exacts [d0 _, d1 _]

theorem dlb_eq (a : Args m c p) :
    (dats m 0 c).arrAt 15 cfg0.N = fun y => ((p.dlb (hc (y 0) (y 1)) : ℝ) : EReal) := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.1) 16 (fun _ => 0)
    (fun t y => ((lbPart p t (hc (y 0) (y 1)) : ℝ) : EReal))
    (fun t h j => (dlb_outs a t j).1 h) (fun t h j => (dlb_outs a t j).2 h) (le_of_eq N_0) t0_15 rfl j, zero_add, coe_sum]
  exact congrArg _ (Fin.sum_mul_add_congr (fun _ _ _ => rfl) (by show 8192 = grid0.N * 512; rw [N_0]))

/-! ### The gradient of the last gain -/

theorem dpg_block (a : Args m c p) (t : Fin cfg0.N) (acc : FVec Ideal S1x1024 .f32) (j : S1x1024.Idx) :
    k0_pay22 (F := Ideal) (iblk m c 0 t) (iblk m c 1 t) acc j
      = acc j + ((∑ r : Fin 512, p.dy (row t r) (j 1) * (p.m (row t r) (j 1) * rr (p.m (row t r))) : ℝ) : EReal) := by
  obtain ⟨j0, k, rfl⟩ : ∃ a k, j = ix2 a k := ⟨j 0, j 1, by blk_ext⟩
  obtain rfl : j0 = 0 := Subsingleton.elim _ _
  exact dpg_pay (m_real a t) (dy_real a t) acc k

theorem dpg_eq (a : Args m c p) :
    (dats m 0 c).arrAt 16 cfg0.N = fun y => ((p.dpg (y 1) : ℝ) : EReal) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.2) 16 (fun _ => 0)
    (fun t y => ((∑ r : Fin 512, p.dy (row t r) (y 1) * (p.m (row t r) (y 1) * rr (p.m (row t r))) : ℝ) : EReal))
    (fun t h j => by
      rw [outsAt0_A m c t h (by omega)]; frame_open; frame_out
      refine (dpg_block a t _ j).trans (congrArg (· + _) ?_)
      pointwise [k0_pay18])
    (fun t h j => by
      by_cases h1 : t.val % 16 = 15
      · rw [outsAt0_C m c t h h1]; frame_open; frame_out
        exact dpg_block a t _ j
      · rw [outsAt0_B m c t h h1]; frame_open; frame_out
        exact dpg_block a t _ j) (le_of_eq N_0) t0_15 rfl j, zero_add, coe_sum]
  exact congrArg _ (Fin.sum_mul_add_congr (fun _ _ _ => rfl) (by show 8192 = grid0.N * 512; rw [N_0]))

end Cert.AHiddenIdeal.Val
-- ==== Proof.AHiddenSpatial.lean ====
/-
  `mix_a_bwd_hidden`: the gradients of the spatial weights and biases that the kernel leaves, entry by entry, on
  real arguments.
-/
module

public import proofs.«01_k».proof.Proof.AHiddenOperands

@[expose] public section

set_option maxRecDepth 16384

noncomputable section

namespace Cert.AHiddenIdeal.Val

open Idealize.ShloMosaic Idealize.ShloMosaic.TcCoe Idealize.SL.Sem
open Cert.AHiddenIdeal Cert.AHiddenIdeal.Gen Cert.Lift

variable {m : (ℓ : Loc nD τ sig) → Buf (Elt Ideal) ℓ} {c : Dev nD} {p : Gmlp}

theorem hc_lc (b : Fin 2) (g : Fin 4) (d : Fin 256) : hc b (lc g d) = cg (gb b g) d :=
  Fin.ext (show b.val * 1024 + (g.val * 256 + d.val) = (b.val * 4 + g.val) * 256 + d.val by omega)

/-! ### The biases -/

theorem sum4 {x : EReal} {f : Fin 4 → ℝ} {a b c d : ℝ} (h0 : a = f 0) (h1 : b = f 1) (h2 : c = f 2) (h3 : d = f 3) :
    x + a + b + c + d = x + ((∑ n, f n : ℝ) : EReal) := by
  rw [Fin.sum_univ_four, h0, h1, h2, h3]
  simp only [EReal.coe_add, add_assoc]

theorem dsv_congr {i i' : Fin 8192} {j j' : Fin 2048} (h : i.val = i'.val) (h' : j.val = j'.val) : p.dsv i j = p.dsv i' j' := by
  rw [Fin.ext h, Fin.ext h']
theorem vl_congr {i i' : Fin 8192} {j j' : Fin 2048} (h : i.val = i'.val) (h' : j.val = j'.val) : p.vl i j = p.vl i' j' := by
  rw [Fin.ext h, Fin.ext h']

/-- One point's part of the biases' gradient, and of the weights' before they are masked. -/
abbrev bsPart (p : Gmlp) (t : Fin cfg0.N) (s : Fin 128) (g : Fin 8) : ℝ := ∑ d : Fin 256, ∑ n : Fin 4, p.dsv (row t (lr n s)) (cg g d)
abbrev wsPart (p : Gmlp) (t : Fin cfg0.N) (g : Fin 8) (s s' : Fin 128) : ℝ :=
  ∑ n : Fin 4, ∑ d : Fin 256, p.dsv (row t (lr n s)) (cg g d) * p.vl (row t (lr n s')) (cg g d)

section payloads

variable {t : Fin cfg0.N} {b : Fin 2} {dm : FVec Ideal S512x1024 .bf16} {u : FVec Ideal S512x1024 .f32} {wo : FVec Ideal S1x1024x1024 .bf16}

theorem dch73 (hD : ∀ r k, k0_pay72 (F := Ideal) dm u wo (ix2 r k) = ((p.dsv (row t r) (hc b k) : ℝ) : EReal)) (s : Fin 128) (k : Fin 1024) :
    k0_pay73 (F := Ideal) dm u wo (ix2 s k) = ((∑ n : Fin 4, p.dsv (row t (lr n s)) (hc b k) : ℝ) : EReal) := by
  pointwise [k0_pay73, hD]
  rw [← zero_add (((p.dsv _ _ : ℝ) : EReal) + _ + _ + _), ← add_assoc, ← add_assoc, ← add_assoc, ← zero_add (((∑ n : Fin 4, p.dsv (row t (lr n s)) (hc b k) : ℝ) : EReal))]
  exact sum4 (dsv_congr (by simp) rfl) (dsv_congr (by simp) rfl) (dsv_congr (by simp) rfl) (dsv_congr (by simp) rfl)

theorem dch166 (hD : ∀ r k, k0_pay165 (F := Ideal) dm u wo (ix2 r k) = ((p.dsv (row t r) (hc b k) : ℝ) : EReal)) (s : Fin 128) (k : Fin 1024) :
    k0_pay166 (F := Ideal) dm u wo (ix2 s k) = ((∑ n : Fin 4, p.dsv (row t (lr n s)) (hc b k) : ℝ) : EReal) := by
  pointwise [k0_pay166, hD]
  rw [← zero_add (((p.dsv _ _ : ℝ) : EReal) + _ + _ + _), ← add_assoc, ← add_assoc, ← add_assoc, ← zero_add (((∑ n : Fin 4, p.dsv (row t (lr n s)) (hc b k) : ℝ) : EReal))]
  exact sum4 (dsv_congr (by simp) rfl) (dsv_congr (by simp) rfl) (dsv_congr (by simp) rfl) (dsv_congr (by simp) rfl)

theorem dbs_pay0 (hC : ∀ s k, k0_pay73 (F := Ideal) dm u wo (ix2 s k) = ((∑ n : Fin 4, p.dsv (row t (lr n s)) (hc b k) : ℝ) : EReal)) (o : FVec Ideal S128x1 .f32) (s : Fin 128) :
    k0_pay74 (F := Ideal) dm u wo o (ix2 s 0) = o (ix2 s 0) + ((bsPart p t s (gb b 0) : ℝ) : EReal) := by
  pointwise [k0_pay74, hC]
  rw [coe_sum]
  refine congrArg (fun e : ℝ => _ + (e : EReal)) (Finset.sum_congr rfl fun d _ => Finset.sum_congr rfl fun n _ => dsv_congr rfl ?_)
  show b.val * 1024 + d.val = (b.val * 4 + 0) * 256 + d.val; omega

theorem dbs_pay1 (hC : ∀ s k, k0_pay73 (F := Ideal) dm u wo (ix2 s k) = ((∑ n : Fin 4, p.dsv (row t (lr n s)) (hc b k) : ℝ) : EReal)) (o : FVec Ideal S128x1 .f32) (s : Fin 128) :
    k0_pay77 (F := Ideal) (k0_pay75 o) (k0_pay76 dm u wo) (ix2 s 0) = o (ix2 s 0) + ((bsPart p t s (gb b 1) : ℝ) : EReal) := by
  pointwise [k0_pay77, k0_pay75, k0_pay76, hC]
  rw [coe_sum]
  refine congrArg (fun e : ℝ => _ + (e : EReal)) (Finset.sum_congr rfl fun d _ => Finset.sum_congr rfl fun n _ => dsv_congr rfl ?_)
  show b.val * 1024 + (256 + d.val) = (b.val * 4 + 1) * 256 + d.val; omega

theorem dbs_pay2 {x : FVec Ideal S128x1024 .f32} (hC : ∀ s k, x (ix2 s k) = ((∑ n : Fin 4, p.dsv (row t (lr n s)) (hc b k) : ℝ) : EReal)) (o : FVec Ideal S128x1 .f32) (s : Fin 128) :
    k0_pay78 (F := Ideal) x o (ix2 s 0) = o (ix2 s 0) + ((bsPart p t s (gb b 2) : ℝ) : EReal) := by
  pointwise [k0_pay78, hC]
  rw [coe_sum]
  refine congrArg (fun e : ℝ => _ + (e : EReal)) (Finset.sum_congr rfl fun d _ => Finset.sum_congr rfl fun n _ => dsv_congr rfl ?_)
  show b.val * 1024 + (512 + d.val) = (b.val * 4 + 2) * 256 + d.val; omega

theorem dbs_pay3 {x : FVec Ideal S128x1024 .f32} (hC : ∀ s k, x (ix2 s k) = ((∑ n : Fin 4, p.dsv (row t (lr n s)) (hc b k) : ℝ) : EReal)) (o : FVec Ideal S128x1 .f32) (s : Fin 128) :
    k0_pay79 (F := Ideal) x o (ix2 s 0) = o (ix2 s 0) + ((bsPart p t s (gb b 3) : ℝ) : EReal) := by
  pointwise [k0_pay79, hC]
  rw [coe_sum]
  refine congrArg (fun e : ℝ => _ + (e : EReal)) (Finset.sum_congr rfl fun d _ => Finset.sum_congr rfl fun n _ => dsv_congr rfl ?_)
  show b.val * 1024 + (768 + d.val) = (b.val * 4 + 3) * 256 + d.val; omega

theorem dbs_pay4 {x : FVec Ideal S128x1024 .f32} (hC : ∀ s k, x (ix2 s k) = ((∑ n : Fin 4, p.dsv (row t (lr n s)) (hc b k) : ℝ) : EReal)) (o : FVec Ideal S128x1 .f32) (s : Fin 128) :
    k0_pay167 (F := Ideal) x o (ix2 s 0) = o (ix2 s 0) + ((bsPart p t s (gb b 0) : ℝ) : EReal) := by
  pointwise [k0_pay167, hC]
  rw [coe_sum]
  refine congrArg (fun e : ℝ => _ + (e : EReal)) (Finset.sum_congr rfl fun d _ => Finset.sum_congr rfl fun n _ => dsv_congr rfl ?_)
  show b.val * 1024 + d.val = (b.val * 4 + 0) * 256 + d.val; omega

theorem dbs_pay5 {x : FVec Ideal S128x1024 .f32} (hC : ∀ s k, x (ix2 s k) = ((∑ n : Fin 4, p.dsv (row t (lr n s)) (hc b k) : ℝ) : EReal)) (o : FVec Ideal S128x1 .f32) (s : Fin 128) :
    k0_pay168 (F := Ideal) x o (ix2 s 0) = o (ix2 s 0) + ((bsPart p t s (gb b 1) : ℝ) : EReal) := by
  pointwise [k0_pay168, hC]
  rw [coe_sum]
  refine congrArg (fun e : ℝ => _ + (e : EReal)) (Finset.sum_congr rfl fun d _ => Finset.sum_congr rfl fun n _ => dsv_congr rfl ?_)
  show b.val * 1024 + (256 + d.val) = (b.val * 4 + 1) * 256 + d.val; omega

theorem dbs_pay6 {x : FVec Ideal S128x1024 .f32} (hC : ∀ s k, x (ix2 s k) = ((∑ n : Fin 4, p.dsv (row t (lr n s)) (hc b k) : ℝ) : EReal)) (o : FVec Ideal S128x1 .f32) (s : Fin 128) :
    k0_pay169 (F := Ideal) x o (ix2 s 0) = o (ix2 s 0) + ((bsPart p t s (gb b 2) : ℝ) : EReal) := by
  pointwise [k0_pay169, hC]
  rw [coe_sum]
  refine congrArg (fun e : ℝ => _ + (e : EReal)) (Finset.sum_congr rfl fun d _ => Finset.sum_congr rfl fun n _ => dsv_congr rfl ?_)
  show b.val * 1024 + (512 + d.val) = (b.val * 4 + 2) * 256 + d.val; omega

theorem dbs_pay7 {x : FVec Ideal S128x1024 .f32} (hC : ∀ s k, x (ix2 s k) = ((∑ n : Fin 4, p.dsv (row t (lr n s)) (hc b k) : ℝ) : EReal)) (o : FVec Ideal S128x1 .f32) (s : Fin 128) :
    k0_pay170 (F := Ideal) x o (ix2 s 0) = o (ix2 s 0) + ((bsPart p t s (gb b 3) : ℝ) : EReal) := by
  pointwise [k0_pay170, hC]
  rw [coe_sum]
  refine congrArg (fun e : ℝ => _ + (e : EReal)) (Finset.sum_congr rfl fun d _ => Finset.sum_congr rfl fun n _ => dsv_congr rfl ?_)
  show b.val * 1024 + (768 + d.val) = (b.val * 4 + 3) * 256 + d.val; omega

theorem ws4 (q : Fin 4) {j : Fin 256 → Fin 1024} (hj : ∀ d, (j d).val = q.val * 256 + d.val) (x : EReal) (s r : Fin 128) :
    x + ((∑ d, p.dsv (row t ⟨s.val, by omega⟩) (hc b (j d)) * p.vl (row t ⟨r.val, by omega⟩) (hc b (j d)) : ℝ) : EReal)
      + ((∑ d, p.dsv (row t ⟨128 + s.val, by omega⟩) (hc b (j d)) * p.vl (row t ⟨128 + r.val, by omega⟩) (hc b (j d)) : ℝ) : EReal)
      + ((∑ d, p.dsv (row t ⟨256 + s.val, by omega⟩) (hc b (j d)) * p.vl (row t ⟨256 + r.val, by omega⟩) (hc b (j d)) : ℝ) : EReal)
      + ((∑ d, p.dsv (row t ⟨384 + s.val, by omega⟩) (hc b (j d)) * p.vl (row t ⟨384 + r.val, by omega⟩) (hc b (j d)) : ℝ) : EReal)
      = x + ((wsPart p t (gb b q) s r : ℝ) : EReal) := by
  have e (d : Fin 256) : hc b (j d) = cg (gb b q) d := by
    apply Fin.ext; show b.val * 1024 + (j d).val = (b.val * 4 + q.val) * 256 + d.val; rw [hj]; omega
  simp only [e]
  refine sum4 ?_ rfl rfl rfl
  exact Finset.sum_congr rfl fun d _ => congrArg₂ (· * ·) (dsv_congr (by simp) rfl) (vl_congr (by simp) rfl)

variable {dl : FVec Ideal S512x1024 .f32} {vl : FVec Ideal S512x1024 .bf16} (hD : ∀ r k, dl (ix2 r k) = ((p.dsv (row t r) (hc b k) : ℝ) : EReal))
  (hV : ∀ r k, vl (ix2 r k) = ((p.vl (row t r) (hc b k) : ℝ) : EReal))
include hD hV

theorem dws_pay0 (o : FVec Ideal S1x128x128 .f32) (s r : Fin 128) :
    k0_pay92 (F := Ideal) vl (k0_pay90 (k0_pay80 dl)) (k0_pay89 vl (k0_pay80 dl) (k0_pay86 vl (k0_pay80 dl) (k0_pay83 vl dl o))) (ix3 0 s r)
      = o (ix3 0 s r) + ((wsPart p t (gb b 0) s r : ℝ) : EReal) := by
  pointwise [k0_pay80, k0_pay81, k0_pay83, k0_pay84, k0_pay86, k0_pay87, k0_pay89, k0_pay90, k0_pay92, hD, hV]
  simp only [← EReal.coe_mul, coe_sum]
  exact ws4 0 (fun d => by simp) _ s r

theorem dws_pay1 (o : FVec Ideal S1x128x128 .f32) (s r : Fin 128) :
    k0_pay105 (F := Ideal) vl (k0_pay80 dl) (k0_pay102 vl (k0_pay80 dl) (k0_pay99 (k0_pay98 vl (k0_pay80 dl) (k0_pay95 vl (k0_pay80 dl) o)))) (ix3 0 s r)
      = o (ix3 0 s r) + ((wsPart p t (gb b 1) s r : ℝ) : EReal) := by
  pointwise [k0_pay80, k0_pay93, k0_pay95, k0_pay96, k0_pay98, k0_pay99, k0_pay100, k0_pay102, k0_pay103, k0_pay105, hD, hV]
  simp only [← EReal.coe_mul, coe_sum]
  exact ws4 1 (fun d => by simp) _ s r

theorem dws_pay2 (o : FVec Ideal S1x128x128 .f32) (s r : Fin 128) :
    k0_pay120 (F := Ideal) vl (k0_pay80 dl) (k0_pay117 (k0_pay113 (k0_pay80 dl)) (k0_pay115 (k0_pay112 vl (k0_pay80 dl) (k0_pay109 vl (k0_pay106 (k0_pay80 dl)) o))) (k0_pay116 vl)) (ix3 0 s r)
      = o (ix3 0 s r) + ((wsPart p t (gb b 2) s r : ℝ) : EReal) := by
  pointwise [k0_pay80, k0_pay106, k0_pay109, k0_pay110, k0_pay112, k0_pay113, k0_pay115, k0_pay116, k0_pay117, k0_pay118, k0_pay120, hD, hV]
  simp only [← EReal.coe_mul, coe_sum]
  exact ws4 2 (fun d => by simp) _ s r

theorem dws_pay3 (o : FVec Ideal S1x128x128 .f32) (s r : Fin 128) :
    k0_pay132 (F := Ideal) vl (k0_pay130 (k0_pay80 dl)) (k0_pay129 vl (k0_pay80 dl) (k0_pay126 vl (k0_pay80 dl) (k0_pay123 vl (k0_pay80 dl) o))) (ix3 0 s r)
      = o (ix3 0 s r) + ((wsPart p t (gb b 3) s r : ℝ) : EReal) := by
  pointwise [k0_pay80, k0_pay121, k0_pay123, k0_pay124, k0_pay126, k0_pay127, k0_pay129, k0_pay130, k0_pay132, hD, hV]
  simp only [← EReal.coe_mul, coe_sum]
  exact ws4 3 (fun d => by simp) _ s r

theorem dws_pay4 (o : FVec Ideal S1x128x128 .f32) (s r : Fin 128) :
    k0_pay184 (F := Ideal) vl (k0_pay171 dl) (k0_pay181 (k0_pay180 vl (k0_pay171 dl) (k0_pay177 vl (k0_pay171 dl) (k0_pay174 vl (k0_pay172 dl) o)))) (ix3 0 s r)
      = o (ix3 0 s r) + ((wsPart p t (gb b 0) s r : ℝ) : EReal) := by
  pointwise [k0_pay171, k0_pay172, k0_pay174, k0_pay175, k0_pay177, k0_pay178, k0_pay180, k0_pay181, k0_pay182, k0_pay184, hD, hV]
  simp only [← EReal.coe_mul, coe_sum]
  exact ws4 0 (fun d => by simp) _ s r

theorem dws_pay5 (o : FVec Ideal S1x128x128 .f32) (s r : Fin 128) :
    k0_pay198 (F := Ideal) vl (k0_pay195 (k0_pay171 dl)) (k0_pay197 (k0_pay194 vl (k0_pay171 dl) (k0_pay191 vl (k0_pay188 (k0_pay171 dl)) (k0_pay187 vl (k0_pay171 dl) o)))) (ix3 0 s r)
      = o (ix3 0 s r) + ((wsPart p t (gb b 1) s r : ℝ) : EReal) := by
  pointwise [k0_pay171, k0_pay185, k0_pay187, k0_pay188, k0_pay191, k0_pay192, k0_pay194, k0_pay195, k0_pay197, k0_pay198, hD, hV]
  simp only [← EReal.coe_mul, coe_sum]
  exact ws4 1 (fun d => by simp) _ s r

theorem dws_pay6 (o : FVec Ideal S1x128x128 .f32) (s r : Fin 128) :
    k0_pay210 (F := Ideal) vl (k0_pay171 dl) (k0_pay207 vl (k0_pay171 dl) (k0_pay204 vl (k0_pay171 dl) (k0_pay201 vl (k0_pay171 dl) o))) (ix3 0 s r)
      = o (ix3 0 s r) + ((wsPart p t (gb b 2) s r : ℝ) : EReal) := by
  pointwise [k0_pay171, k0_pay199, k0_pay201, k0_pay202, k0_pay204, k0_pay205, k0_pay207, k0_pay208, k0_pay210, hD, hV]
  simp only [← EReal.coe_mul, coe_sum]
  exact ws4 2 (fun d => by simp) _ s r

theorem dws_pay7 (o : FVec Ideal S1x128x128 .f32) (s r : Fin 128) :
    k0_pay223 (F := Ideal) vl (k0_pay171 dl) (k0_pay220 (k0_pay219 vl (k0_pay171 dl) (k0_pay216 vl (k0_pay171 dl) (k0_pay213 vl (k0_pay211 (k0_pay171 dl)) o)))) (ix3 0 s r)
      = o (ix3 0 s r) + ((wsPart p t (gb b 3) s r : ℝ) : EReal) := by
  pointwise [k0_pay171, k0_pay211, k0_pay213, k0_pay214, k0_pay216, k0_pay217, k0_pay219, k0_pay220, k0_pay221, k0_pay223, hD, hV]
  simp only [← EReal.coe_mul, coe_sum]
  exact ws4 3 (fun d => by simp) _ s r

end payloads

theorem mask_ite (x : EReal) (s s' : Fin 128) (z : EReal) (hz : z = 0) :
    Scalar.select (IntOp.cmpi .sge (BitVec.ofNat 32 s.val) (BitVec.ofNat 32 s'.val)) x z = if s'.val ≤ s.val then x else 0 := by
  rw [sge_ix, select_ofBool, hz]; by_cases e : s'.val ≤ s.val <;> simp [e]

theorem mask_pay0 (x : FVec Ideal S1x128x128 .f32) (s r : Fin 128) :
    k0_pay3 (F := Ideal) x (ix3 0 s r) = if r.val ≤ s.val then x (ix3 0 s r) else 0 := by
  pointwise [k0_pay3]
  exact mask_ite _ _ _ _ (by simp)
theorem mask_pay1 (x : FVec Ideal S1x128x128 .f32) (s r : Fin 128) :
    k0_pay4 (F := Ideal) x (ix3 0 s r) = if r.val ≤ s.val then x (ix3 0 s r) else 0 := by
  pointwise [k0_pay4]
  exact mask_ite _ _ _ _ (by simp)
theorem mask_pay2 (x : FVec Ideal S1x128x128 .f32) (s r : Fin 128) :
    k0_pay5 (F := Ideal) x (ix3 0 s r) = if r.val ≤ s.val then x (ix3 0 s r) else 0 := by
  pointwise [k0_pay5]
  exact mask_ite _ _ _ _ (by simp)
theorem mask_pay3 (x : FVec Ideal S1x128x128 .f32) (s r : Fin 128) :
    k0_pay7 (F := Ideal) (k0_pay6 x) (ix3 0 s r) = if r.val ≤ s.val then x (ix3 0 s r) else 0 := by
  pointwise [k0_pay6, k0_pay7]
  exact mask_ite _ _ _ _ (by simp)
theorem mask_pay4 (x : FVec Ideal S1x128x128 .f32) (s r : Fin 128) :
    k0_pay8 (F := Ideal) (iota .tc S128x128 32 [0] iota_S128x128_d0_w32) (iota .tc S128x128 32 [1] iota_S128x128_d1_w32) x (ix3 0 s r) = if r.val ≤ s.val then x (ix3 0 s r) else 0 := by
  pointwise [k0_pay8]
  exact mask_ite _ _ _ _ (by simp)
theorem mask_pay5 (x : FVec Ideal S1x128x128 .f32) (s r : Fin 128) :
    k0_pay9 (F := Ideal) (iota .tc S128x128 32 [0] iota_S128x128_d0_w32) (iota .tc S128x128 32 [1] iota_S128x128_d1_w32) x (ix3 0 s r) = if r.val ≤ s.val then x (ix3 0 s r) else 0 := by
  pointwise [k0_pay9]
  exact mask_ite _ _ _ _ (by simp)
theorem mask_pay6 (x : FVec Ideal S1x128x128 .f32) (s r : Fin 128) :
    k0_pay10 (F := Ideal) (iota .tc S128x128 32 [0] iota_S128x128_d0_w32) (iota .tc S128x128 32 [1] iota_S128x128_d1_w32) x (ix3 0 s r) = if r.val ≤ s.val then x (ix3 0 s r) else 0 := by
  pointwise [k0_pay10]
  exact mask_ite _ _ _ _ (by simp)
theorem mask_pay7 (x : FVec Ideal S1x128x128 .f32) (s r : Fin 128) :
    k0_pay2 (F := Ideal) (k0_pay11 (iota .tc S128x128 32 [0] iota_S128x128_d0_w32) (iota .tc S128x128 32 [1] iota_S128x128_d1_w32)) (k0_pay12 x) (ix3 0 s r) = if r.val ≤ s.val then x (ix3 0 s r) else 0 := by
  pointwise [k0_pay2, k0_pay11, k0_pay12]
  exact mask_ite _ _ _ _ (by simp)

theorem dbsPiece (g : Fin 8) (h h') (acc : FVec Ideal S128x8 .f32) (S : Fin 128 → ℝ) (P : FVec Ideal S128x1 .f32 → FVec Ideal S128x1 .f32) (G : S128x8.Idx → EReal)
    (hG : ∀ s, G (ix2 s g) = acc (ix2 s g) + ((S s : ℝ) : EReal))
    (hP : ∀ w s, P w (ix2 s 0) = w (ix2 s 0) + ((S s : ℝ) : EReal)) (x : S128x1.Idx) :
    P (View.ld (Val := Elt Ideal) (e' := EltTy.f32) acc (Rect.unit (s := S128x8) ![0, g.val] ![128, 1] h')) x
      = G ((Rect.unit (s := S128x8) ![0, g.val] ![128, 1] h).emb x) := by
  have e : (Rect.unit (s := S128x8) ![0, g.val] ![128, 1] h).emb x = ix2 (x 0) g := by blk_ext
  obtain ⟨s, x1, rfl⟩ : ∃ s x1, x = ix2 s x1 := ⟨x 0, x 1, by blk_ext⟩
  obtain rfl : x1 = 0 := Subsingleton.elim _ _
  rw [e, hP]
  refine Eq.trans ?_ (hG s).symm
  pointwise

/-- The sum of the biases' gradient after a point, `acc` being the sum so far. -/
def dbsNext (p : Gmlp) (t : Fin cfg0.N) (acc : FVec Ideal S128x8 .f32) (y : S128x8.Idx) : EReal :=
  acc y + ((bsPart p t (y 0) (y 1) : ℝ) : EReal)

theorem dbs_pieces (a : Args m c p) (t : Fin cfg0.N) (acc : FVec Ideal S128x8 .f32) (L : List (View.Piece (Elt Ideal) S128x8 .f32)) (y : S128x8.Idx) :
    View.canon (Val := Elt Ideal) (e := EltTy.f32) (
      ⟨(Rect.unit ![0, 7] ![128, 1] inb_S128x8_S128x1_0_7), k0_pay170 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) (View.ld (Val := Elt Ideal) (e' := EltTy.f32) acc (Rect.unit ![0, 7] ![128, 1] inb_S128x8_S128x1_0_7))⟩ ::
      ⟨(Rect.unit ![0, 6] ![128, 1] inb_S128x8_S128x1_0_6), k0_pay169 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) (View.ld (Val := Elt Ideal) (e' := EltTy.f32) acc (Rect.unit ![0, 6] ![128, 1] inb_S128x8_S128x1_0_6))⟩ ::
      ⟨(Rect.unit ![0, 5] ![128, 1] inb_S128x8_S128x1_0_5), k0_pay168 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) (View.ld (Val := Elt Ideal) (e' := EltTy.f32) acc (Rect.unit ![0, 5] ![128, 1] inb_S128x8_S128x1_0_5))⟩ ::
      ⟨(Rect.unit ![0, 4] ![128, 1] inb_S128x8_S128x1_0_4), k0_pay167 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) (View.ld (Val := Elt Ideal) (e' := EltTy.f32) acc (Rect.unit ![0, 4] ![128, 1] inb_S128x8_S128x1_0_4))⟩ ::
      ⟨(Rect.unit ![0, 3] ![128, 1] inb_S128x8_S128x1_0_3), k0_pay79 (F := Ideal) (k0_pay73 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0))) (View.ld (Val := Elt Ideal) (e' := EltTy.f32) acc (Rect.unit ![0, 3] ![128, 1] inb_S128x8_S128x1_0_3))⟩ ::
      ⟨(Rect.unit ![0, 2] ![128, 1] inb_S128x8_S128x1_0_2), k0_pay78 (F := Ideal) (k0_pay73 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0))) (View.ld (Val := Elt Ideal) (e' := EltTy.f32) acc (Rect.unit ![0, 2] ![128, 1] inb_S128x8_S128x1_0_2))⟩ ::
      ⟨(Rect.unit ![0, 1] ![128, 1] inb_S128x8_S128x1_0_1), k0_pay77 (F := Ideal) (k0_pay75 (View.ld (Val := Elt Ideal) (e' := EltTy.f32) acc (Rect.unit ![0, 1] ![128, 1] inb_S128x8_S128x1_0_1))) (k0_pay76 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0)))⟩ ::
      ⟨(Rect.unit ![0, 0] ![128, 1] inb_S128x8_S128x1_0_0), k0_pay74 (F := Ideal) (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0)) (View.ld (Val := Elt Ideal) (e' := EltTy.f32) acc (Rect.unit ![0, 0] ![128, 1] inb_S128x8_S128x1_0_0))⟩ :: L) y = dbsNext p t acc y := by
  refine View.canon_append_of_piecesOf (Val := Elt Ideal) (e := EltTy.f32)
    (dbsNext p t acc) L [_, _, _, _, _, _, _, _]
    ⟨dbsPiece 7 inb_S128x8_S128x1_0_7 inb_S128x8_S128x1_0_7 acc (fun s => bsPart p t s (gb 1 3)) (fun w => k0_pay170 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) w) (dbsNext p t acc) (fun s => rfl)
        fun w s => dbs_pay7 (dch166 (D1 a t)) w s,
      dbsPiece 6 inb_S128x8_S128x1_0_6 inb_S128x8_S128x1_0_6 acc (fun s => bsPart p t s (gb 1 2)) (fun w => k0_pay169 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) w) (dbsNext p t acc) (fun s => rfl)
        fun w s => dbs_pay6 (dch166 (D1 a t)) w s,
      dbsPiece 5 inb_S128x8_S128x1_0_5 inb_S128x8_S128x1_0_5 acc (fun s => bsPart p t s (gb 1 1)) (fun w => k0_pay168 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) w) (dbsNext p t acc) (fun s => rfl)
        fun w s => dbs_pay5 (dch166 (D1 a t)) w s,
      dbsPiece 4 inb_S128x8_S128x1_0_4 inb_S128x8_S128x1_0_4 acc (fun s => bsPart p t s (gb 1 0)) (fun w => k0_pay167 (F := Ideal) (k0_pay166 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0))) w) (dbsNext p t acc) (fun s => rfl)
        fun w s => dbs_pay4 (dch166 (D1 a t)) w s,
      dbsPiece 3 inb_S128x8_S128x1_0_3 inb_S128x8_S128x1_0_3 acc (fun s => bsPart p t s (gb 0 3)) (fun w => k0_pay79 (F := Ideal) (k0_pay73 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0))) w) (dbsNext p t acc) (fun s => rfl)
        fun w s => dbs_pay3 (dch73 (D0 a t)) w s,
      dbsPiece 2 inb_S128x8_S128x1_0_2 inb_S128x8_S128x1_0_2 acc (fun s => bsPart p t s (gb 0 2)) (fun w => k0_pay78 (F := Ideal) (k0_pay73 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0))) w) (dbsNext p t acc) (fun s => rfl)
        fun w s => dbs_pay2 (dch73 (D0 a t)) w s,
      dbsPiece 1 inb_S128x8_S128x1_0_1 inb_S128x8_S128x1_0_1 acc (fun s => bsPart p t s (gb 0 1)) (fun w => k0_pay77 (F := Ideal) (k0_pay75 w) (k0_pay76 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0)))) (dbsNext p t acc) (fun s => rfl)
        fun w s => dbs_pay1 (dch73 (D0 a t)) w s,
      dbsPiece 0 inb_S128x8_S128x1_0_0 inb_S128x8_S128x1_0_0 acc (fun s => bsPart p t s (gb 0 0)) (fun w => k0_pay74 (F := Ideal) (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0)) w) (dbsNext p t acc) (fun s => rfl)
        fun w s => dbs_pay0 (dch73 (D0 a t)) w s, trivial⟩ y
    (View.cover_of_tiledL _ ![128, 1] (by sl_kernel_rfl) y)

theorem dbs_outs (a : Args m c p) (t : Fin cfg0.N) (y : S128x8.Idx) :
    (t.val % 16 = 0 → (outsAt0 m c t.val t.isLt).2.2.2.1 y = 0 + ((bsPart p t (y 0) (y 1) : ℝ) : EReal))
    ∧ (¬ t.val % 16 = 0 → (outsAt0 m c t.val t.isLt).2.2.2.1 y
        = (outsAt0 m c (t.val - 1) (by omega)).2.2.2.1 y + ((bsPart p t (y 0) (y 1) : ℝ) : EReal)) := by
  refine ⟨fun h0 => ?_, fun h0 => ?_⟩
  · rw [outsAt0_A m c t h0 (by omega)]; frame_open
    simp (disch := decide) only [↓ View.readCov_skip, ↓ View.readCov_cons_toLoadRect, ↓ View.readCov_fill]
    frame_out
    refine (dbs_pieces a t k0_pay15 _ y).trans (congrArg (· + _) ?_)
    pointwise [k0_pay15]
  · by_cases h1 : t.val % 16 = 15
    · rw [outsAt0_C m c t h0 h1]; frame_open
      try simp (disch := decide) only [↓ View.readCov_skip, ↓ View.readCov_cons_toLoadRect, ↓ View.readCov_fill]
      frame_out
      exact dbs_pieces a t _ [] y
    · rw [outsAt0_B m c t h0 h1]; frame_open
      try simp (disch := decide) only [↓ View.readCov_skip, ↓ View.readCov_cons_toLoadRect, ↓ View.readCov_fill]
      frame_out
      exact dbs_pieces a t _ [] y

/-- Chunk `n` of point `t`, among the 64 chunks of rows. -/
theorem row_lr (t : Fin cfg0.N) (n : Fin 4) (s : Fin 128) (h) : row t (lr n s) = rw' ⟨t.val * 4 + n.val, h⟩ s := by
  apply Fin.ext; show t.val * 512 + (n.val * 128 + s.val) = (t.val * 4 + n.val) * 128 + s.val; omega

theorem sum_chunks (f : Fin 64 → ℝ) : ∑ t : Fin cfg0.N, ∑ n : Fin 4, f ⟨t.val * 4 + n.val, by have := t.isLt; have : cfg0.N = 16 := N_0; omega⟩ = ∑ n, f n :=
  Fin.sum_mul_add_congr (fun _ _ _ => rfl) (by show 64 = grid0.N * 4; rw [N_0])

theorem dbs_eq (a : Args m c p) :
    (dats m 0 c).arrAt 13 cfg0.N = fun y => ((p.dbs (y 0) (y 1) : ℝ) : EReal) := by
  refine (dats m 0 c).arrAt_eq_of_after_last 13 t0_15 (by decide +kernel) _ fun j => ?_
  blk_simp
  rw [after0_13, Pipeline.eq_sum_fin_of_reset_step_apply_last (fun n h => (outsAt0 m c n h).2.2.2.1) 16 (fun _ => 0)
    (fun t y => ((bsPart p t (y 0) (y 1) : ℝ) : EReal))
    (fun t h j => (dbs_outs a t j).1 h) (fun t h j => (dbs_outs a t j).2 h) (le_of_eq N_0) t0_15 rfl j, zero_add, coe_sum]
  refine congrArg (fun e : ℝ => (e : EReal)) (Eq.trans ?_ (sum_chunks fun n => ∑ d, p.dsv (rw' n (j 0)) (cg (j 1) d)))
  exact Finset.sum_congr rfl fun t _ => Finset.sum_comm.trans (Finset.sum_congr rfl fun n _ => Finset.sum_congr rfl fun d _ =>
    congrArg (p.dsv · _) (row_lr t n _ _))

/-! ### The weights -/

section lists

variable {r : Rect S8x128x128}

/-- Of four stores to one rectangle the last is read. -/
theorem canon_quad {f f1 f2 f3 : r.shape.Idx → Elt Ideal .f32} {L : List (View.Piece (Elt Ideal) S8x128x128 .f32)} {G : S8x128x128.Idx → EReal} {y : S8x128x128.Idx}
    (hf : ∀ x, f x = G (r.emb x)) (hL : y ∉ r.set → View.canon (Val := Elt Ideal) (e := EltTy.f32) L y = G y) :
    View.canon (Val := Elt Ideal) (e := EltTy.f32) (⟨r, f⟩ :: ⟨r, f1⟩ :: ⟨r, f2⟩ :: ⟨r, f3⟩ :: L) y = G y := by
  by_cases hm : y ∈ r.set
  · obtain ⟨x, hx⟩ := r.exists_idx_of_mem hm
    have hx' : r.emb x = y := hx
    rw [← hx', View.canon_cons_emb]; exact hf x
  · have skip (q : r.shape.Idx → Elt Ideal .f32) (L' : List (View.Piece (Elt Ideal) S8x128x128 .f32)) :
        View.canon (Val := Elt Ideal) (e := EltTy.f32) (⟨r, q⟩ :: L') y = View.canon (Val := Elt Ideal) (e := EltTy.f32) L' y :=
      View.canon_cons_of_not_mem (Val := Elt Ideal) (e := EltTy.f32) ⟨r, q⟩ L' hm
    exact (skip f _).trans ((skip f1 _).trans ((skip f2 _).trans ((skip f3 L).trans (hL hm))))

end lists

theorem dwsPiece (g : Fin 8) (h h') (acc : FVec Ideal S8x128x128 .f32) (S : Fin 128 → Fin 128 → ℝ) (P : FVec Ideal S1x128x128 .f32 → FVec Ideal S1x128x128 .f32)
    (G : S8x128x128.Idx → EReal) (Q : EReal → Fin 128 → Fin 128 → EReal) (hG : ∀ s r, G (ix3 g s r) = Q (acc (ix3 g s r) + ((S s r : ℝ) : EReal)) s r)
    (hP : ∀ w s r, P w (ix3 0 s r) = Q (w (ix3 0 s r) + ((S s r : ℝ) : EReal)) s r) (x : S1x128x128.Idx) :
    P (View.ld (Val := Elt Ideal) (e' := EltTy.f32) acc (Rect.unit (s := S8x128x128) ![g.val, 0, 0] ![1, 128, 128] h')) x
      = G ((Rect.unit (s := S8x128x128) ![g.val, 0, 0] ![1, 128, 128] h).emb x) := by
  have e : (Rect.unit (s := S8x128x128) ![g.val, 0, 0] ![1, 128, 128] h).emb x = ix3 g (x 1) (x 2) := by blk_ext
  obtain ⟨x0, s, r, rfl⟩ : ∃ x0 s r, x = ix3 x0 s r := ⟨x 0, x 1, x 2, by blk_ext⟩
  obtain rfl : x0 = 0 := Subsingleton.elim _ _
  rw [e, hP]
  refine Eq.trans ?_ (hG s r).symm
  refine congrArg (fun e : EReal => Q (e + _) s r) ?_
  pointwise

/-- A half's layernormed rows and its cotangents, as the kernel holds them at a point. -/
abbrev VB (m : (ℓ : Loc nD τ sig) → Buf (Elt Ideal) ℓ) (c : Dev nD) (t : Fin cfg0.N) := k0_pay33 (F := Ideal) (k0_pay31 (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0))) (View.ld (iblk m c 5 t) (Rect.unit ![1, 0] ![1, 1024] inb_S2x1024_S1x1024_1_0)) (View.ld (iblk m c 6 t) (Rect.unit ![1, 0] ![1, 1024] inb_S2x1024_S1x1024_1_0))
abbrev VA (m : (ℓ : Loc nD τ sig) → Buf (Elt Ideal) ℓ) (c : Dev nD) (t : Fin cfg0.N) := k0_pay32 (F := Ideal) (View.ld (iblk m c 3 t) (Rect.unit ![2, 0, 0] ![1, 512, 1024] inb_S4x512x1024_S1x512x1024_2_0_0)) (View.ld (iblk m c 3 t) (Rect.unit ![3, 0, 0] ![1, 512, 1024] inb_S4x512x1024_S1x512x1024_3_0_0)) (View.ld (iblk m c 5 t) (Rect.unit ![0, 0] ![1, 1024] inb_S2x1024_S1x1024_0_0)) (View.ld (iblk m c 6 t) (Rect.unit ![0, 0] ![1, 1024] inb_S2x1024_S1x1024_0_0))
abbrev DB (m : (ℓ : Loc nD τ sig) → Buf (Elt Ideal) ℓ) (c : Dev nD) (t : Fin cfg0.N) := k0_pay171 (F := Ideal) (k0_pay165 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0)))
abbrev DA (m : (ℓ : Loc nD τ sig) → Buf (Elt Ideal) ℓ) (c : Dev nD) (t : Fin cfg0.N) := k0_pay80 (F := Ideal) (k0_pay72 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0)))
/-- What a point makes of one group's slice of the accumulator. -/
abbrev dwsOf0 (m : (ℓ : Loc nD τ sig) → Buf (Elt Ideal) ℓ) (c : Dev nD) (t : Fin cfg0.N) (w : FVec Ideal S1x128x128 .f32) : FVec Ideal S1x128x128 .f32 := k0_pay92 (F := Ideal) (VA m c t) (k0_pay90 (DA m c t)) (k0_pay89 (VA m c t) (DA m c t) (k0_pay86 (VA m c t) (DA m c t) (k0_pay83 (VA m c t) (k0_pay72 (k0_pay23 (iblk m c 0 t) (iblk m c 1 t) (iblk m c 2 t)) (k0_pay44 (View.ld (iblk m c 3 t) (Rect.unit ![0, 0, 0] ![1, 512, 1024] inb_S4x512x1024_S1x512x1024_0_0_0))) (View.ld (iblk m c 9 t) (Rect.unit ![0, 0, 0] ![1, 1024, 1024] inb_S2x1024x1024_S1x1024x1024_0_0_0))) w)))
abbrev dwsOf1 (m : (ℓ : Loc nD τ sig) → Buf (Elt Ideal) ℓ) (c : Dev nD) (t : Fin cfg0.N) (w : FVec Ideal S1x128x128 .f32) : FVec Ideal S1x128x128 .f32 := k0_pay105 (F := Ideal) (VA m c t) (DA m c t) (k0_pay102 (VA m c t) (DA m c t) (k0_pay99 (k0_pay98 (VA m c t) (DA m c t) (k0_pay95 (VA m c t) (DA m c t) w))))
abbrev dwsOf2 (m : (ℓ : Loc nD τ sig) → Buf (Elt Ideal) ℓ) (c : Dev nD) (t : Fin cfg0.N) (w : FVec Ideal S1x128x128 .f32) : FVec Ideal S1x128x128 .f32 := k0_pay120 (F := Ideal) (VA m c t) (DA m c t) (k0_pay117 (k0_pay113 (DA m c t)) (k0_pay115 (k0_pay112 (VA m c t) (DA m c t) (k0_pay109 (VA m c t) (k0_pay106 (DA m c t)) w))) (k0_pay116 (VA m c t)))
abbrev dwsOf3 (m : (ℓ : Loc nD τ sig) → Buf (Elt Ideal) ℓ) (c : Dev nD) (t : Fin cfg0.N) (w : FVec Ideal S1x128x128 .f32) : FVec Ideal S1x128x128 .f32 := k0_pay132 (F := Ideal) (VA m c t) (k0_pay130 (DA m c t)) (k0_pay129 (VA m c t) (DA m c t) (k0_pay126 (VA m c t) (DA m c t) (k0_pay123 (VA m c t) (DA m c t) w)))
abbrev dwsOf4 (m : (ℓ : Loc nD τ sig) → Buf (Elt Ideal) ℓ) (c : Dev nD) (t : Fin cfg0.N) (w : FVec Ideal S1x128x128 .f32) : FVec Ideal S1x128x128 .f32 := k0_pay184 (F := Ideal) (VB m c t) (DB m c t) (k0_pay181 (k0_pay180 (VB m c t) (DB m c t) (k0_pay177 (VB m c t) (DB m c t) (k0_pay174 (VB m c t) (k0_pay172 (k0_pay165 (k0_pay23 (iblk m c 0 t) (iblk m c 1 t) (iblk m c 2 t)) (k0_pay136 (View.ld (iblk m c 3 t) (Rect.unit ![1, 0, 0] ![1, 512, 1024] inb_S4x512x1024_S1x512x1024_1_0_0))) (View.ld (iblk m c 9 t) (Rect.unit ![1, 0, 0] ![1, 1024, 1024] inb_S2x1024x1024_S1x1024x1024_1_0_0)))) w))))
abbrev dwsOf5 (m : (ℓ : Loc nD τ sig) → Buf (Elt Ideal) ℓ) (c : Dev nD) (t : Fin cfg0.N) (w : FVec Ideal S1x128x128 .f32) : FVec Ideal S1x128x128 .f32 := k0_pay198 (F := Ideal) (VB m c t) (k0_pay195 (DB m c t)) (k0_pay197 (k0_pay194 (VB m c t) (DB m c t) (k0_pay191 (VB m c t) (k0_pay188 (DB m c t)) (k0_pay187 (VB m c t) (DB m c t) w))))
abbrev dwsOf6 (m : (ℓ : Loc nD τ sig) → Buf (Elt Ideal) ℓ) (c : Dev nD) (t : Fin cfg0.N) (w : FVec Ideal S1x128x128 .f32) : FVec Ideal S1x128x128 .f32 := k0_pay210 (F := Ideal) (VB m c t) (DB m c t) (k0_pay207 (VB m c t) (DB m c t) (k0_pay204 (VB m c t) (DB m c t) (k0_pay201 (VB m c t) (DB m c t) w)))
abbrev dwsOf7 (m : (ℓ : Loc nD τ sig) → Buf (Elt Ideal) ℓ) (c : Dev nD) (t : Fin cfg0.N) (w : FVec Ideal S1x128x128 .f32) : FVec Ideal S1x128x128 .f32 := k0_pay223 (F := Ideal) (VB m c t) (DB m c t) (k0_pay220 (k0_pay219 (VB m c t) (DB m c t) (k0_pay216 (VB m c t) (DB m c t) (k0_pay213 (VB m c t) (k0_pay211 (DB m c t)) w))))

/-- The sum after a point that is not the last, `acc` being the sum so far. -/
def dwsNext (p : Gmlp) (t : Fin cfg0.N) (acc : FVec Ideal S8x128x128 .f32) (y : S8x128x128.Idx) : EReal :=
  acc y + ((wsPart p t (y 0) (y 1) (y 2) : ℝ) : EReal)

theorem dws_pieces (a : Args m c p) (t : Fin cfg0.N) {q0a q0b q0c q1a q1b q1c q2a q2b q2c q3a q3b q3c q4a q4b q4c q5a q5b q5c q6a q6b q6c q7a q7b q7c : FVec Ideal S1x128x128 .f32}
    (acc : FVec Ideal S8x128x128 .f32) (L : List (View.Piece (Elt Ideal) S8x128x128 .f32)) (y : S8x128x128.Idx) :
    View.canon (Val := Elt Ideal) (e := EltTy.f32) (
      ⟨(Rect.unit ![7, 0, 0] ![1, 128, 128] inb_S8x128x128_S1x128x128_7_0_0), dwsOf7 m c t (View.ld (Val := Elt Ideal) (e' := EltTy.f32) acc (Rect.unit ![7, 0, 0] ![1, 128, 128] inb_S8x128x128_S1x128x128_7_0_0))⟩ :: ⟨(Rect.unit ![7, 0, 0] ![1, 128, 128] inb_S8x128x128_S1x128x128_7_0_0), q7a⟩ :: ⟨(Rect.unit ![7, 0, 0] ![1, 128, 128] inb_S8x128x128_S1x128x128_7_0_0), q7b⟩ :: ⟨(Rect.unit ![7, 0, 0] ![1, 128, 128] inb_S8x128x128_S1x128x128_7_0_0), q7c⟩ ::
      ⟨(Rect.unit ![6, 0, 0] ![1, 128, 128] inb_S8x128x128_S1x128x128_6_0_0), dwsOf6 m c t (View.ld (Val := Elt Ideal) (e' := EltTy.f32) acc (Rect.unit ![6, 0, 0] ![1, 128, 128] inb_S8x128x128_S1x128x128_6_0_0))⟩ :: ⟨(Rect.unit ![6, 0, 0] ![1, 128, 128] inb_S8x128x128_S1x128x128_6_0_0), q6a⟩ :: ⟨(Rect.unit ![6, 0, 0] ![1, 128, 128] inb_S8x128x128_S1x128x128_6_0_0), q6b⟩ :: ⟨(Rect.unit ![6, 0, 0] ![1, 128, 128] inb_S8x128x128_S1x128x128_6_0_0), q6c⟩ ::
      ⟨(Rect.unit ![5, 0, 0] ![1, 128, 128] inb_S8x128x128_S1x128x128_5_0_0), dwsOf5 m c t (View.ld (Val := Elt Ideal) (e' := EltTy.f32) acc (Rect.unit ![5, 0, 0] ![1, 128, 128] inb_S8x128x128_S1x128x128_5_0_0))⟩ :: ⟨(Rect.unit ![5, 0, 0] ![1, 128, 128] inb_S8x128x128_S1x128x128_5_0_0), q5a⟩ :: ⟨(Rect.unit ![5, 0, 0] ![1, 128, 128] inb_S8x128x128_S1x128x128_5_0_0), q5b⟩ :: ⟨(Rect.unit ![5, 0, 0] ![1, 128, 128] inb_S8x128x128_S1x128x128_5_0_0), q5c⟩ ::
      ⟨(Rect.unit ![4, 0, 0] ![1, 128, 128] inb_S8x128x128_S1x128x128_4_0_0), dwsOf4 m c t (View.ld (Val := Elt Ideal) (e' := EltTy.f32) acc (Rect.unit ![4, 0, 0] ![1, 128, 128] inb_S8x128x128_S1x128x128_4_0_0))⟩ :: ⟨(Rect.unit ![4, 0, 0] ![1, 128, 128] inb_S8x128x128_S1x128x128_4_0_0), q4a⟩ :: ⟨(Rect.unit ![4, 0, 0] ![1, 128, 128] inb_S8x128x128_S1x128x128_4_0_0), q4b⟩ :: ⟨(Rect.unit ![4, 0, 0] ![1, 128, 128] inb_S8x128x128_S1x128x128_4_0_0), q4c⟩ ::
      ⟨(Rect.unit ![3, 0, 0] ![1, 128, 128] inb_S8x128x128_S1x128x128_3_0_0), dwsOf3 m c t (View.ld (Val := Elt Ideal) (e' := EltTy.f32) acc (Rect.unit ![3, 0, 0] ![1, 128, 128] inb_S8x128x128_S1x128x128_3_0_0))⟩ :: ⟨(Rect.unit ![3, 0, 0] ![1, 128, 128] inb_S8x128x128_S1x128x128_3_0_0), q3a⟩ :: ⟨(Rect.unit ![3, 0, 0] ![1, 128, 128] inb_S8x128x128_S1x128x128_3_0_0), q3b⟩ :: ⟨(Rect.unit ![3, 0, 0] ![1, 128, 128] inb_S8x128x128_S1x128x128_3_0_0), q3c⟩ ::
      ⟨(Rect.unit ![2, 0, 0] ![1, 128, 128] inb_S8x128x128_S1x128x128_2_0_0), dwsOf2 m c t (View.ld (Val := Elt Ideal) (e' := EltTy.f32) acc (Rect.unit ![2, 0, 0] ![1, 128, 128] inb_S8x128x128_S1x128x128_2_0_0))⟩ :: ⟨(Rect.unit ![2, 0, 0] ![1, 128, 128] inb_S8x128x128_S1x128x128_2_0_0), q2a⟩ :: ⟨(Rect.unit ![2, 0, 0] ![1, 128, 128] inb_S8x128x128_S1x128x128_2_0_0), q2b⟩ :: ⟨(Rect.unit ![2, 0, 0] ![1, 128, 128] inb_S8x128x128_S1x128x128_2_0_0), q2c⟩ ::
      ⟨(Rect.unit ![1, 0, 0] ![1, 128, 128] inb_S8x128x128_S1x128x128_1_0_0), dwsOf1 m c t (View.ld (Val := Elt Ideal) (e' := EltTy.f32) acc (Rect.unit ![1, 0, 0] ![1, 128, 128] inb_S8x128x128_S1x128x128_1_0_0))⟩ :: ⟨(Rect.unit ![1, 0, 0] ![1, 128, 128] inb_S8x128x128_S1x128x128_1_0_0), q1a⟩ :: ⟨(Rect.unit ![1, 0, 0] ![1, 128, 128] inb_S8x128x128_S1x128x128_1_0_0), q1b⟩ :: ⟨(Rect.unit ![1, 0, 0] ![1, 128, 128] inb_S8x128x128_S1x128x128_1_0_0), q1c⟩ ::
      ⟨(Rect.unit ![0, 0, 0] ![1, 128, 128] inb_S8x128x128_S1x128x128_0_0_0), dwsOf0 m c t (View.ld (Val := Elt Ideal) (e' := EltTy.f32) acc (Rect.unit ![0, 0, 0] ![1, 128, 128] inb_S8x128x128_S1x128x128_0_0_0))⟩ :: ⟨(Rect.unit ![0, 0, 0] ![1, 128, 128] inb_S8x128x128_S1x128x128_0_0_0), q0a⟩ :: ⟨(Rect.unit ![0, 0, 0] ![1, 128, 128] inb_S8x128x128_S1x128x128_0_0_0), q0b⟩ :: ⟨(Rect.unit ![0, 0, 0] ![1, 128, 128] inb_S8x128x128_S1x128x128_0_0_0), q0c⟩ :: L) y
      = dwsNext p t acc y := by
  refine canon_quad (G := dwsNext p t acc) (dwsPiece 7 inb_S8x128x128_S1x128x128_7_0_0 inb_S8x128x128_S1x128x128_7_0_0 acc (wsPart p t (gb 1 3)) (dwsOf7 m c t) (dwsNext p t acc) (fun e _ _ => e) (fun s r => rfl)
      fun w s r => dws_pay7 (D1 a t) (VL1 a t) w s r) fun h7 => ?_
  refine canon_quad (G := dwsNext p t acc) (dwsPiece 6 inb_S8x128x128_S1x128x128_6_0_0 inb_S8x128x128_S1x128x128_6_0_0 acc (wsPart p t (gb 1 2)) (dwsOf6 m c t) (dwsNext p t acc) (fun e _ _ => e) (fun s r => rfl)
      fun w s r => dws_pay6 (D1 a t) (VL1 a t) w s r) fun h6 => ?_
  refine canon_quad (G := dwsNext p t acc) (dwsPiece 5 inb_S8x128x128_S1x128x128_5_0_0 inb_S8x128x128_S1x128x128_5_0_0 acc (wsPart p t (gb 1 1)) (dwsOf5 m c t) (dwsNext p t acc) (fun e _ _ => e) (fun s r => rfl)
      fun w s r => dws_pay5 (D1 a t) (VL1 a t) w s r) fun h5 => ?_
  refine canon_quad (G := dwsNext p t acc) (dwsPiece 4 inb_S8x128x128_S1x128x128_4_0_0 inb_S8x128x128_S1x128x128_4_0_0 acc (wsPart p t (gb 1 0)) (dwsOf4 m c t) (dwsNext p t acc) (fun e _ _ => e) (fun s r => rfl)
      fun w s r => dws_pay4 (D1 a t) (VL1 a t) w s r) fun h4 => ?_
  refine canon_quad (G := dwsNext p t acc) (dwsPiece 3 inb_S8x128x128_S1x128x128_3_0_0 inb_S8x128x128_S1x128x128_3_0_0 acc (wsPart p t (gb 0 3)) (dwsOf3 m c t) (dwsNext p t acc) (fun e _ _ => e) (fun s r => rfl)
      fun w s r => dws_pay3 (D0 a t) (VL0 a t) w s r) fun h3 => ?_
  refine canon_quad (G := dwsNext p t acc) (dwsPiece 2 inb_S8x128x128_S1x128x128_2_0_0 inb_S8x128x128_S1x128x128_2_0_0 acc (wsPart p t (gb 0 2)) (dwsOf2 m c t) (dwsNext p t acc) (fun e _ _ => e) (fun s r => rfl)
      fun w s r => dws_pay2 (D0 a t) (VL0 a t) w s r) fun h2 => ?_
  refine canon_quad (G := dwsNext p t acc) (dwsPiece 1 inb_S8x128x128_S1x128x128_1_0_0 inb_S8x128x128_S1x128x128_1_0_0 acc (wsPart p t (gb 0 1)) (dwsOf1 m c t) (dwsNext p t acc) (fun e _ _ => e) (fun s r => rfl)
      fun w s r => dws_pay1 (D0 a t) (VL0 a t) w s r) fun h1 => ?_
  refine canon_quad (G := dwsNext p t acc) (dwsPiece 0 inb_S8x128x128_S1x128x128_0_0_0 inb_S8x128x128_S1x128x128_0_0_0 acc (wsPart p t (gb 0 0)) (dwsOf0 m c t) (dwsNext p t acc) (fun e _ _ => e) (fun s r => rfl)
      fun w s r => dws_pay0 (D0 a t) (VL0 a t) w s r) fun h0 => ?_
  obtain ⟨q, hq, hy⟩ := View.cover_of_tiledL (Val := Elt Ideal) (e := EltTy.f32) (s := S8x128x128) [⟨(Rect.unit ![7, 0, 0] ![1, 128, 128] inb_S8x128x128_S1x128x128_7_0_0), q7a⟩, ⟨(Rect.unit ![6, 0, 0] ![1, 128, 128] inb_S8x128x128_S1x128x128_6_0_0), q6a⟩, ⟨(Rect.unit ![5, 0, 0] ![1, 128, 128] inb_S8x128x128_S1x128x128_5_0_0), q5a⟩, ⟨(Rect.unit ![4, 0, 0] ![1, 128, 128] inb_S8x128x128_S1x128x128_4_0_0), q4a⟩, ⟨(Rect.unit ![3, 0, 0] ![1, 128, 128] inb_S8x128x128_S1x128x128_3_0_0), q3a⟩, ⟨(Rect.unit ![2, 0, 0] ![1, 128, 128] inb_S8x128x128_S1x128x128_2_0_0), q2a⟩, ⟨(Rect.unit ![1, 0, 0] ![1, 128, 128] inb_S8x128x128_S1x128x128_1_0_0), q1a⟩, ⟨(Rect.unit ![0, 0, 0] ![1, 128, 128] inb_S8x128x128_S1x128x128_0_0_0), q0a⟩] ![1, 128, 128] (by sl_kernel_rfl) y
  simp only [List.mem_cons, List.not_mem_nil, or_false] at hq
  rcases hq with rfl | rfl | rfl | rfl | rfl | rfl | rfl | rfl
  · exact absurd hy h7
  · exact absurd hy h6
  · exact absurd hy h5
  · exact absurd hy h4
  · exact absurd hy h3
  · exact absurd hy h2
  · exact absurd hy h1
  · exact absurd hy h0

/-- The gradient after the last point, `acc` being the sum so far. -/
def dwsLast (p : Gmlp) (t : Fin cfg0.N) (acc : FVec Ideal S8x128x128 .f32) (y : S8x128x128.Idx) : EReal :=
  if (y 2).val ≤ (y 1).val then acc y + ((wsPart p t (y 0) (y 1) (y 2) : ℝ) : EReal) else 0

theorem dwsLastPiece {t : Fin cfg0.N} (g : Fin 8) (h h') (acc : FVec Ideal S8x128x128 .f32) (M P : FVec Ideal S1x128x128 .f32 → FVec Ideal S1x128x128 .f32)
    (hM : ∀ x s r, M x (ix3 0 s r) = if r.val ≤ s.val then x (ix3 0 s r) else 0)
    (hP : ∀ w s r, P w (ix3 0 s r) = w (ix3 0 s r) + ((wsPart p t g s r : ℝ) : EReal)) (x : S1x128x128.Idx) :
    M (P (View.ld (Val := Elt Ideal) (e' := EltTy.f32) acc (Rect.unit (s := S8x128x128) ![g.val, 0, 0] ![1, 128, 128] h'))) x
      = dwsLast p t acc ((Rect.unit (s := S8x128x128) ![g.val, 0, 0] ![1, 128, 128] h).emb x) :=
  dwsPiece g h h' acc (wsPart p t g) (fun w => M (P w)) (dwsLast p t acc) (fun e s r => if r.val ≤ s.val then e else 0) (fun _ _ => rfl)
    (fun w s r => (hM _ s r).trans (congrArg (fun e : EReal => if r.val ≤ s.val then e else 0) (hP w s r))) x

theorem canon_slices {f0 f1 f2 f3 f4 f5 f6 f7 : FVec Ideal S1x128x128 .f32} {G : S8x128x128.Idx → EReal}
    (h0 : ∀ x, f0 x = G ((Rect.unit (s := S8x128x128) ![0, 0, 0] ![1, 128, 128] inb_S8x128x128_S1x128x128_0_0_0).emb x))
    (h1 : ∀ x, f1 x = G ((Rect.unit (s := S8x128x128) ![1, 0, 0] ![1, 128, 128] inb_S8x128x128_S1x128x128_1_0_0).emb x))
    (h2 : ∀ x, f2 x = G ((Rect.unit (s := S8x128x128) ![2, 0, 0] ![1, 128, 128] inb_S8x128x128_S1x128x128_2_0_0).emb x))
    (h3 : ∀ x, f3 x = G ((Rect.unit (s := S8x128x128) ![3, 0, 0] ![1, 128, 128] inb_S8x128x128_S1x128x128_3_0_0).emb x))
    (h4 : ∀ x, f4 x = G ((Rect.unit (s := S8x128x128) ![4, 0, 0] ![1, 128, 128] inb_S8x128x128_S1x128x128_4_0_0).emb x))
    (h5 : ∀ x, f5 x = G ((Rect.unit (s := S8x128x128) ![5, 0, 0] ![1, 128, 128] inb_S8x128x128_S1x128x128_5_0_0).emb x))
    (h6 : ∀ x, f6 x = G ((Rect.unit (s := S8x128x128) ![6, 0, 0] ![1, 128, 128] inb_S8x128x128_S1x128x128_6_0_0).emb x))
    (h7 : ∀ x, f7 x = G ((Rect.unit (s := S8x128x128) ![7, 0, 0] ![1, 128, 128] inb_S8x128x128_S1x128x128_7_0_0).emb x))
    (L : List (View.Piece (Elt Ideal) S8x128x128 .f32)) (y : S8x128x128.Idx) :
    View.canon (Val := Elt Ideal) (e := EltTy.f32) (⟨(Rect.unit ![7, 0, 0] ![1, 128, 128] inb_S8x128x128_S1x128x128_7_0_0), f7⟩ :: ⟨(Rect.unit ![6, 0, 0] ![1, 128, 128] inb_S8x128x128_S1x128x128_6_0_0), f6⟩ :: ⟨(Rect.unit ![5, 0, 0] ![1, 128, 128] inb_S8x128x128_S1x128x128_5_0_0), f5⟩ :: ⟨(Rect.unit ![4, 0, 0] ![1, 128, 128] inb_S8x128x128_S1x128x128_4_0_0), f4⟩ :: ⟨(Rect.unit ![3, 0, 0] ![1, 128, 128] inb_S8x128x128_S1x128x128_3_0_0), f3⟩ :: ⟨(Rect.unit ![2, 0, 0] ![1, 128, 128] inb_S8x128x128_S1x128x128_2_0_0), f2⟩ :: ⟨(Rect.unit ![1, 0, 0] ![1, 128, 128] inb_S8x128x128_S1x128x128_1_0_0), f1⟩ :: ⟨(Rect.unit ![0, 0, 0] ![1, 128, 128] inb_S8x128x128_S1x128x128_0_0_0), f0⟩ :: L) y = G y :=
  View.canon_append_of_piecesOf (Val := Elt Ideal) (e := EltTy.f32) G L [_, _, _, _, _, _, _, _] ⟨h7, h6, h5, h4, h3, h2, h1, h0, trivial⟩ y
    (View.cover_of_tiledL _ ![1, 128, 128] (by sl_kernel_rfl) y)

theorem dws_masked (a : Args m c p) (t : Fin cfg0.N) (acc : FVec Ideal S8x128x128 .f32) (L : List (View.Piece (Elt Ideal) S8x128x128 .f32)) (y : S8x128x128.Idx) :
    View.canon (Val := Elt Ideal) (e := EltTy.f32) (
      ⟨(Rect.unit ![7, 0, 0] ![1, 128, 128] inb_S8x128x128_S1x128x128_7_0_0), k0_pay2 (F := Ideal) (k0_pay11 (iota .tc S128x128 32 [0] iota_S128x128_d0_w32) (iota .tc S128x128 32 [1] iota_S128x128_d1_w32)) (k0_pay12 (dwsOf7 m c t (View.ld (Val := Elt Ideal) (e' := EltTy.f32) acc (Rect.unit ![7, 0, 0] ![1, 128, 128] inb_S8x128x128_S1x128x128_7_0_0))))⟩ ::
      ⟨(Rect.unit ![6, 0, 0] ![1, 128, 128] inb_S8x128x128_S1x128x128_6_0_0), k0_pay10 (F := Ideal) (iota .tc S128x128 32 [0] iota_S128x128_d0_w32) (iota .tc S128x128 32 [1] iota_S128x128_d1_w32) (dwsOf6 m c t (View.ld (Val := Elt Ideal) (e' := EltTy.f32) acc (Rect.unit ![6, 0, 0] ![1, 128, 128] inb_S8x128x128_S1x128x128_6_0_0)))⟩ ::
      ⟨(Rect.unit ![5, 0, 0] ![1, 128, 128] inb_S8x128x128_S1x128x128_5_0_0), k0_pay9 (F := Ideal) (iota .tc S128x128 32 [0] iota_S128x128_d0_w32) (iota .tc S128x128 32 [1] iota_S128x128_d1_w32) (dwsOf5 m c t (View.ld (Val := Elt Ideal) (e' := EltTy.f32) acc (Rect.unit ![5, 0, 0] ![1, 128, 128] inb_S8x128x128_S1x128x128_5_0_0)))⟩ ::
      ⟨(Rect.unit ![4, 0, 0] ![1, 128, 128] inb_S8x128x128_S1x128x128_4_0_0), k0_pay8 (F := Ideal) (iota .tc S128x128 32 [0] iota_S128x128_d0_w32) (iota .tc S128x128 32 [1] iota_S128x128_d1_w32) (dwsOf4 m c t (View.ld (Val := Elt Ideal) (e' := EltTy.f32) acc (Rect.unit ![4, 0, 0] ![1, 128, 128] inb_S8x128x128_S1x128x128_4_0_0)))⟩ ::
      ⟨(Rect.unit ![3, 0, 0] ![1, 128, 128] inb_S8x128x128_S1x128x128_3_0_0), k0_pay7 (F := Ideal) (k0_pay6 (dwsOf3 m c t (View.ld (Val := Elt Ideal) (e' := EltTy.f32) acc (Rect.unit ![3, 0, 0] ![1, 128, 128] inb_S8x128x128_S1x128x128_3_0_0))))⟩ ::
      ⟨(Rect.unit ![2, 0, 0] ![1, 128, 128] inb_S8x128x128_S1x128x128_2_0_0), k0_pay5 (F := Ideal) (dwsOf2 m c t (View.ld (Val := Elt Ideal) (e' := EltTy.f32) acc (Rect.unit ![2, 0, 0] ![1, 128, 128] inb_S8x128x128_S1x128x128_2_0_0)))⟩ ::
      ⟨(Rect.unit ![1, 0, 0] ![1, 128, 128] inb_S8x128x128_S1x128x128_1_0_0), k0_pay4 (F := Ideal) (dwsOf1 m c t (View.ld (Val := Elt Ideal) (e' := EltTy.f32) acc (Rect.unit ![1, 0, 0] ![1, 128, 128] inb_S8x128x128_S1x128x128_1_0_0)))⟩ ::
      ⟨(Rect.unit ![0, 0, 0] ![1, 128, 128] inb_S8x128x128_S1x128x128_0_0_0), k0_pay3 (F := Ideal) (dwsOf0 m c t (View.ld (Val := Elt Ideal) (e' := EltTy.f32) acc (Rect.unit ![0, 0, 0] ![1, 128, 128] inb_S8x128x128_S1x128x128_0_0_0)))⟩ :: L) y
      = dwsLast p t acc y := by
  have h7 := fun x => dwsLastPiece (t := t) (p := p) 7 inb_S8x128x128_S1x128x128_7_0_0 inb_S8x128x128_S1x128x128_7_0_0 acc (fun x => k0_pay2 (F := Ideal) (k0_pay11 (iota .tc S128x128 32 [0] iota_S128x128_d0_w32) (iota .tc S128x128 32 [1] iota_S128x128_d1_w32)) (k0_pay12 x)) (dwsOf7 m c t)
    mask_pay7 (fun w s r => dws_pay7 (b := 1) (D1 a t) (VL1 a t) w s r) x
  have h6 := fun x => dwsLastPiece (t := t) (p := p) 6 inb_S8x128x128_S1x128x128_6_0_0 inb_S8x128x128_S1x128x128_6_0_0 acc (fun x => k0_pay10 (F := Ideal) (iota .tc S128x128 32 [0] iota_S128x128_d0_w32) (iota .tc S128x128 32 [1] iota_S128x128_d1_w32) x) (dwsOf6 m c t)
    mask_pay6 (fun w s r => dws_pay6 (b := 1) (D1 a t) (VL1 a t) w s r) x
  have h5 := fun x => dwsLastPiece (t := t) (p := p) 5 inb_S8x128x128_S1x128x128_5_0_0 inb_S8x128x128_S1x128x128_5_0_0 acc (fun x => k0_pay9 (F := Ideal) (iota .tc S128x128 32 [0] iota_S128x128_d0_w32) (iota .tc S128x128 32 [1] iota_S128x128_d1_w32) x) (dwsOf5 m c t)
    mask_pay5 (fun w s r => dws_pay5 (b := 1) (D1 a t) (VL1 a t) w s r) x
  have h4 := fun x => dwsLastPiece (t := t) (p := p) 4 inb_S8x128x128_S1x128x128_4_0_0 inb_S8x128x128_S1x128x128_4_0_0 acc (fun x => k0_pay8 (F := Ideal) (iota .tc S128x128 32 [0] iota_S128x128_d0_w32) (iota .tc S128x128 32 [1] iota_S128x128_d1_w32) x) (dwsOf4 m c t)
    mask_pay4 (fun w s r => dws_pay4 (b := 1) (D1 a t) (VL1 a t) w s r) x
  have h3 := fun x => dwsLastPiece (t := t) (p := p) 3 inb_S8x128x128_S1x128x128_3_0_0 inb_S8x128x128_S1x128x128_3_0_0 acc (fun x => k0_pay7 (F := Ideal) (k0_pay6 x)) (dwsOf3 m c t)
    mask_pay3 (fun w s r => dws_pay3 (b := 0) (D0 a t) (VL0 a t) w s r) x
  have h2 := fun x => dwsLastPiece (t := t) (p := p) 2 inb_S8x128x128_S1x128x128_2_0_0 inb_S8x128x128_S1x128x128_2_0_0 acc (fun x => k0_pay5 (F := Ideal) x) (dwsOf2 m c t)
    mask_pay2 (fun w s r => dws_pay2 (b := 0) (D0 a t) (VL0 a t) w s r) x
  have h1 := fun x => dwsLastPiece (t := t) (p := p) 1 inb_S8x128x128_S1x128x128_1_0_0 inb_S8x128x128_S1x128x128_1_0_0 acc (fun x => k0_pay4 (F := Ideal) x) (dwsOf1 m c t)
    mask_pay1 (fun w s r => dws_pay1 (b := 0) (D0 a t) (VL0 a t) w s r) x
  have h0 := fun x => dwsLastPiece (t := t) (p := p) 0 inb_S8x128x128_S1x128x128_0_0_0 inb_S8x128x128_S1x128x128_0_0_0 acc (fun x => k0_pay3 (F := Ideal) x) (dwsOf0 m c t)
    mask_pay0 (fun w s r => dws_pay0 (b := 0) (D0 a t) (VL0 a t) w s r) x
  exact canon_slices h0 h1 h2 h3 h4 h5 h6 h7 L y

theorem dws_outA (a : Args m c p) (t : Fin cfg0.N) (h0 : t.val % 16 = 0) (y : S8x128x128.Idx) :
    (outsAt0 m c t.val t.isLt).2.2.1 y = 0 + ((wsPart p t (y 0) (y 1) (y 2) : ℝ) : EReal) := by
  rw [outsAt0_A m c t h0 (by omega)]; frame_open
  simp (disch := decide) only [↓ View.readCov_skip, ↓ View.readCov_cons_toLoadRect, ↓ View.readCov_fill]
  frame_out
  refine (dws_pieces a t k0_pay14 _ y).trans (congrArg (· + _) ?_)
  pointwise [k0_pay14]

theorem dws_outB (a : Args m c p) (t : Fin cfg0.N) (h0 : ¬ t.val % 16 = 0) (h1 : ¬ t.val % 16 = 15) (y : S8x128x128.Idx) :
    (outsAt0 m c t.val t.isLt).2.2.1 y = (outsAt0 m c (t.val - 1) (by omega)).2.2.1 y + ((wsPart p t (y 0) (y 1) (y 2) : ℝ) : EReal) := by
  rw [outsAt0_B m c t h0 h1]; frame_open
  try simp (disch := decide) only [↓ View.readCov_skip, ↓ View.readCov_cons_toLoadRect, ↓ View.readCov_fill]
  frame_out
  exact dws_pieces a t _ [] y

theorem dws_outC (a : Args m c p) (t : Fin cfg0.N) (h0 : ¬ t.val % 16 = 0) (h1 : t.val % 16 = 15) (y : S8x128x128.Idx) :
    (outsAt0 m c t.val t.isLt).2.2.1 y = if (y 2).val ≤ (y 1).val
      then (outsAt0 m c (t.val - 1) (by omega)).2.2.1 y + ((wsPart p t (y 0) (y 1) (y 2) : ℝ) : EReal) else 0 := by
  rw [outsAt0_C m c t h0 h1]; frame_open
  try simp (disch := decide) only [↓ View.readCov_skip, ↓ View.readCov_cons_toLoadRect, ↓ View.readCov_fill]
  frame_out
  exact dws_masked a t _ _ y

theorem dws_eq (a : Args m c p) :
    (dats m 0 c).arrAt 12 cfg0.N = fun y => ((p.dws (y 0) (y 1) (y 2) : ℝ) : EReal) := by
  refine (dats m 0 c).arrAt_eq_of_after_last 12 t0_15 (by decide +kernel) _ fun j => ?_
  blk_simp
  rw [after0_12]
  by_cases e : (j 2).val ≤ (j 1).val
  · have h := Pipeline.eq_sum_fin_of_reset_step_apply_last
      (fun n h (y : S8x128x128.Idx) => if (y 2).val ≤ (y 1).val then (outsAt0 m c n h).2.2.1 y else 0) 16 (fun _ => 0)
      (fun t y => ((if (y 2).val ≤ (y 1).val then wsPart p t (y 0) (y 1) (y 2) else 0 : ℝ) : EReal))
      (fun t h j => by
        by_cases e : (j 2).val ≤ (j 1).val
        · simp only [if_pos e]; exact dws_outA a t h j
        · simp only [if_neg e]; simp)
      (fun t h j => by
        by_cases e : (j 2).val ≤ (j 1).val
        · simp only [if_pos e]
          by_cases h1 : t.val % 16 = 15
          · exact (dws_outC a t h h1 j).trans (if_pos e)
          · exact dws_outB a t h h1 j
        · simp only [if_neg e]; simp) (le_of_eq N_0) t0_15 rfl j
    simp only [if_pos e] at h
    refine h.trans ?_
    rw [zero_add, coe_sum, show p.dws (j 0) (j 1) (j 2) = _ from if_pos e]
    refine congrArg (fun e : ℝ => (e : EReal)) (Eq.trans ?_ (sum_chunks fun n => ∑ d, p.dsv (rw' n (j 1)) (cg (j 0) d) * p.vl (rw' n (j 2)) (cg (j 0) d)))
    exact Finset.sum_congr rfl fun t _ => Finset.sum_congr rfl fun n _ => Finset.sum_congr rfl fun d _ =>
      congrArg₂ (· * ·) (congrArg (p.dsv · _) (row_lr t n _ _)) (congrArg (p.vl · _) (row_lr t n _ _))
  · refine (dws_outC a t0_15 (by decide) (by decide) j).trans ?_
    rw [if_neg e, show p.dws (j 0) (j 1) (j 2) = 0 from if_neg e]; rfl

end Cert.AHiddenIdeal.Val
-- ==== Proof.AHiddenClaim.lean ====
/-
  `mix_a_bwd_hidden`: the kernel and the reference end with equal results on finite arguments.
-/
module

public import proofs.«01_k».proof.Defs
public import proofs.«01_k».proof.Proof.AHiddenValue
public import proofs.«01_k».proof.Proof.AHiddenSpatial
public import proofs.«01_k».proof.Proof.AHiddenRefValue
public import proofs.«01_k».proof.Proof.Gen.Pre_a_hidden_finite
public import Idealize.ShloMosaic.Adequacy
public import Idealize.ShloMosaic.Init

@[expose] public section

set_option maxRecDepth 16384

noncomputable section

namespace Cert.AHiddenIdeal.Val

open Idealize.ShloMosaic Idealize.ShloMosaic.TcCoe Idealize.SL.Sem
open Cert.AHiddenIdeal Cert.Lift

/-- The real numbers of the arguments. -/
def reals (m : (ℓ : Loc nD τ sig) → Buf (Elt Ideal) ℓ) (c : Dev nD) : Gmlp where
  z i j := re (s := S8192x4096) (m ((c.tc : Thread nD τ).loc main_arg0)) (ix2 i j)
  lg j := re (s := S2048) (m ((c.tc : Thread nD τ).loc main_arg1)) (ix1 j)
  lb j := re (s := S2048) (m ((c.tc : Thread nD τ).loc main_arg2)) (ix1 j)
  ws g t s := re (s := S8x128x128) (m ((c.tc : Thread nD τ).loc main_arg3)) (ix3 g t s)
  bs g t := re (s := S8x128) (m ((c.tc : Thread nD τ).loc main_arg4)) (ix2 g t)
  wo j k := re (s := S2048x1024) (m ((c.tc : Thread nD τ).loc main_arg5)) (ix2 j k)
  pg k := re (s := S1024) (m ((c.tc : Thread nD τ).loc main_arg6)) (ix1 k)
  dy i k := re (s := S8192x1024) (m ((c.tc : Thread nD τ).loc main_arg7)) (ix2 i k)

/-- What the precondition says: the arguments are arrays of real numbers. -/
theorem finite_args {m : (ℓ : Loc nD τ sig) → Buf (Elt Ideal) ℓ} (h : Cert.Pre_AHiddenIdeal_a_hidden_finite m) (c : Dev nD) :
    Args m c (reals m c) := by
  have e := congrFun (h c) (fun i => i.elim0)
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm,
    fun _ => (fin_of_all _ _ _ _ _ _ h1 _).symm,
    fun _ => (fin_of_all _ _ _ _ _ _ h2 _).symm,
    fun _ _ _ => (fin_of_all _ _ _ _ _ _ h3 _).symm,
    fun _ _ => (fin_of_all _ _ _ _ _ _ h4 _).symm,
    fun _ _ => (fin_of_all _ _ _ _ _ _ h5 _).symm,
    fun _ => (fin_of_all _ _ _ _ _ _ h6 _).symm,
    fun _ _ => (fin_of_all _ _ _ _ _ _ h7 _).symm⟩

set_option maxHeartbeats 1000000 in
theorem algebraic : Cert.algebraic_AHiddenIdeal_AHiddenRefIdeal_pre_a_hidden_finite := by
  pair_intro
  · run_from Cert.AHiddenIdeal.Value.run_blocks m g
  · run_from Cert.AHiddenRefIdeal.Value.run m' g'
    all_goals have a := finite_args hpre c
    all_goals obtain ⟨a0, a1, a2, a3, a4, a5, a6, a7⟩ := hagree c
    all_goals have b : Cert.AHiddenRefIdeal.Val.Args (m' ((c.tc : Thread AHiddenRefIdeal.nD AHiddenRefIdeal.τ).loc AHiddenRefIdeal.main_arg0)) (m' ((c.tc : Thread AHiddenRefIdeal.nD AHiddenRefIdeal.τ).loc AHiddenRefIdeal.main_arg1)) (m' ((c.tc : Thread AHiddenRefIdeal.nD AHiddenRefIdeal.τ).loc AHiddenRefIdeal.main_arg2)) (m' ((c.tc : Thread AHiddenRefIdeal.nD AHiddenRefIdeal.τ).loc AHiddenRefIdeal.main_arg3)) (m' ((c.tc : Thread AHiddenRefIdeal.nD AHiddenRefIdeal.τ).loc AHiddenRefIdeal.main_arg4)) (m' ((c.tc : Thread AHiddenRefIdeal.nD AHiddenRefIdeal.τ).loc AHiddenRefIdeal.main_arg5)) (m' ((c.tc : Thread AHiddenRefIdeal.nD AHiddenRefIdeal.τ).loc AHiddenRefIdeal.main_arg6)) (m' ((c.tc : Thread AHiddenRefIdeal.nD AHiddenRefIdeal.τ).loc AHiddenRefIdeal.main_arg7)) (reals m c) := (by rw [a0, a1, a2, a3, a4, a5, a6, a7]; exact ⟨a.z, a.lg, a.lb, a.ws, a.bs, a.wo, a.pg, a.dy⟩)
    · rw [dz_eq a, Cert.AHiddenRefIdeal.Read.val_main_v156_eq]
      funext y
      obtain ⟨i, j, k, rfl⟩ : ∃ i j k, y = ix3 i j k := ⟨y 0, y 1, y 2, by blk_ext⟩
      exact Cert.AHiddenRefIdeal.Val.v156 b i j k
    · rw [dwo_eq a, Cert.AHiddenRefIdeal.Read.val_main_v157_eq]
      funext y
      obtain ⟨i, j, k, rfl⟩ : ∃ i j k, y = ix3 i j k := ⟨y 0, y 1, y 2, by blk_ext⟩
      exact Cert.AHiddenRefIdeal.Val.v157 b i j k
    · rw [dws_eq a, Cert.AHiddenRefIdeal.Read.val_main_v111_eq]
      funext y
      obtain ⟨i, j, k, rfl⟩ : ∃ i j k, y = ix3 i j k := ⟨y 0, y 1, y 2, by blk_ext⟩
      exact Cert.AHiddenRefIdeal.Val.v111 b i j k
    · rw [dbs_eq a, Cert.AHiddenRefIdeal.Read.val_main_v158_eq]
      funext y
      obtain ⟨i, j, rfl⟩ : ∃ i j, y = ix2 i j := ⟨y 0, y 1, by blk_ext⟩
      exact Cert.AHiddenRefIdeal.Val.v158 b i j
    · rw [dlg_eq a, Cert.AHiddenRefIdeal.Read.val_main_v159_eq]
      funext y
      obtain ⟨i, j, rfl⟩ : ∃ i j, y = ix2 i j := ⟨y 0, y 1, by blk_ext⟩
      exact Cert.AHiddenRefIdeal.Val.v159 b i j
    · rw [dlb_eq a, Cert.AHiddenRefIdeal.Read.val_main_v160_eq]
      funext y
      obtain ⟨i, j, rfl⟩ : ∃ i j, y = ix2 i j := ⟨y 0, y 1, by blk_ext⟩
      exact Cert.AHiddenRefIdeal.Val.v160 b i j
    · rw [dpg_eq a, ← (show StableHlo.launchContents m' c (Proc.tc.devRef AHiddenRefIdeal.main_arg7) = _ from a7), Cert.AHiddenRefIdeal.Read.val_main_v161_eq]
      funext y
      obtain ⟨i, j, rfl⟩ : ∃ i j, y = ix2 i j := ⟨y 0, y 1, by blk_ext⟩
      obtain rfl : i = 0 := Subsingleton.elim _ _
      exact Cert.AHiddenRefIdeal.Val.v161 b j

/-- The reference runs, its arguments end unchanged, and it has no semaphore. -/
theorem ref_frame : Cert.quiescent_AHiddenRefIdeal := fun m g _ =>
  (θ_run Cert.AHiddenRefIdeal.defs _ _).mono (fun r h => ⟨fun c => (h c).2.2.2.2.2.2.2,
      sem_eq_zero_of_no_sems (by decide) r.2⟩)
    (Cert.AHiddenRefIdeal.Value.run (F := Ideal) m g)

end Cert.AHiddenIdeal.Val

end
-- ==== Proof.Pool.lean ====
/-
  Running and windowed sums of real numbers along the rows, what a float window sum of the host is on real
  numbers, and the pooling mixer's layer with its gradients over the real numbers.
-/
module

public import proofs.«01_k».proof.Proof.Lift
public import Idealize.ShloMosaic.Lib.Routing.OpsOne

@[expose] public section

set_option maxRecDepth 16384

noncomputable section

namespace Cert.Lift

open Idealize.ShloMosaic Idealize.ShloMosaic.Routing

/-- A column of 8192 rows, zero after its end. -/
def ext (f : Fin 8192 → ℝ) (n : ℕ) : ℝ := if h : n < 8192 then f ⟨n, h⟩ else 0

theorem ext_val (f : Fin 8192 → ℝ) (i : Fin 8192) : ext f i.val = f i := dif_pos i.isLt

theorem ext_of_le (f : Fin 8192 → ℝ) {n : ℕ} (h : 8192 ≤ n) : ext f n = 0 := dif_neg (by omega)

/-- The sum of the first `n` rows. -/
def cs (f : Fin 8192 → ℝ) (n : ℕ) : ℝ := ∑ l ∈ Finset.range n, ext f l

/-- The sum of the `w` rows that end at row `n`. -/
def back (f : Fin 8192 → ℝ) (w n : ℕ) : ℝ := ∑ d ∈ Finset.range w, if d ≤ n then ext f (n - d) else 0

/-- The sum of the `w` rows that begin at row `n`. -/
def fwd (f : Fin 8192 → ℝ) (w n : ℕ) : ℝ := ∑ d ∈ Finset.range w, ext f (n + d)

theorem back_eq (f : Fin 8192 → ℝ) (w n : ℕ) : cs f (n + 1) - cs f (n + 1 - w) = back f w n := by
  induction w with
  | zero => simp [back]
  | succ w ih =>
    rw [back, Finset.sum_range_succ, ← back, ← ih]
    by_cases h : w ≤ n
    · rw [if_pos h, show n + 1 - w = n - w + 1 by omega, show n + 1 - (w + 1) = n - w by omega, cs, cs, cs, Finset.sum_range_succ _ (n - w)]
      ring
    · rw [if_neg h, show n + 1 - w = 0 by omega, show n + 1 - (w + 1) = 0 by omega]
      ring

/-- The rows from `n` on, less the rows from `n + w` on. -/
theorem fwd_eq (f : Fin 8192 → ℝ) (w n : ℕ) :
    ∑ d ∈ Finset.range 8192, (ext f (n + d) - ext f (n + d + w)) = fwd f w n := by
  have h1 : ∑ d ∈ Finset.range (8192 + w), ext f (n + d) = ∑ d ∈ Finset.range 8192, ext f (n + d) := by
    rw [Finset.sum_range_add]
    exact add_eq_left.mpr (Finset.sum_eq_zero fun d _ => ext_of_le f (by omega))
  have h2 : ∑ d ∈ Finset.range (w + 8192), ext f (n + d) = fwd f w n + ∑ d ∈ Finset.range 8192, ext f (n + d + w) := by
    rw [Finset.sum_range_add, fwd]
    exact congrArg _ (Finset.sum_congr rfl fun d _ => by rw [Nat.add_assoc n d w, Nat.add_comm d w])
  rw [Nat.add_comm w] at h2
  rw [Finset.sum_sub_distrib, ← h1, h2]
  ring

theorem foldl_add_real {α : Type} (l : List α) (s : α → EReal) (g : α → ℝ) (h : ∀ a ∈ l, s a = ((g a : ℝ) : EReal)) (r : ℝ) :
    l.foldl (fun x a => x + s a) (r : EReal) = ((r + (l.map g).sum : ℝ) : EReal) := by
  induction l generalizing r with
  | nil => simp
  | cons a l ih =>
    rw [List.foldl_cons, h a List.mem_cons_self, ← EReal.coe_add, ih (fun b hb => h b (List.mem_cons_of_mem _ hb)), List.map_cons, List.sum_cons, add_assoc]

theorem sum_range_list (f : ℕ → ℝ) (n : ℕ) : ((List.range n).map f).sum = ∑ i ∈ Finset.range n, f i := by
  induction n with
  | zero => rfl
  | succ n ih => rw [List.range_succ, List.map_append, List.sum_append, ih, Finset.sum_range_succ, List.map_singleton, List.sum_singleton]

/-- A window of all rows, padded by `L` before them, on an array of real numbers. -/
theorem window_real {C : ℕ} (L H : ℕ) (x : FVec Ideal (shape2 8192 C) .f32) (f : Fin 8192 → Fin C → ℝ)
    (hx : ∀ i c, x (ix2 i c) = ((f i c : ℝ) : EReal)) (init : FVec Ideal shape0 .f32) (hinit : init ix0 = 0)
    (h : (shape2 8192 C).ReduceWindows (![8192, 1] : Fin 2 → Nat) ![1, 1] ![L, 0] ![H, 0] (shape2 8192 C)) (hu : 0 < shape0.numel) (j : Fin 8192) (c : Fin C) :
    Host.reduceWindowAdd ![8192, 1] ![1, 1] ![L, 0] ![H, 0] x init h hu (ix2 j c)
      = ((∑ n ∈ Finset.range 8192, (if L ≤ j.val + n then ext (fun i => f i c) (j.val + n - L) else 0) : ℝ) : EReal) := by
  have hv : init (Shape.Idx.first hu) = ((0 : ℝ) : EReal) := (congrArg init (funext fun a => a.elim0)).trans hinit
  have hj := j.isLt
  have hc := c.isLt
  unfold Host.reduceWindowAdd
  rw [Ideal.hostReduceWindowAdd_def, Ideal.hostReduceWindowAdd, hv]
  unfold Host.reduceWindow
  refine (foldl_add_real _ _ (fun n => if L ≤ j.val + n.val then ext (fun i => f i c) (j.val + n.val - L) else 0) (fun n _ => ?_) 0).trans ?_
  · have hw0 : ((shape2 8192 1).rowMajor.symm n 0).val = n.val := by rw [symm_col]; rfl
    have hw1 : ((shape2 8192 1).rowMajor.symm n 1).val = 0 := by rw [symm_col]; rfl
    dsimp only
    split
    · next hin =>
      have h0 := hin 0
      change L ≤ j.val * 1 + ((shape2 8192 1).rowMajor.symm n 0).val
        ∧ j.val * 1 + ((shape2 8192 1).rowMajor.symm n 0).val - L < 8192 at h0
      rw [hw0] at h0
      rw [if_pos (by omega), ext, dif_pos (by omega)]
      refine (congrArg x (funext fun a => Fin.ext ?_)).trans (hx ⟨j.val + n.val - L, by omega⟩ c)
      match a with
      | ⟨0, _⟩ =>
        show j.val * 1 + ((shape2 8192 1).rowMajor.symm n 0).val - L = j.val + n.val - L
        rw [hw0, Nat.mul_one]
      | ⟨1, _⟩ =>
        show c.val * 1 + ((shape2 8192 1).rowMajor.symm n 1).val - 0 = c.val
        rw [hw1]
        omega
    · next hin =>
      by_cases hL : L ≤ j.val + n.val
      · rw [if_pos hL, ext_of_le]
        by_contra hlt
        exact hin fun a => by
          match a with
          | ⟨0, _⟩ =>
            show L ≤ j.val * 1 + ((shape2 8192 1).rowMajor.symm n 0).val
              ∧ j.val * 1 + ((shape2 8192 1).rowMajor.symm n 0).val - L < 8192
            rw [hw0]
            omega
          | ⟨1, _⟩ =>
            show 0 ≤ c.val * 1 + ((shape2 8192 1).rowMajor.symm n 1).val ∧ c.val * 1 + ((shape2 8192 1).rowMajor.symm n 1).val - 0 < C
            rw [hw1]
            omega
      · rw [if_neg hL]
  · rw [zero_add, map_finRange_val _ (fun n => if L ≤ j.val + n then ext (fun i => f i c) (j.val + n - L) else 0), sum_range_list]
    exact congrArg (fun M => ((∑ n ∈ Finset.range M, (if L ≤ j.val + n then ext (fun i => f i c) (j.val + n - L) else 0) : ℝ) : EReal)) (numel_col 8192)

/-- With 8191 rows of padding before: the running sum. -/
theorem prefix_sum (f : Fin 8192 → ℝ) (j : Fin 8192) :
    ∑ n ∈ Finset.range 8192, (if 8191 ≤ j.val + n then ext f (j.val + n - 8191) else 0) = cs f (j.val + 1) := by
  have hj := j.isLt
  rw [cs, ← Finset.sum_filter]
  refine Finset.sum_bij (fun n _ => j.val + n - 8191) (fun n hn => ?_) (fun a ha b hb e => ?_) (fun l hl => ?_) (fun n _ => rfl)
  · simp only [Finset.mem_filter, Finset.mem_range] at hn ⊢; omega
  · simp only [Finset.mem_filter, Finset.mem_range] at ha hb; omega
  · simp only [Finset.mem_range] at hl
    exact ⟨l + 8191 - j.val, by simp only [Finset.mem_filter, Finset.mem_range]; omega, by omega⟩

/-! ## The layer -/

/-- Column `d` of group `g`. -/
abbrev gc (g : Fin 4) (d : Fin 256) : Fin 1024 := ⟨g.val * 256 + d.val, by omega⟩
/-- The group of a column, and the place in it. -/
abbrev gr (k : Fin 1024) : Fin 4 := ⟨k.val / 256, by omega⟩
abbrev gd (k : Fin 1024) : Fin 256 := ⟨k.val % 256, by omega⟩

theorem gc_split (k : Fin 1024) : gc (gr k) (gd k) = k := Fin.ext (by show k.val / 256 * 256 + k.val % 256 = k.val; omega)
theorem gr_gc (g : Fin 4) (d : Fin 256) : gr (gc g d) = g := Fin.ext (by show (g.val * 256 + d.val) / 256 = g.val; omega)
theorem gd_gc (g : Fin 4) (d : Fin 256) : gd (gc g d) = d := Fin.ext (by show (g.val * 256 + d.val) % 256 = d.val; omega)

/-- The rows a group pools. -/
def win (g : Fin 4) : ℕ := 2 ^ (g.val + 1)

/-- The rows that are there to pool, at row `n`. -/
def cnt (w n : ℕ) : ℝ := ((min (n + 1) w : ℕ) : ℝ)

theorem sitofp_nat (b : BitVec 32) (h : b.toNat < 2 ^ 31) : FloatOps.sitofp (F := Ideal) .f32 b = ((b.toNat : ℝ) : EReal) := by
  show (((b.toInt : ℝ)) : EReal) = _
  rw [BitVec.toInt_eq_toNat_of_lt (by omega)]
  norm_num

/-- The count as a word: one more than the row, no more than the window. -/
theorem cnt_word (b : BitVec 32) (n w : ℕ) (hb : b.toNat = n) (hn : n < 8192) (hw : w ≤ 16) :
    FloatOps.sitofp (F := Ideal) .f32 (IntOp.minsi (IntOp.addi b 1#32) (BitVec.ofNat 32 w)) = ((cnt w n : ℝ) : EReal) := by
  have h1 : (IntOp.addi b 1#32).toNat = n + 1 := by
    show (b + 1#32).toNat = _
    rw [BitVec.toNat_add, hb]; simp; omega
  have h2 : (BitVec.ofNat 32 w).toNat = w := by rw [BitVec.toNat_ofNat]; omega
  have i1 := BitVec.toInt_eq_toNat_of_lt (x := IntOp.addi b 1#32) (by omega)
  have i2 := BitVec.toInt_eq_toNat_of_lt (x := BitVec.ofNat 32 w) (by omega)
  have h3 : (IntOp.minsi (IntOp.addi b 1#32) (BitVec.ofNat 32 w)).toNat = min (n + 1) w := by
    unfold IntOp.minsi
    by_cases e : (IntOp.addi b 1#32).slt (BitVec.ofNat 32 w) = true
    · have e' := e
      rw [BitVec.slt, decide_eq_true_eq, i1, i2] at e'
      first | rw [if_pos e, h1] | simp only [e, if_true, h1]
      omega
    · have e' := e
      rw [BitVec.slt, decide_eq_true_eq, i1, i2] at e'
      first | rw [if_neg e, h2] | simp only [e, h2]
      omega
  rw [sitofp_nat _ (by omega), h3, cnt]

theorem win_pos (g : Fin 4) : 0 < win g := by unfold win; positivity

theorem cnt_ne {w : ℕ} (h : 0 < w) (n : ℕ) : cnt w n ≠ 0 := by
  unfold cnt
  exact_mod_cast (by omega : min (n + 1) w ≠ 0)

/-- The difference of two running sums over the count, as the rows before the window's beginning are zero. -/
theorem pool_real (f : Fin 8192 → ℝ) (m w n : ℕ) (hm : m + 1 = w) (v : ℝ) :
    Ideal.div (((cs f (1 + n) : ℝ) : EReal) - if _h : n < m then 0 else ((cs f (n - m) : ℝ) : EReal)) ((cnt w n : ℝ) : EReal) - ((v : ℝ) : EReal)
      = ((back f w n / cnt w n - v : ℝ) : EReal) := by
  have e : (if _h : n < m then (0 : EReal) else ((cs f (n - m) : ℝ) : EReal)) = ((cs f (n + 1 - w) : ℝ) : EReal) := by
    split
    · rw [show n + 1 - w = 0 by omega]; simp [cs]
    · rw [show n + 1 - w = n - m by omega]
  rw [e, ← EReal.coe_sub, Nat.add_comm 1 n, back_eq, div_real (cnt_ne (by omega) n), ← EReal.coe_sub]

/-- The gradient of a running sum against the difference of the two sums that a window takes of it. -/
def scat (f : Fin 8192 → ℝ) (m n : ℕ) : ℝ := (if n < 1 then 0 else ext f (n - 1)) + -ext f (m + n)

theorem scat_sum (f : Fin 8192 → ℝ) (m w i : ℕ) (hm : m + 1 = w) :
    ∑ n ∈ Finset.range 8192, scat f m (1 + (i + n)) = fwd f w i := by
  rw [← fwd_eq]
  refine Finset.sum_congr rfl fun n _ => ?_
  rw [scat, if_neg (by omega), show 1 + (i + n) - 1 = i + n by omega, show m + (1 + (i + n)) = i + n + w by omega, sub_eq_add_neg]

theorem scat_real (z : Fin 8192 → ℝ) (w m n : ℕ) (hw : 0 < w) (hn : n < 8193) :
    ((if h : 1 ≤ n ∧ n - 1 < 8192 then Ideal.div ((z ⟨n - 1, h.2⟩ : ℝ) : EReal) ((cnt w (n - 1) : ℝ) : EReal) else 0)
      + if h : m + n < 8192 then -Ideal.div ((z ⟨m + n, h⟩ : ℝ) : EReal) ((cnt w (m + n) : ℝ) : EReal) else 0)
      = ((scat (fun i => z i / cnt w i.val) m n : ℝ) : EReal) := by
  rw [scat, EReal.coe_add]
  refine congrArg₂ (· + ·) ?_ ?_
  · by_cases h : 1 ≤ n
    · rw [dif_pos ⟨h, by omega⟩, if_neg (by omega), ext, dif_pos (by omega), div_real (cnt_ne hw _)]
    · rw [dif_neg (by omega), if_pos (by omega)]; rfl
  · by_cases h : m + n < 8192
    · rw [dif_pos h, ext, dif_pos h, div_real (cnt_ne hw _), ← EReal.coe_neg]
    · rw [dif_neg h, ext_of_le _ (by omega)]; simp

/-- Four groups of columns, each padded to all columns, added up. -/
theorem four_pads (G : Fin 4 → Fin 256 → EReal) (g : Fin 4) (d : Fin 256) :
    ((((if h : 768 ≤ g.val * 256 + d.val ∧ g.val * 256 + d.val - 768 < 256 then G 3 ⟨g.val * 256 + d.val - 768, h.2⟩ else 0)
      + if h : 512 ≤ g.val * 256 + d.val ∧ g.val * 256 + d.val - 512 < 256 then G 2 ⟨g.val * 256 + d.val - 512, h.2⟩ else 0)
      + if h : 256 ≤ g.val * 256 + d.val ∧ g.val * 256 + d.val - 256 < 256 then G 1 ⟨g.val * 256 + d.val - 256, h.2⟩ else 0)
      + if h : g.val * 256 + d.val < 256 then G 0 ⟨g.val * 256 + d.val, h⟩ else 0) = G g d := by
  have hd := d.isLt
  have hg : g.val = 0 ∨ g.val = 1 ∨ g.val = 2 ∨ g.val = 3 := by omega
  obtain e | e | e | e := hg
  · rw [dif_neg (by omega), dif_neg (by omega), dif_neg (by omega), dif_pos (by omega), zero_add, zero_add, zero_add]
    exact congrArg₂ G (Fin.ext e.symm) (Fin.ext (by show g.val * 256 + d.val = d.val; omega))
  · rw [dif_neg (by omega), dif_neg (by omega), dif_pos (by omega), dif_neg (by omega), zero_add, zero_add, add_zero]
    exact congrArg₂ G (Fin.ext e.symm) (Fin.ext (by show g.val * 256 + d.val - 256 = d.val; omega))
  · rw [dif_neg (by omega), dif_pos (by omega), dif_neg (by omega), dif_neg (by omega), zero_add, add_zero, add_zero]
    exact congrArg₂ G (Fin.ext e.symm) (Fin.ext (by show g.val * 256 + d.val - 512 = d.val; omega))
  · rw [dif_pos (by omega), dif_neg (by omega), dif_neg (by omega), dif_neg (by omega), add_zero, add_zero, add_zero]
    exact congrArg₂ G (Fin.ext e.symm) (Fin.ext (by show g.val * 256 + d.val - 768 = d.val; omega))

/-- A pooling layer: what comes in, the gains of the norms before and after it, the projection in, the groups' weights,
    the scale, the projection out, and the gradient of what comes out. -/
structure Pool where
  x : Fin 8192 → Fin 1024 → ℝ
  pg : Fin 1024 → ℝ
  qg : Fin 1024 → ℝ
  wi : Fin 1024 → Fin 1024 → ℝ
  wg : Fin 4 → Fin 256 → Fin 256 → ℝ
  sc : Fin 1024 → ℝ
  wo : Fin 1024 → Fin 1024 → ℝ
  dy : Fin 8192 → Fin 1024 → ℝ

namespace Pool

variable (p : Pool)

def h (i : Fin 8192) (k : Fin 1024) : ℝ := p.x i k * rr (p.x i) * p.pg k
def P (i : Fin 8192) (k : Fin 1024) : ℝ := ∑ l, p.h i l * p.wi l k
/-- A column of `P`. -/
def Pc (k : Fin 1024) (i : Fin 8192) : ℝ := p.P i k
def pooled (i : Fin 8192) (g : Fin 4) (d : Fin 256) : ℝ := back (p.Pc (gc g d)) (win g) i.val / cnt (win g) i.val - p.P i (gc g d)
def mixed (i : Fin 8192) (k : Fin 1024) : ℝ := ∑ d, p.pooled i (gr k) d * p.wg (gr k) d (gd k)
def scaled (i : Fin 8192) (k : Fin 1024) : ℝ := p.mixed i k * p.sc k
def m (i : Fin 8192) (k : Fin 1024) : ℝ := ∑ l, p.scaled i l * p.wo l k
def dm (i : Fin 8192) (k : Fin 1024) : ℝ := dnorm (p.m i) (fun l => p.dy i l * p.qg l) k
def dms (i : Fin 8192) (k : Fin 1024) : ℝ := ∑ l, p.dm i l * p.wo k l
def dmix (i : Fin 8192) (k : Fin 1024) : ℝ := p.dms i k * p.sc k
/-- The gradient of the pooled rows. -/
def dq (i : Fin 8192) (g : Fin 4) (d : Fin 256) : ℝ := ∑ e, p.dmix i (gc g e) * p.wg g d e
/-- … divided by the number of rows pooled, by columns. -/
def q (g : Fin 4) (d : Fin 256) (i : Fin 8192) : ℝ := p.dq i g d / cnt (win g) i.val
def dp (i : Fin 8192) (k : Fin 1024) : ℝ := fwd (p.q (gr k) (gd k)) (win (gr k)) i.val - p.dq i (gr k) (gd k)

/-! The results. -/

def dh (i : Fin 8192) (k : Fin 1024) : ℝ := ∑ l, p.dp i l * p.wi k l
def dx (i : Fin 8192) (k : Fin 1024) : ℝ := p.dy i k + dnorm (p.x i) (fun l => p.dh i l * p.pg l) k
def dwo (l k : Fin 1024) : ℝ := ∑ i, p.scaled i l * p.dm i k
def dwg (g : Fin 4) (d e : Fin 256) : ℝ := ∑ i, p.pooled i g d * p.dmix i (gc g e)
def dsc (k : Fin 1024) : ℝ := ∑ i, p.dms i k * p.mixed i k
def dqg (k : Fin 1024) : ℝ := ∑ i, p.dy i k * (p.m i k * rr (p.m i))
def dwi (l k : Fin 1024) : ℝ := ∑ i, p.h i l * p.dp i k
def dpg (k : Fin 1024) : ℝ := ∑ i, p.dh i k * (p.x i k * rr (p.x i))

end Pool

end Cert.Lift

end
-- ==== Proof.BBwdRefValue.lean ====
/-
  The results of the reference of `mix_b_bwd`, entry by entry, on real arguments.
-/
module

public import proofs.«01_k».proof.Proof.Pool
public import proofs.«01_k».proof.Proof.Gen.BBwdRefIdeal.Read
public import Idealize.ShloMosaic.Lib.Pointwise

@[expose] public section

set_option maxRecDepth 16384

noncomputable section

namespace Cert.BBwdRefIdeal.Val

open Idealize.ShloMosaic Idealize.ShloMosaic.TcCoe Idealize.SL.Sem
open Cert.BBwdRefIdeal Cert.BBwdRefIdeal.Gen Cert.BBwdRefIdeal.Read Cert.Lift

/-- The arguments are real numbers. -/
structure Args (x0 : FVec Ideal S8192x1024 .f32) (x1 x2 : FVec Ideal S1024 .f32) (x3 : FVec Ideal S1024x1024 .f32) (x4 : FVec Ideal S4x256x256 .f32)
    (x5 : FVec Ideal S1024 .f32) (x6 : FVec Ideal S1024x1024 .f32) (x7 : FVec Ideal S8192x1024 .f32) (p : Pool) : Prop where
  x : ∀ i k, x0 (ix2 i k) = ((p.x i k : ℝ) : EReal)
  pg : ∀ k, x1 (ix1 k) = ((p.pg k : ℝ) : EReal)
  qg : ∀ k, x2 (ix1 k) = ((p.qg k : ℝ) : EReal)
  wi : ∀ l k, x3 (ix2 l k) = ((p.wi l k : ℝ) : EReal)
  wg : ∀ g d e, x4 (ix3 g d e) = ((p.wg g d e : ℝ) : EReal)
  sc : ∀ k, x5 (ix1 k) = ((p.sc k : ℝ) : EReal)
  wo : ∀ l k, x6 (ix2 l k) = ((p.wo l k : ℝ) : EReal)
  dy : ∀ i k, x7 (ix2 i k) = ((p.dy i k : ℝ) : EReal)

variable {x0 : FVec Ideal S8192x1024 .f32} {x1 x2 : FVec Ideal S1024 .f32} {x3 : FVec Ideal S1024x1024 .f32} {x4 : FVec Ideal S4x256x256 .f32}
  {x5 : FVec Ideal S1024 .f32} {x6 : FVec Ideal S1024x1024 .f32} {x7 : FVec Ideal S8192x1024 .f32} {p : Pool}

theorem v6 (a : Args x0 x1 x2 x3 x4 x5 x6 x7 p) (i : Fin 8192) :
    val_main_v6 (F := Ideal) x0 (ix2 i 0) = (((∑ k, p.x i k * p.x i k) / 1024 + eps : ℝ) : EReal) := by
  have h := a.x
  pointwise [val_main_v6, val_main_v5, val_main_v4, val_main_v3, val_main_v2, val_main_v1, val_main_v0, val_main_cst, val_main_cst_0, val_main_cst_1, h]
  simp only [← EReal.coe_mul, coe_sum, ofBits_1024, ofBits_eps]
  rw [div_real (by norm_num), ← EReal.coe_add]

theorem v7 (a : Args x0 x1 x2 x3 x4 x5 x6 x7 p) (i : Fin 8192) :
    val_main_v7 (F := Ideal) x0 (ix2 i 0) = ((rr (p.x i) : ℝ) : EReal) := by
  have h := v6 a i
  pointwise [val_main_v7, h]
  rw [rsqrt_real (ms_pos _)]; rfl

theorem v12 (a : Args x0 x1 x2 x3 x4 x5 x6 x7 p) (i : Fin 8192) (k : Fin 1024) :
    val_main_v12 (F := Ideal) x0 (ix2 i k) = ((p.x i k * rr (p.x i) : ℝ) : EReal) := by
  have h := v7 a
  have hx := a.x
  pointwise [val_main_v12, val_main_v11, h, hx]
  rw [EReal.coe_mul]

theorem v15 (a : Args x0 x1 x2 x3 x4 x5 x6 x7 p) (i : Fin 8192) (k : Fin 1024) :
    val_main_v15 (F := Ideal) x0 x1 (ix2 i k) = ((p.h i k : ℝ) : EReal) := by
  have h := v12 a
  have hg := a.pg
  pointwise [val_main_v15, val_main_v14, val_main_v13, h, hg]
  rw [← EReal.coe_mul]; rfl

theorem P_real (a : Args x0 x1 x2 x3 x4 x5 x6 x7 p) (i : Fin 8192) (k : Fin 1024) :
    val_main_v16 (F := Ideal) x0 x1 x3 (ix2 i k) = ((p.P i k : ℝ) : EReal) := by
  have h := v15 a
  have hw := a.wi
  pointwise [val_main_v16, h, hw]
  simp only [← EReal.coe_mul, coe_sum]; rfl

theorem v17 (a : Args x0 x1 x2 x3 x4 x5 x6 x7 p) (i : Fin 8192) (k : Fin 1024) :
    val_main_v17 (F := Ideal) x0 x1 x3 (ix2 i k) = ((cs (p.Pc k) (i.val + 1) : ℝ) : EReal) :=
  (window_real 8191 0 _ _ (P_real a) _ (by pointwise [val_main_call0_call0_v0, val_main_call0_call0_cst]) _ _ i k).trans
    (congrArg _ (prefix_sum (p.Pc k) i))

theorem v19 (a : Args x0 x1 x2 x3 x4 x5 x6 x7 p) (i : Fin 8193) (k : Fin 1024) :
    val_main_v19 (F := Ideal) x0 x1 x3 (ix2 i k) = ((cs (p.Pc k) i.val : ℝ) : EReal) := by
  have h := v17 a
  pointwise [val_main_v19, val_main_v18, val_main_cst_3, h]
  split
  · rw [show i.val = 0 by omega]; simp [cs]
  · rw [show i.val - 1 + 1 = i.val by omega]

theorem cnt2 (i : Fin 8192) : val_main_v33 (F := Ideal) (ix1 i) = ((cnt 2 i.val : ℝ) : EReal) := by
  pointwise [val_main_v33, val_main_v32, val_main_v31, val_main_v30, val_main_v29, val_main_v21, val_main_c, val_main_c_7]
  exact cnt_word _ i.val 2 (by rw [BitVec.toNat_ofNat]; omega) i.isLt (by norm_num)

theorem cnt4 (i : Fin 8192) : val_main_v50 (F := Ideal) (ix1 i) = ((cnt 4 i.val : ℝ) : EReal) := by
  pointwise [val_main_v50, val_main_v49, val_main_v48, val_main_v47, val_main_v46, val_main_v21, val_main_c_10, val_main_c_11]
  exact cnt_word _ i.val 4 (by rw [BitVec.toNat_ofNat]; omega) i.isLt (by norm_num)

theorem cnt8 (i : Fin 8192) : val_main_v67 (F := Ideal) (ix1 i) = ((cnt 8 i.val : ℝ) : EReal) := by
  pointwise [val_main_v67, val_main_v66, val_main_v65, val_main_v64, val_main_v63, val_main_v21, val_main_c_14, val_main_c_15]
  exact cnt_word _ i.val 8 (by rw [BitVec.toNat_ofNat]; omega) i.isLt (by norm_num)

theorem cnt16 (i : Fin 8192) : val_main_v84 (F := Ideal) (ix1 i) = ((cnt 16 i.val : ℝ) : EReal) := by
  pointwise [val_main_v84, val_main_v83, val_main_v82, val_main_v81, val_main_v80, val_main_v21, val_main_c_18, val_main_c_19]
  exact cnt_word _ i.val 16 (by rw [BitVec.toNat_ofNat]; omega) i.isLt (by norm_num)

theorem pool0 (a : Args x0 x1 x2 x3 x4 x5 x6 x7 p) (i : Fin 8192) (d : Fin 256) :
    val_main_v38 (F := Ideal) x0 x1 x3 (ix2 i d) = ((p.pooled i 0 d : ℝ) : EReal) := by
  have h := v19 a
  have h' := cnt2
  have h2 := P_real a
  pointwise [val_main_v38, val_main_v37, val_main_v36, val_main_v35, val_main_v34, val_main_v28, val_main_v27, val_main_v26, val_main_v25, val_main_v24, val_main_v23, val_main_v22, val_main_cst_5, val_main_cst_6, h, h', h2]
  have e : ∀ h, (⟨d.val, h⟩ : Fin 1024) = gc 0 d := fun _ => Fin.ext (by simp)
  simp only [e]
  exact pool_real _ 1 2 i.val rfl _

theorem pool1 (a : Args x0 x1 x2 x3 x4 x5 x6 x7 p) (i : Fin 8192) (d : Fin 256) :
    val_main_v55 (F := Ideal) x0 x1 x3 (ix2 i d) = ((p.pooled i 1 d : ℝ) : EReal) := by
  have h := v19 a
  have h' := cnt4
  have h2 := P_real a
  pointwise [val_main_v55, val_main_v54, val_main_v53, val_main_v52, val_main_v51, val_main_v45, val_main_v44, val_main_v43, val_main_v42, val_main_v41, val_main_v40, val_main_v39, val_main_cst_8, val_main_cst_9, h, h', h2]
  have e : ∀ h, (⟨256 + d.val, h⟩ : Fin 1024) = gc 1 d := fun _ => Fin.ext (by simp)
  simp only [e]
  exact pool_real _ 3 4 i.val rfl _

theorem pool2 (a : Args x0 x1 x2 x3 x4 x5 x6 x7 p) (i : Fin 8192) (d : Fin 256) :
    val_main_v72 (F := Ideal) x0 x1 x3 (ix2 i d) = ((p.pooled i 2 d : ℝ) : EReal) := by
  have h := v19 a
  have h' := cnt8
  have h2 := P_real a
  pointwise [val_main_v72, val_main_v71, val_main_v70, val_main_v69, val_main_v68, val_main_v62, val_main_v61, val_main_v60, val_main_v59, val_main_v58, val_main_v57, val_main_v56, val_main_cst_12, val_main_cst_13, h, h', h2]
  have e : ∀ h, (⟨512 + d.val, h⟩ : Fin 1024) = gc 2 d := fun _ => Fin.ext (by simp)
  simp only [e]
  exact pool_real _ 7 8 i.val rfl _

theorem pool3 (a : Args x0 x1 x2 x3 x4 x5 x6 x7 p) (i : Fin 8192) (d : Fin 256) :
    val_main_v89 (F := Ideal) x0 x1 x3 (ix2 i d) = ((p.pooled i 3 d : ℝ) : EReal) := by
  have h := v19 a
  have h' := cnt16
  have h2 := P_real a
  pointwise [val_main_v89, val_main_v88, val_main_v87, val_main_v86, val_main_v85, val_main_v79, val_main_v78, val_main_v77, val_main_v76, val_main_v75, val_main_v74, val_main_v73, val_main_cst_16, val_main_cst_17, h, h', h2]
  have e : ∀ h, (⟨768 + d.val, h⟩ : Fin 1024) = gc 3 d := fun _ => Fin.ext (by simp)
  simp only [e]
  exact pool_real _ 15 16 i.val rfl _

theorem v94 (a : Args x0 x1 x2 x3 x4 x5 x6 x7 p) (i : Fin 8192) (g : Fin 4) (d : Fin 256) :
    val_main_v94 (F := Ideal) x0 x1 x3 (ix3 i g d) = ((p.pooled i g d : ℝ) : EReal) := by
  have h0 := pool0 a
  have h1 := pool1 a
  have h2 := pool2 a
  have h3 := pool3 a
  pointwise [val_main_v94, val_main_v93, val_main_v92, val_main_v91, val_main_v90, h0, h1, h2, h3]
  match g with
  | 0 => rfl
  | 1 => rfl
  | 2 => rfl
  | 3 => rfl

theorem mixed_real (a : Args x0 x1 x2 x3 x4 x5 x6 x7 p) (i : Fin 8192) (k : Fin 1024) :
    val_main_v97 (F := Ideal) x0 x1 x3 x4 (ix2 i k) = ((p.mixed i k : ℝ) : EReal) := by
  have h := v94 a
  have hw := a.wg
  pointwise [val_main_v97, val_main_v96, val_main_v95, h, hw]
  simp only [← EReal.coe_mul, coe_sum]
  exact congrArg _ (Finset.sum_congr rfl fun i _ => mul_comm _ _)

theorem scaled_real (a : Args x0 x1 x2 x3 x4 x5 x6 x7 p) (i : Fin 8192) (k : Fin 1024) :
    val_main_v100 (F := Ideal) x0 x1 x3 x4 x5 (ix2 i k) = ((p.scaled i k : ℝ) : EReal) := by
  have h := mixed_real a
  have hs := a.sc
  pointwise [val_main_v100, val_main_v99, val_main_v98, h, hs]
  rw [← EReal.coe_mul]; rfl

theorem m_real (a : Args x0 x1 x2 x3 x4 x5 x6 x7 p) (i : Fin 8192) (k : Fin 1024) :
    val_main_v101 (F := Ideal) x0 x1 x3 x4 x5 x6 (ix2 i k) = ((p.m i k : ℝ) : EReal) := by
  have h0 := scaled_real a
  have h1 := a.wo
  pointwise [val_main_v101, h0, h1]
  simp only [← EReal.coe_mul, coe_sum]; rfl

theorem v108 (a : Args x0 x1 x2 x3 x4 x5 x6 x7 p) (i : Fin 8192) :
    val_main_v108 (F := Ideal) x0 x1 x3 x4 x5 x6 (ix2 i 0) = (((∑ k, p.m i k * p.m i k) / 1024 + eps : ℝ) : EReal) := by
  have h0 := m_real a
  pointwise [val_main_v108, val_main_v107, val_main_v106, val_main_v105, val_main_v104, val_main_v103, val_main_v102, val_main_cst_20, val_main_cst_21, val_main_cst_22, h0]
  simp only [← EReal.coe_mul, coe_sum, ofBits_1024, ofBits_eps]
  rw [div_real (by norm_num), ← EReal.coe_add]

theorem v109 (a : Args x0 x1 x2 x3 x4 x5 x6 x7 p) (i : Fin 8192) :
    val_main_v109 (F := Ideal) x0 x1 x3 x4 x5 x6 (ix2 i 0) = ((rr (p.m i) : ℝ) : EReal) := by
  have h0 := v108 a i
  pointwise [val_main_v109, h0]
  rw [rsqrt_real (ms_pos _)]; rfl

theorem v114 (a : Args x0 x1 x2 x3 x4 x5 x6 x7 p) (i : Fin 8192) (k : Fin 1024) :
    val_main_v114 (F := Ideal) x0 x1 x3 x4 x5 x6 (ix2 i k) = ((p.m i k * rr (p.m i) : ℝ) : EReal) := by
  have h0 := v109 a
  have h1 := m_real a
  pointwise [val_main_v114, val_main_v113, h0, h1]
  rw [EReal.coe_mul]

theorem v124 (a : Args x0 x1 x2 x3 x4 x5 x6 x7 p) (i : Fin 8192) (k : Fin 1024) :
    val_main_v124 (F := Ideal) x2 x7 (ix2 i k) = ((p.dy i k * p.qg k : ℝ) : EReal) := by
  have h0 := a.dy
  have h1 := a.qg
  pointwise [val_main_v124, val_main_v123, val_main_v119, val_main_v115, h0, h1]
  rw [EReal.coe_mul]

theorem v133 (a : Args x0 x1 x2 x3 x4 x5 x6 x7 p) (i : Fin 8192) :
    val_main_v133 (F := Ideal) x0 x1 x2 x3 x4 x5 x6 x7 (ix2 i 0) = (((∑ l, p.m i l * (p.dy i l * p.qg l)) * (-(1 / 2) * (rr (p.m i) / ((∑ k, p.m i k * p.m i k) / 1024 + eps))) / 1024 : ℝ) : EReal) := by
  have h0 := v108 a i
  have h1 := v109 a i
  have h2 := v124 a
  have h3 := m_real a
  pointwise [val_main_v133, val_main_v132, val_main_v131, val_main_v128, val_main_v127, val_main_v126, val_main_v112, val_main_v111, val_main_v110, val_main_cst_26, val_main_cst_27, val_main_cst_23, h0, h1, h2, h3]
  simp only [← EReal.coe_mul, coe_sum, ofBits_1024, ofBits_neg_half]
  rw [div_real (ms_pos _).ne', ← EReal.coe_mul, ← EReal.coe_mul, div_real (by norm_num)]

theorem dm_real (a : Args x0 x1 x2 x3 x4 x5 x6 x7 p) (i : Fin 8192) (k : Fin 1024) :
    val_main_v139 (F := Ideal) x0 x1 x2 x3 x4 x5 x6 x7 (ix2 i k) = ((p.dm i k : ℝ) : EReal) := by
  have h0 := v109 a
  have h1 := v124 a
  have h2 := v133 a
  have h3 := m_real a
  pointwise [val_main_v139, val_main_v138, val_main_v137, val_main_v136, val_main_v135, val_main_v134, val_main_v130, val_main_v129, val_main_cst_28, h0, h1, h2, h3]
  rw [Fin.sum_univ_one, h2, Pool.dm, ← dnorm_eq, EReal.coe_add, EReal.coe_add, ← add_assoc]
  simp only [EReal.coe_mul]

theorem dwo_real (a : Args x0 x1 x2 x3 x4 x5 x6 x7 p) (l k : Fin 1024) :
    val_main_v141 (F := Ideal) x0 x1 x2 x3 x4 x5 x6 x7 (ix2 l k) = ((p.dwo l k : ℝ) : EReal) := by
  have h0 := dm_real a
  have h1 := scaled_real a
  pointwise [val_main_v141, val_main_v140, h0, h1]
  simp only [← EReal.coe_mul, coe_sum]
  exact congrArg _ (Finset.sum_congr rfl fun i _ => mul_comm _ _)

theorem dms_real (a : Args x0 x1 x2 x3 x4 x5 x6 x7 p) (i : Fin 8192) (k : Fin 1024) :
    val_main_v142 (F := Ideal) x0 x1 x2 x3 x4 x5 x6 x7 (ix2 i k) = ((p.dms i k : ℝ) : EReal) := by
  have h0 := dm_real a
  have h1 := a.wo
  pointwise [val_main_v142, h0, h1]
  simp only [← EReal.coe_mul, coe_sum]; rfl

theorem dsc_real (a : Args x0 x1 x2 x3 x4 x5 x6 x7 p) (k : Fin 1024) :
    val_main_v241 (F := Ideal) x0 x1 x2 x3 x4 x5 x6 x7 (ix2 0 k) = ((p.dsc k : ℝ) : EReal) := by
  have h0 := dms_real a
  have h1 := mixed_real a
  pointwise [val_main_v241, val_main_v148, val_main_v145, val_main_v144, val_main_v143, val_main_cst_29, val_main_cst_30, h0, h1]
  simp only [← EReal.coe_mul, coe_sum, Fin.sum_univ_one]
  exact congrArg _ (Finset.sum_congr rfl fun i _ => mul_comm _ _)

theorem dqg_real (a : Args x0 x1 x2 x3 x4 x5 x6 x7 p) (k : Fin 1024) :
    val_main_v242 (F := Ideal) x0 x1 x3 x4 x5 x6 x7 (ix2 0 k) = ((p.dqg k : ℝ) : EReal) := by
  have h0 := v114 a
  have h1 := a.dy
  pointwise [val_main_v242, val_main_v125, val_main_v122, val_main_v121, val_main_v120, val_main_v119, val_main_cst_24, val_main_cst_25, h0, h1]
  simp only [← EReal.coe_mul, coe_sum, Fin.sum_univ_one]
  exact congrArg _ (Finset.sum_congr rfl fun i _ => mul_comm _ _)

theorem v150 (a : Args x0 x1 x2 x3 x4 x5 x6 x7 p) (g : Fin 4) (e : Fin 256) (i : Fin 8192) :
    val_main_v150 (F := Ideal) x0 x1 x2 x3 x4 x5 x6 x7 (ix3 g e i) = ((p.dmix i (gc g e) : ℝ) : EReal) := by
  have h0 := dms_real a
  have h1 := a.sc
  pointwise [val_main_v150, val_main_v149, val_main_v147, val_main_v146, val_main_v98, h0, h1]
  rw [← EReal.coe_mul]; rfl

theorem dwg_real (a : Args x0 x1 x2 x3 x4 x5 x6 x7 p) (g : Fin 4) (d e : Fin 256) :
    val_main_v154 (F := Ideal) x0 x1 x2 x3 x4 x5 x6 x7 (ix3 g d e) = ((p.dwg g d e : ℝ) : EReal) := by
  have h0 := v150 a
  have h1 := v94 a
  pointwise [val_main_v154, val_main_v153, h0, h1]
  simp only [← EReal.coe_mul, coe_sum]
  exact congrArg _ (Finset.sum_congr rfl fun i _ => mul_comm _ _)

theorem dq_real (a : Args x0 x1 x2 x3 x4 x5 x6 x7 p) (i : Fin 8192) (g : Fin 4) (d : Fin 256) :
    val_main_v152 (F := Ideal) x0 x1 x2 x3 x4 x5 x6 x7 (ix3 i g d) = ((p.dq i g d : ℝ) : EReal) := by
  have h0 := v150 a
  have h1 := a.wg
  pointwise [val_main_v152, val_main_v151, h0, h1]
  simp only [← EReal.coe_mul, coe_sum]; rfl

theorem v202 (a : Args x0 x1 x2 x3 x4 x5 x6 x7 p) (i : Fin 8192) (g : Fin 4) (d : Fin 256) :
    val_main_v202 (F := Ideal) x0 x1 x2 x3 x4 x5 x6 x7 (ix2 i (gc g d)) = ((-p.dq i g d : ℝ) : EReal) := by
  have h0 := dq_real a
  pointwise [val_main_v202, val_main_v201, val_main_v200, val_main_v189, val_main_v188, val_main_v187, val_main_v176, val_main_v175, val_main_v174, val_main_v164, val_main_v163,
    val_main_v162, val_main_v161, val_main_v160, val_main_v159, val_main_v158, val_main_v157, val_main_v156, val_main_v155, val_main_cst_31, val_main_cst_35, val_main_cst_39, val_main_cst_43, h0]
  exact (four_pads (fun g d => -((p.dq i g d : ℝ) : EReal)) g d).trans (EReal.coe_neg _).symm

theorem v172 (a : Args x0 x1 x2 x3 x4 x5 x6 x7 p) (n : Fin 8193) (d : Fin 256) :
    val_main_v172 (F := Ideal) x0 x1 x2 x3 x4 x5 x6 x7 (ix2 n d) = ((scat (p.q 3 d) 15 n.val : ℝ) : EReal) := by
  have h0 := dq_real a
  have h1 := cnt16
  pointwise [val_main_v172, val_main_v171, val_main_v169, val_main_v168, val_main_v167, val_main_v166, val_main_v165, val_main_v85, val_main_v162, val_main_v161, val_main_cst_32, val_main_cst_33, h0, h1]
  exact scat_real (fun i => p.dq i 3 d) 16 15 n.val (by norm_num) n.isLt

theorem v184 (a : Args x0 x1 x2 x3 x4 x5 x6 x7 p) (n : Fin 8193) (d : Fin 256) :
    val_main_v184 (F := Ideal) x0 x1 x2 x3 x4 x5 x6 x7 (ix2 n d) = ((scat (p.q 2 d) 7 n.val : ℝ) : EReal) := by
  have h0 := dq_real a
  have h1 := cnt8
  pointwise [val_main_v184, val_main_v183, val_main_v181, val_main_v180, val_main_v179, val_main_v178, val_main_v177, val_main_v68, val_main_v160, val_main_v159, val_main_cst_36, val_main_cst_37, h0, h1]
  exact scat_real (fun i => p.dq i 2 d) 8 7 n.val (by norm_num) n.isLt

theorem v197 (a : Args x0 x1 x2 x3 x4 x5 x6 x7 p) (n : Fin 8193) (d : Fin 256) :
    val_main_v197 (F := Ideal) x0 x1 x2 x3 x4 x5 x6 x7 (ix2 n d) = ((scat (p.q 1 d) 3 n.val : ℝ) : EReal) := by
  have h0 := dq_real a
  have h1 := cnt4
  pointwise [val_main_v197, val_main_v196, val_main_v194, val_main_v193, val_main_v192, val_main_v191, val_main_v190, val_main_v51, val_main_v158, val_main_v157, val_main_cst_40, val_main_cst_41, h0, h1]
  exact scat_real (fun i => p.dq i 1 d) 4 3 n.val (by norm_num) n.isLt

theorem v210 (a : Args x0 x1 x2 x3 x4 x5 x6 x7 p) (n : Fin 8193) (d : Fin 256) :
    val_main_v210 (F := Ideal) x0 x1 x2 x3 x4 x5 x6 x7 (ix2 n d) = ((scat (p.q 0 d) 1 n.val : ℝ) : EReal) := by
  have h0 := dq_real a
  have h1 := cnt2
  pointwise [val_main_v210, val_main_v209, val_main_v207, val_main_v206, val_main_v205, val_main_v204, val_main_v203, val_main_v34, val_main_v156, val_main_v155, val_main_cst_44, val_main_cst_45, h0, h1]
  exact scat_real (fun i => p.dq i 0 d) 2 1 n.val (by norm_num) n.isLt

theorem v212 (a : Args x0 x1 x2 x3 x4 x5 x6 x7 p) (n : Fin 8193) (g : Fin 4) (d : Fin 256) :
    val_main_v212 (F := Ideal) x0 x1 x2 x3 x4 x5 x6 x7 (ix2 n (gc g d)) = ((scat (p.q g d) (win g - 1) n.val : ℝ) : EReal) := by
  have h3 := v172 a
  have h2 := v184 a
  have h1 := v197 a
  have h0 := v210 a
  pointwise [val_main_v212, val_main_v211, val_main_v199, val_main_v198, val_main_v186, val_main_v185, val_main_v173, val_main_cst_34, val_main_cst_38, val_main_cst_42, val_main_cst_46, h0, h1, h2, h3]
  exact four_pads (fun g d => ((scat (p.q g d) (win g - 1) n.val : ℝ) : EReal)) g d

theorem v214 (a : Args x0 x1 x2 x3 x4 x5 x6 x7 p) (i : Fin 8192) (k : Fin 1024) :
    val_main_v214 (F := Ideal) x0 x1 x2 x3 x4 x5 x6 x7 (ix2 i k) = ((scat (p.q (gr k) (gd k)) (win (gr k) - 1) (1 + i.val) : ℝ) : EReal) := by
  have h := fun n => v212 a n (gr k) (gd k)
  rw [gc_split] at h
  pointwise [val_main_v214, h]

theorem v215 (a : Args x0 x1 x2 x3 x4 x5 x6 x7 p) (i : Fin 8192) (k : Fin 1024) :
    val_main_v215 (F := Ideal) x0 x1 x2 x3 x4 x5 x6 x7 (ix2 i k) = ((fwd (p.q (gr k) (gd k)) (win (gr k)) i.val : ℝ) : EReal) := by
  refine (window_real 0 8191 _ _ (v214 a) _ (by pointwise [val_main_call1_call0_v0, val_main_call1_call0_cst]) _ _ i k).trans (congrArg _ ?_)
  rw [← scat_sum (p.q (gr k) (gd k)) (win (gr k) - 1) (win (gr k)) i.val (by have := win_pos (gr k); omega)]
  refine Finset.sum_congr rfl fun n hn => ?_
  rw [if_pos (Nat.zero_le _), Nat.sub_zero]
  by_cases h : i.val + n < 8192
  · rw [ext, dif_pos h]
  · rw [ext_of_le _ (by omega), scat, if_neg (by omega), ext_of_le _ (by omega), ext_of_le _ (by omega)]; simp

theorem dp_real (a : Args x0 x1 x2 x3 x4 x5 x6 x7 p) (i : Fin 8192) (k : Fin 1024) :
    val_main_v216 (F := Ideal) x0 x1 x2 x3 x4 x5 x6 x7 (ix2 i k) = ((p.dp i k : ℝ) : EReal) := by
  have h0 := v202 a i (gr k) (gd k)
  have h1 := v215 a
  rw [gc_split] at h0
  pointwise [val_main_v216, h0, h1]
  rw [← EReal.coe_add, add_comm, ← sub_eq_add_neg]; rfl

theorem dwi_real (a : Args x0 x1 x2 x3 x4 x5 x6 x7 p) (l k : Fin 1024) :
    val_main_v218 (F := Ideal) x0 x1 x2 x3 x4 x5 x6 x7 (ix2 l k) = ((p.dwi l k : ℝ) : EReal) := by
  have h0 := dp_real a
  have h1 := v15 a
  pointwise [val_main_v218, val_main_v217, h0, h1]
  simp only [← EReal.coe_mul, coe_sum]
  exact congrArg _ (Finset.sum_congr rfl fun i _ => mul_comm _ _)

theorem dh_real (a : Args x0 x1 x2 x3 x4 x5 x6 x7 p) (i : Fin 8192) (k : Fin 1024) :
    val_main_v219 (F := Ideal) x0 x1 x2 x3 x4 x5 x6 x7 (ix2 i k) = ((p.dh i k : ℝ) : EReal) := by
  have h0 := dp_real a
  have h1 := a.wi
  pointwise [val_main_v219, h0, h1]
  simp only [← EReal.coe_mul, coe_sum]; rfl

theorem dpg_real (a : Args x0 x1 x2 x3 x4 x5 x6 x7 p) (k : Fin 1024) :
    val_main_v243 (F := Ideal) x0 x1 x2 x3 x4 x5 x6 x7 (ix2 0 k) = ((p.dpg k : ℝ) : EReal) := by
  have h0 := dh_real a
  have h1 := v12 a
  pointwise [val_main_v243, val_main_v225, val_main_v222, val_main_v221, val_main_v220, val_main_cst_47, val_main_cst_48, h0, h1]
  simp only [← EReal.coe_mul, coe_sum, Fin.sum_univ_one]
  exact congrArg _ (Finset.sum_congr rfl fun i _ => mul_comm _ _)

theorem v224 (a : Args x0 x1 x2 x3 x4 x5 x6 x7 p) (i : Fin 8192) (k : Fin 1024) :
    val_main_v224 (F := Ideal) x0 x1 x2 x3 x4 x5 x6 x7 (ix2 i k) = ((p.dh i k * p.pg k : ℝ) : EReal) := by
  have h0 := dh_real a
  have h1 := a.pg
  pointwise [val_main_v224, val_main_v223, val_main_v13, h0, h1]
  rw [EReal.coe_mul]

theorem v234 (a : Args x0 x1 x2 x3 x4 x5 x6 x7 p) (i : Fin 8192) :
    val_main_v234 (F := Ideal) x0 x1 x2 x3 x4 x5 x6 x7 (ix2 i 0) = (((∑ l, p.x i l * (p.dh i l * p.pg l)) * (-(1 / 2) * (rr (p.x i) / ((∑ k, p.x i k * p.x i k) / 1024 + eps))) / 1024 : ℝ) : EReal) := by
  have h6 := v6 a i
  have h7 := v7 a i
  have h24 := v224 a
  have hx := a.x
  pointwise [val_main_v234, val_main_v233, val_main_v232, val_main_v228, val_main_v227, val_main_v226, val_main_v10, val_main_v9, val_main_v8, val_main_cst_49, val_main_cst_50, val_main_cst_2, h6, h7, h24, hx]
  simp only [← EReal.coe_mul, coe_sum, ofBits_1024, ofBits_neg_half]
  rw [div_real (ms_pos _).ne', ← EReal.coe_mul, ← EReal.coe_mul, div_real (by norm_num)]

theorem dx_real (a : Args x0 x1 x2 x3 x4 x5 x6 x7 p) (i : Fin 8192) (k : Fin 1024) :
    val_main_v240 (F := Ideal) x0 x1 x2 x3 x4 x5 x6 x7 (ix2 i k) = ((p.dx i k : ℝ) : EReal) := by
  have h7 := v7 a
  have h24 := v224 a
  have h34 := v234 a
  have hx := a.x
  have hy := a.dy
  pointwise [val_main_v240, val_main_v239, val_main_v238, val_main_v237, val_main_v236, val_main_v235, val_main_v231, val_main_v230, val_main_v229, val_main_cst_51, h7, h24, h34, hx, hy]
  rw [Fin.sum_univ_one, h34, Pool.dx, ← dnorm_eq, EReal.coe_add, EReal.coe_add, EReal.coe_add, ← add_assoc, ← add_assoc]
  simp only [EReal.coe_mul]

end Cert.BBwdRefIdeal.Val

end
-- ==== Proof.BBwdHost.lean ====
/-
  `mix_b_bwd`: what the host code before the kernel hands to it, and the blocks of it that a point reads.
-/
module

public import proofs.«01_k».proof.Proof.BBwdRefValue
public import proofs.«01_k».proof.Proof.Gen.BBwdIdeal.Value
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.BBwdIdeal.Val

open Idealize.ShloMosaic Idealize.ShloMosaic.TcCoe Idealize.SL.Sem
open Cert.BBwdIdeal Cert.BBwdIdeal.Gen Cert.Lift

variable (m : (ℓ : Loc nD τ sig) → Buf (Elt Ideal) ℓ)

abbrev a0 (c : Dev nD) : FVec Ideal S8192x1024 .f32 := m ((c.tc : Thread nD τ).loc main_arg0)
abbrev a1 (c : Dev nD) : FVec Ideal S1024 .f32 := m ((c.tc : Thread nD τ).loc main_arg1)
abbrev a2 (c : Dev nD) : FVec Ideal S1024 .f32 := m ((c.tc : Thread nD τ).loc main_arg2)
abbrev a3 (c : Dev nD) : FVec Ideal S1024x1024 .f32 := m ((c.tc : Thread nD τ).loc main_arg3)
abbrev a4 (c : Dev nD) : FVec Ideal S4x256x256 .f32 := m ((c.tc : Thread nD τ).loc main_arg4)
abbrev a5 (c : Dev nD) : FVec Ideal S1024 .f32 := m ((c.tc : Thread nD τ).loc main_arg5)
abbrev a6 (c : Dev nD) : FVec Ideal S1024x1024 .f32 := m ((c.tc : Thread nD τ).loc main_arg6)
abbrev a7 (c : Dev nD) : FVec Ideal S8192x1024 .f32 := m ((c.tc : Thread nD τ).loc main_arg7)

/-- The arguments are real numbers. -/
abbrev Args (c : Dev nD) (p : Pool) : Prop :=
  Cert.BBwdRefIdeal.Val.Args (a0 m c) (a1 m c) (a2 m c) (a3 m c) (a4 m c) (a5 m c) (a6 m c) (a7 m c) p

/-- The saved forward products are the reference's. -/
theorem V_p (c : Dev nD) : (V m c main_v13 : FVec Ideal S8192x1024 .f32)
    = Cert.BBwdRefIdeal.Read.val_main_v16 (F := Ideal) (a0 m c) (a1 m c) (a3 m c) := by
  unfold V a0 a1 a3
  after_reads_simp
  rfl
set_option maxHeartbeats 2000000 in
theorem V_m (c : Dev nD) : (V m c main_v93 : FVec Ideal S8192x1024 .f32)
    = Cert.BBwdRefIdeal.Read.val_main_v101 (F := Ideal) (a0 m c) (a1 m c) (a3 m c) (a4 m c) (a5 m c) (a6 m c) := by
  unfold V a0 a1 a3 a4 a5 a6
  after_reads_simp
  rfl

theorem V_pg (c : Dev nD) (k : Fin 1024) : (V m c main_v94 : FVec Ideal S1x1024 .f32) (ix2 0 k) = a1 m c (ix1 k) := by
  unfold V a1; after_reads_at
theorem V_qg (c : Dev nD) (k : Fin 1024) : (V m c main_v95 : FVec Ideal S1x1024 .f32) (ix2 0 k) = a2 m c (ix1 k) := by
  unfold V a2; after_reads_at
theorem V_wi (c : Dev nD) (l k : Fin 1024) : (V m c main_v96 : FVec Ideal S1024x1024 .bf16) (ix2 l k) = a3 m c (ix2 l k) := by
  unfold V a3; after_reads_at
theorem V_wg (c : Dev nD) (g : Fin 4) (d e : Fin 256) : (V m c main_v97 : FVec Ideal S4x256x256 .bf16) (ix3 g d e) = a4 m c (ix3 g d e) := by
  unfold V a4; after_reads_at
theorem V_sc (c : Dev nD) (k : Fin 1024) : (V m c main_v98 : FVec Ideal S1x1024 .f32) (ix2 0 k) = a5 m c (ix1 k) := by
  unfold V a5; after_reads_at
theorem V_wo (c : Dev nD) (l k : Fin 1024) : (V m c main_v99 : FVec Ideal S1024x1024 .bf16) (ix2 l k) = a6 m c (ix2 l k) := by
  unfold V a6; after_reads_at

theorem idx : ∀ t : Fin cfg0.N, win0_0.index t = ![t.val, 0] ∧ win0_1.index t = ![t.val, 0] ∧ win0_2.index t = ![t.val, 0]
    ∧ win0_3.index t = ![t.val, 0] ∧ win0_4.index t = ![t.val * 32 - 1, 0] ∧ win0_5.index t = ![min ((t.val + 1) * 32) 511, 0]
    ∧ win0_6.index t = ![min ((t.val + 1) * 32) 511, 0]
    ∧ win0_8.index t = ![0, 0] ∧ win0_9.index t = ![0, 0] ∧ win0_10.index t = ![0, 0] ∧ win0_11.index t = ![0, 0, 0]
    ∧ win0_12.index t = ![0, 0] ∧ win0_13.index t = ![0, 0] ∧ win0_14.index t = ![t.val, 0]
    ∧ win0_15.index t = ![0, 0] ∧ win0_16.index t = ![0, 0, 0] ∧ win0_17.index t = ![0, 0] ∧ win0_18.index t = ![0, 0]
    ∧ win0_19.index t = ![0, 0] ∧ win0_20.index t = ![0, 0] :=
  (by decide +kernel : ∀ t : Fin grid0.N, _)

/-- Row `r` of point `t`, among all rows. -/
abbrev row (t : Fin cfg0.N) (r : Fin 512) : Fin 8192 := ⟨t.val * 512 + r.val, by have := t.isLt; have : cfg0.N = 16 := N_0; omega⟩
/-- Row `r` of the sixteen before a point's rows, and of the sixteen after them. -/
abbrev prev (t : Fin cfg0.N) (r : Fin 16) : Fin 8192 := ⟨(t.val * 32 - 1) * 16 + r.val, by have := t.isLt; have : cfg0.N = 16 := N_0; omega⟩
abbrev next (t : Fin cfg0.N) (r : Fin 16) : Fin 8192 := ⟨min ((t.val + 1) * 32) 511 * 16 + r.val, by omega⟩

variable {m} {c : Dev nD} {p : Pool}

theorem dy_real (a : Args m c p) (t : Fin cfg0.N) (r : Fin 512) (k : Fin 1024) : iblk m c 0 t (ix2 r k) = ((p.dy (row t r) k : ℝ) : EReal) := by
  have h : iblk m c 0 t (ix2 r k) = (V m c main_arg7 : FVec Ideal S8192x1024 .f32) (ix2 (row t r) k) := by blk_point [iblk, idx t]
  rw [h, V_main_arg7]; exact a.dy _ _
theorem x_real (a : Args m c p) (t : Fin cfg0.N) (r : Fin 512) (k : Fin 1024) : iblk m c 1 t (ix2 r k) = ((p.x (row t r) k : ℝ) : EReal) := by
  have h : iblk m c 1 t (ix2 r k) = (V m c main_arg0 : FVec Ideal S8192x1024 .f32) (ix2 (row t r) k) := by blk_point [iblk, idx t]
  rw [h, V_main_arg0]; exact a.x _ _
theorem m_real (a : Args m c p) (t : Fin cfg0.N) (r : Fin 512) (k : Fin 1024) : iblk m c 2 t (ix2 r k) = ((p.m (row t r) k : ℝ) : EReal) := by
  have h : iblk m c 2 t (ix2 r k) = (V m c main_v93 : FVec Ideal S8192x1024 .f32) (ix2 (row t r) k) := by blk_point [iblk, idx t]
  exact h.trans ((congrFun (V_m m c) _).trans (Cert.BBwdRefIdeal.Val.m_real a _ k))
theorem P_real (a : Args m c p) (t : Fin cfg0.N) (r : Fin 512) (k : Fin 1024) : iblk m c 3 t (ix2 r k) = ((p.P (row t r) k : ℝ) : EReal) := by
  have h : iblk m c 3 t (ix2 r k) = (V m c main_v13 : FVec Ideal S8192x1024 .f32) (ix2 (row t r) k) := by blk_point [iblk, idx t]
  exact h.trans ((congrFun (V_p m c) _).trans (Cert.BBwdRefIdeal.Val.P_real a _ k))
theorem Pprev_real (a : Args m c p) (t : Fin cfg0.N) (r : Fin 16) (k : Fin 1024) : iblk m c 4 t (ix2 r k) = ((p.P (prev t r) k : ℝ) : EReal) := by
  have h : iblk m c 4 t (ix2 r k) = (V m c main_v13 : FVec Ideal S8192x1024 .f32) (ix2 (prev t r) k) := by blk_point [iblk, idx t]
  exact h.trans ((congrFun (V_p m c) _).trans (Cert.BBwdRefIdeal.Val.P_real a _ k))
theorem dynext_real (a : Args m c p) (t : Fin cfg0.N) (r : Fin 16) (k : Fin 1024) : iblk m c 5 t (ix2 r k) = ((p.dy (next t r) k : ℝ) : EReal) := by
  have h : iblk m c 5 t (ix2 r k) = (V m c main_arg7 : FVec Ideal S8192x1024 .f32) (ix2 (next t r) k) := by blk_point [iblk, idx t]
  rw [h, V_main_arg7]; exact a.dy _ _
theorem mnext_real (a : Args m c p) (t : Fin cfg0.N) (r : Fin 16) (k : Fin 1024) : iblk m c 6 t (ix2 r k) = ((p.m (next t r) k : ℝ) : EReal) := by
  have h : iblk m c 6 t (ix2 r k) = (V m c main_v93 : FVec Ideal S8192x1024 .f32) (ix2 (next t r) k) := by blk_point [iblk, idx t]
  exact h.trans ((congrFun (V_m m c) _).trans (Cert.BBwdRefIdeal.Val.m_real a _ k))
theorem pg_real (a : Args m c p) (t : Fin cfg0.N) (k : Fin 1024) : iblk m c 8 t (ix2 0 k) = ((p.pg k : ℝ) : EReal) := by
  have h : iblk m c 8 t (ix2 0 k) = (V m c main_v94 : FVec Ideal S1x1024 .f32) (ix2 0 k) := by blk_point [iblk, idx t]
  exact h.trans ((V_pg m c k).trans (a.pg _))
theorem qg_real (a : Args m c p) (t : Fin cfg0.N) (k : Fin 1024) : iblk m c 9 t (ix2 0 k) = ((p.qg k : ℝ) : EReal) := by
  have h : iblk m c 9 t (ix2 0 k) = (V m c main_v95 : FVec Ideal S1x1024 .f32) (ix2 0 k) := by blk_point [iblk, idx t]
  exact h.trans ((V_qg m c k).trans (a.qg _))
theorem wi_real (a : Args m c p) (t : Fin cfg0.N) (l k : Fin 1024) : iblk m c 10 t (ix2 l k) = ((p.wi l k : ℝ) : EReal) := by
  have h : iblk m c 10 t (ix2 l k) = (V m c main_v96 : FVec Ideal S1024x1024 .bf16) (ix2 l k) := by blk_point [iblk, idx t]
  exact h.trans ((V_wi m c l k).trans (a.wi _ _))
theorem wg_real (a : Args m c p) (t : Fin cfg0.N) (g : Fin 4) (d e : Fin 256) : iblk m c 11 t (ix3 g d e) = ((p.wg g d e : ℝ) : EReal) := by
  have h : iblk m c 11 t (ix3 g d e) = (V m c main_v97 : FVec Ideal S4x256x256 .bf16) (ix3 g d e) := by blk_point [iblk, idx t]
  exact h.trans ((V_wg m c g d e).trans (a.wg _ _ _))
theorem sc_real (a : Args m c p) (t : Fin cfg0.N) (k : Fin 1024) : iblk m c 12 t (ix2 0 k) = ((p.sc k : ℝ) : EReal) := by
  have h : iblk m c 12 t (ix2 0 k) = (V m c main_v98 : FVec Ideal S1x1024 .f32) (ix2 0 k) := by blk_point [iblk, idx t]
  exact h.trans ((V_sc m c k).trans (a.sc _))
theorem wo_real (a : Args m c p) (t : Fin cfg0.N) (l k : Fin 1024) : iblk m c 13 t (ix2 l k) = ((p.wo l k : ℝ) : EReal) := by
  have h : iblk m c 13 t (ix2 l k) = (V m c main_v99 : FVec Ideal S1024x1024 .bf16) (ix2 l k) := by blk_point [iblk, idx t]
  exact h.trans ((V_wo m c l k).trans (a.wo _ _))

end Cert.BBwdIdeal.Val

end
-- ==== Proof.BBwdPay.lean ====
/-
  `mix_b_bwd`: the kernel's own values on real numbers, one after the other: the pooled rows, the mixed ones, and the
  gradients against them.
-/
module

public import proofs.«01_k».proof.Proof.BBwdHost
public import Idealize.ShloMosaic.Lib.KernelVsHost

@[expose] public section

set_option maxRecDepth 16384

noncomputable section

namespace Cert.BBwdIdeal.Val

open Idealize.ShloMosaic Idealize.ShloMosaic.TcCoe Idealize.SL.Sem
open Cert.BBwdIdeal Cert.BBwdIdeal.Gen Cert.Lift

/-! ### Windows by doubling -/

/-- The `w` rows that end at row `n` of a tile, and those that begin there. -/
def bk (Z : ℕ → ℝ) (w n : ℕ) : ℝ := ∑ j ∈ Finset.range w, Z (n - j)
def fw (Z : ℕ → ℝ) (w n : ℕ) : ℝ := ∑ j ∈ Finset.range w, Z (n + j)

theorem bk_one (Z : ℕ → ℝ) (n : ℕ) : bk Z 1 n = Z n := by simp [bk]
theorem fw_one (Z : ℕ → ℝ) (n : ℕ) : fw Z 1 n = Z n := by simp [fw]

theorem bk_step (s : ℕ) (sb : BitVec 32) (hs : sb.toNat = s) (hs' : s < 528) (h : S528x256.Rotates 0 none) {X : FVec Ideal S528x256 .f32}
    {d : Fin 256} {Z : ℕ → ℝ} (hX : ∀ r : Fin 528, s ≤ r.val + 1 → X (ix2 r d) = ((bk Z s r.val : ℝ) : EReal))
    (r : Fin 528) (hr : s + s ≤ r.val + 1) :
    addf X (dynamicRotate 0 sb none X h) (ix2 r d) = ((bk Z (s + s) r.val : ℝ) : EReal) := by
  have e : dynamicRotate 0 sb none X h (ix2 r d) = X (ix2 ⟨r.val - s, by omega⟩ d) := by
    refine dynamicRotate_apply 0 sb X h (ix2 r d) _ fun b => ?_
    match b with
    | ⟨0, _⟩ =>
      show r.val - s = (r.val + 528 - sb.toNat % 528) % 528
      omega
    | ⟨1, _⟩ => rfl
  show X (ix2 r d) + dynamicRotate 0 sb none X h (ix2 r d) = _
  rw [e, hX r (by omega), hX ⟨r.val - s, by omega⟩ (by show s ≤ r.val - s + 1; omega), ← EReal.coe_add]
  refine congrArg _ ?_
  rw [bk, bk, bk, Finset.sum_range_add]
  refine congrArg _ (Finset.sum_congr rfl fun j _ => congrArg Z ?_)
  show r.val - s - j = r.val - (s + j)
  omega

theorem fw_step (s : ℕ) (sb : BitVec 32) (hs : sb.toNat + s = 528) (hs' : 0 < s) (h : S528x256.Rotates 0 none) {X : FVec Ideal S528x256 .f32}
    {d : Fin 256} {Z : ℕ → ℝ} (hX : ∀ r : Fin 528, r.val + s ≤ 528 → X (ix2 r d) = ((fw Z s r.val : ℝ) : EReal))
    (r : Fin 528) (hr : r.val + (s + s) ≤ 528) :
    addf X (dynamicRotate 0 sb none X h) (ix2 r d) = ((fw Z (s + s) r.val : ℝ) : EReal) := by
  have e : dynamicRotate 0 sb none X h (ix2 r d) = X (ix2 ⟨r.val + s, by omega⟩ d) := by
    refine dynamicRotate_apply 0 sb X h (ix2 r d) _ fun b => ?_
    match b with
    | ⟨0, _⟩ =>
      show r.val + s = (r.val + 528 - sb.toNat % 528) % 528
      omega
    | ⟨1, _⟩ => rfl
  show X (ix2 r d) + dynamicRotate 0 sb none X h (ix2 r d) = _
  rw [e, hX r (by omega), hX ⟨r.val + s, by omega⟩ (by show r.val + s + s ≤ 528; omega), ← EReal.coe_add]
  refine congrArg _ ?_
  rw [fw, fw, fw, Finset.sum_range_add]
  refine congrArg _ (Finset.sum_congr rfl fun j _ => congrArg Z ?_)
  show r.val + s + j = r.val + (s + j)
  omega

theorem coord : ∀ t : Fin cfg0.N, (grid0.coords t 0).val = t.val := (by decide +kernel : ∀ t : Fin grid0.N, _)

/-- The number of rows pooled, as the kernel counts it. -/
theorem count (t : Fin cfg0.N) (w : ℕ) (hw : w ≤ 16) (h : S512x1.Iotas .tc 32 [0]) (r : Fin 512) :
    sitofp (F := Ideal) .f32 (minsi (addi (addi (broadcast S512x1 (Scalar.muli (BitVec.ofNat 32 t.val) 512#32)) (iota .tc S512x1 32 [0] h)) (broadcast S512x1 1#32))
      (broadcast S512x1 (BitVec.ofNat 32 w))) (ix2 r 0) = ((cnt w (row t r).val : ℝ) : EReal) := by
  have ht : t.val < 16 := by have := t.isLt; have : cfg0.N = 16 := N_0; omega
  have hr := r.isLt
  have e : FloatOps.sitofp (F := Ideal) .f32 (IntOp.minsi (IntOp.addi (IntOp.addi (Scalar.muli (BitVec.ofNat 32 t.val) 512#32) (BitVec.ofNat 32 r.val)) 1#32) (BitVec.ofNat 32 w))
      = ((cnt w (row t r).val : ℝ) : EReal) := by
    refine cnt_word _ (row t r).val w ?_ (row t r).isLt hw
    show (BitVec.ofNat 32 t.val * 512#32 + BitVec.ofNat 32 r.val).toNat = t.val * 512 + r.val
    rw [BitVec.toNat_add, BitVec.toNat_mul, BitVec.toNat_ofNat, BitVec.toNat_ofNat, BitVec.toNat_ofNat]
    omega
  rw [← e]
  pointwise

/-- A choice between two arrays by whether a number is another. -/
theorem sel_eq {α : Type} (n k : ℕ) (hn : n < 2 ^ 32) (hk : k < 2 ^ 32) (a b : α) :
    Scalar.select (Scalar.cmpi .eq (BitVec.ofNat 32 n) (BitVec.ofNat 32 k)) a b = if n = k then a else b := by
  have e : Scalar.cmpi .eq (BitVec.ofNat 32 n) (BitVec.ofNat 32 k) = 1#1 ↔ n = k := by
    refine IntOp.cmpi_eq.trans ⟨fun h => ?_, fun h => by rw [h]⟩
    have := congrArg BitVec.toNat h
    rwa [BitVec.toNat_ofNat, BitVec.toNat_ofNat, Nat.mod_eq_of_lt hn, Nat.mod_eq_of_lt hk] at this
  unfold Scalar.select
  by_cases h : n = k
  · exact (if_pos (e.mpr h)).trans (if_pos h).symm
  · exact (if_neg fun h' => h (e.mp h')).trans (if_neg h).symm

variable {p : Pool} {t : Fin cfg0.N}

/-! ### The pooled rows -/

/-- A column of the sixteen rows before a point's and the point's own, zero before the first row. -/
def zb (p : Pool) (t : Fin cfg0.N) (k : Fin 1024) (n : ℕ) : ℝ := if 16 ≤ t.val * 512 + n then ext (p.Pc k) (t.val * 512 + n - 16) else 0

theorem zb_row (k : Fin 1024) (n : ℕ) (h : n < 512) : zb p t k (16 + n) = p.P (row t ⟨n, h⟩) k := by
  have e : t.val * 512 + (16 + n) - 16 = (row t ⟨n, h⟩).val := by show _ = t.val * 512 + n; omega
  rw [zb, if_pos (by omega), e, ext_val, Pool.Pc]
theorem zb_prev (k : Fin 1024) (n : ℕ) (h : n < 16) : zb p t k n = if t.val = 0 then 0 else p.P (prev t ⟨n, h⟩) k := by
  rw [zb]
  by_cases h0 : t.val = 0
  · rw [if_pos h0, if_neg (by omega)]
  · have e : t.val * 512 + n - 16 = (prev t ⟨n, h⟩).val := by show _ = (t.val * 32 - 1) * 16 + n; omega
    rw [if_neg h0, if_pos (by omega), e, ext_val, Pool.Pc]

theorem bk_zb (k : Fin 1024) (w : ℕ) (hw : w ≤ 16) (r : Fin 512) : bk (zb p t k) w (16 + r.val) = back (p.Pc k) w (row t r).val := by
  refine Finset.sum_congr rfl fun j hj => ?_
  rw [Finset.mem_range] at hj
  show (if 16 ≤ t.val * 512 + (16 + r.val - j) then ext (p.Pc k) (t.val * 512 + (16 + r.val - j) - 16) else 0) = if j ≤ t.val * 512 + r.val then ext (p.Pc k) (t.val * 512 + r.val - j) else 0
  by_cases h : j ≤ t.val * 512 + r.val
  · rw [if_pos h, if_pos (by omega), show t.val * 512 + (16 + r.val - j) - 16 = t.val * 512 + r.val - j by omega]
  · rw [if_neg h, if_neg (by omega)]

variable {P : FVec Ideal S512x1024 .f32} {Pp : FVec Ideal S16x1024 .f32}

theorem tile_pay (hP : ∀ r k, P (ix2 r k) = ((p.P (row t r) k : ℝ) : EReal)) (hPp : ∀ r k, Pp (ix2 r k) = ((p.P (prev t r) k : ℝ) : EReal))
    (r : Fin 528) (k : Fin 1024) : k0_pay12 (F := Ideal) (grid0.coords t) P Pp (ix2 r k) = ((zb p t k r.val : ℝ) : EReal) := by
  have ht : t.val < 16 := by have := t.isLt; have : cfg0.N = 16 := N_0; omega
  have hr := r.isLt
  pointwise [k0_pay12, k0_pay10, hP, hPp, coord]
  split
  · next h =>
    rw [sel_eq _ 0 (by omega) (by omega), zb_prev k r.val h]
    split <;> rfl
  · next h =>
    refine congrArg (fun e : ℝ => (e : EReal)) ((zb_row k (r.val - 16) (by omega)).symm.trans (congrArg _ ?_))
    omega

theorem cols528 {x : FVec Ideal S528x1024 .f32} {Z : Fin 1024 → ℕ → ℝ} (hx : ∀ r k, x (ix2 r k) = ((Z k r.val : ℝ) : EReal)) (g : Fin 4)
    (h : S528x1024.Slices ![0, g.val * 256] S528x256) (r : Fin 528) (d : Fin 256) :
    extractStridedSlice S528x256 ![0, g.val * 256] x h (ix2 r d) = ((Z (gc g d) r.val : ℝ) : EReal) := by
  rw [← hx]
  refine extractStridedSlice_apply _ _ _ (ix2 r d) (ix2 r (gc g d)) fun a => ?_
  match a with
  | ⟨0, _⟩ => exact (Nat.zero_add _).symm
  | ⟨1, _⟩ => rfl

theorem cols512 {x : FVec Ideal S512x1024 .f32} {Z : Fin 512 → Fin 1024 → ℝ} (hx : ∀ r k, x (ix2 r k) = ((Z r k : ℝ) : EReal)) (g : Fin 4)
    (h : S512x1024.Slices ![0, g.val * 256] S512x256) (r : Fin 512) (d : Fin 256) :
    extractStridedSlice S512x256 ![0, g.val * 256] x h (ix2 r d) = ((Z r (gc g d) : ℝ) : EReal) := by
  rw [← hx]
  refine extractStridedSlice_apply _ _ _ (ix2 r d) (ix2 r (gc g d)) fun a => ?_
  match a with
  | ⟨0, _⟩ => exact (Nat.zero_add _).symm
  | ⟨1, _⟩ => rfl

/-- A window's sum over its count, less the row itself. -/
theorem mean_sub (g : Fin 4) {A : FVec Ideal S528x256 .f32} {C : FVec Ideal S512x1 .f32} {B : FVec Ideal S512x256 .f32}
    (h : S528x256.Slices ![16, 0] S512x256) (hb : S512x1.Broadcasts S512x256)
    (hA : ∀ r : Fin 528, win g ≤ r.val + 1 → ∀ d, A (ix2 r d) = ((bk (zb p t (gc g d)) (win g) r.val : ℝ) : EReal))
    (hC : ∀ r, C (ix2 r 0) = ((cnt (win g) (row t r).val : ℝ) : EReal))
    (hB : ∀ r d, B (ix2 r d) = ((p.P (row t r) (gc g d) : ℝ) : EReal)) (r : Fin 512) (d : Fin 256) :
    subf (divf (extractStridedSlice S512x256 ![16, 0] A h) (broadcastTo S512x256 C hb)) B (ix2 r d) = ((p.pooled (row t r) g d : ℝ) : EReal) := by
  have hw : win g ≤ 16 := (by decide : ∀ g : Fin 4, win g ≤ 16) g
  pointwise [hC, hB]
  rw [hA ⟨16 + r.val, by omega⟩ (by show win g ≤ 16 + r.val + 1; omega), div_real (cnt_ne (win_pos g) _), ← EReal.coe_sub, bk_zb _ _ hw, Pool.pooled]

theorem pooled0_pay (hP : ∀ r k, P (ix2 r k) = ((p.P (row t r) k : ℝ) : EReal)) (hPp : ∀ r k, Pp (ix2 r k) = ((p.P (prev t r) k : ℝ) : EReal))
    (r : Fin 512) (d : Fin 256) : k0_pay22 (F := Ideal) (k0_pay13 (F := Ideal) (grid0.coords t) P Pp) (ix2 r d) = ((p.pooled (row t r) 0 d : ℝ) : EReal) := by
  unfold k0_pay22 k0_pay13 k0_pay10
  rw [coord, shapeCast_self]
  exact mean_sub 0 _ _ (fun r hr d => bk_step 1 1#32 rfl (by omega) _ (fun r _ => (cols528 (tile_pay hP hPp) 0 _ r d).trans (congrArg _ (bk_one _ _).symm)) r hr)
    (count t 2 (by omega) _) (cols512 hP 0 _) r d

theorem pooled1_pay (hP : ∀ r k, P (ix2 r k) = ((p.P (row t r) k : ℝ) : EReal)) (hPp : ∀ r k, Pp (ix2 r k) = ((p.P (prev t r) k : ℝ) : EReal))
    (r : Fin 512) (d : Fin 256) : k0_pay23 (F := Ideal) (k0_pay15 (F := Ideal) (BitVec.ofNat 32 (grid0.coords t 0).val) (k0_pay10 P) (k0_pay14 (grid0.coords t) P Pp)) (ix2 r d) = ((p.pooled (row t r) 1 d : ℝ) : EReal) := by
  unfold k0_pay23 k0_pay15 k0_pay14 k0_pay10
  rw [coord, shapeCast_self]
  exact mean_sub 1 _ _ (fun r hr d => bk_step 2 2#32 rfl (by omega) _ (bk_step 1 1#32 rfl (by omega) _ (fun r _ => (cols528 (tile_pay hP hPp) 1 _ r d).trans (congrArg _ (bk_one _ _).symm))) r hr)
    (count t 4 (by omega) _) (cols512 hP 1 _) r d

theorem pooled2_pay (hP : ∀ r k, P (ix2 r k) = ((p.P (row t r) k : ℝ) : EReal)) (hPp : ∀ r k, Pp (ix2 r k) = ((p.P (prev t r) k : ℝ) : EReal))
    (r : Fin 512) (d : Fin 256) : k0_pay24 (F := Ideal) (k0_pay16 (F := Ideal) (BitVec.ofNat 32 (grid0.coords t 0).val) (k0_pay10 P) (k0_pay12 (grid0.coords t) P Pp)) (ix2 r d) = ((p.pooled (row t r) 2 d : ℝ) : EReal) := by
  unfold k0_pay24 k0_pay16 k0_pay10
  rw [coord, shapeCast_self]
  exact mean_sub 2 _ _ (fun r hr d => bk_step 4 4#32 rfl (by omega) _ (bk_step 2 2#32 rfl (by omega) _ (bk_step 1 1#32 rfl (by omega) _ (fun r _ => (cols528 (tile_pay hP hPp) 2 _ r d).trans (congrArg _ (bk_one _ _).symm)))) r hr)
    (count t 8 (by omega) _) (cols512 hP 2 _) r d

theorem pooled3_pay (hP : ∀ r k, P (ix2 r k) = ((p.P (row t r) k : ℝ) : EReal)) (hPp : ∀ r k, Pp (ix2 r k) = ((p.P (prev t r) k : ℝ) : EReal))
    (r : Fin 512) (d : Fin 256) : k0_pay25 (F := Ideal) (k0_pay10 P) (k0_pay17 (k0_pay12 (grid0.coords t) P Pp)) (Scalar.muli (BitVec.ofNat 32 (grid0.coords t 0).val) 512#32) (ix2 r d) = ((p.pooled (row t r) 3 d : ℝ) : EReal) := by
  unfold k0_pay25 k0_pay17 k0_pay10
  rw [coord, shapeCast_self]
  exact mean_sub 3 _ _ (fun r hr d => bk_step 8 8#32 rfl (by omega) _ (bk_step 4 4#32 rfl (by omega) _ (bk_step 2 2#32 rfl (by omega) _ (bk_step 1 1#32 rfl (by omega) _ (fun r _ => (cols528 (tile_pay hP hPp) 3 _ r d).trans (congrArg _ (bk_one _ _).symm))))) r hr)
    (count t 16 (by omega) _) (cols512 hP 3 _) r d

/-! ### The norm after the layer -/

section norm
variable {dy M : FVec Ideal S512x1024 .f32} {qg sc : FVec Ideal S1x1024 .f32} {wo : FVec Ideal S1024x1024 .bf16}

theorem rm_pay (hM : ∀ r k, M (ix2 r k) = ((p.m (row t r) k : ℝ) : EReal)) (r : Fin 512) :
    k0_pay18 (F := Ideal) (k0_pay11 M) (ix2 r 0) = ((rr (p.m (row t r)) : ℝ) : EReal) := by
  pointwise [k0_pay18, k0_pay11, hM]
  simp only [← EReal.coe_mul, coe_sum, ofBits_1024, ofBits_eps]
  rw [div_real (by norm_num), ← EReal.coe_add, rsqrt_real (ms_pos _)]; rfl

theorem mh_pay (hM : ∀ r k, M (ix2 r k) = ((p.m (row t r) k : ℝ) : EReal)) (r : Fin 512) (k : Fin 1024) :
    k0_pay19 (F := Ideal) (k0_pay11 M) (ix2 r k) = ((p.m (row t r) k * rr (p.m (row t r)) : ℝ) : EReal) := by
  have h := rm_pay hM
  pointwise [k0_pay19, h]
  pointwise [k0_pay11, hM]
  rw [EReal.coe_mul]

theorem dqg_pay (hM : ∀ r k, M (ix2 r k) = ((p.m (row t r) k : ℝ) : EReal)) (hd : ∀ r k, dy (ix2 r k) = ((p.dy (row t r) k : ℝ) : EReal))
    (acc : FVec Ideal S1x1024 .f32) (k : Fin 1024) : k0_pay30 (F := Ideal) (k0_pay20 dy (k0_pay11 M)) acc (ix2 0 k)
      = acc (ix2 0 k) + ((∑ r : Fin 512, p.dy (row t r) k * (p.m (row t r) k * rr (p.m (row t r))) : ℝ) : EReal) := by
  have h := mh_pay hM
  pointwise [k0_pay30, k0_pay20, hd, h]
  simp only [← EReal.coe_mul, coe_sum]

theorem dm_pay (hM : ∀ r k, M (ix2 r k) = ((p.m (row t r) k : ℝ) : EReal)) (hd : ∀ r k, dy (ix2 r k) = ((p.dy (row t r) k : ℝ) : EReal))
    (hg : ∀ k, qg (ix2 0 k) = ((p.qg k : ℝ) : EReal)) (r : Fin 512) (k : Fin 1024) :
    k0_pay21 (F := Ideal) dy (k0_pay11 M) qg (ix2 r k) = ((p.dm (row t r) k : ℝ) : EReal) := by
  have h1 := mh_pay hM
  have h := rm_pay hM
  pointwise [k0_pay21, hd, h1, h, hg]
  simp only [← EReal.coe_mul, coe_sum, ofBits_1024]
  rw [div_real (by norm_num)]
  simp only [← EReal.coe_mul, ← EReal.coe_sub]
  rfl

variable {dm : FVec Ideal S512x1024 .bf16}

theorem dms_pay (hd : ∀ r k, dm (ix2 r k) = ((p.dm (row t r) k : ℝ) : EReal)) (hw : ∀ l k, wo (ix2 l k) = ((p.wo l k : ℝ) : EReal)) (r : Fin 512) (k : Fin 1024) :
    k0_pay28 (F := Ideal) dm wo (ix2 r k) = ((p.dms (row t r) k : ℝ) : EReal) := by
  pointwise [k0_pay28, hd, hw]
  simp only [← EReal.coe_mul, coe_sum]
  rfl

theorem dmix_pay (hd : ∀ r k, dm (ix2 r k) = ((p.dm (row t r) k : ℝ) : EReal)) (hw : ∀ l k, wo (ix2 l k) = ((p.wo l k : ℝ) : EReal))
    (hs : ∀ k, sc (ix2 0 k) = ((p.sc k : ℝ) : EReal)) (r : Fin 512) (k : Fin 1024) :
    k0_pay29 (F := Ideal) (k0_pay9 sc) dm wo (ix2 r k) = ((p.dmix (row t r) k : ℝ) : EReal) := by
  have h := dms_pay hd hw
  pointwise [k0_pay29, k0_pay9, h, hs]
  rw [← EReal.coe_mul]; rfl

end norm

/-! ### The mixed rows -/

/-- Four groups of columns side by side. -/
theorem four_cols (G : Fin 4 → Fin 256 → EReal) (k : Fin 1024) :
    (if h : k.val < 256 then G 0 ⟨k.val, h⟩ else if h : k.val - 256 < 256 then G 1 ⟨k.val - 256, h⟩
      else if h' : k.val - 256 - 256 < 256 then G 2 ⟨k.val - 256 - 256, h'⟩ else G 3 ⟨k.val - 256 - 256 - 256, by omega⟩) = G (gr k) (gd k) := by
  have hk := k.isLt
  split
  · exact congrArg₂ G (Fin.ext (by show 0 = k.val / 256; omega)) (Fin.ext (by show k.val = k.val % 256; omega))
  · split
    · exact congrArg₂ G (Fin.ext (by show 1 = k.val / 256; omega)) (Fin.ext (by show k.val - 256 = k.val % 256; omega))
    · split
      · exact congrArg₂ G (Fin.ext (by show 2 = k.val / 256; omega)) (Fin.ext (by show k.val - 256 - 256 = k.val % 256; omega))
      · exact congrArg₂ G (Fin.ext (by show 3 = k.val / 256; omega)) (Fin.ext (by show k.val - 256 - 256 - 256 = k.val % 256; omega))

section mixed
variable {g0 g1 g2 g3 : FVec Ideal S512x256 .bf16} {w0 w1 w2 w3 : FVec Ideal S1x256x256 .bf16}
  {dm dmix : FVec Ideal S512x1024 .bf16} {sc : FVec Ideal S1x1024 .f32} {wo : FVec Ideal S1024x1024 .bf16}

theorem mixed_pay (h0 : ∀ r d, g0 (ix2 r d) = ((p.pooled (row t r) 0 d : ℝ) : EReal)) (h1 : ∀ r d, g1 (ix2 r d) = ((p.pooled (row t r) 1 d : ℝ) : EReal))
    (h2 : ∀ r d, g2 (ix2 r d) = ((p.pooled (row t r) 2 d : ℝ) : EReal)) (h3 : ∀ r d, g3 (ix2 r d) = ((p.pooled (row t r) 3 d : ℝ) : EReal))
    (e0 : ∀ d e, w0 (ix3 0 d e) = ((p.wg 0 d e : ℝ) : EReal)) (e1 : ∀ d e, w1 (ix3 0 d e) = ((p.wg 1 d e : ℝ) : EReal))
    (e2 : ∀ d e, w2 (ix3 0 d e) = ((p.wg 2 d e : ℝ) : EReal)) (e3 : ∀ d e, w3 (ix3 0 d e) = ((p.wg 3 d e : ℝ) : EReal)) (r : Fin 512) (k : Fin 1024) :
    k0_pay27 (F := Ideal) g0 g1 g2 g3 (k0_pay26 w0) (constant S512x256 .f32 0#32) w1 w2 w3 (ix2 r k) = ((p.mixed (row t r) k : ℝ) : EReal) := by
  pointwise [k0_pay27, k0_pay26, h0, h1, h2, h3, e0, e1, e2, e3]
  simp only [← EReal.coe_mul, coe_sum]
  exact four_cols (fun g e => ((∑ d, p.pooled (row t r) g d * p.wg g d e : ℝ) : EReal)) k

theorem dwo_pay {mx : FVec Ideal S512x1024 .f32} (hm : k0_pay27 (F := Ideal) g0 g1 g2 g3 (k0_pay26 w0) (constant S512x256 .f32 0#32) w1 w2 w3 = mx)
    (hx : ∀ r k, mx (ix2 r k) = ((p.mixed (row t r) k : ℝ) : EReal)) (hd : ∀ r k, dm (ix2 r k) = ((p.dm (row t r) k : ℝ) : EReal))
    (hs : ∀ k, sc (ix2 0 k) = ((p.sc k : ℝ) : EReal)) (acc : FVec Ideal S1024x1024 .f32) (l k : Fin 1024) :
    k0_pay31 (F := Ideal) (k0_pay9 sc) dm g0 g1 g2 g3 (k0_pay26 w0) (constant S512x256 .f32 0#32) w1 w2 w3 acc (ix2 l k)
      = acc (ix2 l k) + ((∑ r : Fin 512, p.scaled (row t r) l * p.dm (row t r) k : ℝ) : EReal) := by
  unfold k0_pay31
  rw [hm]
  pointwise [k0_pay9, hx, hd, hs]
  simp only [← EReal.coe_mul, coe_sum]
  rfl

theorem dsc_pay {mx : FVec Ideal S512x1024 .f32} (hm : k0_pay27 (F := Ideal) g0 g1 g2 g3 (k0_pay26 w0) (constant S512x256 .f32 0#32) w1 w2 w3 = mx)
    (hx : ∀ r k, mx (ix2 r k) = ((p.mixed (row t r) k : ℝ) : EReal)) (hd : ∀ r k, dm (ix2 r k) = ((p.dm (row t r) k : ℝ) : EReal))
    (hw : ∀ l k, wo (ix2 l k) = ((p.wo l k : ℝ) : EReal)) (acc : FVec Ideal S1x1024 .f32) (k : Fin 1024) :
    k0_pay34 (F := Ideal) (k0_pay32 acc) (k0_pay33 dm g0 g1 g2 g3 (k0_pay26 w0) (constant S512x256 .f32 0#32) w1 w2 w3 wo) (ix2 0 k)
      = acc (ix2 0 k) + ((∑ r : Fin 512, p.dms (row t r) k * p.mixed (row t r) k : ℝ) : EReal) := by
  have h := dms_pay hd hw
  unfold k0_pay34 k0_pay33
  rw [hm]
  pointwise [k0_pay32, hx, h]
  simp only [← EReal.coe_mul, coe_sum]

end mixed

/-! ### The groups' gradients -/

section groups
variable {G : FVec Ideal S512x256 .bf16} {D : FVec Ideal S512x1024 .bf16} {w : FVec Ideal S1x256x256 .bf16}

/-- One group's part of the weights' gradient. -/
theorem dwg_mm (g : Fin 4) (hG : ∀ r d, G (ix2 r d) = ((p.pooled (row t r) g d : ℝ) : EReal)) {E : FVec Ideal S512x256 .bf16}
    (hE : ∀ r e, E (ix2 r e) = ((p.dmix (row t r) (gc g e) : ℝ) : EReal)) (acc : FVec Ideal S1x256x256 .f32)
    (h : S1x256x256.ShapeCasts S256x256) (h' : S256x256.ShapeCasts S1x256x256) (d e : Fin 256) :
    shapeCast S1x256x256 (addf (shapeCast S256x256 acc h) (matmul dot_S512x256_S512x256_S256x256_0_0_1_1_n_n none G E (constant S256x256 .f32 0#32))) h' (ix3 0 d e)
      = acc (ix3 0 d e) + ((∑ r : Fin 512, p.pooled (row t r) g d * p.dmix (row t r) (gc g e) : ℝ) : EReal) := by
  pointwise [hG, hE]
  simp only [← EReal.coe_mul, coe_sum]

theorem dq_mm (g : Fin 4) {E : FVec Ideal S512x256 .bf16} (hE : ∀ r e, E (ix2 r e) = ((p.dmix (row t r) (gc g e) : ℝ) : EReal))
    (hw : ∀ d e, w (ix3 0 d e) = ((p.wg g d e : ℝ) : EReal)) (h : S1x256x256.ShapeCasts S256x256) (hb : S512x1.Broadcasts S512x256)
    {C : FVec Ideal S512x1 .f32} (hC : ∀ r, C (ix2 r 0) = ((cnt (win g) (row t r).val : ℝ) : EReal)) (r : Fin 512) (d : Fin 256) :
    divf (matmul dot_S512x256_S256x256_S512x256_1_1_0_0_n_n none E (shapeCast S256x256 w h) (constant S512x256 .f32 0#32)) (broadcastTo S512x256 C hb) (ix2 r d)
      = ((p.q g d (row t r) : ℝ) : EReal) := by
  pointwise [hE, hw, hC]
  simp only [← EReal.coe_mul, coe_sum]
  rw [div_real (cnt_ne (win_pos g) _)]
  rfl

variable {w0 w1 w2 w3 : FVec Ideal S1x256x256 .bf16}

theorem dwg0_pay (hG : ∀ r d, G (ix2 r d) = ((p.pooled (row t r) 0 d : ℝ) : EReal)) (hD : ∀ r k, D (ix2 r k) = ((p.dmix (row t r) k : ℝ) : EReal))
    (acc : FVec Ideal S1x256x256 .f32) (d e : Fin 256) : k0_pay36 (F := Ideal) G D acc (ix3 0 d e)
      = acc (ix3 0 d e) + ((∑ r : Fin 512, p.pooled (row t r) 0 d * p.dmix (row t r) (gc 0 e) : ℝ) : EReal) :=
  dwg_mm 0 hG (cols512 hD 0 slices_S512x1024_o0_0_S512x256) acc _ _ d e
theorem dwg1_pay (hG : ∀ r d, G (ix2 r d) = ((p.pooled (row t r) 1 d : ℝ) : EReal)) (hD : ∀ r k, D (ix2 r k) = ((p.dmix (row t r) k : ℝ) : EReal))
    (acc : FVec Ideal S1x256x256 .f32) (d e : Fin 256) : k0_pay39 (F := Ideal) G D acc (ix3 0 d e)
      = acc (ix3 0 d e) + ((∑ r : Fin 512, p.pooled (row t r) 1 d * p.dmix (row t r) (gc 1 e) : ℝ) : EReal) :=
  dwg_mm 1 hG (cols512 hD 1 slices_S512x1024_o0_256_S512x256) acc _ _ d e
theorem dwg2_pay (hG : ∀ r d, G (ix2 r d) = ((p.pooled (row t r) 2 d : ℝ) : EReal)) (hD : ∀ r k, D (ix2 r k) = ((p.dmix (row t r) k : ℝ) : EReal))
    (acc : FVec Ideal S1x256x256 .f32) (d e : Fin 256) : k0_pay42 (F := Ideal) G D acc (ix3 0 d e)
      = acc (ix3 0 d e) + ((∑ r : Fin 512, p.pooled (row t r) 2 d * p.dmix (row t r) (gc 2 e) : ℝ) : EReal) :=
  dwg_mm 2 hG (cols512 hD 2 slices_S512x1024_o0_512_S512x256) acc _ _ d e
theorem dwg3_pay (hG : ∀ r d, G (ix2 r d) = ((p.pooled (row t r) 3 d : ℝ) : EReal)) (hD : ∀ r k, D (ix2 r k) = ((p.dmix (row t r) k : ℝ) : EReal))
    (acc : FVec Ideal S1x256x256 .f32) (d e : Fin 256) : k0_pay45 (F := Ideal) G (k0_pay44 D) acc (ix3 0 d e)
      = acc (ix3 0 d e) + ((∑ r : Fin 512, p.pooled (row t r) 3 d * p.dmix (row t r) (gc 3 e) : ℝ) : EReal) :=
  dwg_mm 3 hG (cols512 hD 3 slices_S512x1024_o0_768_S512x256) acc _ _ d e

/-- The gradient of the pooled rows over the counts, at a point's rows. -/
theorem q_pay (hD : ∀ r k, D (ix2 r k) = ((p.dmix (row t r) k : ℝ) : EReal)) (e0 : ∀ d e, w0 (ix3 0 d e) = ((p.wg 0 d e : ℝ) : EReal))
    (e1 : ∀ d e, w1 (ix3 0 d e) = ((p.wg 1 d e : ℝ) : EReal)) (e2 : ∀ d e, w2 (ix3 0 d e) = ((p.wg 2 d e : ℝ) : EReal))
    (e3 : ∀ d e, w3 (ix3 0 d e) = ((p.wg 3 d e : ℝ) : EReal)) (r : Fin 512) (k : Fin 1024) :
    k0_pay46 (F := Ideal) (BitVec.ofNat 32 (grid0.coords t 0).val) (k0_pay37 (BitVec.ofNat 32 (grid0.coords t 0).val) D w0)
      (k0_pay40 (BitVec.ofNat 32 (grid0.coords t 0).val) (k0_pay38 D) w1) (k0_pay43 (BitVec.ofNat 32 (grid0.coords t 0).val) D w2) (k0_pay44 D) w3 (ix2 r k)
      = ((p.q (gr k) (gd k) (row t r) : ℝ) : EReal) := by
  rw [coord]
  have h0 : ∀ r d, k0_pay37 (F := Ideal) (BitVec.ofNat 32 t.val) D w0 (ix2 r d) = ((p.q 0 d (row t r) : ℝ) : EReal) :=
    dq_mm 0 (cols512 hD 0 slices_S512x1024_o0_0_S512x256) e0 _ _ (count t 2 (by omega) _)
  have h1 : ∀ r d, k0_pay40 (F := Ideal) (BitVec.ofNat 32 t.val) (k0_pay38 D) w1 (ix2 r d) = ((p.q 1 d (row t r) : ℝ) : EReal) :=
    dq_mm 1 (cols512 hD 1 slices_S512x1024_o0_256_S512x256) e1 _ _ (count t 4 (by omega) _)
  have h2 : ∀ r d, k0_pay43 (F := Ideal) (BitVec.ofNat 32 t.val) D w2 (ix2 r d) = ((p.q 2 d (row t r) : ℝ) : EReal) :=
    dq_mm 2 (cols512 hD 2 slices_S512x1024_o0_512_S512x256) e2 _ _ (count t 8 (by omega) _)
  have h3 : ∀ r d, divf (matmul dot_S512x256_S256x256_S512x256_1_1_0_0_n_n none (k0_pay44 D) (shapeCast S256x256 w3 shapeCasts_S1x256x256_S256x256) (constant S512x256 .f32 0#32))
      (broadcastTo S512x256 (sitofp (F := Ideal) .f32 (minsi (addi (addi (broadcast S512x1 (Scalar.muli (BitVec.ofNat 32 t.val) 512#32)) (iota .tc S512x1 32 [0] iota_S512x1_d0_w32)) (broadcast S512x1 1#32))
      (broadcast S512x1 16#32))) broadcasts_S512x1_S512x256) (ix2 r d) = ((p.q 3 d (row t r) : ℝ) : EReal) :=
    dq_mm 3 (cols512 hD 3 slices_S512x1024_o0_768_S512x256) e3 _ _ (count t 16 (by omega) _)
  unfold k0_pay46
  generalize divf (matmul dot_S512x256_S256x256_S512x256_1_1_0_0_n_n none (k0_pay44 D) (shapeCast S256x256 w3 shapeCasts_S1x256x256_S256x256) (constant S512x256 .f32 0#32))
      (broadcastTo S512x256 (sitofp (F := Ideal) .f32 (minsi (addi (addi (broadcast S512x1 (Scalar.muli (BitVec.ofNat 32 t.val) 512#32)) (iota .tc S512x1 32 [0] iota_S512x1_d0_w32)) (broadcast S512x1 1#32))
      (broadcast S512x1 16#32))) broadcasts_S512x1_S512x256) = z at h3 ⊢
  pointwise [h0, h1, h2, h3]
  exact four_cols (fun g e => ((p.q g e (row t r) : ℝ) : EReal)) k

end groups

/-! ### The sixteen rows after a point's -/

section halo
variable {dy M : FVec Ideal S16x1024 .f32} {qg sc : FVec Ideal S1x1024 .f32} {wo : FVec Ideal S1024x1024 .bf16}

theorem cols16 {x : FVec Ideal S16x1024 .bf16} {Z : Fin 16 → Fin 1024 → ℝ} (hx : ∀ r k, x (ix2 r k) = ((Z r k : ℝ) : EReal)) (g : Fin 4)
    (h : S16x1024.Slices ![0, g.val * 256] S16x256) (r : Fin 16) (d : Fin 256) :
    extractStridedSlice S16x256 ![0, g.val * 256] x h (ix2 r d) = ((Z r (gc g d) : ℝ) : EReal) := by
  rw [← hx]
  refine extractStridedSlice_apply _ _ _ (ix2 r d) (ix2 r (gc g d)) fun a => ?_
  match a with
  | ⟨0, _⟩ => exact (Nat.zero_add _).symm
  | ⟨1, _⟩ => rfl

theorem dmix_halo (hM : ∀ r k, M (ix2 r k) = ((p.m (next t r) k : ℝ) : EReal)) (hd : ∀ r k, dy (ix2 r k) = ((p.dy (next t r) k : ℝ) : EReal))
    (hg : ∀ k, qg (ix2 0 k) = ((p.qg k : ℝ) : EReal)) (hw : ∀ l k, wo (ix2 l k) = ((p.wo l k : ℝ) : EReal))
    (hs : ∀ k, sc (ix2 0 k) = ((p.sc k : ℝ) : EReal)) (r : Fin 16) (k : Fin 1024) :
    k0_pay51 (F := Ideal) (k0_pay9 sc) dy (k0_pay47 M) (k0_pay48 qg) (k0_pay49 M) (k0_pay50 M) wo (ix2 r k) = ((p.dmix (next t r) k : ℝ) : EReal) := by
  have h : k0_pay49 (F := Ideal) M (ix2 r 0) = ((rr (p.m (next t r)) : ℝ) : EReal) := by
    pointwise [k0_pay49, k0_pay47, hM]
    simp only [← EReal.coe_mul, coe_sum, ofBits_1024, ofBits_eps]
    rw [div_real (by norm_num), ← EReal.coe_add, rsqrt_real (ms_pos _)]; rfl
  have h1 : ∀ k, k0_pay50 (F := Ideal) M (ix2 r k) = ((rr (p.m (next t r)) : ℝ) : EReal) := fun k => by
    pointwise [k0_pay50, h]
  pointwise [k0_pay51, k0_pay9, k0_pay47, k0_pay48, hM, hd, h, h1, hg, hw, hs]
  simp only [← EReal.coe_mul, coe_sum, ofBits_1024]
  rw [div_real (by norm_num)]
  simp only [← EReal.coe_mul, ← EReal.coe_sub, coe_sum]
  rfl

theorem ofBits_two : Ideal.ofBits .f32 0x40000000#32 = ((2 : ℝ) : EReal) := by simp [Ideal.ofBits, Ideal.ieee]; rw [← EReal.coe_mul]; norm_num
theorem ofBits_four : Ideal.ofBits .f32 0x40800000#32 = ((4 : ℝ) : EReal) := by simp [Ideal.ofBits, Ideal.ieee]; rw [← EReal.coe_mul]; norm_num
theorem ofBits_eight : Ideal.ofBits .f32 0x41000000#32 = ((8 : ℝ) : EReal) := by simp [Ideal.ofBits, Ideal.ieee]; rw [← EReal.coe_mul]; norm_num
theorem ofBits_sixteen : Ideal.ofBits .f32 0x41800000#32 = ((16 : ℝ) : EReal) := by simp [Ideal.ofBits, Ideal.ieee]; rw [← EReal.coe_mul]; norm_num

/-- There every count is a whole window. -/
theorem q_halo (g : Fin 4) {E : FVec Ideal S16x256 .bf16} {w : FVec Ideal S1x256x256 .bf16} (hE : ∀ r e, E (ix2 r e) = ((p.dmix (next t r) (gc g e) : ℝ) : EReal))
    (hw : ∀ d e, w (ix3 0 d e) = ((p.wg g d e : ℝ) : EReal)) (h : S1x256x256.ShapeCasts S256x256) (c : EReal)
    (hc : c = ((win g : ℝ) : EReal)) (r : Fin 16) (d : Fin 256) :
    divf (F := Ideal) (matmul dot_S16x256_S256x256_S16x256_1_1_0_0_n_n none E (shapeCast S256x256 w h) (constant S16x256 .f32 0#32)) (broadcast S16x256 c) (ix2 r d)
      = ((p.q g d (next t r) : ℝ) : EReal) := by
  have hp := win_pos g
  have hw' : win g ≤ 16 := (by decide : ∀ g : Fin 4, win g ≤ 16) g
  have e : cnt (win g) (next t r).val = (win g : ℝ) := by
    rw [cnt, min_eq_right]
    show win g ≤ min ((t.val + 1) * 32) 511 * 16 + r.val + 1
    omega
  pointwise [hE, hw, hc]
  simp only [← EReal.coe_mul, coe_sum]
  rw [div_real (by exact_mod_cast hp.ne'), Pool.q, e]
  rfl

/-- A column of a point's rows and the sixteen after them, zero after the last row. -/
def zf (p : Pool) (t : Fin cfg0.N) (k : Fin 1024) (n : ℕ) : ℝ := ext (p.q (gr k) (gd k)) (t.val * 512 + n)

theorem fw_zf (k : Fin 1024) (w : ℕ) (r : Fin 512) : fw (zf p t k) w r.val = fwd (p.q (gr k) (gd k)) w (row t r).val :=
  Finset.sum_congr rfl fun j _ => congrArg _ (Nat.add_assoc _ _ _).symm

theorem zf_row (k : Fin 1024) (n : ℕ) (h : n < 512) : zf p t k n = p.q (gr k) (gd k) (row t ⟨n, h⟩) := ext_val _ (row t ⟨n, h⟩)
theorem zf_next (k : Fin 1024) (n : ℕ) (h : n < 16) : zf p t k (512 + n) = if t.val = 15 then 0 else p.q (gr k) (gd k) (next t ⟨n, h⟩) := by
  have ht : t.val < 16 := by have := t.isLt; have : cfg0.N = 16 := N_0; omega
  rw [zf]
  by_cases h0 : t.val = 15
  · rw [if_pos h0, ext_of_le _ (by omega)]
  · have e : t.val * 512 + (512 + n) = (next t ⟨n, h⟩).val := by show _ = min ((t.val + 1) * 32) 511 * 16 + n; omega
    rw [if_neg h0, e, ext_val]

variable {w0 w1 w2 w3 : FVec Ideal S1x256x256 .bf16} {Q : FVec Ideal S512x1024 .f32}

theorem tile_q (hQ : ∀ r k, Q (ix2 r k) = ((p.q (gr k) (gd k) (row t r) : ℝ) : EReal))
    (hM : ∀ r k, M (ix2 r k) = ((p.m (next t r) k : ℝ) : EReal)) (hd : ∀ r k, dy (ix2 r k) = ((p.dy (next t r) k : ℝ) : EReal))
    (hg : ∀ k, qg (ix2 0 k) = ((p.qg k : ℝ) : EReal)) (hw : ∀ l k, wo (ix2 l k) = ((p.wo l k : ℝ) : EReal))
    (hs : ∀ k, sc (ix2 0 k) = ((p.sc k : ℝ) : EReal)) (e0 : ∀ d e, w0 (ix3 0 d e) = ((p.wg 0 d e : ℝ) : EReal))
    (e1 : ∀ d e, w1 (ix3 0 d e) = ((p.wg 1 d e : ℝ) : EReal)) (e2 : ∀ d e, w2 (ix3 0 d e) = ((p.wg 2 d e : ℝ) : EReal))
    (e3 : ∀ d e, w3 (ix3 0 d e) = ((p.wg 3 d e : ℝ) : EReal)) (r : Fin 528) (k : Fin 1024) :
    k0_pay56 (F := Ideal) (BitVec.ofNat 32 t.val) Q (k0_pay52 (k0_pay9 sc) dy (k0_pay47 M) (k0_pay48 qg) (k0_pay49 M) (k0_pay50 M) wo w0)
      (k0_pay53 (k0_pay9 sc) dy (k0_pay47 M) (k0_pay48 qg) (k0_pay49 M) (k0_pay50 M) wo w1)
      (k0_pay54 (k0_pay9 sc) dy (k0_pay47 M) (k0_pay48 qg) (k0_pay49 M) (k0_pay50 M) wo w2)
      (k0_pay55 (k0_pay9 sc) dy (k0_pay47 M) (k0_pay48 qg) (k0_pay49 M) (k0_pay50 M) wo) w3 (ix2 r k) = ((zf p t k r.val : ℝ) : EReal) := by
  have ht : t.val < 16 := by have := t.isLt; have : cfg0.N = 16 := N_0; omega
  have hr := r.isLt
  have hD := dmix_halo hM hd hg hw hs
  have h0 : ∀ r d, k0_pay52 (F := Ideal) (k0_pay9 sc) dy (k0_pay47 M) (k0_pay48 qg) (k0_pay49 M) (k0_pay50 M) wo w0 (ix2 r d) = ((p.q 0 d (next t r) : ℝ) : EReal) :=
    q_halo 0 (cols16 hD 0 slices_S16x1024_o0_0_S16x256) e0 _ _ (ofBits_two.trans (by norm_num [win]))
  have h1 : ∀ r d, k0_pay53 (F := Ideal) (k0_pay9 sc) dy (k0_pay47 M) (k0_pay48 qg) (k0_pay49 M) (k0_pay50 M) wo w1 (ix2 r d) = ((p.q 1 d (next t r) : ℝ) : EReal) :=
    q_halo 1 (cols16 hD 1 slices_S16x1024_o0_256_S16x256) e1 _ _ (ofBits_four.trans (by norm_num [win]))
  have h2 : ∀ r d, k0_pay54 (F := Ideal) (k0_pay9 sc) dy (k0_pay47 M) (k0_pay48 qg) (k0_pay49 M) (k0_pay50 M) wo w2 (ix2 r d) = ((p.q 2 d (next t r) : ℝ) : EReal) :=
    q_halo 2 (cols16 hD 2 slices_S16x1024_o0_512_S16x256) e2 _ _ (ofBits_eight.trans (by norm_num [win]))
  have h3 : ∀ r d, divf (F := Ideal) (matmul dot_S16x256_S256x256_S16x256_1_1_0_0_n_n none (k0_pay55 (k0_pay9 sc) dy (k0_pay47 M) (k0_pay48 qg) (k0_pay49 M) (k0_pay50 M) wo) (shapeCast S256x256 w3 shapeCasts_S1x256x256_S256x256) (constant S16x256 .f32 0#32))
      (broadcast S16x256 (Scalar.ofBits .f32 0x41800000#32)) (ix2 r d) = ((p.q 3 d (next t r) : ℝ) : EReal) :=
    q_halo 3 (cols16 hD 3 slices_S16x1024_o0_768_S16x256) e3 _ _ (ofBits_sixteen.trans (by norm_num [win]))
  unfold k0_pay56
  generalize divf (F := Ideal) (matmul dot_S16x256_S256x256_S16x256_1_1_0_0_n_n none (k0_pay55 (k0_pay9 sc) dy (k0_pay47 M) (k0_pay48 qg) (k0_pay49 M) (k0_pay50 M) wo) (shapeCast S256x256 w3 shapeCasts_S1x256x256_S256x256) (constant S16x256 .f32 0#32))
      (broadcast S16x256 (Scalar.ofBits .f32 0x41800000#32)) = z at h3 ⊢
  pointwise [h0, h1, h2, h3, hQ]
  split
  · next h => exact congrArg (fun e : ℝ => (e : EReal)) (zf_row k r.val h).symm
  · next h =>
    have e : zf p t k r.val = zf p t k (512 + (r.val - 512)) := congrArg _ (by omega)
    rw [sel_eq _ 15 (by omega) (by omega), e, zf_next k _ (by omega)]
    split
    · rfl
    · exact four_cols (fun g e => ((p.q g e (next t ⟨r.val - 512, by omega⟩) : ℝ) : EReal)) k

end halo

/-! ### The gradient of the projection in -/

section dp
variable {Q : FVec Ideal S512x1024 .f32} {T : FVec Ideal S528x1024 .f32}

theorem sub_count (g : Fin 4) {A : FVec Ideal S528x256 .f32} {C : FVec Ideal S512x1 .f32} {B : FVec Ideal S512x256 .f32}
    (h : S528x256.Slices ![0, 0] S512x256) (hb : S512x1.Broadcasts S512x256)
    (hA : ∀ r : Fin 528, r.val + win g ≤ 528 → ∀ d, A (ix2 r d) = ((fw (zf p t (gc g d)) (win g) r.val : ℝ) : EReal))
    (hC : ∀ r, C (ix2 r 0) = ((cnt (win g) (row t r).val : ℝ) : EReal))
    (hB : ∀ r d, B (ix2 r d) = ((p.q (gr (gc g d)) (gd (gc g d)) (row t r) : ℝ) : EReal)) (r : Fin 512) (d : Fin 256) :
    subf (extractStridedSlice S512x256 ![0, 0] A h) (mulf B (broadcastTo S512x256 C hb)) (ix2 r d) = ((p.dp (row t r) (gc g d) : ℝ) : EReal) := by
  have hw : win g ≤ 16 := (by decide : ∀ g : Fin 4, win g ≤ 16) g
  have hr := r.isLt
  pointwise [hC, hB]
  rw [hA ⟨r.val, by omega⟩ (by show r.val + win g ≤ 528; omega), ← EReal.coe_mul, ← EReal.coe_sub, fw_zf, Pool.dp, gr_gc, gd_gc, Pool.q,
    div_mul_cancel₀ _ (cnt_ne (win_pos g) _)]

variable (hQ : ∀ r k, Q (ix2 r k) = ((p.q (gr k) (gd k) (row t r) : ℝ) : EReal)) (hT : ∀ r k, T (ix2 r k) = ((zf p t k r.val : ℝ) : EReal))
include hQ hT

theorem dp2_pay (r : Fin 512) (d : Fin 256) : k0_pay62 (F := Ideal) (BitVec.ofNat 32 t.val) Q T (ix2 r d) = ((p.dp (row t r) (gc 2 d) : ℝ) : EReal) :=
  sub_count 2 slices_S528x256_o0_0_S512x256 broadcasts_S512x1_S512x256 (fun r hr d => fw_step 4 524#32 rfl (by omega) _ (fw_step 2 526#32 rfl (by omega) _ (fw_step 1 527#32 rfl (by omega) _ (fun r _ => (cols528 hT 2 slices_S528x1024_o0_512_S528x256 r d).trans (congrArg _ (fw_one _ _).symm)))) r hr)
    (count t 8 (by omega) _) (cols512 hQ 2 slices_S512x1024_o0_512_S512x256) r d

theorem dp3_pay (r : Fin 512) (d : Fin 256) : subf (F := Ideal) (k0_pay63 T) (k0_pay64 (BitVec.ofNat 32 t.val) Q) (ix2 r d) = ((p.dp (row t r) (gc 3 d) : ℝ) : EReal) :=
  sub_count 3 slices_S528x256_o0_0_S512x256 broadcasts_S512x1_S512x256 (fun r hr d => fw_step 8 520#32 rfl (by omega) _ (fw_step 4 524#32 rfl (by omega) _ (fw_step 2 526#32 rfl (by omega) _ (fw_step 1 527#32 rfl (by omega) _ (fun r _ => (cols528 hT 3 slices_S528x1024_o0_768_S528x256 r d).trans (congrArg _ (fw_one _ _).symm))))) r hr)
    (count t 16 (by omega) _) (cols512 hQ 3 slices_S512x1024_o0_768_S512x256) r d

variable {a0 a1 a2 : FVec Ideal S16x256 .f32} {a3 : FVec Ideal S16x256 .bf16} {w : FVec Ideal S1x256x256 .bf16}
  (hT' : k0_pay56 (BitVec.ofNat 32 t.val) Q a0 a1 a2 a3 w = T)
include hT'

theorem dp0_pay (r : Fin 512) (d : Fin 256) : k0_pay57 (F := Ideal) (BitVec.ofNat 32 t.val) Q a0 a1 a2 a3 w (ix2 r d) = ((p.dp (row t r) (gc 0 d) : ℝ) : EReal) := by
  unfold k0_pay57
  rw [hT']
  exact sub_count 0 slices_S528x256_o0_0_S512x256 broadcasts_S512x1_S512x256 (fun r hr d => fw_step 1 527#32 rfl (by omega) _ (fun r _ => (cols528 hT 0 slices_S528x1024_o0_0_S528x256 r d).trans (congrArg _ (fw_one _ _).symm)) r hr)
    (count t 2 (by omega) _) (cols512 hQ 0 slices_S512x1024_o0_0_S512x256) r d

theorem dp1_pay (r : Fin 512) (d : Fin 256) : k0_pay61 (F := Ideal) (k0_pay58 (BitVec.ofNat 32 t.val) Q a0 a1 a2 a3 w) (k0_pay59 Q) (k0_pay60 (BitVec.ofNat 32 t.val)) (ix2 r d) = ((p.dp (row t r) (gc 1 d) : ℝ) : EReal) := by
  unfold k0_pay61 k0_pay58
  rw [hT']
  exact sub_count 1 slices_S528x256_o0_0_S512x256 broadcasts_S512x1_S512x256 (fun r hr d => fw_step 2 526#32 rfl (by omega) _ (fw_step 1 527#32 rfl (by omega) _ (fun r _ => (cols528 hT 1 slices_S528x1024_o0_256_S528x256 r d).trans (congrArg _ (fw_one _ _).symm))) r hr)
    (count t 4 (by omega) _) (cols512 hQ 1 slices_S512x1024_o0_256_S512x256) r d

theorem dp_pay (r : Fin 512) (k : Fin 1024) : k0_pay65 (F := Ideal) (k0_pay57 (BitVec.ofNat 32 t.val) Q a0 a1 a2 a3 w)
    (k0_pay61 (k0_pay58 (BitVec.ofNat 32 t.val) Q a0 a1 a2 a3 w) (k0_pay59 Q) (k0_pay60 (BitVec.ofNat 32 t.val)))
    (k0_pay62 (BitVec.ofNat 32 t.val) Q (k0_pay56 (BitVec.ofNat 32 t.val) Q a0 a1 a2 a3 w)) (k0_pay63 (k0_pay56 (BitVec.ofNat 32 t.val) Q a0 a1 a2 a3 w))
    (k0_pay64 (BitVec.ofNat 32 t.val) Q) (ix2 r k) = ((p.dp (row t r) k : ℝ) : EReal) := by
  have h0 := dp0_pay hQ hT hT'
  have h1 := dp1_pay hQ hT hT'
  have h2 := dp2_pay hQ hT
  have h3 := dp3_pay hQ hT
  rw [hT']
  unfold k0_pay65
  generalize subf (F := Ideal) (k0_pay63 T) (k0_pay64 (BitVec.ofNat 32 t.val) Q) = z at h3 ⊢
  pointwise [h0, h1, h2, h3]
  exact (four_cols (fun g e => ((p.dp (row t r) (gc g e) : ℝ) : EReal)) k).trans (congrArg (fun k => ((p.dp (row t r) k : ℝ) : EReal)) (gc_split k))

end dp

/-! ### The results -/

section last
variable {x dy : FVec Ideal S512x1024 .f32} {pg : FVec Ideal S1x1024 .f32} {wi : FVec Ideal S1024x1024 .bf16}
  {d0 d1 d2 : FVec Ideal S512x256 .bf16} {d3 d4 : FVec Ideal S512x256 .f32}
  (hx : ∀ r k, x (ix2 r k) = ((p.x (row t r) k : ℝ) : EReal)) (hg : ∀ k, pg (ix2 0 k) = ((p.pg k : ℝ) : EReal))
  (hD : ∀ r k, k0_pay65 (F := Ideal) d0 d1 d2 d3 d4 (ix2 r k) = ((p.dp (row t r) k : ℝ) : EReal))

include hx in
theorem rx_pay (r : Fin 512) : k0_pay69 (F := Ideal) x (ix2 r 0) = ((rr (p.x (row t r)) : ℝ) : EReal) := by
  pointwise [k0_pay69, hx]
  simp only [← EReal.coe_mul, coe_sum, ofBits_1024, ofBits_eps]
  rw [div_real (by norm_num), ← EReal.coe_add, rsqrt_real (ms_pos _)]; rfl

include hx in
theorem xh_pay (r : Fin 512) (k : Fin 1024) : k0_pay70 (F := Ideal) x (ix2 r k) = ((p.x (row t r) k * rr (p.x (row t r)) : ℝ) : EReal) := by
  have h := rx_pay hx
  pointwise [k0_pay70, hx, h]
  rw [EReal.coe_mul]

include hx hg hD in
theorem dwi_pay (acc : FVec Ideal S1024x1024 .f32) (l k : Fin 1024) : k0_pay67 (F := Ideal) d0 d1 d2 d3 d4 x pg acc (ix2 l k)
    = acc (ix2 l k) + ((∑ r : Fin 512, p.h (row t r) l * p.dp (row t r) k : ℝ) : EReal) := by
  unfold k0_pay67
  generalize k0_pay65 (F := Ideal) d0 d1 d2 d3 d4 = z at hD ⊢
  have e : ∀ r, Ideal.rsqrt (Ideal.div (((∑ k, p.x (row t r) k * p.x (row t r) k : ℝ) : EReal)) ((1024 : ℝ) : EReal) + (eps : EReal)) = ((rr (p.x (row t r)) : ℝ) : EReal) := fun r => by
    rw [div_real (by norm_num), ← EReal.coe_add, rsqrt_real (ms_pos _)]; rfl
  pointwise [k0_pay66, hx, hg, hD]
  simp only [← EReal.coe_mul, coe_sum, ofBits_1024, ofBits_eps, e]
  rfl

variable (hw : ∀ l k, wi (ix2 l k) = ((p.wi l k : ℝ) : EReal))

include hD hw in
theorem dh_pay (r : Fin 512) (k : Fin 1024) : k0_pay68 (F := Ideal) d0 d1 d2 d3 d4 wi (ix2 r k) = ((p.dh (row t r) k : ℝ) : EReal) := by
  unfold k0_pay68
  generalize k0_pay65 (F := Ideal) d0 d1 d2 d3 d4 = z at hD ⊢
  pointwise [hD, hw]
  simp only [← EReal.coe_mul, coe_sum]
  rfl

include hx hD hw in
theorem dpg_pay (acc : FVec Ideal S1x1024 .f32) (k : Fin 1024) : k0_pay2 (F := Ideal) (k0_pay68 d0 d1 d2 d3 d4 wi) (k0_pay70 x) acc (ix2 0 k)
    = acc (ix2 0 k) + ((∑ r : Fin 512, p.dh (row t r) k * (p.x (row t r) k * rr (p.x (row t r))) : ℝ) : EReal) := by
  have h := dh_pay hD hw
  have h' := xh_pay hx
  pointwise [k0_pay2, h, h']
  simp only [← EReal.coe_mul, coe_sum]

include hx hg hD hw in
theorem dx_pay (hd : ∀ r k, dy (ix2 r k) = ((p.dy (row t r) k : ℝ) : EReal)) (r : Fin 512) (k : Fin 1024) :
    k0_pay1 (F := Ideal) dy (k0_pay69 x) (k0_pay70 x) (k0_pay71 d0 d1 d2 d3 d4 pg wi) (k0_pay72 d0 d1 d2 d3 d4 x pg wi) (ix2 r k) = ((p.dx (row t r) k : ℝ) : EReal) := by
  have h := dh_pay hD hw
  have h' := xh_pay hx
  have h'' := rx_pay hx
  pointwise [k0_pay1, k0_pay71, k0_pay72, k0_pay66, h, h', h'', hg, hd]
  simp only [← EReal.coe_mul, coe_sum, ofBits_1024]
  rw [div_real (by norm_num)]
  simp only [← EReal.coe_mul, ← EReal.coe_sub, ← EReal.coe_add]
  rfl

end last

end Cert.BBwdIdeal.Val

end
-- ==== Proof.BBwdValue.lean ====
/-
  `mix_b_bwd`: what the kernel leaves in its seven results, entry by entry, on real arguments.
-/
module

public import proofs.«01_k».proof.Proof.BBwdPay

@[expose] public section

set_option maxRecDepth 16384

noncomputable section

namespace Cert.BBwdIdeal.Val

open Idealize.ShloMosaic Idealize.ShloMosaic.TcCoe Idealize.SL.Sem
open Cert.BBwdIdeal Cert.BBwdIdeal.Gen Cert.Lift

variable {m : (ℓ : Loc nD τ sig) → Buf (Elt Ideal) ℓ} {c : Dev nD} {p : Pool}

/-! ### What a point computes from its blocks -/

theorem ld_wg (a : Args m c p) (t : Fin cfg0.N) (g : Fin 4)
    (h : ∀ i, (![g.val, 0, 0] : Fin 3 → ℕ) i + (![1, 256, 256] : Fin 3 → ℕ) i ≤ S4x256x256.size i) (d e : Fin 256) :
    View.ld (Val := Elt Ideal) (e' := EltTy.bf16) (iblk m c 11 t) (Rect.unit ![g.val, 0, 0] ![1, 256, 256] h) (ix3 0 d e)
      = ((p.wg g d e : ℝ) : EReal) :=
  (congrArg (iblk m c 11 t) (show (Rect.unit ![g.val, 0, 0] ![1, 256, 256] h).emb (ix3 0 d e) = ix3 g d e by blk_ext)).trans (wg_real a t g d e)

section terms
variable (m c)

abbrev word (t : Fin cfg0.N) : BitVec 32 := BitVec.ofNat 32 (grid0.coords t 0).val
abbrev W0 (t : Fin cfg0.N) : FVec Ideal S1x256x256 .bf16 := View.ld (Val := Elt Ideal) (e' := EltTy.bf16) (iblk m c 11 t) (Rect.unit ![0, 0, 0] ![1, 256, 256] inb_S4x256x256_S1x256x256_0_0_0)
abbrev W1 (t : Fin cfg0.N) : FVec Ideal S1x256x256 .bf16 := View.ld (Val := Elt Ideal) (e' := EltTy.bf16) (iblk m c 11 t) (Rect.unit ![1, 0, 0] ![1, 256, 256] inb_S4x256x256_S1x256x256_1_0_0)
abbrev W2 (t : Fin cfg0.N) : FVec Ideal S1x256x256 .bf16 := View.ld (Val := Elt Ideal) (e' := EltTy.bf16) (iblk m c 11 t) (Rect.unit ![2, 0, 0] ![1, 256, 256] inb_S4x256x256_S1x256x256_2_0_0)
abbrev W3 (t : Fin cfg0.N) : FVec Ideal S1x256x256 .bf16 := View.ld (Val := Elt Ideal) (e' := EltTy.bf16) (iblk m c 11 t) (Rect.unit ![3, 0, 0] ![1, 256, 256] inb_S4x256x256_S1x256x256_3_0_0)
/-- The groups' pooled rows. -/
abbrev G0 (t : Fin cfg0.N) : FVec Ideal S512x256 .bf16 := k0_pay22 (k0_pay13 (grid0.coords t) (iblk m c 3 t) (iblk m c 4 t))
abbrev G1 (t : Fin cfg0.N) : FVec Ideal S512x256 .bf16 := k0_pay23 (k0_pay15 (word t) (k0_pay10 (iblk m c 3 t)) (k0_pay14 (grid0.coords t) (iblk m c 3 t) (iblk m c 4 t)))
abbrev G2 (t : Fin cfg0.N) : FVec Ideal S512x256 .bf16 := k0_pay24 (k0_pay16 (word t) (k0_pay10 (iblk m c 3 t)) (k0_pay12 (grid0.coords t) (iblk m c 3 t) (iblk m c 4 t)))
abbrev G3 (t : Fin cfg0.N) : FVec Ideal S512x256 .bf16 := k0_pay25 (k0_pay10 (iblk m c 3 t)) (k0_pay17 (k0_pay12 (grid0.coords t) (iblk m c 3 t) (iblk m c 4 t))) (Scalar.muli (word t) 512#32)
abbrev DM (t : Fin cfg0.N) : FVec Ideal S512x1024 .bf16 := k0_pay21 (iblk m c 0 t) (k0_pay11 (iblk m c 2 t)) (iblk m c 9 t)
abbrev DX (t : Fin cfg0.N) : FVec Ideal S512x1024 .bf16 := k0_pay29 (k0_pay9 (iblk m c 12 t)) (DM m c t) (iblk m c 13 t)
abbrev QQ (t : Fin cfg0.N) : FVec Ideal S512x1024 .f32 := k0_pay46 (word t) (k0_pay37 (word t) (DX m c t) (W0 m c t)) (k0_pay40 (word t) (k0_pay38 (DX m c t)) (W1 m c t))
  (k0_pay43 (word t) (DX m c t) (W2 m c t)) (k0_pay44 (DX m c t)) (W3 m c t)
/-- The gradient of the pooled rows after a point's, group by group. -/
abbrev H0 (t : Fin cfg0.N) : FVec Ideal S16x256 .f32 := k0_pay52 (k0_pay9 (iblk m c 12 t)) (iblk m c 5 t) (k0_pay47 (iblk m c 6 t)) (k0_pay48 (iblk m c 9 t)) (k0_pay49 (iblk m c 6 t)) (k0_pay50 (iblk m c 6 t)) (iblk m c 13 t) (W0 m c t)
abbrev H1 (t : Fin cfg0.N) : FVec Ideal S16x256 .f32 := k0_pay53 (k0_pay9 (iblk m c 12 t)) (iblk m c 5 t) (k0_pay47 (iblk m c 6 t)) (k0_pay48 (iblk m c 9 t)) (k0_pay49 (iblk m c 6 t)) (k0_pay50 (iblk m c 6 t)) (iblk m c 13 t) (W1 m c t)
abbrev H2 (t : Fin cfg0.N) : FVec Ideal S16x256 .f32 := k0_pay54 (k0_pay9 (iblk m c 12 t)) (iblk m c 5 t) (k0_pay47 (iblk m c 6 t)) (k0_pay48 (iblk m c 9 t)) (k0_pay49 (iblk m c 6 t)) (k0_pay50 (iblk m c 6 t)) (iblk m c 13 t) (W2 m c t)
abbrev H3 (t : Fin cfg0.N) : FVec Ideal S16x256 .bf16 := k0_pay55 (k0_pay9 (iblk m c 12 t)) (iblk m c 5 t) (k0_pay47 (iblk m c 6 t)) (k0_pay48 (iblk m c 9 t)) (k0_pay49 (iblk m c 6 t)) (k0_pay50 (iblk m c 6 t)) (iblk m c 13 t)
abbrev TT (t : Fin cfg0.N) : FVec Ideal S528x1024 .f32 := k0_pay56 (word t) (QQ m c t) (H0 m c t) (H1 m c t) (H2 m c t) (H3 m c t) (W3 m c t)
/-- … and what the projection's gradient is put together from. -/
abbrev D0 (t : Fin cfg0.N) : FVec Ideal S512x256 .bf16 := k0_pay57 (word t) (QQ m c t) (H0 m c t) (H1 m c t) (H2 m c t) (H3 m c t) (W3 m c t)
abbrev D1 (t : Fin cfg0.N) : FVec Ideal S512x256 .bf16 := k0_pay61 (k0_pay58 (word t) (QQ m c t) (H0 m c t) (H1 m c t) (H2 m c t) (H3 m c t) (W3 m c t)) (k0_pay59 (QQ m c t)) (k0_pay60 (word t))
abbrev D2 (t : Fin cfg0.N) : FVec Ideal S512x256 .bf16 := k0_pay62 (word t) (QQ m c t) (TT m c t)
abbrev D3 (t : Fin cfg0.N) : FVec Ideal S512x256 .f32 := k0_pay63 (TT m c t)
abbrev D4 (t : Fin cfg0.N) : FVec Ideal S512x256 .f32 := k0_pay64 (word t) (QQ m c t)
end terms

theorem G0_real (a : Args m c p) (t : Fin cfg0.N) (r : Fin 512) (d : Fin 256) : G0 m c t (ix2 r d) = ((p.pooled (row t r) 0 d : ℝ) : EReal) := pooled0_pay (P_real a t) (Pprev_real a t) r d
theorem G1_real (a : Args m c p) (t : Fin cfg0.N) (r : Fin 512) (d : Fin 256) : G1 m c t (ix2 r d) = ((p.pooled (row t r) 1 d : ℝ) : EReal) := pooled1_pay (P_real a t) (Pprev_real a t) r d
theorem G2_real (a : Args m c p) (t : Fin cfg0.N) (r : Fin 512) (d : Fin 256) : G2 m c t (ix2 r d) = ((p.pooled (row t r) 2 d : ℝ) : EReal) := pooled2_pay (P_real a t) (Pprev_real a t) r d
theorem G3_real (a : Args m c p) (t : Fin cfg0.N) (r : Fin 512) (d : Fin 256) : G3 m c t (ix2 r d) = ((p.pooled (row t r) 3 d : ℝ) : EReal) := pooled3_pay (P_real a t) (Pprev_real a t) r d
theorem DM_real (a : Args m c p) (t : Fin cfg0.N) (r : Fin 512) (k : Fin 1024) : DM m c t (ix2 r k) = ((p.dm (row t r) k : ℝ) : EReal) := dm_pay (m_real a t) (dy_real a t) (qg_real a t) r k
theorem DX_real (a : Args m c p) (t : Fin cfg0.N) (r : Fin 512) (k : Fin 1024) : DX m c t (ix2 r k) = ((p.dmix (row t r) k : ℝ) : EReal) := dmix_pay (DM_real a t) (wo_real a t) (sc_real a t) r k
theorem mixed_real (a : Args m c p) (t : Fin cfg0.N) (r : Fin 512) (k : Fin 1024) :
    k0_pay27 (F := Ideal) (G0 m c t) (G1 m c t) (G2 m c t) (G3 m c t) (k0_pay26 (W0 m c t)) (constant S512x256 .f32 0#32) (W1 m c t) (W2 m c t) (W3 m c t) (ix2 r k)
      = ((p.mixed (row t r) k : ℝ) : EReal) :=
  mixed_pay (G0_real a t) (G1_real a t) (G2_real a t) (G3_real a t) (ld_wg a t 0 _) (ld_wg a t 1 _) (ld_wg a t 2 _) (ld_wg a t 3 _) r k
theorem QQ_real (a : Args m c p) (t : Fin cfg0.N) (r : Fin 512) (k : Fin 1024) : QQ m c t (ix2 r k) = ((p.q (gr k) (gd k) (row t r) : ℝ) : EReal) :=
  q_pay (DX_real a t) (ld_wg a t 0 _) (ld_wg a t 1 _) (ld_wg a t 2 _) (ld_wg a t 3 _) r k
theorem DP_real (a : Args m c p) (t : Fin cfg0.N) (r : Fin 512) (k : Fin 1024) :
    k0_pay65 (F := Ideal) (D0 m c t) (D1 m c t) (D2 m c t) (D3 m c t) (D4 m c t) (ix2 r k) = ((p.dp (row t r) k : ℝ) : EReal) := by
  have hT : ∀ r k, TT m c t (ix2 r k) = ((zf p t k r.val : ℝ) : EReal) := fun r k => by
    unfold TT word
    rw [coord t]
    exact tile_q (QQ_real a t) (mnext_real a t) (dynext_real a t) (qg_real a t) (wo_real a t) (sc_real a t) (ld_wg a t 0 _) (ld_wg a t 1 _) (ld_wg a t 2 _) (ld_wg a t 3 _) r k
  have hQ := QQ_real a t
  unfold D0 D1 D2 D3 D4
  unfold TT at hT ⊢
  generalize QQ m c t = Q at hQ hT ⊢
  unfold word at hT ⊢
  rw [coord t] at hT ⊢
  exact dp_pay hQ hT rfl r k

/-! ### The results -/

theorem dx_eq (a : Args m c p) : (dats m 0 c).arrAt 14 cfg0.N = fun y => ((p.dx (y 0) (y 1) : ℝ) : EReal) := by
  refine (dats m 0 c).arrAt_eq_of_covers 14 _ (by decide +kernel) fun t hf y => ?_
  obtain ⟨r, k, rfl⟩ : ∃ r k, y = ix2 r k := ⟨y 0, y 1, by blk_ext⟩
  blk_simp
  rw [after0_14]
  have e : (outsAt0 m c t.val t.isLt).1 (ix2 r k) = ((p.dx (row t r) k : ℝ) : EReal) := by
    have e := dx_pay (x_real a t) (pg_real a t) (DP_real a t) (wi_real a t) (dy_real a t) r k
    by_cases h0 : t.val % 16 = 0
    · rw [outsAt0_A m c t h0]; frame_out; exact e
    · rw [outsAt0_B m c t h0]; frame_out; exact e
  rw [e]
  have e' : ((cfg0.win 14).blk t).view.emb (ix2 r k) = ix2 (row t r) k := by blk_ext [idx t]
  rw [e']; rfl

theorem dwo_block (a : Args m c p) (t : Fin cfg0.N) (acc : FVec Ideal S1024x1024 .f32) (y : S1024x1024.Idx) :
    k0_pay31 (F := Ideal) (k0_pay9 (iblk m c 12 t)) (DM m c t) (G0 m c t) (G1 m c t) (G2 m c t) (G3 m c t) (k0_pay26 (W0 m c t)) (constant S512x256 .f32 0#32) (W1 m c t) (W2 m c t) (W3 m c t) acc y
      = acc y + ((∑ r : Fin 512, p.scaled (row t r) (y 0) * p.dm (row t r) (y 1) : ℝ) : EReal) := by
  obtain ⟨l, k, rfl⟩ : ∃ r k, y = ix2 r k := ⟨y 0, y 1, by blk_ext⟩
  exact dwo_pay rfl (mixed_real a t) (DM_real a t) (sc_real a t) acc l k

theorem dwo_eq (a : Args m c p) : (dats m 0 c).arrAt 15 cfg0.N = fun y => ((p.dwo (y 0) (y 1) : ℝ) : EReal) := by
  refine (dats m 0 c).arrAt_eq_of_after_last 15 t0_15 (by decide +kernel) _ fun j => ?_
  blk_simp
  rw [after0_15, Pipeline.eq_sum_fin_of_reset_step_apply_last (fun n h => (outsAt0 m c n h).2.1) 16 (fun _ => 0)
    (fun t y => ((∑ r : Fin 512, p.scaled (row t r) (y 0) * p.dm (row t r) (y 1) : ℝ) : EReal))
    (fun t h j => by
      rw [outsAt0_A m c t h]; frame_out
      refine (dwo_block a t _ j).trans (congrArg (· + _) ?_)
      pointwise [k0_pay3])
    (fun t h j => by
      rw [outsAt0_B m c t h]; frame_out
      exact dwo_block a t _ j) (le_of_eq N_0) t0_15 rfl j, zero_add, coe_sum]
  exact congrArg _ (Fin.sum_mul_add_congr (fun _ _ _ => rfl) (by show 8192 = grid0.N * 512; rw [N_0]))

theorem dsc_block (a : Args m c p) (t : Fin cfg0.N) (acc : FVec Ideal S1x1024 .f32) (y : S1x1024.Idx) :
    k0_pay34 (F := Ideal) (k0_pay32 acc) (k0_pay33 (DM m c t) (G0 m c t) (G1 m c t) (G2 m c t) (G3 m c t) (k0_pay26 (W0 m c t)) (constant S512x256 .f32 0#32) (W1 m c t) (W2 m c t) (W3 m c t) (iblk m c 13 t)) y
      = acc y + ((∑ r : Fin 512, p.dms (row t r) (y 1) * p.mixed (row t r) (y 1) : ℝ) : EReal) := by
  obtain ⟨y0, k, rfl⟩ : ∃ r k, y = ix2 r k := ⟨y 0, y 1, by blk_ext⟩
  obtain rfl : y0 = 0 := Subsingleton.elim _ _
  exact dsc_pay rfl (mixed_real a t) (DM_real a t) (wo_real a t) acc k

theorem dsc_eq (a : Args m c p) : (dats m 0 c).arrAt 17 cfg0.N = fun y => ((p.dsc (y 1) : ℝ) : EReal) := by
  refine (dats m 0 c).arrAt_eq_of_after_last 17 t0_15 (by decide +kernel) _ fun j => ?_
  blk_simp
  rw [after0_17, Pipeline.eq_sum_fin_of_reset_step_apply_last (fun n h => (outsAt0 m c n h).2.2.2.1) 16 (fun _ => 0)
    (fun t y => ((∑ r : Fin 512, p.dms (row t r) (y 1) * p.mixed (row t r) (y 1) : ℝ) : EReal))
    (fun t h j => by
      rw [outsAt0_A m c t h]; frame_out
      refine (dsc_block a t _ j).trans (congrArg (· + _) ?_)
      pointwise [k0_pay5])
    (fun t h j => by
      rw [outsAt0_B m c t h]; frame_out
      exact dsc_block a t _ j) (le_of_eq N_0) t0_15 rfl j, zero_add, coe_sum]
  exact congrArg _ (Fin.sum_mul_add_congr (fun _ _ _ => rfl) (by show 8192 = grid0.N * 512; rw [N_0]))

theorem dqg_block (a : Args m c p) (t : Fin cfg0.N) (acc : FVec Ideal S1x1024 .f32) (y : S1x1024.Idx) :
    k0_pay30 (F := Ideal) (k0_pay20 (iblk m c 0 t) (k0_pay11 (iblk m c 2 t))) acc y
      = acc y + ((∑ r : Fin 512, p.dy (row t r) (y 1) * (p.m (row t r) (y 1) * rr (p.m (row t r))) : ℝ) : EReal) := by
  obtain ⟨y0, k, rfl⟩ : ∃ r k, y = ix2 r k := ⟨y 0, y 1, by blk_ext⟩
  obtain rfl : y0 = 0 := Subsingleton.elim _ _
  exact dqg_pay (m_real a t) (dy_real a t) acc k

theorem dqg_eq (a : Args m c p) : (dats m 0 c).arrAt 18 cfg0.N = fun y => ((p.dqg (y 1) : ℝ) : EReal) := by
  refine (dats m 0 c).arrAt_eq_of_after_last 18 t0_15 (by decide +kernel) _ fun j => ?_
  blk_simp
  rw [after0_18, Pipeline.eq_sum_fin_of_reset_step_apply_last (fun n h => (outsAt0 m c n h).2.2.2.2.1) 16 (fun _ => 0)
    (fun t y => ((∑ r : Fin 512, p.dy (row t r) (y 1) * (p.m (row t r) (y 1) * rr (p.m (row t r))) : ℝ) : EReal))
    (fun t h j => by
      rw [outsAt0_A m c t h]; frame_out
      refine (dqg_block a t _ j).trans (congrArg (· + _) ?_)
      pointwise [k0_pay6])
    (fun t h j => by
      rw [outsAt0_B m c t h]; frame_out
      exact dqg_block a t _ j) (le_of_eq N_0) t0_15 rfl j, zero_add, coe_sum]
  exact congrArg _ (Fin.sum_mul_add_congr (fun _ _ _ => rfl) (by show 8192 = grid0.N * 512; rw [N_0]))

theorem dwi_block (a : Args m c p) (t : Fin cfg0.N) (acc : FVec Ideal S1024x1024 .f32) (y : S1024x1024.Idx) :
    k0_pay67 (F := Ideal) (D0 m c t) (D1 m c t) (D2 m c t) (D3 m c t) (D4 m c t) (iblk m c 1 t) (iblk m c 8 t) acc y
      = acc y + ((∑ r : Fin 512, p.h (row t r) (y 0) * p.dp (row t r) (y 1) : ℝ) : EReal) := by
  obtain ⟨l, k, rfl⟩ : ∃ r k, y = ix2 r k := ⟨y 0, y 1, by blk_ext⟩
  exact dwi_pay (x_real a t) (pg_real a t) (DP_real a t) acc l k

theorem dwi_eq (a : Args m c p) : (dats m 0 c).arrAt 19 cfg0.N = fun y => ((p.dwi (y 0) (y 1) : ℝ) : EReal) := by
  refine (dats m 0 c).arrAt_eq_of_after_last 19 t0_15 (by decide +kernel) _ fun j => ?_
  blk_simp
  rw [after0_19, Pipeline.eq_sum_fin_of_reset_step_apply_last (fun n h => (outsAt0 m c n h).2.2.2.2.2.1) 16 (fun _ => 0)
    (fun t y => ((∑ r : Fin 512, p.h (row t r) (y 0) * p.dp (row t r) (y 1) : ℝ) : EReal))
    (fun t h j => by
      rw [outsAt0_A m c t h]; frame_out
      refine (dwi_block a t _ j).trans (congrArg (· + _) ?_)
      pointwise [k0_pay7])
    (fun t h j => by
      rw [outsAt0_B m c t h]; frame_out
      exact dwi_block a t _ j) (le_of_eq N_0) t0_15 rfl j, zero_add, coe_sum]
  exact congrArg _ (Fin.sum_mul_add_congr (fun _ _ _ => rfl) (by show 8192 = grid0.N * 512; rw [N_0]))

theorem dpg_block (a : Args m c p) (t : Fin cfg0.N) (acc : FVec Ideal S1x1024 .f32) (y : S1x1024.Idx) :
    k0_pay2 (F := Ideal) (k0_pay68 (D0 m c t) (D1 m c t) (D2 m c t) (D3 m c t) (D4 m c t) (iblk m c 10 t)) (k0_pay70 (iblk m c 1 t)) acc y
      = acc y + ((∑ r : Fin 512, p.dh (row t r) (y 1) * (p.x (row t r) (y 1) * rr (p.x (row t r))) : ℝ) : EReal) := by
  obtain ⟨y0, k, rfl⟩ : ∃ r k, y = ix2 r k := ⟨y 0, y 1, by blk_ext⟩
  obtain rfl : y0 = 0 := Subsingleton.elim _ _
  exact dpg_pay (x_real a t) (DP_real a t) (wi_real a t) acc k

theorem dpg_eq (a : Args m c p) : (dats m 0 c).arrAt 20 cfg0.N = fun y => ((p.dpg (y 1) : ℝ) : EReal) := by
  refine (dats m 0 c).arrAt_eq_of_after_last 20 t0_15 (by decide +kernel) _ fun j => ?_
  blk_simp
  rw [after0_20, Pipeline.eq_sum_fin_of_reset_step_apply_last (fun n h => (outsAt0 m c n h).2.2.2.2.2.2) 16 (fun _ => 0)
    (fun t y => ((∑ r : Fin 512, p.dh (row t r) (y 1) * (p.x (row t r) (y 1) * rr (p.x (row t r))) : ℝ) : EReal))
    (fun t h j => by
      rw [outsAt0_A m c t h]; frame_out
      refine (dpg_block a t _ j).trans (congrArg (· + _) ?_)
      pointwise [k0_pay8])
    (fun t h j => by
      rw [outsAt0_B m c t h]; frame_out
      exact dpg_block a t _ j) (le_of_eq N_0) t0_15 rfl j, zero_add, coe_sum]
  exact congrArg _ (Fin.sum_mul_add_congr (fun _ _ _ => rfl) (by show 8192 = grid0.N * 512; rw [N_0]))

/-! The groups' weights' gradient is stored group by group. -/

/-- One point's part of it. -/
abbrev wgPart (p : Pool) (t : Fin cfg0.N) (g : Fin 4) (d e : Fin 256) : ℝ := ∑ r : Fin 512, p.pooled (row t r) g d * p.dmix (row t r) (gc g e)
/-- The sum after a point, `acc` being the sum so far. -/
def wgNext (p : Pool) (t : Fin cfg0.N) (acc : FVec Ideal S4x256x256 .f32) (y : S4x256x256.Idx) : EReal :=
  acc y + ((wgPart p t (y 0) (y 1) (y 2) : ℝ) : EReal)

theorem wgPiece (p : Pool) (t : Fin cfg0.N) (g : Fin 4) (h h') (acc : FVec Ideal S4x256x256 .f32) (P : FVec Ideal S1x256x256 .f32 → FVec Ideal S1x256x256 .f32)
    (hP : ∀ w d e, P w (ix3 0 d e) = w (ix3 0 d e) + ((wgPart p t g d e : ℝ) : EReal)) (x : S1x256x256.Idx) :
    P (View.ld (Val := Elt Ideal) (e' := EltTy.f32) acc (Rect.unit (s := S4x256x256) ![g.val, 0, 0] ![1, 256, 256] h')) x
      = wgNext p t acc ((Rect.unit (s := S4x256x256) ![g.val, 0, 0] ![1, 256, 256] h).emb x) := by
  have e : (Rect.unit (s := S4x256x256) ![g.val, 0, 0] ![1, 256, 256] h).emb x = ix3 g (x 1) (x 2) := by blk_ext
  obtain ⟨x0, d, k, rfl⟩ : ∃ x0 d k, x = ix3 x0 d k := ⟨x 0, x 1, x 2, by blk_ext⟩
  obtain rfl : x0 = 0 := Subsingleton.elim _ _
  rw [e, hP]
  refine congrArg (· + _) ?_
  pointwise

theorem wg_pieces (a : Args m c p) (t : Fin cfg0.N) (acc : FVec Ideal S4x256x256 .f32) (L : List (View.Piece (Elt Ideal) S4x256x256 .f32)) (y : S4x256x256.Idx) :
    View.canon (Val := Elt Ideal) (e := EltTy.f32) (
      ⟨(Rect.unit ![3, 0, 0] ![1, 256, 256] inb_S4x256x256_S1x256x256_3_0_0), k0_pay45 (G3 m c t) (k0_pay44 (DX m c t)) (View.ld (Val := Elt Ideal) (e' := EltTy.f32) acc (Rect.unit ![3, 0, 0] ![1, 256, 256] inb_S4x256x256_S1x256x256_3_0_0))⟩ ::
      ⟨(Rect.unit ![2, 0, 0] ![1, 256, 256] inb_S4x256x256_S1x256x256_2_0_0), k0_pay42 (G2 m c t) (DX m c t) (View.ld (Val := Elt Ideal) (e' := EltTy.f32) acc (Rect.unit ![2, 0, 0] ![1, 256, 256] inb_S4x256x256_S1x256x256_2_0_0))⟩ ::
      ⟨(Rect.unit ![1, 0, 0] ![1, 256, 256] inb_S4x256x256_S1x256x256_1_0_0), k0_pay39 (G1 m c t) (DX m c t) (View.ld (Val := Elt Ideal) (e' := EltTy.f32) acc (Rect.unit ![1, 0, 0] ![1, 256, 256] inb_S4x256x256_S1x256x256_1_0_0))⟩ ::
      ⟨(Rect.unit ![0, 0, 0] ![1, 256, 256] inb_S4x256x256_S1x256x256_0_0_0), k0_pay36 (G0 m c t) (DX m c t) (View.ld (Val := Elt Ideal) (e' := EltTy.f32) acc (Rect.unit ![0, 0, 0] ![1, 256, 256] inb_S4x256x256_S1x256x256_0_0_0))⟩ :: L) y
      = wgNext p t acc y :=
  View.canon_append_of_piecesOf (Val := Elt Ideal) (e := EltTy.f32) (wgNext p t acc) L [_, _, _, _]
    ⟨wgPiece p t 3 inb_S4x256x256_S1x256x256_3_0_0 inb_S4x256x256_S1x256x256_3_0_0 acc (k0_pay45 (F := Ideal) (G3 m c t) (k0_pay44 (DX m c t))) (dwg3_pay (G3_real a t) (DX_real a t)),
     wgPiece p t 2 inb_S4x256x256_S1x256x256_2_0_0 inb_S4x256x256_S1x256x256_2_0_0 acc (k0_pay42 (F := Ideal) (G2 m c t) (DX m c t)) (dwg2_pay (G2_real a t) (DX_real a t)),
     wgPiece p t 1 inb_S4x256x256_S1x256x256_1_0_0 inb_S4x256x256_S1x256x256_1_0_0 acc (k0_pay39 (F := Ideal) (G1 m c t) (DX m c t)) (dwg1_pay (G1_real a t) (DX_real a t)),
     wgPiece p t 0 inb_S4x256x256_S1x256x256_0_0_0 inb_S4x256x256_S1x256x256_0_0_0 acc (k0_pay36 (F := Ideal) (G0 m c t) (DX m c t)) (dwg0_pay (G0_real a t) (DX_real a t)), trivial⟩ y
    (View.cover_of_tiledL _ ![1, 256, 256] (by sl_kernel_rfl) y)

theorem wg_outA (a : Args m c p) (t : Fin cfg0.N) (h0 : t.val % 16 = 0) (y : S4x256x256.Idx) :
    (outsAt0 m c t.val t.isLt).2.2.1 y = 0 + ((wgPart p t (y 0) (y 1) (y 2) : ℝ) : EReal) := by
  rw [outsAt0_A m c t h0]; frame_open
  simp (disch := decide) only [↓ View.readCov_skip, ↓ View.readCov_cons_toLoadRect, ↓ View.readCov_fill]
  frame_out
  refine (wg_pieces a t k0_pay4 _ y).trans (congrArg (· + _) ?_)
  pointwise [k0_pay4]

theorem wg_outB (a : Args m c p) (t : Fin cfg0.N) (h0 : ¬ t.val % 16 = 0) (y : S4x256x256.Idx) :
    (outsAt0 m c t.val t.isLt).2.2.1 y = (outsAt0 m c (t.val - 1) (by omega)).2.2.1 y + ((wgPart p t (y 0) (y 1) (y 2) : ℝ) : EReal) := by
  rw [outsAt0_B m c t h0]; frame_open
  try simp (disch := decide) only [↓ View.readCov_skip, ↓ View.readCov_cons_toLoadRect, ↓ View.readCov_fill]
  frame_out
  exact wg_pieces a t _ [] y

theorem dwg_eq (a : Args m c p) : (dats m 0 c).arrAt 16 cfg0.N = fun y => ((p.dwg (y 0) (y 1) (y 2) : ℝ) : EReal) := by
  refine (dats m 0 c).arrAt_eq_of_after_last 16 t0_15 (by decide +kernel) _ fun j => ?_
  blk_simp
  rw [after0_16, Pipeline.eq_sum_fin_of_reset_step_apply_last (fun n h => (outsAt0 m c n h).2.2.1) 16 (fun _ => 0)
    (fun t y => ((wgPart p t (y 0) (y 1) (y 2) : ℝ) : EReal)) (fun t h j => wg_outA a t h j) (fun t h j => wg_outB a t h j) (le_of_eq N_0) t0_15 rfl j, zero_add, coe_sum]
  exact congrArg _ (Fin.sum_mul_add_congr (fun _ _ _ => rfl) (by show 8192 = grid0.N * 512; rw [N_0]))

end Cert.BBwdIdeal.Val

end
-- ==== Proof.BBwdClaim.lean ====
/-
  `mix_b_bwd`: the kernel and the reference end with equal results on finite arguments.
-/
module

public import proofs.«01_k».proof.Defs
public import proofs.«01_k».proof.Proof.BBwdValue
public import proofs.«01_k».proof.Proof.Gen.BBwdIdeal.Value
public import proofs.«01_k».proof.Proof.Gen.BBwdRefIdeal.Run
public import proofs.«01_k».proof.Proof.Gen.Pre_b_finite
public import Idealize.ShloMosaic.Adequacy
public import Idealize.ShloMosaic.Init

@[expose] public section

set_option maxRecDepth 16384

noncomputable section

namespace Cert.BBwdIdeal.Val

open Idealize.ShloMosaic Idealize.ShloMosaic.TcCoe Idealize.SL.Sem
open Cert.BBwdIdeal Cert.Lift

/-- The real numbers of the arguments. -/
def reals (m : (ℓ : Loc nD τ sig) → Buf (Elt Ideal) ℓ) (c : Dev nD) : Pool where
  x i j := re (s := S8192x1024) (m ((c.tc : Thread nD τ).loc main_arg0)) (ix2 i j)
  pg i := re (s := S1024) (m ((c.tc : Thread nD τ).loc main_arg1)) (ix1 i)
  qg i := re (s := S1024) (m ((c.tc : Thread nD τ).loc main_arg2)) (ix1 i)
  wi i j := re (s := S1024x1024) (m ((c.tc : Thread nD τ).loc main_arg3)) (ix2 i j)
  wg i j k := re (s := S4x256x256) (m ((c.tc : Thread nD τ).loc main_arg4)) (ix3 i j k)
  sc i := re (s := S1024) (m ((c.tc : Thread nD τ).loc main_arg5)) (ix1 i)
  wo i j := re (s := S1024x1024) (m ((c.tc : Thread nD τ).loc main_arg6)) (ix2 i j)
  dy i j := re (s := S8192x1024) (m ((c.tc : Thread nD τ).loc main_arg7)) (ix2 i j)

/-- What the precondition says: the arguments are arrays of real numbers. -/
theorem finite_args {m : (ℓ : Loc nD τ sig) → Buf (Elt Ideal) ℓ} (h : Cert.Pre_BBwdIdeal_b_finite m) (c : Dev nD) :
    Args m c (reals m c) := by
  have e := congrFun (h c) (fun i => i.elim0)
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm,
    fun _ => (fin_of_all _ _ _ _ _ _ h1 _).symm,
    fun _ => (fin_of_all _ _ _ _ _ _ h2 _).symm,
    fun _ _ => (fin_of_all _ _ _ _ _ _ h3 _).symm,
    fun _ _ _ => (fin_of_all _ _ _ _ _ _ h4 _).symm,
    fun _ => (fin_of_all _ _ _ _ _ _ h5 _).symm,
    fun _ _ => (fin_of_all _ _ _ _ _ _ h6 _).symm,
    fun _ _ => (fin_of_all _ _ _ _ _ _ h7 _).symm⟩

set_option maxHeartbeats 1000000 in
theorem algebraic : Cert.algebraic_BBwdIdeal_BBwdRefIdeal_pre_b_finite := by
  pair_intro
  · run_from Cert.BBwdIdeal.Value.run_blocks m g
  · run_from Cert.BBwdRefIdeal.Value.run m' g'
    all_goals have a := finite_args hpre c
    all_goals obtain ⟨a0, a1, a2, a3, a4, a5, a6, a7⟩ := hagree c
    all_goals have b : Cert.BBwdRefIdeal.Val.Args (m' ((c.tc : Thread BBwdRefIdeal.nD BBwdRefIdeal.τ).loc BBwdRefIdeal.main_arg0)) (m' ((c.tc : Thread BBwdRefIdeal.nD BBwdRefIdeal.τ).loc BBwdRefIdeal.main_arg1)) (m' ((c.tc : Thread BBwdRefIdeal.nD BBwdRefIdeal.τ).loc BBwdRefIdeal.main_arg2)) (m' ((c.tc : Thread BBwdRefIdeal.nD BBwdRefIdeal.τ).loc BBwdRefIdeal.main_arg3)) (m' ((c.tc : Thread BBwdRefIdeal.nD BBwdRefIdeal.τ).loc BBwdRefIdeal.main_arg4)) (m' ((c.tc : Thread BBwdRefIdeal.nD BBwdRefIdeal.τ).loc BBwdRefIdeal.main_arg5)) (m' ((c.tc : Thread BBwdRefIdeal.nD BBwdRefIdeal.τ).loc BBwdRefIdeal.main_arg6)) (m' ((c.tc : Thread BBwdRefIdeal.nD BBwdRefIdeal.τ).loc BBwdRefIdeal.main_arg7)) (reals m c) := (by rw [a0, a1, a2, a3, a4, a5, a6, a7]; exact a)
    · rw [dx_eq a, ← (show StableHlo.launchContents m' c (Proc.tc.devRef BBwdRefIdeal.main_arg0) = _ from a0), ← (show StableHlo.launchContents m' c (Proc.tc.devRef BBwdRefIdeal.main_arg7) = _ from a7), Cert.BBwdRefIdeal.Read.val_main_v240_eq]
      funext y
      obtain ⟨i, j, rfl⟩ : ∃ i j, y = ix2 i j := ⟨y 0, y 1, by blk_ext⟩
      exact Cert.BBwdRefIdeal.Val.dx_real b i j
    · rw [dwo_eq a, Cert.BBwdRefIdeal.Read.val_main_v141_eq]
      funext y
      obtain ⟨i, j, rfl⟩ : ∃ i j, y = ix2 i j := ⟨y 0, y 1, by blk_ext⟩
      exact Cert.BBwdRefIdeal.Val.dwo_real b i j
    · rw [dwg_eq a, Cert.BBwdRefIdeal.Read.val_main_v154_eq]
      funext y
      obtain ⟨i, j, k, rfl⟩ : ∃ i j k, y = ix3 i j k := ⟨y 0, y 1, y 2, by blk_ext⟩
      exact Cert.BBwdRefIdeal.Val.dwg_real b i j k
    · rw [dsc_eq a, Cert.BBwdRefIdeal.Read.val_main_v241_eq]
      funext y
      obtain ⟨i, j, rfl⟩ : ∃ i j, y = ix2 i j := ⟨y 0, y 1, by blk_ext⟩
      obtain rfl : i = 0 := Subsingleton.elim _ _
      exact Cert.BBwdRefIdeal.Val.dsc_real b j
    · rw [dqg_eq a, Cert.BBwdRefIdeal.Read.val_main_v242_eq]
      funext y
      obtain ⟨i, j, rfl⟩ : ∃ i j, y = ix2 i j := ⟨y 0, y 1, by blk_ext⟩
      obtain rfl : i = 0 := Subsingleton.elim _ _
      exact Cert.BBwdRefIdeal.Val.dqg_real b j
    · rw [dwi_eq a, Cert.BBwdRefIdeal.Read.val_main_v218_eq]
      funext y
      obtain ⟨i, j, rfl⟩ : ∃ i j, y = ix2 i j := ⟨y 0, y 1, by blk_ext⟩
      exact Cert.BBwdRefIdeal.Val.dwi_real b i j
    · rw [dpg_eq a, Cert.BBwdRefIdeal.Read.val_main_v243_eq]
      funext y
      obtain ⟨i, j, rfl⟩ : ∃ i j, y = ix2 i j := ⟨y 0, y 1, by blk_ext⟩
      obtain rfl : i = 0 := Subsingleton.elim _ _
      exact Cert.BBwdRefIdeal.Val.dpg_real b j

/-- The reference runs to its end, leaves its arguments as they were and every semaphore at zero. -/
theorem ref_frame : Cert.quiescent_BBwdRefIdeal := fun m g _ =>
  (θ_run Cert.BBwdRefIdeal.defs _ _).mono (fun r h => ⟨fun c => (h c).2.2.2.2.2.2.2,
      sem_eq_zero_of_no_sems (by decide) r.2⟩)
    (Cert.BBwdRefIdeal.Value.run (F := Ideal) m g)

end Cert.BBwdIdeal.Val

end
-- ==== Proof.GmlpFwd.lean ====
/-
  The forward gMLP mixing block on real numbers: root-mean-square norm, first product, gate of
  Gmlp, second norm and residual. The two constants of the kernel's GELU slope are met here too.
-/
module

public import proofs.«01_k».proof.Proof.Gmlp

@[expose] public section

noncomputable section

namespace Cert.Lift

open Idealize.ShloMosaic

/-- The arguments of the forward block, as real numbers. -/
structure GmlpFwd where
  x : Fin 8192 → Fin 1024 → ℝ
  hg : Fin 1024 → ℝ
  qg : Fin 1024 → ℝ
  wi : Fin 1024 → Fin 4096 → ℝ
  lg : Fin 2048 → ℝ
  lb : Fin 2048 → ℝ
  ws : Fin 8 → Fin 128 → Fin 128 → ℝ
  bs : Fin 8 → Fin 128 → ℝ
  wo : Fin 2048 → Fin 1024 → ℝ

namespace GmlpFwd
variable (q : GmlpFwd)

def h (i : Fin 8192) (k : Fin 1024) : ℝ := q.x i k * rr (q.x i) * q.hg k
def z (i : Fin 8192) (j : Fin 4096) : ℝ := ∑ l, q.h i l * q.wi l j
/-- The gate's own arguments; the block takes no gradient, so its last field is not read. -/
def gate : Gmlp := { z := q.z, lg := q.lg, lb := q.lb, ws := q.ws, bs := q.bs, wo := q.wo, pg := q.qg, dy := fun _ _ => 0 }
def y (i : Fin 8192) (k : Fin 1024) : ℝ := q.x i k + q.gate.m i k * rr (q.gate.m i) * q.qg k

end GmlpFwd

/-- Column `c` of block `b`, among the four blocks of the hidden width. -/
abbrev col4 (b : Fin 4) (c : Fin 1024) : Fin 4096 := ⟨b.val * 1024 + c.val, by omega⟩

/-- The derivative of GELU, as differentiating along the tangent one writes it. -/
theorem gelu'_jvp (x : ℝ) : 1 / 2 * (1 + erfR (x / Real.sqrt 2))
    + 1 / 2 * x * (1 / Real.sqrt 2 * (2 / Real.sqrt (4 * Real.arctan 1) * Real.exp (-(x / Real.sqrt 2 * (x / Real.sqrt 2))))) = gelu' x := by
  rw [← one_mul (gelu' x), ← gelu'_eq]; ring

end Cert.Lift
-- ==== Proof.AFwdPay.lean ====
/-
  One point of `mix_a_fwd` on real numbers: the terms the kernel forms of what it reads.
-/
module

public import proofs.«01_k».proof.Proof.GmlpFwd
public import proofs.«01_k».proof.Proof.Gen.AFwdIdeal.Value
public import Idealize.ShloMosaic.Lib.Pipeline.ValueKit
public import Idealize.ShloMosaic.Lib.Pipeline.ReadBack

@[expose] public section

set_option maxRecDepth 16384

noncomputable section

namespace Cert.AFwdIdeal.Val

open Idealize.ShloMosaic Idealize.ShloMosaic.TcCoe Idealize.SL.Sem
open Cert.AFwdIdeal Cert.AFwdIdeal.Gen Cert.Lift

/-- Row `r` of point `t`, among all rows. -/
abbrev row (t : Fin cfg0.N) (r : Fin 512) : Fin 8192 := ⟨t.val * 512 + r.val, by have := t.isLt; have : cfg0.N = 16 := N_0; omega⟩
/-- Column `k` of half `b`, among all columns, and group `g` of half `b`. -/
abbrev hc (b : Fin 2) (k : Fin 1024) : Fin 2048 := ⟨b.val * 1024 + k.val, by omega⟩
abbrev gb (b : Fin 2) (g : Fin 4) : Fin 8 := ⟨b.val * 4 + g.val, by omega⟩
/-- Row `s` of chunk `n` of a block, and column `d` of group `g` of a half. -/
abbrev lr (n : Fin 4) (s : Fin 128) : Fin 512 := ⟨n.val * 128 + s.val, by omega⟩
abbrev lc (g : Fin 4) (d : Fin 256) : Fin 1024 := ⟨g.val * 256 + d.val, by omega⟩

theorem gp_eq (b : Fin 2) (g : Fin 4) (d : Fin 256) : gp (hc b (lc g d)) = gb b g := by
  apply Fin.ext; show (b.val * 1024 + (g.val * 256 + d.val)) / 256 = b.val * 4 + g.val; omega
theorem pos_eq (t : Fin cfg0.N) (n : Fin 4) (s : Fin 128) : pos (row t (lr n s)) = s := by
  apply Fin.ext; show (t.val * 512 + (n.val * 128 + s.val)) % 128 = s.val; omega
theorem ch_eq (t : Fin cfg0.N) (n : Fin 4) (s s' : Fin 128) : ch (row t (lr n s)) s' = row t (lr n s') := by
  apply Fin.ext; show (t.val * 512 + (n.val * 128 + s.val)) / 128 * 128 + s'.val = t.val * 512 + (n.val * 128 + s'.val); omega
theorem sum_halves (f : Fin 2048 → ℝ) : ∑ l, f l = ∑ k, f (hc 0 k) + ∑ k, f (hc 1 k) := by
  rw [Fin.sum_univ_tiles 2 1024 rfl, Fin.sum_univ_two]

/-! ### The two named constants -/

/-- One over the root of two, as the kernel names it. -/
abbrev c2 : Ideal .f32 := Named.named (F := Ideal) κ "inv_sqrt2" (φ := .f32) 0x3F3504F3#32
/-- One over the root of two pi, as the kernel names it. -/
abbrev c2pi : Ideal .f32 := Named.named (F := Ideal) κ "inv_sqrt_2pi" (φ := .f32) 0x3ECC422A#32
theorem c2_eq : c2 = ((1 / Real.sqrt 2 : ℝ) : EReal) := by
  rw [one_div]; exact IdealRules.named_const.ideal_named_scalar _ _ _ _ rfl
theorem c2pi_eq : c2pi = ((1 / Real.sqrt (8 * Real.arctan 1) : ℝ) : EReal) := by
  rw [show (8 * Real.arctan 1 : ℝ) = 2 * Real.pi by rw [Real.arctan_one]; ring, one_div]
  exact IdealRules.named_const.ideal_named_scalar _ _ _ _ rfl

/-! ### The first norm, the first product and GELU -/

section hidden
variable {q : GmlpFwd} {t : Fin cfg0.N} {x : FVec Ideal S512x1024 .f32} {g : FVec Ideal S1x1024 .f32} {h : FVec Ideal S512x1024 .bf16} {w : FVec Ideal S1x1024x1024 .bf16} {b : Fin 4}

theorem h_pay (hx : ∀ r k, x (ix2 r k) = ((q.x (row t r) k : ℝ) : EReal)) (hg : ∀ k, g (ix2 0 k) = ((q.hg k : ℝ) : EReal)) (r : Fin 512) (k : Fin 1024) :
    k0_pay1 (F := Ideal) x g (ix2 r k) = ((q.h (row t r) k : ℝ) : EReal) := by
  pointwise [k0_pay1, hx, hg]
  simp only [← EReal.coe_mul, coe_sum, ofBits_1024, ofBits_eps]
  rw [div_real (by norm_num), ← EReal.coe_add, rsqrt_real (ms_pos _)]
  simp only [← EReal.coe_mul]; rfl

theorem z_pay (hh : ∀ r k, h (ix2 r k) = ((q.h (row t r) k : ℝ) : EReal)) (hw : ∀ l j, w (ix3 0 l j) = ((q.wi l (col4 b j) : ℝ) : EReal)) (r : Fin 512) (j : Fin 1024) :
    k0_pay8 (F := Ideal) h w (ix2 r j) = ((q.z (row t r) (col4 b j) : ℝ) : EReal) := by
  pointwise [k0_pay8, hh, hw]
  simp only [← EReal.coe_mul, coe_sum]; rfl

variable {z : FVec Ideal S512x1024 .f32} {ζ : Fin 512 → Fin 1024 → ℝ}

theorem act_pay (hz : ∀ r k, z (ix2 r k) = ((ζ r k : ℝ) : EReal)) (r : Fin 512) (k : Fin 1024) :
    k0_pay22 (F := Ideal) z c2 (ix2 r k) = ((gelu (ζ r k) : ℝ) : EReal) := by
  pointwise [k0_pay22, k0_pay21, hz]
  change _ * (_ * (1 + Ideal.erf (_ * c2))) = _
  rw [c2_eq, ← EReal.coe_mul, erf_real, ofBits_half, ← EReal.coe_one]
  simp only [← EReal.coe_mul, ← EReal.coe_add]; rfl

theorem stored_act_pay (hz : ∀ r k, z (ix2 r k) = ((ζ r k : ℝ) : EReal)) (r : Fin 512) (k : Fin 1024) :
    k0_pay23 (F := Ideal) z c2 (ix3 0 r k) = ((gelu (ζ r k) : ℝ) : EReal) := by
  have h := act_pay hz
  pointwise [k0_pay23, h]

theorem stored_slope_pay (hz : ∀ r k, z (ix2 r k) = ((ζ r k : ℝ) : EReal)) (r : Fin 512) (k : Fin 1024) :
    k0_pay24 (F := Ideal) z c2 (ix3 0 r k) = ((gelu' (ζ r k) : ℝ) : EReal) := by
  pointwise [k0_pay24, k0_pay21, hz]
  change _ * (1 + Ideal.erf (_ * c2)) + _ * (_ * c2pi) = _
  rw [c2_eq, c2pi_eq, ← EReal.coe_mul, erf_real, ofBits_half, ofBits_neg_half, ← EReal.coe_one]
  simp only [← EReal.coe_mul, ← EReal.coe_add, Ideal.exp_coe]; rfl

theorem pay2_eq : k0_pay2 (F := Ideal) x g w = k0_pay8 (k0_pay1 x g) w := rfl
theorem pay20_eq : k0_pay20 (F := Ideal) h w = k0_pay8 h w := rfl
theorem pay25_eq : k0_pay25 (F := Ideal) h w = k0_pay8 h w := rfl
theorem pay4_eq : k0_pay4 (F := Ideal) x g w = k0_pay22 (k0_pay2 x g w) c2 := rfl
theorem pay10_eq : k0_pay10 (F := Ideal) h w = k0_pay22 (k0_pay8 h w) c2 := rfl
theorem pay27_eq : k0_pay27 (F := Ideal) h w = k0_pay22 (k0_pay25 h w) c2 := rfl
theorem pay6_eq : k0_pay6 (F := Ideal) x g w = k0_pay23 (k0_pay2 x g w) c2 := rfl
theorem pay11_eq : k0_pay11 (F := Ideal) h w = k0_pay23 (k0_pay8 h w) c2 := rfl
theorem pay29_eq : k0_pay29 (F := Ideal) (k0_pay27 h w) = k0_pay23 (k0_pay25 h w) c2 := rfl
theorem pay7_eq : k0_pay7 (F := Ideal) (k0_pay5 x g w) = k0_pay24 (k0_pay2 x g w) c2 := rfl
theorem pay12_eq : k0_pay12 (F := Ideal) h w = k0_pay24 (k0_pay8 h w) c2 := rfl
theorem pay30_eq : k0_pay30 (F := Ideal) (k0_pay25 h w) (k0_pay26 h w) (k0_pay28 h w) c2pi = k0_pay24 (k0_pay25 h w) c2 := rfl
end hidden

/-! ### The norm of the gate -/

variable {p : Gmlp} {t : Fin cfg0.N}

section norm
variable {a b : FVec Ideal S512x1024 .f32} {s : FVec Ideal S512x1 .f32} {h : FVec Ideal S512x1024 .bf16} {w : FVec Ideal S1x1024x1024 .bf16} {g c : FVec Ideal S1x1024 .f32}

theorem sum_pay (ha : ∀ r k, a (ix2 r k) = ((p.v (row t r) (hc 0 k) : ℝ) : EReal)) (hb : ∀ r k, k0_pay10 (F := Ideal) h w (ix2 r k) = ((p.v (row t r) (hc 1 k) : ℝ) : EReal))
    (r : Fin 512) : k0_pay13 (F := Ideal) h a w (ix2 r 0) = ((∑ l, p.v (row t r) l : ℝ) : EReal) := by
  pointwise [k0_pay13, ha, hb]
  simp only [coe_sum, ← EReal.coe_add]
  rw [sum_halves]

variable {N : Ideal .f32} (hN : N = ((2048 : ℝ) : EReal))
include hN

theorem mean_pay (hs : ∀ r, s (ix2 r 0) = ((∑ l, p.v (row t r) l : ℝ) : EReal)) (r : Fin 512) :
    k0_pay14 (F := Ideal) s N (ix2 r 0) = (((∑ l, p.v (row t r) l) / 2048 : ℝ) : EReal) := by
  pointwise [k0_pay14, hs]
  rw [hN, div_real (by norm_num)]

theorem cen_pay {i : Fin 2} (ha : ∀ r k, a (ix2 r k) = ((p.v (row t r) (hc i k) : ℝ) : EReal)) (hs : ∀ r, s (ix2 r 0) = ((∑ l, p.v (row t r) l : ℝ) : EReal))
    (r : Fin 512) (k : Fin 1024) : k0_pay15 (F := Ideal) a s N (ix2 r k) = ((cen (p.v (row t r)) (hc i k) : ℝ) : EReal) := by
  have h := mean_pay hN hs
  pointwise [k0_pay15, ha, h]
  rw [← EReal.coe_sub]; rfl

theorem rs_pay (ha : ∀ r k, a (ix2 r k) = ((p.v (row t r) (hc 0 k) : ℝ) : EReal)) (hb : ∀ r k, b (ix2 r k) = ((p.v (row t r) (hc 1 k) : ℝ) : EReal))
    (hs : ∀ r, s (ix2 r 0) = ((∑ l, p.v (row t r) l : ℝ) : EReal)) (r : Fin 512) : k0_pay17 (F := Ideal) a b s N (ix2 r 0) = ((rs (p.v (row t r)) : ℝ) : EReal) := by
  have h0 := cen_pay hN ha hs
  have h1 : ∀ r k, k0_pay16 (F := Ideal) b s N (ix2 r k) = ((cen (p.v (row t r)) (hc 1 k) : ℝ) : EReal) := cen_pay hN hb hs
  pointwise [k0_pay17, h0, h1]
  simp only [← EReal.coe_mul, coe_sum, ← EReal.coe_add, ofBits_2048, ofBits_eps]
  rw [div_real (by norm_num), ← EReal.coe_add, ← sum_halves (fun l => cen (p.v (row t r)) l * cen (p.v (row t r)) l)]
  exact rsqrt_real (vr_pos _)

theorem vl0_pay (ha : ∀ r k, a (ix2 r k) = ((p.v (row t r) (hc 0 k) : ℝ) : EReal)) (hb : ∀ r k, b (ix2 r k) = ((p.v (row t r) (hc 1 k) : ℝ) : EReal))
    (hs : ∀ r, s (ix2 r 0) = ((∑ l, p.v (row t r) l : ℝ) : EReal)) (hg : ∀ k, g (ix2 0 k) = ((p.lg (hc 0 k) : ℝ) : EReal)) (hc' : ∀ k, c (ix2 0 k) = ((p.lb (hc 0 k) : ℝ) : EReal))
    (r : Fin 512) (k : Fin 1024) : k0_pay18 (F := Ideal) a b s N g c (ix2 r k) = ((p.vl (row t r) (hc 0 k) : ℝ) : EReal) := by
  have h := cen_pay hN ha hs
  have h' := rs_pay hN ha hb hs
  pointwise [k0_pay18, h, h', hg, hc']
  rw [← EReal.coe_mul, ← EReal.coe_mul, ← EReal.coe_add]; rfl

theorem vl1_pay (ha : ∀ r k, a (ix2 r k) = ((p.v (row t r) (hc 0 k) : ℝ) : EReal)) (hb : ∀ r k, b (ix2 r k) = ((p.v (row t r) (hc 1 k) : ℝ) : EReal))
    (hs : ∀ r, s (ix2 r 0) = ((∑ l, p.v (row t r) l : ℝ) : EReal)) (hg : ∀ k, g (ix2 0 k) = ((p.lg (hc 1 k) : ℝ) : EReal)) (hc' : ∀ k, c (ix2 0 k) = ((p.lb (hc 1 k) : ℝ) : EReal))
    (r : Fin 512) (k : Fin 1024) : k0_pay19 (F := Ideal) a b s N g c (ix2 r k) = ((p.vl (row t r) (hc 1 k) : ℝ) : EReal) := by
  have h : ∀ r k, k0_pay16 (F := Ideal) b s N (ix2 r k) = ((cen (p.v (row t r)) (hc 1 k) : ℝ) : EReal) := cen_pay hN hb hs
  have h' := rs_pay hN ha hb hs
  pointwise [k0_pay19, h, h', hg, hc']
  rw [← EReal.coe_mul, ← EReal.coe_mul, ← EReal.coe_add]; rfl
end norm

/-! ### The spatial weights and products -/

section spatial
variable {x : FVec Ideal S1x128x128 .f32} {g : Fin 8}

theorem w_pay (hx : ∀ t s, x (ix3 0 t s) = ((p.ws g t s : ℝ) : EReal)) (t s : Fin 128) :
    k0_pay31 (F := Ideal) x (ix2 t s) = ((p.w g t s : ℝ) : EReal) := by
  pointwise [k0_pay31, hx]
  rw [sge_ix, select_ofBool, Gmlp.w]
  by_cases e : s.val ≤ t.val <;> simp [e]

/-- One store of the spatial part. -/
theorem svPiece (b : Fin 2) (n g : Fin 4) (h) {vl : FVec Ideal S512x1024 .bf16} {w : FVec Ideal S128x128 .bf16} {bs : FVec Ideal S128x1 .f32}
    {P : FVec Ideal S128x256 .f32} (hP : ∀ r d, P (ix2 r d) = ∑ s : Fin 128, w (ix2 r s) * vl (ix2 (lr n s) (lc g d)) + bs (ix2 r 0))
    (hv : ∀ r k, vl (ix2 r k) = ((p.vl (row t r) (hc b k) : ℝ) : EReal)) (hw : ∀ r s, w (ix2 r s) = ((p.w (gb b g) r s : ℝ) : EReal))
    (hb : ∀ r, bs (ix2 r 0) = ((p.bs (gb b g) r : ℝ) : EReal)) (x : S128x256.Idx) :
    P x = (fun y : S512x1024.Idx => ((p.sv (row t (y 0)) (hc b (y 1)) : ℝ) : EReal)) ((Rect.unit (s := S512x1024) ![n.val * 128, g.val * 256] ![128, 256] h).emb x) := by
  have e : (Rect.unit (s := S512x1024) ![n.val * 128, g.val * 256] ![128, 256] h).emb x = ix2 (lr n (x 0)) (lc g (x 1)) := by blk_ext
  obtain ⟨r, d, rfl⟩ : ∃ r d, x = ix2 r d := ⟨x 0, x 1, by blk_ext⟩
  rw [e, hP]
  simp only [hv, hw, hb, ← EReal.coe_mul, coe_sum, ← EReal.coe_add]
  show _ = ((p.sv (row t (lr n r)) (hc b (lc g d)) : ℝ) : EReal)
  rw [Gmlp.sv, gp_eq, pos_eq]
  simp only [ch_eq]

/-- The whole of a buffer, as a load. -/
abbrev allR : LoadRect S512x1024 := (Rect.unit ![0, 0] ![512, 1024] inb_S512x1024_S512x1024_0_0).toLoadRect
theorem allR_idx (y : S512x1024.Idx) : allR.idx y = y := by
  funext a
  apply Fin.ext
  show (![0, 0] : Fin 2 → ℕ) a + 1 * (y a).val = (y a).val
  fin_cases a <;> simp

variable {vl : FVec Ideal S512x1024 .bf16} {w0 w1 w2 w3 : FVec Ideal S128x128 .bf16} {b0 b1 b2 b3 : FVec Ideal S128x1 .f32}

theorem sv0_read (hv : ∀ r k, vl (ix2 r k) = ((p.vl (row t r) (hc 0 k) : ℝ) : EReal))
    (hw0 : ∀ r s, w0 (ix2 r s) = ((p.w (gb 0 0) r s : ℝ) : EReal)) (hw1 : ∀ r s, w1 (ix2 r s) = ((p.w (gb 0 1) r s : ℝ) : EReal)) (hw2 : ∀ r s, w2 (ix2 r s) = ((p.w (gb 0 2) r s : ℝ) : EReal)) (hw3 : ∀ r s, w3 (ix2 r s) = ((p.w (gb 0 3) r s : ℝ) : EReal))
    (hb0 : ∀ r, b0 (ix2 r 0) = ((p.bs (gb 0 0) r : ℝ) : EReal)) (hb1 : ∀ r, b1 (ix2 r 0) = ((p.bs (gb 0 1) r : ℝ) : EReal)) (hb2 : ∀ r, b2 (ix2 r 0) = ((p.bs (gb 0 2) r : ℝ) : EReal)) (hb3 : ∀ r, b3 (ix2 r 0) = ((p.bs (gb 0 3) r : ℝ) : EReal))
    (L : List (View.Piece (Elt Ideal) S512x1024 .f32)) : @Eq (FVec Ideal S512x1024 .f32)
    ((View.whole cc0_scratch0).readCov (Val := Elt Ideal) (e := EltTy.f32) (
      ⟨Rect.unit ![384, 768] ![128, 256] inb_S512x1024_S128x256_384_768, k0_pay65 vl w3 b3⟩ ::
      ⟨Rect.unit ![256, 768] ![128, 256] inb_S512x1024_S128x256_256_768, k0_pay64 vl w3 b3⟩ ::
      ⟨Rect.unit ![128, 768] ![128, 256] inb_S512x1024_S128x256_128_768, k0_pay63 vl w3 b3⟩ ::
      ⟨Rect.unit ![0, 768] ![128, 256] inb_S512x1024_S128x256_0_768, k0_pay62 vl w3 b3⟩ ::
      ⟨Rect.unit ![384, 512] ![128, 256] inb_S512x1024_S128x256_384_512, k0_pay60 (k0_pay55 b2) (k0_pay59 vl w2)⟩ ::
      ⟨Rect.unit ![256, 512] ![128, 256] inb_S512x1024_S128x256_256_512, k0_pay58 vl w2 b2⟩ ::
      ⟨Rect.unit ![128, 512] ![128, 256] inb_S512x1024_S128x256_128_512, k0_pay57 vl w2 b2⟩ ::
      ⟨Rect.unit ![0, 512] ![128, 256] inb_S512x1024_S128x256_0_512, k0_pay56 vl w2 b2⟩ ::
      ⟨Rect.unit ![384, 256] ![128, 256] inb_S512x1024_S128x256_384_256, k0_pay54 vl w1 (k0_pay49 b1)⟩ ::
      ⟨Rect.unit ![256, 256] ![128, 256] inb_S512x1024_S128x256_256_256, k0_pay53 w1 (k0_pay49 b1) (k0_pay52 vl) (constant S128x256 .f32 0#32)⟩ ::
      ⟨Rect.unit ![128, 256] ![128, 256] inb_S512x1024_S128x256_128_256, k0_pay51 vl w1 b1⟩ ::
      ⟨Rect.unit ![0, 256] ![128, 256] inb_S512x1024_S128x256_0_256, k0_pay50 vl w1 b1⟩ ::
      ⟨Rect.unit ![384, 0] ![128, 256] inb_S512x1024_S128x256_384_0, k0_pay48 vl w0 (k0_pay43 b0)⟩ ::
      ⟨Rect.unit ![256, 0] ![128, 256] inb_S512x1024_S128x256_256_0, k0_pay47 vl w0 (k0_pay43 b0)⟩ ::
      ⟨Rect.unit ![128, 0] ![128, 256] inb_S512x1024_S128x256_128_0, k0_pay46 w0 (k0_pay43 b0) (k0_pay45 vl)⟩ ::
      ⟨Rect.unit ![0, 0] ![128, 256] inb_S512x1024_S128x256_0_0, k0_pay44 vl w0 b0⟩ :: L)
      allR) (fun y => ((p.sv (row t (y 0)) (hc 0 (y 1)) : ℝ) : EReal)) := by
  rw [View.readCov_eq_canon']
  funext y
  have e := allR_idx y
  show View.canon _ (allR.idx y) = _
  rw [e]
  refine View.canon_append_of_piecesOf (Val := Elt Ideal) (e := EltTy.f32)
    (fun y : S512x1024.Idx => ((p.sv (row t (y 0)) (hc 0 (y 1)) : ℝ) : EReal)) L [_, _, _, _, _, _, _, _, _, _, _, _, _, _, _, _]
    ⟨svPiece 0 3 3 inb_S512x1024_S128x256_384_768 ?_ hv hw3 hb3, svPiece 0 2 3 inb_S512x1024_S128x256_256_768 ?_ hv hw3 hb3, svPiece 0 1 3 inb_S512x1024_S128x256_128_768 ?_ hv hw3 hb3, svPiece 0 0 3 inb_S512x1024_S128x256_0_768 ?_ hv hw3 hb3, svPiece 0 3 2 inb_S512x1024_S128x256_384_512 ?_ hv hw2 hb2, svPiece 0 2 2 inb_S512x1024_S128x256_256_512 ?_ hv hw2 hb2, svPiece 0 1 2 inb_S512x1024_S128x256_128_512 ?_ hv hw2 hb2, svPiece 0 0 2 inb_S512x1024_S128x256_0_512 ?_ hv hw2 hb2, svPiece 0 3 1 inb_S512x1024_S128x256_384_256 ?_ hv hw1 hb1, svPiece 0 2 1 inb_S512x1024_S128x256_256_256 ?_ hv hw1 hb1, svPiece 0 1 1 inb_S512x1024_S128x256_128_256 ?_ hv hw1 hb1, svPiece 0 0 1 inb_S512x1024_S128x256_0_256 ?_ hv hw1 hb1, svPiece 0 3 0 inb_S512x1024_S128x256_384_0 ?_ hv hw0 hb0, svPiece 0 2 0 inb_S512x1024_S128x256_256_0 ?_ hv hw0 hb0, svPiece 0 1 0 inb_S512x1024_S128x256_128_0 ?_ hv hw0 hb0, svPiece 0 0 0 inb_S512x1024_S128x256_0_0 ?_ hv hw0 hb0, trivial⟩ _
    (View.cover_of_tiledL _ ![128, 256] (by sl_kernel_rfl) _)
  all_goals intro r d; pointwise [k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  all_goals exact congrArg (· + _) (Finset.sum_congr rfl fun x _ => congrArg (_ * ·) (congrArg vl (by blk_ext)))

theorem sv1_read (hv : ∀ r k, vl (ix2 r k) = ((p.vl (row t r) (hc 1 k) : ℝ) : EReal))
    (hw0 : ∀ r s, w0 (ix2 r s) = ((p.w (gb 1 0) r s : ℝ) : EReal)) (hw1 : ∀ r s, w1 (ix2 r s) = ((p.w (gb 1 1) r s : ℝ) : EReal)) (hw2 : ∀ r s, w2 (ix2 r s) = ((p.w (gb 1 2) r s : ℝ) : EReal)) (hw3 : ∀ r s, w3 (ix2 r s) = ((p.w (gb 1 3) r s : ℝ) : EReal))
    (hb0 : ∀ r, b0 (ix2 r 0) = ((p.bs (gb 1 0) r : ℝ) : EReal)) (hb1 : ∀ r, b1 (ix2 r 0) = ((p.bs (gb 1 1) r : ℝ) : EReal)) (hb2 : ∀ r, b2 (ix2 r 0) = ((p.bs (gb 1 2) r : ℝ) : EReal)) (hb3 : ∀ r, b3 (ix2 r 0) = ((p.bs (gb 1 3) r : ℝ) : EReal))
    (L : List (View.Piece (Elt Ideal) S512x1024 .f32)) : @Eq (FVec Ideal S512x1024 .f32)
    ((View.whole cc0_scratch0).readCov (Val := Elt Ideal) (e := EltTy.f32) (
      ⟨Rect.unit ![384, 768] ![128, 256] inb_S512x1024_S128x256_384_768, k0_pay88 vl w3 (k0_pay83 b3)⟩ ::
      ⟨Rect.unit ![256, 768] ![128, 256] inb_S512x1024_S128x256_256_768, k0_pay87 w3 (k0_pay83 b3) (k0_pay86 vl)⟩ ::
      ⟨Rect.unit ![128, 768] ![128, 256] inb_S512x1024_S128x256_128_768, k0_pay85 vl w3 b3⟩ ::
      ⟨Rect.unit ![0, 768] ![128, 256] inb_S512x1024_S128x256_0_768, k0_pay84 vl w3 b3⟩ ::
      ⟨Rect.unit ![384, 512] ![128, 256] inb_S512x1024_S128x256_384_512, k0_pay82 vl w2 (k0_pay78 b2)⟩ ::
      ⟨Rect.unit ![256, 512] ![128, 256] inb_S512x1024_S128x256_256_512, k0_pay81 vl w2 (k0_pay78 b2)⟩ ::
      ⟨Rect.unit ![128, 512] ![128, 256] inb_S512x1024_S128x256_128_512, k0_pay80 vl w2 (k0_pay78 b2)⟩ ::
      ⟨Rect.unit ![0, 512] ![128, 256] inb_S512x1024_S128x256_0_512, k0_pay79 vl w2 b2⟩ ::
      ⟨Rect.unit ![384, 256] ![128, 256] inb_S512x1024_S128x256_384_256, k0_pay77 vl w1 b1⟩ ::
      ⟨Rect.unit ![256, 256] ![128, 256] inb_S512x1024_S128x256_256_256, k0_pay76 vl w1 b1⟩ ::
      ⟨Rect.unit ![128, 256] ![128, 256] inb_S512x1024_S128x256_128_256, k0_pay75 vl w1 b1⟩ ::
      ⟨Rect.unit ![0, 256] ![128, 256] inb_S512x1024_S128x256_0_256, k0_pay74 vl w1 b1⟩ ::
      ⟨Rect.unit ![384, 0] ![128, 256] inb_S512x1024_S128x256_384_0, k0_pay72 vl w0 b0⟩ ::
      ⟨Rect.unit ![256, 0] ![128, 256] inb_S512x1024_S128x256_256_0, k0_pay71 vl w0 b0⟩ ::
      ⟨Rect.unit ![128, 0] ![128, 256] inb_S512x1024_S128x256_128_0, k0_pay70 vl w0 b0⟩ ::
      ⟨Rect.unit ![0, 0] ![128, 256] inb_S512x1024_S128x256_0_0, k0_pay69 vl w0 b0⟩ :: L)
      allR) (fun y => ((p.sv (row t (y 0)) (hc 1 (y 1)) : ℝ) : EReal)) := by
  rw [View.readCov_eq_canon']
  funext y
  have e := allR_idx y
  show View.canon _ (allR.idx y) = _
  rw [e]
  refine View.canon_append_of_piecesOf (Val := Elt Ideal) (e := EltTy.f32)
    (fun y : S512x1024.Idx => ((p.sv (row t (y 0)) (hc 1 (y 1)) : ℝ) : EReal)) L [_, _, _, _, _, _, _, _, _, _, _, _, _, _, _, _]
    ⟨svPiece 1 3 3 inb_S512x1024_S128x256_384_768 ?_ hv hw3 hb3, svPiece 1 2 3 inb_S512x1024_S128x256_256_768 ?_ hv hw3 hb3, svPiece 1 1 3 inb_S512x1024_S128x256_128_768 ?_ hv hw3 hb3, svPiece 1 0 3 inb_S512x1024_S128x256_0_768 ?_ hv hw3 hb3, svPiece 1 3 2 inb_S512x1024_S128x256_384_512 ?_ hv hw2 hb2, svPiece 1 2 2 inb_S512x1024_S128x256_256_512 ?_ hv hw2 hb2, svPiece 1 1 2 inb_S512x1024_S128x256_128_512 ?_ hv hw2 hb2, svPiece 1 0 2 inb_S512x1024_S128x256_0_512 ?_ hv hw2 hb2, svPiece 1 3 1 inb_S512x1024_S128x256_384_256 ?_ hv hw1 hb1, svPiece 1 2 1 inb_S512x1024_S128x256_256_256 ?_ hv hw1 hb1, svPiece 1 1 1 inb_S512x1024_S128x256_128_256 ?_ hv hw1 hb1, svPiece 1 0 1 inb_S512x1024_S128x256_0_256 ?_ hv hw1 hb1, svPiece 1 3 0 inb_S512x1024_S128x256_384_0 ?_ hv hw0 hb0, svPiece 1 2 0 inb_S512x1024_S128x256_256_0 ?_ hv hw0 hb0, svPiece 1 1 0 inb_S512x1024_S128x256_128_0 ?_ hv hw0 hb0, svPiece 1 0 0 inb_S512x1024_S128x256_0_0 ?_ hv hw0 hb0, trivial⟩ _
    (View.cover_of_tiledL _ ![128, 256] (by sl_kernel_rfl) _)
  all_goals intro r d; pointwise [k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88]
  all_goals exact congrArg (· + _) (Finset.sum_congr rfl fun x _ => congrArg (_ * ·) (congrArg vl (by blk_ext)))

end spatial

/-! ### The output product, the second norm and the residual -/

section out
variable {u sv m0 : FVec Ideal S512x1024 .f32} {wo wo' : FVec Ideal S1x1024x1024 .bf16}

theorem m0_pay (hu : ∀ r k, u (ix2 r k) = ((p.u (row t r) (hc 0 k) : ℝ) : EReal)) (hsv : ∀ r k, sv (ix2 r k) = ((p.sv (row t r) (hc 0 k) : ℝ) : EReal))
    (hw : ∀ j k, wo (ix3 0 j k) = ((p.wo (hc 0 j) k : ℝ) : EReal)) (r : Fin 512) (k : Fin 1024) :
    k0_pay67 (F := Ideal) k0_pay42 (k0_pay66 u sv) wo (ix2 r k) = ((∑ j, p.gated (row t r) (hc 0 j) * p.wo (hc 0 j) k : ℝ) : EReal) := by
  pointwise [k0_pay67, k0_pay42, k0_pay66, hu, hsv, hw]
  simp only [← EReal.coe_mul, coe_sum]; rfl

theorem m_pay (hm : ∀ r k, m0 (ix2 r k) = ((∑ j, p.gated (row t r) (hc 0 j) * p.wo (hc 0 j) k : ℝ) : EReal))
    (hu : ∀ r k, u (ix2 r k) = ((p.u (row t r) (hc 1 k) : ℝ) : EReal)) (hsv : ∀ r k, sv (ix2 r k) = ((p.sv (row t r) (hc 1 k) : ℝ) : EReal))
    (hw : ∀ j k, wo (ix3 0 j k) = ((p.wo (hc 1 j) k : ℝ) : EReal)) (r : Fin 512) (k : Fin 1024) :
    k0_pay89 (F := Ideal) u m0 sv wo (ix2 r k) = ((p.m (row t r) k : ℝ) : EReal) := by
  pointwise [k0_pay89, hm, hu, hsv, hw]
  simp only [← EReal.coe_mul, coe_sum, ← EReal.coe_add]
  rw [Gmlp.m, sum_halves]; rfl

theorem y_pay {q : GmlpFwd} {x : FVec Ideal S512x1024 .f32} {g : FVec Ideal S1x1024 .f32} (hm : ∀ r k, k0_pay89 (F := Ideal) u m0 sv wo (ix2 r k) = ((q.gate.m (row t r) k : ℝ) : EReal))
    (hx : ∀ r k, x (ix2 r k) = ((q.x (row t r) k : ℝ) : EReal)) (hg : ∀ k, g (ix2 0 k) = ((q.qg k : ℝ) : EReal)) (r : Fin 512) (k : Fin 1024) :
    k0_pay90 (F := Ideal) x u m0 sv wo g (ix2 r k) = ((q.y (row t r) k : ℝ) : EReal) := by
  pointwise [k0_pay90, hm, hx, hg]
  simp only [← EReal.coe_mul, coe_sum, ofBits_1024, ofBits_eps]
  rw [div_real (by norm_num), ← EReal.coe_add, rsqrt_real (ms_pos _)]
  simp only [← EReal.coe_mul, ← EReal.coe_add]; rfl
end out

end Cert.AFwdIdeal.Val
-- ==== Proof.AFwdRefValue.lean ====
/-
  The results of the reference of `mix_a_fwd`, entry by entry, on real arguments.
-/
module

public import proofs.«01_k».proof.Proof.GmlpFwd
public import proofs.«01_k».proof.Proof.Gen.AFwdRefIdeal.Read
public import Idealize.ShloMosaic.Lib.Pointwise

@[expose] public section

set_option maxRecDepth 16384

noncomputable section

namespace Cert.AFwdRefIdeal.Val

open Idealize.ShloMosaic Idealize.ShloMosaic.TcCoe Idealize.SL.Sem
open Cert.AFwdRefIdeal Cert.AFwdRefIdeal.Gen Cert.AFwdRefIdeal.Read Cert.Lift

/-- The arguments are real numbers. -/
structure Args (x0 : FVec Ideal S8192x1024 .f32) (x1 x2 : FVec Ideal S1024 .f32) (x3 : FVec Ideal S1024x4096 .f32) (x4 x5 : FVec Ideal S2048 .f32)
    (x6 : FVec Ideal S8x128x128 .f32) (x7 : FVec Ideal S8x128 .f32) (x8 : FVec Ideal S2048x1024 .f32) (q : GmlpFwd) : Prop where
  x : ∀ i k, x0 (ix2 i k) = ((q.x i k : ℝ) : EReal)
  hg : ∀ k, x1 (ix1 k) = ((q.hg k : ℝ) : EReal)
  qg : ∀ k, x2 (ix1 k) = ((q.qg k : ℝ) : EReal)
  wi : ∀ l j, x3 (ix2 l j) = ((q.wi l j : ℝ) : EReal)
  lg : ∀ j, x4 (ix1 j) = ((q.lg j : ℝ) : EReal)
  lb : ∀ j, x5 (ix1 j) = ((q.lb j : ℝ) : EReal)
  ws : ∀ g t s, x6 (ix3 g t s) = ((q.ws g t s : ℝ) : EReal)
  bs : ∀ g t, x7 (ix2 g t) = ((q.bs g t : ℝ) : EReal)
  wo : ∀ j k, x8 (ix2 j k) = ((q.wo j k : ℝ) : EReal)

variable {x0 : FVec Ideal S8192x1024 .f32} {x1 x2 : FVec Ideal S1024 .f32} {x3 : FVec Ideal S1024x4096 .f32} {x4 x5 : FVec Ideal S2048 .f32}
  {x6 : FVec Ideal S8x128x128 .f32} {x7 : FVec Ideal S8x128 .f32} {x8 : FVec Ideal S2048x1024 .f32} {q : GmlpFwd}

theorem v6 (a : Args x0 x1 x2 x3 x4 x5 x6 x7 x8 q) (i : Fin 8192) :
    val_main_v6 (F := Ideal) x0 (ix2 i 0) = (((∑ k, q.x i k * q.x i k) / 1024 + eps : ℝ) : EReal) := by
  have h0 := a.x
  pointwise [val_main_v6, val_main_v5, val_main_v4, val_main_v3, val_main_v2, val_main_v1, val_main_v0, val_main_cst, val_main_cst_0, val_main_cst_1, h0]
  simp only [← EReal.coe_mul, coe_sum, ofBits_1024, ofBits_eps]
  rw [div_real (by norm_num), ← EReal.coe_add]

theorem v7 (a : Args x0 x1 x2 x3 x4 x5 x6 x7 x8 q) (i : Fin 8192) :
    val_main_v7 (F := Ideal) x0 (ix2 i 0) = ((rr (q.x i) : ℝ) : EReal) := by
  have h0 := v6 a i
  pointwise [val_main_v7, h0]
  rw [rsqrt_real (ms_pos _)]; rfl

theorem v12 (a : Args x0 x1 x2 x3 x4 x5 x6 x7 x8 q) (i : Fin 8192) (k : Fin 1024) :
    val_main_v12 (F := Ideal) x0 x1 (ix2 i k) = ((q.h i k : ℝ) : EReal) := by
  have h0 := v7 a
  have h1 := a.x
  have h2 := a.hg
  pointwise [val_main_v12, val_main_v11, val_main_v10, val_main_v9, val_main_v8, h0, h1, h2]
  rw [← EReal.coe_mul, ← EReal.coe_mul]; rfl

theorem z_real (a : Args x0 x1 x2 x3 x4 x5 x6 x7 x8 q) (i : Fin 8192) (j : Fin 4096) :
    val_main_v13 (F := Ideal) x0 x1 x3 (ix2 i j) = ((q.z i j : ℝ) : EReal) := by
  have h0 := v12 a
  have h1 := a.wi
  pointwise [val_main_v13, h0, h1]
  simp only [← EReal.coe_mul, coe_sum]; rfl

theorem v21 (a : Args x0 x1 x2 x3 x4 x5 x6 x7 x8 q) (i : Fin 8192) (j : Fin 4096) :
    val_main_v21 (F := Ideal) x0 x1 x3 (ix2 i j) = ((q.z i j / Real.sqrt 2 : ℝ) : EReal) := by
  have h0 := z_real a
  pointwise [val_main_v21, val_main_v20, val_main_v19, val_main_cst_5, h0]
  rw [ofBits_two, sqrt_real (by norm_num), div_real (by positivity)]

theorem v36 (a : Args x0 x1 x2 x3 x4 x5 x6 x7 x8 q) (i : Fin 8192) (j : Fin 4096) :
    val_main_v36 (F := Ideal) x0 x1 x3 (ix2 i j) = ((1 + erfR (q.z i j / Real.sqrt 2) : ℝ) : EReal) := by
  have h0 := v21 a
  pointwise [val_main_v36, val_main_v35, val_main_v24, val_main_cst_9, h0]
  rw [erf_real, ← EReal.coe_one, ← EReal.coe_add]

theorem v16 (a : Args x0 x1 x2 x3 x4 x5 x6 x7 x8 q) (i : Fin 8192) (j : Fin 4096) :
    val_main_v16 (F := Ideal) x0 x1 x3 (ix2 i j) = ((1 / 2 * q.z i j : ℝ) : EReal) := by
  have h0 := z_real a
  pointwise [val_main_v16, val_main_v15, val_main_cst_3, h0]
  rw [ofBits_half, ← EReal.coe_mul]

theorem v37 (a : Args x0 x1 x2 x3 x4 x5 x6 x7 x8 q) (i : Fin 8192) (j : Fin 4096) :
    val_main_v37 (F := Ideal) x0 x1 x3 (ix2 i j) = ((gelu (q.z i j) : ℝ) : EReal) := by
  have h0 := v16 a
  have h1 := v36 a
  pointwise [val_main_v37, h0, h1]
  rw [← EReal.coe_mul, gelu_eq]

theorem v33 (a : Args x0 x1 x2 x3 x4 x5 x6 x7 x8 q) (i : Fin 8192) (j : Fin 4096) :
    val_main_v33 (F := Ideal) x0 x1 x3 (ix2 i j) = ((2 / Real.sqrt (4 * Real.arctan 1) * Real.exp (-(q.z i j / Real.sqrt 2 * (q.z i j / Real.sqrt 2))) : ℝ) : EReal) := by
  have h0 := v21 a
  have h1 := (show 0 < Real.arctan 1 by rw [Real.arctan_one]; positivity)
  pointwise [val_main_v33, val_main_v32, val_main_v31, val_main_v30, val_main_v29, val_main_v28, val_main_v27, val_main_v26, val_main_v25, val_main_cst_6, val_main_cst_7, val_main_cst_8, h0]
  rw [ofBits_two, ofBits_four, ← EReal.coe_one, atan_real, ← EReal.coe_mul, sqrt_real (by positivity), div_real (by positivity), ← EReal.coe_mul, ← EReal.coe_neg, Ideal.exp_coe, ← EReal.coe_mul]

theorem v34 (a : Args x0 x1 x2 x3 x4 x5 x6 x7 x8 q) (i : Fin 8192) (j : Fin 4096) :
    val_main_v34 (F := Ideal) x0 x1 x3 (ix2 i j) = ((1 / Real.sqrt 2 * (2 / Real.sqrt (4 * Real.arctan 1) * Real.exp (-(q.z i j / Real.sqrt 2 * (q.z i j / Real.sqrt 2)))) : ℝ) : EReal) := by
  have h0 := v33 a
  pointwise [val_main_v34, val_main_v23, val_main_v22, val_main_v19, val_main_v14, val_main_cst_2, val_main_cst_5, h0]
  rw [ofBits_two, ← EReal.coe_one, sqrt_real (by norm_num), div_real (by positivity), ← EReal.coe_mul]

theorem v40 (a : Args x0 x1 x2 x3 x4 x5 x6 x7 x8 q) (i : Fin 8192) (j : Fin 4096) :
    val_main_v40 (F := Ideal) x0 x1 x3 (ix2 i j) = ((gelu' (q.z i j) : ℝ) : EReal) := by
  have h0 := v34 a
  have h1 := v36 a
  have h2 := v16 a
  pointwise [val_main_v40, val_main_v39, val_main_v38, val_main_v18, val_main_v17, val_main_v14, val_main_cst_2, val_main_cst_4, h0, h1, h2]
  rw [ofBits_half, ← EReal.coe_mul, ← EReal.coe_mul, ← EReal.coe_add, gelu'_jvp]

theorem act_real (a : Args x0 x1 x2 x3 x4 x5 x6 x7 x8 q) (b : Fin 4) (i : Fin 8192) (c : Fin 1024) :
    val_main_v97 (F := Ideal) x0 x1 x3 (ix3 b i c) = ((gelu (q.z i (col4 b c)) : ℝ) : EReal) := by
  have h0 := v37 a
  pointwise [val_main_v97, val_main_v96, val_main_v95, h0]

theorem slope_real (a : Args x0 x1 x2 x3 x4 x5 x6 x7 x8 q) (b : Fin 4) (i : Fin 8192) (c : Fin 1024) :
    val_main_v100 (F := Ideal) x0 x1 x3 (ix3 b i c) = ((gelu' (q.z i (col4 b c)) : ℝ) : EReal) := by
  have h0 := v40 a
  pointwise [val_main_v100, val_main_v99, val_main_v98, h0]

theorem u_real (a : Args x0 x1 x2 x3 x4 x5 x6 x7 x8 q) (i : Fin 8192) (j : Fin 2048) :
    val_main_v41 (F := Ideal) x0 x1 x3 (ix2 i j) = ((q.gate.u i j : ℝ) : EReal) := by
  have h0 := v37 a
  pointwise [val_main_v41, h0]
  try rfl

theorem v_real (a : Args x0 x1 x2 x3 x4 x5 x6 x7 x8 q) (i : Fin 8192) (j : Fin 2048) :
    val_main_v42 (F := Ideal) x0 x1 x3 (ix2 i j) = ((q.gate.v i j : ℝ) : EReal) := by
  have h0 := v37 a
  pointwise [val_main_v42, h0]
  try rfl

theorem cen_real (a : Args x0 x1 x2 x3 x4 x5 x6 x7 x8 q) (i : Fin 8192) (j : Fin 2048) :
    val_main_v48 (F := Ideal) x0 x1 x3 (ix2 i j) = ((cen (q.gate.v i) j : ℝ) : EReal) := by
  have h0 := v_real a
  pointwise [val_main_v48, val_main_v47, val_main_v46, val_main_v45, val_main_v44, val_main_v43, val_main_cst_10, val_main_cst_11, h0]
  rw [coe_sum, ofBits_2048, div_real (by norm_num), ← EReal.coe_sub]; rfl

theorem v55 (a : Args x0 x1 x2 x3 x4 x5 x6 x7 x8 q) (i : Fin 8192) :
    val_main_v55 (F := Ideal) x0 x1 x3 (ix2 i 0) = ((vr (q.gate.v i) + eps : ℝ) : EReal) := by
  have h0 := cen_real a
  pointwise [val_main_v55, val_main_v54, val_main_v53, val_main_v52, val_main_v51, val_main_v50, val_main_v49, val_main_cst_12, val_main_cst_13, val_main_cst_14, h0]
  simp only [← EReal.coe_mul, coe_sum, ofBits_2048, ofBits_eps]
  rw [div_real (by norm_num), ← EReal.coe_add]; rfl

theorem v56 (a : Args x0 x1 x2 x3 x4 x5 x6 x7 x8 q) (i : Fin 8192) :
    val_main_v56 (F := Ideal) x0 x1 x3 (ix2 i 0) = ((rs (q.gate.v i) : ℝ) : EReal) := by
  have h0 := v55 a i
  pointwise [val_main_v56, h0]
  rw [rsqrt_real (vr_pos _)]; rfl

theorem vh_real (a : Args x0 x1 x2 x3 x4 x5 x6 x7 x8 q) (i : Fin 8192) (j : Fin 2048) :
    val_main_v58 (F := Ideal) x0 x1 x3 (ix2 i j) = ((q.gate.vh i j : ℝ) : EReal) := by
  have h0 := cen_real a
  have h1 := v56 a
  pointwise [val_main_v58, val_main_v57, h0, h1]
  rw [← EReal.coe_mul]; rfl

theorem vl_real (a : Args x0 x1 x2 x3 x4 x5 x6 x7 x8 q) (i : Fin 8192) (j : Fin 2048) :
    val_main_v64 (F := Ideal) x0 x1 x3 x4 x5 (ix2 i j) = ((q.gate.vl i j : ℝ) : EReal) := by
  have h0 := vh_real a
  have h1 := a.lg
  have h2 := a.lb
  pointwise [val_main_v64, val_main_v63, val_main_v62, val_main_v61, val_main_v60, val_main_v59, h0, h1, h2]
  rw [← EReal.coe_mul, ← EReal.coe_add]; rfl

theorem v65 (a : Args x0 x1 x2 x3 x4 x5 x6 x7 x8 q) (n : Fin 64) (s : Fin 128) (g : Fin 8) (d : Fin 256) :
    val_main_v65 (F := Ideal) x0 x1 x3 x4 x5 (ix4 n s g d) = ((q.gate.vl (rw' n s) (cg g d) : ℝ) : EReal) := by
  have h0 := vl_real a
  pointwise [val_main_v65, h0]

theorem v66 (a : Args x0 x1 x2 x3 x4 x5 x6 x7 x8 q) (n : Fin 64) (s : Fin 128) (g : Fin 8) (d : Fin 256) :
    val_main_v66 (F := Ideal) x0 x1 x3 (ix4 n s g d) = ((q.gate.u (rw' n s) (cg g d) : ℝ) : EReal) := by
  have h0 := u_real a
  pointwise [val_main_v66, h0]

theorem v71 (a : Args x0 x1 x2 x3 x4 x5 x6 x7 x8 q) (g : Fin 8) (t s : Fin 128) :
    val_main_v71 (F := Ideal) x6 (ix3 g t s) = ((q.gate.w g t s : ℝ) : EReal) := by
  have h0 := a.ws
  pointwise [val_main_v71, val_main_call1_v0, val_main_v70, val_main_v69, val_main_v68, val_main_v67, val_main_c, val_main_call0_v0, val_main_call0_v1, val_main_call0_v2, val_main_call0_v3, val_main_call0_v4, val_main_call0_v5, val_main_call0_c, val_main_call0_c_0, val_main_cst_15, h0]
  rw [IntOp.addi, BitVec.add_zero, sge_ix, select_ofBool, Gmlp.w]
  by_cases e : s.val ≤ t.val <;> simp [e, Scalar.select] <;> rfl

theorem sv_real (a : Args x0 x1 x2 x3 x4 x5 x6 x7 x8 q) (n : Fin 64) (s : Fin 128) (g : Fin 8) (d : Fin 256) :
    val_main_v77 (F := Ideal) x0 x1 x3 x4 x5 x6 x7 (ix4 n s g d) = ((q.gate.sv (rw' n s) (cg g d) : ℝ) : EReal) := by
  have h0 := v65 a
  have h1 := v71 a
  have h2 := a.bs
  pointwise [val_main_v77, val_main_v76, val_main_v75, val_main_v74, val_main_v73, val_main_v72, h0, h1, h2]
  simp only [← EReal.coe_mul, coe_sum, ← EReal.coe_add]
  rw [Gmlp.sv, gp_cg, pos_rw]
  simp only [ch_rw, mul_comm]; rfl

theorem v79 (a : Args x0 x1 x2 x3 x4 x5 x6 x7 x8 q) (i : Fin 8192) (j : Fin 2048) :
    val_main_v79 (F := Ideal) x0 x1 x3 x4 x5 x6 x7 (ix2 i j) = ((q.gate.gated i j : ℝ) : EReal) := by
  have h0 := sv_real a
  have h1 := v66 a
  pointwise [val_main_v79, val_main_v78, h0, h1]
  rw [← EReal.coe_mul, rw_split, cg_split]; rfl

theorem m_real (a : Args x0 x1 x2 x3 x4 x5 x6 x7 x8 q) (i : Fin 8192) (k : Fin 1024) :
    val_main_v80 (F := Ideal) x0 x1 x3 x4 x5 x6 x7 x8 (ix2 i k) = ((q.gate.m i k : ℝ) : EReal) := by
  have h0 := v79 a
  have h1 := a.wo
  pointwise [val_main_v80, h0, h1]
  simp only [← EReal.coe_mul, coe_sum]; rfl

theorem v87 (a : Args x0 x1 x2 x3 x4 x5 x6 x7 x8 q) (i : Fin 8192) :
    val_main_v87 (F := Ideal) x0 x1 x3 x4 x5 x6 x7 x8 (ix2 i 0) = (((∑ k, q.gate.m i k * q.gate.m i k) / 1024 + eps : ℝ) : EReal) := by
  have h0 := m_real a
  pointwise [val_main_v87, val_main_v86, val_main_v85, val_main_v84, val_main_v83, val_main_v82, val_main_v81, val_main_cst_16, val_main_cst_17, val_main_cst_18, h0]
  simp only [← EReal.coe_mul, coe_sum, ofBits_1024, ofBits_eps]
  rw [div_real (by norm_num), ← EReal.coe_add]

theorem v88 (a : Args x0 x1 x2 x3 x4 x5 x6 x7 x8 q) (i : Fin 8192) :
    val_main_v88 (F := Ideal) x0 x1 x3 x4 x5 x6 x7 x8 (ix2 i 0) = ((rr (q.gate.m i) : ℝ) : EReal) := by
  have h0 := v87 a i
  pointwise [val_main_v88, h0]
  rw [rsqrt_real (ms_pos _)]; rfl

theorem y_real (a : Args x0 x1 x2 x3 x4 x5 x6 x7 x8 q) (i : Fin 8192) (k : Fin 1024) :
    val_main_v94 (F := Ideal) x0 x1 x2 x3 x4 x5 x6 x7 x8 (ix2 i k) = ((q.y i k : ℝ) : EReal) := by
  have h0 := v88 a
  have h1 := m_real a
  have h2 := a.x
  have h3 := a.qg
  pointwise [val_main_v94, val_main_v93, val_main_v92, val_main_v91, val_main_v90, val_main_v89, h0, h1, h2, h3]
  rw [← EReal.coe_mul, ← EReal.coe_mul, ← EReal.coe_add]; rfl

end Cert.AFwdRefIdeal.Val
-- ==== Proof.AFwdHost.lean ====
/-
  What the kernel of `mix_a_fwd` reads: its blocks, from the arguments.
-/
module

public import proofs.«01_k».proof.Proof.AFwdPay
public import proofs.«01_k».proof.Proof.AFwdRefValue
public import Idealize.ShloMosaic.Lib.StableHlo.ReadAt

@[expose] public section

set_option maxRecDepth 16384

noncomputable section

namespace Cert.AFwdIdeal.Val

open Idealize.ShloMosaic Idealize.ShloMosaic.TcCoe Idealize.SL.Sem
open Cert.AFwdIdeal Cert.AFwdIdeal.Gen Cert.Lift

/-- The arguments are real numbers. -/
abbrev Args (m : (ℓ : Loc nD τ sig) → Buf (Elt Ideal) ℓ) (c : Dev nD) (q : GmlpFwd) : Prop :=
  Cert.AFwdRefIdeal.Val.Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) q

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![0, 0] ∧ win0_6.index t = ![0, 0, 0]
    ∧ win0_7.index t = ![0, 0] ∧ win0_8.index t = ![0, 0, 0] ∧ win0_9.index t = ![t.val, 0] ∧ win0_10.index t = ![0, t.val, 0]
    ∧ win0_11.index t = ![0, t.val, 0] ∧ win0_12.index t = ![t.val, 0] :=
  (by decide +kernel : ∀ t : Fin grid0.N, _)

variable {m : (ℓ : Loc nD τ sig) → Buf (Elt Ideal) ℓ} {c : Dev nD} {q : GmlpFwd}

theorem x_real (a : Args m c q) (t : Fin cfg0.N) (r : Fin 512) (k : Fin 1024) : iblk m c 0 t (ix2 r k) = ((q.x (row t r) k : ℝ) : EReal) := by
  have h : iblk m c 0 t (ix2 r k) = (V m c main_arg0 : FVec Ideal S8192x1024 .f32) (ix2 (row t r) k) := by blk_point [iblk, idx t]
  rw [h, V_main_arg0]; exact a.x _ _
theorem V_hg (c : Dev nD) (k : Fin 1024) : (V m c main_v3 : FVec Ideal S1x1024 .f32) (ix2 0 k) = m ((c.tc : Thread nD τ).loc main_arg1) (ix1 k) := by
  unfold V; after_reads_at
theorem hg_real (a : Args m c q) (t : Fin cfg0.N) (k : Fin 1024) : iblk m c 1 t (ix2 0 k) = ((q.hg k : ℝ) : EReal) := by
  have h : iblk m c 1 t (ix2 0 k) = (V m c main_v3 : FVec Ideal S1x1024 .f32) (ix2 0 k) := by blk_point [iblk, idx t]
  exact h.trans ((V_hg c k).trans (a.hg _))
theorem V_qg (c : Dev nD) (k : Fin 1024) : (V m c main_v4 : FVec Ideal S1x1024 .f32) (ix2 0 k) = m ((c.tc : Thread nD τ).loc main_arg2) (ix1 k) := by
  unfold V; after_reads_at
theorem qg_real (a : Args m c q) (t : Fin cfg0.N) (k : Fin 1024) : iblk m c 2 t (ix2 0 k) = ((q.qg k : ℝ) : EReal) := by
  have h : iblk m c 2 t (ix2 0 k) = (V m c main_v4 : FVec Ideal S1x1024 .f32) (ix2 0 k) := by blk_point [iblk, idx t]
  exact h.trans ((V_qg c k).trans (a.qg _))
theorem V_wi (c : Dev nD) (b : Fin 4) (l j : Fin 1024) :
    (V m c main_v2 : FVec Ideal S4x1024x1024 .bf16) (ix3 b l j) = m ((c.tc : Thread nD τ).loc main_arg3) (ix2 l (col4 b j)) := by
  unfold V; after_reads_at
theorem wi_real (a : Args m c q) (t : Fin cfg0.N) (b : Fin 4) (l j : Fin 1024) : iblk m c 3 t (ix3 b l j) = ((q.wi l (col4 b j) : ℝ) : EReal) := by
  have h : iblk m c 3 t (ix3 b l j) = (V m c main_v2 : FVec Ideal S4x1024x1024 .bf16) (ix3 b l j) := by blk_point [iblk, idx t]
  exact h.trans ((V_wi c b l j).trans (a.wi _ _))
theorem V_lg (c : Dev nD) (b : Fin 2) (k : Fin 1024) :
    (V m c main_v5 : FVec Ideal S2x1024 .f32) (ix2 b k) = m ((c.tc : Thread nD τ).loc main_arg4) (ix1 (hc b k)) := by
  unfold V; after_reads_at
theorem lg_real (a : Args m c q) (t : Fin cfg0.N) (b : Fin 2) (k : Fin 1024) : iblk m c 4 t (ix2 b k) = ((q.lg (hc b k) : ℝ) : EReal) := by
  have h : iblk m c 4 t (ix2 b k) = (V m c main_v5 : FVec Ideal S2x1024 .f32) (ix2 b k) := by blk_point [iblk, idx t]
  exact h.trans ((V_lg c b k).trans (a.lg _))
theorem V_lb (c : Dev nD) (b : Fin 2) (k : Fin 1024) :
    (V m c main_v6 : FVec Ideal S2x1024 .f32) (ix2 b k) = m ((c.tc : Thread nD τ).loc main_arg5) (ix1 (hc b k)) := by
  unfold V; after_reads_at
theorem lb_real (a : Args m c q) (t : Fin cfg0.N) (b : Fin 2) (k : Fin 1024) : iblk m c 5 t (ix2 b k) = ((q.lb (hc b k) : ℝ) : EReal) := by
  have h : iblk m c 5 t (ix2 b k) = (V m c main_v6 : FVec Ideal S2x1024 .f32) (ix2 b k) := by blk_point [iblk, idx t]
  exact h.trans ((V_lb c b k).trans (a.lb _))
theorem ws_real (a : Args m c q) (t : Fin cfg0.N) (g : Fin 8) (r s : Fin 128) : iblk m c 6 t (ix3 g r s) = ((q.ws g r s : ℝ) : EReal) := by
  have h : iblk m c 6 t (ix3 g r s) = (V m c main_arg6 : FVec Ideal S8x128x128 .f32) (ix3 g r s) := by blk_point [iblk, idx t]
  rw [h, V_main_arg6]; exact a.ws _ _ _
theorem V_bs (c : Dev nD) (g : Fin 8) (r : Fin 128) :
    (V m c main_v7 : FVec Ideal S128x8 .f32) (ix2 r g) = m ((c.tc : Thread nD τ).loc main_arg7) (ix2 g r) := by
  unfold V; after_reads_at
theorem bs_real (a : Args m c q) (t : Fin cfg0.N) (g : Fin 8) (r : Fin 128) : iblk m c 7 t (ix2 r g) = ((q.bs g r : ℝ) : EReal) := by
  have h : iblk m c 7 t (ix2 r g) = (V m c main_v7 : FVec Ideal S128x8 .f32) (ix2 r g) := by blk_point [iblk, idx t]
  exact h.trans ((V_bs c g r).trans (a.bs _ _))
theorem V_wo (c : Dev nD) (b : Fin 2) (j k : Fin 1024) :
    (V m c main_v9 : FVec Ideal S2x1024x1024 .bf16) (ix3 b j k) = m ((c.tc : Thread nD τ).loc main_arg8) (ix2 (hc b j) k) := by
  unfold V; after_reads_at
theorem wo_real (a : Args m c q) (t : Fin cfg0.N) (b : Fin 2) (j k : Fin 1024) : iblk m c 8 t (ix3 b j k) = ((q.wo (hc b j) k : ℝ) : EReal) := by
  have h : iblk m c 8 t (ix3 b j k) = (V m c main_v9 : FVec Ideal S2x1024x1024 .bf16) (ix3 b j k) := by blk_point [iblk, idx t]
  exact h.trans ((V_wo c b j k).trans (a.wo _ _))

/-! ### Slices of the blocks -/

theorem ld_wi (a : Args m c q) (t : Fin cfg0.N) (b : Fin 4)
    (h : ∀ i, (![b.val, 0, 0] : Fin 3 → ℕ) i + (![1, 1024, 1024] : Fin 3 → ℕ) i ≤ S4x1024x1024.size i) (l j : Fin 1024) :
    View.ld (Val := Elt Ideal) (e' := EltTy.bf16) (iblk m c 3 t) (Rect.unit ![b.val, 0, 0] ![1, 1024, 1024] h) (ix3 0 l j) = ((q.wi l (col4 b j) : ℝ) : EReal) :=
  (congrArg (iblk m c 3 t) (show (Rect.unit ![b.val, 0, 0] ![1, 1024, 1024] h).emb (ix3 0 l j) = ix3 b l j by blk_ext)).trans (wi_real a t b l j)
theorem ld_lg (a : Args m c q) (t : Fin cfg0.N) (b : Fin 2)
    (h : ∀ i, (![b.val, 0] : Fin 2 → ℕ) i + (![1, 1024] : Fin 2 → ℕ) i ≤ S2x1024.size i) (k : Fin 1024) :
    View.ld (Val := Elt Ideal) (e' := EltTy.f32) (iblk m c 4 t) (Rect.unit ![b.val, 0] ![1, 1024] h) (ix2 0 k) = ((q.lg (hc b k) : ℝ) : EReal) :=
  (congrArg (iblk m c 4 t) (show (Rect.unit ![b.val, 0] ![1, 1024] h).emb (ix2 0 k) = ix2 b k by blk_ext)).trans (lg_real a t b k)
theorem ld_lb (a : Args m c q) (t : Fin cfg0.N) (b : Fin 2)
    (h : ∀ i, (![b.val, 0] : Fin 2 → ℕ) i + (![1, 1024] : Fin 2 → ℕ) i ≤ S2x1024.size i) (k : Fin 1024) :
    View.ld (Val := Elt Ideal) (e' := EltTy.f32) (iblk m c 5 t) (Rect.unit ![b.val, 0] ![1, 1024] h) (ix2 0 k) = ((q.lb (hc b k) : ℝ) : EReal) :=
  (congrArg (iblk m c 5 t) (show (Rect.unit ![b.val, 0] ![1, 1024] h).emb (ix2 0 k) = ix2 b k by blk_ext)).trans (lb_real a t b k)
theorem ld_ws (a : Args m c q) (t : Fin cfg0.N) (g : Fin 8)
    (h : ∀ i, (![g.val, 0, 0] : Fin 3 → ℕ) i + (![1, 128, 128] : Fin 3 → ℕ) i ≤ S8x128x128.size i) (r s : Fin 128) :
    View.ld (Val := Elt Ideal) (e' := EltTy.f32) (iblk m c 6 t) (Rect.unit ![g.val, 0, 0] ![1, 128, 128] h) (ix3 0 r s) = ((q.ws g r s : ℝ) : EReal) :=
  (congrArg (iblk m c 6 t) (show (Rect.unit ![g.val, 0, 0] ![1, 128, 128] h).emb (ix3 0 r s) = ix3 g r s by blk_ext)).trans (ws_real a t g r s)
theorem ld_bs (a : Args m c q) (t : Fin cfg0.N) (g : Fin 8)
    (h : ∀ i, (![0, g.val] : Fin 2 → ℕ) i + (![128, 1] : Fin 2 → ℕ) i ≤ S128x8.size i) (r : Fin 128) :
    View.ld (Val := Elt Ideal) (e' := EltTy.f32) (iblk m c 7 t) (Rect.unit ![0, g.val] ![128, 1] h) (ix2 r 0) = ((q.bs g r : ℝ) : EReal) :=
  (congrArg (iblk m c 7 t) (show (Rect.unit ![0, g.val] ![128, 1] h).emb (ix2 r 0) = ix2 r g by blk_ext)).trans (bs_real a t g r)
theorem ld_wo (a : Args m c q) (t : Fin cfg0.N) (b : Fin 2)
    (h : ∀ i, (![b.val, 0, 0] : Fin 3 → ℕ) i + (![1, 1024, 1024] : Fin 3 → ℕ) i ≤ S2x1024x1024.size i) (j k : Fin 1024) :
    View.ld (Val := Elt Ideal) (e' := EltTy.bf16) (iblk m c 8 t) (Rect.unit ![b.val, 0, 0] ![1, 1024, 1024] h) (ix3 0 j k) = ((q.wo (hc b j) k : ℝ) : EReal) :=
  (congrArg (iblk m c 8 t) (show (Rect.unit ![b.val, 0, 0] ![1, 1024, 1024] h).emb (ix3 0 j k) = ix3 b j k by blk_ext)).trans (wo_real a t b j k)

end Cert.AFwdIdeal.Val
-- ==== Proof.AFwdOperands.lean ====
/-
  One point of `mix_a_fwd`: what the kernel computes of the blocks it reads.
-/
module

public import proofs.«01_k».proof.Proof.AFwdHost

@[expose] public section

set_option maxRecDepth 16384

noncomputable section

namespace Cert.AFwdIdeal.Val

open Idealize.ShloMosaic Idealize.ShloMosaic.TcCoe Idealize.SL.Sem
open Cert.AFwdIdeal Cert.AFwdIdeal.Gen Cert.Lift

variable {m : (ℓ : Loc nD τ sig) → Buf (Elt Ideal) ℓ} {c : Dev nD} {q : GmlpFwd}

theorem hi_col0 (k : Fin 1024) : col4 2 k = hi (hc 0 k) := by
  apply Fin.ext; show 2 * 1024 + k.val = 2048 + (0 * 1024 + k.val); omega
theorem hi_col1 (k : Fin 1024) : col4 3 k = hi (hc 1 k) := by
  apply Fin.ext; show 3 * 1024 + k.val = 2048 + (1 * 1024 + k.val); omega

/-- The normed rows of a point, the kernel's term. -/
abbrev HH (m : (ℓ : Loc nD τ sig) → Buf (Elt Ideal) ℓ) (c : Dev nD) (t : Fin cfg0.N) : FVec Ideal S512x1024 .bf16 := k0_pay1 (iblk m c 0 t) (iblk m c 1 t)
theorem H (a : Args m c q) (t : Fin cfg0.N) (r : Fin 512) (k : Fin 1024) : HH m c t (ix2 r k) = ((q.h (row t r) k : ℝ) : EReal) :=
  h_pay (x_real a t) (hg_real a t) r k
theorem Z (a : Args m c q) (t : Fin cfg0.N) (b : Fin 4)
    (h : ∀ i, (![b.val, 0, 0] : Fin 3 → ℕ) i + (![1, 1024, 1024] : Fin 3 → ℕ) i ≤ S4x1024x1024.size i) (r : Fin 512) (k : Fin 1024) :
    k0_pay8 (F := Ideal) (HH m c t) (View.ld (iblk m c 3 t) (Rect.unit ![b.val, 0, 0] ![1, 1024, 1024] h)) (ix2 r k) = ((q.z (row t r) (col4 b k) : ℝ) : EReal) :=
  z_pay (H a t) (ld_wi a t b h) r k

/-- The first half of the gate's rows, the second, and their sums: the kernel's terms. -/
abbrev VA (m : (ℓ : Loc nD τ sig) → Buf (Elt Ideal) ℓ) (c : Dev nD) (t : Fin cfg0.N) : FVec Ideal S512x1024 .f32 := k0_pay4 (iblk m c 0 t) (iblk m c 1 t) (View.ld (iblk m c 3 t) (Rect.unit ![2, 0, 0] ![1, 1024, 1024] inb_S4x1024x1024_S1x1024x1024_2_0_0))
abbrev VB (m : (ℓ : Loc nD τ sig) → Buf (Elt Ideal) ℓ) (c : Dev nD) (t : Fin cfg0.N) : FVec Ideal S512x1024 .f32 := k0_pay10 (HH m c t) (View.ld (iblk m c 3 t) (Rect.unit ![3, 0, 0] ![1, 1024, 1024] inb_S4x1024x1024_S1x1024x1024_3_0_0))
abbrev VS (m : (ℓ : Loc nD τ sig) → Buf (Elt Ideal) ℓ) (c : Dev nD) (t : Fin cfg0.N) : FVec Ideal S512x1 .f32 := k0_pay13 (HH m c t) (VA m c t) (View.ld (iblk m c 3 t) (Rect.unit ![3, 0, 0] ![1, 1024, 1024] inb_S4x1024x1024_S1x1024x1024_3_0_0))
abbrev N2 : Ideal .f32 := FloatOps.ofBits FTy.f32 0x45000000#32
theorem N2_eq : N2 = ((2048 : ℝ) : EReal) := ofBits_2048

theorem VA_real (a : Args m c q) (t : Fin cfg0.N) (r : Fin 512) (k : Fin 1024) : VA m c t (ix2 r k) = ((q.gate.v (row t r) (hc 0 k) : ℝ) : EReal) := by
  refine (act_pay (Z a t 2 inb_S4x1024x1024_S1x1024x1024_2_0_0) r k).trans ?_; rw [hi_col0]; rfl
theorem VB_real (a : Args m c q) (t : Fin cfg0.N) (r : Fin 512) (k : Fin 1024) : VB m c t (ix2 r k) = ((q.gate.v (row t r) (hc 1 k) : ℝ) : EReal) := by
  refine (act_pay (Z a t 3 inb_S4x1024x1024_S1x1024x1024_3_0_0) r k).trans ?_; rw [hi_col1]; rfl
theorem VS_real (a : Args m c q) (t : Fin cfg0.N) (r : Fin 512) : VS m c t (ix2 r 0) = ((∑ l, q.gate.v (row t r) l : ℝ) : EReal) :=
  sum_pay (VA_real a t) (VB_real a t) r

/-- The gate's normed rows, half by half: the kernel's terms. -/
abbrev VL (m : (ℓ : Loc nD τ sig) → Buf (Elt Ideal) ℓ) (c : Dev nD) (t : Fin cfg0.N) : FVec Ideal S512x1024 .bf16 := k0_pay18 (VA m c t) (VB m c t) (VS m c t) N2 (View.ld (iblk m c 4 t) (Rect.unit ![0, 0] ![1, 1024] inb_S2x1024_S1x1024_0_0)) (View.ld (iblk m c 5 t) (Rect.unit ![0, 0] ![1, 1024] inb_S2x1024_S1x1024_0_0))
abbrev VR (m : (ℓ : Loc nD τ sig) → Buf (Elt Ideal) ℓ) (c : Dev nD) (t : Fin cfg0.N) : FVec Ideal S512x1024 .bf16 := k0_pay19 (VA m c t) (VB m c t) (VS m c t) N2 (View.ld (iblk m c 4 t) (Rect.unit ![1, 0] ![1, 1024] inb_S2x1024_S1x1024_1_0)) (View.ld (iblk m c 5 t) (Rect.unit ![1, 0] ![1, 1024] inb_S2x1024_S1x1024_1_0))
theorem VL_real (a : Args m c q) (t : Fin cfg0.N) (r : Fin 512) (k : Fin 1024) : VL m c t (ix2 r k) = ((q.gate.vl (row t r) (hc 0 k) : ℝ) : EReal) :=
  vl0_pay N2_eq (VA_real a t) (VB_real a t) (VS_real a t) (ld_lg a t 0 _) (ld_lb a t 0 _) r k
theorem VR_real (a : Args m c q) (t : Fin cfg0.N) (r : Fin 512) (k : Fin 1024) : VR m c t (ix2 r k) = ((q.gate.vl (row t r) (hc 1 k) : ℝ) : EReal) :=
  vl1_pay N2_eq (VA_real a t) (VB_real a t) (VS_real a t) (ld_lg a t 1 _) (ld_lb a t 1 _) r k

/-- The multiplied half, block by block: the kernel's terms. -/
abbrev UA (m : (ℓ : Loc nD τ sig) → Buf (Elt Ideal) ℓ) (c : Dev nD) (t : Fin cfg0.N) : FVec Ideal S512x1024 .f32 := k0_pay22 (k0_pay20 (HH m c t) (View.ld (iblk m c 3 t) (Rect.unit ![0, 0, 0] ![1, 1024, 1024] inb_S4x1024x1024_S1x1024x1024_0_0_0))) c2
abbrev UB (m : (ℓ : Loc nD τ sig) → Buf (Elt Ideal) ℓ) (c : Dev nD) (t : Fin cfg0.N) : FVec Ideal S512x1024 .f32 := k0_pay27 (HH m c t) (View.ld (iblk m c 3 t) (Rect.unit ![1, 0, 0] ![1, 1024, 1024] inb_S4x1024x1024_S1x1024x1024_1_0_0))
theorem UA_real (a : Args m c q) (t : Fin cfg0.N) (r : Fin 512) (k : Fin 1024) : UA m c t (ix2 r k) = ((q.gate.u (row t r) (hc 0 k) : ℝ) : EReal) :=
  act_pay (Z a t 0 inb_S4x1024x1024_S1x1024x1024_0_0_0) r k
theorem UB_real (a : Args m c q) (t : Fin cfg0.N) (r : Fin 512) (k : Fin 1024) : UB m c t (ix2 r k) = ((q.gate.u (row t r) (hc 1 k) : ℝ) : EReal) :=
  act_pay (Z a t 1 inb_S4x1024x1024_S1x1024x1024_1_0_0) r k

/-! ### The masked weights and the biases -/

theorem W0 (a : Args m c q) (t : Fin cfg0.N) (r s : Fin 128) : k0_pay31 (F := Ideal) (View.ld (iblk m c 6 t) (Rect.unit ![0, 0, 0] ![1, 128, 128] inb_S8x128x128_S1x128x128_0_0_0)) (ix2 r s) = ((q.gate.w (gb 0 0) r s : ℝ) : EReal) :=
  w_pay (ld_ws a t 0 _) r s
theorem B0 (a : Args m c q) (t : Fin cfg0.N) (r : Fin 128) : View.ld (Val := Elt Ideal) (e' := EltTy.f32) (iblk m c 7 t) (Rect.unit ![0, 0] ![128, 1] inb_S128x8_S128x1_0_0) (ix2 r 0) = ((q.gate.bs (gb 0 0) r : ℝ) : EReal) :=
  ld_bs a t 0 _ r
theorem W1 (a : Args m c q) (t : Fin cfg0.N) (r s : Fin 128) : k0_pay32 (F := Ideal) (View.ld (iblk m c 6 t) (Rect.unit ![1, 0, 0] ![1, 128, 128] inb_S8x128x128_S1x128x128_1_0_0)) (ix2 r s) = ((q.gate.w (gb 0 1) r s : ℝ) : EReal) :=
  w_pay (ld_ws a t 1 _) r s
theorem B1 (a : Args m c q) (t : Fin cfg0.N) (r : Fin 128) : View.ld (Val := Elt Ideal) (e' := EltTy.f32) (iblk m c 7 t) (Rect.unit ![0, 1] ![128, 1] inb_S128x8_S128x1_0_1) (ix2 r 0) = ((q.gate.bs (gb 0 1) r : ℝ) : EReal) :=
  ld_bs a t 1 _ r
theorem W2 (a : Args m c q) (t : Fin cfg0.N) (r s : Fin 128) : k0_pay33 (F := Ideal) (View.ld (iblk m c 6 t) (Rect.unit ![2, 0, 0] ![1, 128, 128] inb_S8x128x128_S1x128x128_2_0_0)) (ix2 r s) = ((q.gate.w (gb 0 2) r s : ℝ) : EReal) :=
  w_pay (ld_ws a t 2 _) r s
theorem B2 (a : Args m c q) (t : Fin cfg0.N) (r : Fin 128) : View.ld (Val := Elt Ideal) (e' := EltTy.f32) (iblk m c 7 t) (Rect.unit ![0, 2] ![128, 1] inb_S128x8_S128x1_0_2) (ix2 r 0) = ((q.gate.bs (gb 0 2) r : ℝ) : EReal) :=
  ld_bs a t 2 _ r
theorem W3 (a : Args m c q) (t : Fin cfg0.N) (r s : Fin 128) : k0_pay37 (F := Ideal) k0_pay34 (k0_pay35 (View.ld (iblk m c 6 t) (Rect.unit ![3, 0, 0] ![1, 128, 128] inb_S8x128x128_S1x128x128_3_0_0))) k0_pay36 (ix2 r s) = ((q.gate.w (gb 0 3) r s : ℝ) : EReal) :=
  w_pay (ld_ws a t 3 _) r s
theorem B3 (a : Args m c q) (t : Fin cfg0.N) (r : Fin 128) : View.ld (Val := Elt Ideal) (e' := EltTy.f32) (iblk m c 7 t) (Rect.unit ![0, 3] ![128, 1] inb_S128x8_S128x1_0_3) (ix2 r 0) = ((q.gate.bs (gb 0 3) r : ℝ) : EReal) :=
  ld_bs a t 3 _ r
theorem W4 (a : Args m c q) (t : Fin cfg0.N) (r s : Fin 128) : k0_pay38 (F := Ideal) (iota Kind.tc S128x128 32 [0] iota_S128x128_d0_w32) (iota Kind.tc S128x128 32 [1] iota_S128x128_d1_w32) (View.ld (iblk m c 6 t) (Rect.unit ![4, 0, 0] ![1, 128, 128] inb_S8x128x128_S1x128x128_4_0_0)) (ix2 r s) = ((q.gate.w (gb 1 0) r s : ℝ) : EReal) :=
  w_pay (ld_ws a t 4 _) r s
theorem B4 (a : Args m c q) (t : Fin cfg0.N) (r : Fin 128) : View.ld (Val := Elt Ideal) (e' := EltTy.f32) (iblk m c 7 t) (Rect.unit ![0, 4] ![128, 1] inb_S128x8_S128x1_0_4) (ix2 r 0) = ((q.gate.bs (gb 1 0) r : ℝ) : EReal) :=
  ld_bs a t 4 _ r
theorem W5 (a : Args m c q) (t : Fin cfg0.N) (r s : Fin 128) : k0_pay39 (F := Ideal) (iota Kind.tc S128x128 32 [0] iota_S128x128_d0_w32) (iota Kind.tc S128x128 32 [1] iota_S128x128_d1_w32) (View.ld (iblk m c 6 t) (Rect.unit ![5, 0, 0] ![1, 128, 128] inb_S8x128x128_S1x128x128_5_0_0)) (ix2 r s) = ((q.gate.w (gb 1 1) r s : ℝ) : EReal) :=
  w_pay (ld_ws a t 5 _) r s
theorem B5 (a : Args m c q) (t : Fin cfg0.N) (r : Fin 128) : View.ld (Val := Elt Ideal) (e' := EltTy.f32) (iblk m c 7 t) (Rect.unit ![0, 5] ![128, 1] inb_S128x8_S128x1_0_5) (ix2 r 0) = ((q.gate.bs (gb 1 1) r : ℝ) : EReal) :=
  ld_bs a t 5 _ r
theorem W6 (a : Args m c q) (t : Fin cfg0.N) (r s : Fin 128) : k0_pay40 (F := Ideal) (iota Kind.tc S128x128 32 [0] iota_S128x128_d0_w32) (iota Kind.tc S128x128 32 [1] iota_S128x128_d1_w32) (View.ld (iblk m c 6 t) (Rect.unit ![6, 0, 0] ![1, 128, 128] inb_S8x128x128_S1x128x128_6_0_0)) (ix2 r s) = ((q.gate.w (gb 1 2) r s : ℝ) : EReal) :=
  w_pay (ld_ws a t 6 _) r s
theorem B6 (a : Args m c q) (t : Fin cfg0.N) (r : Fin 128) : View.ld (Val := Elt Ideal) (e' := EltTy.f32) (iblk m c 7 t) (Rect.unit ![0, 6] ![128, 1] inb_S128x8_S128x1_0_6) (ix2 r 0) = ((q.gate.bs (gb 1 2) r : ℝ) : EReal) :=
  ld_bs a t 6 _ r
theorem W7 (a : Args m c q) (t : Fin cfg0.N) (r s : Fin 128) : k0_pay41 (F := Ideal) (iota Kind.tc S128x128 32 [0] iota_S128x128_d0_w32) (iota Kind.tc S128x128 32 [1] iota_S128x128_d1_w32) (View.ld (iblk m c 6 t) (Rect.unit ![7, 0, 0] ![1, 128, 128] inb_S8x128x128_S1x128x128_7_0_0)) (ix2 r s) = ((q.gate.w (gb 1 3) r s : ℝ) : EReal) :=
  w_pay (ld_ws a t 7 _) r s
theorem B7 (a : Args m c q) (t : Fin cfg0.N) (r : Fin 128) : View.ld (Val := Elt Ideal) (e' := EltTy.f32) (iblk m c 7 t) (Rect.unit ![0, 7] ![128, 1] inb_S128x8_S128x1_0_7) (ix2 r 0) = ((q.gate.bs (gb 1 3) r : ℝ) : EReal) :=
  ld_bs a t 7 _ r

end Cert.AFwdIdeal.Val
-- ==== Proof.AFwdValue.lean ====
/-
  The results of the kernel of `mix_a_fwd`, entry by entry, on real arguments.
-/
module

public import proofs.«01_k».proof.Proof.AFwdOperands

@[expose] public section

set_option maxRecDepth 16384

noncomputable section

namespace Cert.AFwdIdeal.Val

open Idealize.ShloMosaic Idealize.ShloMosaic.TcCoe Idealize.SL.Sem
open Cert.AFwdIdeal Cert.AFwdIdeal.Gen Cert.Lift

variable {m : (ℓ : Loc nD τ sig) → Buf (Elt Ideal) ℓ} {c : Dev nD} {q : GmlpFwd}

/-! ### The saved activation and its slope -/

/-- One stored block of a result in four blocks. -/
theorem blockPiece (t : Fin cfg0.N) (f : ℝ → ℝ) (b : Fin 4) (h) (P : FVec Ideal S1x512x1024 .bf16)
    (hP : ∀ r k, P (ix3 0 r k) = ((f (q.z (row t r) (col4 b k)) : ℝ) : EReal)) (x : S1x512x1024.Idx) :
    P x = (fun y : S4x512x1024.Idx => ((f (q.z (row t (y 1)) (col4 (y 0) (y 2))) : ℝ) : EReal))
      ((Rect.unit (s := S4x512x1024) ![b.val, 0, 0] ![1, 512, 1024] h).emb x) := by
  have e : (Rect.unit (s := S4x512x1024) ![b.val, 0, 0] ![1, 512, 1024] h).emb x = ix3 b (x 1) (x 2) := by blk_ext
  obtain ⟨x0, r, k, rfl⟩ : ∃ x0 r k, x = ix3 x0 r k := ⟨x 0, x 1, x 2, by blk_ext⟩
  obtain rfl : x0 = 0 := Subsingleton.elim _ _
  rw [e, hP]; rfl

theorem act_pieces (a : Args m c q) (t : Fin cfg0.N) (y : S4x512x1024.Idx) : View.canon (Val := Elt Ideal) (e := EltTy.bf16) [
      ⟨Rect.unit ![1, 0, 0] ![1, 512, 1024] inb_S4x512x1024_S1x512x1024_1_0_0, k0_pay29 (k0_pay27 (HH m c t) (View.ld (iblk m c 3 t) (Rect.unit ![1, 0, 0] ![1, 1024, 1024] inb_S4x1024x1024_S1x1024x1024_1_0_0)))⟩,
      ⟨Rect.unit ![0, 0, 0] ![1, 512, 1024] inb_S4x512x1024_S1x512x1024_0_0_0, k0_pay23 (k0_pay20 (HH m c t) (View.ld (iblk m c 3 t) (Rect.unit ![0, 0, 0] ![1, 1024, 1024] inb_S4x1024x1024_S1x1024x1024_0_0_0))) c2⟩,
      ⟨Rect.unit ![3, 0, 0] ![1, 512, 1024] inb_S4x512x1024_S1x512x1024_3_0_0, k0_pay11 (HH m c t) (View.ld (iblk m c 3 t) (Rect.unit ![3, 0, 0] ![1, 1024, 1024] inb_S4x1024x1024_S1x1024x1024_3_0_0))⟩,
      ⟨Rect.unit ![2, 0, 0] ![1, 512, 1024] inb_S4x512x1024_S1x512x1024_2_0_0, k0_pay6 (iblk m c 0 t) (iblk m c 1 t) (View.ld (iblk m c 3 t) (Rect.unit ![2, 0, 0] ![1, 1024, 1024] inb_S4x1024x1024_S1x1024x1024_2_0_0))⟩] y
      = ((gelu (q.z (row t (y 1)) (col4 (y 0) (y 2))) : ℝ) : EReal) :=
  View.canon_append_of_piecesOf (Val := Elt Ideal) (e := EltTy.bf16)
    (fun y : S4x512x1024.Idx => ((gelu (q.z (row t (y 1)) (col4 (y 0) (y 2))) : ℝ) : EReal)) [] [_, _, _, _]
    ⟨blockPiece t gelu 1 inb_S4x512x1024_S1x512x1024_1_0_0 _ (stored_act_pay (Z a t 1 inb_S4x1024x1024_S1x1024x1024_1_0_0)), blockPiece t gelu 0 inb_S4x512x1024_S1x512x1024_0_0_0 _ (stored_act_pay (Z a t 0 inb_S4x1024x1024_S1x1024x1024_0_0_0)), blockPiece t gelu 3 inb_S4x512x1024_S1x512x1024_3_0_0 _ (stored_act_pay (Z a t 3 inb_S4x1024x1024_S1x1024x1024_3_0_0)), blockPiece t gelu 2 inb_S4x512x1024_S1x512x1024_2_0_0 _ (stored_act_pay (Z a t 2 inb_S4x1024x1024_S1x1024x1024_2_0_0)), trivial⟩ y
    (View.cover_of_tiledL _ ![1, 512, 1024] (by sl_kernel_rfl) y)

theorem act_outs (a : Args m c q) (t : Fin cfg0.N) (y : S4x512x1024.Idx) :
    (outsAt0 m c t).2.1 y = ((gelu (q.z (row t (y 1)) (col4 (y 0) (y 2))) : ℝ) : EReal) := by
  unfold outsAt0; dsimp only; frame_open; frame_out
  exact act_pieces a t y

theorem act_eq (a : Args m c q) : (dats m 0 c).arrAt 10 cfg0.N = fun y => ((gelu (q.z (y 1) (col4 (y 0) (y 2))) : ℝ) : EReal) := by
  refine (dats m 0 c).arrAt_eq_of_covers 10 _ (by decide +kernel) fun t hf y => ?_
  obtain ⟨b, r, k, rfl⟩ : ∃ b r k, y = ix3 b r k := ⟨y 0, y 1, y 2, by blk_ext⟩
  blk_simp
  rw [after0_10]
  have e : ((cfg0.win 10).blk t).view.emb (ix3 b r k) = ix3 b (row t r) k := by blk_ext [idx t]
  rw [e]
  exact act_outs a t (ix3 b r k)

theorem slope_pieces (a : Args m c q) (t : Fin cfg0.N) (y : S4x512x1024.Idx) : View.canon (Val := Elt Ideal) (e := EltTy.bf16) [
      ⟨Rect.unit ![1, 0, 0] ![1, 512, 1024] inb_S4x512x1024_S1x512x1024_1_0_0, k0_pay30 (k0_pay25 (HH m c t) (View.ld (iblk m c 3 t) (Rect.unit ![1, 0, 0] ![1, 1024, 1024] inb_S4x1024x1024_S1x1024x1024_1_0_0))) (k0_pay26 (HH m c t) (View.ld (iblk m c 3 t) (Rect.unit ![1, 0, 0] ![1, 1024, 1024] inb_S4x1024x1024_S1x1024x1024_1_0_0))) (k0_pay28 (HH m c t) (View.ld (iblk m c 3 t) (Rect.unit ![1, 0, 0] ![1, 1024, 1024] inb_S4x1024x1024_S1x1024x1024_1_0_0))) c2pi⟩,
      ⟨Rect.unit ![0, 0, 0] ![1, 512, 1024] inb_S4x512x1024_S1x512x1024_0_0_0, k0_pay24 (k0_pay20 (HH m c t) (View.ld (iblk m c 3 t) (Rect.unit ![0, 0, 0] ![1, 1024, 1024] inb_S4x1024x1024_S1x1024x1024_0_0_0))) c2⟩,
      ⟨Rect.unit ![3, 0, 0] ![1, 512, 1024] inb_S4x512x1024_S1x512x1024_3_0_0, k0_pay12 (HH m c t) (View.ld (iblk m c 3 t) (Rect.unit ![3, 0, 0] ![1, 1024, 1024] inb_S4x1024x1024_S1x1024x1024_3_0_0))⟩,
      ⟨Rect.unit ![2, 0, 0] ![1, 512, 1024] inb_S4x512x1024_S1x512x1024_2_0_0, k0_pay7 (k0_pay5 (iblk m c 0 t) (iblk m c 1 t) (View.ld (iblk m c 3 t) (Rect.unit ![2, 0, 0] ![1, 1024, 1024] inb_S4x1024x1024_S1x1024x1024_2_0_0)))⟩] y
      = ((gelu' (q.z (row t (y 1)) (col4 (y 0) (y 2))) : ℝ) : EReal) :=
  View.canon_append_of_piecesOf (Val := Elt Ideal) (e := EltTy.bf16)
    (fun y : S4x512x1024.Idx => ((gelu' (q.z (row t (y 1)) (col4 (y 0) (y 2))) : ℝ) : EReal)) [] [_, _, _, _]
    ⟨blockPiece t gelu' 1 inb_S4x512x1024_S1x512x1024_1_0_0 _ (stored_slope_pay (Z a t 1 inb_S4x1024x1024_S1x1024x1024_1_0_0)), blockPiece t gelu' 0 inb_S4x512x1024_S1x512x1024_0_0_0 _ (stored_slope_pay (Z a t 0 inb_S4x1024x1024_S1x1024x1024_0_0_0)), blockPiece t gelu' 3 inb_S4x512x1024_S1x512x1024_3_0_0 _ (stored_slope_pay (Z a t 3 inb_S4x1024x1024_S1x1024x1024_3_0_0)), blockPiece t gelu' 2 inb_S4x512x1024_S1x512x1024_2_0_0 _ (stored_slope_pay (Z a t 2 inb_S4x1024x1024_S1x1024x1024_2_0_0)), trivial⟩ y
    (View.cover_of_tiledL _ ![1, 512, 1024] (by sl_kernel_rfl) y)

theorem slope_outs (a : Args m c q) (t : Fin cfg0.N) (y : S4x512x1024.Idx) :
    (outsAt0 m c t).2.2.1 y = ((gelu' (q.z (row t (y 1)) (col4 (y 0) (y 2))) : ℝ) : EReal) := by
  unfold outsAt0; dsimp only; frame_open; frame_out
  exact slope_pieces a t y

theorem slope_eq (a : Args m c q) : (dats m 0 c).arrAt 11 cfg0.N = fun y => ((gelu' (q.z (y 1) (col4 (y 0) (y 2))) : ℝ) : EReal) := by
  refine (dats m 0 c).arrAt_eq_of_covers 11 _ (by decide +kernel) fun t hf y => ?_
  obtain ⟨b, r, k, rfl⟩ : ∃ b r k, y = ix3 b r k := ⟨y 0, y 1, y 2, by blk_ext⟩
  blk_simp
  rw [after0_11]
  have e : ((cfg0.win 11).blk t).view.emb (ix3 b r k) = ix3 b (row t r) k := by blk_ext [idx t]
  rw [e]
  exact slope_outs a t (ix3 b r k)

/-! ### The mixed rows and the result -/

theorem m_term (a : Args m c q) (t : Fin cfg0.N) {s0 s1 : FVec Ideal S512x1024 .f32}
    (h0 : ∀ r k, s0 (ix2 r k) = ((q.gate.sv (row t r) (hc 0 k) : ℝ) : EReal)) (h1 : ∀ r k, s1 (ix2 r k) = ((q.gate.sv (row t r) (hc 1 k) : ℝ) : EReal)) (r : Fin 512) (k : Fin 1024) :
    k0_pay89 (F := Ideal) (UB m c t) (k0_pay67 k0_pay42 (k0_pay66 (UA m c t) s0) (View.ld (iblk m c 8 t) (Rect.unit ![0, 0, 0] ![1, 1024, 1024] inb_S2x1024x1024_S1x1024x1024_0_0_0))) s1 (View.ld (iblk m c 8 t) (Rect.unit ![1, 0, 0] ![1, 1024, 1024] inb_S2x1024x1024_S1x1024x1024_1_0_0)) (ix2 r k) = ((q.gate.m (row t r) k : ℝ) : EReal) :=
  m_pay (m0_pay (UA_real a t) h0 (ld_wo a t 0 _)) (UB_real a t) h1 (ld_wo a t 1 _) r k

theorem m_outs (a : Args m c q) (t : Fin cfg0.N) (r : Fin 512) (k : Fin 1024) :
    (outsAt0 m c t).2.2.2 (ix2 r k) = ((q.gate.m (row t r) k : ℝ) : EReal) := by
  have s0 := fun (L : List (View.Piece (Elt Ideal) S512x1024 .f32)) (r : Fin 512) (k : Fin 1024) => congrFun (sv0_read (VL_real a t) (W0 a t) (W1 a t) (W2 a t) (W3 a t) (B0 a t) (B1 a t) (B2 a t) (B3 a t) L) (ix2 r k)
  have s1 := fun (L : List (View.Piece (Elt Ideal) S512x1024 .f32)) (r : Fin 512) (k : Fin 1024) => congrFun (sv1_read (VR_real a t) (W4 a t) (W5 a t) (W6 a t) (W7 a t) (B4 a t) (B5 a t) (B6 a t) (B7 a t) L) (ix2 r k)
  unfold outsAt0; dsimp only; frame_open; frame_out
  refine m_term a t ?_ ?_ r k
  exacts [s0 _, s1 _]

theorem y_outs (a : Args m c q) (t : Fin cfg0.N) (r : Fin 512) (k : Fin 1024) :
    (outsAt0 m c t).1 (ix2 r k) = ((q.y (row t r) k : ℝ) : EReal) := by
  have s0 := fun (L : List (View.Piece (Elt Ideal) S512x1024 .f32)) (r : Fin 512) (k : Fin 1024) => congrFun (sv0_read (VL_real a t) (W0 a t) (W1 a t) (W2 a t) (W3 a t) (B0 a t) (B1 a t) (B2 a t) (B3 a t) L) (ix2 r k)
  have s1 := fun (L : List (View.Piece (Elt Ideal) S512x1024 .f32)) (r : Fin 512) (k : Fin 1024) => congrFun (sv1_read (VR_real a t) (W4 a t) (W5 a t) (W6 a t) (W7 a t) (B4 a t) (B5 a t) (B6 a t) (B7 a t) L) (ix2 r k)
  unfold outsAt0; dsimp only; frame_open; frame_out
  refine y_pay (m_term a t ?_ ?_) (x_real a t) (qg_real a t) r k
  exacts [s0 _, s1 _]

theorem m_eq (a : Args m c q) : (dats m 0 c).arrAt 12 cfg0.N = fun y => ((q.gate.m (y 0) (y 1) : ℝ) : EReal) := by
  refine (dats m 0 c).arrAt_eq_of_covers 12 _ (by decide +kernel) fun t hf y => ?_
  obtain ⟨r, k, rfl⟩ : ∃ r k, y = ix2 r k := ⟨y 0, y 1, by blk_ext⟩
  blk_simp
  rw [after0_12]
  have e : ((cfg0.win 12).blk t).view.emb (ix2 r k) = ix2 (row t r) k := by blk_ext [idx t]
  rw [e]
  exact m_outs a t r k

theorem y_eq (a : Args m c q) : (dats m 0 c).arrAt 9 cfg0.N = fun y => ((q.y (y 0) (y 1) : ℝ) : EReal) := by
  refine (dats m 0 c).arrAt_eq_of_covers 9 _ (by decide +kernel) fun t hf y => ?_
  obtain ⟨r, k, rfl⟩ : ∃ r k, y = ix2 r k := ⟨y 0, y 1, by blk_ext⟩
  blk_simp
  rw [after0_9]
  have e : ((cfg0.win 9).blk t).view.emb (ix2 r k) = ix2 (row t r) k := by blk_ext [idx t]
  rw [e]
  exact y_outs a t r k

end Cert.AFwdIdeal.Val
-- ==== Proof.AFwdClaim.lean ====
/-
  `mix_a_fwd`: the kernel and the reference end with equal results on finite arguments.
-/
module

public import proofs.«01_k».proof.Defs
public import proofs.«01_k».proof.Proof.AFwdValue
public import proofs.«01_k».proof.Proof.Gen.AFwdIdeal.Value
public import proofs.«01_k».proof.Proof.Gen.AFwdRefIdeal.Run
public import proofs.«01_k».proof.Proof.Gen.Pre_a_fwd_finite
public import Idealize.ShloMosaic.Adequacy
public import Idealize.ShloMosaic.Init

@[expose] public section

set_option maxRecDepth 16384

noncomputable section

namespace Cert.AFwdIdeal.Val

open Idealize.ShloMosaic Idealize.ShloMosaic.TcCoe Idealize.SL.Sem
open Cert.AFwdIdeal Cert.Lift

/-- The real numbers of the arguments. -/
def reals (m : (ℓ : Loc nD τ sig) → Buf (Elt Ideal) ℓ) (c : Dev nD) : GmlpFwd where
  x i j := re (s := S8192x1024) (m ((c.tc : Thread nD τ).loc main_arg0)) (ix2 i j)
  hg i := re (s := S1024) (m ((c.tc : Thread nD τ).loc main_arg1)) (ix1 i)
  qg i := re (s := S1024) (m ((c.tc : Thread nD τ).loc main_arg2)) (ix1 i)
  wi i j := re (s := S1024x4096) (m ((c.tc : Thread nD τ).loc main_arg3)) (ix2 i j)
  lg i := re (s := S2048) (m ((c.tc : Thread nD τ).loc main_arg4)) (ix1 i)
  lb i := re (s := S2048) (m ((c.tc : Thread nD τ).loc main_arg5)) (ix1 i)
  ws i j k := re (s := S8x128x128) (m ((c.tc : Thread nD τ).loc main_arg6)) (ix3 i j k)
  bs i j := re (s := S8x128) (m ((c.tc : Thread nD τ).loc main_arg7)) (ix2 i j)
  wo i j := re (s := S2048x1024) (m ((c.tc : Thread nD τ).loc main_arg8)) (ix2 i j)

/-- What the precondition says: the arguments are arrays of real numbers. -/
theorem finite_args {m : (ℓ : Loc nD τ sig) → Buf (Elt Ideal) ℓ} (h : Cert.Pre_AFwdIdeal_a_fwd_finite m) (c : Dev nD) :
    Args m c (reals m c) := by
  have e := congrFun (h c) (fun i => i.elim0)
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm,
    fun _ => (fin_of_all _ _ _ _ _ _ h1 _).symm,
    fun _ => (fin_of_all _ _ _ _ _ _ h2 _).symm,
    fun _ _ => (fin_of_all _ _ _ _ _ _ h3 _).symm,
    fun _ => (fin_of_all _ _ _ _ _ _ h4 _).symm,
    fun _ => (fin_of_all _ _ _ _ _ _ h5 _).symm,
    fun _ _ _ => (fin_of_all _ _ _ _ _ _ h6 _).symm,
    fun _ _ => (fin_of_all _ _ _ _ _ _ h7 _).symm,
    fun _ _ => (fin_of_all _ _ _ _ _ _ h8 _).symm⟩

set_option maxHeartbeats 1000000 in
theorem algebraic : Cert.algebraic_AFwdIdeal_AFwdRefIdeal_pre_a_fwd_finite := by
  pair_intro
  · run_from Cert.AFwdIdeal.Value.run_blocks m g
  · run_from Cert.AFwdRefIdeal.Value.run m' g'
    all_goals have a := finite_args hpre c
    all_goals obtain ⟨a0, a1, a2, a3, a4, a5, a6, a7, a8⟩ := hagree c
    all_goals have b : Cert.AFwdRefIdeal.Val.Args (m' ((c.tc : Thread AFwdRefIdeal.nD AFwdRefIdeal.τ).loc AFwdRefIdeal.main_arg0)) (m' ((c.tc : Thread AFwdRefIdeal.nD AFwdRefIdeal.τ).loc AFwdRefIdeal.main_arg1)) (m' ((c.tc : Thread AFwdRefIdeal.nD AFwdRefIdeal.τ).loc AFwdRefIdeal.main_arg2)) (m' ((c.tc : Thread AFwdRefIdeal.nD AFwdRefIdeal.τ).loc AFwdRefIdeal.main_arg3)) (m' ((c.tc : Thread AFwdRefIdeal.nD AFwdRefIdeal.τ).loc AFwdRefIdeal.main_arg4)) (m' ((c.tc : Thread AFwdRefIdeal.nD AFwdRefIdeal.τ).loc AFwdRefIdeal.main_arg5)) (m' ((c.tc : Thread AFwdRefIdeal.nD AFwdRefIdeal.τ).loc AFwdRefIdeal.main_arg6)) (m' ((c.tc : Thread AFwdRefIdeal.nD AFwdRefIdeal.τ).loc AFwdRefIdeal.main_arg7)) (m' ((c.tc : Thread AFwdRefIdeal.nD AFwdRefIdeal.τ).loc AFwdRefIdeal.main_arg8)) (reals m c) := (by rw [a0, a1, a2, a3, a4, a5, a6, a7, a8]; exact a)
    · rw [y_eq a, Cert.AFwdRefIdeal.Read.val_main_v94_eq]
      funext y
      obtain ⟨i, k, rfl⟩ : ∃ i k, y = ix2 i k := ⟨y 0, y 1, by blk_ext⟩
      exact Cert.AFwdRefIdeal.Val.y_real b i k
    · rw [act_eq a, Cert.AFwdRefIdeal.Read.val_main_v97_eq]
      funext y
      obtain ⟨b', i, k, rfl⟩ : ∃ b' i k, y = ix3 b' i k := ⟨y 0, y 1, y 2, by blk_ext⟩
      exact Cert.AFwdRefIdeal.Val.act_real a b' i k
    · rw [slope_eq a, Cert.AFwdRefIdeal.Read.val_main_v100_eq]
      funext y
      obtain ⟨b', i, k, rfl⟩ : ∃ b' i k, y = ix3 b' i k := ⟨y 0, y 1, y 2, by blk_ext⟩
      exact Cert.AFwdRefIdeal.Val.slope_real b b' i k
    · rw [m_eq a, Cert.AFwdRefIdeal.Read.val_main_v80_eq]
      funext y
      obtain ⟨i, k, rfl⟩ : ∃ i k, y = ix2 i k := ⟨y 0, y 1, by blk_ext⟩
      exact Cert.AFwdRefIdeal.Val.m_real b i k

/-- The reference runs to its end, leaves its arguments as they were and every semaphore at zero. -/
theorem ref_frame : Cert.quiescent_AFwdRefIdeal := fun m g _ =>
  (θ_run Cert.AFwdRefIdeal.defs _ _).mono (fun r h => ⟨fun c => (h c).2.2.2.2,
      sem_eq_zero_of_no_sems (by decide) r.2⟩)
    (Cert.AFwdRefIdeal.Value.run (F := Ideal) m g)

/-- The two named constants are read as the numbers they name. -/
theorem preserves : Cert.preserves_AFwd_AFwdIdeal :=
  ⟨IdealRules.named_const.statement Cert.AFwdIdeal.κ "inv_sqrt2" .f32 _ _ rfl,
    IdealRules.named_const.statement Cert.AFwdIdeal.κ "inv_sqrt_2pi" .f32 _ _ rfl⟩

end Cert.AFwdIdeal.Val

end
-- ==== Proof.BFwdRefValue.lean ====
/-
  The results of the reference of `mix_b_fwd`, entry by entry, on real arguments. Its text is the first part of the
  reference of `mix_b_bwd`, whose values are read again here.
-/
module

public import proofs.«01_k».proof.Proof.BBwdRefValue
public import proofs.«01_k».proof.Proof.Gen.BFwdRefIdeal.Read

@[expose] public section

set_option maxRecDepth 16384

noncomputable section

namespace Cert.Lift.Pool

/-- The layer's output: its input, and the mixed rows normalised. -/
def y (p : Pool) (i : Fin 8192) (k : Fin 1024) : ℝ := p.x i k + p.m i k * rr (p.m i) * p.qg k

end Cert.Lift.Pool

namespace Cert.BFwdRefIdeal.Val

open Idealize.ShloMosaic Idealize.ShloMosaic.TcCoe Idealize.SL.Sem
open Cert.BFwdRefIdeal Cert.BFwdRefIdeal.Gen Cert.BFwdRefIdeal.Read Cert.Lift

/-- The arguments are real numbers. There is no gradient among them: its place is filled with zeros. -/
abbrev Args (x0 : FVec Ideal S8192x1024 .f32) (x1 x2 : FVec Ideal S1024 .f32) (x3 : FVec Ideal S1024x1024 .f32) (x4 : FVec Ideal S4x256x256 .f32)
    (x5 : FVec Ideal S1024 .f32) (x6 : FVec Ideal S1024x1024 .f32) (p : Pool) : Prop :=
  Cert.BBwdRefIdeal.Val.Args x0 x1 x2 x3 x4 x5 x6 (fun _ => ((0 : ℝ) : EReal)) p

variable {x0 : FVec Ideal S8192x1024 .f32} {x1 x2 : FVec Ideal S1024 .f32} {x3 : FVec Ideal S1024x1024 .f32} {x4 : FVec Ideal S4x256x256 .f32}
  {x5 : FVec Ideal S1024 .f32} {x6 : FVec Ideal S1024x1024 .f32} {p : Pool}

theorem p_real (a : Args x0 x1 x2 x3 x4 x5 x6 p) (i : Fin 8192) (k : Fin 1024) :
    val_main_v13 (F := Ideal) x0 x1 x3 (ix2 i k) = ((p.P i k : ℝ) : EReal) :=
  (congrFun (show val_main_v13 (F := Ideal) x0 x1 x3 = Cert.BBwdRefIdeal.Read.val_main_v16 (F := Ideal) x0 x1 x3 from rfl) _).trans
    (Cert.BBwdRefIdeal.Val.P_real a i k)

set_option maxHeartbeats 2000000 in
theorem m_same : val_main_v93 (F := Ideal) x0 x1 x3 x4 x5 x6 = Cert.BBwdRefIdeal.Read.val_main_v101 (F := Ideal) x0 x1 x3 x4 x5 x6 := rfl

theorem m_real (a : Args x0 x1 x2 x3 x4 x5 x6 p) (i : Fin 8192) (k : Fin 1024) :
    val_main_v93 (F := Ideal) x0 x1 x3 x4 x5 x6 (ix2 i k) = ((p.m i k : ℝ) : EReal) :=
  (congrFun m_same _).trans (Cert.BBwdRefIdeal.Val.m_real a i k)

theorem v100 (a : Args x0 x1 x2 x3 x4 x5 x6 p) (i : Fin 8192) :
    val_main_v100 (F := Ideal) x0 x1 x3 x4 x5 x6 (ix2 i 0) = (((∑ k, p.m i k * p.m i k) / 1024 + eps : ℝ) : EReal) := by
  have h0 := m_real a
  pointwise [val_main_v100, val_main_v99, val_main_v98, val_main_v97, val_main_v96, val_main_v95, val_main_v94, val_main_cst_14, val_main_cst_15, val_main_cst_16, h0]
  simp only [← EReal.coe_mul, coe_sum, ofBits_1024, ofBits_eps]
  rw [div_real (by norm_num), ← EReal.coe_add]

theorem v101 (a : Args x0 x1 x2 x3 x4 x5 x6 p) (i : Fin 8192) :
    val_main_v101 (F := Ideal) x0 x1 x3 x4 x5 x6 (ix2 i 0) = ((rr (p.m i) : ℝ) : EReal) := by
  have h0 := v100 a i
  pointwise [val_main_v101, h0]
  rw [rsqrt_real (ms_pos _)]; rfl

theorem y_real (a : Args x0 x1 x2 x3 x4 x5 x6 p) (i : Fin 8192) (k : Fin 1024) :
    val_main_v107 (F := Ideal) x0 x1 x2 x3 x4 x5 x6 (ix2 i k) = ((p.y i k : ℝ) : EReal) := by
  have h0 := v101 a
  have h1 := m_real a
  have h2 := a.x
  have h3 := a.qg
  pointwise [val_main_v107, val_main_v106, val_main_v105, val_main_v104, val_main_v103, val_main_v102, h0, h1, h2, h3]
  simp only [← EReal.coe_mul, ← EReal.coe_add]
  rfl

end Cert.BFwdRefIdeal.Val

end
-- ==== Proof.BFwdPay.lean ====
/-
  `mix_b_fwd`: the kernel's own values on real numbers. Its pooling and its mixing are those of `mix_b_bwd`'s kernel, on
  the forward products that it computes itself.
-/
module

public import proofs.«01_k».proof.Proof.BBwdPay
public import proofs.«01_k».proof.Proof.BFwdRefValue
public import proofs.«01_k».proof.Proof.Gen.BFwdIdeal.Value

@[expose] public section

set_option maxRecDepth 16384

noncomputable section

namespace Cert.BFwdIdeal.Val

open Idealize.ShloMosaic Idealize.ShloMosaic.TcCoe Idealize.SL.Sem
open Cert.BFwdIdeal Cert.BFwdIdeal.Gen Cert.Lift
open Cert.BBwdIdeal.Val (mean_sub bk_step bk_one cols528 cols512 count tile_pay mixed_pay)

theorem coord : ∀ t : Fin cfg0.N, (grid0.coords t 0).val = t.val := (by decide +kernel : ∀ t : Fin grid0.N, _)

/-- A point, among those of the kernel of `mix_b_bwd`: both have sixteen. -/
abbrev bt (t : Fin cfg0.N) : Fin Cert.BBwdIdeal.cfg0.N :=
  ⟨t.val, by have := t.isLt; have : cfg0.N = 16 := N_0; have : Cert.BBwdIdeal.cfg0.N = 16 := Cert.BBwdIdeal.Gen.N_0; omega⟩
abbrev row (t : Fin cfg0.N) (r : Fin 512) : Fin 8192 := Cert.BBwdIdeal.Val.row (bt t) r
abbrev prev (t : Fin cfg0.N) (r : Fin 16) : Fin 8192 := Cert.BBwdIdeal.Val.prev (bt t) r

variable {p : Pool} {t : Fin cfg0.N}

/-! ### The forward products -/

section products
variable {g : FVec Ideal S1x1024 .f32} {w : FVec Ideal S1024x1024 .bf16}

theorem P_pay {x : FVec Ideal S512x1024 .f32} (hx : ∀ r k, x (ix2 r k) = ((p.x (row t r) k : ℝ) : EReal)) (hg : ∀ k, g (ix2 0 k) = ((p.pg k : ℝ) : EReal))
    (hw : ∀ l k, w (ix2 l k) = ((p.wi l k : ℝ) : EReal)) (r : Fin 512) (k : Fin 1024) :
    k0_pay2 (F := Ideal) x g w (ix2 r k) = ((p.P (row t r) k : ℝ) : EReal) := by
  pointwise [k0_pay2, k0_pay1, hx, hg, hw]
  simp only [← EReal.coe_mul, coe_sum, ofBits_1024, ofBits_eps]
  rw [div_real (by norm_num), ← EReal.coe_add, rsqrt_real (ms_pos _)]
  simp only [← EReal.coe_mul, coe_sum]
  rfl

theorem halo_pay {x : FVec Ideal S16x1024 .f32} (hx : ∀ r k, x (ix2 r k) = ((p.x (prev t r) k : ℝ) : EReal)) (hg : ∀ k, g (ix2 0 k) = ((p.pg k : ℝ) : EReal))
    (hw : ∀ l k, w (ix2 l k) = ((p.wi l k : ℝ) : EReal)) (r : Fin 16) (k : Fin 1024) :
    k0_pay3 (F := Ideal) g x w (ix2 r k) = ((p.P (prev t r) k : ℝ) : EReal) := by
  pointwise [k0_pay3, k0_pay1, hx, hg, hw]
  simp only [← EReal.coe_mul, coe_sum, ofBits_1024, ofBits_eps]
  rw [div_real (by norm_num), ← EReal.coe_add, rsqrt_real (ms_pos _)]
  simp only [← EReal.coe_mul, coe_sum]
  rfl

end products

/-! ### The pooled rows -/

section pool
variable {P : FVec Ideal S512x1024 .f32} {Pp : FVec Ideal S16x1024 .f32}

theorem tile (hP : ∀ r k, P (ix2 r k) = ((p.P (row t r) k : ℝ) : EReal)) (hPp : ∀ r k, Pp (ix2 r k) = ((p.P (prev t r) k : ℝ) : EReal))
    (r : Fin 528) (k : Fin 1024) : k0_pay4 (F := Ideal) (BitVec.ofNat 32 (grid0.coords t 0).val) P Pp 0#32 (ix2 r k) = ((Cert.BBwdIdeal.Val.zb p (bt t) k r.val : ℝ) : EReal) := by
  have h := tile_pay hP hPp r k
  unfold Cert.BBwdIdeal.Gen.k0_pay12 Cert.BBwdIdeal.Gen.k0_pay10 at h
  rw [Cert.BBwdIdeal.Val.coord, shapeCast_self, shapeCast_self] at h
  rw [coord]
  exact h

theorem pooled0 (hP : ∀ r k, P (ix2 r k) = ((p.P (row t r) k : ℝ) : EReal)) (hPp : ∀ r k, Pp (ix2 r k) = ((p.P (prev t r) k : ℝ) : EReal))
    (r : Fin 512) (d : Fin 256) : k0_pay5 (F := Ideal) (BitVec.ofNat 32 (grid0.coords t 0).val) P Pp 0#32 (ix2 r d) = ((p.pooled (row t r) 0 d : ℝ) : EReal) := by
  have ht := tile hP hPp
  rw [coord] at ht ⊢
  unfold k0_pay5
  exact mean_sub 0 _ _ (fun r hr d => bk_step 1 1#32 rfl (by omega) _ (fun r _ => (cols528 ht 0 _ r d).trans (congrArg _ (bk_one _ _).symm)) r hr)
    (count (bt t) 2 (by omega) _) (cols512 hP 0 _) r d

theorem pooled1 (hP : ∀ r k, P (ix2 r k) = ((p.P (row t r) k : ℝ) : EReal)) (hPp : ∀ r k, Pp (ix2 r k) = ((p.P (prev t r) k : ℝ) : EReal))
    (r : Fin 512) (d : Fin 256) : k0_pay6 (F := Ideal) (BitVec.ofNat 32 (grid0.coords t 0).val) P Pp 0#32 (ix2 r d) = ((p.pooled (row t r) 1 d : ℝ) : EReal) := by
  have ht := tile hP hPp
  rw [coord] at ht ⊢
  unfold k0_pay6
  exact mean_sub 1 _ _ (fun r hr d => bk_step 2 2#32 rfl (by omega) _ (bk_step 1 1#32 rfl (by omega) _ (fun r _ => (cols528 ht 1 _ r d).trans (congrArg _ (bk_one _ _).symm))) r hr)
    (count (bt t) 4 (by omega) _) (cols512 hP 1 _) r d

theorem pooled2 (hP : ∀ r k, P (ix2 r k) = ((p.P (row t r) k : ℝ) : EReal)) (hPp : ∀ r k, Pp (ix2 r k) = ((p.P (prev t r) k : ℝ) : EReal))
    (r : Fin 512) (d : Fin 256) : k0_pay8 (F := Ideal) (BitVec.ofNat 32 (grid0.coords t 0).val) P (k0_pay7 (BitVec.ofNat 32 (grid0.coords t 0).val) P Pp 0#32) (ix2 r d) = ((p.pooled (row t r) 2 d : ℝ) : EReal) := by
  have ht := tile hP hPp
  rw [coord] at ht ⊢
  unfold k0_pay8 k0_pay7
  exact mean_sub 2 _ _ (fun r hr d => bk_step 4 4#32 rfl (by omega) _ (bk_step 2 2#32 rfl (by omega) _ (bk_step 1 1#32 rfl (by omega) _ (fun r _ => (cols528 ht 2 _ r d).trans (congrArg _ (bk_one _ _).symm)))) r hr)
    (count (bt t) 8 (by omega) _) (cols512 hP 2 _) r d

theorem pooled3 (hP : ∀ r k, P (ix2 r k) = ((p.P (row t r) k : ℝ) : EReal)) (hPp : ∀ r k, Pp (ix2 r k) = ((p.P (prev t r) k : ℝ) : EReal))
    (r : Fin 512) (d : Fin 256) : k0_pay9 (F := Ideal) (BitVec.ofNat 32 (grid0.coords t 0).val) P (k0_pay4 (BitVec.ofNat 32 (grid0.coords t 0).val) P Pp 0#32) (ix2 r d) = ((p.pooled (row t r) 3 d : ℝ) : EReal) := by
  have ht := tile hP hPp
  rw [coord] at ht ⊢
  unfold k0_pay9
  exact mean_sub 3 _ _ (fun r hr d => bk_step 8 8#32 rfl (by omega) _ (bk_step 4 4#32 rfl (by omega) _ (bk_step 2 2#32 rfl (by omega) _ (bk_step 1 1#32 rfl (by omega) _ (fun r _ => (cols528 ht 3 _ r d).trans (congrArg _ (bk_one _ _).symm))))) r hr)
    (count (bt t) 16 (by omega) _) (cols512 hP 3 _) r d

end pool

/-! ### The mixed rows and the output -/

section out
variable {sc qg : FVec Ideal S1x1024 .f32} {wo : FVec Ideal S1024x1024 .bf16} {w0 w1 w2 w3 : FVec Ideal S1x256x256 .bf16} {p0 p1 p2 p3 : FVec Ideal S512x256 .f32}

/-- The last product, on rows already mixed. -/
theorem m_of {X : FVec Ideal S512x1024 .f32} (hX : ∀ r k, X (ix2 r k) = ((p.mixed (row t r) k : ℝ) : EReal)) (hs : ∀ k, sc (ix2 0 k) = ((p.sc k : ℝ) : EReal))
    (hw : ∀ l k, wo (ix2 l k) = ((p.wo l k : ℝ) : EReal)) (r : Fin 512) (k : Fin 1024) :
    matmul (F := Ideal) dot_S512x1024_S1024x1024_S512x1024_1_0_0_1_n_n none
      (truncf .bf16 (mulf X (broadcastTo S512x1024 (shapeCast S1x1024 sc shapeCasts_S1x1024_S1x1024) broadcasts_S1x1024_S512x1024)) bitsLt_bf16_f32)
      (shapeCast S1024x1024 wo shapeCasts_S1024x1024_S1024x1024) (constant S512x1024 .f32 0x00000000#32) (ix2 r k) = ((p.m (row t r) k : ℝ) : EReal) := by
  pointwise [hX, hs, hw]
  simp only [← EReal.coe_mul, coe_sum]
  rfl

theorem m_pay (h0 : ∀ r d, p0 (ix2 r d) = ((p.pooled (row t r) 0 d : ℝ) : EReal)) (h1 : ∀ r d, p1 (ix2 r d) = ((p.pooled (row t r) 1 d : ℝ) : EReal))
    (h2 : ∀ r d, p2 (ix2 r d) = ((p.pooled (row t r) 2 d : ℝ) : EReal)) (h3 : ∀ r d, p3 (ix2 r d) = ((p.pooled (row t r) 3 d : ℝ) : EReal))
    (e0 : ∀ d e, w0 (ix3 0 d e) = ((p.wg 0 d e : ℝ) : EReal)) (e1 : ∀ d e, w1 (ix3 0 d e) = ((p.wg 1 d e : ℝ) : EReal))
    (e2 : ∀ d e, w2 (ix3 0 d e) = ((p.wg 2 d e : ℝ) : EReal)) (e3 : ∀ d e, w3 (ix3 0 d e) = ((p.wg 3 d e : ℝ) : EReal))
    (hs : ∀ k, sc (ix2 0 k) = ((p.sc k : ℝ) : EReal)) (hw : ∀ l k, wo (ix2 l k) = ((p.wo l k : ℝ) : EReal)) (r : Fin 512) (k : Fin 1024) :
    k0_pay12 (F := Ideal) p2 p3 (k0_pay10 p0 w0) (k0_pay11 p1) w1 w2 w3 sc wo (ix2 r k) = ((p.m (row t r) k : ℝ) : EReal) := by
  refine m_of (X := Cert.BBwdIdeal.Gen.k0_pay27 (F := Ideal) (truncf .bf16 p0 bitsLt_bf16_f32) (truncf .bf16 p1 bitsLt_bf16_f32) (truncf .bf16 p2 bitsLt_bf16_f32) (truncf .bf16 p3 bitsLt_bf16_f32)
    (Cert.BBwdIdeal.Gen.k0_pay26 w0) (constant S512x256 .f32 0#32) w1 w2 w3) ?_ hs hw r k
  exact mixed_pay (t := bt t) h0 h1 h2 h3 e0 e1 e2 e3

theorem y_pay {x : FVec Ideal S512x1024 .f32} {v : FVec Ideal S512x256 .f32} {b : FVec Ideal S512x256 .bf16}
    (hm : ∀ r k, k0_pay12 (F := Ideal) p2 p3 v b w1 w2 w3 sc wo (ix2 r k) = ((p.m (row t r) k : ℝ) : EReal))
    (hx : ∀ r k, x (ix2 r k) = ((p.x (row t r) k : ℝ) : EReal)) (hq : ∀ k, qg (ix2 0 k) = ((p.qg k : ℝ) : EReal)) (r : Fin 512) (k : Fin 1024) :
    k0_pay13 (F := Ideal) x p2 p3 v b w1 w2 w3 sc wo qg (ix2 r k) = ((p.y (row t r) k : ℝ) : EReal) := by
  pointwise [k0_pay13, hm, hx, hq]
  simp only [← EReal.coe_mul, coe_sum, ofBits_1024, ofBits_eps]
  rw [div_real (by norm_num), ← EReal.coe_add, rsqrt_real (ms_pos _)]
  simp only [← EReal.coe_mul, ← EReal.coe_add]
  rfl

end out

end Cert.BFwdIdeal.Val

end
-- ==== Proof.BFwdValue.lean ====
/-
  The results of the kernel of `mix_b_fwd`, entry by entry, on real arguments.
-/
module

public import proofs.«01_k».proof.Proof.BFwdPay
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.BFwdIdeal.Val

open Idealize.ShloMosaic Idealize.ShloMosaic.TcCoe Idealize.SL.Sem
open Cert.BFwdIdeal Cert.BFwdIdeal.Gen Cert.Lift

/-- The arguments are real numbers. -/
abbrev Args (m : (ℓ : Loc nD τ sig) → Buf (Elt Ideal) ℓ) (c : Dev nD) (p : Pool) : Prop :=
  Cert.BFwdRefIdeal.Val.Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) p

theorem idx : ∀ t : Fin cfg0.N, win0_0.index t = ![t.val, 0] ∧ win0_1.index t = ![t.val * 32 - 1, 0] ∧ win0_2.index t = ![0, 0]
    ∧ win0_3.index t = ![0, 0] ∧ win0_4.index t = ![0, 0] ∧ win0_5.index t = ![0, 0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

variable {m : (ℓ : Loc nD τ sig) → Buf (Elt Ideal) ℓ} {c : Dev nD} {p : Pool}

/-! ### The blocks, from the arguments -/

theorem x_real (a : Args m c p) (t : Fin cfg0.N) (r : Fin 512) (k : Fin 1024) : iblk m c 0 t (ix2 r k) = ((p.x (row t r) k : ℝ) : EReal) := by
  have h : iblk m c 0 t (ix2 r k) = (V m c main_arg0 : FVec Ideal S8192x1024 .f32) (ix2 (row t r) k) := by blk_point [iblk, idx t]
  rw [h, V_main_arg0]; exact a.x _ _
theorem xh_real (a : Args m c p) (t : Fin cfg0.N) (r : Fin 16) (k : Fin 1024) : iblk m c 1 t (ix2 r k) = ((p.x (prev t r) k : ℝ) : EReal) := by
  have h : iblk m c 1 t (ix2 r k) = (V m c main_arg0 : FVec Ideal S8192x1024 .f32) (ix2 (prev t r) k) := by blk_point [iblk, idx t]
  rw [h, V_main_arg0]; exact a.x _ _
theorem V_pg (c : Dev nD) (k : Fin 1024) : (V m c main_v0 : FVec Ideal S1x1024 .f32) (ix2 0 k) = m ((c.tc : Thread nD τ).loc main_arg1) (ix1 k) := by
  unfold V; after_reads_at
theorem pg_real (a : Args m c p) (t : Fin cfg0.N) (k : Fin 1024) : iblk m c 2 t (ix2 0 k) = ((p.pg k : ℝ) : EReal) := by
  have h : iblk m c 2 t (ix2 0 k) = (V m c main_v0 : FVec Ideal S1x1024 .f32) (ix2 0 k) := by blk_point [iblk, idx t]
  exact h.trans ((V_pg c k).trans (a.pg _))
theorem V_qg (c : Dev nD) (k : Fin 1024) : (V m c main_v1 : FVec Ideal S1x1024 .f32) (ix2 0 k) = m ((c.tc : Thread nD τ).loc main_arg2) (ix1 k) := by
  unfold V; after_reads_at
theorem qg_real (a : Args m c p) (t : Fin cfg0.N) (k : Fin 1024) : iblk m c 3 t (ix2 0 k) = ((p.qg k : ℝ) : EReal) := by
  have h : iblk m c 3 t (ix2 0 k) = (V m c main_v1 : FVec Ideal S1x1024 .f32) (ix2 0 k) := by blk_point [iblk, idx t]
  exact h.trans ((V_qg c k).trans (a.qg _))
theorem V_wi (c : Dev nD) (l k : Fin 1024) : (V m c main_v2 : FVec Ideal S1024x1024 .bf16) (ix2 l k) = m ((c.tc : Thread nD τ).loc main_arg3) (ix2 l k) := by
  unfold V; after_reads_at
theorem wi_real (a : Args m c p) (t : Fin cfg0.N) (l k : Fin 1024) : iblk m c 4 t (ix2 l k) = ((p.wi l k : ℝ) : EReal) := by
  have h : iblk m c 4 t (ix2 l k) = (V m c main_v2 : FVec Ideal S1024x1024 .bf16) (ix2 l k) := by blk_point [iblk, idx t]
  exact h.trans ((V_wi c l k).trans (a.wi _ _))
theorem V_wg (c : Dev nD) (g : Fin 4) (d e : Fin 256) : (V m c main_v3 : FVec Ideal S4x256x256 .bf16) (ix3 g d e) = m ((c.tc : Thread nD τ).loc main_arg4) (ix3 g d e) := by
  unfold V; after_reads_at
theorem wg_real (a : Args m c p) (t : Fin cfg0.N) (g : Fin 4) (d e : Fin 256) : iblk m c 5 t (ix3 g d e) = ((p.wg g d e : ℝ) : EReal) := by
  have h : iblk m c 5 t (ix3 g d e) = (V m c main_v3 : FVec Ideal S4x256x256 .bf16) (ix3 g d e) := by blk_point [iblk, idx t]
  exact h.trans ((V_wg c g d e).trans (a.wg _ _ _))
theorem ld_wg (a : Args m c p) (t : Fin cfg0.N) (g : Fin 4)
    (h : ∀ i, (![g.val, 0, 0] : Fin 3 → ℕ) i + (![1, 256, 256] : Fin 3 → ℕ) i ≤ S4x256x256.size i) (d e : Fin 256) :
    View.ld (Val := Elt Ideal) (e' := EltTy.bf16) (iblk m c 5 t) (Rect.unit ![g.val, 0, 0] ![1, 256, 256] h) (ix3 0 d e) = ((p.wg g d e : ℝ) : EReal) :=
  (congrArg (iblk m c 5 t) (show (Rect.unit ![g.val, 0, 0] ![1, 256, 256] h).emb (ix3 0 d e) = ix3 g d e by blk_ext)).trans (wg_real a t g d e)
theorem V_sc (c : Dev nD) (k : Fin 1024) : (V m c main_v4 : FVec Ideal S1x1024 .f32) (ix2 0 k) = m ((c.tc : Thread nD τ).loc main_arg5) (ix1 k) := by
  unfold V; after_reads_at
theorem sc_real (a : Args m c p) (t : Fin cfg0.N) (k : Fin 1024) : iblk m c 6 t (ix2 0 k) = ((p.sc k : ℝ) : EReal) := by
  have h : iblk m c 6 t (ix2 0 k) = (V m c main_v4 : FVec Ideal S1x1024 .f32) (ix2 0 k) := by blk_point [iblk, idx t]
  exact h.trans ((V_sc c k).trans (a.sc _))
theorem V_wo (c : Dev nD) (l k : Fin 1024) : (V m c main_v5 : FVec Ideal S1024x1024 .bf16) (ix2 l k) = m ((c.tc : Thread nD τ).loc main_arg6) (ix2 l k) := by
  unfold V; after_reads_at
theorem wo_real (a : Args m c p) (t : Fin cfg0.N) (l k : Fin 1024) : iblk m c 7 t (ix2 l k) = ((p.wo l k : ℝ) : EReal) := by
  have h : iblk m c 7 t (ix2 l k) = (V m c main_v5 : FVec Ideal S1024x1024 .bf16) (ix2 l k) := by blk_point [iblk, idx t]
  exact h.trans ((V_wo c l k).trans (a.wo _ _))

/-! ### The results -/

theorem p_outs (a : Args m c p) (t : Fin cfg0.N) (r : Fin 512) (k : Fin 1024) :
    out0_9 (grid0.coords t) (iblk m c 0 t) (iblk m c 1 t) (iblk m c 2 t) (iblk m c 3 t) (iblk m c 4 t) (iblk m c 5 t) (iblk m c 6 t) (iblk m c 7 t) (ix2 r k) = ((p.P (row t r) k : ℝ) : EReal) := by
  unfold_out out0_9; frame_out
  exact P_pay (x_real a t) (pg_real a t) (wi_real a t) r k

/-- The layer's products before the last norm, as both stores name them. -/
theorem m_term (a : Args m c p) (t : Fin cfg0.N) (h0) (h1) (h2) (h3) (r : Fin 512) (k : Fin 1024) :
    k0_pay12 (F := Ideal)
      (k0_pay8 (BitVec.ofNat 32 (grid0.coords t 0).val) (k0_pay2 (iblk m c 0 t) (iblk m c 2 t) (iblk m c 4 t))
        (k0_pay7 (BitVec.ofNat 32 (grid0.coords t 0).val) (k0_pay2 (iblk m c 0 t) (iblk m c 2 t) (iblk m c 4 t)) (k0_pay3 (iblk m c 2 t) (iblk m c 1 t) (iblk m c 4 t)) 0#32))
      (k0_pay9 (BitVec.ofNat 32 (grid0.coords t 0).val) (k0_pay2 (iblk m c 0 t) (iblk m c 2 t) (iblk m c 4 t))
        (k0_pay4 (BitVec.ofNat 32 (grid0.coords t 0).val) (k0_pay2 (iblk m c 0 t) (iblk m c 2 t) (iblk m c 4 t)) (k0_pay3 (iblk m c 2 t) (iblk m c 1 t) (iblk m c 4 t)) 0#32))
      (k0_pay10 (k0_pay5 (BitVec.ofNat 32 (grid0.coords t 0).val) (k0_pay2 (iblk m c 0 t) (iblk m c 2 t) (iblk m c 4 t)) (k0_pay3 (iblk m c 2 t) (iblk m c 1 t) (iblk m c 4 t)) 0#32)
        (View.ld (Val := Elt Ideal) (e' := EltTy.bf16) (iblk m c 5 t) (Rect.unit (s := S4x256x256) ![0, 0, 0] ![1, 256, 256] h0)))
      (k0_pay11 (k0_pay6 (BitVec.ofNat 32 (grid0.coords t 0).val) (k0_pay2 (iblk m c 0 t) (iblk m c 2 t) (iblk m c 4 t)) (k0_pay3 (iblk m c 2 t) (iblk m c 1 t) (iblk m c 4 t)) 0#32))
      (View.ld (Val := Elt Ideal) (e' := EltTy.bf16) (iblk m c 5 t) (Rect.unit (s := S4x256x256) ![1, 0, 0] ![1, 256, 256] h1))
      (View.ld (Val := Elt Ideal) (e' := EltTy.bf16) (iblk m c 5 t) (Rect.unit (s := S4x256x256) ![2, 0, 0] ![1, 256, 256] h2))
      (View.ld (Val := Elt Ideal) (e' := EltTy.bf16) (iblk m c 5 t) (Rect.unit (s := S4x256x256) ![3, 0, 0] ![1, 256, 256] h3))
      (iblk m c 6 t) (iblk m c 7 t) (ix2 r k) = ((p.m (row t r) k : ℝ) : EReal) := by
  have hP := P_pay (x_real a t) (pg_real a t) (wi_real a t)
  have hH := halo_pay (xh_real a t) (pg_real a t) (wi_real a t)
  exact m_pay (pooled0 hP hH) (pooled1 hP hH) (pooled2 hP hH) (pooled3 hP hH) (ld_wg a t 0 h0) (ld_wg a t 1 h1) (ld_wg a t 2 h2) (ld_wg a t 3 h3)
    (sc_real a t) (wo_real a t) r k

theorem m_outs (a : Args m c p) (t : Fin cfg0.N) (r : Fin 512) (k : Fin 1024) :
    out0_10 (grid0.coords t) (iblk m c 0 t) (iblk m c 1 t) (iblk m c 2 t) (iblk m c 3 t) (iblk m c 4 t) (iblk m c 5 t) (iblk m c 6 t) (iblk m c 7 t) (ix2 r k) = ((p.m (row t r) k : ℝ) : EReal) := by
  unfold_out out0_10; frame_out
  exact m_term a t _ _ _ _ r k

theorem y_outs (a : Args m c p) (t : Fin cfg0.N) (r : Fin 512) (k : Fin 1024) :
    out0_8 (grid0.coords t) (iblk m c 0 t) (iblk m c 1 t) (iblk m c 2 t) (iblk m c 3 t) (iblk m c 4 t) (iblk m c 5 t) (iblk m c 6 t) (iblk m c 7 t) (ix2 r k) = ((p.y (row t r) k : ℝ) : EReal) := by
  unfold_out out0_8; frame_out
  exact y_pay (m_term a t _ _ _ _) (x_real a t) (qg_real a t) r k

theorem y_eq (a : Args m c p) : (dats m 0 c).arrAt 8 cfg0.N = fun y => ((p.y (y 0) (y 1) : ℝ) : EReal) := by
  refine (dats m 0 c).arrAt_eq_of_covers 8 _ (by decide +kernel) fun t hf y => ?_
  obtain ⟨r, k, rfl⟩ : ∃ r k, y = ix2 r k := ⟨y 0, y 1, by blk_ext⟩
  blk_simp
  rw [after0_8]
  have e : ((cfg0.win 8).blk t).view.emb (ix2 r k) = ix2 (row t r) k := by blk_ext [idx t]
  rw [e]
  exact y_outs a t r k

theorem p_eq (a : Args m c p) : (dats m 0 c).arrAt 9 cfg0.N = fun y => ((p.P (y 0) (y 1) : ℝ) : EReal) := by
  refine (dats m 0 c).arrAt_eq_of_covers 9 _ (by decide +kernel) fun t hf y => ?_
  obtain ⟨r, k, rfl⟩ : ∃ r k, y = ix2 r k := ⟨y 0, y 1, by blk_ext⟩
  blk_simp
  rw [after0_9]
  have e : ((cfg0.win 9).blk t).view.emb (ix2 r k) = ix2 (row t r) k := by blk_ext [idx t]
  rw [e]
  exact p_outs a t r k

theorem m_eq (a : Args m c p) : (dats m 0 c).arrAt 10 cfg0.N = fun y => ((p.m (y 0) (y 1) : ℝ) : EReal) := by
  refine (dats m 0 c).arrAt_eq_of_covers 10 _ (by decide +kernel) fun t hf y => ?_
  obtain ⟨r, k, rfl⟩ : ∃ r k, y = ix2 r k := ⟨y 0, y 1, by blk_ext⟩
  blk_simp
  rw [after0_10]
  have e : ((cfg0.win 10).blk t).view.emb (ix2 r k) = ix2 (row t r) k := by blk_ext [idx t]
  rw [e]
  exact m_outs a t r k

end Cert.BFwdIdeal.Val

end
-- ==== Proof.BFwdClaim.lean ====
/-
  `mix_b_fwd`: the kernel and the reference end with equal results on finite arguments.
-/
module

public import proofs.«01_k».proof.Defs
public import proofs.«01_k».proof.Proof.BFwdValue
public import proofs.«01_k».proof.Proof.Gen.BFwdIdeal.Value
public import proofs.«01_k».proof.Proof.Gen.BFwdRefIdeal.Run
public import proofs.«01_k».proof.Proof.Gen.Pre_b_fwd_finite
public import Idealize.ShloMosaic.Adequacy
public import Idealize.ShloMosaic.Init

@[expose] public section

set_option maxRecDepth 16384

noncomputable section

namespace Cert.BFwdIdeal.Val

open Idealize.ShloMosaic Idealize.ShloMosaic.TcCoe Idealize.SL.Sem
open Cert.BFwdIdeal Cert.Lift

/-- The real numbers of the arguments. -/
def reals (m : (ℓ : Loc nD τ sig) → Buf (Elt Ideal) ℓ) (c : Dev nD) : Pool where
  x i j := re (s := S8192x1024) (m ((c.tc : Thread nD τ).loc main_arg0)) (ix2 i j)
  pg i := re (s := S1024) (m ((c.tc : Thread nD τ).loc main_arg1)) (ix1 i)
  qg i := re (s := S1024) (m ((c.tc : Thread nD τ).loc main_arg2)) (ix1 i)
  wi i j := re (s := S1024x1024) (m ((c.tc : Thread nD τ).loc main_arg3)) (ix2 i j)
  wg i j k := re (s := S4x256x256) (m ((c.tc : Thread nD τ).loc main_arg4)) (ix3 i j k)
  sc i := re (s := S1024) (m ((c.tc : Thread nD τ).loc main_arg5)) (ix1 i)
  wo i j := re (s := S1024x1024) (m ((c.tc : Thread nD τ).loc main_arg6)) (ix2 i j)
  dy _ _ := 0

/-- What the precondition says: the arguments are arrays of real numbers. -/
theorem finite_args {m : (ℓ : Loc nD τ sig) → Buf (Elt Ideal) ℓ} (h : Cert.Pre_BFwdIdeal_b_fwd_finite m) (c : Dev nD) :
    Args m c (reals m c) := by
  have e := congrFun (h c) (fun i => i.elim0)
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm,
    fun _ => (fin_of_all _ _ _ _ _ _ h1 _).symm,
    fun _ => (fin_of_all _ _ _ _ _ _ h2 _).symm,
    fun _ _ => (fin_of_all _ _ _ _ _ _ h3 _).symm,
    fun _ _ _ => (fin_of_all _ _ _ _ _ _ h4 _).symm,
    fun _ => (fin_of_all _ _ _ _ _ _ h5 _).symm,
    fun _ _ => (fin_of_all _ _ _ _ _ _ h6 _).symm,
    fun _ _ => rfl⟩

set_option maxHeartbeats 1000000 in
theorem algebraic : Cert.algebraic_BFwdIdeal_BFwdRefIdeal_pre_b_fwd_finite := by
  pair_intro
  · run_from Cert.BFwdIdeal.Value.run_blocks m g
  · run_from Cert.BFwdRefIdeal.Value.run m' g'
    all_goals have a := finite_args hpre c
    all_goals obtain ⟨a0, a1, a2, a3, a4, a5, a6⟩ := hagree c
    all_goals have b : Cert.BFwdRefIdeal.Val.Args (m' ((c.tc : Thread BFwdRefIdeal.nD BFwdRefIdeal.τ).loc BFwdRefIdeal.main_arg0)) (m' ((c.tc : Thread BFwdRefIdeal.nD BFwdRefIdeal.τ).loc BFwdRefIdeal.main_arg1)) (m' ((c.tc : Thread BFwdRefIdeal.nD BFwdRefIdeal.τ).loc BFwdRefIdeal.main_arg2)) (m' ((c.tc : Thread BFwdRefIdeal.nD BFwdRefIdeal.τ).loc BFwdRefIdeal.main_arg3)) (m' ((c.tc : Thread BFwdRefIdeal.nD BFwdRefIdeal.τ).loc BFwdRefIdeal.main_arg4)) (m' ((c.tc : Thread BFwdRefIdeal.nD BFwdRefIdeal.τ).loc BFwdRefIdeal.main_arg5)) (m' ((c.tc : Thread BFwdRefIdeal.nD BFwdRefIdeal.τ).loc BFwdRefIdeal.main_arg6)) (reals m c) := (by rw [a0, a1, a2, a3, a4, a5, a6]; exact a)
    · rw [y_eq a, Cert.BFwdRefIdeal.Read.val_main_v107_eq]
      funext y
      obtain ⟨i, k, rfl⟩ : ∃ i k, y = ix2 i k := ⟨y 0, y 1, by blk_ext⟩
      exact Cert.BFwdRefIdeal.Val.y_real b i k
    · rw [p_eq a]
      refine (Cert.BFwdRefIdeal.Read.val_main_v13_eq (F := Ideal) _ _ _).trans (funext fun y => ?_)
      obtain ⟨i, k, rfl⟩ : ∃ i k, y = ix2 i k := ⟨y 0, y 1, by blk_ext⟩
      exact Cert.BFwdRefIdeal.Val.p_real a i k
    · rw [m_eq a, Cert.BFwdRefIdeal.Read.val_main_v93_eq]
      funext y
      obtain ⟨i, k, rfl⟩ : ∃ i k, y = ix2 i k := ⟨y 0, y 1, by blk_ext⟩
      exact Cert.BFwdRefIdeal.Val.m_real b i k

/-- The reference runs to its end, leaves its arguments as they were and every semaphore at zero. -/
theorem ref_frame : Cert.quiescent_BFwdRefIdeal := fun m g _ =>
  (θ_run Cert.BFwdRefIdeal.defs _ _).mono (fun r h => ⟨fun c => (h c).2.2.2,
      sem_eq_zero_of_no_sems (by decide) r.2⟩)
    (Cert.BFwdRefIdeal.Value.run (F := Ideal) m g)

end Cert.BFwdIdeal.Val

end
-- ==== Proof.FfnFwdRefValue.lean ====
/-
  A SwiGLU feed-forward layer under the loss, on real numbers, and the results of its reference, entry by entry.
-/
module

public import proofs.«01_k».proof.Proof.Gmlp
public import proofs.«01_k».proof.Proof.Gen.FfnFwdRefIdeal.Read
public import Idealize.ShloMosaic.Lib.Pointwise

@[expose] public section

set_option maxRecDepth 16384

noncomputable section

namespace Cert.Lift

/-- The layer's rows, its two gains, its three weights and the rows that the output is compared with. -/
structure Ffn where
  x : Fin 8192 → Fin 1024 → ℝ
  pg : Fin 1024 → ℝ
  qg : Fin 1024 → ℝ
  wg : Fin 1024 → Fin 2816 → ℝ
  wu : Fin 1024 → Fin 2816 → ℝ
  wd : Fin 2816 → Fin 1024 → ℝ
  tg : Fin 8192 → Fin 1024 → ℝ

namespace Ffn

variable (q : Ffn)

/-- The normed rows. -/
def h (i : Fin 8192) (k : Fin 1024) : ℝ := q.x i k * rr (q.x i) * q.pg k
/-- The layer's hidden part, on the two projections of the normed rows; there is no gradient above it. -/
def lay : Swiglu where
  gate i j := ∑ l, q.h i l * q.wg l j
  up i j := ∑ l, q.h i l * q.wu l j
  w := q.wd
  g := q.qg
  dy _ _ := 0
/-- The activated gate. -/
def sg (i : Fin 8192) (j : Fin 2816) : ℝ := q.lay.gate i j * lgs (q.lay.gate i j)
/-- The layer's output. -/
def y (i : Fin 8192) (k : Fin 1024) : ℝ := q.x i k + q.lay.f i k * rr (q.lay.f i) * q.qg k
/-- How far the output is from what it is compared with. -/
def err (i : Fin 8192) (k : Fin 1024) : ℝ := q.y i k - q.tg i k

end Ffn

end Cert.Lift

namespace Cert.FfnFwdRefIdeal.Val

open Idealize.ShloMosaic Idealize.ShloMosaic.TcCoe Idealize.SL.Sem
open Cert.FfnFwdRefIdeal Cert.FfnFwdRefIdeal.Gen Cert.FfnFwdRefIdeal.Read Cert.Lift

/-- The arguments are real numbers. -/
structure Args (x0 : FVec Ideal S8192x1024 .f32) (x1 x2 : FVec Ideal S1024 .f32) (x3 x4 : FVec Ideal S1024x2816 .f32) (x5 : FVec Ideal S2816x1024 .f32)
    (x6 : FVec Ideal S8192x1024 .f32) (q : Ffn) : Prop where
  x : ∀ i k, x0 (ix2 i k) = ((q.x i k : ℝ) : EReal)
  pg : ∀ k, x1 (ix1 k) = ((q.pg k : ℝ) : EReal)
  qg : ∀ k, x2 (ix1 k) = ((q.qg k : ℝ) : EReal)
  wg : ∀ l j, x3 (ix2 l j) = ((q.wg l j : ℝ) : EReal)
  wu : ∀ l j, x4 (ix2 l j) = ((q.wu l j : ℝ) : EReal)
  wd : ∀ j k, x5 (ix2 j k) = ((q.wd j k : ℝ) : EReal)
  tg : ∀ i k, x6 (ix2 i k) = ((q.tg i k : ℝ) : EReal)

variable {x0 : FVec Ideal S8192x1024 .f32} {x1 x2 : FVec Ideal S1024 .f32} {x3 x4 : FVec Ideal S1024x2816 .f32} {x5 : FVec Ideal S2816x1024 .f32}
  {x6 : FVec Ideal S8192x1024 .f32} {q : Ffn}

theorem v7 (a : Args x0 x1 x2 x3 x4 x5 x6 q) (i : Fin 8192) :
    val_main_v7 (F := Ideal) x0 (ix2 i 0) = ((rr (q.x i) : ℝ) : EReal) := by
  have h := a.x
  pointwise [val_main_v7, val_main_v6, val_main_v5, val_main_v4, val_main_v3, val_main_v2, val_main_v1, val_main_v0, val_main_cst, val_main_cst_0, val_main_cst_1, h]
  simp only [← EReal.coe_mul, coe_sum, ofBits_1024, ofBits_eps]
  rw [div_real (by norm_num), ← EReal.coe_add, rsqrt_real (ms_pos _)]; rfl

theorem h_real (a : Args x0 x1 x2 x3 x4 x5 x6 q) (i : Fin 8192) (k : Fin 1024) :
    val_main_v12 (F := Ideal) x0 x1 (ix2 i k) = ((q.h i k : ℝ) : EReal) := by
  have h := v7 a
  have hx := a.x
  have hg := a.pg
  pointwise [val_main_v12, val_main_v11, val_main_v10, val_main_v9, val_main_v8, h, hx, hg]
  simp only [← EReal.coe_mul]; rfl

theorem gate_real (a : Args x0 x1 x2 x3 x4 x5 x6 q) (i : Fin 8192) (j : Fin 2816) :
    val_main_v13 (F := Ideal) x0 x1 x3 (ix2 i j) = ((q.lay.gate i j : ℝ) : EReal) := by
  have h := h_real a
  have hw := a.wg
  pointwise [val_main_v13, h, hw]
  simp only [← EReal.coe_mul, coe_sum]; rfl

theorem up_real (a : Args x0 x1 x2 x3 x4 x5 x6 q) (i : Fin 8192) (j : Fin 2816) :
    val_main_v14 (F := Ideal) x0 x1 x4 (ix2 i j) = ((q.lay.up i j : ℝ) : EReal) := by
  have h := h_real a
  have hw := a.wu
  pointwise [val_main_v14, h, hw]
  simp only [← EReal.coe_mul, coe_sum]; rfl

theorem s_real (a : Args x0 x1 x2 x3 x4 x5 x6 q) (i : Fin 8192) (j : Fin 2816) :
    val_main_v15_2 (F := Ideal) x0 x1 x3 (ix2 i j) = ((lgs (q.lay.gate i j) : ℝ) : EReal) := by
  have h := gate_real a
  pointwise [val_main_v15_2, val_main_call0_v4, val_main_call0_v3, val_main_call0_v2, val_main_call0_v1, val_main_call0_v0, val_main_call0_cst, val_main_call0_cst_0, h]
  rw [lgs_real]

theorem sg_real (a : Args x0 x1 x2 x3 x4 x5 x6 q) (i : Fin 8192) (j : Fin 2816) :
    val_main_v15_0 (F := Ideal) x0 x1 x3 (ix2 i j) = ((q.sg i j : ℝ) : EReal) := by
  have h := gate_real a
  have s := s_real a
  pointwise [val_main_v15_0, h, s]
  rw [← EReal.coe_mul]; rfl

theorem act2 (a : Args x0 x1 x2 x3 x4 x5 x6 q) (i : Fin 8192) (j : Fin 2816) :
    val_main_v16 (F := Ideal) x0 x1 x3 x4 (ix2 i j) = ((q.lay.act i j : ℝ) : EReal) := by
  have h := up_real a
  have s := sg_real a
  pointwise [val_main_v16, h, s]
  rw [← EReal.coe_mul]; rfl

theorem act_real (a : Args x0 x1 x2 x3 x4 x5 x6 q) (b : Fin 1) (i : Fin 8192) (j : Fin 2816) :
    val_main_v52 (F := Ideal) x0 x1 x3 x4 (ix3 b i j) = ((q.lay.act i j : ℝ) : EReal) := by
  have h := act2 a
  pointwise [val_main_v52, val_main_v51, h]

theorem dup_real (a : Args x0 x1 x2 x3 x4 x5 x6 q) (b : Fin 1) (i : Fin 8192) (j : Fin 2816) :
    val_main_v54 (F := Ideal) x0 x1 x3 (ix3 b i j) = ((q.sg i j : ℝ) : EReal) := by
  have h := sg_real a
  pointwise [val_main_v54, val_main_v53, val_main_v18, val_main_v17, val_main_cst_2, h]

theorem slope_real (a : Args x0 x1 x2 x3 x4 x5 x6 q) (b : Fin 1) (i : Fin 8192) (j : Fin 2816) :
    val_main_v56 (F := Ideal) x0 x1 x3 x4 (ix3 b i j) = ((q.lay.slope i j : ℝ) : EReal) := by
  have h := gate_real a
  have u := up_real a
  have s := s_real a
  pointwise [val_main_v56, val_main_v55, val_main_v20, val_main_call1_v2, val_main_call1_v1, val_main_call1_v0, val_main_v19, val_main_v17, val_main_cst_2, val_main_v15_1, val_main_call0_v7, val_main_call0_v6, val_main_call0_cst_1, h, u, s]
  simp only [← EReal.coe_one, ← EReal.coe_mul, ← EReal.coe_sub, ← EReal.coe_add]
  refine congrArg _ ?_
  rw [Swiglu.slope]; ring

theorem f_real (a : Args x0 x1 x2 x3 x4 x5 x6 q) (i : Fin 8192) (k : Fin 1024) :
    val_main_v21 (F := Ideal) x0 x1 x3 x4 x5 (ix2 i k) = ((q.lay.f i k : ℝ) : EReal) := by
  have h := a.wd
  have s := act2 a
  pointwise [val_main_v21, h, s]
  simp only [← EReal.coe_mul, coe_sum]; rfl

theorem v29 (a : Args x0 x1 x2 x3 x4 x5 x6 q) (i : Fin 8192) :
    val_main_v29 (F := Ideal) x0 x1 x3 x4 x5 (ix2 i 0) = ((rr (q.lay.f i) : ℝ) : EReal) := by
  have h := f_real a
  pointwise [val_main_v29, val_main_v28, val_main_v27, val_main_v26, val_main_v25, val_main_v24, val_main_v23, val_main_v22, val_main_cst_3, val_main_cst_4, val_main_cst_5, h]
  simp only [← EReal.coe_mul, coe_sum, ofBits_1024, ofBits_eps]
  rw [div_real (by norm_num), ← EReal.coe_add, rsqrt_real (ms_pos _)]; rfl

theorem y_real (a : Args x0 x1 x2 x3 x4 x5 x6 q) (i : Fin 8192) (k : Fin 1024) :
    val_main_v35 (F := Ideal) x0 x1 x2 x3 x4 x5 (ix2 i k) = ((q.y i k : ℝ) : EReal) := by
  have h := v29 a
  have hf := f_real a
  have hx := a.x
  have hg := a.qg
  pointwise [val_main_v35, val_main_v34, val_main_v33, val_main_v32, val_main_v31, val_main_v30, h, hf, hx, hg]
  simp only [← EReal.coe_mul, ← EReal.coe_add]; rfl

theorem err_real (a : Args x0 x1 x2 x3 x4 x5 x6 q) (i : Fin 8192) (k : Fin 1024) :
    val_main_v36 (F := Ideal) x0 x1 x2 x3 x4 x5 x6 (ix2 i k) = ((q.err i k : ℝ) : EReal) := by
  have h := y_real a
  have ht := a.tg
  pointwise [val_main_v36, h, ht]
  rw [← EReal.coe_sub]; rfl

theorem dy_real (a : Args x0 x1 x2 x3 x4 x5 x6 q) (i : Fin 8192) (k : Fin 1024) :
    val_main_v50 (F := Ideal) x0 x1 x2 x3 x4 x5 x6 (ix2 i k) = ((q.err i k / 1024 : ℝ) : EReal) := by
  have h := err_real a
  pointwise [val_main_v50, val_main_v49, val_main_v48, val_main_v47, val_main_v46, val_main_v45, val_main_cst_11, val_main_cst_12, val_main_cst_13, val_main_v39, val_main_v38, val_main_cst_6, h]
  simp only [← EReal.coe_one, ofBits_1024, ofBits_half, ofBits_two, ← EReal.coe_mul]
  rw [div_real (by norm_num), ← EReal.coe_mul]
  refine congrArg _ ?_
  ring

theorem v42 (a : Args x0 x1 x2 x3 x4 x5 x6 q) (i : Fin 8192) :
    val_main_v42 (F := Ideal) x0 x1 x2 x3 x4 x5 x6 (ix1 i) = (((∑ k, q.err i k * q.err i k) / 1024 : ℝ) : EReal) := by
  have h := err_real a
  pointwise [val_main_v42, val_main_v41, val_main_v40, val_main_v37, val_main_cst_7, val_main_cst_8, h]
  simp only [← EReal.coe_mul, coe_sum, ofBits_1024]
  rw [div_real (by norm_num)]

theorem sq_real (a : Args x0 x1 x2 x3 x4 x5 x6 q) (r : Fin 8) (k : Fin 128) :
    val_main_v58 (F := Ideal) x0 x1 x2 x3 x4 x5 x6 (ix2 r k) = ((∑ i, ∑ k, q.err i k * q.err i k : ℝ) : EReal) := by
  have h := v42 a
  pointwise [val_main_v58, val_main_v57, val_main_v44, val_main_v43, val_main_cst_9, val_main_cst_10, val_main_cst_14, h]
  simp only [coe_sum, ofBits_half, ofBits_2048, ← EReal.coe_mul]
  refine congrArg _ ?_
  rw [← Finset.sum_div]; ring

end Cert.FfnFwdRefIdeal.Val

end
-- ==== Proof.FfnFwdPay.lean ====
/-
  `ffn_fwd` under the loss: the kernel's own values on real numbers. Each grid point works on two blocks of rows, one
  after the other, by the same operations.
-/
module

public import proofs.«01_k».proof.Proof.FfnFwdRefValue
public import proofs.«01_k».proof.Proof.Gen.FfnFwdIdeal.Value

@[expose] public section

set_option maxRecDepth 16384

noncomputable section

namespace Cert.FfnFwdIdeal.Val

open Idealize.ShloMosaic Idealize.ShloMosaic.TcCoe Idealize.SL.Sem
open Cert.FfnFwdIdeal Cert.FfnFwdIdeal.Gen Cert.Lift

variable {q : Ffn} {ρ : Fin 256 → Fin 8192} {x tg : FVec Ideal S256x1024 .f32} {g qg : FVec Ideal S1x1024 .f32} {wg wu wd : FVec Ideal S1x2816x1024 .bf16}

/-- What a block of rows reads: rows `ρ`, and the gains and the weights whole. -/
structure Block (q : Ffn) (ρ : Fin 256 → Fin 8192) (x tg : FVec Ideal S256x1024 .f32) (g qg : FVec Ideal S1x1024 .f32) (wg wu wd : FVec Ideal S1x2816x1024 .bf16) : Prop where
  x : ∀ r k, x (ix2 r k) = ((q.x (ρ r) k : ℝ) : EReal)
  g : ∀ k, g (ix2 0 k) = ((q.pg k : ℝ) : EReal)
  qg : ∀ k, qg (ix2 0 k) = ((q.qg k : ℝ) : EReal)
  wg : ∀ j l, wg (ix3 0 j l) = ((q.wg l j : ℝ) : EReal)
  wu : ∀ j l, wu (ix3 0 j l) = ((q.wu l j : ℝ) : EReal)
  wd : ∀ j k, wd (ix3 0 j k) = ((q.wd j k : ℝ) : EReal)
  tg : ∀ r k, tg (ix2 r k) = ((q.tg (ρ r) k : ℝ) : EReal)

theorem h_pay (b : Block q ρ x tg g qg wg wu wd) (r : Fin 256) (k : Fin 1024) :
    k0_pay5 (F := Ideal) x g (ix2 r k) = ((q.h (ρ r) k : ℝ) : EReal) := by
  have hx := b.x
  have hg := b.g
  pointwise [k0_pay5, hx, hg]
  simp only [← EReal.coe_mul, coe_sum, ofBits_1024, ofBits_eps]
  rw [div_real (by norm_num), ← EReal.coe_add, rsqrt_real (ms_pos _)]
  simp only [← EReal.coe_mul]; rfl

theorem gate_pay (b : Block q ρ x tg g qg wg wu wd) (r : Fin 256) (j : Fin 2816) :
    k0_pay7 (F := Ideal) x g wg (ix2 r j) = ((q.lay.gate (ρ r) j : ℝ) : EReal) := by
  have h := h_pay b
  have hw := b.wg
  pointwise [k0_pay7, h, hw]
  simp only [← EReal.coe_mul, coe_sum]; rfl

theorem up_pay (b : Block q ρ x tg g qg wg wu wd) (r : Fin 256) (j : Fin 2816) :
    k0_pay8 (F := Ideal) x g wu (ix2 r j) = ((q.lay.up (ρ r) j : ℝ) : EReal) := by
  have h := h_pay b
  have hw := b.wu
  pointwise [k0_pay8, h, hw]
  simp only [← EReal.coe_mul, coe_sum]; rfl

theorem s_pay (b : Block q ρ x tg g qg wg wu wd) (r : Fin 256) (j : Fin 2816) :
    k0_pay9 (F := Ideal) x g wg (ix2 r j) = ((lgs (q.lay.gate (ρ r) j) : ℝ) : EReal) := by
  have h := gate_pay b
  pointwise [k0_pay9, h]
  exact lgs_real _

theorem sg_pay (b : Block q ρ x tg g qg wg wu wd) (r : Fin 256) (j : Fin 2816) :
    k0_pay10 (F := Ideal) x g wg (ix2 r j) = ((q.sg (ρ r) j : ℝ) : EReal) := by
  have h := gate_pay b
  have s := s_pay b
  pointwise [k0_pay10, h, s]
  rw [← EReal.coe_mul]; rfl

theorem act_pay (b : Block q ρ x tg g qg wg wu wd) (r : Fin 256) (j : Fin 2816) :
    k0_pay11 (F := Ideal) x g wg wu (ix2 r j) = ((q.lay.act (ρ r) j : ℝ) : EReal) := by
  have h := sg_pay b
  have u := up_pay b
  pointwise [k0_pay11, h, u]
  rw [← EReal.coe_mul]; rfl

theorem act3 (b : Block q ρ x tg g qg wg wu wd) (r : Fin 256) (j : Fin 2816) :
    k0_pay12 (F := Ideal) x g wg wu (ix3 0 r j) = ((q.lay.act (ρ r) j : ℝ) : EReal) := by
  have h := act_pay b
  pointwise [k0_pay12, h]

theorem dup3 (b : Block q ρ x tg g qg wg wu wd) (r : Fin 256) (j : Fin 2816) :
    k0_pay14 (F := Ideal) (k0_pay13 x g wg) (ix3 0 r j) = ((q.sg (ρ r) j : ℝ) : EReal) := by
  have h := sg_pay b
  pointwise [k0_pay14, k0_pay13, h]

theorem slope3 (b : Block q ρ x tg g qg wg wu wd) (r : Fin 256) (j : Fin 2816) :
    k0_pay15 (F := Ideal) (k0_pay7 x g wg) (k0_pay8 x g wu) (k0_pay9 x g wg) (ix3 0 r j) = ((q.lay.slope (ρ r) j : ℝ) : EReal) := by
  have h := gate_pay b
  have u := up_pay b
  have s := s_pay b
  pointwise [k0_pay15, h, u, s]
  simp only [← EReal.coe_one, ← EReal.coe_mul, ← EReal.coe_sub, ← EReal.coe_add]
  rfl

theorem f_pay (b : Block q ρ x tg g qg wg wu wd) (r : Fin 256) (k : Fin 1024) :
    k0_pay16 (F := Ideal) k0_pay6 (k0_pay11 x g wg wu) wd (ix2 r k) = ((q.lay.f (ρ r) k : ℝ) : EReal) := by
  have h := act_pay b
  have hw := b.wd
  pointwise [k0_pay16, k0_pay6, h, hw]
  simp only [← EReal.coe_mul, coe_sum, zero_add]; rfl

theorem err_pay (b : Block q ρ x tg g qg wg wu wd) (r : Fin 256) (k : Fin 1024) :
    k0_pay17 (F := Ideal) x k0_pay6 (k0_pay11 x g wg wu) wd qg tg (ix2 r k) = ((q.err (ρ r) k : ℝ) : EReal) := by
  have h := f_pay b
  have hx := b.x
  have hg := b.qg
  have ht := b.tg
  pointwise [k0_pay17, h, hx, hg, ht]
  simp only [← EReal.coe_mul, coe_sum, ofBits_1024, ofBits_eps]
  rw [div_real (by norm_num), ← EReal.coe_add, rsqrt_real (ms_pos _)]
  simp only [← EReal.coe_mul, ← EReal.coe_add, ← EReal.coe_sub]; rfl

theorem dy_pay (b : Block q ρ x tg g qg wg wu wd) (r : Fin 256) (k : Fin 1024) :
    k0_pay19 (F := Ideal) (k0_pay17 x k0_pay6 (k0_pay11 x g wg wu) wd qg tg) k0_pay18 (ix2 r k) = ((q.err (ρ r) k / 1024 : ℝ) : EReal) := by
  have h := err_pay b
  pointwise [k0_pay19, k0_pay18, h]
  simp only [ofBits_1024]
  rw [div_real (by norm_num)]

theorem sq_pay (b : Block q ρ x tg g qg wg wu wd) (acc : FVec Ideal S8x128 .f32) (r : Fin 8) (k : Fin 128) :
    k0_pay20 (F := Ideal) (k0_pay17 x k0_pay6 (k0_pay11 x g wg wu) wd qg tg) acc (ix2 r k)
      = acc (ix2 r k) + ((∑ r, ∑ k, q.err (ρ r) k * q.err (ρ r) k : ℝ) : EReal) := by
  have h := err_pay b
  pointwise [k0_pay20, h]
  simp only [← EReal.coe_mul, coe_sum]

/-! ### The second block of rows -/

theorem act3' (b : Block q ρ x tg g qg wg wu wd) (r : Fin 256) (j : Fin 2816) :
    k0_pay28 (F := Ideal) (k0_pay23 x g wg) (k0_pay24 x g wu) (ix3 0 r j) = ((q.lay.act (ρ r) j : ℝ) : EReal) := act3 b r j
theorem dup3' (b : Block q ρ x tg g qg wg wu wd) (r : Fin 256) (j : Fin 2816) :
    k0_pay29 (F := Ideal) (k0_pay23 x g wg) (ix3 0 r j) = ((q.sg (ρ r) j : ℝ) : EReal) := dup3 b r j
theorem slope3' (b : Block q ρ x tg g qg wg wu wd) (r : Fin 256) (j : Fin 2816) :
    k0_pay30 (F := Ideal) (k0_pay23 x g wg) (k0_pay24 x g wu) (ix3 0 r j) = ((q.lay.slope (ρ r) j : ℝ) : EReal) := slope3 b r j
theorem f_pay' (b : Block q ρ x tg g qg wg wu wd) (r : Fin 256) (k : Fin 1024) :
    k0_pay31 (F := Ideal) k0_pay22 (k0_pay23 x g wg) (k0_pay24 x g wu) wd (ix2 r k) = ((q.lay.f (ρ r) k : ℝ) : EReal) := f_pay b r k
theorem dy_pay' (b : Block q ρ x tg g qg wg wu wd) (r : Fin 256) (k : Fin 1024) :
    k0_pay2 (F := Ideal) x (k0_pay31 k0_pay22 (k0_pay23 x g wg) (k0_pay24 x g wu) wd) (k0_pay32 qg) (k0_pay33 k0_pay22 (k0_pay23 x g wg) (k0_pay24 x g wu) wd)
      (Scalar.ofBits .f32 0x358637BD#32) tg (ix2 r k) = ((q.err (ρ r) k / 1024 : ℝ) : EReal) := dy_pay b r k
theorem sq_pay' (b : Block q ρ x tg g qg wg wu wd) (acc : FVec Ideal S8x128 .f32) (r : Fin 8) (k : Fin 128) :
    k0_pay3 (F := Ideal) x (k0_pay31 k0_pay22 (k0_pay23 x g wg) (k0_pay24 x g wu) wd) (k0_pay32 qg) (k0_pay33 k0_pay22 (k0_pay23 x g wg) (k0_pay24 x g wu) wd)
      (Scalar.ofBits .f32 0x358637BD#32) tg acc (ix2 r k) = acc (ix2 r k) + ((∑ r, ∑ k, q.err (ρ r) k * q.err (ρ r) k : ℝ) : EReal) := sq_pay b acc r k

end Cert.FfnFwdIdeal.Val

end
-- ==== Proof.FfnFwdHost.lean ====
/-
  What the kernel of `ffn_fwd` reads under the loss: its blocks, from the arguments.
-/
module

public import proofs.«01_k».proof.Proof.FfnFwdPay
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.FfnFwdIdeal.Val

open Idealize.ShloMosaic Idealize.ShloMosaic.TcCoe Idealize.SL.Sem
open Cert.FfnFwdIdeal Cert.FfnFwdIdeal.Gen Cert.Lift

/-- The arguments are real numbers. -/
abbrev Args (m : (ℓ : Loc nD τ sig) → Buf (Elt Ideal) ℓ) (c : Dev nD) (q : Ffn) : Prop :=
  Cert.FfnFwdRefIdeal.Val.Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) q

theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![t.val, 0]
    ∧ win0_7.index t = ![t.val, 0] ∧ win0_8.index t = ![0, t.val, 0] ∧ win0_9.index t = ![0, t.val, 0] ∧ win0_10.index t = ![0, t.val, 0]
    ∧ win0_11.index t = ![t.val, 0] ∧ win0_12.index t = ![0, 0] :=
  (by decide +kernel : ∀ t : Fin grid0.N, _)

/-- Row `r` of point `t`, among all rows. -/
abbrev row (t : Fin cfg0.N) (r : Fin 512) : Fin 8192 := ⟨t.val * 512 + r.val, by have := t.isLt; have : cfg0.N = 16 := N_0; omega⟩
/-- Row `r` of one of a point's two blocks. -/
abbrev half (h : Fin 2) (r : Fin 256) : Fin 512 := ⟨h.val * 256 + r.val, by omega⟩

variable {m : (ℓ : Loc nD τ sig) → Buf (Elt Ideal) ℓ} {c : Dev nD} {q : Ffn}

theorem x_real (a : Args m c q) (t : Fin cfg0.N) (r : Fin 512) (k : Fin 1024) : iblk m c 0 t (ix2 r k) = ((q.x (row t r) k : ℝ) : EReal) := by
  have h : iblk m c 0 t (ix2 r k) = (V m c main_arg0 : FVec Ideal S8192x1024 .f32) (ix2 (row t r) k) := by blk_point [iblk, idx t]
  rw [h, V_main_arg0]; exact a.x _ _
theorem V_pg (c : Dev nD) (k : Fin 1024) : (V m c main_v6 : FVec Ideal S1x1024 .f32) (ix2 0 k) = m ((c.tc : Thread nD τ).loc main_arg1) (ix1 k) := by
  unfold V; after_reads_at
theorem pg_real (a : Args m c q) (t : Fin cfg0.N) (k : Fin 1024) : iblk m c 1 t (ix2 0 k) = ((q.pg k : ℝ) : EReal) := by
  have h : iblk m c 1 t (ix2 0 k) = (V m c main_v6 : FVec Ideal S1x1024 .f32) (ix2 0 k) := by blk_point [iblk, idx t]
  exact h.trans ((V_pg c k).trans (a.pg _))
theorem V_qg (c : Dev nD) (k : Fin 1024) : (V m c main_v7 : FVec Ideal S1x1024 .f32) (ix2 0 k) = m ((c.tc : Thread nD τ).loc main_arg2) (ix1 k) := by
  unfold V; after_reads_at
theorem qg_real (a : Args m c q) (t : Fin cfg0.N) (k : Fin 1024) : iblk m c 2 t (ix2 0 k) = ((q.qg k : ℝ) : EReal) := by
  have h : iblk m c 2 t (ix2 0 k) = (V m c main_v7 : FVec Ideal S1x1024 .f32) (ix2 0 k) := by blk_point [iblk, idx t]
  exact h.trans ((V_qg c k).trans (a.qg _))
theorem V_wg (c : Dev nD) (j : Fin 2816) (l : Fin 1024) : (V m c main_v2 : FVec Ideal S1x2816x1024 .bf16) (ix3 0 j l) = m ((c.tc : Thread nD τ).loc main_arg3) (ix2 l j) := by
  unfold V; after_reads_at
theorem wg_real (a : Args m c q) (t : Fin cfg0.N) (j : Fin 2816) (l : Fin 1024) : iblk m c 3 t (ix3 0 j l) = ((q.wg l j : ℝ) : EReal) := by
  have h : iblk m c 3 t (ix3 0 j l) = (V m c main_v2 : FVec Ideal S1x2816x1024 .bf16) (ix3 0 j l) := by blk_point [iblk, idx t]
  exact h.trans ((V_wg c j l).trans (a.wg _ _))
theorem V_wu (c : Dev nD) (j : Fin 2816) (l : Fin 1024) : (V m c main_v5 : FVec Ideal S1x2816x1024 .bf16) (ix3 0 j l) = m ((c.tc : Thread nD τ).loc main_arg4) (ix2 l j) := by
  unfold V; after_reads_at
theorem wu_real (a : Args m c q) (t : Fin cfg0.N) (j : Fin 2816) (l : Fin 1024) : iblk m c 4 t (ix3 0 j l) = ((q.wu l j : ℝ) : EReal) := by
  have h : iblk m c 4 t (ix3 0 j l) = (V m c main_v5 : FVec Ideal S1x2816x1024 .bf16) (ix3 0 j l) := by blk_point [iblk, idx t]
  exact h.trans ((V_wu c j l).trans (a.wu _ _))
theorem V_wd (c : Dev nD) (j : Fin 2816) (k : Fin 1024) : (V m c main_v9 : FVec Ideal S1x2816x1024 .bf16) (ix3 0 j k) = m ((c.tc : Thread nD τ).loc main_arg5) (ix2 j k) := by
  unfold V; after_reads_at
theorem wd_real (a : Args m c q) (t : Fin cfg0.N) (j : Fin 2816) (k : Fin 1024) : iblk m c 5 t (ix3 0 j k) = ((q.wd j k : ℝ) : EReal) := by
  have h : iblk m c 5 t (ix3 0 j k) = (V m c main_v9 : FVec Ideal S1x2816x1024 .bf16) (ix3 0 j k) := by blk_point [iblk, idx t]
  exact h.trans ((V_wd c j k).trans (a.wd _ _))
theorem tg_real (a : Args m c q) (t : Fin cfg0.N) (r : Fin 512) (k : Fin 1024) : iblk m c 6 t (ix2 r k) = ((q.tg (row t r) k : ℝ) : EReal) := by
  have h : iblk m c 6 t (ix2 r k) = (V m c main_arg6 : FVec Ideal S8192x1024 .f32) (ix2 (row t r) k) := by blk_point [iblk, idx t]
  rw [h, V_main_arg6]; exact a.tg _ _

/-- One of a point's two blocks of rows. -/
abbrev xb (m : (ℓ : Loc nD τ sig) → Buf (Elt Ideal) ℓ) (c : Dev nD) (t : Fin cfg0.N) (h : Fin 2) (hb : ∀ i, (![h.val * 256, 0] : Fin 2 → ℕ) i + (![256, 1024] : Fin 2 → ℕ) i ≤ S512x1024.size i) :
    FVec Ideal S256x1024 .f32 := View.ld (Val := Elt Ideal) (e' := EltTy.f32) (iblk m c 0 t) (Rect.unit (s := S512x1024) ![h.val * 256, 0] ![256, 1024] hb)
abbrev tb (m : (ℓ : Loc nD τ sig) → Buf (Elt Ideal) ℓ) (c : Dev nD) (t : Fin cfg0.N) (h : Fin 2) (hb : ∀ i, (![h.val * 256, 0] : Fin 2 → ℕ) i + (![256, 1024] : Fin 2 → ℕ) i ≤ S512x1024.size i) :
    FVec Ideal S256x1024 .f32 := View.ld (Val := Elt Ideal) (e' := EltTy.f32) (iblk m c 6 t) (Rect.unit (s := S512x1024) ![h.val * 256, 0] ![256, 1024] hb)

theorem block (a : Args m c q) (t : Fin cfg0.N) (h : Fin 2) (hb) (hb') :
    Block q (fun r => row t (half h r)) (xb m c t h hb) (tb m c t h hb') (iblk m c 1 t) (iblk m c 2 t) (iblk m c 3 t) (iblk m c 4 t) (iblk m c 5 t) where
  x r k := (congrArg (iblk m c 0 t) (show (Rect.unit (s := S512x1024) ![h.val * 256, 0] ![256, 1024] hb).emb (ix2 r k) = ix2 (half h r) k by blk_ext)).trans (x_real a t _ k)
  g := pg_real a t
  qg := qg_real a t
  wg := wg_real a t
  wu := wu_real a t
  wd := wd_real a t
  tg r k := (congrArg (iblk m c 6 t) (show (Rect.unit (s := S512x1024) ![h.val * 256, 0] ![256, 1024] hb').emb (ix2 r k) = ix2 (half h r) k by blk_ext)).trans (tg_real a t _ k)

/-! ### Results in two blocks of rows -/

/-- One stored block of a result of rows. -/
theorem piece2 (t : Fin cfg0.N) (f : Fin 8192 → Fin 1024 → ℝ) (h : Fin 2) (hb) (P : FVec Ideal S256x1024 .f32)
    (hP : ∀ r k, P (ix2 r k) = ((f (row t (half h r)) k : ℝ) : EReal)) (x : S256x1024.Idx) :
    P x = (fun y : S512x1024.Idx => ((f (row t (y 0)) (y 1) : ℝ) : EReal)) ((Rect.unit (s := S512x1024) ![h.val * 256, 0] ![256, 1024] hb).emb x) := by
  obtain ⟨r, k, rfl⟩ : ∃ r k, x = ix2 r k := ⟨x 0, x 1, by blk_ext⟩
  have e : (Rect.unit (s := S512x1024) ![h.val * 256, 0] ![256, 1024] hb).emb (ix2 r k) = ix2 (half h r) k := by blk_ext
  rw [e, hP]; rfl

/-- One stored block of a result of rows under one leading index. -/
theorem piece3 (t : Fin cfg0.N) (f : Fin 8192 → Fin 2816 → ℝ) (h : Fin 2) (hb) (P : FVec Ideal S1x256x2816 .bf16)
    (hP : ∀ r k, P (ix3 0 r k) = ((f (row t (half h r)) k : ℝ) : EReal)) (x : S1x256x2816.Idx) :
    P x = (fun y : S1x512x2816.Idx => ((f (row t (y 1)) (y 2) : ℝ) : EReal)) ((Rect.unit (s := S1x512x2816) ![0, h.val * 256, 0] ![1, 256, 2816] hb).emb x) := by
  obtain ⟨x0, r, k, rfl⟩ : ∃ x0 r k, x = ix3 x0 r k := ⟨x 0, x 1, x 2, by blk_ext⟩
  obtain rfl : x0 = 0 := Subsingleton.elim _ _
  have e : (Rect.unit (s := S1x512x2816) ![0, h.val * 256, 0] ![1, 256, 2816] hb).emb (ix3 0 r k) = ix3 0 (half h r) k := by blk_ext
  rw [e, hP]; rfl

theorem pieces2 (t : Fin cfg0.N) (f : Fin 8192 → Fin 1024 → ℝ) (b0) (b1) (P0 P1 : FVec Ideal S256x1024 .f32)
    (h0 : ∀ r k, P0 (ix2 r k) = ((f (row t (half 0 r)) k : ℝ) : EReal)) (h1 : ∀ r k, P1 (ix2 r k) = ((f (row t (half 1 r)) k : ℝ) : EReal)) (r : Fin 512) (k : Fin 1024) :
    View.canon (Val := Elt Ideal) (e := EltTy.f32) [⟨Rect.unit (s := S512x1024) ![256, 0] ![256, 1024] b1, P1⟩, ⟨Rect.unit (s := S512x1024) ![0, 0] ![256, 1024] b0, P0⟩] (ix2 r k)
      = ((f (row t r) k : ℝ) : EReal) :=
  View.canon_append_of_piecesOf (Val := Elt Ideal) (e := EltTy.f32) (fun y : S512x1024.Idx => ((f (row t (y 0)) (y 1) : ℝ) : EReal)) [] [_, _]
    ⟨piece2 t f 1 b1 P1 h1, piece2 t f 0 b0 P0 h0, trivial⟩ (ix2 r k) (View.cover_of_tiledL _ ![256, 1024] (by sl_kernel_rfl) _)

theorem pieces3 (t : Fin cfg0.N) (f : Fin 8192 → Fin 2816 → ℝ) (b0) (b1) (P0 P1 : FVec Ideal S1x256x2816 .bf16)
    (h0 : ∀ r k, P0 (ix3 0 r k) = ((f (row t (half 0 r)) k : ℝ) : EReal)) (h1 : ∀ r k, P1 (ix3 0 r k) = ((f (row t (half 1 r)) k : ℝ) : EReal)) (b : Fin 1) (r : Fin 512) (k : Fin 2816) :
    View.canon (Val := Elt Ideal) (e := EltTy.bf16) [⟨Rect.unit (s := S1x512x2816) ![0, 256, 0] ![1, 256, 2816] b1, P1⟩, ⟨Rect.unit (s := S1x512x2816) ![0, 0, 0] ![1, 256, 2816] b0, P0⟩] (ix3 b r k)
      = ((f (row t r) k : ℝ) : EReal) :=
  View.canon_append_of_piecesOf (Val := Elt Ideal) (e := EltTy.bf16) (fun y : S1x512x2816.Idx => ((f (row t (y 1)) (y 2) : ℝ) : EReal)) [] [_, _]
    ⟨piece3 t f 1 b1 P1 h1, piece3 t f 0 b0 P0 h0, trivial⟩ (ix3 b r k) (View.cover_of_tiledL _ ![1, 256, 2816] (by sl_kernel_rfl) _)

end Cert.FfnFwdIdeal.Val

end
-- ==== Proof.FfnFwdValue.lean ====
/-
  What the kernel of `ffn_fwd` returns under the loss, over the reals.
-/
module

public import proofs.«01_k».proof.Proof.FfnFwdHost

@[expose] public section

set_option maxRecDepth 16384
set_option maxHeartbeats 2000000

noncomputable section

namespace Cert.FfnFwdIdeal.Val

open Idealize.ShloMosaic Idealize.ShloMosaic.TcCoe Idealize.SL.Sem
open Cert.FfnFwdIdeal Cert.FfnFwdIdeal.Gen Cert.Lift

variable {m : (ℓ : Loc nD τ sig) → Buf (Elt Ideal) ℓ} {c : Dev nD} {q : Ffn}

theorem dy_out (a : Args m c q) (t : Fin cfg0.N) (r : Fin 512) (k : Fin 1024) :
    (outsAt0 m c t.val t.isLt).1 (ix2 r k) = ((q.err (row t r) k / 1024 : ℝ) : EReal) := by
  have e := fun b0 b1 => pieces2 t (fun i k => q.err i k / 1024) b0 b1 _ _ (dy_pay (block a t 0 b0 b0)) (dy_pay' (block a t 1 b1 b1)) r k
  by_cases h0 : t.val % 16 = 0
  · rw [outsAt0_A m c t h0]; frame_out; exact e _ _
  · rw [outsAt0_B m c t h0]; frame_out; exact e _ _
theorem act_out (a : Args m c q) (t : Fin cfg0.N) (b : Fin 1) (r : Fin 512) (k : Fin 2816) :
    (outsAt0 m c t.val t.isLt).2.1 (ix3 b r k) = ((q.lay.act (row t r) k : ℝ) : EReal) := by
  have e := fun b0 b1 c0 c1 => pieces3 t q.lay.act b0 b1 _ _ (act3 (block a t 0 c0 c0)) (act3' (block a t 1 c1 c1)) b r k
  by_cases h0 : t.val % 16 = 0
  · rw [outsAt0_A m c t h0]; frame_out; exact e _ _ _ _
  · rw [outsAt0_B m c t h0]; frame_out; exact e _ _ _ _
theorem dup_out (a : Args m c q) (t : Fin cfg0.N) (b : Fin 1) (r : Fin 512) (k : Fin 2816) :
    (outsAt0 m c t.val t.isLt).2.2.1 (ix3 b r k) = ((q.sg (row t r) k : ℝ) : EReal) := by
  have e := fun b0 b1 c0 c1 => pieces3 t q.sg b0 b1 _ _ (dup3 (block a t 0 c0 c0)) (dup3' (block a t 1 c1 c1)) b r k
  by_cases h0 : t.val % 16 = 0
  · rw [outsAt0_A m c t h0]; frame_out; exact e _ _ _ _
  · rw [outsAt0_B m c t h0]; frame_out; exact e _ _ _ _
theorem slope_out (a : Args m c q) (t : Fin cfg0.N) (b : Fin 1) (r : Fin 512) (k : Fin 2816) :
    (outsAt0 m c t.val t.isLt).2.2.2.1 (ix3 b r k) = ((q.lay.slope (row t r) k : ℝ) : EReal) := by
  have e := fun b0 b1 c0 c1 => pieces3 t q.lay.slope b0 b1 _ _ (slope3 (block a t 0 c0 c0)) (slope3' (block a t 1 c1 c1)) b r k
  by_cases h0 : t.val % 16 = 0
  · rw [outsAt0_A m c t h0]; frame_out; exact e _ _ _ _
  · rw [outsAt0_B m c t h0]; frame_out; exact e _ _ _ _
theorem f_out (a : Args m c q) (t : Fin cfg0.N) (r : Fin 512) (k : Fin 1024) :
    (outsAt0 m c t.val t.isLt).2.2.2.2.1 (ix2 r k) = ((q.lay.f (row t r) k : ℝ) : EReal) := by
  have e := fun b0 b1 => pieces2 t q.lay.f b0 b1 _ _ (f_pay (block a t 0 b0 b0)) (f_pay' (block a t 1 b1 b1)) r k
  by_cases h0 : t.val % 16 = 0
  · rw [outsAt0_A m c t h0]; frame_out; exact e _ _
  · rw [outsAt0_B m c t h0]; frame_out; exact e _ _

/-- The squared error of one row. -/
abbrev sq (q : Ffn) (i : Fin 8192) : ℝ := ∑ k, q.err i k * q.err i k

/-- A point adds the squared errors of its rows, block after block. -/
theorem sq_point (t : Fin cfg0.N) (z : EReal) :
    z + ((∑ r, sq q (row t (half 0 r)) : ℝ) : EReal) + ((∑ r, sq q (row t (half 1 r)) : ℝ) : EReal) = z + ((∑ r, sq q (row t r) : ℝ) : EReal) := by
  rw [add_assoc, ← EReal.coe_add]
  refine congrArg (fun s : ℝ => z + (s : EReal)) ?_
  rw [← Fin.sum_univ_two (fun h : Fin 2 => ∑ r, sq q (row t (half h r)))]
  exact Fin.sum_mul_add_congr (fun _ _ _ => rfl) (by norm_num)

/-! ### The results -/

theorem dy_eq (a : Args m c q) : (dats m 0 c).arrAt 7 cfg0.N = fun y => ((q.err (y 0) (y 1) / 1024 : ℝ) : EReal) := by
  refine (dats m 0 c).arrAt_eq_of_covers 7 _ (by decide +kernel) fun t hf y => ?_
  obtain ⟨r, k, rfl⟩ : ∃ r k, y = ix2 r k := ⟨y 0, y 1, by blk_ext⟩
  blk_simp
  rw [after0_7]
  have e : ((cfg0.win 7).blk t).view.emb (ix2 r k) = ix2 (row t r) k := by blk_ext [idx t]
  rw [e]
  exact dy_out a t r k
theorem act_eq (a : Args m c q) : (dats m 0 c).arrAt 8 cfg0.N = fun y => ((q.lay.act (y 1) (y 2) : ℝ) : EReal) := by
  refine (dats m 0 c).arrAt_eq_of_covers 8 _ (by decide +kernel) fun t hf y => ?_
  obtain ⟨b, r, k, rfl⟩ : ∃ b r k, y = ix3 b r k := ⟨y 0, y 1, y 2, by blk_ext⟩
  blk_simp
  rw [after0_8]
  have e : ((cfg0.win 8).blk t).view.emb (ix3 b r k) = ix3 b (row t r) k := by blk_ext [idx t]
  rw [e]
  exact act_out a t b r k
theorem dup_eq (a : Args m c q) : (dats m 0 c).arrAt 9 cfg0.N = fun y => ((q.sg (y 1) (y 2) : ℝ) : EReal) := by
  refine (dats m 0 c).arrAt_eq_of_covers 9 _ (by decide +kernel) fun t hf y => ?_
  obtain ⟨b, r, k, rfl⟩ : ∃ b r k, y = ix3 b r k := ⟨y 0, y 1, y 2, by blk_ext⟩
  blk_simp
  rw [after0_9]
  have e : ((cfg0.win 9).blk t).view.emb (ix3 b r k) = ix3 b (row t r) k := by blk_ext [idx t]
  rw [e]
  exact dup_out a t b r k
theorem slope_eq (a : Args m c q) : (dats m 0 c).arrAt 10 cfg0.N = fun y => ((q.lay.slope (y 1) (y 2) : ℝ) : EReal) := by
  refine (dats m 0 c).arrAt_eq_of_covers 10 _ (by decide +kernel) fun t hf y => ?_
  obtain ⟨b, r, k, rfl⟩ : ∃ b r k, y = ix3 b r k := ⟨y 0, y 1, y 2, by blk_ext⟩
  blk_simp
  rw [after0_10]
  have e : ((cfg0.win 10).blk t).view.emb (ix3 b r k) = ix3 b (row t r) k := by blk_ext [idx t]
  rw [e]
  exact slope_out a t b r k
theorem f_eq (a : Args m c q) : (dats m 0 c).arrAt 11 cfg0.N = fun y => ((q.lay.f (y 0) (y 1) : ℝ) : EReal) := by
  refine (dats m 0 c).arrAt_eq_of_covers 11 _ (by decide +kernel) fun t hf y => ?_
  obtain ⟨r, k, rfl⟩ : ∃ r k, y = ix2 r k := ⟨y 0, y 1, by blk_ext⟩
  blk_simp
  rw [after0_11]
  have e : ((cfg0.win 11).blk t).view.emb (ix2 r k) = ix2 (row t r) k := by blk_ext [idx t]
  rw [e]
  exact f_out a t r k

/-- The last point. -/
abbrev tl : Fin cfg0.N := ⟨15, by decide +kernel⟩

theorem sq_eq (a : Args m c q) : (dats m 0 c).arrAt 12 cfg0.N = fun _ => ((∑ i, sq q i : ℝ) : EReal) := by
  refine (dats m 0 c).arrAt_eq_of_after_last 12 tl (by decide +kernel) _ fun j => ?_
  obtain ⟨j0, j1, rfl⟩ : ∃ j0 j1, j = ix2 j0 j1 := ⟨j 0, j 1, by blk_ext⟩
  blk_simp
  rw [after0_12, Pipeline.eq_sum_fin_of_reset_step_apply_last (fun n h => (outsAt0 m c n h).2.2.2.2.2) 16 (fun _ => 0)
    (fun t _ => ((∑ r : Fin 512, sq q (row t r) : ℝ) : EReal))
    (fun t h j => by
      obtain ⟨j0, j1, rfl⟩ : ∃ j0 j1, j = ix2 j0 j1 := ⟨j 0, j 1, by blk_ext⟩
      rw [outsAt0_A m c t h]; frame_out
      refine (sq_pay' (block a t 1 _ _) _ j0 j1).trans (Eq.trans (congrArg (· + _) (sq_pay (block a t 0 _ _) _ j0 j1)) ?_)
      refine (sq_point t _).trans (congrArg (· + _) ?_)
      pointwise [k0_pay4])
    (fun t h j => by
      obtain ⟨j0, j1, rfl⟩ : ∃ j0 j1, j = ix2 j0 j1 := ⟨j 0, j 1, by blk_ext⟩
      rw [outsAt0_B m c t h]; frame_out
      exact (sq_pay' (block a t 1 _ _) _ j0 j1).trans (Eq.trans (congrArg (· + _) (sq_pay (block a t 0 _ _) _ j0 j1)) (sq_point t _))) (le_of_eq N_0) tl rfl (ix2 j0 j1), zero_add, coe_sum]
  exact congrArg _ (Fin.sum_mul_add_congr (fun _ _ _ => rfl) (by show 8192 = grid0.N * 512; rw [N_0]))

end Cert.FfnFwdIdeal.Val

end
-- ==== Proof.FfnFwdClaim.lean ====
/-
  `ffn_fwd` under the loss: the kernel and the reference end with equal results on finite arguments.
-/
module

public import proofs.«01_k».proof.Defs
public import proofs.«01_k».proof.Proof.FfnFwdValue
public import proofs.«01_k».proof.Proof.Gen.FfnFwdIdeal.Value
public import proofs.«01_k».proof.Proof.Gen.FfnFwdRefIdeal.Run
public import proofs.«01_k».proof.Proof.Gen.Pre_ffn_fwd_finite
public import Idealize.ShloMosaic.Adequacy
public import Idealize.ShloMosaic.Init

@[expose] public section

set_option maxRecDepth 16384

noncomputable section

namespace Cert.FfnFwdIdeal.Val

open Idealize.ShloMosaic Idealize.ShloMosaic.TcCoe Idealize.SL.Sem
open Cert.FfnFwdIdeal Cert.Lift

/-- The real numbers of the arguments. -/
def reals (m : (ℓ : Loc nD τ sig) → Buf (Elt Ideal) ℓ) (c : Dev nD) : Ffn where
  x i j := re (s := S8192x1024) (m ((c.tc : Thread nD τ).loc main_arg0)) (ix2 i j)
  pg i := re (s := S1024) (m ((c.tc : Thread nD τ).loc main_arg1)) (ix1 i)
  qg i := re (s := S1024) (m ((c.tc : Thread nD τ).loc main_arg2)) (ix1 i)
  wg i j := re (s := S1024x2816) (m ((c.tc : Thread nD τ).loc main_arg3)) (ix2 i j)
  wu i j := re (s := S1024x2816) (m ((c.tc : Thread nD τ).loc main_arg4)) (ix2 i j)
  wd i j := re (s := S2816x1024) (m ((c.tc : Thread nD τ).loc main_arg5)) (ix2 i j)
  tg i j := re (s := S8192x1024) (m ((c.tc : Thread nD τ).loc main_arg6)) (ix2 i j)

/-- What the precondition says: the arguments are arrays of real numbers. -/
theorem finite_args {m : (ℓ : Loc nD τ sig) → Buf (Elt Ideal) ℓ} (h : Cert.Pre_FfnFwdIdeal_ffn_fwd_finite m) (c : Dev nD) :
    Args m c (reals m c) := by
  have e := congrFun (h c) (fun i => i.elim0)
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm,
    fun _ => (fin_of_all _ _ _ _ _ _ h1 _).symm,
    fun _ => (fin_of_all _ _ _ _ _ _ h2 _).symm,
    fun _ _ => (fin_of_all _ _ _ _ _ _ h3 _).symm,
    fun _ _ => (fin_of_all _ _ _ _ _ _ h4 _).symm,
    fun _ _ => (fin_of_all _ _ _ _ _ _ h5 _).symm,
    fun _ _ => (fin_of_all _ _ _ _ _ _ h6 _).symm⟩

set_option maxHeartbeats 1000000 in
theorem algebraic : Cert.algebraic_FfnFwdIdeal_FfnFwdRefIdeal_pre_ffn_fwd_finite := by
  pair_intro
  · run_from Cert.FfnFwdIdeal.Value.run_blocks m g
  · run_from Cert.FfnFwdRefIdeal.Value.run m' g'
    all_goals have a := finite_args hpre c
    all_goals obtain ⟨a0, a1, a2, a3, a4, a5, a6⟩ := hagree c
    all_goals have b : Cert.FfnFwdRefIdeal.Val.Args (m' ((c.tc : Thread FfnFwdRefIdeal.nD FfnFwdRefIdeal.τ).loc FfnFwdRefIdeal.main_arg0)) (m' ((c.tc : Thread FfnFwdRefIdeal.nD FfnFwdRefIdeal.τ).loc FfnFwdRefIdeal.main_arg1)) (m' ((c.tc : Thread FfnFwdRefIdeal.nD FfnFwdRefIdeal.τ).loc FfnFwdRefIdeal.main_arg2)) (m' ((c.tc : Thread FfnFwdRefIdeal.nD FfnFwdRefIdeal.τ).loc FfnFwdRefIdeal.main_arg3)) (m' ((c.tc : Thread FfnFwdRefIdeal.nD FfnFwdRefIdeal.τ).loc FfnFwdRefIdeal.main_arg4)) (m' ((c.tc : Thread FfnFwdRefIdeal.nD FfnFwdRefIdeal.τ).loc FfnFwdRefIdeal.main_arg5)) (m' ((c.tc : Thread FfnFwdRefIdeal.nD FfnFwdRefIdeal.τ).loc FfnFwdRefIdeal.main_arg6)) (reals m c) := (by rw [a0, a1, a2, a3, a4, a5, a6]; exact a)
    · rw [dy_eq a, Cert.FfnFwdRefIdeal.Read.val_main_v50_eq]
      funext y
      obtain ⟨i, k, rfl⟩ : ∃ i k, y = ix2 i k := ⟨y 0, y 1, by blk_ext⟩
      exact Cert.FfnFwdRefIdeal.Val.dy_real b i k
    · rw [act_eq a]
      refine (Cert.FfnFwdRefIdeal.Read.val_main_v52_eq (F := Ideal) _ _ _ _).trans (funext fun y => ?_)
      obtain ⟨b', i, k, rfl⟩ : ∃ b' i k, y = ix3 b' i k := ⟨y 0, y 1, y 2, by blk_ext⟩
      exact Cert.FfnFwdRefIdeal.Val.act_real a b' i k
    · rw [dup_eq a]
      refine (Cert.FfnFwdRefIdeal.Read.val_main_v54_eq (F := Ideal) _ _ _).trans (funext fun y => ?_)
      obtain ⟨b', i, k, rfl⟩ : ∃ b' i k, y = ix3 b' i k := ⟨y 0, y 1, y 2, by blk_ext⟩
      exact Cert.FfnFwdRefIdeal.Val.dup_real a b' i k
    · rw [slope_eq a, Cert.FfnFwdRefIdeal.Read.val_main_v56_eq]
      funext y
      obtain ⟨b', i, k, rfl⟩ : ∃ b' i k, y = ix3 b' i k := ⟨y 0, y 1, y 2, by blk_ext⟩
      exact Cert.FfnFwdRefIdeal.Val.slope_real b b' i k
    · rw [f_eq a]
      refine (Cert.FfnFwdRefIdeal.Read.val_main_v21_eq (F := Ideal) _ _ _ _ _).trans (funext fun y => ?_)
      obtain ⟨i, k, rfl⟩ : ∃ i k, y = ix2 i k := ⟨y 0, y 1, by blk_ext⟩
      exact Cert.FfnFwdRefIdeal.Val.f_real a i k
    · rw [sq_eq a, Cert.FfnFwdRefIdeal.Read.val_main_v58_eq]
      funext y
      obtain ⟨i, k, rfl⟩ : ∃ i k, y = ix2 i k := ⟨y 0, y 1, by blk_ext⟩
      exact Cert.FfnFwdRefIdeal.Val.sq_real b i k

/-- The reference runs to its end, leaves its arguments as they were and every semaphore at zero. -/
theorem ref_frame : Cert.quiescent_FfnFwdRefIdeal := fun m g _ =>
  (θ_run Cert.FfnFwdRefIdeal.defs _ _).mono (fun r h => ⟨fun c => (h c).2.2.2.2.2.2,
      sem_eq_zero_of_no_sems (by decide) r.2⟩)
    (Cert.FfnFwdRefIdeal.Value.run (F := Ideal) m g)

end Cert.FfnFwdIdeal.Val

end
-- ==== Proof.FfnMidPay.lean ====
/-
  `ffn_fwd` without the loss: the reference's and the kernel's own values on real numbers, from those under the loss.
-/
module

public import proofs.«01_k».proof.Proof.FfnFwdHost
public import proofs.«01_k».proof.Proof.Gen.FfnMidIdeal.Value
public import proofs.«01_k».proof.Proof.Gen.FfnMidRefIdeal.Read

@[expose] public section

set_option maxRecDepth 16384

noncomputable section

namespace Cert.FfnMidRefIdeal.Val

open Idealize.ShloMosaic Idealize.ShloMosaic.TcCoe Idealize.SL.Sem
open Cert.FfnMidRefIdeal Cert.FfnMidRefIdeal.Gen Cert.FfnMidRefIdeal.Read Cert.Lift
open Cert.FfnFwdRefIdeal.Val (Args)

variable {x0 : FVec Ideal S8192x1024 .f32} {x1 x2 : FVec Ideal S1024 .f32} {x3 x4 : FVec Ideal S1024x2816 .f32} {x5 : FVec Ideal S2816x1024 .f32}
  {x6 : FVec Ideal S8192x1024 .f32} {q : Ffn}

theorem y_real (a : Args x0 x1 x2 x3 x4 x5 x6 q) (i : Fin 8192) (k : Fin 1024) :
    val_main_v35 (F := Ideal) x0 x1 x2 x3 x4 x5 (ix2 i k) = ((q.y i k : ℝ) : EReal) := Cert.FfnFwdRefIdeal.Val.y_real a i k
theorem act_real (a : Args x0 x1 x2 x3 x4 x5 x6 q) (b : Fin 1) (i : Fin 8192) (j : Fin 2816) :
    val_main_v37 (F := Ideal) x0 x1 x3 x4 (ix3 b i j) = ((q.lay.act i j : ℝ) : EReal) := Cert.FfnFwdRefIdeal.Val.act_real a b i j
theorem dup_real (a : Args x0 x1 x2 x3 x4 x5 x6 q) (b : Fin 1) (i : Fin 8192) (j : Fin 2816) :
    val_main_v39 (F := Ideal) x0 x1 x3 (ix3 b i j) = ((q.sg i j : ℝ) : EReal) := Cert.FfnFwdRefIdeal.Val.dup_real a b i j
theorem slope_real (a : Args x0 x1 x2 x3 x4 x5 x6 q) (b : Fin 1) (i : Fin 8192) (j : Fin 2816) :
    val_main_v41 (F := Ideal) x0 x1 x3 x4 (ix3 b i j) = ((q.lay.slope i j : ℝ) : EReal) := Cert.FfnFwdRefIdeal.Val.slope_real a b i j
theorem f_real (a : Args x0 x1 x2 x3 x4 x5 x6 q) (i : Fin 8192) (k : Fin 1024) :
    val_main_v21 (F := Ideal) x0 x1 x3 x4 x5 (ix2 i k) = ((q.lay.f i k : ℝ) : EReal) := Cert.FfnFwdRefIdeal.Val.f_real a i k

end Cert.FfnMidRefIdeal.Val

namespace Cert.FfnMidIdeal.Val

open Idealize.ShloMosaic Idealize.ShloMosaic.TcCoe Idealize.SL.Sem
open Cert.FfnMidIdeal Cert.FfnMidIdeal.Gen Cert.Lift
open Cert.FfnFwdIdeal.Val (Block)

variable {q : Ffn} {ρ : Fin 256 → Fin 8192} {x tg : FVec Ideal S256x1024 .f32} {g qg : FVec Ideal S1x1024 .f32} {wg wu wd : FVec Ideal S1x2816x1024 .bf16}

theorem act3 (b : Block q ρ x tg g qg wg wu wd) (r : Fin 256) (j : Fin 2816) :
    k0_pay11 (F := Ideal) x g wg wu (ix3 0 r j) = ((q.lay.act (ρ r) j : ℝ) : EReal) := Cert.FfnFwdIdeal.Val.act3 b r j
theorem dup3 (b : Block q ρ x tg g qg wg wu wd) (r : Fin 256) (j : Fin 2816) :
    k0_pay12 (F := Ideal) x g wg (ix3 0 r j) = ((q.sg (ρ r) j : ℝ) : EReal) := Cert.FfnFwdIdeal.Val.dup3 b r j
theorem slope3 (b : Block q ρ x tg g qg wg wu wd) (r : Fin 256) (j : Fin 2816) :
    k0_pay13 (F := Ideal) (k0_pay6 x g wg) (k0_pay7 x g wu) (k0_pay8 x g wg) (Scalar.ofBits .f32 0x3F800000#32) (ix3 0 r j) = ((q.lay.slope (ρ r) j : ℝ) : EReal) := Cert.FfnFwdIdeal.Val.slope3 b r j
theorem f_pay (b : Block q ρ x tg g qg wg wu wd) (r : Fin 256) (k : Fin 1024) :
    k0_pay14 (F := Ideal) k0_pay5 (k0_pay10 x g wg wu) wd (ix2 r k) = ((q.lay.f (ρ r) k : ℝ) : EReal) := Cert.FfnFwdIdeal.Val.f_pay b r k
theorem y_pay (b : Block q ρ x tg g qg wg wu wd) (r : Fin 256) (k : Fin 1024) :
    k0_pay15 (F := Ideal) x k0_pay5 (k0_pay10 x g wg wu) wd qg (ix2 r k) = ((q.y (ρ r) k : ℝ) : EReal) := by
  have h := f_pay b
  have hx := b.x
  have hg := b.qg
  pointwise [k0_pay15, h, hx, hg]
  simp only [← EReal.coe_mul, coe_sum, ofBits_1024, ofBits_eps]
  rw [div_real (by norm_num), ← EReal.coe_add, rsqrt_real (ms_pos _)]
  simp only [← EReal.coe_mul, ← EReal.coe_add]; rfl

/-! ### The second block of rows -/

theorem act3' (b : Block q ρ x tg g qg wg wu wd) (r : Fin 256) (j : Fin 2816) :
    k0_pay25 (F := Ideal) x (k0_pay16 g) (k0_pay17 x) wg wu (ix3 0 r j) = ((q.lay.act (ρ r) j : ℝ) : EReal) := act3 b r j
theorem dup3' (b : Block q ρ x tg g qg wg wu wd) (r : Fin 256) (j : Fin 2816) :
    k0_pay26 (F := Ideal) x (k0_pay16 g) (k0_pay17 x) wg (ix3 0 r j) = ((q.sg (ρ r) j : ℝ) : EReal) := dup3 b r j
theorem slope3' (b : Block q ρ x tg g qg wg wu wd) (r : Fin 256) (j : Fin 2816) :
    k0_pay1 (F := Ideal) (k0_pay27 x (k0_pay16 g) (k0_pay17 x) wg wu) (ix3 0 r j) = ((q.lay.slope (ρ r) j : ℝ) : EReal) := slope3 b r j
theorem f_pay' (b : Block q ρ x tg g qg wg wu wd) (r : Fin 256) (k : Fin 1024) :
    k0_pay2 (F := Ideal) k0_pay19 (k0_pay24 x (k0_pay16 g) (k0_pay17 x) wg wu) wd (ix2 r k) = ((q.lay.f (ρ r) k : ℝ) : EReal) := f_pay b r k
theorem y_pay' (b : Block q ρ x tg g qg wg wu wd) (r : Fin 256) (k : Fin 1024) :
    k0_pay3 (F := Ideal) x k0_pay19 (k0_pay24 x (k0_pay16 g) (k0_pay17 x) wg wu) wd qg (ix2 r k) = ((q.y (ρ r) k : ℝ) : EReal) := y_pay b r k

end Cert.FfnMidIdeal.Val

end
-- ==== Proof.FfnMidHost.lean ====
/-
  What the kernel of `ffn_fwd` reads without the loss: its blocks, from the arguments. The mathematics is that of the
  call under the loss, with nothing to compare the output with.
-/
module

public import proofs.«01_k».proof.Proof.FfnMidPay
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.FfnMidIdeal.Val

open Idealize.ShloMosaic Idealize.ShloMosaic.TcCoe Idealize.SL.Sem
open Cert.FfnMidIdeal Cert.FfnMidIdeal.Gen Cert.Lift
open Cert.FfnFwdIdeal.Val (row half pieces2 pieces3)

/-- The arguments are real numbers. -/
abbrev Args (m : (ℓ : Loc nD τ sig) → Buf (Elt Ideal) ℓ) (c : Dev nD) (q : Ffn) : Prop :=
  Cert.FfnFwdRefIdeal.Val.Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (fun _ => ((0 : ℝ) : EReal)) q

theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![t.val, 0] ∧ win0_7.index t = ![0, t.val, 0] ∧ win0_8.index t = ![0, t.val, 0] ∧ win0_9.index t = ![0, t.val, 0]
    ∧ win0_10.index t = ![t.val, 0] :=
  (by decide +kernel : ∀ t : Fin grid0.N, _)

variable {m : (ℓ : Loc nD τ sig) → Buf (Elt Ideal) ℓ} {c : Dev nD} {q : Ffn}

theorem x_real (a : Args m c q) (t : Fin cfg0.N) (r : Fin 512) (k : Fin 1024) : iblk m c 0 t (ix2 r k) = ((q.x (row t r) k : ℝ) : EReal) := by
  have h : iblk m c 0 t (ix2 r k) = (V m c main_arg0 : FVec Ideal S8192x1024 .f32) (ix2 (row t r) k) := by blk_point [iblk, idx t]
  rw [h, V_main_arg0]; exact a.x _ _
theorem V_pg (c : Dev nD) (k : Fin 1024) : (V m c main_v6 : FVec Ideal S1x1024 .f32) (ix2 0 k) = m ((c.tc : Thread nD τ).loc main_arg1) (ix1 k) := by
  unfold V; after_reads_at
theorem pg_real (a : Args m c q) (t : Fin cfg0.N) (k : Fin 1024) : iblk m c 1 t (ix2 0 k) = ((q.pg k : ℝ) : EReal) := by
  have h : iblk m c 1 t (ix2 0 k) = (V m c main_v6 : FVec Ideal S1x1024 .f32) (ix2 0 k) := by blk_point [iblk, idx t]
  exact h.trans ((V_pg c k).trans (a.pg _))
theorem V_qg (c : Dev nD) (k : Fin 1024) : (V m c main_v7 : FVec Ideal S1x1024 .f32) (ix2 0 k) = m ((c.tc : Thread nD τ).loc main_arg2) (ix1 k) := by
  unfold V; after_reads_at
theorem qg_real (a : Args m c q) (t : Fin cfg0.N) (k : Fin 1024) : iblk m c 2 t (ix2 0 k) = ((q.qg k : ℝ) : EReal) := by
  have h : iblk m c 2 t (ix2 0 k) = (V m c main_v7 : FVec Ideal S1x1024 .f32) (ix2 0 k) := by blk_point [iblk, idx t]
  exact h.trans ((V_qg c k).trans (a.qg _))
theorem V_wg (c : Dev nD) (j : Fin 2816) (l : Fin 1024) : (V m c main_v2 : FVec Ideal S1x2816x1024 .bf16) (ix3 0 j l) = m ((c.tc : Thread nD τ).loc main_arg3) (ix2 l j) := by
  unfold V; after_reads_at
theorem wg_real (a : Args m c q) (t : Fin cfg0.N) (j : Fin 2816) (l : Fin 1024) : iblk m c 3 t (ix3 0 j l) = ((q.wg l j : ℝ) : EReal) := by
  have h : iblk m c 3 t (ix3 0 j l) = (V m c main_v2 : FVec Ideal S1x2816x1024 .bf16) (ix3 0 j l) := by blk_point [iblk, idx t]
  exact h.trans ((V_wg c j l).trans (a.wg _ _))
theorem V_wu (c : Dev nD) (j : Fin 2816) (l : Fin 1024) : (V m c main_v5 : FVec Ideal S1x2816x1024 .bf16) (ix3 0 j l) = m ((c.tc : Thread nD τ).loc main_arg4) (ix2 l j) := by
  unfold V; after_reads_at
theorem wu_real (a : Args m c q) (t : Fin cfg0.N) (j : Fin 2816) (l : Fin 1024) : iblk m c 4 t (ix3 0 j l) = ((q.wu l j : ℝ) : EReal) := by
  have h : iblk m c 4 t (ix3 0 j l) = (V m c main_v5 : FVec Ideal S1x2816x1024 .bf16) (ix3 0 j l) := by blk_point [iblk, idx t]
  exact h.trans ((V_wu c j l).trans (a.wu _ _))
theorem V_wd (c : Dev nD) (j : Fin 2816) (k : Fin 1024) : (V m c main_v9 : FVec Ideal S1x2816x1024 .bf16) (ix3 0 j k) = m ((c.tc : Thread nD τ).loc main_arg5) (ix2 j k) := by
  unfold V; after_reads_at
theorem wd_real (a : Args m c q) (t : Fin cfg0.N) (j : Fin 2816) (k : Fin 1024) : iblk m c 5 t (ix3 0 j k) = ((q.wd j k : ℝ) : EReal) := by
  have h : iblk m c 5 t (ix3 0 j k) = (V m c main_v9 : FVec Ideal S1x2816x1024 .bf16) (ix3 0 j k) := by blk_point [iblk, idx t]
  exact h.trans ((V_wd c j k).trans (a.wd _ _))

/-- One of a point's two blocks of rows. -/
abbrev xb (m : (ℓ : Loc nD τ sig) → Buf (Elt Ideal) ℓ) (c : Dev nD) (t : Fin cfg0.N) (h : Fin 2) (hb : ∀ i, (![h.val * 256, 0] : Fin 2 → ℕ) i + (![256, 1024] : Fin 2 → ℕ) i ≤ S512x1024.size i) :
    FVec Ideal S256x1024 .f32 := View.ld (Val := Elt Ideal) (e' := EltTy.f32) (iblk m c 0 t) (Rect.unit (s := S512x1024) ![h.val * 256, 0] ![256, 1024] hb)

theorem block (a : Args m c q) (t : Fin cfg0.N) (h : Fin 2) (hb) :
    Cert.FfnFwdIdeal.Val.Block q (fun r => row t (half h r)) (xb m c t h hb) (fun _ => ((0 : ℝ) : EReal)) (iblk m c 1 t) (iblk m c 2 t) (iblk m c 3 t) (iblk m c 4 t) (iblk m c 5 t) where
  x r k := (congrArg (iblk m c 0 t) (show (Rect.unit (s := S512x1024) ![h.val * 256, 0] ![256, 1024] hb).emb (ix2 r k) = ix2 (half h r) k by blk_ext)).trans (x_real a t _ k)
  g := pg_real a t
  qg := qg_real a t
  wg := wg_real a t
  wu := wu_real a t
  wd := wd_real a t
  tg r k := a.tg (row t (half h r)) k

end Cert.FfnMidIdeal.Val

end
-- ==== Proof.FfnMidValue.lean ====
/-
  What the kernel of `ffn_fwd` returns without the loss, over the reals.
-/
module

public import proofs.«01_k».proof.Proof.FfnMidHost

@[expose] public section

set_option maxRecDepth 16384
set_option maxHeartbeats 2000000

noncomputable section

namespace Cert.FfnMidIdeal.Val

open Idealize.ShloMosaic Idealize.ShloMosaic.TcCoe Idealize.SL.Sem
open Cert.FfnMidIdeal Cert.FfnMidIdeal.Gen Cert.Lift
open Cert.FfnFwdIdeal.Val (row half pieces2 pieces3)

variable {m : (ℓ : Loc nD τ sig) → Buf (Elt Ideal) ℓ} {c : Dev nD} {q : Ffn}

theorem y_out (a : Args m c q) (t : Fin cfg0.N) (r : Fin 512) (k : Fin 1024) :
    out0_6 (iblk m c 0 t) (iblk m c 1 t) (iblk m c 2 t) (iblk m c 3 t) (iblk m c 4 t) (iblk m c 5 t) (ix2 r k) = ((q.y (row t r) k : ℝ) : EReal) := by
  unfold_out out0_6; frame_out
  exact pieces2 t q.y _ _ _ _ (y_pay (block a t 0 _)) (y_pay' (block a t 1 _)) r k
theorem y_eq (a : Args m c q) : (dats m 0 c).arrAt 6 cfg0.N = fun y => ((q.y (y 0) (y 1) : ℝ) : EReal) := by
  refine (dats m 0 c).arrAt_eq_of_covers 6 _ (by decide +kernel) fun t hf y => ?_
  obtain ⟨r, k, rfl⟩ : ∃ r k, y = ix2 r k := ⟨y 0, y 1, by blk_ext⟩
  blk_simp
  rw [after0_6]
  have e : ((cfg0.win 6).blk t).view.emb (ix2 r k) = ix2 (row t r) k := by blk_ext [idx t]
  rw [e]
  exact y_out a t r k

theorem act_out (a : Args m c q) (t : Fin cfg0.N) (b : Fin 1) (r : Fin 512) (k : Fin 2816) :
    out0_7 (iblk m c 0 t) (iblk m c 1 t) (iblk m c 2 t) (iblk m c 3 t) (iblk m c 4 t) (iblk m c 5 t) (ix3 b r k) = ((q.lay.act (row t r) k : ℝ) : EReal) := by
  unfold_out out0_7; frame_out
  exact pieces3 t q.lay.act _ _ _ _ (act3 (block a t 0 _)) (act3' (block a t 1 _)) b r k
theorem act_eq (a : Args m c q) : (dats m 0 c).arrAt 7 cfg0.N = fun y => ((q.lay.act (y 1) (y 2) : ℝ) : EReal) := by
  refine (dats m 0 c).arrAt_eq_of_covers 7 _ (by decide +kernel) fun t hf y => ?_
  obtain ⟨b, r, k, rfl⟩ : ∃ b r k, y = ix3 b r k := ⟨y 0, y 1, y 2, by blk_ext⟩
  blk_simp
  rw [after0_7]
  have e : ((cfg0.win 7).blk t).view.emb (ix3 b r k) = ix3 b (row t r) k := by blk_ext [idx t]
  rw [e]
  exact act_out a t b r k

theorem dup_out (a : Args m c q) (t : Fin cfg0.N) (b : Fin 1) (r : Fin 512) (k : Fin 2816) :
    out0_8 (iblk m c 0 t) (iblk m c 1 t) (iblk m c 2 t) (iblk m c 3 t) (iblk m c 4 t) (iblk m c 5 t) (ix3 b r k) = ((q.sg (row t r) k : ℝ) : EReal) := by
  unfold_out out0_8; frame_out
  exact pieces3 t q.sg _ _ _ _ (dup3 (block a t 0 _)) (dup3' (block a t 1 _)) b r k
theorem dup_eq (a : Args m c q) : (dats m 0 c).arrAt 8 cfg0.N = fun y => ((q.sg (y 1) (y 2) : ℝ) : EReal) := by
  refine (dats m 0 c).arrAt_eq_of_covers 8 _ (by decide +kernel) fun t hf y => ?_
  obtain ⟨b, r, k, rfl⟩ : ∃ b r k, y = ix3 b r k := ⟨y 0, y 1, y 2, by blk_ext⟩
  blk_simp
  rw [after0_8]
  have e : ((cfg0.win 8).blk t).view.emb (ix3 b r k) = ix3 b (row t r) k := by blk_ext [idx t]
  rw [e]
  exact dup_out a t b r k

theorem slope_out (a : Args m c q) (t : Fin cfg0.N) (b : Fin 1) (r : Fin 512) (k : Fin 2816) :
    out0_9 (iblk m c 0 t) (iblk m c 1 t) (iblk m c 2 t) (iblk m c 3 t) (iblk m c 4 t) (iblk m c 5 t) (ix3 b r k) = ((q.lay.slope (row t r) k : ℝ) : EReal) := by
  unfold_out out0_9; frame_out
  exact pieces3 t q.lay.slope _ _ _ _ (slope3 (block a t 0 _)) (slope3' (block a t 1 _)) b r k
theorem slope_eq (a : Args m c q) : (dats m 0 c).arrAt 9 cfg0.N = fun y => ((q.lay.slope (y 1) (y 2) : ℝ) : EReal) := by
  refine (dats m 0 c).arrAt_eq_of_covers 9 _ (by decide +kernel) fun t hf y => ?_
  obtain ⟨b, r, k, rfl⟩ : ∃ b r k, y = ix3 b r k := ⟨y 0, y 1, y 2, by blk_ext⟩
  blk_simp
  rw [after0_9]
  have e : ((cfg0.win 9).blk t).view.emb (ix3 b r k) = ix3 b (row t r) k := by blk_ext [idx t]
  rw [e]
  exact slope_out a t b r k

theorem f_out (a : Args m c q) (t : Fin cfg0.N) (r : Fin 512) (k : Fin 1024) :
    out0_10 (iblk m c 0 t) (iblk m c 1 t) (iblk m c 2 t) (iblk m c 3 t) (iblk m c 4 t) (iblk m c 5 t) (ix2 r k) = ((q.lay.f (row t r) k : ℝ) : EReal) := by
  unfold_out out0_10; frame_out
  exact pieces2 t q.lay.f _ _ _ _ (f_pay (block a t 0 _)) (f_pay' (block a t 1 _)) r k
theorem f_eq (a : Args m c q) : (dats m 0 c).arrAt 10 cfg0.N = fun y => ((q.lay.f (y 0) (y 1) : ℝ) : EReal) := by
  refine (dats m 0 c).arrAt_eq_of_covers 10 _ (by decide +kernel) fun t hf y => ?_
  obtain ⟨r, k, rfl⟩ : ∃ r k, y = ix2 r k := ⟨y 0, y 1, by blk_ext⟩
  blk_simp
  rw [after0_10]
  have e : ((cfg0.win 10).blk t).view.emb (ix2 r k) = ix2 (row t r) k := by blk_ext [idx t]
  rw [e]
  exact f_out a t r k

end Cert.FfnMidIdeal.Val

end
-- ==== Proof.FfnMidClaim.lean ====
/-
  `ffn_fwd` without the loss: the kernel and the reference end with equal results on finite arguments.
-/
module

public import proofs.«01_k».proof.Defs
public import proofs.«01_k».proof.Proof.FfnMidValue
public import proofs.«01_k».proof.Proof.Gen.FfnMidIdeal.Value
public import proofs.«01_k».proof.Proof.Gen.FfnMidRefIdeal.Run
public import proofs.«01_k».proof.Proof.Gen.Pre_ffn_mid_finite
public import Idealize.ShloMosaic.Adequacy
public import Idealize.ShloMosaic.Init

@[expose] public section

set_option maxRecDepth 16384

noncomputable section

namespace Cert.FfnMidIdeal.Val

open Idealize.ShloMosaic Idealize.ShloMosaic.TcCoe Idealize.SL.Sem
open Cert.FfnMidIdeal Cert.Lift

/-- The real numbers of the arguments. -/
def reals (m : (ℓ : Loc nD τ sig) → Buf (Elt Ideal) ℓ) (c : Dev nD) : Ffn where
  x i j := re (s := S8192x1024) (m ((c.tc : Thread nD τ).loc main_arg0)) (ix2 i j)
  pg i := re (s := S1024) (m ((c.tc : Thread nD τ).loc main_arg1)) (ix1 i)
  qg i := re (s := S1024) (m ((c.tc : Thread nD τ).loc main_arg2)) (ix1 i)
  wg i j := re (s := S1024x2816) (m ((c.tc : Thread nD τ).loc main_arg3)) (ix2 i j)
  wu i j := re (s := S1024x2816) (m ((c.tc : Thread nD τ).loc main_arg4)) (ix2 i j)
  wd i j := re (s := S2816x1024) (m ((c.tc : Thread nD τ).loc main_arg5)) (ix2 i j)
  tg _ _ := 0

/-- What the precondition says: the arguments are arrays of real numbers. -/
theorem finite_args {m : (ℓ : Loc nD τ sig) → Buf (Elt Ideal) ℓ} (h : Cert.Pre_FfnMidIdeal_ffn_mid_finite m) (c : Dev nD) :
    Args m c (reals m c) := by
  have e := congrFun (h c) (fun i => i.elim0)
  obtain ⟨e, h5⟩ := and_one e
  obtain ⟨e, h4⟩ := and_one e
  obtain ⟨e, h3⟩ := and_one e
  obtain ⟨e, h2⟩ := and_one e
  obtain ⟨h0, h1⟩ := and_one e
  exact ⟨fun _ _ => (fin_of_all _ _ _ _ _ _ h0 _).symm,
    fun _ => (fin_of_all _ _ _ _ _ _ h1 _).symm,
    fun _ => (fin_of_all _ _ _ _ _ _ h2 _).symm,
    fun _ _ => (fin_of_all _ _ _ _ _ _ h3 _).symm,
    fun _ _ => (fin_of_all _ _ _ _ _ _ h4 _).symm,
    fun _ _ => (fin_of_all _ _ _ _ _ _ h5 _).symm,
    fun _ _ => rfl⟩

set_option maxHeartbeats 1000000 in
theorem algebraic : Cert.algebraic_FfnMidIdeal_FfnMidRefIdeal_pre_ffn_mid_finite := by
  pair_intro
  · run_from Cert.FfnMidIdeal.Value.run_blocks m g
  · run_from Cert.FfnMidRefIdeal.Value.run m' g'
    all_goals have a := finite_args hpre c
    all_goals obtain ⟨a0, a1, a2, a3, a4, a5⟩ := hagree c
    all_goals have b : Cert.FfnFwdRefIdeal.Val.Args (m' ((c.tc : Thread FfnMidRefIdeal.nD FfnMidRefIdeal.τ).loc FfnMidRefIdeal.main_arg0)) (m' ((c.tc : Thread FfnMidRefIdeal.nD FfnMidRefIdeal.τ).loc FfnMidRefIdeal.main_arg1)) (m' ((c.tc : Thread FfnMidRefIdeal.nD FfnMidRefIdeal.τ).loc FfnMidRefIdeal.main_arg2)) (m' ((c.tc : Thread FfnMidRefIdeal.nD FfnMidRefIdeal.τ).loc FfnMidRefIdeal.main_arg3)) (m' ((c.tc : Thread FfnMidRefIdeal.nD FfnMidRefIdeal.τ).loc FfnMidRefIdeal.main_arg4)) (m' ((c.tc : Thread FfnMidRefIdeal.nD FfnMidRefIdeal.τ).loc FfnMidRefIdeal.main_arg5)) (fun _ => ((0 : ℝ) : EReal)) (reals m c) := (by rw [a0, a1, a2, a3, a4, a5]; exact a)
    · rw [y_eq a, Cert.FfnMidRefIdeal.Read.val_main_v35_eq]
      funext y
      obtain ⟨i, k, rfl⟩ : ∃ i k, y = ix2 i k := ⟨y 0, y 1, by blk_ext⟩
      exact Cert.FfnMidRefIdeal.Val.y_real b i k
    · rw [act_eq a]
      refine (Cert.FfnMidRefIdeal.Read.val_main_v37_eq (F := Ideal) _ _ _ _).trans (funext fun y => ?_)
      obtain ⟨b', i, k, rfl⟩ : ∃ b' i k, y = ix3 b' i k := ⟨y 0, y 1, y 2, by blk_ext⟩
      exact Cert.FfnMidRefIdeal.Val.act_real a b' i k
    · rw [dup_eq a]
      refine (Cert.FfnMidRefIdeal.Read.val_main_v39_eq (F := Ideal) _ _ _).trans (funext fun y => ?_)
      obtain ⟨b', i, k, rfl⟩ : ∃ b' i k, y = ix3 b' i k := ⟨y 0, y 1, y 2, by blk_ext⟩
      exact Cert.FfnMidRefIdeal.Val.dup_real a b' i k
    · rw [slope_eq a, Cert.FfnMidRefIdeal.Read.val_main_v41_eq]
      funext y
      obtain ⟨b', i, k, rfl⟩ : ∃ b' i k, y = ix3 b' i k := ⟨y 0, y 1, y 2, by blk_ext⟩
      exact Cert.FfnMidRefIdeal.Val.slope_real b b' i k
    · rw [f_eq a]
      refine (Cert.FfnMidRefIdeal.Read.val_main_v21_eq (F := Ideal) _ _ _ _ _).trans (funext fun y => ?_)
      obtain ⟨i, k, rfl⟩ : ∃ i k, y = ix2 i k := ⟨y 0, y 1, by blk_ext⟩
      exact Cert.FfnMidRefIdeal.Val.f_real a i k

/-- The reference runs to its end, leaves its arguments as they were and every semaphore at zero. -/
theorem ref_frame : Cert.quiescent_FfnMidRefIdeal := fun m g _ =>
  (θ_run Cert.FfnMidRefIdeal.defs _ _).mono (fun r h => ⟨fun c => (h c).2.2.2.2.2,
      sem_eq_zero_of_no_sems (by decide) r.2⟩)
    (Cert.FfnMidRefIdeal.Value.run (F := Ideal) m g)

end Cert.FfnMidIdeal.Val

end
-- ==== Proof.AdamWValue.lean ====
/-
  `_adamw`: what the kernel leaves in its four results is what the reference's lines compute, entry by entry.
-/
module

public import proofs.«01_k».proof.Proof.Lift
public import Idealize.ShloMosaic.Lib.Pointwise
public import proofs.«01_k».proof.Proof.Gen.AdamWIdeal.Value
public import proofs.«01_k».proof.Proof.Gen.AdamWRefIdeal.Read
public import Idealize.ShloMosaic.Lib.StableHlo.ReadAt
public import Idealize.ShloMosaic.Lib.Pipeline.ValueKit
public import Idealize.ShloMosaic.Lib.Pipeline.ValueKit.Acc
public import Idealize.ShloMosaic.Lib.Pipeline.ReadBack

@[expose] public section

set_option maxRecDepth 16384

noncomputable section

namespace Cert.AdamWIdeal.Val

open Idealize.ShloMosaic Idealize.ShloMosaic.TcCoe Idealize.SL.Sem
open Cert.AdamWIdeal Cert.AdamWIdeal.Gen Cert.Lift
open Cert.AdamWRefIdeal.Read

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] :=
  (by decide +kernel : ∀ t : Fin grid0.N, _)

/-- The layer of a point of the grid. -/
def lay (t : Fin cfg0.N) : Fin 4 := ⟨t.val, t.isLt⟩

variable {m : (ℓ : Loc nD τ sig) → Buf (Elt Ideal) ℓ} {c : Dev nD}

/-- The weights, their gradient and the two moments, as arrays of 4 layers. -/
abbrev arg0 (m : (ℓ : Loc nD τ sig) → Buf (Elt Ideal) ℓ) (c : Dev nD) : FVec Ideal S4x704x1024 .f32 := m ((c.tc : Thread nD τ).loc main_arg0)
abbrev arg1 (m : (ℓ : Loc nD τ sig) → Buf (Elt Ideal) ℓ) (c : Dev nD) : FVec Ideal S4x704x1024 .f32 := m ((c.tc : Thread nD τ).loc main_arg1)
abbrev arg2 (m : (ℓ : Loc nD τ sig) → Buf (Elt Ideal) ℓ) (c : Dev nD) : FVec Ideal S4x704x1024 .f32 := m ((c.tc : Thread nD τ).loc main_arg2)
abbrev arg3 (m : (ℓ : Loc nD τ sig) → Buf (Elt Ideal) ℓ) (c : Dev nD) : FVec Ideal S4x704x1024 .f32 := m ((c.tc : Thread nD τ).loc main_arg3)

/-! ### The blocks, from the arguments -/

theorem blk0 (t : Fin cfg0.N) (r : Fin 704) (k : Fin 1024) : iblk m c 0 t (ix3 0 r k) = arg0 m c (ix3 (lay t) r k) := by
  have h : iblk m c 0 t (ix3 0 r k) = (V m c main_arg0 : FVec Ideal S4x704x1024 .f32) (ix3 (lay t) r k) := by blk_point [iblk, idx t, lay]
  exact h
theorem blk1 (t : Fin cfg0.N) (r : Fin 704) (k : Fin 1024) : iblk m c 1 t (ix3 0 r k) = arg1 m c (ix3 (lay t) r k) := by
  have h : iblk m c 1 t (ix3 0 r k) = (V m c main_arg1 : FVec Ideal S4x704x1024 .f32) (ix3 (lay t) r k) := by blk_point [iblk, idx t, lay]
  exact h
theorem blk2 (t : Fin cfg0.N) (r : Fin 704) (k : Fin 1024) : iblk m c 2 t (ix3 0 r k) = arg2 m c (ix3 (lay t) r k) := by
  have h : iblk m c 2 t (ix3 0 r k) = (V m c main_arg2 : FVec Ideal S4x704x1024 .f32) (ix3 (lay t) r k) := by blk_point [iblk, idx t, lay]
  exact h
theorem blk3 (t : Fin cfg0.N) (r : Fin 704) (k : Fin 1024) : iblk m c 3 t (ix3 0 r k) = arg3 m c (ix3 (lay t) r k) := by
  have h : iblk m c 3 t (ix3 0 r k) = (V m c main_arg3 : FVec Ideal S4x704x1024 .f32) (ix3 (lay t) r k) := by blk_point [iblk, idx t, lay]
  exact h

/-! ### What a point stores -/

theorem g_outs (t : Fin cfg0.N) (r : Fin 704) (k : Fin 1024) :
    out0_4 (iblk m c 0 t) (iblk m c 1 t) (iblk m c 2 t) (iblk m c 3 t) (ix3 0 r k) = arg1 m c (ix3 (lay t) r k) := by
  unfold out0_4; frame_out
  exact blk1 t r k

/-- The first moment of an entry. -/
theorem m_pay {g m' : FVec Ideal S1x704x1024 .f32} {G M : FVec Ideal S4x704x1024 .f32} {t : Fin cfg0.N} {r : Fin 704} {k : Fin 1024}
    (hg : g (ix3 0 r k) = G (ix3 (lay t) r k)) (hm : m' (ix3 0 r k) = M (ix3 (lay t) r k)) :
    k0_pay1 (F := Ideal) g m' (ix3 0 r k) = val_main_v4 (F := Ideal) G M (ix3 (lay t) r k) := by
  pointwise [k0_pay1, val_main_v4, val_main_v3, val_main_v2, val_main_v1, val_main_v0, val_main_cst, val_main_cst_0, hg, hm]

/-- The second moment of an entry. -/
theorem v_pay {g v : FVec Ideal S1x704x1024 .f32} {G W : FVec Ideal S4x704x1024 .f32} {t : Fin cfg0.N} {r : Fin 704} {k : Fin 1024}
    (hg : g (ix3 0 r k) = G (ix3 (lay t) r k)) (hv : v (ix3 0 r k) = W (ix3 (lay t) r k)) :
    k0_pay2 (F := Ideal) g v (ix3 0 r k) = val_main_v10 (F := Ideal) G W (ix3 (lay t) r k) := by
  pointwise [k0_pay2, val_main_v10, val_main_v9, val_main_v8, val_main_v7, val_main_v6, val_main_v5, val_main_cst_1, val_main_cst_2, hg, hv]

theorem m_outs (t : Fin cfg0.N) (r : Fin 704) (k : Fin 1024) :
    out0_6 (iblk m c 0 t) (iblk m c 1 t) (iblk m c 2 t) (iblk m c 3 t) (ix3 0 r k) = val_main_v4 (F := Ideal) (arg1 m c) (arg2 m c) (ix3 (lay t) r k) := by
  unfold out0_6; frame_out
  exact m_pay (blk1 t r k) (blk2 t r k)

theorem v_outs (t : Fin cfg0.N) (r : Fin 704) (k : Fin 1024) :
    out0_7 (iblk m c 0 t) (iblk m c 1 t) (iblk m c 2 t) (iblk m c 3 t) (ix3 0 r k) = val_main_v10 (F := Ideal) (arg1 m c) (arg3 m c) (ix3 (lay t) r k) := by
  unfold out0_7; frame_out
  exact v_pay (blk1 t r k) (blk3 t r k)

theorem d_outs (t : Fin cfg0.N) (r : Fin 704) (k : Fin 1024) :
    out0_5 (iblk m c 0 t) (iblk m c 1 t) (iblk m c 2 t) (iblk m c 3 t) (ix3 0 r k)
      = val_main_v23 (F := Ideal) (arg0 m c) (arg1 m c) (arg2 m c) (arg3 m c) (ix3 (lay t) r k) := by
  unfold out0_5; frame_out
  have h0 := blk0 (m := m) (c := c) t r k
  have hm := m_pay (blk1 (m := m) (c := c) t r k) (blk2 (m := m) (c := c) t r k)
  have hv := v_pay (blk1 (m := m) (c := c) t r k) (blk3 (m := m) (c := c) t r k)
  pointwise [k0_pay3, val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7, h0, hm, hv]

/-! ### The results -/

theorem g_eq : (dats m 0 c).arrAt 4 cfg0.N = arg1 m c := by
  refine (dats m 0 c).arrAt_eq_of_covers 4 _ (by decide +kernel) fun t hf y => ?_
  obtain ⟨r, k, rfl⟩ : ∃ r k, y = ix3 0 r k := ⟨y 1, y 2, by blk_ext⟩
  blk_simp
  rw [after0_4]
  have e : ((cfg0.win 4).blk t).view.emb (ix3 0 r k) = ix3 (lay t) r k := by blk_ext [idx t, lay]
  rw [e]
  exact g_outs t r k

theorem d_eq : (dats m 0 c).arrAt 5 cfg0.N = val_main_v23 (F := Ideal) (arg0 m c) (arg1 m c) (arg2 m c) (arg3 m c) := by
  refine (dats m 0 c).arrAt_eq_of_covers 5 _ (by decide +kernel) fun t hf y => ?_
  obtain ⟨r, k, rfl⟩ : ∃ r k, y = ix3 0 r k := ⟨y 1, y 2, by blk_ext⟩
  blk_simp
  rw [after0_5]
  have e : ((cfg0.win 5).blk t).view.emb (ix3 0 r k) = ix3 (lay t) r k := by blk_ext [idx t, lay]
  rw [e]
  exact d_outs t r k

theorem m_eq : (dats m 0 c).arrAt 6 cfg0.N = val_main_v4 (F := Ideal) (arg1 m c) (arg2 m c) := by
  refine (dats m 0 c).arrAt_eq_of_covers 6 _ (by decide +kernel) fun t hf y => ?_
  obtain ⟨r, k, rfl⟩ : ∃ r k, y = ix3 0 r k := ⟨y 1, y 2, by blk_ext⟩
  blk_simp
  rw [after0_6]
  have e : ((cfg0.win 6).blk t).view.emb (ix3 0 r k) = ix3 (lay t) r k := by blk_ext [idx t, lay]
  rw [e]
  exact m_outs t r k

theorem v_eq : (dats m 0 c).arrAt 7 cfg0.N = val_main_v10 (F := Ideal) (arg1 m c) (arg3 m c) := by
  refine (dats m 0 c).arrAt_eq_of_covers 7 _ (by decide +kernel) fun t hf y => ?_
  obtain ⟨r, k, rfl⟩ : ∃ r k, y = ix3 0 r k := ⟨y 1, y 2, by blk_ext⟩
  blk_simp
  rw [after0_7]
  have e : ((cfg0.win 7).blk t).view.emb (ix3 0 r k) = ix3 (lay t) r k := by blk_ext [idx t, lay]
  rw [e]
  exact v_outs t r k

end Cert.AdamWIdeal.Val

end
-- ==== Proof.AdamWClaim.lean ====
/-
  `_adamw`: the kernel and the reference end with equal results, whatever the arguments.
-/
module

public import proofs.«01_k».proof.Defs
public import proofs.«01_k».proof.Proof.AdamWValue
public import proofs.«01_k».proof.Proof.Gen.AdamWRefIdeal.Run
public import Idealize.ShloMosaic.Adequacy
public import Idealize.ShloMosaic.Init

@[expose] public section

set_option maxRecDepth 16384

noncomputable section

namespace Cert.AdamWIdeal.Val

open Idealize.ShloMosaic Idealize.ShloMosaic.TcCoe Idealize.SL.Sem
open Cert.AdamWIdeal Cert.Lift

set_option maxHeartbeats 1000000 in
theorem algebraic : Cert.algebraic_AdamWIdeal_AdamWRefIdeal := by
  pair_intro
  · run_from Cert.AdamWIdeal.Value.run_blocks m g
  · run_from Cert.AdamWRefIdeal.Value.run m' g'
    · rw [g_eq]
    · rw [d_eq, Cert.AdamWRefIdeal.Read.val_main_v23_eq]
    · rw [m_eq, Cert.AdamWRefIdeal.Read.val_main_v4_eq]
    · rw [v_eq, Cert.AdamWRefIdeal.Read.val_main_v10_eq]

/-- The reference runs to its end, leaves its arguments as they were and every semaphore at zero. -/
theorem ref_frame : Cert.quiescent_AdamWRefIdeal := fun m g _ =>
  (θ_run Cert.AdamWRefIdeal.defs _ _).mono (fun r h => ⟨fun c => (h c).2.2.2.2,
      sem_eq_zero_of_no_sems (by decide) r.2⟩)
    (Cert.AdamWRefIdeal.Value.run (F := Ideal) m g)

end Cert.AdamWIdeal.Val

end
-- ==== Proof.SumDevicesValue.lean ====
/-
  `_sum_devices`: the kernel adds the eight devices' rows one after the other, and that is the reference's sum.
-/
module

public import proofs.«01_k».proof.Proof.Lift
public import proofs.«01_k».proof.Proof.Gen.SumDevicesIdeal.Value
public import proofs.«01_k».proof.Proof.Gen.SumDevicesRefIdeal.Read
public import Idealize.ShloMosaic.Lib.StableHlo.ReadAt
public import Idealize.ShloMosaic.Lib.Pipeline.ValueKit
public import Idealize.ShloMosaic.Lib.Pipeline.ValueKit.Acc
public import Idealize.ShloMosaic.Lib.Pipeline.ReadBack

@[expose] public section

set_option maxRecDepth 16384

noncomputable section

namespace Cert.SumDevicesIdeal.Val

open Idealize.ShloMosaic Idealize.ShloMosaic.TcCoe Idealize.SL.Sem
open Cert.SumDevicesIdeal Cert.SumDevicesIdeal.Gen Cert.Lift
open Cert.SumDevicesRefIdeal.Read

theorem idx : ∀ t : Fin cfg0.N, win0_0.index t = ![0, 0, 0] ∧ win0_1.index t = ![0, 0] := by decide +kernel

variable {m : (ℓ : Loc nD τ sig) → Buf (Elt Ideal) ℓ} {c : Dev nD}

/-- The eight devices' rows. -/
abbrev rows (m : (ℓ : Loc nD τ sig) → Buf (Elt Ideal) ℓ) (c : Dev nD) : FVec Ideal S8x2272x128 .f32 := m ((c.tc : Thread nD τ).loc main_arg0)

/-- The reference's sum, written out. -/
theorem ref_sum (x : FVec Ideal S8x2272x128 .f32) (r : Fin 2272) (k : Fin 128) :
    val_main_v0 (F := Ideal) x (ix2 r k) = x (ix3 0 r k) + x (ix3 1 r k) + x (ix3 2 r k) + x (ix3 3 r k) + x (ix3 4 r k) + x (ix3 5 r k)
      + x (ix3 6 r k) + x (ix3 7 r k) := by
  have e : ∀ d : Fin 8, idx_main_v0 (ix2 r k) d = ix3 d r k := fun d => by blk_ext [idx_main_v0]
  have z : (val_main_cst (F := Ideal)) (Shape.Idx.first Cert.SumDevicesRefIdeal.Gen.h_S_) = (0 : EReal) := by pointwise [val_main_cst]
  rw [val_main_v0_apply, z]
  refine (zero_add _).trans ?_
  simp only [e]
  exact Fin.sum_univ_eight _

theorem blk (t : Fin cfg0.N) (d : Fin 8) (r : Fin 2272) (k : Fin 128) : iblk m c 0 t (ix3 d r k) = rows m c (ix3 d r k) := by
  have h : iblk m c 0 t (ix3 d r k) = (V m c main_arg0 : FVec Ideal S8x2272x128 .f32) (ix3 d r k) := by blk_point [iblk, idx t]
  exact h

/-- One device's rows, as the kernel loads them. -/
theorem ld (t : Fin cfg0.N) (d : Fin 8) (h : ∀ i, (![d.val, 0, 0] : Fin 3 → ℕ) i + S1x2272x128.size i ≤ S8x2272x128.size i) (r : Fin 2272) (k : Fin 128) :
    View.ld (Val := Elt Ideal) (e' := EltTy.f32) (iblk m c 0 t) (Rect.unit (s := S8x2272x128) ![d.val, 0, 0] S1x2272x128.size h) (ix3 0 r k) = rows m c (ix3 d r k) :=
  (congrArg (iblk m c 0 t) (show (Rect.unit (s := S8x2272x128) ![d.val, 0, 0] S1x2272x128.size h).emb (ix3 0 r k) = ix3 d r k by blk_ext)).trans (blk t d r k)

/-- The kernel's chain of additions. -/
theorem sum_pay {x0 x1 x2 x3 x4 x5 x6 x7 : FVec Ideal S1x2272x128 .f32} (r : Fin 2272) (k : Fin 128) :
    k0_pay1 (F := Ideal) x0 x1 x2 x3 x4 x5 x6 x7 (ix2 r k) = (x0 (ix3 0 r k) + x1 (ix3 0 r k) + x2 (ix3 0 r k) + x3 (ix3 0 r k) + x4 (ix3 0 r k) + x5 (ix3 0 r k)
      + x6 (ix3 0 r k) + x7 (ix3 0 r k) : EReal) := by
  pointwise [k0_pay1]

theorem outs (t : Fin cfg0.N) (r : Fin 2272) (k : Fin 128) : out0_1 (iblk m c 0 t) (ix2 r k) = val_main_v0 (F := Ideal) (rows m c) (ix2 r k) := by
  unfold out0_1; frame_out
  rw [ref_sum]
  refine (sum_pay r k).trans ?_
  rw [← ld t 0 inb_S8x2272x128_S1x2272x128_0_0_0 r k, ← ld t 1 inb_S8x2272x128_S1x2272x128_1_0_0 r k, ← ld t 2 inb_S8x2272x128_S1x2272x128_2_0_0 r k,
    ← ld t 3 inb_S8x2272x128_S1x2272x128_3_0_0 r k, ← ld t 4 inb_S8x2272x128_S1x2272x128_4_0_0 r k, ← ld t 5 inb_S8x2272x128_S1x2272x128_5_0_0 r k,
    ← ld t 6 inb_S8x2272x128_S1x2272x128_6_0_0 r k, ← ld t 7 inb_S8x2272x128_S1x2272x128_7_0_0 r k]
  rfl

theorem sum_eq : (dats m 0 c).arrAt 1 cfg0.N = val_main_v0 (F := Ideal) (rows m c) := by
  refine (dats m 0 c).arrAt_eq_of_covers 1 _ (by decide +kernel) fun t hf y => ?_
  obtain ⟨r, k, rfl⟩ : ∃ r k, y = ix2 r k := ⟨y 0, y 1, by blk_ext⟩
  blk_simp
  rw [after0_1]
  have e : ((cfg0.win 1).blk t).view.emb (ix2 r k) = ix2 r k := by blk_ext [idx t]
  rw [e]
  exact outs t r k

end Cert.SumDevicesIdeal.Val

end
-- ==== Proof.SumDevicesClaim.lean ====
/-
  `_sum_devices`: the kernel and the reference end with equal results, whatever the arguments.
-/
module

public import proofs.«01_k».proof.Defs
public import proofs.«01_k».proof.Proof.SumDevicesValue
public import proofs.«01_k».proof.Proof.Gen.SumDevicesRefIdeal.Run
public import Idealize.ShloMosaic.Adequacy
public import Idealize.ShloMosaic.Init

@[expose] public section

set_option maxRecDepth 16384

noncomputable section

namespace Cert.SumDevicesIdeal.Val

open Idealize.ShloMosaic Idealize.ShloMosaic.TcCoe Idealize.SL.Sem
open Cert.SumDevicesIdeal Cert.SumDevicesIdeal.Gen Cert.Lift

theorem algebraic : Cert.algebraic_SumDevicesIdeal_SumDevicesRefIdeal := fun m g m' g' _ hagree =>
  ⟨fun c => (dats m 0 c).arrAt 1 cfg0.N, Cert.SumDevicesIdeal.Value.run_blocks m g,
    (θ_run Cert.SumDevicesRefIdeal.defs _ _).mono (fun r h c => ⟨(h c).1.trans ((Cert.SumDevicesRefIdeal.Read.val_main_v0_eq _).trans
        ((congrArg (Cert.SumDevicesRefIdeal.Read.val_main_v0 (F := Ideal)) (hagree c)).trans sum_eq.symm)), (h c).2⟩)
      (Cert.SumDevicesRefIdeal.Value.run (F := Ideal) m' g')⟩

/-- The reference runs to its end, leaves its arguments as they were and every semaphore at zero. -/
theorem ref_frame : Cert.quiescent_SumDevicesRefIdeal := fun m g _ =>
  (θ_run Cert.SumDevicesRefIdeal.defs _ _).mono (fun r h => ⟨fun c => (h c).2,
      sem_eq_zero_of_no_sems (by decide) r.2⟩)
    (Cert.SumDevicesRefIdeal.Value.run (F := Ideal) m g)

end Cert.SumDevicesIdeal.Val

end
-- ==== Proof.PairSumValue.lean ====
/-
  `_pair_sum`: the core's index, read from the table under the precondition, and what the kernel leaves in its result.
-/
module

public import proofs.«01_k».proof.Defs
public import proofs.«01_k».proof.Proof.Lift
public import Idealize.ShloMosaic.Lib.Pointwise
public import Idealize.ShloMosaic.Lib.DynamicIndex
public import proofs.«01_k».proof.Proof.Gen.PairSum.Frame
public import proofs.«01_k».proof.Proof.Gen.PairSumIdeal.Frame
public import proofs.«01_k».proof.Proof.Gen.PairSumRefIdeal.Read
public import proofs.«01_k».proof.Proof.Gen.Pre_core_in_range
public import Idealize.ShloMosaic.Lib.Pipeline.ValueKit
public import Idealize.ShloMosaic.Lib.Pipeline.ValueKit.Acc
public import Idealize.ShloMosaic.Lib.Pipeline.ReadBack

@[expose] public section

set_option maxRecDepth 16384

noncomputable section

namespace Cert.PairSumVal

open Idealize.ShloMosaic Idealize.ShloMosaic.TcCoe Idealize.SL.Sem Cert.Lift

/-- The position of the core's index in the table of two. -/
noncomputable abbrev one : Shape.Idx ⟨1, ![2]⟩ := fun a => match a with
  | ⟨0, _⟩ => (1 : Fin 2)

theorem one_eq (i : Shape.Idx ⟨1, ![2]⟩) (h : (i 0).val = 1) : i = one := by
  funext a; obtain rfl : a = 0 := Subsingleton.elim _ _; exact Fin.ext h

theorem word_cases (w : BitVec 32) (h0 : IntOp.cmpi .sge w 0#32 = 1#1) (h1 : IntOp.cmpi .slt w 2#32 = 1#1) : w = 0#32 ∨ w = 1#32 := by
  have a0 : (0 : Int) ≤ w.toInt := by
    by_contra hn; simp [IntOp.cmpi, BitVec.sle, hn] at h0
  have a1 : w.toInt < 2 := by
    by_contra hn; simp [IntOp.cmpi, BitVec.slt, hn] at h1
  have : w.toInt = 0 ∨ w.toInt = 1 := by omega
  rcases this with e | e
  · left; apply BitVec.eq_of_toInt_eq; rw [e]; decide
  · right; apply BitVec.eq_of_toInt_eq; rw [e]; decide

/-- Under the precondition the core's index is 0 or 1. -/
theorem word_of_fn {F : FTy → Type} [FloatOps F] (a0 : IVec ⟨1, ![2]⟩ 32) (a1 : FVec F ⟨3, ![4, 704, 1024]⟩ .f32) (a2 : FVec F ⟨3, ![4, 352, 1024]⟩ .f32)
    (h : Cert.Pre_core_in_range.fn (F := F) a0 a1 a2 = fun _ => 1#1) : a0 one = 0#32 ∨ a0 one = 1#32 := by
  have e := and_one (congrFun h (fun a => a.elim0))
  have r : ∀ j, shapeCast Cert.Pre_core_in_range.S_ (extractStridedSlice Cert.Pre_core_in_range.S1 ![1] a0 Cert.Pre_core_in_range.Facts.slices_S2_S1_1)
      Cert.Pre_core_in_range.Facts.shapeCasts_S1_S_ j = a0 one := fun j => by
    refine congrArg a0 (one_eq _ ?_)
    show 1 + (_ : Fin 1).val = 1
    omega
  refine word_cases _ ?_ ?_
  · rw [← r]; exact e.1
  · rw [← r]; exact e.2

section bits
open Cert.PairSum Cert.PairSum.Gen

theorem ok_bits (m : (ℓ : Loc nD τ sig) → Buf (Elt Bits) ℓ) (h : Cert.Pre_PairSum m) : Ok (F := Bits) m := by
  have w := word_of_fn _ _ _ (h 0)
  intro i
  have hp : (tbl m).at 0 (Rect.unit (s := S2) ![1] S1.size Facts₀.inb_S2_S1_1) Facts₀.numel1_S1 = m (((0 : Dev nD).tc : Thread nD τ).loc main_arg0) one :=
    congrArg (m (((0 : Dev nD).tc : Thread nD τ).loc main_arg0)) (one_eq _ rfl)
  have hi0 : (i 0).val < 4 := (i 0).isLt
  have hi1 : (i 1).val < 1 := (i 1).isLt
  refine ⟨fun a => ?_, Or.inl rfl⟩
  unfold cc0_transform_0
  rw [hp]
  rcases w with w | w <;> rw [w] <;> fin_cases a <;>
    simp [Scalar.muli, Scalar.addi, IntOp.muli, IntOp.addi, BitVec.toNat_add, BitVec.toNat_ofNat] <;> omega

end bits

section ideal
open Cert.PairSumIdeal Cert.PairSumIdeal.Gen
open Cert.PairSumRefIdeal.Read

abbrev S_ : Shape := ⟨0, ![]⟩

/-- The core's index. -/
noncomputable abbrev word (m : (ℓ : Loc nD τ sig) → Buf (Elt Ideal) ℓ) : BitVec 32 := m (((0 : Dev nD).tc : Thread nD τ).loc main_arg0) one

theorem word_ideal {m : (ℓ : Loc nD τ sig) → Buf (Elt Ideal) ℓ} (h : Cert.Pre_PairSumIdeal m) : word m = 0#32 ∨ word m = 1#32 :=
  word_of_fn _ _ _ (h 0)

theorem tbl_word (m : (ℓ : Loc nD τ sig) → Buf (Elt Ideal) ℓ) :
    (tbl m).at 0 (Rect.unit (s := S2) ![1] S1.size Facts₀.inb_S2_S1_1) Facts₀.numel1_S1 = word m :=
  congrArg (m (((0 : Dev nD).tc : Thread nD τ).loc main_arg0)) (one_eq _ rfl)

theorem ok_ideal (m : (ℓ : Loc nD τ sig) → Buf (Elt Ideal) ℓ) (h : Cert.Pre_PairSumIdeal m) : Ok (F := Ideal) m := by
  intro i
  have hi0 : (i 0).val < 4 := (i 0).isLt
  have hi1 : (i 1).val < 1 := (i 1).isLt
  refine ⟨fun a => ?_, Or.inl rfl⟩
  unfold cc0_transform_0
  rw [tbl_word]
  rcases word_ideal h with w | w <;> rw [w] <;> fin_cases a <;>
    simp [Scalar.muli, Scalar.addi, IntOp.muli, IntOp.addi, BitVec.toNat_add, BitVec.toNat_ofNat] <;> omega

variable {m : (ℓ : Loc nD τ sig) → Buf (Elt Ideal) ℓ} (hO : Ok m) {c : Dev nD}

theorem idx12 : ∀ t : Fin (cfgM m hO).N, ((cfgM m hO).win 1).index t = ![t.val, 0, 0] ∧ ((cfgM m hO).win 2).index t = ![t.val, 0, 0] :=
  (by decide +kernel : ∀ t : Fin grid0.N, cc0_transform_1 (grid0.coords t) = ![t.val, 0, 0] ∧ cc0_transform_2 (grid0.coords t) = ![t.val, 0, 0])

theorem coords : ∀ t : Fin grid0.N, (grid0.coords t 0).val = t.val ∧ (grid0.coords t 1).val = 0 := by decide +kernel

theorem idx0 (h : word m = 0#32 ∨ word m = 1#32) (t : Fin (cfgM m hO).N) : ((cfgM m hO).win 0).index t = ![t.val, (word m).toNat, 0] := by
  show cc0_transform_0 Facts₀.inb_S2_S1_1 Facts₀.numel1_S1 (tbl m) (grid0.coords t) = _
  have ht : t.val < 4 := t.isLt
  unfold cc0_transform_0
  rw [tbl_word, (coords t).1, (coords t).2]
  rcases h with w | w <;> rw [w] <;> funext a <;> fin_cases a <;>
    simp [Scalar.muli, Scalar.addi, IntOp.muli, IntOp.addi, BitVec.toNat_add, BitVec.toNat_ofNat] <;> omega

/-- The layer of a point of the grid. -/
noncomputable def lay (t : Fin (cfgM m hO).N) : Fin 4 := ⟨t.val, t.isLt⟩

noncomputable abbrev arg1 (m : (ℓ : Loc nD τ sig) → Buf (Elt Ideal) ℓ) (c : Dev nD) : FVec Ideal S4x704x1024 .f32 := m ((c.tc : Thread nD τ).loc main_arg1)
noncomputable abbrev arg2 (m : (ℓ : Loc nD τ sig) → Buf (Elt Ideal) ℓ) (c : Dev nD) : FVec Ideal S4x352x1024 .f32 := m ((c.tc : Thread nD τ).loc main_arg2)

abbrev tab (m : (ℓ : Loc nD τ sig) → Buf (Elt Ideal) ℓ) (c : Dev nD) : IVec S2 32 := m ((c.tc : Thread nD τ).loc main_arg0)

/-! ### The reference's half -/

theorem word_ref (x0 : IVec S2 32) (j : S_.Idx) : val_main_v1 (F := Ideal) x0 j = x0 one := by
  have r : ∀ i : S1.Idx, val_main_v0 (F := Ideal) x0 i = x0 one := fun i => by
    rw [val_main_v0_apply]
    refine congrArg x0 (one_eq _ ?_)
    have : (i 0).val < 1 := (i 0).isLt
    show 1 + (i 0).val = 1
    omega
  exact r _

theorem half_first (x0 : IVec S2 32) (x1 : FVec Ideal S4x704x1024 .f32) (h : x0 one = 0#32) (j : S4x352x1024.Idx) :
    val_main_v5 (F := Ideal) x0 x1 j = val_main_v3 (F := Ideal) x1 j := by
  have e : val_main_v2 (F := Ideal) x0 = fun _ => 1#1 := by
    funext i; rw [val_main_v2_apply, word_ref, h]; rfl
  unfold val_main_v5; rw [e]; rfl

theorem half_second (x0 : IVec S2 32) (x1 : FVec Ideal S4x704x1024 .f32) (h : x0 one = 1#32) (j : S4x352x1024.Idx) :
    val_main_v5 (F := Ideal) x0 x1 j = val_main_v4 (F := Ideal) x1 j := by
  have e : val_main_v2 (F := Ideal) x0 = fun _ => 0#1 := by
    funext i; rw [val_main_v2_apply, word_ref, h]; rfl
  unfold val_main_v5; rw [e]; rfl

/-! ### The blocks, from the arguments -/

theorem blk0 (h : word m = 0#32 ∨ word m = 1#32) (t : Fin (cfgM m hO).N) (r : Fin 352) (k : Fin 1024) :
    iblk m hO c 0 t (ix3 0 r k) = val_main_v5 (F := Ideal) (tab m c) (arg1 m c) (ix3 (lay hO t) r k) := by
  have hi := idx0 hO h t
  obtain rfl : c = 0 := Subsingleton.elim _ _
  have hr : r.val < 352 := r.isLt
  rcases h with w | w
  · rw [w] at hi
    rw [half_first _ _ w, val_main_v3_apply]
    have e : iblk m hO 0 0 t (ix3 0 r k) = (V m 0 main_arg1 : FVec Ideal S4x704x1024 .f32) (idx_main_v3 (ix3 (lay hO t) r k)) := by
      blk_point [iblk, hi, lay, idx_main_v3, BitVec.toNat_ofNat]
    exact e
  · rw [w] at hi
    rw [half_second _ _ w, val_main_v4_apply]
    have e : iblk m hO 0 0 t (ix3 0 r k) = (V m 0 main_arg1 : FVec Ideal S4x704x1024 .f32) (idx_main_v4 (ix3 (lay hO t) r k)) := by
      blk_point [iblk, hi, lay, idx_main_v4, BitVec.toNat_ofNat]
    exact e
theorem blk1 (t : Fin (cfgM m hO).N) (r : Fin 352) (k : Fin 1024) : iblk m hO c 1 t (ix3 0 r k) = arg2 m c (ix3 (lay hO t) r k) := by
  have e : iblk m hO c 1 t (ix3 0 r k) = (V m c main_arg2 : FVec Ideal S4x352x1024 .f32) (ix3 (lay hO t) r k) := by
    blk_point [iblk, (idx12 hO t).1, lay]
  exact e

/-! ### The result -/

/-- What the body stores, from the two blocks it reads. -/
theorem out_at (i : grid0.Coords) (arg3 : Memref sig .tc .vmem S1x352x1024 .f32) (harg3 : arg3.IsWhole) (arg4 : Memref sig .tc .vmem S1x352x1024 .f32)
    (harg4 : arg4.IsWhole) (arg5 : Memref sig .tc .vmem S1x352x1024 .bf16) (harg5 : arg5.IsWhole) (x0 x1 : Vec Ideal S1x352x1024 .f32)
    (xt0 : TbBuf0 (F := Ideal) c tbM0_0) (y : S1x352x1024.Idx) :
    out0_A_2 c i arg3 harg3 arg4 harg4 arg5 harg5 x0 x1 xt0 y = k0_pay1 (F := Ideal) x0 x1 y := by
  unfold out0_A_2; frame_out

theorem pay_at (x0 x1 : Vec Ideal S1x352x1024 .f32) (y : S1x352x1024.Idx) :
    k0_pay1 (F := Ideal) x0 x1 y = FloatOps.truncf .bf16 bitsLt_bf16_f32 (FloatOps.addf (x0 y) (x1 y)) := rfl

theorem outs (h : word m = 0#32 ∨ word m = 1#32) (t : Fin (cfgM m hO).N) (r : Fin 352) (k : Fin 1024) :
    outsAt0 m hO c t (ix3 0 r k) = val_main_v7 (F := Ideal) (tab m c) (arg1 m c) (arg2 m c) (ix3 (lay hO t) r k) := by
  unfold outsAt0
  rw [val_main_v7_apply, val_main_v6_apply]
  refine ((out_at _ _ _ _ _ _ _ _ _ _ _).trans (pay_at _ _ _)).trans ?_
  exact congrArg (FloatOps.truncf .bf16 _) (congrArg₂ FloatOps.addf (blk0 hO h t r k) (blk1 hO t r k))

theorem sum_eq (h : word m = 0#32 ∨ word m = 1#32) :
    (dats m hO 0 c).arrAt 2 (cfgM m hO).N = val_main_v7 (F := Ideal) (tab m c) (arg1 m c) (arg2 m c) := by
  refine (dats m hO 0 c).arrAt_eq_of_covers 2 _ ?_ fun t hf y => ?_
  · have n0 : ((cfgM m hO).win 2).nblk (0 : Fin 3) = 4 := (rfl : (4 + 1 - 1) / 1 = 4)
    have n1 : ((cfgM m hO).win 2).nblk (1 : Fin 3) = 1 := (rfl : (352 + 352 - 1) / 352 = 1)
    have n2 : ((cfgM m hO).win 2).nblk (2 : Fin 3) = 1 := (rfl : (1024 + 1024 - 1) / 1024 = 1)
    refine ⟨fun a => match a with
      | ⟨0, _⟩ => (by decide : 0 < 1)
      | ⟨1, _⟩ => (by decide : 0 < 352)
      | ⟨2, _⟩ => (by decide : 0 < 1024), fun β => ⟨⟨(β (0 : Fin 3)).val, Nat.lt_of_lt_of_eq (β (0 : Fin 3)).isLt n0⟩, flush0_2 _ _, fun a => ⟨?_, Or.inl rfl⟩⟩⟩
    rw [(idx12 hO _).2]
    have b1 : (β (1 : Fin 3)).val < 1 := Nat.lt_of_lt_of_eq (β (1 : Fin 3)).isLt n1
    have b2 : (β (2 : Fin 3)).val < 1 := Nat.lt_of_lt_of_eq (β (2 : Fin 3)).isLt n2
    match a with
    | ⟨0, _⟩ => rfl
    | ⟨1, _⟩ => exact (Nat.lt_one_iff.1 b1).symm
    | ⟨2, _⟩ => exact (Nat.lt_one_iff.1 b2).symm
  obtain ⟨r, k, rfl⟩ : ∃ (r : Fin 352) (k : Fin 1024), y = (ix3 0 r k : S1x352x1024.Idx) := ⟨y (1 : Fin 3), y (2 : Fin 3), by blk_ext⟩
  blk_simp
  rw [after0_2]
  have e : (((cfgM m hO).win 2).blk t).view.emb (ix3 0 r k) = ix3 (lay hO t) r k := by blk_ext [(idx12 hO t).2, lay]
  rw [e]
  exact outs hO h t r k

end ideal

end Cert.PairSumVal

end
-- ==== Proof.PairSumClaim.lean ====
/-
  The claims about `_pair_sum`: the frames, and that the kernel and the reference compute the same array.
-/
module

public import proofs.«01_k».proof.Defs
public import proofs.«01_k».proof.Proof.PairSumValue
public import proofs.«01_k».proof.Proof.Gen.PairSumRefIdeal.Run

@[expose] public section

set_option maxRecDepth 16384

noncomputable section

namespace Cert.PairSumVal

open Idealize.ShloMosaic Idealize.ShloMosaic.TcCoe Idealize.SL.Sem
open Cert.PairSumIdeal Cert.PairSumIdeal.Gen

theorem frame_bits : Cert.quiescent_PairSum := fun m g h => Cert.PairSum.Gen.frame m g (ok_bits m h)
theorem frame_ideal : Cert.quiescent_PairSumIdeal := fun m g h => Cert.PairSumIdeal.Gen.frame m g (ok_ideal m h)

/-- The kernel runs to its end, its result is the array the pipeline leaves, and its arguments are as they were. -/
theorem run_sum (m : (ℓ : Loc nD τ sig) → Buf (Elt Ideal) ℓ) (g : Dev nD → PrngReg) (hO : Ok m) :
    θ_run defs (onTc (τ := τ) (main (F := Ideal))) ⟨m, fun _ => 0, g⟩ (fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  have a : θ_run defs (onTc (τ := τ) (main (F := Ideal))) ⟨m, fun _ => 0, g⟩ (fun r => ∀ c : Dev nD,
      r.2.mem ((c.tc : Thread nD τ).loc main_v0) = (dats m hO 0 c).arrAt 2 (cfgM m hO).N) :=
    (θ_run defs _ _).mono (fun r h c => (h c).1 2) (run_main m g hO)
  (θ_run defs _ _).mono (fun r h c => ⟨h.1 c, h.2 c⟩) (θ_run_and a (unchanged m g hO))

theorem algebraic : Cert.algebraic_PairSumIdeal_PairSumRefIdeal := fun m g m' g' h hagree =>
  ⟨fun c => (dats m (ok_ideal m h) 0 c).arrAt 2 (cfgM m (ok_ideal m h)).N, run_sum m g (ok_ideal m h),
    (θ_run Cert.PairSumRefIdeal.defs _ _).mono (fun r hr c => ⟨(hr c).1.trans ((Cert.PairSumRefIdeal.Read.val_main_v7_eq _ _ _).trans (by
        rw [(hagree c).1, (hagree c).2.1, (hagree c).2.2]
        exact (sum_eq (ok_ideal m h) (word_ideal h)).symm)), (hr c).2⟩)
      (Cert.PairSumRefIdeal.Value.run (F := Ideal) m' g')⟩

/-- The reference runs to its end, leaves its arguments as they were and every semaphore at zero. -/
theorem ref_frame : Cert.quiescent_PairSumRefIdeal := fun m g _ =>
  (θ_run Cert.PairSumRefIdeal.defs _ _).mono (fun r h => ⟨fun c => (h c).2,
      sem_eq_zero_of_no_sems (by decide) r.2⟩)
    (Cert.PairSumRefIdeal.Value.run (F := Ideal) m g)

theorem ref_frame_pre : Cert.quiescent_PairSumRefIdeal_pre_core_in_range := fun m g _ => ref_frame m g trivial

end Cert.PairSumVal

end
-- ==== Proof.lean ====
module

public import proofs.«01_k».proof.Defs
public import proofs.«01_k».proof.Proof.AInClaim
public import proofs.«01_k».proof.Proof.FfnInClaim
public import proofs.«01_k».proof.Proof.FfnHiddenClaim
public import proofs.«01_k».proof.Proof.AHiddenClaim
public import proofs.«01_k».proof.Proof.BBwdClaim
public import proofs.«01_k».proof.Proof.AFwdClaim
public import proofs.«01_k».proof.Proof.BFwdClaim
public import proofs.«01_k».proof.Proof.FfnFwdClaim
public import proofs.«01_k».proof.Proof.FfnMidClaim
public import proofs.«01_k».proof.Proof.AdamWClaim
public import proofs.«01_k».proof.Proof.SumDevicesClaim
public import proofs.«01_k».proof.Proof.PairSumClaim
public import proofs.«01_k».proof.Proof.Gen.Pre_a_in_finite
public import proofs.«01_k».proof.Proof.Gen.AInIdeal.Value
public import proofs.«01_k».proof.Proof.Gen.AHiddenIdeal.Value
public import proofs.«01_k».proof.Proof.Gen.AHiddenRefIdeal.Run
public import proofs.«01_k».proof.Proof.Gen.AHiddenRefIdeal.Read
public import proofs.«01_k».proof.Proof.Gen.AInRefIdeal.Run
public import proofs.«01_k».proof.Proof.Gen.AInRefIdeal.Read
public import proofs.«01_k».proof.Proof.Gen.AIn
public import proofs.«01_k».proof.Proof.Gen.AIn.Skeleton
public import proofs.«01_k».proof.Proof.Gen.AIn.Launch
public import proofs.«01_k».proof.Proof.Gen.AIn.Points
public import proofs.«01_k».proof.Proof.Gen.AIn.Frame
public import proofs.«01_k».proof.Proof.Gen.AInIdeal
public import proofs.«01_k».proof.Proof.Gen.AInIdeal.Skeleton
public import proofs.«01_k».proof.Proof.Gen.AInIdeal.Launch
public import proofs.«01_k».proof.Proof.Gen.AInIdeal.Points
public import proofs.«01_k».proof.Proof.Gen.AInIdeal.Frame
public import proofs.«01_k».proof.Proof.Gen.AInRefIdeal
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.FfnHiddenIdeal.Value
public import proofs.«01_k».proof.Proof.Gen.FfnHiddenRefIdeal.Run
public import proofs.«01_k».proof.Proof.Gen.FfnHiddenRefIdeal.Read
public import proofs.«01_k».proof.Proof.Gen.Pre_ffn_in_finite
public import proofs.«01_k».proof.Proof.Gen.Pre_ffn_hidden_finite
public import proofs.«01_k».proof.Proof.Gen.Pre_a_hidden_finite
public import proofs.«01_k».proof.Proof.Gen.Pre_b_finite
public import proofs.«01_k».proof.Proof.Gen.Pre_a_fwd_finite
public import proofs.«01_k».proof.Proof.Gen.FfnIn
public import proofs.«01_k».proof.Proof.Gen.FfnHidden
public import proofs.«01_k».proof.Proof.Gen.AHidden
public import proofs.«01_k».proof.Proof.Gen.AHiddenIdeal
public import proofs.«01_k».proof.Proof.Gen.AHiddenRefIdeal
public import proofs.«01_k».proof.Proof.Gen.FfnInIdeal
public import proofs.«01_k».proof.Proof.Gen.FfnHiddenIdeal
public import proofs.«01_k».proof.Proof.Gen.FfnInRefIdeal
public import proofs.«01_k».proof.Proof.Gen.FfnHiddenRefIdeal
public import proofs.«01_k».proof.Proof.Gen.FfnIn.Frame
public import proofs.«01_k».proof.Proof.Gen.FfnHidden.Frame
public import proofs.«01_k».proof.Proof.Gen.AHidden.Frame
public import proofs.«01_k».proof.Proof.Gen.AFwd
public import proofs.«01_k».proof.Proof.Gen.AFwd.Frame
public import proofs.«01_k».proof.Proof.Gen.AFwdIdeal
public import proofs.«01_k».proof.Proof.Gen.AFwdIdeal.Value
public import proofs.«01_k».proof.Proof.Gen.AFwdRefIdeal
public import proofs.«01_k».proof.Proof.Gen.AFwdRefIdeal.Run
public import proofs.«01_k».proof.Proof.Gen.AFwdRefIdeal.Read
public import proofs.«01_k».proof.Proof.Gen.BFwd
public import proofs.«01_k».proof.Proof.Gen.BFwd.Frame
public import proofs.«01_k».proof.Proof.Gen.BFwdIdeal
public import proofs.«01_k».proof.Proof.Gen.BFwdIdeal.Value
public import proofs.«01_k».proof.Proof.Gen.BFwdRefIdeal
public import proofs.«01_k».proof.Proof.Gen.BFwdRefIdeal.Run
public import proofs.«01_k».proof.Proof.Gen.BFwdRefIdeal.Read
public import proofs.«01_k».proof.Proof.Gen.FfnMid
public import proofs.«01_k».proof.Proof.Gen.FfnMid.Frame
public import proofs.«01_k».proof.Proof.Gen.FfnMidIdeal
public import proofs.«01_k».proof.Proof.Gen.FfnMidIdeal.Value
public import proofs.«01_k».proof.Proof.Gen.FfnMidRefIdeal
public import proofs.«01_k».proof.Proof.Gen.FfnMidRefIdeal.Run
public import proofs.«01_k».proof.Proof.Gen.FfnMidRefIdeal.Read
public import proofs.«01_k».proof.Proof.Gen.Pre_ffn_mid_finite
public import proofs.«01_k».proof.Proof.Gen.AdamW
public import proofs.«01_k».proof.Proof.Gen.AdamW.Frame
public import proofs.«01_k».proof.Proof.Gen.AdamWIdeal
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.PairSum
public import proofs.«01_k».proof.Proof.Gen.PairSum.Frame
public import proofs.«01_k».proof.Proof.Gen.PairSumIdeal
public import proofs.«01_k».proof.Proof.Gen.PairSumIdeal.Frame
public import proofs.«01_k».proof.Proof.Gen.PairSumRefIdeal
public import proofs.«01_k».proof.Proof.Gen.PairSumRefIdeal.Run
public import proofs.«01_k».proof.Proof.Gen.PairSumRefIdeal.Read
public import proofs.«01_k».proof.Proof.Gen.Pre_core_in_range
public import proofs.«01_k».proof.Proof.Gen.SumDevices
public import proofs.«01_k».proof.Proof.Gen.SumDevices.Frame
public import proofs.«01_k».proof.Proof.Gen.SumDevicesIdeal
public import proofs.«01_k».proof.Proof.Gen.SumDevicesIdeal.Value
public import proofs.«01_k».proof.Proof.Gen.SumDevicesRefIdeal
public import proofs.«01_k».proof.Proof.Gen.SumDevicesRefIdeal.Run
public import proofs.«01_k».proof.Proof.Gen.SumDevicesRefIdeal.Read
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.Pre_b_fwd_finite
public import proofs.«01_k».proof.Proof.Gen.Pre_ffn_fwd_finite
public import proofs.«01_k».proof.Proof.Gen.BBwd
public import proofs.«01_k».proof.Proof.Gen.BBwd.Frame
public import proofs.«01_k».proof.Proof.Gen.BBwdIdeal
public import proofs.«01_k».proof.Proof.Gen.BBwdIdeal.Value
public import proofs.«01_k».proof.Proof.Gen.BBwdRefIdeal
public import proofs.«01_k».proof.Proof.Gen.BBwdRefIdeal.Run
public import proofs.«01_k».proof.Proof.Gen.BBwdRefIdeal.Read
public import Idealize.ShloMosaic.Adequacy
public import Idealize.ShloMosaic.Init

@[expose] public section

noncomputable section

namespace Cert.Proof

open Idealize.ShloMosaic Idealize.SL.Sem Cert.AIn

theorem claim : Cert.Claim :=
  ⟨Cert.AIn.Gen.facts, Cert.AInIdeal.Gen.facts, Cert.AInRefIdeal.Gen.facts, Cert.FfnIn.Gen.facts, Cert.FfnInIdeal.Gen.facts, Cert.FfnInRefIdeal.Gen.facts,
    Cert.FfnHidden.Gen.facts, Cert.FfnHiddenIdeal.Gen.facts, Cert.FfnHiddenRefIdeal.Gen.facts,
    Cert.AHidden.Gen.facts, Cert.AHiddenIdeal.Gen.facts, Cert.AHiddenRefIdeal.Gen.facts,
    Cert.BBwd.Gen.facts, Cert.BBwdIdeal.Gen.facts, Cert.BBwdRefIdeal.Gen.facts,
    Cert.AFwd.Gen.facts, Cert.AFwdIdeal.Gen.facts, Cert.AFwdRefIdeal.Gen.facts,
    Cert.BFwd.Gen.facts, Cert.BFwdIdeal.Gen.facts, Cert.BFwdRefIdeal.Gen.facts, Cert.FfnFwd.Gen.facts, Cert.FfnFwdIdeal.Gen.facts, Cert.FfnFwdRefIdeal.Gen.facts,
    Cert.FfnMid.Gen.facts, Cert.FfnMidIdeal.Gen.facts, Cert.FfnMidRefIdeal.Gen.facts, Cert.AdamW.Gen.facts, Cert.AdamWIdeal.Gen.facts, Cert.AdamWRefIdeal.Gen.facts,
    Cert.SumDevices.Gen.facts, Cert.SumDevicesIdeal.Gen.facts, Cert.SumDevicesRefIdeal.Gen.facts,
    Cert.PairSum.Gen.facts, Cert.PairSumIdeal.Gen.facts, Cert.PairSumRefIdeal.Gen.facts,
    Cert.Pre_a_in_finite.Gen.facts, Cert.Pre_ffn_in_finite.Gen.facts, Cert.Pre_ffn_hidden_finite.Gen.facts, Cert.Pre_a_hidden_finite.Gen.facts, Cert.Pre_b_finite.Gen.facts, Cert.Pre_a_fwd_finite.Gen.facts,
    Cert.Pre_b_fwd_finite.Gen.facts, Cert.Pre_ffn_fwd_finite.Gen.facts, Cert.Pre_ffn_mid_finite.Gen.facts, Cert.Pre_core_in_range.Gen.facts,
    fun m g _ => Cert.AIn.Gen.frame m g, fun m g _ => Cert.AInIdeal.Gen.frame m g, fun m g _ => Cert.AInIdeal.Gen.frame m g,
    Cert.AInIdeal.Val.ref_frame, fun m g _ => Cert.AInIdeal.Val.ref_frame m g trivial,
    fun m g _ => Cert.FfnIn.Gen.frame m g, fun m g _ => Cert.FfnInIdeal.Gen.frame m g, fun m g _ => Cert.FfnInIdeal.Gen.frame m g,
    Cert.FfnInIdeal.Val.ref_frame, fun m g _ => Cert.FfnInIdeal.Val.ref_frame m g trivial,
    fun m g _ => Cert.FfnHidden.Gen.frame m g, fun m g _ => Cert.FfnHiddenIdeal.Gen.frame m g, fun m g _ => Cert.FfnHiddenIdeal.Gen.frame m g,
    Cert.FfnHiddenIdeal.Val.ref_frame, fun m g _ => Cert.FfnHiddenIdeal.Val.ref_frame m g trivial,
    fun m g _ => Cert.AHidden.Gen.frame m g, fun m g _ => Cert.AHiddenIdeal.Gen.frame m g, fun m g _ => Cert.AHiddenIdeal.Gen.frame m g, Cert.AHiddenIdeal.Val.ref_frame, fun m g _ => Cert.AHiddenIdeal.Val.ref_frame m g trivial,
    fun m g _ => Cert.BBwd.Gen.frame m g, fun m g _ => Cert.BBwdIdeal.Gen.frame m g, fun m g _ => Cert.BBwdIdeal.Gen.frame m g, Cert.BBwdIdeal.Val.ref_frame, fun m g _ => Cert.BBwdIdeal.Val.ref_frame m g trivial,
    fun m g _ => Cert.AFwd.Gen.frame m g, fun m g _ => Cert.AFwdIdeal.Gen.frame m g, fun m g _ => Cert.AFwdIdeal.Gen.frame m g, Cert.AFwdIdeal.Val.ref_frame, fun m g _ => Cert.AFwdIdeal.Val.ref_frame m g trivial,
    fun m g _ => Cert.BFwd.Gen.frame m g, fun m g _ => Cert.BFwdIdeal.Gen.frame m g, fun m g _ => Cert.BFwdIdeal.Gen.frame m g, Cert.BFwdIdeal.Val.ref_frame, fun m g _ => Cert.BFwdIdeal.Val.ref_frame m g trivial,
    fun m g _ => Cert.FfnFwd.Gen.frame m g, fun m g _ => Cert.FfnFwdIdeal.Gen.frame m g, fun m g _ => Cert.FfnFwdIdeal.Gen.frame m g, Cert.FfnFwdIdeal.Val.ref_frame, fun m g _ => Cert.FfnFwdIdeal.Val.ref_frame m g trivial,
    fun m g _ => Cert.FfnMid.Gen.frame m g, fun m g _ => Cert.FfnMidIdeal.Gen.frame m g, fun m g _ => Cert.FfnMidIdeal.Gen.frame m g, Cert.FfnMidIdeal.Val.ref_frame, fun m g _ => Cert.FfnMidIdeal.Val.ref_frame m g trivial,
    fun m g _ => Cert.AdamW.Gen.frame m g, fun m g _ => Cert.AdamWIdeal.Gen.frame m g, Cert.AdamWIdeal.Val.ref_frame,
    fun m g _ => Cert.SumDevices.Gen.frame m g, fun m g _ => Cert.SumDevicesIdeal.Gen.frame m g, Cert.SumDevicesIdeal.Val.ref_frame,
    Cert.PairSumVal.frame_bits, Cert.PairSumVal.frame_ideal, Cert.PairSumVal.ref_frame, Cert.PairSumVal.ref_frame_pre,
    trivial, Cert.AInIdeal.Val.algebraic, trivial, Cert.FfnInIdeal.Val.algebraic, trivial, Cert.FfnHiddenIdeal.Val.algebraic, trivial, Cert.AHiddenIdeal.Val.algebraic, trivial, Cert.BBwdIdeal.Val.algebraic, Cert.AFwdIdeal.Val.preserves, Cert.AFwdIdeal.Val.algebraic,
    trivial, Cert.BFwdIdeal.Val.algebraic, trivial, Cert.FfnFwdIdeal.Val.algebraic, trivial, Cert.FfnMidIdeal.Val.algebraic,
    trivial, Cert.AdamWIdeal.Val.algebraic, trivial, Cert.SumDevicesIdeal.Val.algebraic,
    trivial, Cert.PairSumVal.algebraic⟩

end Cert.Proof

end
